-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_Du (m : (ℓ : Loc Cert.Du.nD Cert.Du.τ Cert.Du.sig) → Buf (Elt Bits) ℓ) : Prop :=
  True

def Pre_DuIdeal (m : (ℓ : Loc Cert.DuIdeal.nD Cert.DuIdeal.τ Cert.DuIdeal.sig) → Buf (Elt Ideal) ℓ) : Prop :=
  True

def Pre_DuRefIdeal (m : (ℓ : Loc Cert.DuRefIdeal.nD Cert.DuRefIdeal.τ Cert.DuRefIdeal.sig) → Buf (Elt Ideal) ℓ) : Prop :=
  True

def Pre_DwpM (m : (ℓ : Loc Cert.DwpM.nD Cert.DwpM.τ Cert.DwpM.sig) → Buf (Elt Bits) ℓ) : Prop :=
  True

def Pre_DwpMIdeal (m : (ℓ : Loc Cert.DwpMIdeal.nD Cert.DwpMIdeal.τ Cert.DwpMIdeal.sig) → Buf (Elt Ideal) ℓ) : Prop :=
  True

def Pre_DwpMRefIdeal (m : (ℓ : Loc Cert.DwpMRefIdeal.nD Cert.DwpMRefIdeal.τ Cert.DwpMRefIdeal.sig) → Buf (Elt Ideal) ℓ) : Prop :=
  True

def Pre_DwpA (m : (ℓ : Loc Cert.DwpA.nD Cert.DwpA.τ Cert.DwpA.sig) → Buf (Elt Bits) ℓ) : Prop :=
  True

def Pre_DwpAIdeal (m : (ℓ : Loc Cert.DwpAIdeal.nD Cert.DwpAIdeal.τ Cert.DwpAIdeal.sig) → Buf (Elt Ideal) ℓ) : Prop :=
  True

def Pre_DwpARefIdeal (m : (ℓ : Loc Cert.DwpARefIdeal.nD Cert.DwpARefIdeal.τ Cert.DwpARefIdeal.sig) → Buf (Elt Ideal) ℓ) : Prop :=
  True

def Pre_DwpC (m : (ℓ : Loc Cert.DwpC.nD Cert.DwpC.τ Cert.DwpC.sig) → Buf (Elt Bits) ℓ) : Prop :=
  True

def Pre_DwpCIdeal (m : (ℓ : Loc Cert.DwpCIdeal.nD Cert.DwpCIdeal.τ Cert.DwpCIdeal.sig) → Buf (Elt Ideal) ℓ) : Prop :=
  True

def Pre_DwpCRefIdeal (m : (ℓ : Loc Cert.DwpCRefIdeal.nD Cert.DwpCRefIdeal.τ Cert.DwpCRefIdeal.sig) → Buf (Elt Ideal) ℓ) : Prop :=
  True

def Pre_DwpG (m : (ℓ : Loc Cert.DwpG.nD Cert.DwpG.τ Cert.DwpG.sig) → Buf (Elt Bits) ℓ) : Prop :=
  True

def Pre_DwpGIdeal (m : (ℓ : Loc Cert.DwpGIdeal.nD Cert.DwpGIdeal.τ Cert.DwpGIdeal.sig) → Buf (Elt Ideal) ℓ) : Prop :=
  True

def Pre_DwpGRefIdeal (m : (ℓ : Loc Cert.DwpGRefIdeal.nD Cert.DwpGRefIdeal.τ Cert.DwpGRefIdeal.sig) → Buf (Elt Ideal) ℓ) : Prop :=
  True

def Pre_Dwbr (m : (ℓ : Loc Cert.Dwbr.nD Cert.Dwbr.τ Cert.Dwbr.sig) → Buf (Elt Bits) ℓ) : Prop :=
  True

def Pre_DwbrIdeal (m : (ℓ : Loc Cert.DwbrIdeal.nD Cert.DwbrIdeal.τ Cert.DwbrIdeal.sig) → Buf (Elt Ideal) ℓ) : Prop :=
  True

def Pre_DwbrRefIdeal (m : (ℓ : Loc Cert.DwbrRefIdeal.nD Cert.DwbrRefIdeal.τ Cert.DwbrRefIdeal.sig) → Buf (Elt Ideal) ℓ) : Prop :=
  True

def Pre_Dwout (m : (ℓ : Loc Cert.Dwout.nD Cert.Dwout.τ Cert.Dwout.sig) → Buf (Elt Bits) ℓ) : Prop :=
  True

def Pre_DwoutIdeal (m : (ℓ : Loc Cert.DwoutIdeal.nD Cert.DwoutIdeal.τ Cert.DwoutIdeal.sig) → Buf (Elt Ideal) ℓ) : Prop :=
  True

def Pre_DwoutRefIdeal (m : (ℓ : Loc Cert.DwoutRefIdeal.nD Cert.DwoutRefIdeal.τ Cert.DwoutRefIdeal.sig) → Buf (Elt Ideal) ℓ) : Prop :=
  True

def Pre_ProjM (m : (ℓ : Loc Cert.ProjM.nD Cert.ProjM.τ Cert.ProjM.sig) → Buf (Elt Bits) ℓ) : Prop :=
  True

def Pre_ProjMIdeal (m : (ℓ : Loc Cert.ProjMIdeal.nD Cert.ProjMIdeal.τ Cert.ProjMIdeal.sig) → Buf (Elt Ideal) ℓ) : Prop :=
  True

def Pre_ProjMRefIdeal (m : (ℓ : Loc Cert.ProjMRefIdeal.nD Cert.ProjMRefIdeal.τ Cert.ProjMRefIdeal.sig) → Buf (Elt Ideal) ℓ) : Prop :=
  True

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjARefIdeal (m : (ℓ : Loc Cert.ProjARefIdeal.nD Cert.ProjARefIdeal.τ Cert.ProjARefIdeal.sig) → Buf (Elt Ideal) ℓ) : Prop :=
  True

def Pre_ProjC (m : (ℓ : Loc Cert.ProjC.nD Cert.ProjC.τ Cert.ProjC.sig) → Buf (Elt Bits) ℓ) : Prop :=
  True

def Pre_ProjCIdeal (m : (ℓ : Loc Cert.ProjCIdeal.nD Cert.ProjCIdeal.τ Cert.ProjCIdeal.sig) → Buf (Elt Ideal) ℓ) : Prop :=
  True

def Pre_ProjCRefIdeal (m : (ℓ : Loc Cert.ProjCRefIdeal.nD Cert.ProjCRefIdeal.τ Cert.ProjCRefIdeal.sig) → Buf (Elt Ideal) ℓ) : Prop :=
  True

def Pre_ProjG (m : (ℓ : Loc Cert.ProjG.nD Cert.ProjG.τ Cert.ProjG.sig) → Buf (Elt Bits) ℓ) : Prop :=
  True

def Pre_ProjGIdeal (m : (ℓ : Loc Cert.ProjGIdeal.nD Cert.ProjGIdeal.τ Cert.ProjGIdeal.sig) → Buf (Elt Ideal) ℓ) : Prop :=
  True

def Pre_ProjGRefIdeal (m : (ℓ : Loc Cert.ProjGRefIdeal.nD Cert.ProjGRefIdeal.τ Cert.ProjGRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_qk_fwd [hPre_finite_qk_fwd : Cert.Pre_finite_qk_fwd.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_qk_fwd.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).1 = (fun _ => 1#1)
    ∧ (Cert.Pre_finite_qk_fwd.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_finite_qk_fwd [hPre_finite_qk_fwd : Cert.Pre_finite_qk_fwd.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_finite_qk_fwd.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))).1 = (fun _ => 1#1)
    ∧ (Cert.Pre_finite_qk_fwd.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))).2 = (fun _ => 1#1)

def Pre_LnFwd (m : (ℓ : Loc Cert.LnFwd.nD Cert.LnFwd.τ Cert.LnFwd.sig) → Buf (Elt Bits) ℓ) : Prop :=
  True

def Pre_LnFwdIdeal (m : (ℓ : Loc Cert.LnFwdIdeal.nD Cert.LnFwdIdeal.τ Cert.LnFwdIdeal.sig) → Buf (Elt Ideal) ℓ) : Prop :=
  True

def Pre_LnFwdRefIdeal (m : (ℓ : Loc Cert.LnFwdRefIdeal.nD Cert.LnFwdRefIdeal.τ Cert.LnFwdRefIdeal.sig) → Buf (Elt Ideal) ℓ) : Prop :=
  True

def Pre_LnBwd (m : (ℓ : Loc Cert.LnBwd.nD Cert.LnBwd.τ Cert.LnBwd.sig) → Buf (Elt Bits) ℓ) : Prop :=
  True

def Pre_LnBwdIdeal (m : (ℓ : Loc Cert.LnBwdIdeal.nD Cert.LnBwdIdeal.τ Cert.LnBwdIdeal.sig) → Buf (Elt Ideal) ℓ) : Prop :=
  True

def Pre_LnBwdIdeal_finite_ln [hPre_finite_ln : Cert.Pre_finite_ln.Facts] (m : (ℓ : Loc Cert.LnBwdIdeal.nD Cert.LnBwdIdeal.τ Cert.LnBwdIdeal.sig) → Buf (Elt Ideal) ℓ) : Prop :=
  ∀ c : Dev Cert.LnBwdIdeal.nD,
    (Cert.Pre_finite_ln.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3))).1 = (fun _ => 1#1)
    ∧ (Cert.Pre_finite_ln.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3))).2.1 = (fun _ => 1#1)
    ∧ (Cert.Pre_finite_ln.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3))).2.2 = (fun _ => 1#1)

def Pre_LnBwdRefIdeal (m : (ℓ : Loc Cert.LnBwdRefIdeal.nD Cert.LnBwdRefIdeal.τ Cert.LnBwdRefIdeal.sig) → Buf (Elt Ideal) ℓ) : Prop :=
  True

def Pre_LnBwdRefIdeal_finite_ln [hPre_finite_ln : Cert.Pre_finite_ln.Facts] (m : (ℓ : Loc Cert.LnBwdRefIdeal.nD Cert.LnBwdRefIdeal.τ Cert.LnBwdRefIdeal.sig) → Buf (Elt Ideal) ℓ) : Prop :=
  ∀ c : Dev Cert.LnBwdRefIdeal.nD,
    (Cert.Pre_finite_ln.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2)) (m ((c.tc : Thread Cert.LnBwdRefIdeal.nD Cert.LnBwdRefIdeal.τ).loc Cert.LnBwdRefIdeal.main_arg3))).1 = (fun _ => 1#1)
    ∧ (Cert.Pre_finite_ln.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2)) (m ((c.tc : Thread Cert.LnBwdRefIdeal.nD Cert.LnBwdRefIdeal.τ).loc Cert.LnBwdRefIdeal.main_arg3))).2.1 = (fun _ => 1#1)
    ∧ (Cert.Pre_finite_ln.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2)) (m ((c.tc : Thread Cert.LnBwdRefIdeal.nD Cert.LnBwdRefIdeal.τ).loc Cert.LnBwdRefIdeal.main_arg3))).2.2 = (fun _ => 1#1)

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_ModFwd (m : (ℓ : Loc Cert.ModFwd.nD Cert.ModFwd.τ Cert.ModFwd.sig) → Buf (Elt Bits) ℓ) : Prop :=
  True

def Pre_ModFwdIdeal (m : (ℓ : Loc Cert.ModFwdIdeal.nD Cert.ModFwdIdeal.τ Cert.ModFwdIdeal.sig) → Buf (Elt Ideal) ℓ) : Prop :=
  True

def Pre_ModFwdRefIdeal (m : (ℓ : Loc Cert.ModFwdRefIdeal.nD Cert.ModFwdRefIdeal.τ Cert.ModFwdRefIdeal.sig) → Buf (Elt Ideal) ℓ) : Prop :=
  True

def Pre_ModBwd (m : (ℓ : Loc Cert.ModBwd.nD Cert.ModBwd.τ Cert.ModBwd.sig) → Buf (Elt Bits) ℓ) : Prop :=
  True

def Pre_ModBwdIdeal (m : (ℓ : Loc Cert.ModBwdIdeal.nD Cert.ModBwdIdeal.τ Cert.ModBwdIdeal.sig) → Buf (Elt Ideal) ℓ) : Prop :=
  True

def Pre_ModBwdIdeal_finite_mod [hPre_finite_mod : Cert.Pre_finite_mod.Facts] (m : (ℓ : Loc Cert.ModBwdIdeal.nD Cert.ModBwdIdeal.τ Cert.ModBwdIdeal.sig) → Buf (Elt Ideal) ℓ) : Prop :=
  ∀ c : Dev Cert.ModBwdIdeal.nD,
    (Cert.Pre_finite_mod.fn (F := Ideal) (m ((c.tc : Thread Cert.ModBwdIdeal.nD Cert.ModBwdIdeal.τ).loc Cert.ModBwdIdeal.main_arg0)) (m ((c.tc : Thread Cert.ModBwdIdeal.nD Cert.ModBwdIdeal.τ).loc Cert.ModBwdIdeal.main_arg1)) (m ((c.tc : Thread Cert.ModBwdIdeal.nD Cert.ModBwdIdeal.τ).loc Cert.ModBwdIdeal.main_arg2)) (m ((c.tc : Thread Cert.ModBwdIdeal.nD Cert.ModBwdIdeal.τ).loc Cert.ModBwdIdeal.main_arg3))).1 = (fun _ => 1#1)
    ∧ (Cert.Pre_finite_mod.fn (F := Ideal) (m ((c.tc : Thread Cert.ModBwdIdeal.nD Cert.ModBwdIdeal.τ).loc Cert.ModBwdIdeal.main_arg0)) (m ((c.tc : Thread Cert.ModBwdIdeal.nD Cert.ModBwdIdeal.τ).loc Cert.ModBwdIdeal.main_arg1)) (m ((c.tc : Thread Cert.ModBwdIdeal.nD Cert.ModBwdIdeal.τ).loc Cert.ModBwdIdeal.main_arg2)) (m ((c.tc : Thread Cert.ModBwdIdeal.nD Cert.ModBwdIdeal.τ).loc Cert.ModBwdIdeal.main_arg3))).2.1 = (fun _ => 1#1)
    ∧ (Cert.Pre_finite_mod.fn (F := Ideal) (m ((c.tc : Thread Cert.ModBwdIdeal.nD Cert.ModBwdIdeal.τ).loc Cert.ModBwdIdeal.main_arg0)) (m ((c.tc : Thread Cert.ModBwdIdeal.nD Cert.ModBwdIdeal.τ).loc Cert.ModBwdIdeal.main_arg1)) (m ((c.tc : Thread Cert.ModBwdIdeal.nD Cert.ModBwdIdeal.τ).loc Cert.ModBwdIdeal.main_arg2)) (m ((c.tc : Thread Cert.ModBwdIdeal.nD Cert.ModBwdIdeal.τ).loc Cert.ModBwdIdeal.main_arg3))).2.2.1 = (fun _ => 1#1)
    ∧ (Cert.Pre_finite_mod.fn (F := Ideal) (m ((c.tc : Thread Cert.ModBwdIdeal.nD Cert.ModBwdIdeal.τ).loc Cert.ModBwdIdeal.main_arg0)) (m ((c.tc : Thread Cert.ModBwdIdeal.nD Cert.ModBwdIdeal.τ).loc Cert.ModBwdIdeal.main_arg1)) (m ((c.tc : Thread Cert.ModBwdIdeal.nD Cert.ModBwdIdeal.τ).loc Cert.ModBwdIdeal.main_arg2)) (m ((c.tc : Thread Cert.ModBwdIdeal.nD Cert.ModBwdIdeal.τ).loc Cert.ModBwdIdeal.main_arg3))).2.2.2 = (fun _ => 1#1)

def Pre_ModBwdRefIdeal (m : (ℓ : Loc Cert.ModBwdRefIdeal.nD Cert.ModBwdRefIdeal.τ Cert.ModBwdRefIdeal.sig) → Buf (Elt Ideal) ℓ) : Prop :=
  True

def Pre_ModBwdRefIdeal_finite_mod [hPre_finite_mod : Cert.Pre_finite_mod.Facts] (m : (ℓ : Loc Cert.ModBwdRefIdeal.nD Cert.ModBwdRefIdeal.τ Cert.ModBwdRefIdeal.sig) → Buf (Elt Ideal) ℓ) : Prop :=
  ∀ c : Dev Cert.ModBwdRefIdeal.nD,
    (Cert.Pre_finite_mod.fn (F := Ideal) (m ((c.tc : Thread Cert.ModBwdRefIdeal.nD Cert.ModBwdRefIdeal.τ).loc Cert.ModBwdRefIdeal.main_arg0)) (m ((c.tc : Thread Cert.ModBwdRefIdeal.nD Cert.ModBwdRefIdeal.τ).loc Cert.ModBwdRefIdeal.main_arg1)) (m ((c.tc : Thread Cert.ModBwdRefIdeal.nD Cert.ModBwdRefIdeal.τ).loc Cert.ModBwdRefIdeal.main_arg2)) (m ((c.tc : Thread Cert.ModBwdRefIdeal.nD Cert.ModBwdRefIdeal.τ).loc Cert.ModBwdRefIdeal.main_arg3))).1 = (fun _ => 1#1)
    ∧ (Cert.Pre_finite_mod.fn (F := Ideal) (m ((c.tc : Thread Cert.ModBwdRefIdeal.nD Cert.ModBwdRefIdeal.τ).loc Cert.ModBwdRefIdeal.main_arg0)) (m ((c.tc : Thread Cert.ModBwdRefIdeal.nD Cert.ModBwdRefIdeal.τ).loc Cert.ModBwdRefIdeal.main_arg1)) (m ((c.tc : Thread Cert.ModBwdRefIdeal.nD Cert.ModBwdRefIdeal.τ).loc Cert.ModBwdRefIdeal.main_arg2)) (m ((c.tc : Thread Cert.ModBwdRefIdeal.nD Cert.ModBwdRefIdeal.τ).loc Cert.ModBwdRefIdeal.main_arg3))).2.1 = (fun _ => 1#1)
    ∧ (Cert.Pre_finite_mod.fn (F := Ideal) (m ((c.tc : Thread Cert.ModBwdRefIdeal.nD Cert.ModBwdRefIdeal.τ).loc Cert.ModBwdRefIdeal.main_arg0)) (m ((c.tc : Thread Cert.ModBwdRefIdeal.nD Cert.ModBwdRefIdeal.τ).loc Cert.ModBwdRefIdeal.main_arg1)) (m ((c.tc : Thread Cert.ModBwdRefIdeal.nD Cert.ModBwdRefIdeal.τ).loc Cert.ModBwdRefIdeal.main_arg2)) (m ((c.tc : Thread Cert.ModBwdRefIdeal.nD Cert.ModBwdRefIdeal.τ).loc Cert.ModBwdRefIdeal.main_arg3))).2.2.1 = (fun _ => 1#1)
    ∧ (Cert.Pre_finite_mod.fn (F := Ideal) (m ((c.tc : Thread Cert.ModBwdRefIdeal.nD Cert.ModBwdRefIdeal.τ).loc Cert.ModBwdRefIdeal.main_arg0)) (m ((c.tc : Thread Cert.ModBwdRefIdeal.nD Cert.ModBwdRefIdeal.τ).loc Cert.ModBwdRefIdeal.main_arg1)) (m ((c.tc : Thread Cert.ModBwdRefIdeal.nD Cert.ModBwdRefIdeal.τ).loc Cert.ModBwdRefIdeal.main_arg2)) (m ((c.tc : Thread Cert.ModBwdRefIdeal.nD Cert.ModBwdRefIdeal.τ).loc Cert.ModBwdRefIdeal.main_arg3))).2.2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamMod (m : (ℓ : Loc Cert.AdamMod.nD Cert.AdamMod.τ Cert.AdamMod.sig) → Buf (Elt Bits) ℓ) : Prop :=
  True

def Pre_AdamModIdeal (m : (ℓ : Loc Cert.AdamModIdeal.nD Cert.AdamModIdeal.τ Cert.AdamModIdeal.sig) → Buf (Elt Ideal) ℓ) : Prop :=
  True

def Pre_AdamModRefIdeal (m : (ℓ : Loc Cert.AdamModRefIdeal.nD Cert.AdamModRefIdeal.τ Cert.AdamModRefIdeal.sig) → Buf (Elt Ideal) ℓ) : Prop :=
  True

def Pre_AdamBr (m : (ℓ : Loc Cert.AdamBr.nD Cert.AdamBr.τ Cert.AdamBr.sig) → Buf (Elt Bits) ℓ) : Prop :=
  True

def Pre_AdamBrIdeal (m : (ℓ : Loc Cert.AdamBrIdeal.nD Cert.AdamBrIdeal.τ Cert.AdamBrIdeal.sig) → Buf (Elt Ideal) ℓ) : Prop :=
  True

def Pre_AdamBrRefIdeal (m : (ℓ : Loc Cert.AdamBrRefIdeal.nD Cert.AdamBrRefIdeal.τ Cert.AdamBrRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_PrepFwd (m : (ℓ : Loc Cert.PrepFwd.nD Cert.PrepFwd.τ Cert.PrepFwd.sig) → Buf (Elt Bits) ℓ) : Prop :=
  True

def Pre_PrepFwdIdeal (m : (ℓ : Loc Cert.PrepFwdIdeal.nD Cert.PrepFwdIdeal.τ Cert.PrepFwdIdeal.sig) → Buf (Elt Ideal) ℓ) : Prop :=
  True

def Pre_PrepFwdRefIdeal (m : (ℓ : Loc Cert.PrepFwdRefIdeal.nD Cert.PrepFwdRefIdeal.τ Cert.PrepFwdRefIdeal.sig) → Buf (Elt Ideal) ℓ) : Prop :=
  True

def Pre_GlaSum (m : (ℓ : Loc Cert.GlaSum.nD Cert.GlaSum.τ Cert.GlaSum.sig) → Buf (Elt Bits) ℓ) : Prop :=
  True

def Pre_GlaSumIdeal (m : (ℓ : Loc Cert.GlaSumIdeal.nD Cert.GlaSumIdeal.τ Cert.GlaSumIdeal.sig) → Buf (Elt Ideal) ℓ) : Prop :=
  True

def Pre_GlaSumRefIdeal (m : (ℓ : Loc Cert.GlaSumRefIdeal.nD Cert.GlaSumRefIdeal.τ Cert.GlaSumRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Du [hDu : Cert.Du.Facts] : Prop :=
  ∀ (m : (ℓ : Loc Cert.Du.nD Cert.Du.τ Cert.Du.sig) → Buf (Elt Bits) ℓ) (g : Dev Cert.Du.nD → PrngReg), Pre_Du m →
    θ_run (Cert.Du.defs (F := Bits)) (onTc (τ := Cert.Du.τ) (Cert.Du.main (F := Bits))) ⟨m, fun _ => 0, g⟩ (fun r => (∀ c : Dev Cert.Du.nD,
      r.2.mem ((c.tc : Thread Cert.Du.nD Cert.Du.τ).loc Cert.Du.main_arg0) = m ((c.tc : Thread Cert.Du.nD Cert.Du.τ).loc Cert.Du.main_arg0)
      ∧ r.2.mem ((c.tc : Thread Cert.Du.nD Cert.Du.τ).loc Cert.Du.main_arg1) = m ((c.tc : Thread Cert.Du.nD Cert.Du.τ).loc Cert.Du.main_arg1)
      ∧ r.2.mem ((c.tc : Thread Cert.Du.nD Cert.Du.τ).loc Cert.Du.main_arg2) = m ((c.tc : Thread Cert.Du.nD Cert.Du.τ).loc Cert.Du.main_arg2)
      ∧ r.2.mem ((c.tc : Thread Cert.Du.nD Cert.Du.τ).loc Cert.Du.main_arg3) = m ((c.tc : Thread Cert.Du.nD Cert.Du.τ).loc Cert.Du.main_arg3)
      ∧ r.2.mem ((c.tc : Thread Cert.Du.nD Cert.Du.τ).loc Cert.Du.main_arg4) = m ((c.tc : Thread Cert.Du.nD Cert.Du.τ).loc Cert.Du.main_arg4)
      ∧ r.2.mem ((c.tc : Thread Cert.Du.nD Cert.Du.τ).loc Cert.Du.main_arg5) = m ((c.tc : Thread Cert.Du.nD Cert.Du.τ).loc Cert.Du.main_arg5)
      ∧ r.2.mem ((c.tc : Thread Cert.Du.nD Cert.Du.τ).loc Cert.Du.main_arg6) = m ((c.tc : Thread Cert.Du.nD Cert.Du.τ).loc Cert.Du.main_arg6)
      ∧ r.2.mem ((c.tc : Thread Cert.Du.nD Cert.Du.τ).loc Cert.Du.main_arg7) = m ((c.tc : Thread Cert.Du.nD Cert.Du.τ).loc Cert.Du.main_arg7))
      ∧ r.2.sem = fun _ => 0)

def quiescent_DuIdeal [hDuIdeal : Cert.DuIdeal.Facts] : Prop :=
  ∀ (m : (ℓ : Loc Cert.DuIdeal.nD Cert.DuIdeal.τ Cert.DuIdeal.sig) → Buf (Elt Ideal) ℓ) (g : Dev Cert.DuIdeal.nD → PrngReg), Pre_DuIdeal m →
    θ_run (Cert.DuIdeal.defs (F := Ideal)) (onTc (τ := Cert.DuIdeal.τ) (Cert.DuIdeal.main (F := Ideal))) ⟨m, fun _ => 0, g⟩ (fun r => (∀ c : Dev Cert.DuIdeal.nD,
      r.2.mem ((c.tc : Thread Cert.DuIdeal.nD Cert.DuIdeal.τ).loc Cert.DuIdeal.main_arg0) = m ((c.tc : Thread Cert.DuIdeal.nD Cert.DuIdeal.τ).loc Cert.DuIdeal.main_arg0)
      ∧ r.2.mem ((c.tc : Thread Cert.DuIdeal.nD Cert.DuIdeal.τ).loc Cert.DuIdeal.main_arg1) = m ((c.tc : Thread Cert.DuIdeal.nD Cert.DuIdeal.τ).loc Cert.DuIdeal.main_arg1)
      ∧ r.2.mem ((c.tc : Thread Cert.DuIdeal.nD Cert.DuIdeal.τ).loc Cert.DuIdeal.main_arg2) = m ((c.tc : Thread Cert.DuIdeal.nD Cert.DuIdeal.τ).loc Cert.DuIdeal.main_arg2)
      ∧ r.2.mem ((c.tc : Thread Cert.DuIdeal.nD Cert.DuIdeal.τ).loc Cert.DuIdeal.main_arg3) = m ((c.tc : Thread Cert.DuIdeal.nD Cert.DuIdeal.τ).loc Cert.DuIdeal.main_arg3)
      ∧ r.2.mem ((c.tc : Thread Cert.DuIdeal.nD Cert.DuIdeal.τ).loc Cert.DuIdeal.main_arg4) = m ((c.tc : Thread Cert.DuIdeal.nD Cert.DuIdeal.τ).loc Cert.DuIdeal.main_arg4)
      ∧ r.2.mem ((c.tc : Thread Cert.DuIdeal.nD Cert.DuIdeal.τ).loc Cert.DuIdeal.main_arg5) = m ((c.tc : Thread Cert.DuIdeal.nD Cert.DuIdeal.τ).loc Cert.DuIdeal.main_arg5)
      ∧ r.2.mem ((c.tc : Thread Cert.DuIdeal.nD Cert.DuIdeal.τ).loc Cert.DuIdeal.main_arg6) = m ((c.tc : Thread Cert.DuIdeal.nD Cert.DuIdeal.τ).loc Cert.DuIdeal.main_arg6)
      ∧ r.2.mem ((c.tc : Thread Cert.DuIdeal.nD Cert.DuIdeal.τ).loc Cert.DuIdeal.main_arg7) = m ((c.tc : Thread Cert.DuIdeal.nD Cert.DuIdeal.τ).loc Cert.DuIdeal.main_arg7))
      ∧ r.2.sem = fun _ => 0)

def quiescent_DuRefIdeal [hDuRefIdeal : Cert.DuRefIdeal.Facts] : Prop :=
  ∀ (m : (ℓ : Loc Cert.DuRefIdeal.nD Cert.DuRefIdeal.τ Cert.DuRefIdeal.sig) → Buf (Elt Ideal) ℓ) (g : Dev Cert.DuRefIdeal.nD → PrngReg), Pre_DuRefIdeal m →
    θ_run (Cert.DuRefIdeal.defs (F := Ideal)) (onTc (τ := Cert.DuRefIdeal.τ) (Cert.DuRefIdeal.main (F := Ideal))) ⟨m, fun _ => 0, g⟩ (fun r => (∀ c : Dev Cert.DuRefIdeal.nD,
      r.2.mem ((c.tc : Thread Cert.DuRefIdeal.nD Cert.DuRefIdeal.τ).loc Cert.DuRefIdeal.main_arg0) = m ((c.tc : Thread Cert.DuRefIdeal.nD Cert.DuRefIdeal.τ).loc Cert.DuRefIdeal.main_arg0)
      ∧ r.2.mem ((c.tc : Thread Cert.DuRefIdeal.nD Cert.DuRefIdeal.τ).loc Cert.DuRefIdeal.main_arg1) = m ((c.tc : Thread Cert.DuRefIdeal.nD Cert.DuRefIdeal.τ).loc Cert.DuRefIdeal.main_arg1)
      ∧ r.2.mem ((c.tc : Thread Cert.DuRefIdeal.nD Cert.DuRefIdeal.τ).loc Cert.DuRefIdeal.main_arg2) = m ((c.tc : Thread Cert.DuRefIdeal.nD Cert.DuRefIdeal.τ).loc Cert.DuRefIdeal.main_arg2)
      ∧ r.2.mem ((c.tc : Thread Cert.DuRefIdeal.nD Cert.DuRefIdeal.τ).loc Cert.DuRefIdeal.main_arg3) = m ((c.tc : Thread Cert.DuRefIdeal.nD Cert.DuRefIdeal.τ).loc Cert.DuRefIdeal.main_arg3)
      ∧ r.2.mem ((c.tc : Thread Cert.DuRefIdeal.nD Cert.DuRefIdeal.τ).loc Cert.DuRefIdeal.main_arg4) = m ((c.tc : Thread Cert.DuRefIdeal.nD Cert.DuRefIdeal.τ).loc Cert.DuRefIdeal.main_arg4)
      ∧ r.2.mem ((c.tc : Thread Cert.DuRefIdeal.nD Cert.DuRefIdeal.τ).loc Cert.DuRefIdeal.main_arg5) = m ((c.tc : Thread Cert.DuRefIdeal.nD Cert.DuRefIdeal.τ).loc Cert.DuRefIdeal.main_arg5)
      ∧ r.2.mem ((c.tc : Thread Cert.DuRefIdeal.nD Cert.DuRefIdeal.τ).loc Cert.DuRefIdeal.main_arg6) = m ((c.tc : Thread Cert.DuRefIdeal.nD Cert.DuRefIdeal.τ).loc Cert.DuRefIdeal.main_arg6)
      ∧ r.2.mem ((c.tc : Thread Cert.DuRefIdeal.nD Cert.DuRefIdeal.τ).loc Cert.DuRefIdeal.main_arg7) = m ((c.tc : Thread Cert.DuRefIdeal.nD Cert.DuRefIdeal.τ).loc Cert.DuRefIdeal.main_arg7))
      ∧ r.2.sem = fun _ => 0)

def quiescent_DwpM [hDwpM : Cert.DwpM.Facts] : Prop :=
  ∀ (m : (ℓ : Loc Cert.DwpM.nD Cert.DwpM.τ Cert.DwpM.sig) → Buf (Elt Bits) ℓ) (g : Dev Cert.DwpM.nD → PrngReg), Pre_DwpM m →
    θ_run (Cert.DwpM.defs (F := Bits)) (onTc (τ := Cert.DwpM.τ) (Cert.DwpM.main (F := Bits))) ⟨m, fun _ => 0, g⟩ (fun r => (∀ c : Dev Cert.DwpM.nD,
      r.2.mem ((c.tc : Thread Cert.DwpM.nD Cert.DwpM.τ).loc Cert.DwpM.main_arg0) = m ((c.tc : Thread Cert.DwpM.nD Cert.DwpM.τ).loc Cert.DwpM.main_arg0)
      ∧ r.2.mem ((c.tc : Thread Cert.DwpM.nD Cert.DwpM.τ).loc Cert.DwpM.main_arg1) = m ((c.tc : Thread Cert.DwpM.nD Cert.DwpM.τ).loc Cert.DwpM.main_arg1))
      ∧ r.2.sem = fun _ => 0)

def quiescent_DwpMIdeal [hDwpMIdeal : Cert.DwpMIdeal.Facts] : Prop :=
  ∀ (m : (ℓ : Loc Cert.DwpMIdeal.nD Cert.DwpMIdeal.τ Cert.DwpMIdeal.sig) → Buf (Elt Ideal) ℓ) (g : Dev Cert.DwpMIdeal.nD → PrngReg), Pre_DwpMIdeal m →
    θ_run (Cert.DwpMIdeal.defs (F := Ideal)) (onTc (τ := Cert.DwpMIdeal.τ) (Cert.DwpMIdeal.main (F := Ideal))) ⟨m, fun _ => 0, g⟩ (fun r => (∀ c : Dev Cert.DwpMIdeal.nD,
      r.2.mem ((c.tc : Thread Cert.DwpMIdeal.nD Cert.DwpMIdeal.τ).loc Cert.DwpMIdeal.main_arg0) = m ((c.tc : Thread Cert.DwpMIdeal.nD Cert.DwpMIdeal.τ).loc Cert.DwpMIdeal.main_arg0)
      ∧ r.2.mem ((c.tc : Thread Cert.DwpMIdeal.nD Cert.DwpMIdeal.τ).loc Cert.DwpMIdeal.main_arg1) = m ((c.tc : Thread Cert.DwpMIdeal.nD Cert.DwpMIdeal.τ).loc Cert.DwpMIdeal.main_arg1))
      ∧ r.2.sem = fun _ => 0)

def quiescent_DwpMRefIdeal [hDwpMRefIdeal : Cert.DwpMRefIdeal.Facts] : Prop :=
  ∀ (m : (ℓ : Loc Cert.DwpMRefIdeal.nD Cert.DwpMRefIdeal.τ Cert.DwpMRefIdeal.sig) → Buf (Elt Ideal) ℓ) (g : Dev Cert.DwpMRefIdeal.nD → PrngReg), Pre_DwpMRefIdeal m →
    θ_run (Cert.DwpMRefIdeal.defs (F := Ideal)) (onTc (τ := Cert.DwpMRefIdeal.τ) (Cert.DwpMRefIdeal.main (F := Ideal))) ⟨m, fun _ => 0, g⟩ (fun r => (∀ c : Dev Cert.DwpMRefIdeal.nD,
      r.2.mem ((c.tc : Thread Cert.DwpMRefIdeal.nD Cert.DwpMRefIdeal.τ).loc Cert.DwpMRefIdeal.main_arg0) = m ((c.tc : Thread Cert.DwpMRefIdeal.nD Cert.DwpMRefIdeal.τ).loc Cert.DwpMRefIdeal.main_arg0)
      ∧ r.2.mem ((c.tc : Thread Cert.DwpMRefIdeal.nD Cert.DwpMRefIdeal.τ).loc Cert.DwpMRefIdeal.main_arg1) = m ((c.tc : Thread Cert.DwpMRefIdeal.nD Cert.DwpMRefIdeal.τ).loc Cert.DwpMRefIdeal.main_arg1))
      ∧ r.2.sem = fun _ => 0)

def quiescent_DwpA [hDwpA : Cert.DwpA.Facts] : Prop :=
  ∀ (m : (ℓ : Loc Cert.DwpA.nD Cert.DwpA.τ Cert.DwpA.sig) → Buf (Elt Bits) ℓ) (g : Dev Cert.DwpA.nD → PrngReg), Pre_DwpA m →
    θ_run (Cert.DwpA.defs (F := Bits)) (onTc (τ := Cert.DwpA.τ) (Cert.DwpA.main (F := Bits))) ⟨m, fun _ => 0, g⟩ (fun r => (∀ c : Dev Cert.DwpA.nD,
      r.2.mem ((c.tc : Thread Cert.DwpA.nD Cert.DwpA.τ).loc Cert.DwpA.main_arg0) = m ((c.tc : Thread Cert.DwpA.nD Cert.DwpA.τ).loc Cert.DwpA.main_arg0)
      ∧ r.2.mem ((c.tc : Thread Cert.DwpA.nD Cert.DwpA.τ).loc Cert.DwpA.main_arg1) = m ((c.tc : Thread Cert.DwpA.nD Cert.DwpA.τ).loc Cert.DwpA.main_arg1))
      ∧ r.2.sem = fun _ => 0)

def quiescent_DwpAIdeal [hDwpAIdeal : Cert.DwpAIdeal.Facts] : Prop :=
  ∀ (m : (ℓ : Loc Cert.DwpAIdeal.nD Cert.DwpAIdeal.τ Cert.DwpAIdeal.sig) → Buf (Elt Ideal) ℓ) (g : Dev Cert.DwpAIdeal.nD → PrngReg), Pre_DwpAIdeal m →
    θ_run (Cert.DwpAIdeal.defs (F := Ideal)) (onTc (τ := Cert.DwpAIdeal.τ) (Cert.DwpAIdeal.main (F := Ideal))) ⟨m, fun _ => 0, g⟩ (fun r => (∀ c : Dev Cert.DwpAIdeal.nD,
      r.2.mem ((c.tc : Thread Cert.DwpAIdeal.nD Cert.DwpAIdeal.τ).loc Cert.DwpAIdeal.main_arg0) = m ((c.tc : Thread Cert.DwpAIdeal.nD Cert.DwpAIdeal.τ).loc Cert.DwpAIdeal.main_arg0)
      ∧ r.2.mem ((c.tc : Thread Cert.DwpAIdeal.nD Cert.DwpAIdeal.τ).loc Cert.DwpAIdeal.main_arg1) = m ((c.tc : Thread Cert.DwpAIdeal.nD Cert.DwpAIdeal.τ).loc Cert.DwpAIdeal.main_arg1))
      ∧ r.2.sem = fun _ => 0)

def quiescent_DwpARefIdeal [hDwpARefIdeal : Cert.DwpARefIdeal.Facts] : Prop :=
  ∀ (m : (ℓ : Loc Cert.DwpARefIdeal.nD Cert.DwpARefIdeal.τ Cert.DwpARefIdeal.sig) → Buf (Elt Ideal) ℓ) (g : Dev Cert.DwpARefIdeal.nD → PrngReg), Pre_DwpARefIdeal m →
    θ_run (Cert.DwpARefIdeal.defs (F := Ideal)) (onTc (τ := Cert.DwpARefIdeal.τ) (Cert.DwpARefIdeal.main (F := Ideal))) ⟨m, fun _ => 0, g⟩ (fun r => (∀ c : Dev Cert.DwpARefIdeal.nD,
      r.2.mem ((c.tc : Thread Cert.DwpARefIdeal.nD Cert.DwpARefIdeal.τ).loc Cert.DwpARefIdeal.main_arg0) = m ((c.tc : Thread Cert.DwpARefIdeal.nD Cert.DwpARefIdeal.τ).loc Cert.DwpARefIdeal.main_arg0)
      ∧ r.2.mem ((c.tc : Thread Cert.DwpARefIdeal.nD Cert.DwpARefIdeal.τ).loc Cert.DwpARefIdeal.main_arg1) = m ((c.tc : Thread Cert.DwpARefIdeal.nD Cert.DwpARefIdeal.τ).loc Cert.DwpARefIdeal.main_arg1))
      ∧ r.2.sem = fun _ => 0)

def quiescent_DwpC [hDwpC : Cert.DwpC.Facts] : Prop :=
  ∀ (m : (ℓ : Loc Cert.DwpC.nD Cert.DwpC.τ Cert.DwpC.sig) → Buf (Elt Bits) ℓ) (g : Dev Cert.DwpC.nD → PrngReg), Pre_DwpC m →
    θ_run (Cert.DwpC.defs (F := Bits)) (onTc (τ := Cert.DwpC.τ) (Cert.DwpC.main (F := Bits))) ⟨m, fun _ => 0, g⟩ (fun r => (∀ c : Dev Cert.DwpC.nD,
      r.2.mem ((c.tc : Thread Cert.DwpC.nD Cert.DwpC.τ).loc Cert.DwpC.main_arg0) = m ((c.tc : Thread Cert.DwpC.nD Cert.DwpC.τ).loc Cert.DwpC.main_arg0)
      ∧ r.2.mem ((c.tc : Thread Cert.DwpC.nD Cert.DwpC.τ).loc Cert.DwpC.main_arg1) = m ((c.tc : Thread Cert.DwpC.nD Cert.DwpC.τ).loc Cert.DwpC.main_arg1))
      ∧ r.2.sem = fun _ => 0)

def quiescent_DwpCIdeal [hDwpCIdeal : Cert.DwpCIdeal.Facts] : Prop :=
  ∀ (m : (ℓ : Loc Cert.DwpCIdeal.nD Cert.DwpCIdeal.τ Cert.DwpCIdeal.sig) → Buf (Elt Ideal) ℓ) (g : Dev Cert.DwpCIdeal.nD → PrngReg), Pre_DwpCIdeal m →
    θ_run (Cert.DwpCIdeal.defs (F := Ideal)) (onTc (τ := Cert.DwpCIdeal.τ) (Cert.DwpCIdeal.main (F := Ideal))) ⟨m, fun _ => 0, g⟩ (fun r => (∀ c : Dev Cert.DwpCIdeal.nD,
      r.2.mem ((c.tc : Thread Cert.DwpCIdeal.nD Cert.DwpCIdeal.τ).loc Cert.DwpCIdeal.main_arg0) = m ((c.tc : Thread Cert.DwpCIdeal.nD Cert.DwpCIdeal.τ).loc Cert.DwpCIdeal.main_arg0)
      ∧ r.2.mem ((c.tc : Thread Cert.DwpCIdeal.nD Cert.DwpCIdeal.τ).loc Cert.DwpCIdeal.main_arg1) = m ((c.tc : Thread Cert.DwpCIdeal.nD Cert.DwpCIdeal.τ).loc Cert.DwpCIdeal.main_arg1))
      ∧ r.2.sem = fun _ => 0)

def quiescent_DwpCRefIdeal [hDwpCRefIdeal : Cert.DwpCRefIdeal.Facts] : Prop :=
  ∀ (m : (ℓ : Loc Cert.DwpCRefIdeal.nD Cert.DwpCRefIdeal.τ Cert.DwpCRefIdeal.sig) → Buf (Elt Ideal) ℓ) (g : Dev Cert.DwpCRefIdeal.nD → PrngReg), Pre_DwpCRefIdeal m →
    θ_run (Cert.DwpCRefIdeal.defs (F := Ideal)) (onTc (τ := Cert.DwpCRefIdeal.τ) (Cert.DwpCRefIdeal.main (F := Ideal))) ⟨m, fun _ => 0, g⟩ (fun r => (∀ c : Dev Cert.DwpCRefIdeal.nD,
      r.2.mem ((c.tc : Thread Cert.DwpCRefIdeal.nD Cert.DwpCRefIdeal.τ).loc Cert.DwpCRefIdeal.main_arg0) = m ((c.tc : Thread Cert.DwpCRefIdeal.nD Cert.DwpCRefIdeal.τ).loc Cert.DwpCRefIdeal.main_arg0)
      ∧ r.2.mem ((c.tc : Thread Cert.DwpCRefIdeal.nD Cert.DwpCRefIdeal.τ).loc Cert.DwpCRefIdeal.main_arg1) = m ((c.tc : Thread Cert.DwpCRefIdeal.nD Cert.DwpCRefIdeal.τ).loc Cert.DwpCRefIdeal.main_arg1))
      ∧ r.2.sem = fun _ => 0)

def quiescent_DwpG [hDwpG : Cert.DwpG.Facts] : Prop :=
  ∀ (m : (ℓ : Loc Cert.DwpG.nD Cert.DwpG.τ Cert.DwpG.sig) → Buf (Elt Bits) ℓ) (g : Dev Cert.DwpG.nD → PrngReg), Pre_DwpG m →
    θ_run (Cert.DwpG.defs (F := Bits)) (onTc (τ := Cert.DwpG.τ) (Cert.DwpG.main (F := Bits))) ⟨m, fun _ => 0, g⟩ (fun r => (∀ c : Dev Cert.DwpG.nD,
      r.2.mem ((c.tc : Thread Cert.DwpG.nD Cert.DwpG.τ).loc Cert.DwpG.main_arg0) = m ((c.tc : Thread Cert.DwpG.nD Cert.DwpG.τ).loc Cert.DwpG.main_arg0)
      ∧ r.2.mem ((c.tc : Thread Cert.DwpG.nD Cert.DwpG.τ).loc Cert.DwpG.main_arg1) = m ((c.tc : Thread Cert.DwpG.nD Cert.DwpG.τ).loc Cert.DwpG.main_arg1))
      ∧ r.2.sem = fun _ => 0)

def quiescent_DwpGIdeal [hDwpGIdeal : Cert.DwpGIdeal.Facts] : Prop :=
  ∀ (m : (ℓ : Loc Cert.DwpGIdeal.nD Cert.DwpGIdeal.τ Cert.DwpGIdeal.sig) → Buf (Elt Ideal) ℓ) (g : Dev Cert.DwpGIdeal.nD → PrngReg), Pre_DwpGIdeal m →
    θ_run (Cert.DwpGIdeal.defs (F := Ideal)) (onTc (τ := Cert.DwpGIdeal.τ) (Cert.DwpGIdeal.main (F := Ideal))) ⟨m, fun _ => 0, g⟩ (fun r => (∀ c : Dev Cert.DwpGIdeal.nD,
      r.2.mem ((c.tc : Thread Cert.DwpGIdeal.nD Cert.DwpGIdeal.τ).loc Cert.DwpGIdeal.main_arg0) = m ((c.tc : Thread Cert.DwpGIdeal.nD Cert.DwpGIdeal.τ).loc Cert.DwpGIdeal.main_arg0)
      ∧ r.2.mem ((c.tc : Thread Cert.DwpGIdeal.nD Cert.DwpGIdeal.τ).loc Cert.DwpGIdeal.main_arg1) = m ((c.tc : Thread Cert.DwpGIdeal.nD Cert.DwpGIdeal.τ).loc Cert.DwpGIdeal.main_arg1))
      ∧ r.2.sem = fun _ => 0)

def quiescent_DwpGRefIdeal [hDwpGRefIdeal : Cert.DwpGRefIdeal.Facts] : Prop :=
  ∀ (m : (ℓ : Loc Cert.DwpGRefIdeal.nD Cert.DwpGRefIdeal.τ Cert.DwpGRefIdeal.sig) → Buf (Elt Ideal) ℓ) (g : Dev Cert.DwpGRefIdeal.nD → PrngReg), Pre_DwpGRefIdeal m →
    θ_run (Cert.DwpGRefIdeal.defs (F := Ideal)) (onTc (τ := Cert.DwpGRefIdeal.τ) (Cert.DwpGRefIdeal.main (F := Ideal))) ⟨m, fun _ => 0, g⟩ (fun r => (∀ c : Dev Cert.DwpGRefIdeal.nD,
      r.2.mem ((c.tc : Thread Cert.DwpGRefIdeal.nD Cert.DwpGRefIdeal.τ).loc Cert.DwpGRefIdeal.main_arg0) = m ((c.tc : Thread Cert.DwpGRefIdeal.nD Cert.DwpGRefIdeal.τ).loc Cert.DwpGRefIdeal.main_arg0)
      ∧ r.2.mem ((c.tc : Thread Cert.DwpGRefIdeal.nD Cert.DwpGRefIdeal.τ).loc Cert.DwpGRefIdeal.main_arg1) = m ((c.tc : Thread Cert.DwpGRefIdeal.nD Cert.DwpGRefIdeal.τ).loc Cert.DwpGRefIdeal.main_arg1))
      ∧ r.2.sem = fun _ => 0)

def quiescent_Dwbr [hDwbr : Cert.Dwbr.Facts] : Prop :=
  ∀ (m : (ℓ : Loc Cert.Dwbr.nD Cert.Dwbr.τ Cert.Dwbr.sig) → Buf (Elt Bits) ℓ) (g : Dev Cert.Dwbr.nD → PrngReg), Pre_Dwbr m →
    θ_run (Cert.Dwbr.defs (F := Bits)) (onTc (τ := Cert.Dwbr.τ) (Cert.Dwbr.main (F := Bits))) ⟨m, fun _ => 0, g⟩ (fun r => (∀ c : Dev Cert.Dwbr.nD,
      r.2.mem ((c.tc : Thread Cert.Dwbr.nD Cert.Dwbr.τ).loc Cert.Dwbr.main_arg0) = m ((c.tc : Thread Cert.Dwbr.nD Cert.Dwbr.τ).loc Cert.Dwbr.main_arg0)
      ∧ r.2.mem ((c.tc : Thread Cert.Dwbr.nD Cert.Dwbr.τ).loc Cert.Dwbr.main_arg1) = m ((c.tc : Thread Cert.Dwbr.nD Cert.Dwbr.τ).loc Cert.Dwbr.main_arg1))
      ∧ r.2.sem = fun _ => 0)

def quiescent_DwbrIdeal [hDwbrIdeal : Cert.DwbrIdeal.Facts] : Prop :=
  ∀ (m : (ℓ : Loc Cert.DwbrIdeal.nD Cert.DwbrIdeal.τ Cert.DwbrIdeal.sig) → Buf (Elt Ideal) ℓ) (g : Dev Cert.DwbrIdeal.nD → PrngReg), Pre_DwbrIdeal m →
    θ_run (Cert.DwbrIdeal.defs (F := Ideal)) (onTc (τ := Cert.DwbrIdeal.τ) (Cert.DwbrIdeal.main (F := Ideal))) ⟨m, fun _ => 0, g⟩ (fun r => (∀ c : Dev Cert.DwbrIdeal.nD,
      r.2.mem ((c.tc : Thread Cert.DwbrIdeal.nD Cert.DwbrIdeal.τ).loc Cert.DwbrIdeal.main_arg0) = m ((c.tc : Thread Cert.DwbrIdeal.nD Cert.DwbrIdeal.τ).loc Cert.DwbrIdeal.main_arg0)
      ∧ r.2.mem ((c.tc : Thread Cert.DwbrIdeal.nD Cert.DwbrIdeal.τ).loc Cert.DwbrIdeal.main_arg1) = m ((c.tc : Thread Cert.DwbrIdeal.nD Cert.DwbrIdeal.τ).loc Cert.DwbrIdeal.main_arg1))
      ∧ r.2.sem = fun _ => 0)

def quiescent_DwbrRefIdeal [hDwbrRefIdeal : Cert.DwbrRefIdeal.Facts] : Prop :=
  ∀ (m : (ℓ : Loc Cert.DwbrRefIdeal.nD Cert.DwbrRefIdeal.τ Cert.DwbrRefIdeal.sig) → Buf (Elt Ideal) ℓ) (g : Dev Cert.DwbrRefIdeal.nD → PrngReg), Pre_DwbrRefIdeal m →
    θ_run (Cert.DwbrRefIdeal.defs (F := Ideal)) (onTc (τ := Cert.DwbrRefIdeal.τ) (Cert.DwbrRefIdeal.main (F := Ideal))) ⟨m, fun _ => 0, g⟩ (fun r => (∀ c : Dev Cert.DwbrRefIdeal.nD,
      r.2.mem ((c.tc : Thread Cert.DwbrRefIdeal.nD Cert.DwbrRefIdeal.τ).loc Cert.DwbrRefIdeal.main_arg0) = m ((c.tc : Thread Cert.DwbrRefIdeal.nD Cert.DwbrRefIdeal.τ).loc Cert.DwbrRefIdeal.main_arg0)
      ∧ r.2.mem ((c.tc : Thread Cert.DwbrRefIdeal.nD Cert.DwbrRefIdeal.τ).loc Cert.DwbrRefIdeal.main_arg1) = m ((c.tc : Thread Cert.DwbrRefIdeal.nD Cert.DwbrRefIdeal.τ).loc Cert.DwbrRefIdeal.main_arg1))
      ∧ r.2.sem = fun _ => 0)

def quiescent_Dwout [hDwout : Cert.Dwout.Facts] : Prop :=
  ∀ (m : (ℓ : Loc Cert.Dwout.nD Cert.Dwout.τ Cert.Dwout.sig) → Buf (Elt Bits) ℓ) (g : Dev Cert.Dwout.nD → PrngReg), Pre_Dwout m →
    θ_run (Cert.Dwout.defs (F := Bits)) (onTc (τ := Cert.Dwout.τ) (Cert.Dwout.main (F := Bits))) ⟨m, fun _ => 0, g⟩ (fun r => (∀ c : Dev Cert.Dwout.nD,
      r.2.mem ((c.tc : Thread Cert.Dwout.nD Cert.Dwout.τ).loc Cert.Dwout.main_arg0) = m ((c.tc : Thread Cert.Dwout.nD Cert.Dwout.τ).loc Cert.Dwout.main_arg0)
      ∧ r.2.mem ((c.tc : Thread Cert.Dwout.nD Cert.Dwout.τ).loc Cert.Dwout.main_arg1) = m ((c.tc : Thread Cert.Dwout.nD Cert.Dwout.τ).loc Cert.Dwout.main_arg1))
      ∧ r.2.sem = fun _ => 0)

def quiescent_DwoutIdeal [hDwoutIdeal : Cert.DwoutIdeal.Facts] : Prop :=
  ∀ (m : (ℓ : Loc Cert.DwoutIdeal.nD Cert.DwoutIdeal.τ Cert.DwoutIdeal.sig) → Buf (Elt Ideal) ℓ) (g : Dev Cert.DwoutIdeal.nD → PrngReg), Pre_DwoutIdeal m →
    θ_run (Cert.DwoutIdeal.defs (F := Ideal)) (onTc (τ := Cert.DwoutIdeal.τ) (Cert.DwoutIdeal.main (F := Ideal))) ⟨m, fun _ => 0, g⟩ (fun r => (∀ c : Dev Cert.DwoutIdeal.nD,
      r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
      ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ r.2.sem = fun _ => 0)

def quiescent_DwoutRefIdeal [hDwoutRefIdeal : Cert.DwoutRefIdeal.Facts] : Prop :=
  ∀ (m : (ℓ : Loc Cert.DwoutRefIdeal.nD Cert.DwoutRefIdeal.τ Cert.DwoutRefIdeal.sig) → Buf (Elt Ideal) ℓ) (g : Dev Cert.DwoutRefIdeal.nD → PrngReg), Pre_DwoutRefIdeal m →
    θ_run (Cert.DwoutRefIdeal.defs (F := Ideal)) (onTc (τ := Cert.DwoutRefIdeal.τ) (Cert.DwoutRefIdeal.main (F := Ideal))) ⟨m, fun _ => 0, g⟩ (fun r => (∀ c : Dev Cert.DwoutRefIdeal.nD,
      r.2.mem ((c.tc : Thread Cert.DwoutRefIdeal.nD Cert.DwoutRefIdeal.τ).loc Cert.DwoutRefIdeal.main_arg0) = m ((c.tc : Thread Cert.DwoutRefIdeal.nD Cert.DwoutRefIdeal.τ).loc Cert.DwoutRefIdeal.main_arg0)
      ∧ r.2.mem ((c.tc : Thread Cert.DwoutRefIdeal.nD Cert.DwoutRefIdeal.τ).loc Cert.DwoutRefIdeal.main_arg1) = m ((c.tc : Thread Cert.DwoutRefIdeal.nD Cert.DwoutRefIdeal.τ).loc Cert.DwoutRefIdeal.main_arg1))
      ∧ r.2.sem = fun _ => 0)

def quiescent_ProjM [hProjM : Cert.ProjM.Facts] : Prop :=
  ∀ (m : (ℓ : Loc Cert.ProjM.nD Cert.ProjM.τ Cert.ProjM.sig) → Buf (Elt Bits) ℓ) (g : Dev Cert.ProjM.nD → PrngReg), Pre_ProjM m →
    θ_run (Cert.ProjM.defs (F := Bits)) (onTc (τ := Cert.ProjM.τ) (Cert.ProjM.main (F := Bits))) ⟨m, fun _ => 0, g⟩ (fun r => (∀ c : Dev Cert.ProjM.nD,
      r.2.mem ((c.tc : Thread Cert.ProjM.nD Cert.ProjM.τ).loc Cert.ProjM.main_arg0) = m ((c.tc : Thread Cert.ProjM.nD Cert.ProjM.τ).loc Cert.ProjM.main_arg0)
      ∧ r.2.mem ((c.tc : Thread Cert.ProjM.nD Cert.ProjM.τ).loc Cert.ProjM.main_arg1) = m ((c.tc : Thread Cert.ProjM.nD Cert.ProjM.τ).loc Cert.ProjM.main_arg1))
      ∧ r.2.sem = fun _ => 0)

def quiescent_ProjMIdeal [hProjMIdeal : Cert.ProjMIdeal.Facts] : Prop :=
  ∀ (m : (ℓ : Loc Cert.ProjMIdeal.nD Cert.ProjMIdeal.τ Cert.ProjMIdeal.sig) → Buf (Elt Ideal) ℓ) (g : Dev Cert.ProjMIdeal.nD → PrngReg), Pre_ProjMIdeal m →
    θ_run (Cert.ProjMIdeal.defs (F := Ideal)) (onTc (τ := Cert.ProjMIdeal.τ) (Cert.ProjMIdeal.main (F := Ideal))) ⟨m, fun _ => 0, g⟩ (fun r => (∀ c : Dev Cert.ProjMIdeal.nD,
      r.2.mem ((c.tc : Thread Cert.ProjMIdeal.nD Cert.ProjMIdeal.τ).loc Cert.ProjMIdeal.main_arg0) = m ((c.tc : Thread Cert.ProjMIdeal.nD Cert.ProjMIdeal.τ).loc Cert.ProjMIdeal.main_arg0)
      ∧ r.2.mem ((c.tc : Thread Cert.ProjMIdeal.nD Cert.ProjMIdeal.τ).loc Cert.ProjMIdeal.main_arg1) = m ((c.tc : Thread Cert.ProjMIdeal.nD Cert.ProjMIdeal.τ).loc Cert.ProjMIdeal.main_arg1))
      ∧ r.2.sem = fun _ => 0)

def quiescent_ProjMRefIdeal [hProjMRefIdeal : Cert.ProjMRefIdeal.Facts] : Prop :=
  ∀ (m : (ℓ : Loc Cert.ProjMRefIdeal.nD Cert.ProjMRefIdeal.τ Cert.ProjMRefIdeal.sig) → Buf (Elt Ideal) ℓ) (g : Dev Cert.ProjMRefIdeal.nD → PrngReg), Pre_ProjMRefIdeal m →
    θ_run (Cert.ProjMRefIdeal.defs (F := Ideal)) (onTc (τ := Cert.ProjMRefIdeal.τ) (Cert.ProjMRefIdeal.main (F := Ideal))) ⟨m, fun _ => 0, g⟩ (fun r => (∀ c : Dev Cert.ProjMRefIdeal.nD,
      r.2.mem ((c.tc : Thread Cert.ProjMRefIdeal.nD Cert.ProjMRefIdeal.τ).loc Cert.ProjMRefIdeal.main_arg0) = m ((c.tc : Thread Cert.ProjMRefIdeal.nD Cert.ProjMRefIdeal.τ).loc Cert.ProjMRefIdeal.main_arg0)
      ∧ r.2.mem ((c.tc : Thread Cert.ProjMRefIdeal.nD Cert.ProjMRefIdeal.τ).loc Cert.ProjMRefIdeal.main_arg1) = m ((c.tc : Thread Cert.ProjMRefIdeal.nD Cert.ProjMRefIdeal.τ).loc Cert.ProjMRefIdeal.main_arg1))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ r.2.sem = fun _ => 0)

def quiescent_ProjARefIdeal [hProjARefIdeal : Cert.ProjARefIdeal.Facts] : Prop :=
  ∀ (m : (ℓ : Loc Cert.ProjARefIdeal.nD Cert.ProjARefIdeal.τ Cert.ProjARefIdeal.sig) → Buf (Elt Ideal) ℓ) (g : Dev Cert.ProjARefIdeal.nD → PrngReg), Pre_ProjARefIdeal m →
    θ_run (Cert.ProjARefIdeal.defs (F := Ideal)) (onTc (τ := Cert.ProjARefIdeal.τ) (Cert.ProjARefIdeal.main (F := Ideal))) ⟨m, fun _ => 0, g⟩ (fun r => (∀ c : Dev Cert.ProjARefIdeal.nD,
      r.2.mem ((c.tc : Thread Cert.ProjARefIdeal.nD Cert.ProjARefIdeal.τ).loc Cert.ProjARefIdeal.main_arg0) = m ((c.tc : Thread Cert.ProjARefIdeal.nD Cert.ProjARefIdeal.τ).loc Cert.ProjARefIdeal.main_arg0)
      ∧ r.2.mem ((c.tc : Thread Cert.ProjARefIdeal.nD Cert.ProjARefIdeal.τ).loc Cert.ProjARefIdeal.main_arg1) = m ((c.tc : Thread Cert.ProjARefIdeal.nD Cert.ProjARefIdeal.τ).loc Cert.ProjARefIdeal.main_arg1))
      ∧ r.2.sem = fun _ => 0)

def quiescent_ProjC [hProjC : Cert.ProjC.Facts] : Prop :=
  ∀ (m : (ℓ : Loc Cert.ProjC.nD Cert.ProjC.τ Cert.ProjC.sig) → Buf (Elt Bits) ℓ) (g : Dev Cert.ProjC.nD → PrngReg), Pre_ProjC m →
    θ_run (Cert.ProjC.defs (F := Bits)) (onTc (τ := Cert.ProjC.τ) (Cert.ProjC.main (F := Bits))) ⟨m, fun _ => 0, g⟩ (fun r => (∀ c : Dev Cert.ProjC.nD,
      r.2.mem ((c.tc : Thread Cert.ProjC.nD Cert.ProjC.τ).loc Cert.ProjC.main_arg0) = m ((c.tc : Thread Cert.ProjC.nD Cert.ProjC.τ).loc Cert.ProjC.main_arg0)
      ∧ r.2.mem ((c.tc : Thread Cert.ProjC.nD Cert.ProjC.τ).loc Cert.ProjC.main_arg1) = m ((c.tc : Thread Cert.ProjC.nD Cert.ProjC.τ).loc Cert.ProjC.main_arg1))
      ∧ r.2.sem = fun _ => 0)

def quiescent_ProjCIdeal [hProjCIdeal : Cert.ProjCIdeal.Facts] : Prop :=
  ∀ (m : (ℓ : Loc Cert.ProjCIdeal.nD Cert.ProjCIdeal.τ Cert.ProjCIdeal.sig) → Buf (Elt Ideal) ℓ) (g : Dev Cert.ProjCIdeal.nD → PrngReg), Pre_ProjCIdeal m →
    θ_run (Cert.ProjCIdeal.defs (F := Ideal)) (onTc (τ := Cert.ProjCIdeal.τ) (Cert.ProjCIdeal.main (F := Ideal))) ⟨m, fun _ => 0, g⟩ (fun r => (∀ c : Dev Cert.ProjCIdeal.nD,
      r.2.mem ((c.tc : Thread Cert.ProjCIdeal.nD Cert.ProjCIdeal.τ).loc Cert.ProjCIdeal.main_arg0) = m ((c.tc : Thread Cert.ProjCIdeal.nD Cert.ProjCIdeal.τ).loc Cert.ProjCIdeal.main_arg0)
      ∧ r.2.mem ((c.tc : Thread Cert.ProjCIdeal.nD Cert.ProjCIdeal.τ).loc Cert.ProjCIdeal.main_arg1) = m ((c.tc : Thread Cert.ProjCIdeal.nD Cert.ProjCIdeal.τ).loc Cert.ProjCIdeal.main_arg1))
      ∧ r.2.sem = fun _ => 0)

def quiescent_ProjCRefIdeal [hProjCRefIdeal : Cert.ProjCRefIdeal.Facts] : Prop :=
  ∀ (m : (ℓ : Loc Cert.ProjCRefIdeal.nD Cert.ProjCRefIdeal.τ Cert.ProjCRefIdeal.sig) → Buf (Elt Ideal) ℓ) (g : Dev Cert.ProjCRefIdeal.nD → PrngReg), Pre_ProjCRefIdeal m →
    θ_run (Cert.ProjCRefIdeal.defs (F := Ideal)) (onTc (τ := Cert.ProjCRefIdeal.τ) (Cert.ProjCRefIdeal.main (F := Ideal))) ⟨m, fun _ => 0, g⟩ (fun r => (∀ c : Dev Cert.ProjCRefIdeal.nD,
      r.2.mem ((c.tc : Thread Cert.ProjCRefIdeal.nD Cert.ProjCRefIdeal.τ).loc Cert.ProjCRefIdeal.main_arg0) = m ((c.tc : Thread Cert.ProjCRefIdeal.nD Cert.ProjCRefIdeal.τ).loc Cert.ProjCRefIdeal.main_arg0)
      ∧ r.2.mem ((c.tc : Thread Cert.ProjCRefIdeal.nD Cert.ProjCRefIdeal.τ).loc Cert.ProjCRefIdeal.main_arg1) = m ((c.tc : Thread Cert.ProjCRefIdeal.nD Cert.ProjCRefIdeal.τ).loc Cert.ProjCRefIdeal.main_arg1))
      ∧ r.2.sem = fun _ => 0)

def quiescent_ProjG [hProjG : Cert.ProjG.Facts] : Prop :=
  ∀ (m : (ℓ : Loc Cert.ProjG.nD Cert.ProjG.τ Cert.ProjG.sig) → Buf (Elt Bits) ℓ) (g : Dev Cert.ProjG.nD → PrngReg), Pre_ProjG m →
    θ_run (Cert.ProjG.defs (F := Bits)) (onTc (τ := Cert.ProjG.τ) (Cert.ProjG.main (F := Bits))) ⟨m, fun _ => 0, g⟩ (fun r => (∀ c : Dev Cert.ProjG.nD,
      r.2.mem ((c.tc : Thread Cert.ProjG.nD Cert.ProjG.τ).loc Cert.ProjG.main_arg0) = m ((c.tc : Thread Cert.ProjG.nD Cert.ProjG.τ).loc Cert.ProjG.main_arg0)
      ∧ r.2.mem ((c.tc : Thread Cert.ProjG.nD Cert.ProjG.τ).loc Cert.ProjG.main_arg1) = m ((c.tc : Thread Cert.ProjG.nD Cert.ProjG.τ).loc Cert.ProjG.main_arg1))
      ∧ r.2.sem = fun _ => 0)

def quiescent_ProjGIdeal [hProjGIdeal : Cert.ProjGIdeal.Facts] : Prop :=
  ∀ (m : (ℓ : Loc Cert.ProjGIdeal.nD Cert.ProjGIdeal.τ Cert.ProjGIdeal.sig) → Buf (Elt Ideal) ℓ) (g : Dev Cert.ProjGIdeal.nD → PrngReg), Pre_ProjGIdeal m →
    θ_run (Cert.ProjGIdeal.defs (F := Ideal)) (onTc (τ := Cert.ProjGIdeal.τ) (Cert.ProjGIdeal.main (F := Ideal))) ⟨m, fun _ => 0, g⟩ (fun r => (∀ c : Dev Cert.ProjGIdeal.nD,
      r.2.mem ((c.tc : Thread Cert.ProjGIdeal.nD Cert.ProjGIdeal.τ).loc Cert.ProjGIdeal.main_arg0) = m ((c.tc : Thread Cert.ProjGIdeal.nD Cert.ProjGIdeal.τ).loc Cert.ProjGIdeal.main_arg0)
      ∧ r.2.mem ((c.tc : Thread Cert.ProjGIdeal.nD Cert.ProjGIdeal.τ).loc Cert.ProjGIdeal.main_arg1) = m ((c.tc : Thread Cert.ProjGIdeal.nD Cert.ProjGIdeal.τ).loc Cert.ProjGIdeal.main_arg1))
      ∧ r.2.sem = fun _ => 0)

def quiescent_ProjGRefIdeal [hProjGRefIdeal : Cert.ProjGRefIdeal.Facts] : Prop :=
  ∀ (m : (ℓ : Loc Cert.ProjGRefIdeal.nD Cert.ProjGRefIdeal.τ Cert.ProjGRefIdeal.sig) → Buf (Elt Ideal) ℓ) (g : Dev Cert.ProjGRefIdeal.nD → PrngReg), Pre_ProjGRefIdeal m →
    θ_run (Cert.ProjGRefIdeal.defs (F := Ideal)) (onTc (τ := Cert.ProjGRefIdeal.τ) (Cert.ProjGRefIdeal.main (F := Ideal))) ⟨m, fun _ => 0, g⟩ (fun r => (∀ c : Dev Cert.ProjGRefIdeal.nD,
      r.2.mem ((c.tc : Thread Cert.ProjGRefIdeal.nD Cert.ProjGRefIdeal.τ).loc Cert.ProjGRefIdeal.main_arg0) = m ((c.tc : Thread Cert.ProjGRefIdeal.nD Cert.ProjGRefIdeal.τ).loc Cert.ProjGRefIdeal.main_arg0)
      ∧ r.2.mem ((c.tc : Thread Cert.ProjGRefIdeal.nD Cert.ProjGRefIdeal.τ).loc Cert.ProjGRefIdeal.main_arg1) = m ((c.tc : Thread Cert.ProjGRefIdeal.nD Cert.ProjGRefIdeal.τ).loc Cert.ProjGRefIdeal.main_arg1))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdIdeal_pre_finite_qk_fwd [hAttnFwdIdeal : Cert.AttnFwdIdeal.Facts] [hPre_finite_qk_fwd : Cert.Pre_finite_qk_fwd.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_qk_fwd m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_AttnFwdRefIdeal_pre_finite_qk_fwd [hAttnFwdRefIdeal : Cert.AttnFwdRefIdeal.Facts] [hPre_finite_qk_fwd : Cert.Pre_finite_qk_fwd.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_finite_qk_fwd m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_LnFwd [hLnFwd : Cert.LnFwd.Facts] : Prop :=
  ∀ (m : (ℓ : Loc Cert.LnFwd.nD Cert.LnFwd.τ Cert.LnFwd.sig) → Buf (Elt Bits) ℓ) (g : Dev Cert.LnFwd.nD → PrngReg), Pre_LnFwd m →
    θ_run (Cert.LnFwd.defs (F := Bits)) (onTc (τ := Cert.LnFwd.τ) (Cert.LnFwd.main (F := Bits))) ⟨m, fun _ => 0, g⟩ (fun r => (∀ c : Dev Cert.LnFwd.nD,
      r.2.mem ((c.tc : Thread Cert.LnFwd.nD Cert.LnFwd.τ).loc Cert.LnFwd.main_arg0) = m ((c.tc : Thread Cert.LnFwd.nD Cert.LnFwd.τ).loc Cert.LnFwd.main_arg0)
      ∧ r.2.mem ((c.tc : Thread Cert.LnFwd.nD Cert.LnFwd.τ).loc Cert.LnFwd.main_arg1) = m ((c.tc : Thread Cert.LnFwd.nD Cert.LnFwd.τ).loc Cert.LnFwd.main_arg1))
      ∧ r.2.sem = fun _ => 0)

def quiescent_LnFwdIdeal [hLnFwdIdeal : Cert.LnFwdIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg), Pre_LnFwdIdeal m →
    θ_run (Cert.LnFwdIdeal.defs (F := Ideal)) (onTc (τ := Cert.LnFwdIdeal.τ) (Cert.LnFwdIdeal.main (F := Ideal))) ⟨m, fun _ => 0, g⟩ (fun r => (∀ c : Dev Cert.LnFwdIdeal.nD,
      r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
      ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1))
      ∧ r.2.sem = fun _ => 0)

def quiescent_LnFwdRefIdeal [hLnFwdRefIdeal : Cert.LnFwdRefIdeal.Facts] : Prop :=
  ∀ (m : (ℓ : Loc Cert.LnFwdRefIdeal.nD Cert.LnFwdRefIdeal.τ Cert.LnFwdRefIdeal.sig) → Buf (Elt Ideal) ℓ) (g : Dev Cert.LnFwdRefIdeal.nD → PrngReg), Pre_LnFwdRefIdeal m →
    θ_run (Cert.LnFwdRefIdeal.defs (F := Ideal)) (onTc (τ := Cert.LnFwdRefIdeal.τ) (Cert.LnFwdRefIdeal.main (F := Ideal))) ⟨m, fun _ => 0, g⟩ (fun r => (∀ c : Dev Cert.LnFwdRefIdeal.nD,
      r.2.mem ((c.tc : Thread Cert.LnFwdRefIdeal.nD Cert.LnFwdRefIdeal.τ).loc Cert.LnFwdRefIdeal.main_arg0) = m ((c.tc : Thread Cert.LnFwdRefIdeal.nD Cert.LnFwdRefIdeal.τ).loc Cert.LnFwdRefIdeal.main_arg0)
      ∧ r.2.mem ((c.tc : Thread Cert.LnFwdRefIdeal.nD Cert.LnFwdRefIdeal.τ).loc Cert.LnFwdRefIdeal.main_arg1) = m ((c.tc : Thread Cert.LnFwdRefIdeal.nD Cert.LnFwdRefIdeal.τ).loc Cert.LnFwdRefIdeal.main_arg1))
      ∧ r.2.sem = fun _ => 0)

def quiescent_LnBwd [hLnBwd : Cert.LnBwd.Facts] : Prop :=
  ∀ (m : (ℓ : Loc Cert.LnBwd.nD Cert.LnBwd.τ Cert.LnBwd.sig) → Buf (Elt Bits) ℓ) (g : Dev Cert.LnBwd.nD → PrngReg), Pre_LnBwd m →
    θ_run (Cert.LnBwd.defs (F := Bits)) (onTc (τ := Cert.LnBwd.τ) (Cert.LnBwd.main (F := Bits))) ⟨m, fun _ => 0, g⟩ (fun r => (∀ c : Dev Cert.LnBwd.nD,
      r.2.mem ((c.tc : Thread Cert.LnBwd.nD Cert.LnBwd.τ).loc Cert.LnBwd.main_arg0) = m ((c.tc : Thread Cert.LnBwd.nD Cert.LnBwd.τ).loc Cert.LnBwd.main_arg0)
      ∧ r.2.mem ((c.tc : Thread Cert.LnBwd.nD Cert.LnBwd.τ).loc Cert.LnBwd.main_arg1) = m ((c.tc : Thread Cert.LnBwd.nD Cert.LnBwd.τ).loc Cert.LnBwd.main_arg1)
      ∧ r.2.mem ((c.tc : Thread Cert.LnBwd.nD Cert.LnBwd.τ).loc Cert.LnBwd.main_arg2) = m ((c.tc : Thread Cert.LnBwd.nD Cert.LnBwd.τ).loc Cert.LnBwd.main_arg2)
      ∧ r.2.mem ((c.tc : Thread Cert.LnBwd.nD Cert.LnBwd.τ).loc Cert.LnBwd.main_arg3) = m ((c.tc : Thread Cert.LnBwd.nD Cert.LnBwd.τ).loc Cert.LnBwd.main_arg3))
      ∧ r.2.sem = fun _ => 0)

def quiescent_LnBwdIdeal [hLnBwdIdeal : Cert.LnBwdIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3))
      ∧ r.2.sem = fun _ => 0)

def quiescent_LnBwdIdeal_pre_finite_ln [hLnBwdIdeal : Cert.LnBwdIdeal.Facts] [hPre_finite_ln : Cert.Pre_finite_ln.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal_finite_ln m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3))
      ∧ r.2.sem = fun _ => 0)

def quiescent_LnBwdRefIdeal [hLnBwdRefIdeal : Cert.LnBwdRefIdeal.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2)
      ∧ r.2.mem ((c.tc : Thread Cert.LnBwdRefIdeal.nD Cert.LnBwdRefIdeal.τ).loc Cert.LnBwdRefIdeal.main_arg3) = m ((c.tc : Thread Cert.LnBwdRefIdeal.nD Cert.LnBwdRefIdeal.τ).loc Cert.LnBwdRefIdeal.main_arg3))
      ∧ r.2.sem = fun _ => 0)

def quiescent_LnBwdRefIdeal_pre_finite_ln [hLnBwdRefIdeal : Cert.LnBwdRefIdeal.Facts] [hPre_finite_ln : Cert.Pre_finite_ln.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal_finite_ln m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2)
      ∧ r.2.mem ((c.tc : Thread Cert.LnBwdRefIdeal.nD Cert.LnBwdRefIdeal.τ).loc Cert.LnBwdRefIdeal.main_arg3) = m ((c.tc : Thread Cert.LnBwdRefIdeal.nD Cert.LnBwdRefIdeal.τ).loc Cert.LnBwdRefIdeal.main_arg3))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5)
      ∧ r.2.mem ((c.tc : Thread Cert.MergeFwd.nD Cert.MergeFwd.τ).loc Cert.MergeFwd.main_arg6) = m ((c.tc : Thread Cert.MergeFwd.nD Cert.MergeFwd.τ).loc Cert.MergeFwd.main_arg6)
      ∧ r.2.mem ((c.tc : Thread Cert.MergeFwd.nD Cert.MergeFwd.τ).loc Cert.MergeFwd.main_arg7) = m ((c.tc : Thread Cert.MergeFwd.nD Cert.MergeFwd.τ).loc Cert.MergeFwd.main_arg7)
      ∧ r.2.mem ((c.tc : Thread Cert.MergeFwd.nD Cert.MergeFwd.τ).loc Cert.MergeFwd.main_arg8) = m ((c.tc : Thread Cert.MergeFwd.nD Cert.MergeFwd.τ).loc Cert.MergeFwd.main_arg8)
      ∧ r.2.mem ((c.tc : Thread Cert.MergeFwd.nD Cert.MergeFwd.τ).loc Cert.MergeFwd.main_arg9) = m ((c.tc : Thread Cert.MergeFwd.nD Cert.MergeFwd.τ).loc Cert.MergeFwd.main_arg9)
      ∧ r.2.mem ((c.tc : Thread Cert.MergeFwd.nD Cert.MergeFwd.τ).loc Cert.MergeFwd.main_arg10) = m ((c.tc : Thread Cert.MergeFwd.nD Cert.MergeFwd.τ).loc Cert.MergeFwd.main_arg10)
      ∧ r.2.mem ((c.tc : Thread Cert.MergeFwd.nD Cert.MergeFwd.τ).loc Cert.MergeFwd.main_arg11) = m ((c.tc : Thread Cert.MergeFwd.nD Cert.MergeFwd.τ).loc Cert.MergeFwd.main_arg11)
      ∧ r.2.mem ((c.tc : Thread Cert.MergeFwd.nD Cert.MergeFwd.τ).loc Cert.MergeFwd.main_arg12) = m ((c.tc : Thread Cert.MergeFwd.nD Cert.MergeFwd.τ).loc Cert.MergeFwd.main_arg12)
      ∧ r.2.mem ((c.tc : Thread Cert.MergeFwd.nD Cert.MergeFwd.τ).loc Cert.MergeFwd.main_arg13) = m ((c.tc : Thread Cert.MergeFwd.nD Cert.MergeFwd.τ).loc Cert.MergeFwd.main_arg13)
      ∧ r.2.mem ((c.tc : Thread Cert.MergeFwd.nD Cert.MergeFwd.τ).loc Cert.MergeFwd.main_arg14) = m ((c.tc : Thread Cert.MergeFwd.nD Cert.MergeFwd.τ).loc Cert.MergeFwd.main_arg14))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
      ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6)
      ∧ r.2.mem ((c.tc : Thread Cert.MergeFwdIdeal.nD Cert.MergeFwdIdeal.τ).loc Cert.MergeFwdIdeal.main_arg7) = m ((c.tc : Thread Cert.MergeFwdIdeal.nD Cert.MergeFwdIdeal.τ).loc Cert.MergeFwdIdeal.main_arg7)
      ∧ r.2.mem ((c.tc : Thread Cert.MergeFwdIdeal.nD Cert.MergeFwdIdeal.τ).loc Cert.MergeFwdIdeal.main_arg8) = m ((c.tc : Thread Cert.MergeFwdIdeal.nD Cert.MergeFwdIdeal.τ).loc Cert.MergeFwdIdeal.main_arg8)
      ∧ r.2.mem ((c.tc : Thread Cert.MergeFwdIdeal.nD Cert.MergeFwdIdeal.τ).loc Cert.MergeFwdIdeal.main_arg9) = m ((c.tc : Thread Cert.MergeFwdIdeal.nD Cert.MergeFwdIdeal.τ).loc Cert.MergeFwdIdeal.main_arg9)
      ∧ r.2.mem ((c.tc : Thread Cert.MergeFwdIdeal.nD Cert.MergeFwdIdeal.τ).loc Cert.MergeFwdIdeal.main_arg10) = m ((c.tc : Thread Cert.MergeFwdIdeal.nD Cert.MergeFwdIdeal.τ).loc Cert.MergeFwdIdeal.main_arg10)
      ∧ r.2.mem ((c.tc : Thread Cert.MergeFwdIdeal.nD Cert.MergeFwdIdeal.τ).loc Cert.MergeFwdIdeal.main_arg11) = m ((c.tc : Thread Cert.MergeFwdIdeal.nD Cert.MergeFwdIdeal.τ).loc Cert.MergeFwdIdeal.main_arg11)
      ∧ r.2.mem ((c.tc : Thread Cert.MergeFwdIdeal.nD Cert.MergeFwdIdeal.τ).loc Cert.MergeFwdIdeal.main_arg12) = m ((c.tc : Thread Cert.MergeFwdIdeal.nD Cert.MergeFwdIdeal.τ).loc Cert.MergeFwdIdeal.main_arg12)
      ∧ r.2.mem ((c.tc : Thread Cert.MergeFwdIdeal.nD Cert.MergeFwdIdeal.τ).loc Cert.MergeFwdIdeal.main_arg13) = m ((c.tc : Thread Cert.MergeFwdIdeal.nD Cert.MergeFwdIdeal.τ).loc Cert.MergeFwdIdeal.main_arg13)
      ∧ r.2.mem ((c.tc : Thread Cert.MergeFwdIdeal.nD Cert.MergeFwdIdeal.τ).loc Cert.MergeFwdIdeal.main_arg14) = m ((c.tc : Thread Cert.MergeFwdIdeal.nD Cert.MergeFwdIdeal.τ).loc Cert.MergeFwdIdeal.main_arg14))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5)
      ∧ r.2.mem ((c.tc : Thread Cert.MergeFwdRefIdeal.nD Cert.MergeFwdRefIdeal.τ).loc Cert.MergeFwdRefIdeal.main_arg6) = m ((c.tc : Thread Cert.MergeFwdRefIdeal.nD Cert.MergeFwdRefIdeal.τ).loc Cert.MergeFwdRefIdeal.main_arg6)
      ∧ r.2.mem ((c.tc : Thread Cert.MergeFwdRefIdeal.nD Cert.MergeFwdRefIdeal.τ).loc Cert.MergeFwdRefIdeal.main_arg7) = m ((c.tc : Thread Cert.MergeFwdRefIdeal.nD Cert.MergeFwdRefIdeal.τ).loc Cert.MergeFwdRefIdeal.main_arg7)
      ∧ r.2.mem ((c.tc : Thread Cert.MergeFwdRefIdeal.nD Cert.MergeFwdRefIdeal.τ).loc Cert.MergeFwdRefIdeal.main_arg8) = m ((c.tc : Thread Cert.MergeFwdRefIdeal.nD Cert.MergeFwdRefIdeal.τ).loc Cert.MergeFwdRefIdeal.main_arg8)
      ∧ r.2.mem ((c.tc : Thread Cert.MergeFwdRefIdeal.nD Cert.MergeFwdRefIdeal.τ).loc Cert.MergeFwdRefIdeal.main_arg9) = m ((c.tc : Thread Cert.MergeFwdRefIdeal.nD Cert.MergeFwdRefIdeal.τ).loc Cert.MergeFwdRefIdeal.main_arg9)
      ∧ r.2.mem ((c.tc : Thread Cert.MergeFwdRefIdeal.nD Cert.MergeFwdRefIdeal.τ).loc Cert.MergeFwdRefIdeal.main_arg10) = m ((c.tc : Thread Cert.MergeFwdRefIdeal.nD Cert.MergeFwdRefIdeal.τ).loc Cert.MergeFwdRefIdeal.main_arg10)
      ∧ r.2.mem ((c.tc : Thread Cert.MergeFwdRefIdeal.nD Cert.MergeFwdRefIdeal.τ).loc Cert.MergeFwdRefIdeal.main_arg11) = m ((c.tc : Thread Cert.MergeFwdRefIdeal.nD Cert.MergeFwdRefIdeal.τ).loc Cert.MergeFwdRefIdeal.main_arg11)
      ∧ r.2.mem ((c.tc : Thread Cert.MergeFwdRefIdeal.nD Cert.MergeFwdRefIdeal.τ).loc Cert.MergeFwdRefIdeal.main_arg12) = m ((c.tc : Thread Cert.MergeFwdRefIdeal.nD Cert.MergeFwdRefIdeal.τ).loc Cert.MergeFwdRefIdeal.main_arg12)
      ∧ r.2.mem ((c.tc : Thread Cert.MergeFwdRefIdeal.nD Cert.MergeFwdRefIdeal.τ).loc Cert.MergeFwdRefIdeal.main_arg13) = m ((c.tc : Thread Cert.MergeFwdRefIdeal.nD Cert.MergeFwdRefIdeal.τ).loc Cert.MergeFwdRefIdeal.main_arg13)
      ∧ r.2.mem ((c.tc : Thread Cert.MergeFwdRefIdeal.nD Cert.MergeFwdRefIdeal.τ).loc Cert.MergeFwdRefIdeal.main_arg14) = m ((c.tc : Thread Cert.MergeFwdRefIdeal.nD Cert.MergeFwdRefIdeal.τ).loc Cert.MergeFwdRefIdeal.main_arg14))
      ∧ r.2.sem = fun _ => 0)

def quiescent_ModFwd [hModFwd : Cert.ModFwd.Facts] : Prop :=
  ∀ (m : (ℓ : Loc Cert.ModFwd.nD Cert.ModFwd.τ Cert.ModFwd.sig) → Buf (Elt Bits) ℓ) (g : Dev Cert.ModFwd.nD → PrngReg), Pre_ModFwd m →
    θ_run (Cert.ModFwd.defs (F := Bits)) (onTc (τ := Cert.ModFwd.τ) (Cert.ModFwd.main (F := Bits))) ⟨m, fun _ => 0, g⟩ (fun r => (∀ c : Dev Cert.ModFwd.nD,
      r.2.mem ((c.tc : Thread Cert.ModFwd.nD Cert.ModFwd.τ).loc Cert.ModFwd.main_arg0) = m ((c.tc : Thread Cert.ModFwd.nD Cert.ModFwd.τ).loc Cert.ModFwd.main_arg0)
      ∧ r.2.mem ((c.tc : Thread Cert.ModFwd.nD Cert.ModFwd.τ).loc Cert.ModFwd.main_arg1) = m ((c.tc : Thread Cert.ModFwd.nD Cert.ModFwd.τ).loc Cert.ModFwd.main_arg1)
      ∧ r.2.mem ((c.tc : Thread Cert.ModFwd.nD Cert.ModFwd.τ).loc Cert.ModFwd.main_arg2) = m ((c.tc : Thread Cert.ModFwd.nD Cert.ModFwd.τ).loc Cert.ModFwd.main_arg2))
      ∧ r.2.sem = fun _ => 0)

def quiescent_ModFwdIdeal [hModFwdIdeal : Cert.ModFwdIdeal.Facts] : Prop :=
  ∀ (m : (ℓ : Loc Cert.ModFwdIdeal.nD Cert.ModFwdIdeal.τ Cert.ModFwdIdeal.sig) → Buf (Elt Ideal) ℓ) (g : Dev Cert.ModFwdIdeal.nD → PrngReg), Pre_ModFwdIdeal m →
    θ_run (Cert.ModFwdIdeal.defs (F := Ideal)) (onTc (τ := Cert.ModFwdIdeal.τ) (Cert.ModFwdIdeal.main (F := Ideal))) ⟨m, fun _ => 0, g⟩ (fun r => (∀ c : Dev Cert.ModFwdIdeal.nD,
      r.2.mem ((c.tc : Thread Cert.ModFwdIdeal.nD Cert.ModFwdIdeal.τ).loc Cert.ModFwdIdeal.main_arg0) = m ((c.tc : Thread Cert.ModFwdIdeal.nD Cert.ModFwdIdeal.τ).loc Cert.ModFwdIdeal.main_arg0)
      ∧ r.2.mem ((c.tc : Thread Cert.ModFwdIdeal.nD Cert.ModFwdIdeal.τ).loc Cert.ModFwdIdeal.main_arg1) = m ((c.tc : Thread Cert.ModFwdIdeal.nD Cert.ModFwdIdeal.τ).loc Cert.ModFwdIdeal.main_arg1)
      ∧ r.2.mem ((c.tc : Thread Cert.ModFwdIdeal.nD Cert.ModFwdIdeal.τ).loc Cert.ModFwdIdeal.main_arg2) = m ((c.tc : Thread Cert.ModFwdIdeal.nD Cert.ModFwdIdeal.τ).loc Cert.ModFwdIdeal.main_arg2))
      ∧ r.2.sem = fun _ => 0)

def quiescent_ModFwdRefIdeal [hModFwdRefIdeal : Cert.ModFwdRefIdeal.Facts] : Prop :=
  ∀ (m : (ℓ : Loc Cert.ModFwdRefIdeal.nD Cert.ModFwdRefIdeal.τ Cert.ModFwdRefIdeal.sig) → Buf (Elt Ideal) ℓ) (g : Dev Cert.ModFwdRefIdeal.nD → PrngReg), Pre_ModFwdRefIdeal m →
    θ_run (Cert.ModFwdRefIdeal.defs (F := Ideal)) (onTc (τ := Cert.ModFwdRefIdeal.τ) (Cert.ModFwdRefIdeal.main (F := Ideal))) ⟨m, fun _ => 0, g⟩ (fun r => (∀ c : Dev Cert.ModFwdRefIdeal.nD,
      r.2.mem ((c.tc : Thread Cert.ModFwdRefIdeal.nD Cert.ModFwdRefIdeal.τ).loc Cert.ModFwdRefIdeal.main_arg0) = m ((c.tc : Thread Cert.ModFwdRefIdeal.nD Cert.ModFwdRefIdeal.τ).loc Cert.ModFwdRefIdeal.main_arg0)
      ∧ r.2.mem ((c.tc : Thread Cert.ModFwdRefIdeal.nD Cert.ModFwdRefIdeal.τ).loc Cert.ModFwdRefIdeal.main_arg1) = m ((c.tc : Thread Cert.ModFwdRefIdeal.nD Cert.ModFwdRefIdeal.τ).loc Cert.ModFwdRefIdeal.main_arg1)
      ∧ r.2.mem ((c.tc : Thread Cert.ModFwdRefIdeal.nD Cert.ModFwdRefIdeal.τ).loc Cert.ModFwdRefIdeal.main_arg2) = m ((c.tc : Thread Cert.ModFwdRefIdeal.nD Cert.ModFwdRefIdeal.τ).loc Cert.ModFwdRefIdeal.main_arg2))
      ∧ r.2.sem = fun _ => 0)

def quiescent_ModBwd [hModBwd : Cert.ModBwd.Facts] : Prop :=
  ∀ (m : (ℓ : Loc Cert.ModBwd.nD Cert.ModBwd.τ Cert.ModBwd.sig) → Buf (Elt Bits) ℓ) (g : Dev Cert.ModBwd.nD → PrngReg), Pre_ModBwd m →
    θ_run (Cert.ModBwd.defs (F := Bits)) (onTc (τ := Cert.ModBwd.τ) (Cert.ModBwd.main (F := Bits))) ⟨m, fun _ => 0, g⟩ (fun r => (∀ c : Dev Cert.ModBwd.nD,
      r.2.mem ((c.tc : Thread Cert.ModBwd.nD Cert.ModBwd.τ).loc Cert.ModBwd.main_arg0) = m ((c.tc : Thread Cert.ModBwd.nD Cert.ModBwd.τ).loc Cert.ModBwd.main_arg0)
      ∧ r.2.mem ((c.tc : Thread Cert.ModBwd.nD Cert.ModBwd.τ).loc Cert.ModBwd.main_arg1) = m ((c.tc : Thread Cert.ModBwd.nD Cert.ModBwd.τ).loc Cert.ModBwd.main_arg1)
      ∧ r.2.mem ((c.tc : Thread Cert.ModBwd.nD Cert.ModBwd.τ).loc Cert.ModBwd.main_arg2) = m ((c.tc : Thread Cert.ModBwd.nD Cert.ModBwd.τ).loc Cert.ModBwd.main_arg2)
      ∧ r.2.mem ((c.tc : Thread Cert.ModBwd.nD Cert.ModBwd.τ).loc Cert.ModBwd.main_arg3) = m ((c.tc : Thread Cert.ModBwd.nD Cert.ModBwd.τ).loc Cert.ModBwd.main_arg3))
      ∧ r.2.sem = fun _ => 0)

def quiescent_ModBwdIdeal [hModBwdIdeal : Cert.ModBwdIdeal.Facts] : Prop :=
  ∀ (m : (ℓ : Loc Cert.ModBwdIdeal.nD Cert.ModBwdIdeal.τ Cert.ModBwdIdeal.sig) → Buf (Elt Ideal) ℓ) (g : Dev Cert.ModBwdIdeal.nD → PrngReg), Pre_ModBwdIdeal m →
    θ_run (Cert.ModBwdIdeal.defs (F := Ideal)) (onTc (τ := Cert.ModBwdIdeal.τ) (Cert.ModBwdIdeal.main (F := Ideal))) ⟨m, fun _ => 0, g⟩ (fun r => (∀ c : Dev Cert.ModBwdIdeal.nD,
      r.2.mem ((c.tc : Thread Cert.ModBwdIdeal.nD Cert.ModBwdIdeal.τ).loc Cert.ModBwdIdeal.main_arg0) = m ((c.tc : Thread Cert.ModBwdIdeal.nD Cert.ModBwdIdeal.τ).loc Cert.ModBwdIdeal.main_arg0)
      ∧ r.2.mem ((c.tc : Thread Cert.ModBwdIdeal.nD Cert.ModBwdIdeal.τ).loc Cert.ModBwdIdeal.main_arg1) = m ((c.tc : Thread Cert.ModBwdIdeal.nD Cert.ModBwdIdeal.τ).loc Cert.ModBwdIdeal.main_arg1)
      ∧ r.2.mem ((c.tc : Thread Cert.ModBwdIdeal.nD Cert.ModBwdIdeal.τ).loc Cert.ModBwdIdeal.main_arg2) = m ((c.tc : Thread Cert.ModBwdIdeal.nD Cert.ModBwdIdeal.τ).loc Cert.ModBwdIdeal.main_arg2)
      ∧ r.2.mem ((c.tc : Thread Cert.ModBwdIdeal.nD Cert.ModBwdIdeal.τ).loc Cert.ModBwdIdeal.main_arg3) = m ((c.tc : Thread Cert.ModBwdIdeal.nD Cert.ModBwdIdeal.τ).loc Cert.ModBwdIdeal.main_arg3))
      ∧ r.2.sem = fun _ => 0)

def quiescent_ModBwdIdeal_pre_finite_mod [hModBwdIdeal : Cert.ModBwdIdeal.Facts] [hPre_finite_mod : Cert.Pre_finite_mod.Facts] : Prop :=
  ∀ (m : (ℓ : Loc Cert.ModBwdIdeal.nD Cert.ModBwdIdeal.τ Cert.ModBwdIdeal.sig) → Buf (Elt Ideal) ℓ) (g : Dev Cert.ModBwdIdeal.nD → PrngReg), Pre_ModBwdIdeal_finite_mod m →
    θ_run (Cert.ModBwdIdeal.defs (F := Ideal)) (onTc (τ := Cert.ModBwdIdeal.τ) (Cert.ModBwdIdeal.main (F := Ideal))) ⟨m, fun _ => 0, g⟩ (fun r => (∀ c : Dev Cert.ModBwdIdeal.nD,
      r.2.mem ((c.tc : Thread Cert.ModBwdIdeal.nD Cert.ModBwdIdeal.τ).loc Cert.ModBwdIdeal.main_arg0) = m ((c.tc : Thread Cert.ModBwdIdeal.nD Cert.ModBwdIdeal.τ).loc Cert.ModBwdIdeal.main_arg0)
      ∧ r.2.mem ((c.tc : Thread Cert.ModBwdIdeal.nD Cert.ModBwdIdeal.τ).loc Cert.ModBwdIdeal.main_arg1) = m ((c.tc : Thread Cert.ModBwdIdeal.nD Cert.ModBwdIdeal.τ).loc Cert.ModBwdIdeal.main_arg1)
      ∧ r.2.mem ((c.tc : Thread Cert.ModBwdIdeal.nD Cert.ModBwdIdeal.τ).loc Cert.ModBwdIdeal.main_arg2) = m ((c.tc : Thread Cert.ModBwdIdeal.nD Cert.ModBwdIdeal.τ).loc Cert.ModBwdIdeal.main_arg2)
      ∧ r.2.mem ((c.tc : Thread Cert.ModBwdIdeal.nD Cert.ModBwdIdeal.τ).loc Cert.ModBwdIdeal.main_arg3) = m ((c.tc : Thread Cert.ModBwdIdeal.nD Cert.ModBwdIdeal.τ).loc Cert.ModBwdIdeal.main_arg3))
      ∧ r.2.sem = fun _ => 0)

def quiescent_ModBwdRefIdeal [hModBwdRefIdeal : Cert.ModBwdRefIdeal.Facts] : Prop :=
  ∀ (m : (ℓ : Loc Cert.ModBwdRefIdeal.nD Cert.ModBwdRefIdeal.τ Cert.ModBwdRefIdeal.sig) → Buf (Elt Ideal) ℓ) (g : Dev Cert.ModBwdRefIdeal.nD → PrngReg), Pre_ModBwdRefIdeal m →
    θ_run (Cert.ModBwdRefIdeal.defs (F := Ideal)) (onTc (τ := Cert.ModBwdRefIdeal.τ) (Cert.ModBwdRefIdeal.main (F := Ideal))) ⟨m, fun _ => 0, g⟩ (fun r => (∀ c : Dev Cert.ModBwdRefIdeal.nD,
      r.2.mem ((c.tc : Thread Cert.ModBwdRefIdeal.nD Cert.ModBwdRefIdeal.τ).loc Cert.ModBwdRefIdeal.main_arg0) = m ((c.tc : Thread Cert.ModBwdRefIdeal.nD Cert.ModBwdRefIdeal.τ).loc Cert.ModBwdRefIdeal.main_arg0)
      ∧ r.2.mem ((c.tc : Thread Cert.ModBwdRefIdeal.nD Cert.ModBwdRefIdeal.τ).loc Cert.ModBwdRefIdeal.main_arg1) = m ((c.tc : Thread Cert.ModBwdRefIdeal.nD Cert.ModBwdRefIdeal.τ).loc Cert.ModBwdRefIdeal.main_arg1)
      ∧ r.2.mem ((c.tc : Thread Cert.ModBwdRefIdeal.nD Cert.ModBwdRefIdeal.τ).loc Cert.ModBwdRefIdeal.main_arg2) = m ((c.tc : Thread Cert.ModBwdRefIdeal.nD Cert.ModBwdRefIdeal.τ).loc Cert.ModBwdRefIdeal.main_arg2)
      ∧ r.2.mem ((c.tc : Thread Cert.ModBwdRefIdeal.nD Cert.ModBwdRefIdeal.τ).loc Cert.ModBwdRefIdeal.main_arg3) = m ((c.tc : Thread Cert.ModBwdRefIdeal.nD Cert.ModBwdRefIdeal.τ).loc Cert.ModBwdRefIdeal.main_arg3))
      ∧ r.2.sem = fun _ => 0)

def quiescent_ModBwdRefIdeal_pre_finite_mod [hModBwdRefIdeal : Cert.ModBwdRefIdeal.Facts] [hPre_finite_mod : Cert.Pre_finite_mod.Facts] : Prop :=
  ∀ (m : (ℓ : Loc Cert.ModBwdRefIdeal.nD Cert.ModBwdRefIdeal.τ Cert.ModBwdRefIdeal.sig) → Buf (Elt Ideal) ℓ) (g : Dev Cert.ModBwdRefIdeal.nD → PrngReg), Pre_ModBwdRefIdeal_finite_mod m →
    θ_run (Cert.ModBwdRefIdeal.defs (F := Ideal)) (onTc (τ := Cert.ModBwdRefIdeal.τ) (Cert.ModBwdRefIdeal.main (F := Ideal))) ⟨m, fun _ => 0, g⟩ (fun r => (∀ c : Dev Cert.ModBwdRefIdeal.nD,
      r.2.mem ((c.tc : Thread Cert.ModBwdRefIdeal.nD Cert.ModBwdRefIdeal.τ).loc Cert.ModBwdRefIdeal.main_arg0) = m ((c.tc : Thread Cert.ModBwdRefIdeal.nD Cert.ModBwdRefIdeal.τ).loc Cert.ModBwdRefIdeal.main_arg0)
      ∧ r.2.mem ((c.tc : Thread Cert.ModBwdRefIdeal.nD Cert.ModBwdRefIdeal.τ).loc Cert.ModBwdRefIdeal.main_arg1) = m ((c.tc : Thread Cert.ModBwdRefIdeal.nD Cert.ModBwdRefIdeal.τ).loc Cert.ModBwdRefIdeal.main_arg1)
      ∧ r.2.mem ((c.tc : Thread Cert.ModBwdRefIdeal.nD Cert.ModBwdRefIdeal.τ).loc Cert.ModBwdRefIdeal.main_arg2) = m ((c.tc : Thread Cert.ModBwdRefIdeal.nD Cert.ModBwdRefIdeal.τ).loc Cert.ModBwdRefIdeal.main_arg2)
      ∧ r.2.mem ((c.tc : Thread Cert.ModBwdRefIdeal.nD Cert.ModBwdRefIdeal.τ).loc Cert.ModBwdRefIdeal.main_arg3) = m ((c.tc : Thread Cert.ModBwdRefIdeal.nD Cert.ModBwdRefIdeal.τ).loc Cert.ModBwdRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamMod [hAdamMod : Cert.AdamMod.Facts] : Prop :=
  ∀ (m : (ℓ : Loc Cert.AdamMod.nD Cert.AdamMod.τ Cert.AdamMod.sig) → Buf (Elt Bits) ℓ) (g : Dev Cert.AdamMod.nD → PrngReg), Pre_AdamMod m →
    θ_run (Cert.AdamMod.defs (F := Bits)) (onTc (τ := Cert.AdamMod.τ) (Cert.AdamMod.main (F := Bits))) ⟨m, fun _ => 0, g⟩ (fun r => (∀ c : Dev Cert.AdamMod.nD,
      r.2.mem ((c.tc : Thread Cert.AdamMod.nD Cert.AdamMod.τ).loc Cert.AdamMod.main_arg0) = m ((c.tc : Thread Cert.AdamMod.nD Cert.AdamMod.τ).loc Cert.AdamMod.main_arg0)
      ∧ r.2.mem ((c.tc : Thread Cert.AdamMod.nD Cert.AdamMod.τ).loc Cert.AdamMod.main_arg1) = m ((c.tc : Thread Cert.AdamMod.nD Cert.AdamMod.τ).loc Cert.AdamMod.main_arg1)
      ∧ r.2.mem ((c.tc : Thread Cert.AdamMod.nD Cert.AdamMod.τ).loc Cert.AdamMod.main_arg2) = m ((c.tc : Thread Cert.AdamMod.nD Cert.AdamMod.τ).loc Cert.AdamMod.main_arg2)
      ∧ r.2.mem ((c.tc : Thread Cert.AdamMod.nD Cert.AdamMod.τ).loc Cert.AdamMod.main_arg3) = m ((c.tc : Thread Cert.AdamMod.nD Cert.AdamMod.τ).loc Cert.AdamMod.main_arg3))
      ∧ r.2.sem = fun _ => 0)

def quiescent_AdamModIdeal [hAdamModIdeal : Cert.AdamModIdeal.Facts] : Prop :=
  ∀ (m : (ℓ : Loc Cert.AdamModIdeal.nD Cert.AdamModIdeal.τ Cert.AdamModIdeal.sig) → Buf (Elt Ideal) ℓ) (g : Dev Cert.AdamModIdeal.nD → PrngReg), Pre_AdamModIdeal m →
    θ_run (Cert.AdamModIdeal.defs (F := Ideal)) (onTc (τ := Cert.AdamModIdeal.τ) (Cert.AdamModIdeal.main (F := Ideal))) ⟨m, fun _ => 0, g⟩ (fun r => (∀ c : Dev Cert.AdamModIdeal.nD,
      r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
      ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
      ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
      ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ r.2.sem = fun _ => 0)

def quiescent_AdamModRefIdeal [hAdamModRefIdeal : Cert.AdamModRefIdeal.Facts] : Prop :=
  ∀ (m : (ℓ : Loc Cert.AdamModRefIdeal.nD Cert.AdamModRefIdeal.τ Cert.AdamModRefIdeal.sig) → Buf (Elt Ideal) ℓ) (g : Dev Cert.AdamModRefIdeal.nD → PrngReg), Pre_AdamModRefIdeal m →
    θ_run (Cert.AdamModRefIdeal.defs (F := Ideal)) (onTc (τ := Cert.AdamModRefIdeal.τ) (Cert.AdamModRefIdeal.main (F := Ideal))) ⟨m, fun _ => 0, g⟩ (fun r => (∀ c : Dev Cert.AdamModRefIdeal.nD,
      r.2.mem ((c.tc : Thread Cert.AdamModRefIdeal.nD Cert.AdamModRefIdeal.τ).loc Cert.AdamModRefIdeal.main_arg0) = m ((c.tc : Thread Cert.AdamModRefIdeal.nD Cert.AdamModRefIdeal.τ).loc Cert.AdamModRefIdeal.main_arg0)
      ∧ r.2.mem ((c.tc : Thread Cert.AdamModRefIdeal.nD Cert.AdamModRefIdeal.τ).loc Cert.AdamModRefIdeal.main_arg1) = m ((c.tc : Thread Cert.AdamModRefIdeal.nD Cert.AdamModRefIdeal.τ).loc Cert.AdamModRefIdeal.main_arg1)
      ∧ r.2.mem ((c.tc : Thread Cert.AdamModRefIdeal.nD Cert.AdamModRefIdeal.τ).loc Cert.AdamModRefIdeal.main_arg2) = m ((c.tc : Thread Cert.AdamModRefIdeal.nD Cert.AdamModRefIdeal.τ).loc Cert.AdamModRefIdeal.main_arg2)
      ∧ r.2.mem ((c.tc : Thread Cert.AdamModRefIdeal.nD Cert.AdamModRefIdeal.τ).loc Cert.AdamModRefIdeal.main_arg3) = m ((c.tc : Thread Cert.AdamModRefIdeal.nD Cert.AdamModRefIdeal.τ).loc Cert.AdamModRefIdeal.main_arg3))
      ∧ r.2.sem = fun _ => 0)

def quiescent_AdamBr [hAdamBr : Cert.AdamBr.Facts] : Prop :=
  ∀ (m : (ℓ : Loc Cert.AdamBr.nD Cert.AdamBr.τ Cert.AdamBr.sig) → Buf (Elt Bits) ℓ) (g : Dev Cert.AdamBr.nD → PrngReg), Pre_AdamBr m →
    θ_run (Cert.AdamBr.defs (F := Bits)) (onTc (τ := Cert.AdamBr.τ) (Cert.AdamBr.main (F := Bits))) ⟨m, fun _ => 0, g⟩ (fun r => (∀ c : Dev Cert.AdamBr.nD,
      r.2.mem ((c.tc : Thread Cert.AdamBr.nD Cert.AdamBr.τ).loc Cert.AdamBr.main_arg0) = m ((c.tc : Thread Cert.AdamBr.nD Cert.AdamBr.τ).loc Cert.AdamBr.main_arg0)
      ∧ r.2.mem ((c.tc : Thread Cert.AdamBr.nD Cert.AdamBr.τ).loc Cert.AdamBr.main_arg1) = m ((c.tc : Thread Cert.AdamBr.nD Cert.AdamBr.τ).loc Cert.AdamBr.main_arg1)
      ∧ r.2.mem ((c.tc : Thread Cert.AdamBr.nD Cert.AdamBr.τ).loc Cert.AdamBr.main_arg2) = m ((c.tc : Thread Cert.AdamBr.nD Cert.AdamBr.τ).loc Cert.AdamBr.main_arg2)
      ∧ r.2.mem ((c.tc : Thread Cert.AdamBr.nD Cert.AdamBr.τ).loc Cert.AdamBr.main_arg3) = m ((c.tc : Thread Cert.AdamBr.nD Cert.AdamBr.τ).loc Cert.AdamBr.main_arg3))
      ∧ r.2.sem = fun _ => 0)

def quiescent_AdamBrIdeal [hAdamBrIdeal : Cert.AdamBrIdeal.Facts] : Prop :=
  ∀ (m : (ℓ : Loc Cert.AdamBrIdeal.nD Cert.AdamBrIdeal.τ Cert.AdamBrIdeal.sig) → Buf (Elt Ideal) ℓ) (g : Dev Cert.AdamBrIdeal.nD → PrngReg), Pre_AdamBrIdeal m →
    θ_run (Cert.AdamBrIdeal.defs (F := Ideal)) (onTc (τ := Cert.AdamBrIdeal.τ) (Cert.AdamBrIdeal.main (F := Ideal))) ⟨m, fun _ => 0, g⟩ (fun r => (∀ c : Dev Cert.AdamBrIdeal.nD,
      r.2.mem ((c.tc : Thread Cert.AdamBrIdeal.nD Cert.AdamBrIdeal.τ).loc Cert.AdamBrIdeal.main_arg0) = m ((c.tc : Thread Cert.AdamBrIdeal.nD Cert.AdamBrIdeal.τ).loc Cert.AdamBrIdeal.main_arg0)
      ∧ r.2.mem ((c.tc : Thread Cert.AdamBrIdeal.nD Cert.AdamBrIdeal.τ).loc Cert.AdamBrIdeal.main_arg1) = m ((c.tc : Thread Cert.AdamBrIdeal.nD Cert.AdamBrIdeal.τ).loc Cert.AdamBrIdeal.main_arg1)
      ∧ r.2.mem ((c.tc : Thread Cert.AdamBrIdeal.nD Cert.AdamBrIdeal.τ).loc Cert.AdamBrIdeal.main_arg2) = m ((c.tc : Thread Cert.AdamBrIdeal.nD Cert.AdamBrIdeal.τ).loc Cert.AdamBrIdeal.main_arg2)
      ∧ r.2.mem ((c.tc : Thread Cert.AdamBrIdeal.nD Cert.AdamBrIdeal.τ).loc Cert.AdamBrIdeal.main_arg3) = m ((c.tc : Thread Cert.AdamBrIdeal.nD Cert.AdamBrIdeal.τ).loc Cert.AdamBrIdeal.main_arg3))
      ∧ r.2.sem = fun _ => 0)

def quiescent_AdamBrRefIdeal [hAdamBrRefIdeal : Cert.AdamBrRefIdeal.Facts] : Prop :=
  ∀ (m : (ℓ : Loc Cert.AdamBrRefIdeal.nD Cert.AdamBrRefIdeal.τ Cert.AdamBrRefIdeal.sig) → Buf (Elt Ideal) ℓ) (g : Dev Cert.AdamBrRefIdeal.nD → PrngReg), Pre_AdamBrRefIdeal m →
    θ_run (Cert.AdamBrRefIdeal.defs (F := Ideal)) (onTc (τ := Cert.AdamBrRefIdeal.τ) (Cert.AdamBrRefIdeal.main (F := Ideal))) ⟨m, fun _ => 0, g⟩ (fun r => (∀ c : Dev Cert.AdamBrRefIdeal.nD,
      r.2.mem ((c.tc : Thread Cert.AdamBrRefIdeal.nD Cert.AdamBrRefIdeal.τ).loc Cert.AdamBrRefIdeal.main_arg0) = m ((c.tc : Thread Cert.AdamBrRefIdeal.nD Cert.AdamBrRefIdeal.τ).loc Cert.AdamBrRefIdeal.main_arg0)
      ∧ r.2.mem ((c.tc : Thread Cert.AdamBrRefIdeal.nD Cert.AdamBrRefIdeal.τ).loc Cert.AdamBrRefIdeal.main_arg1) = m ((c.tc : Thread Cert.AdamBrRefIdeal.nD Cert.AdamBrRefIdeal.τ).loc Cert.AdamBrRefIdeal.main_arg1)
      ∧ r.2.mem ((c.tc : Thread Cert.AdamBrRefIdeal.nD Cert.AdamBrRefIdeal.τ).loc Cert.AdamBrRefIdeal.main_arg2) = m ((c.tc : Thread Cert.AdamBrRefIdeal.nD Cert.AdamBrRefIdeal.τ).loc Cert.AdamBrRefIdeal.main_arg2)
      ∧ r.2.mem ((c.tc : Thread Cert.AdamBrRefIdeal.nD Cert.AdamBrRefIdeal.τ).loc Cert.AdamBrRefIdeal.main_arg3) = m ((c.tc : Thread Cert.AdamBrRefIdeal.nD Cert.AdamBrRefIdeal.τ).loc Cert.AdamBrRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_PrepFwd [hPrepFwd : Cert.PrepFwd.Facts] : Prop :=
  ∀ (m : (ℓ : Loc Cert.PrepFwd.nD Cert.PrepFwd.τ Cert.PrepFwd.sig) → Buf (Elt Bits) ℓ) (g : Dev Cert.PrepFwd.nD → PrngReg), Pre_PrepFwd m →
    θ_run (Cert.PrepFwd.defs (F := Bits)) (onTc (τ := Cert.PrepFwd.τ) (Cert.PrepFwd.main (F := Bits))) ⟨m, fun _ => 0, g⟩ (fun r => (∀ c : Dev Cert.PrepFwd.nD,
      r.2.mem ((c.tc : Thread Cert.PrepFwd.nD Cert.PrepFwd.τ).loc Cert.PrepFwd.main_arg0) = m ((c.tc : Thread Cert.PrepFwd.nD Cert.PrepFwd.τ).loc Cert.PrepFwd.main_arg0)
      ∧ r.2.mem ((c.tc : Thread Cert.PrepFwd.nD Cert.PrepFwd.τ).loc Cert.PrepFwd.main_arg1) = m ((c.tc : Thread Cert.PrepFwd.nD Cert.PrepFwd.τ).loc Cert.PrepFwd.main_arg1)
      ∧ r.2.mem ((c.tc : Thread Cert.PrepFwd.nD Cert.PrepFwd.τ).loc Cert.PrepFwd.main_arg2) = m ((c.tc : Thread Cert.PrepFwd.nD Cert.PrepFwd.τ).loc Cert.PrepFwd.main_arg2)
      ∧ r.2.mem ((c.tc : Thread Cert.PrepFwd.nD Cert.PrepFwd.τ).loc Cert.PrepFwd.main_arg3) = m ((c.tc : Thread Cert.PrepFwd.nD Cert.PrepFwd.τ).loc Cert.PrepFwd.main_arg3)
      ∧ r.2.mem ((c.tc : Thread Cert.PrepFwd.nD Cert.PrepFwd.τ).loc Cert.PrepFwd.main_arg4) = m ((c.tc : Thread Cert.PrepFwd.nD Cert.PrepFwd.τ).loc Cert.PrepFwd.main_arg4))
      ∧ r.2.sem = fun _ => 0)

def quiescent_PrepFwdIdeal [hPrepFwdIdeal : Cert.PrepFwdIdeal.Facts] : Prop :=
  ∀ (m : (ℓ : Loc Cert.PrepFwdIdeal.nD Cert.PrepFwdIdeal.τ Cert.PrepFwdIdeal.sig) → Buf (Elt Ideal) ℓ) (g : Dev Cert.PrepFwdIdeal.nD → PrngReg), Pre_PrepFwdIdeal m →
    θ_run (Cert.PrepFwdIdeal.defs (F := Ideal)) (onTc (τ := Cert.PrepFwdIdeal.τ) (Cert.PrepFwdIdeal.main (F := Ideal))) ⟨m, fun _ => 0, g⟩ (fun r => (∀ c : Dev Cert.PrepFwdIdeal.nD,
      r.2.mem ((c.tc : Thread Cert.PrepFwdIdeal.nD Cert.PrepFwdIdeal.τ).loc Cert.PrepFwdIdeal.main_arg0) = m ((c.tc : Thread Cert.PrepFwdIdeal.nD Cert.PrepFwdIdeal.τ).loc Cert.PrepFwdIdeal.main_arg0)
      ∧ r.2.mem ((c.tc : Thread Cert.PrepFwdIdeal.nD Cert.PrepFwdIdeal.τ).loc Cert.PrepFwdIdeal.main_arg1) = m ((c.tc : Thread Cert.PrepFwdIdeal.nD Cert.PrepFwdIdeal.τ).loc Cert.PrepFwdIdeal.main_arg1)
      ∧ r.2.mem ((c.tc : Thread Cert.PrepFwdIdeal.nD Cert.PrepFwdIdeal.τ).loc Cert.PrepFwdIdeal.main_arg2) = m ((c.tc : Thread Cert.PrepFwdIdeal.nD Cert.PrepFwdIdeal.τ).loc Cert.PrepFwdIdeal.main_arg2)
      ∧ r.2.mem ((c.tc : Thread Cert.PrepFwdIdeal.nD Cert.PrepFwdIdeal.τ).loc Cert.PrepFwdIdeal.main_arg3) = m ((c.tc : Thread Cert.PrepFwdIdeal.nD Cert.PrepFwdIdeal.τ).loc Cert.PrepFwdIdeal.main_arg3)
      ∧ r.2.mem ((c.tc : Thread Cert.PrepFwdIdeal.nD Cert.PrepFwdIdeal.τ).loc Cert.PrepFwdIdeal.main_arg4) = m ((c.tc : Thread Cert.PrepFwdIdeal.nD Cert.PrepFwdIdeal.τ).loc Cert.PrepFwdIdeal.main_arg4))
      ∧ r.2.sem = fun _ => 0)

def quiescent_PrepFwdRefIdeal [hPrepFwdRefIdeal : Cert.PrepFwdRefIdeal.Facts] : Prop :=
  ∀ (m : (ℓ : Loc Cert.PrepFwdRefIdeal.nD Cert.PrepFwdRefIdeal.τ Cert.PrepFwdRefIdeal.sig) → Buf (Elt Ideal) ℓ) (g : Dev Cert.PrepFwdRefIdeal.nD → PrngReg), Pre_PrepFwdRefIdeal m →
    θ_run (Cert.PrepFwdRefIdeal.defs (F := Ideal)) (onTc (τ := Cert.PrepFwdRefIdeal.τ) (Cert.PrepFwdRefIdeal.main (F := Ideal))) ⟨m, fun _ => 0, g⟩ (fun r => (∀ c : Dev Cert.PrepFwdRefIdeal.nD,
      r.2.mem ((c.tc : Thread Cert.PrepFwdRefIdeal.nD Cert.PrepFwdRefIdeal.τ).loc Cert.PrepFwdRefIdeal.main_arg0) = m ((c.tc : Thread Cert.PrepFwdRefIdeal.nD Cert.PrepFwdRefIdeal.τ).loc Cert.PrepFwdRefIdeal.main_arg0)
      ∧ r.2.mem ((c.tc : Thread Cert.PrepFwdRefIdeal.nD Cert.PrepFwdRefIdeal.τ).loc Cert.PrepFwdRefIdeal.main_arg1) = m ((c.tc : Thread Cert.PrepFwdRefIdeal.nD Cert.PrepFwdRefIdeal.τ).loc Cert.PrepFwdRefIdeal.main_arg1)
      ∧ r.2.mem ((c.tc : Thread Cert.PrepFwdRefIdeal.nD Cert.PrepFwdRefIdeal.τ).loc Cert.PrepFwdRefIdeal.main_arg2) = m ((c.tc : Thread Cert.PrepFwdRefIdeal.nD Cert.PrepFwdRefIdeal.τ).loc Cert.PrepFwdRefIdeal.main_arg2)
      ∧ r.2.mem ((c.tc : Thread Cert.PrepFwdRefIdeal.nD Cert.PrepFwdRefIdeal.τ).loc Cert.PrepFwdRefIdeal.main_arg3) = m ((c.tc : Thread Cert.PrepFwdRefIdeal.nD Cert.PrepFwdRefIdeal.τ).loc Cert.PrepFwdRefIdeal.main_arg3)
      ∧ r.2.mem ((c.tc : Thread Cert.PrepFwdRefIdeal.nD Cert.PrepFwdRefIdeal.τ).loc Cert.PrepFwdRefIdeal.main_arg4) = m ((c.tc : Thread Cert.PrepFwdRefIdeal.nD Cert.PrepFwdRefIdeal.τ).loc Cert.PrepFwdRefIdeal.main_arg4))
      ∧ r.2.sem = fun _ => 0)

def quiescent_GlaSum [hGlaSum : Cert.GlaSum.Facts] : Prop :=
  ∀ (m : (ℓ : Loc Cert.GlaSum.nD Cert.GlaSum.τ Cert.GlaSum.sig) → Buf (Elt Bits) ℓ) (g : Dev Cert.GlaSum.nD → PrngReg), Pre_GlaSum m →
    θ_run (Cert.GlaSum.defs (F := Bits)) (onTc (τ := Cert.GlaSum.τ) (Cert.GlaSum.main (F := Bits))) ⟨m, fun _ => 0, g⟩ (fun r => (∀ c : Dev Cert.GlaSum.nD,
      r.2.mem ((c.tc : Thread Cert.GlaSum.nD Cert.GlaSum.τ).loc Cert.GlaSum.main_arg0) = m ((c.tc : Thread Cert.GlaSum.nD Cert.GlaSum.τ).loc Cert.GlaSum.main_arg0)
      ∧ r.2.mem ((c.tc : Thread Cert.GlaSum.nD Cert.GlaSum.τ).loc Cert.GlaSum.main_arg1) = m ((c.tc : Thread Cert.GlaSum.nD Cert.GlaSum.τ).loc Cert.GlaSum.main_arg1))
      ∧ r.2.sem = fun _ => 0)

def quiescent_GlaSumIdeal [hGlaSumIdeal : Cert.GlaSumIdeal.Facts] : Prop :=
  ∀ (m : (ℓ : Loc Cert.GlaSumIdeal.nD Cert.GlaSumIdeal.τ Cert.GlaSumIdeal.sig) → Buf (Elt Ideal) ℓ) (g : Dev Cert.GlaSumIdeal.nD → PrngReg), Pre_GlaSumIdeal m →
    θ_run (Cert.GlaSumIdeal.defs (F := Ideal)) (onTc (τ := Cert.GlaSumIdeal.τ) (Cert.GlaSumIdeal.main (F := Ideal))) ⟨m, fun _ => 0, g⟩ (fun r => (∀ c : Dev Cert.GlaSumIdeal.nD,
      r.2.mem ((c.tc : Thread Cert.GlaSumIdeal.nD Cert.GlaSumIdeal.τ).loc Cert.GlaSumIdeal.main_arg0) = m ((c.tc : Thread Cert.GlaSumIdeal.nD Cert.GlaSumIdeal.τ).loc Cert.GlaSumIdeal.main_arg0)
      ∧ r.2.mem ((c.tc : Thread Cert.GlaSumIdeal.nD Cert.GlaSumIdeal.τ).loc Cert.GlaSumIdeal.main_arg1) = m ((c.tc : Thread Cert.GlaSumIdeal.nD Cert.GlaSumIdeal.τ).loc Cert.GlaSumIdeal.main_arg1))
      ∧ r.2.sem = fun _ => 0)

def quiescent_GlaSumRefIdeal [hGlaSumRefIdeal : Cert.GlaSumRefIdeal.Facts] : Prop :=
  ∀ (m : (ℓ : Loc Cert.GlaSumRefIdeal.nD Cert.GlaSumRefIdeal.τ Cert.GlaSumRefIdeal.sig) → Buf (Elt Ideal) ℓ) (g : Dev Cert.GlaSumRefIdeal.nD → PrngReg), Pre_GlaSumRefIdeal m →
    θ_run (Cert.GlaSumRefIdeal.defs (F := Ideal)) (onTc (τ := Cert.GlaSumRefIdeal.τ) (Cert.GlaSumRefIdeal.main (F := Ideal))) ⟨m, fun _ => 0, g⟩ (fun r => (∀ c : Dev Cert.GlaSumRefIdeal.nD,
      r.2.mem ((c.tc : Thread Cert.GlaSumRefIdeal.nD Cert.GlaSumRefIdeal.τ).loc Cert.GlaSumRefIdeal.main_arg0) = m ((c.tc : Thread Cert.GlaSumRefIdeal.nD Cert.GlaSumRefIdeal.τ).loc Cert.GlaSumRefIdeal.main_arg0)
      ∧ r.2.mem ((c.tc : Thread Cert.GlaSumRefIdeal.nD Cert.GlaSumRefIdeal.τ).loc Cert.GlaSumRefIdeal.main_arg1) = m ((c.tc : Thread Cert.GlaSumRefIdeal.nD Cert.GlaSumRefIdeal.τ).loc Cert.GlaSumRefIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_v124) = v1 c
          ∧ r.2.mem ((c.tc : Thread Cert.ReferenceIdeal.nD Cert.ReferenceIdeal.τ).loc Cert.ReferenceIdeal.main_v122) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Du_DuIdeal : Prop :=
  True

def algebraic_DuIdeal_DuRefIdeal [hDuIdeal : Cert.DuIdeal.Facts] [hDuRefIdeal : Cert.DuRefIdeal.Facts] : Prop :=
  ∀ (m : (ℓ : Loc Cert.DuIdeal.nD Cert.DuIdeal.τ Cert.DuIdeal.sig) → Buf (Elt Ideal) ℓ) (g : Dev Cert.DuIdeal.nD → PrngReg)
    (m' : (ℓ : Loc Cert.DuRefIdeal.nD Cert.DuRefIdeal.τ Cert.DuRefIdeal.sig) → Buf (Elt Ideal) ℓ) (g' : Dev Cert.DuRefIdeal.nD → PrngReg), Pre_DuIdeal m →
    (∀ c : Dev Cert.DuIdeal.nD,
      m' ((c.tc : Thread Cert.DuRefIdeal.nD Cert.DuRefIdeal.τ).loc Cert.DuRefIdeal.main_arg0) = m ((c.tc : Thread Cert.DuIdeal.nD Cert.DuIdeal.τ).loc Cert.DuIdeal.main_arg0)
      ∧ m' ((c.tc : Thread Cert.DuRefIdeal.nD Cert.DuRefIdeal.τ).loc Cert.DuRefIdeal.main_arg1) = m ((c.tc : Thread Cert.DuIdeal.nD Cert.DuIdeal.τ).loc Cert.DuIdeal.main_arg1)
      ∧ m' ((c.tc : Thread Cert.DuRefIdeal.nD Cert.DuRefIdeal.τ).loc Cert.DuRefIdeal.main_arg2) = m ((c.tc : Thread Cert.DuIdeal.nD Cert.DuIdeal.τ).loc Cert.DuIdeal.main_arg2)
      ∧ m' ((c.tc : Thread Cert.DuRefIdeal.nD Cert.DuRefIdeal.τ).loc Cert.DuRefIdeal.main_arg3) = m ((c.tc : Thread Cert.DuIdeal.nD Cert.DuIdeal.τ).loc Cert.DuIdeal.main_arg3)
      ∧ m' ((c.tc : Thread Cert.DuRefIdeal.nD Cert.DuRefIdeal.τ).loc Cert.DuRefIdeal.main_arg4) = m ((c.tc : Thread Cert.DuIdeal.nD Cert.DuIdeal.τ).loc Cert.DuIdeal.main_arg4)
      ∧ m' ((c.tc : Thread Cert.DuRefIdeal.nD Cert.DuRefIdeal.τ).loc Cert.DuRefIdeal.main_arg5) = m ((c.tc : Thread Cert.DuIdeal.nD Cert.DuIdeal.τ).loc Cert.DuIdeal.main_arg5)
      ∧ m' ((c.tc : Thread Cert.DuRefIdeal.nD Cert.DuRefIdeal.τ).loc Cert.DuRefIdeal.main_arg6) = m ((c.tc : Thread Cert.DuIdeal.nD Cert.DuIdeal.τ).loc Cert.DuIdeal.main_arg6)
      ∧ m' ((c.tc : Thread Cert.DuRefIdeal.nD Cert.DuRefIdeal.τ).loc Cert.DuRefIdeal.main_arg7) = m ((c.tc : Thread Cert.DuIdeal.nD Cert.DuIdeal.τ).loc Cert.DuIdeal.main_arg7)) →
    ∃ (v0 : (c : Dev Cert.DuIdeal.nD) → Buf (Elt Ideal) ((c.tc : Thread Cert.DuIdeal.nD Cert.DuIdeal.τ).loc Cert.DuIdeal.main_v0)),
      θ_run (Cert.DuIdeal.defs (F := Ideal)) (onTc (τ := Cert.DuIdeal.τ) (Cert.DuIdeal.main (F := Ideal))) ⟨m, fun _ => 0, g⟩ (fun r => ∀ c : Dev Cert.DuIdeal.nD,
          r.2.mem ((c.tc : Thread Cert.DuIdeal.nD Cert.DuIdeal.τ).loc Cert.DuIdeal.main_v0) = v0 c
          ∧ r.2.mem ((c.tc : Thread Cert.DuIdeal.nD Cert.DuIdeal.τ).loc Cert.DuIdeal.main_arg0) = m ((c.tc : Thread Cert.DuIdeal.nD Cert.DuIdeal.τ).loc Cert.DuIdeal.main_arg0)
          ∧ r.2.mem ((c.tc : Thread Cert.DuIdeal.nD Cert.DuIdeal.τ).loc Cert.DuIdeal.main_arg1) = m ((c.tc : Thread Cert.DuIdeal.nD Cert.DuIdeal.τ).loc Cert.DuIdeal.main_arg1)
          ∧ r.2.mem ((c.tc : Thread Cert.DuIdeal.nD Cert.DuIdeal.τ).loc Cert.DuIdeal.main_arg2) = m ((c.tc : Thread Cert.DuIdeal.nD Cert.DuIdeal.τ).loc Cert.DuIdeal.main_arg2)
          ∧ r.2.mem ((c.tc : Thread Cert.DuIdeal.nD Cert.DuIdeal.τ).loc Cert.DuIdeal.main_arg3) = m ((c.tc : Thread Cert.DuIdeal.nD Cert.DuIdeal.τ).loc Cert.DuIdeal.main_arg3)
          ∧ r.2.mem ((c.tc : Thread Cert.DuIdeal.nD Cert.DuIdeal.τ).loc Cert.DuIdeal.main_arg4) = m ((c.tc : Thread Cert.DuIdeal.nD Cert.DuIdeal.τ).loc Cert.DuIdeal.main_arg4)
          ∧ r.2.mem ((c.tc : Thread Cert.DuIdeal.nD Cert.DuIdeal.τ).loc Cert.DuIdeal.main_arg5) = m ((c.tc : Thread Cert.DuIdeal.nD Cert.DuIdeal.τ).loc Cert.DuIdeal.main_arg5)
          ∧ r.2.mem ((c.tc : Thread Cert.DuIdeal.nD Cert.DuIdeal.τ).loc Cert.DuIdeal.main_arg6) = m ((c.tc : Thread Cert.DuIdeal.nD Cert.DuIdeal.τ).loc Cert.DuIdeal.main_arg6)
          ∧ r.2.mem ((c.tc : Thread Cert.DuIdeal.nD Cert.DuIdeal.τ).loc Cert.DuIdeal.main_arg7) = m ((c.tc : Thread Cert.DuIdeal.nD Cert.DuIdeal.τ).loc Cert.DuIdeal.main_arg7))
      ∧ θ_run (Cert.DuRefIdeal.defs (F := Ideal)) (onTc (τ := Cert.DuRefIdeal.τ) (Cert.DuRefIdeal.main (F := Ideal))) ⟨m', fun _ => 0, g'⟩ (fun r => ∀ c : Dev Cert.DuRefIdeal.nD,
          r.2.mem ((c.tc : Thread Cert.DuRefIdeal.nD Cert.DuRefIdeal.τ).loc Cert.DuRefIdeal.main_v27) = v0 c
          ∧ r.2.mem ((c.tc : Thread Cert.DuRefIdeal.nD Cert.DuRefIdeal.τ).loc Cert.DuRefIdeal.main_arg0) = m' ((c.tc : Thread Cert.DuRefIdeal.nD Cert.DuRefIdeal.τ).loc Cert.DuRefIdeal.main_arg0)
          ∧ r.2.mem ((c.tc : Thread Cert.DuRefIdeal.nD Cert.DuRefIdeal.τ).loc Cert.DuRefIdeal.main_arg1) = m' ((c.tc : Thread Cert.DuRefIdeal.nD Cert.DuRefIdeal.τ).loc Cert.DuRefIdeal.main_arg1)
          ∧ r.2.mem ((c.tc : Thread Cert.DuRefIdeal.nD Cert.DuRefIdeal.τ).loc Cert.DuRefIdeal.main_arg2) = m' ((c.tc : Thread Cert.DuRefIdeal.nD Cert.DuRefIdeal.τ).loc Cert.DuRefIdeal.main_arg2)
          ∧ r.2.mem ((c.tc : Thread Cert.DuRefIdeal.nD Cert.DuRefIdeal.τ).loc Cert.DuRefIdeal.main_arg3) = m' ((c.tc : Thread Cert.DuRefIdeal.nD Cert.DuRefIdeal.τ).loc Cert.DuRefIdeal.main_arg3)
          ∧ r.2.mem ((c.tc : Thread Cert.DuRefIdeal.nD Cert.DuRefIdeal.τ).loc Cert.DuRefIdeal.main_arg4) = m' ((c.tc : Thread Cert.DuRefIdeal.nD Cert.DuRefIdeal.τ).loc Cert.DuRefIdeal.main_arg4)
          ∧ r.2.mem ((c.tc : Thread Cert.DuRefIdeal.nD Cert.DuRefIdeal.τ).loc Cert.DuRefIdeal.main_arg5) = m' ((c.tc : Thread Cert.DuRefIdeal.nD Cert.DuRefIdeal.τ).loc Cert.DuRefIdeal.main_arg5)
          ∧ r.2.mem ((c.tc : Thread Cert.DuRefIdeal.nD Cert.DuRefIdeal.τ).loc Cert.DuRefIdeal.main_arg6) = m' ((c.tc : Thread Cert.DuRefIdeal.nD Cert.DuRefIdeal.τ).loc Cert.DuRefIdeal.main_arg6)
          ∧ r.2.mem ((c.tc : Thread Cert.DuRefIdeal.nD Cert.DuRefIdeal.τ).loc Cert.DuRefIdeal.main_arg7) = m' ((c.tc : Thread Cert.DuRefIdeal.nD Cert.DuRefIdeal.τ).loc Cert.DuRefIdeal.main_arg7))

def preserves_DwpM_DwpMIdeal : Prop :=
  True

def algebraic_DwpMIdeal_DwpMRefIdeal [hDwpMIdeal : Cert.DwpMIdeal.Facts] [hDwpMRefIdeal : Cert.DwpMRefIdeal.Facts] : Prop :=
  ∀ (m : (ℓ : Loc Cert.DwpMIdeal.nD Cert.DwpMIdeal.τ Cert.DwpMIdeal.sig) → Buf (Elt Ideal) ℓ) (g : Dev Cert.DwpMIdeal.nD → PrngReg)
    (m' : (ℓ : Loc Cert.DwpMRefIdeal.nD Cert.DwpMRefIdeal.τ Cert.DwpMRefIdeal.sig) → Buf (Elt Ideal) ℓ) (g' : Dev Cert.DwpMRefIdeal.nD → PrngReg), Pre_DwpMIdeal m →
    (∀ c : Dev Cert.DwpMIdeal.nD,
      m' ((c.tc : Thread Cert.DwpMRefIdeal.nD Cert.DwpMRefIdeal.τ).loc Cert.DwpMRefIdeal.main_arg0) = m ((c.tc : Thread Cert.DwpMIdeal.nD Cert.DwpMIdeal.τ).loc Cert.DwpMIdeal.main_arg0)
      ∧ m' ((c.tc : Thread Cert.DwpMRefIdeal.nD Cert.DwpMRefIdeal.τ).loc Cert.DwpMRefIdeal.main_arg1) = m ((c.tc : Thread Cert.DwpMIdeal.nD Cert.DwpMIdeal.τ).loc Cert.DwpMIdeal.main_arg1)) →
    ∃ (v0 : (c : Dev Cert.DwpMIdeal.nD) → Buf (Elt Ideal) ((c.tc : Thread Cert.DwpMIdeal.nD Cert.DwpMIdeal.τ).loc Cert.DwpMIdeal.main_v0)),
      θ_run (Cert.DwpMIdeal.defs (F := Ideal)) (onTc (τ := Cert.DwpMIdeal.τ) (Cert.DwpMIdeal.main (F := Ideal))) ⟨m, fun _ => 0, g⟩ (fun r => ∀ c : Dev Cert.DwpMIdeal.nD,
          r.2.mem ((c.tc : Thread Cert.DwpMIdeal.nD Cert.DwpMIdeal.τ).loc Cert.DwpMIdeal.main_v0) = v0 c
          ∧ r.2.mem ((c.tc : Thread Cert.DwpMIdeal.nD Cert.DwpMIdeal.τ).loc Cert.DwpMIdeal.main_arg0) = m ((c.tc : Thread Cert.DwpMIdeal.nD Cert.DwpMIdeal.τ).loc Cert.DwpMIdeal.main_arg0)
          ∧ r.2.mem ((c.tc : Thread Cert.DwpMIdeal.nD Cert.DwpMIdeal.τ).loc Cert.DwpMIdeal.main_arg1) = m ((c.tc : Thread Cert.DwpMIdeal.nD Cert.DwpMIdeal.τ).loc Cert.DwpMIdeal.main_arg1))
      ∧ θ_run (Cert.DwpMRefIdeal.defs (F := Ideal)) (onTc (τ := Cert.DwpMRefIdeal.τ) (Cert.DwpMRefIdeal.main (F := Ideal))) ⟨m', fun _ => 0, g'⟩ (fun r => ∀ c : Dev Cert.DwpMRefIdeal.nD,
          r.2.mem ((c.tc : Thread Cert.DwpMRefIdeal.nD Cert.DwpMRefIdeal.τ).loc Cert.DwpMRefIdeal.main_v8) = v0 c
          ∧ r.2.mem ((c.tc : Thread Cert.DwpMRefIdeal.nD Cert.DwpMRefIdeal.τ).loc Cert.DwpMRefIdeal.main_arg0) = m' ((c.tc : Thread Cert.DwpMRefIdeal.nD Cert.DwpMRefIdeal.τ).loc Cert.DwpMRefIdeal.main_arg0)
          ∧ r.2.mem ((c.tc : Thread Cert.DwpMRefIdeal.nD Cert.DwpMRefIdeal.τ).loc Cert.DwpMRefIdeal.main_arg1) = m' ((c.tc : Thread Cert.DwpMRefIdeal.nD Cert.DwpMRefIdeal.τ).loc Cert.DwpMRefIdeal.main_arg1))

def preserves_DwpA_DwpAIdeal : Prop :=
  True

def algebraic_DwpAIdeal_DwpARefIdeal [hDwpAIdeal : Cert.DwpAIdeal.Facts] [hDwpARefIdeal : Cert.DwpARefIdeal.Facts] : Prop :=
  ∀ (m : (ℓ : Loc Cert.DwpAIdeal.nD Cert.DwpAIdeal.τ Cert.DwpAIdeal.sig) → Buf (Elt Ideal) ℓ) (g : Dev Cert.DwpAIdeal.nD → PrngReg)
    (m' : (ℓ : Loc Cert.DwpARefIdeal.nD Cert.DwpARefIdeal.τ Cert.DwpARefIdeal.sig) → Buf (Elt Ideal) ℓ) (g' : Dev Cert.DwpARefIdeal.nD → PrngReg), Pre_DwpAIdeal m →
    (∀ c : Dev Cert.DwpAIdeal.nD,
      m' ((c.tc : Thread Cert.DwpARefIdeal.nD Cert.DwpARefIdeal.τ).loc Cert.DwpARefIdeal.main_arg0) = m ((c.tc : Thread Cert.DwpAIdeal.nD Cert.DwpAIdeal.τ).loc Cert.DwpAIdeal.main_arg0)
      ∧ m' ((c.tc : Thread Cert.DwpARefIdeal.nD Cert.DwpARefIdeal.τ).loc Cert.DwpARefIdeal.main_arg1) = m ((c.tc : Thread Cert.DwpAIdeal.nD Cert.DwpAIdeal.τ).loc Cert.DwpAIdeal.main_arg1)) →
    ∃ (v0 : (c : Dev Cert.DwpAIdeal.nD) → Buf (Elt Ideal) ((c.tc : Thread Cert.DwpAIdeal.nD Cert.DwpAIdeal.τ).loc Cert.DwpAIdeal.main_v0)),
      θ_run (Cert.DwpAIdeal.defs (F := Ideal)) (onTc (τ := Cert.DwpAIdeal.τ) (Cert.DwpAIdeal.main (F := Ideal))) ⟨m, fun _ => 0, g⟩ (fun r => ∀ c : Dev Cert.DwpAIdeal.nD,
          r.2.mem ((c.tc : Thread Cert.DwpAIdeal.nD Cert.DwpAIdeal.τ).loc Cert.DwpAIdeal.main_v0) = v0 c
          ∧ r.2.mem ((c.tc : Thread Cert.DwpAIdeal.nD Cert.DwpAIdeal.τ).loc Cert.DwpAIdeal.main_arg0) = m ((c.tc : Thread Cert.DwpAIdeal.nD Cert.DwpAIdeal.τ).loc Cert.DwpAIdeal.main_arg0)
          ∧ r.2.mem ((c.tc : Thread Cert.DwpAIdeal.nD Cert.DwpAIdeal.τ).loc Cert.DwpAIdeal.main_arg1) = m ((c.tc : Thread Cert.DwpAIdeal.nD Cert.DwpAIdeal.τ).loc Cert.DwpAIdeal.main_arg1))
      ∧ θ_run (Cert.DwpARefIdeal.defs (F := Ideal)) (onTc (τ := Cert.DwpARefIdeal.τ) (Cert.DwpARefIdeal.main (F := Ideal))) ⟨m', fun _ => 0, g'⟩ (fun r => ∀ c : Dev Cert.DwpARefIdeal.nD,
          r.2.mem ((c.tc : Thread Cert.DwpARefIdeal.nD Cert.DwpARefIdeal.τ).loc Cert.DwpARefIdeal.main_v8) = v0 c
          ∧ r.2.mem ((c.tc : Thread Cert.DwpARefIdeal.nD Cert.DwpARefIdeal.τ).loc Cert.DwpARefIdeal.main_arg0) = m' ((c.tc : Thread Cert.DwpARefIdeal.nD Cert.DwpARefIdeal.τ).loc Cert.DwpARefIdeal.main_arg0)
          ∧ r.2.mem ((c.tc : Thread Cert.DwpARefIdeal.nD Cert.DwpARefIdeal.τ).loc Cert.DwpARefIdeal.main_arg1) = m' ((c.tc : Thread Cert.DwpARefIdeal.nD Cert.DwpARefIdeal.τ).loc Cert.DwpARefIdeal.main_arg1))

def preserves_DwpC_DwpCIdeal : Prop :=
  True

def algebraic_DwpCIdeal_DwpCRefIdeal [hDwpCIdeal : Cert.DwpCIdeal.Facts] [hDwpCRefIdeal : Cert.DwpCRefIdeal.Facts] : Prop :=
  ∀ (m : (ℓ : Loc Cert.DwpCIdeal.nD Cert.DwpCIdeal.τ Cert.DwpCIdeal.sig) → Buf (Elt Ideal) ℓ) (g : Dev Cert.DwpCIdeal.nD → PrngReg)
    (m' : (ℓ : Loc Cert.DwpCRefIdeal.nD Cert.DwpCRefIdeal.τ Cert.DwpCRefIdeal.sig) → Buf (Elt Ideal) ℓ) (g' : Dev Cert.DwpCRefIdeal.nD → PrngReg), Pre_DwpCIdeal m →
    (∀ c : Dev Cert.DwpCIdeal.nD,
      m' ((c.tc : Thread Cert.DwpCRefIdeal.nD Cert.DwpCRefIdeal.τ).loc Cert.DwpCRefIdeal.main_arg0) = m ((c.tc : Thread Cert.DwpCIdeal.nD Cert.DwpCIdeal.τ).loc Cert.DwpCIdeal.main_arg0)
      ∧ m' ((c.tc : Thread Cert.DwpCRefIdeal.nD Cert.DwpCRefIdeal.τ).loc Cert.DwpCRefIdeal.main_arg1) = m ((c.tc : Thread Cert.DwpCIdeal.nD Cert.DwpCIdeal.τ).loc Cert.DwpCIdeal.main_arg1)) →
    ∃ (v0 : (c : Dev Cert.DwpCIdeal.nD) → Buf (Elt Ideal) ((c.tc : Thread Cert.DwpCIdeal.nD Cert.DwpCIdeal.τ).loc Cert.DwpCIdeal.main_v0)),
      θ_run (Cert.DwpCIdeal.defs (F := Ideal)) (onTc (τ := Cert.DwpCIdeal.τ) (Cert.DwpCIdeal.main (F := Ideal))) ⟨m, fun _ => 0, g⟩ (fun r => ∀ c : Dev Cert.DwpCIdeal.nD,
          r.2.mem ((c.tc : Thread Cert.DwpCIdeal.nD Cert.DwpCIdeal.τ).loc Cert.DwpCIdeal.main_v0) = v0 c
          ∧ r.2.mem ((c.tc : Thread Cert.DwpCIdeal.nD Cert.DwpCIdeal.τ).loc Cert.DwpCIdeal.main_arg0) = m ((c.tc : Thread Cert.DwpCIdeal.nD Cert.DwpCIdeal.τ).loc Cert.DwpCIdeal.main_arg0)
          ∧ r.2.mem ((c.tc : Thread Cert.DwpCIdeal.nD Cert.DwpCIdeal.τ).loc Cert.DwpCIdeal.main_arg1) = m ((c.tc : Thread Cert.DwpCIdeal.nD Cert.DwpCIdeal.τ).loc Cert.DwpCIdeal.main_arg1))
      ∧ θ_run (Cert.DwpCRefIdeal.defs (F := Ideal)) (onTc (τ := Cert.DwpCRefIdeal.τ) (Cert.DwpCRefIdeal.main (F := Ideal))) ⟨m', fun _ => 0, g'⟩ (fun r => ∀ c : Dev Cert.DwpCRefIdeal.nD,
          r.2.mem ((c.tc : Thread Cert.DwpCRefIdeal.nD Cert.DwpCRefIdeal.τ).loc Cert.DwpCRefIdeal.main_v12) = v0 c
          ∧ r.2.mem ((c.tc : Thread Cert.DwpCRefIdeal.nD Cert.DwpCRefIdeal.τ).loc Cert.DwpCRefIdeal.main_arg0) = m' ((c.tc : Thread Cert.DwpCRefIdeal.nD Cert.DwpCRefIdeal.τ).loc Cert.DwpCRefIdeal.main_arg0)
          ∧ r.2.mem ((c.tc : Thread Cert.DwpCRefIdeal.nD Cert.DwpCRefIdeal.τ).loc Cert.DwpCRefIdeal.main_arg1) = m' ((c.tc : Thread Cert.DwpCRefIdeal.nD Cert.DwpCRefIdeal.τ).loc Cert.DwpCRefIdeal.main_arg1))

def preserves_DwpG_DwpGIdeal : Prop :=
  True

def algebraic_DwpGIdeal_DwpGRefIdeal [hDwpGIdeal : Cert.DwpGIdeal.Facts] [hDwpGRefIdeal : Cert.DwpGRefIdeal.Facts] : Prop :=
  ∀ (m : (ℓ : Loc Cert.DwpGIdeal.nD Cert.DwpGIdeal.τ Cert.DwpGIdeal.sig) → Buf (Elt Ideal) ℓ) (g : Dev Cert.DwpGIdeal.nD → PrngReg)
    (m' : (ℓ : Loc Cert.DwpGRefIdeal.nD Cert.DwpGRefIdeal.τ Cert.DwpGRefIdeal.sig) → Buf (Elt Ideal) ℓ) (g' : Dev Cert.DwpGRefIdeal.nD → PrngReg), Pre_DwpGIdeal m →
    (∀ c : Dev Cert.DwpGIdeal.nD,
      m' ((c.tc : Thread Cert.DwpGRefIdeal.nD Cert.DwpGRefIdeal.τ).loc Cert.DwpGRefIdeal.main_arg0) = m ((c.tc : Thread Cert.DwpGIdeal.nD Cert.DwpGIdeal.τ).loc Cert.DwpGIdeal.main_arg0)
      ∧ m' ((c.tc : Thread Cert.DwpGRefIdeal.nD Cert.DwpGRefIdeal.τ).loc Cert.DwpGRefIdeal.main_arg1) = m ((c.tc : Thread Cert.DwpGIdeal.nD Cert.DwpGIdeal.τ).loc Cert.DwpGIdeal.main_arg1)) →
    ∃ (v0 : (c : Dev Cert.DwpGIdeal.nD) → Buf (Elt Ideal) ((c.tc : Thread Cert.DwpGIdeal.nD Cert.DwpGIdeal.τ).loc Cert.DwpGIdeal.main_v0)),
      θ_run (Cert.DwpGIdeal.defs (F := Ideal)) (onTc (τ := Cert.DwpGIdeal.τ) (Cert.DwpGIdeal.main (F := Ideal))) ⟨m, fun _ => 0, g⟩ (fun r => ∀ c : Dev Cert.DwpGIdeal.nD,
          r.2.mem ((c.tc : Thread Cert.DwpGIdeal.nD Cert.DwpGIdeal.τ).loc Cert.DwpGIdeal.main_v0) = v0 c
          ∧ r.2.mem ((c.tc : Thread Cert.DwpGIdeal.nD Cert.DwpGIdeal.τ).loc Cert.DwpGIdeal.main_arg0) = m ((c.tc : Thread Cert.DwpGIdeal.nD Cert.DwpGIdeal.τ).loc Cert.DwpGIdeal.main_arg0)
          ∧ r.2.mem ((c.tc : Thread Cert.DwpGIdeal.nD Cert.DwpGIdeal.τ).loc Cert.DwpGIdeal.main_arg1) = m ((c.tc : Thread Cert.DwpGIdeal.nD Cert.DwpGIdeal.τ).loc Cert.DwpGIdeal.main_arg1))
      ∧ θ_run (Cert.DwpGRefIdeal.defs (F := Ideal)) (onTc (τ := Cert.DwpGRefIdeal.τ) (Cert.DwpGRefIdeal.main (F := Ideal))) ⟨m', fun _ => 0, g'⟩ (fun r => ∀ c : Dev Cert.DwpGRefIdeal.nD,
          r.2.mem ((c.tc : Thread Cert.DwpGRefIdeal.nD Cert.DwpGRefIdeal.τ).loc Cert.DwpGRefIdeal.main_v8) = v0 c
          ∧ r.2.mem ((c.tc : Thread Cert.DwpGRefIdeal.nD Cert.DwpGRefIdeal.τ).loc Cert.DwpGRefIdeal.main_arg0) = m' ((c.tc : Thread Cert.DwpGRefIdeal.nD Cert.DwpGRefIdeal.τ).loc Cert.DwpGRefIdeal.main_arg0)
          ∧ r.2.mem ((c.tc : Thread Cert.DwpGRefIdeal.nD Cert.DwpGRefIdeal.τ).loc Cert.DwpGRefIdeal.main_arg1) = m' ((c.tc : Thread Cert.DwpGRefIdeal.nD Cert.DwpGRefIdeal.τ).loc Cert.DwpGRefIdeal.main_arg1))

def preserves_Dwbr_DwbrIdeal : Prop :=
  True

def algebraic_DwbrIdeal_DwbrRefIdeal [hDwbrIdeal : Cert.DwbrIdeal.Facts] [hDwbrRefIdeal : Cert.DwbrRefIdeal.Facts] : Prop :=
  ∀ (m : (ℓ : Loc Cert.DwbrIdeal.nD Cert.DwbrIdeal.τ Cert.DwbrIdeal.sig) → Buf (Elt Ideal) ℓ) (g : Dev Cert.DwbrIdeal.nD → PrngReg)
    (m' : (ℓ : Loc Cert.DwbrRefIdeal.nD Cert.DwbrRefIdeal.τ Cert.DwbrRefIdeal.sig) → Buf (Elt Ideal) ℓ) (g' : Dev Cert.DwbrRefIdeal.nD → PrngReg), Pre_DwbrIdeal m →
    (∀ c : Dev Cert.DwbrIdeal.nD,
      m' ((c.tc : Thread Cert.DwbrRefIdeal.nD Cert.DwbrRefIdeal.τ).loc Cert.DwbrRefIdeal.main_arg0) = m ((c.tc : Thread Cert.DwbrIdeal.nD Cert.DwbrIdeal.τ).loc Cert.DwbrIdeal.main_arg0)
      ∧ m' ((c.tc : Thread Cert.DwbrRefIdeal.nD Cert.DwbrRefIdeal.τ).loc Cert.DwbrRefIdeal.main_arg1) = m ((c.tc : Thread Cert.DwbrIdeal.nD Cert.DwbrIdeal.τ).loc Cert.DwbrIdeal.main_arg1)) →
    ∃ (v0 : (c : Dev Cert.DwbrIdeal.nD) → Buf (Elt Ideal) ((c.tc : Thread Cert.DwbrIdeal.nD Cert.DwbrIdeal.τ).loc Cert.DwbrIdeal.main_v0)),
      θ_run (Cert.DwbrIdeal.defs (F := Ideal)) (onTc (τ := Cert.DwbrIdeal.τ) (Cert.DwbrIdeal.main (F := Ideal))) ⟨m, fun _ => 0, g⟩ (fun r => ∀ c : Dev Cert.DwbrIdeal.nD,
          r.2.mem ((c.tc : Thread Cert.DwbrIdeal.nD Cert.DwbrIdeal.τ).loc Cert.DwbrIdeal.main_v0) = v0 c
          ∧ r.2.mem ((c.tc : Thread Cert.DwbrIdeal.nD Cert.DwbrIdeal.τ).loc Cert.DwbrIdeal.main_arg0) = m ((c.tc : Thread Cert.DwbrIdeal.nD Cert.DwbrIdeal.τ).loc Cert.DwbrIdeal.main_arg0)
          ∧ r.2.mem ((c.tc : Thread Cert.DwbrIdeal.nD Cert.DwbrIdeal.τ).loc Cert.DwbrIdeal.main_arg1) = m ((c.tc : Thread Cert.DwbrIdeal.nD Cert.DwbrIdeal.τ).loc Cert.DwbrIdeal.main_arg1))
      ∧ θ_run (Cert.DwbrRefIdeal.defs (F := Ideal)) (onTc (τ := Cert.DwbrRefIdeal.τ) (Cert.DwbrRefIdeal.main (F := Ideal))) ⟨m', fun _ => 0, g'⟩ (fun r => ∀ c : Dev Cert.DwbrRefIdeal.nD,
          r.2.mem ((c.tc : Thread Cert.DwbrRefIdeal.nD Cert.DwbrRefIdeal.τ).loc Cert.DwbrRefIdeal.main_v8) = v0 c
          ∧ r.2.mem ((c.tc : Thread Cert.DwbrRefIdeal.nD Cert.DwbrRefIdeal.τ).loc Cert.DwbrRefIdeal.main_arg0) = m' ((c.tc : Thread Cert.DwbrRefIdeal.nD Cert.DwbrRefIdeal.τ).loc Cert.DwbrRefIdeal.main_arg0)
          ∧ r.2.mem ((c.tc : Thread Cert.DwbrRefIdeal.nD Cert.DwbrRefIdeal.τ).loc Cert.DwbrRefIdeal.main_arg1) = m' ((c.tc : Thread Cert.DwbrRefIdeal.nD Cert.DwbrRefIdeal.τ).loc Cert.DwbrRefIdeal.main_arg1))

def preserves_Dwout_DwoutIdeal : Prop :=
  True

def algebraic_DwoutIdeal_DwoutRefIdeal [hDwoutIdeal : Cert.DwoutIdeal.Facts] [hDwoutRefIdeal : Cert.DwoutRefIdeal.Facts] : Prop :=
  ∀ (m : (ℓ : Loc Cert.DwoutIdeal.nD Cert.DwoutIdeal.τ Cert.DwoutIdeal.sig) → Buf (Elt Ideal) ℓ) (g : Dev Cert.DwoutIdeal.nD → PrngReg)
    (m' : (ℓ : Loc Cert.DwoutRefIdeal.nD Cert.DwoutRefIdeal.τ Cert.DwoutRefIdeal.sig) → Buf (Elt Ideal) ℓ) (g' : Dev Cert.DwoutRefIdeal.nD → PrngReg), Pre_DwoutIdeal m →
    (∀ c : Dev Cert.DwoutIdeal.nD,
      m' ((c.tc : Thread Cert.DwoutRefIdeal.nD Cert.DwoutRefIdeal.τ).loc Cert.DwoutRefIdeal.main_arg0) = m ((c.tc : Thread Cert.DwoutIdeal.nD Cert.DwoutIdeal.τ).loc Cert.DwoutIdeal.main_arg0)
      ∧ m' ((c.tc : Thread Cert.DwoutRefIdeal.nD Cert.DwoutRefIdeal.τ).loc Cert.DwoutRefIdeal.main_arg1) = m ((c.tc : Thread Cert.DwoutIdeal.nD Cert.DwoutIdeal.τ).loc Cert.DwoutIdeal.main_arg1)) →
    ∃ (v0 : (c : Dev Cert.DwoutIdeal.nD) → Buf (Elt Ideal) ((c.tc : Thread Cert.DwoutIdeal.nD Cert.DwoutIdeal.τ).loc Cert.DwoutIdeal.main_v0)),
      θ_run (Cert.DwoutIdeal.defs (F := Ideal)) (onTc (τ := Cert.DwoutIdeal.τ) (Cert.DwoutIdeal.main (F := Ideal))) ⟨m, fun _ => 0, g⟩ (fun r => ∀ c : Dev Cert.DwoutIdeal.nD,
          r.2.mem ((c.tc : Thread Cert.DwoutIdeal.nD Cert.DwoutIdeal.τ).loc Cert.DwoutIdeal.main_v0) = v0 c
          ∧ r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
          ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ θ_run (Cert.DwoutRefIdeal.defs (F := Ideal)) (onTc (τ := Cert.DwoutRefIdeal.τ) (Cert.DwoutRefIdeal.main (F := Ideal))) ⟨m', fun _ => 0, g'⟩ (fun r => ∀ c : Dev Cert.DwoutRefIdeal.nD,
          r.2.mem ((c.tc : Thread Cert.DwoutRefIdeal.nD Cert.DwoutRefIdeal.τ).loc Cert.DwoutRefIdeal.main_v6) = v0 c
          ∧ r.2.mem ((c.tc : Thread Cert.DwoutRefIdeal.nD Cert.DwoutRefIdeal.τ).loc Cert.DwoutRefIdeal.main_arg0) = m' ((c.tc : Thread Cert.DwoutRefIdeal.nD Cert.DwoutRefIdeal.τ).loc Cert.DwoutRefIdeal.main_arg0)
          ∧ r.2.mem ((c.tc : Thread Cert.DwoutRefIdeal.nD Cert.DwoutRefIdeal.τ).loc Cert.DwoutRefIdeal.main_arg1) = m' ((c.tc : Thread Cert.DwoutRefIdeal.nD Cert.DwoutRefIdeal.τ).loc Cert.DwoutRefIdeal.main_arg1))

def preserves_ProjM_ProjMIdeal : Prop :=
  True

def algebraic_ProjMIdeal_ProjMRefIdeal [hProjMIdeal : Cert.ProjMIdeal.Facts] [hProjMRefIdeal : Cert.ProjMRefIdeal.Facts] : Prop :=
  ∀ (m : (ℓ : Loc Cert.ProjMIdeal.nD Cert.ProjMIdeal.τ Cert.ProjMIdeal.sig) → Buf (Elt Ideal) ℓ) (g : Dev Cert.ProjMIdeal.nD → PrngReg)
    (m' : (ℓ : Loc Cert.ProjMRefIdeal.nD Cert.ProjMRefIdeal.τ Cert.ProjMRefIdeal.sig) → Buf (Elt Ideal) ℓ) (g' : Dev Cert.ProjMRefIdeal.nD → PrngReg), Pre_ProjMIdeal m →
    (∀ c : Dev Cert.ProjMIdeal.nD,
      m' ((c.tc : Thread Cert.ProjMRefIdeal.nD Cert.ProjMRefIdeal.τ).loc Cert.ProjMRefIdeal.main_arg0) = m ((c.tc : Thread Cert.ProjMIdeal.nD Cert.ProjMIdeal.τ).loc Cert.ProjMIdeal.main_arg0)
      ∧ m' ((c.tc : Thread Cert.ProjMRefIdeal.nD Cert.ProjMRefIdeal.τ).loc Cert.ProjMRefIdeal.main_arg1) = m ((c.tc : Thread Cert.ProjMIdeal.nD Cert.ProjMIdeal.τ).loc Cert.ProjMIdeal.main_arg1)) →
    ∃ (v0 : (c : Dev Cert.ProjMIdeal.nD) → Buf (Elt Ideal) ((c.tc : Thread Cert.ProjMIdeal.nD Cert.ProjMIdeal.τ).loc Cert.ProjMIdeal.main_v0)),
      θ_run (Cert.ProjMIdeal.defs (F := Ideal)) (onTc (τ := Cert.ProjMIdeal.τ) (Cert.ProjMIdeal.main (F := Ideal))) ⟨m, fun _ => 0, g⟩ (fun r => ∀ c : Dev Cert.ProjMIdeal.nD,
          r.2.mem ((c.tc : Thread Cert.ProjMIdeal.nD Cert.ProjMIdeal.τ).loc Cert.ProjMIdeal.main_v0) = v0 c
          ∧ r.2.mem ((c.tc : Thread Cert.ProjMIdeal.nD Cert.ProjMIdeal.τ).loc Cert.ProjMIdeal.main_arg0) = m ((c.tc : Thread Cert.ProjMIdeal.nD Cert.ProjMIdeal.τ).loc Cert.ProjMIdeal.main_arg0)
          ∧ r.2.mem ((c.tc : Thread Cert.ProjMIdeal.nD Cert.ProjMIdeal.τ).loc Cert.ProjMIdeal.main_arg1) = m ((c.tc : Thread Cert.ProjMIdeal.nD Cert.ProjMIdeal.τ).loc Cert.ProjMIdeal.main_arg1))
      ∧ θ_run (Cert.ProjMRefIdeal.defs (F := Ideal)) (onTc (τ := Cert.ProjMRefIdeal.τ) (Cert.ProjMRefIdeal.main (F := Ideal))) ⟨m', fun _ => 0, g'⟩ (fun r => ∀ c : Dev Cert.ProjMRefIdeal.nD,
          r.2.mem ((c.tc : Thread Cert.ProjMRefIdeal.nD Cert.ProjMRefIdeal.τ).loc Cert.ProjMRefIdeal.main_v4) = v0 c
          ∧ r.2.mem ((c.tc : Thread Cert.ProjMRefIdeal.nD Cert.ProjMRefIdeal.τ).loc Cert.ProjMRefIdeal.main_arg0) = m' ((c.tc : Thread Cert.ProjMRefIdeal.nD Cert.ProjMRefIdeal.τ).loc Cert.ProjMRefIdeal.main_arg0)
          ∧ r.2.mem ((c.tc : Thread Cert.ProjMRefIdeal.nD Cert.ProjMRefIdeal.τ).loc Cert.ProjMRefIdeal.main_arg1) = m' ((c.tc : Thread Cert.ProjMRefIdeal.nD Cert.ProjMRefIdeal.τ).loc Cert.ProjMRefIdeal.main_arg1))

def preserves_ProjA_ProjAIdeal : Prop :=
  True

def algebraic_ProjAIdeal_ProjARefIdeal [hProjAIdeal : Cert.ProjAIdeal.Facts] [hProjARefIdeal : Cert.ProjARefIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjARefIdeal.nD Cert.ProjARefIdeal.τ Cert.ProjARefIdeal.sig) → Buf (Elt Ideal) ℓ) (g' : Dev Cert.ProjARefIdeal.nD → PrngReg), Pre_ProjAIdeal m →
    (∀ c : Dev Cert.ProjAIdeal.nD,
      m' ((c.tc : Thread Cert.ProjARefIdeal.nD Cert.ProjARefIdeal.τ).loc Cert.ProjARefIdeal.main_arg0) = m ((c.tc : Thread Cert.ProjAIdeal.nD Cert.ProjAIdeal.τ).loc Cert.ProjAIdeal.main_arg0)
      ∧ m' ((c.tc : Thread Cert.ProjARefIdeal.nD Cert.ProjARefIdeal.τ).loc Cert.ProjARefIdeal.main_arg1) = m ((c.tc : Thread Cert.ProjAIdeal.nD Cert.ProjAIdeal.τ).loc Cert.ProjAIdeal.main_arg1)) →
    ∃ (v0 : (c : Dev Cert.ProjAIdeal.nD) → Buf (Elt Ideal) ((c.tc : Thread Cert.ProjAIdeal.nD Cert.ProjAIdeal.τ).loc Cert.ProjAIdeal.main_v0)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v0) = v0 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ θ_run (Cert.ProjARefIdeal.defs (F := Ideal)) (onTc (τ := Cert.ProjARefIdeal.τ) (Cert.ProjARefIdeal.main (F := Ideal))) ⟨m', fun _ => 0, g'⟩ (fun r => ∀ c : Dev Cert.ProjARefIdeal.nD,
          r.2.mem ((c.tc : Thread Cert.ProjARefIdeal.nD Cert.ProjARefIdeal.τ).loc Cert.ProjARefIdeal.main_v4) = v0 c
          ∧ r.2.mem ((c.tc : Thread Cert.ProjARefIdeal.nD Cert.ProjARefIdeal.τ).loc Cert.ProjARefIdeal.main_arg0) = m' ((c.tc : Thread Cert.ProjARefIdeal.nD Cert.ProjARefIdeal.τ).loc Cert.ProjARefIdeal.main_arg0)
          ∧ r.2.mem ((c.tc : Thread Cert.ProjARefIdeal.nD Cert.ProjARefIdeal.τ).loc Cert.ProjARefIdeal.main_arg1) = m' ((c.tc : Thread Cert.ProjARefIdeal.nD Cert.ProjARefIdeal.τ).loc Cert.ProjARefIdeal.main_arg1))

def preserves_ProjC_ProjCIdeal : Prop :=
  True

def algebraic_ProjCIdeal_ProjCRefIdeal [hProjCIdeal : Cert.ProjCIdeal.Facts] [hProjCRefIdeal : Cert.ProjCRefIdeal.Facts] : Prop :=
  ∀ (m : (ℓ : Loc Cert.ProjCIdeal.nD Cert.ProjCIdeal.τ Cert.ProjCIdeal.sig) → Buf (Elt Ideal) ℓ) (g : Dev Cert.ProjCIdeal.nD → PrngReg)
    (m' : (ℓ : Loc Cert.ProjCRefIdeal.nD Cert.ProjCRefIdeal.τ Cert.ProjCRefIdeal.sig) → Buf (Elt Ideal) ℓ) (g' : Dev Cert.ProjCRefIdeal.nD → PrngReg), Pre_ProjCIdeal m →
    (∀ c : Dev Cert.ProjCIdeal.nD,
      m' ((c.tc : Thread Cert.ProjCRefIdeal.nD Cert.ProjCRefIdeal.τ).loc Cert.ProjCRefIdeal.main_arg0) = m ((c.tc : Thread Cert.ProjCIdeal.nD Cert.ProjCIdeal.τ).loc Cert.ProjCIdeal.main_arg0)
      ∧ m' ((c.tc : Thread Cert.ProjCRefIdeal.nD Cert.ProjCRefIdeal.τ).loc Cert.ProjCRefIdeal.main_arg1) = m ((c.tc : Thread Cert.ProjCIdeal.nD Cert.ProjCIdeal.τ).loc Cert.ProjCIdeal.main_arg1)) →
    ∃ (v0 : (c : Dev Cert.ProjCIdeal.nD) → Buf (Elt Ideal) ((c.tc : Thread Cert.ProjCIdeal.nD Cert.ProjCIdeal.τ).loc Cert.ProjCIdeal.main_v0)),
      θ_run (Cert.ProjCIdeal.defs (F := Ideal)) (onTc (τ := Cert.ProjCIdeal.τ) (Cert.ProjCIdeal.main (F := Ideal))) ⟨m, fun _ => 0, g⟩ (fun r => ∀ c : Dev Cert.ProjCIdeal.nD,
          r.2.mem ((c.tc : Thread Cert.ProjCIdeal.nD Cert.ProjCIdeal.τ).loc Cert.ProjCIdeal.main_v0) = v0 c
          ∧ r.2.mem ((c.tc : Thread Cert.ProjCIdeal.nD Cert.ProjCIdeal.τ).loc Cert.ProjCIdeal.main_arg0) = m ((c.tc : Thread Cert.ProjCIdeal.nD Cert.ProjCIdeal.τ).loc Cert.ProjCIdeal.main_arg0)
          ∧ r.2.mem ((c.tc : Thread Cert.ProjCIdeal.nD Cert.ProjCIdeal.τ).loc Cert.ProjCIdeal.main_arg1) = m ((c.tc : Thread Cert.ProjCIdeal.nD Cert.ProjCIdeal.τ).loc Cert.ProjCIdeal.main_arg1))
      ∧ θ_run (Cert.ProjCRefIdeal.defs (F := Ideal)) (onTc (τ := Cert.ProjCRefIdeal.τ) (Cert.ProjCRefIdeal.main (F := Ideal))) ⟨m', fun _ => 0, g'⟩ (fun r => ∀ c : Dev Cert.ProjCRefIdeal.nD,
          r.2.mem ((c.tc : Thread Cert.ProjCRefIdeal.nD Cert.ProjCRefIdeal.τ).loc Cert.ProjCRefIdeal.main_v4) = v0 c
          ∧ r.2.mem ((c.tc : Thread Cert.ProjCRefIdeal.nD Cert.ProjCRefIdeal.τ).loc Cert.ProjCRefIdeal.main_arg0) = m' ((c.tc : Thread Cert.ProjCRefIdeal.nD Cert.ProjCRefIdeal.τ).loc Cert.ProjCRefIdeal.main_arg0)
          ∧ r.2.mem ((c.tc : Thread Cert.ProjCRefIdeal.nD Cert.ProjCRefIdeal.τ).loc Cert.ProjCRefIdeal.main_arg1) = m' ((c.tc : Thread Cert.ProjCRefIdeal.nD Cert.ProjCRefIdeal.τ).loc Cert.ProjCRefIdeal.main_arg1))

def preserves_ProjG_ProjGIdeal : Prop :=
  True

def algebraic_ProjGIdeal_ProjGRefIdeal [hProjGIdeal : Cert.ProjGIdeal.Facts] [hProjGRefIdeal : Cert.ProjGRefIdeal.Facts] : Prop :=
  ∀ (m : (ℓ : Loc Cert.ProjGIdeal.nD Cert.ProjGIdeal.τ Cert.ProjGIdeal.sig) → Buf (Elt Ideal) ℓ) (g : Dev Cert.ProjGIdeal.nD → PrngReg)
    (m' : (ℓ : Loc Cert.ProjGRefIdeal.nD Cert.ProjGRefIdeal.τ Cert.ProjGRefIdeal.sig) → Buf (Elt Ideal) ℓ) (g' : Dev Cert.ProjGRefIdeal.nD → PrngReg), Pre_ProjGIdeal m →
    (∀ c : Dev Cert.ProjGIdeal.nD,
      m' ((c.tc : Thread Cert.ProjGRefIdeal.nD Cert.ProjGRefIdeal.τ).loc Cert.ProjGRefIdeal.main_arg0) = m ((c.tc : Thread Cert.ProjGIdeal.nD Cert.ProjGIdeal.τ).loc Cert.ProjGIdeal.main_arg0)
      ∧ m' ((c.tc : Thread Cert.ProjGRefIdeal.nD Cert.ProjGRefIdeal.τ).loc Cert.ProjGRefIdeal.main_arg1) = m ((c.tc : Thread Cert.ProjGIdeal.nD Cert.ProjGIdeal.τ).loc Cert.ProjGIdeal.main_arg1)) →
    ∃ (v0 : (c : Dev Cert.ProjGIdeal.nD) → Buf (Elt Ideal) ((c.tc : Thread Cert.ProjGIdeal.nD Cert.ProjGIdeal.τ).loc Cert.ProjGIdeal.main_v0)),
      θ_run (Cert.ProjGIdeal.defs (F := Ideal)) (onTc (τ := Cert.ProjGIdeal.τ) (Cert.ProjGIdeal.main (F := Ideal))) ⟨m, fun _ => 0, g⟩ (fun r => ∀ c : Dev Cert.ProjGIdeal.nD,
          r.2.mem ((c.tc : Thread Cert.ProjGIdeal.nD Cert.ProjGIdeal.τ).loc Cert.ProjGIdeal.main_v0) = v0 c
          ∧ r.2.mem ((c.tc : Thread Cert.ProjGIdeal.nD Cert.ProjGIdeal.τ).loc Cert.ProjGIdeal.main_arg0) = m ((c.tc : Thread Cert.ProjGIdeal.nD Cert.ProjGIdeal.τ).loc Cert.ProjGIdeal.main_arg0)
          ∧ r.2.mem ((c.tc : Thread Cert.ProjGIdeal.nD Cert.ProjGIdeal.τ).loc Cert.ProjGIdeal.main_arg1) = m ((c.tc : Thread Cert.ProjGIdeal.nD Cert.ProjGIdeal.τ).loc Cert.ProjGIdeal.main_arg1))
      ∧ θ_run (Cert.ProjGRefIdeal.defs (F := Ideal)) (onTc (τ := Cert.ProjGRefIdeal.τ) (Cert.ProjGRefIdeal.main (F := Ideal))) ⟨m', fun _ => 0, g'⟩ (fun r => ∀ c : Dev Cert.ProjGRefIdeal.nD,
          r.2.mem ((c.tc : Thread Cert.ProjGRefIdeal.nD Cert.ProjGRefIdeal.τ).loc Cert.ProjGRefIdeal.main_v4) = v0 c
          ∧ r.2.mem ((c.tc : Thread Cert.ProjGRefIdeal.nD Cert.ProjGRefIdeal.τ).loc Cert.ProjGRefIdeal.main_arg0) = m' ((c.tc : Thread Cert.ProjGRefIdeal.nD Cert.ProjGRefIdeal.τ).loc Cert.ProjGRefIdeal.main_arg0)
          ∧ r.2.mem ((c.tc : Thread Cert.ProjGRefIdeal.nD Cert.ProjGRefIdeal.τ).loc Cert.ProjGRefIdeal.main_arg1) = m' ((c.tc : Thread Cert.ProjGRefIdeal.nD Cert.ProjGRefIdeal.τ).loc Cert.ProjGRefIdeal.main_arg1))

def preserves_AttnFwd_AttnFwdIdeal : Prop :=
  IdealRules.named_const.Statement Cert.AttnFwdIdeal.κ "mask" .f32 0xF149F2CA#32 ⊥

def algebraic_AttnFwdIdeal_AttnFwdRefIdeal_pre_finite_qk_fwd [hAttnFwdIdeal : Cert.AttnFwdIdeal.Facts] [hAttnFwdRefIdeal : Cert.AttnFwdRefIdeal.Facts] [hPre_finite_qk_fwd : Cert.Pre_finite_qk_fwd.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_finite_qk_fwd m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v0)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v41) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def preserves_LnFwd_LnFwdIdeal : Prop :=
  True

def algebraic_LnFwdIdeal_LnFwdRefIdeal [hLnFwdIdeal : Cert.LnFwdIdeal.Facts] [hLnFwdRefIdeal : Cert.LnFwdRefIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg)
    (m' : (ℓ : Loc Cert.LnFwdRefIdeal.nD Cert.LnFwdRefIdeal.τ Cert.LnFwdRefIdeal.sig) → Buf (Elt Ideal) ℓ) (g' : Dev Cert.LnFwdRefIdeal.nD → PrngReg), Pre_LnFwdIdeal m →
    (∀ c : Dev Cert.LnFwdIdeal.nD,
      m' ((c.tc : Thread Cert.LnFwdRefIdeal.nD Cert.LnFwdRefIdeal.τ).loc Cert.LnFwdRefIdeal.main_arg0) = m ((c.tc : Thread Cert.LnFwdIdeal.nD Cert.LnFwdIdeal.τ).loc Cert.LnFwdIdeal.main_arg0)
      ∧ m' ((c.tc : Thread Cert.LnFwdRefIdeal.nD Cert.LnFwdRefIdeal.τ).loc Cert.LnFwdRefIdeal.main_arg1) = m ((c.tc : Thread Cert.LnFwdIdeal.nD Cert.LnFwdIdeal.τ).loc Cert.LnFwdIdeal.main_arg1)) →
    ∃ (v0 : (c : Dev Cert.LnFwdIdeal.nD) → Buf (Elt Ideal) ((c.tc : Thread Cert.LnFwdIdeal.nD Cert.LnFwdIdeal.τ).loc Cert.LnFwdIdeal.main_v0)),
      θ_run (Cert.LnFwdIdeal.defs (F := Ideal)) (onTc (τ := Cert.LnFwdIdeal.τ) (Cert.LnFwdIdeal.main (F := Ideal))) ⟨m, fun _ => 0, g⟩ (fun r => ∀ c : Dev Cert.LnFwdIdeal.nD,
          r.2.mem ((c.tc : Thread Cert.LnFwdIdeal.nD Cert.LnFwdIdeal.τ).loc Cert.LnFwdIdeal.main_v0) = v0 c
          ∧ r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
          ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1))
      ∧ θ_run (Cert.LnFwdRefIdeal.defs (F := Ideal)) (onTc (τ := Cert.LnFwdRefIdeal.τ) (Cert.LnFwdRefIdeal.main (F := Ideal))) ⟨m', fun _ => 0, g'⟩ (fun r => ∀ c : Dev Cert.LnFwdRefIdeal.nD,
          r.2.mem ((c.tc : Thread Cert.LnFwdRefIdeal.nD Cert.LnFwdRefIdeal.τ).loc Cert.LnFwdRefIdeal.main_v65) = v0 c
          ∧ r.2.mem ((c.tc : Thread Cert.LnFwdRefIdeal.nD Cert.LnFwdRefIdeal.τ).loc Cert.LnFwdRefIdeal.main_arg0) = m' ((c.tc : Thread Cert.LnFwdRefIdeal.nD Cert.LnFwdRefIdeal.τ).loc Cert.LnFwdRefIdeal.main_arg0)
          ∧ r.2.mem ((c.tc : Thread Cert.LnFwdRefIdeal.nD Cert.LnFwdRefIdeal.τ).loc Cert.LnFwdRefIdeal.main_arg1) = m' ((c.tc : Thread Cert.LnFwdRefIdeal.nD Cert.LnFwdRefIdeal.τ).loc Cert.LnFwdRefIdeal.main_arg1))

def preserves_LnBwd_LnBwdIdeal : Prop :=
  True

def algebraic_LnBwdIdeal_LnBwdRefIdeal_pre_finite_ln [hLnBwdIdeal : Cert.LnBwdIdeal.Facts] [hLnBwdRefIdeal : Cert.LnBwdRefIdeal.Facts] [hPre_finite_ln : Cert.Pre_finite_ln.Facts] : Prop :=
  ∀ (m : (ℓ : Loc Cert.LnBwdIdeal.nD Cert.LnBwdIdeal.τ Cert.LnBwdIdeal.sig) → Buf (Elt Ideal) ℓ) (g : Dev Cert.LnBwdIdeal.nD → PrngReg)
    (m' : (ℓ : Loc Cert.LnBwdRefIdeal.nD Cert.LnBwdRefIdeal.τ Cert.LnBwdRefIdeal.sig) → Buf (Elt Ideal) ℓ) (g' : Dev Cert.LnBwdRefIdeal.nD → PrngReg), Pre_LnBwdIdeal_finite_ln m →
    (∀ c : Dev Cert.LnBwdIdeal.nD,
      m' ((c.tc : Thread Cert.LnBwdRefIdeal.nD Cert.LnBwdRefIdeal.τ).loc Cert.LnBwdRefIdeal.main_arg0) = m ((c.tc : Thread Cert.LnBwdIdeal.nD Cert.LnBwdIdeal.τ).loc Cert.LnBwdIdeal.main_arg0)
      ∧ m' ((c.tc : Thread Cert.LnBwdRefIdeal.nD Cert.LnBwdRefIdeal.τ).loc Cert.LnBwdRefIdeal.main_arg1) = m ((c.tc : Thread Cert.LnBwdIdeal.nD Cert.LnBwdIdeal.τ).loc Cert.LnBwdIdeal.main_arg1)
      ∧ m' ((c.tc : Thread Cert.LnBwdRefIdeal.nD Cert.LnBwdRefIdeal.τ).loc Cert.LnBwdRefIdeal.main_arg2) = m ((c.tc : Thread Cert.LnBwdIdeal.nD Cert.LnBwdIdeal.τ).loc Cert.LnBwdIdeal.main_arg2)
      ∧ m' ((c.tc : Thread Cert.LnBwdRefIdeal.nD Cert.LnBwdRefIdeal.τ).loc Cert.LnBwdRefIdeal.main_arg3) = m ((c.tc : Thread Cert.LnBwdIdeal.nD Cert.LnBwdIdeal.τ).loc Cert.LnBwdIdeal.main_arg3)) →
    ∃ (v0 : (c : Dev Cert.LnBwdIdeal.nD) → Buf (Elt Ideal) ((c.tc : Thread Cert.LnBwdIdeal.nD Cert.LnBwdIdeal.τ).loc Cert.LnBwdIdeal.main_v0_0)) (v1 : (c : Dev Cert.LnBwdIdeal.nD) → Buf (Elt Ideal) ((c.tc : Thread Cert.LnBwdIdeal.nD Cert.LnBwdIdeal.τ).loc Cert.LnBwdIdeal.main_v0_1)),
      θ_run (Cert.LnBwdIdeal.defs (F := Ideal)) (onTc (τ := Cert.LnBwdIdeal.τ) (Cert.LnBwdIdeal.main (F := Ideal))) ⟨m, fun _ => 0, g⟩ (fun r => ∀ c : Dev Cert.LnBwdIdeal.nD,
          r.2.mem ((c.tc : Thread Cert.LnBwdIdeal.nD Cert.LnBwdIdeal.τ).loc Cert.LnBwdIdeal.main_v0_0) = v0 c
          ∧ r.2.mem ((c.tc : Thread Cert.LnBwdIdeal.nD Cert.LnBwdIdeal.τ).loc Cert.LnBwdIdeal.main_v0_1) = v1 c
          ∧ r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
          ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
          ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
          ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3))
      ∧ θ_run (Cert.LnBwdRefIdeal.defs (F := Ideal)) (onTc (τ := Cert.LnBwdRefIdeal.τ) (Cert.LnBwdRefIdeal.main (F := Ideal))) ⟨m', fun _ => 0, g'⟩ (fun r => ∀ c : Dev Cert.LnBwdRefIdeal.nD,
          r.2.mem ((c.tc : Thread Cert.LnBwdRefIdeal.nD Cert.LnBwdRefIdeal.τ).loc Cert.LnBwdRefIdeal.main_v154) = v0 c
          ∧ r.2.mem ((c.tc : Thread Cert.LnBwdRefIdeal.nD Cert.LnBwdRefIdeal.τ).loc Cert.LnBwdRefIdeal.main_v156) = v1 c
          ∧ r.2.mem ((c.tc : Thread Cert.LnBwdRefIdeal.nD Cert.LnBwdRefIdeal.τ).loc Cert.LnBwdRefIdeal.main_arg0) = m' ((c.tc : Thread Cert.LnBwdRefIdeal.nD Cert.LnBwdRefIdeal.τ).loc Cert.LnBwdRefIdeal.main_arg0)
          ∧ r.2.mem ((c.tc : Thread Cert.LnBwdRefIdeal.nD Cert.LnBwdRefIdeal.τ).loc Cert.LnBwdRefIdeal.main_arg1) = m' ((c.tc : Thread Cert.LnBwdRefIdeal.nD Cert.LnBwdRefIdeal.τ).loc Cert.LnBwdRefIdeal.main_arg1)
          ∧ r.2.mem ((c.tc : Thread Cert.LnBwdRefIdeal.nD Cert.LnBwdRefIdeal.τ).loc Cert.LnBwdRefIdeal.main_arg2) = m' ((c.tc : Thread Cert.LnBwdRefIdeal.nD Cert.LnBwdRefIdeal.τ).loc Cert.LnBwdRefIdeal.main_arg2)
          ∧ r.2.mem ((c.tc : Thread Cert.LnBwdRefIdeal.nD Cert.LnBwdRefIdeal.τ).loc Cert.LnBwdRefIdeal.main_arg3) = m' ((c.tc : Thread Cert.LnBwdRefIdeal.nD Cert.LnBwdRefIdeal.τ).loc Cert.LnBwdRefIdeal.main_arg3))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)
      ∧ m' ((c.tc : Thread Cert.MergeFwdRefIdeal.nD Cert.MergeFwdRefIdeal.τ).loc Cert.MergeFwdRefIdeal.main_arg6) = m ((c.tc : Thread Cert.MergeFwdIdeal.nD Cert.MergeFwdIdeal.τ).loc Cert.MergeFwdIdeal.main_arg6)
      ∧ m' ((c.tc : Thread Cert.MergeFwdRefIdeal.nD Cert.MergeFwdRefIdeal.τ).loc Cert.MergeFwdRefIdeal.main_arg7) = m ((c.tc : Thread Cert.MergeFwdIdeal.nD Cert.MergeFwdIdeal.τ).loc Cert.MergeFwdIdeal.main_arg7)
      ∧ m' ((c.tc : Thread Cert.MergeFwdRefIdeal.nD Cert.MergeFwdRefIdeal.τ).loc Cert.MergeFwdRefIdeal.main_arg8) = m ((c.tc : Thread Cert.MergeFwdIdeal.nD Cert.MergeFwdIdeal.τ).loc Cert.MergeFwdIdeal.main_arg8)
      ∧ m' ((c.tc : Thread Cert.MergeFwdRefIdeal.nD Cert.MergeFwdRefIdeal.τ).loc Cert.MergeFwdRefIdeal.main_arg9) = m ((c.tc : Thread Cert.MergeFwdIdeal.nD Cert.MergeFwdIdeal.τ).loc Cert.MergeFwdIdeal.main_arg9)
      ∧ m' ((c.tc : Thread Cert.MergeFwdRefIdeal.nD Cert.MergeFwdRefIdeal.τ).loc Cert.MergeFwdRefIdeal.main_arg10) = m ((c.tc : Thread Cert.MergeFwdIdeal.nD Cert.MergeFwdIdeal.τ).loc Cert.MergeFwdIdeal.main_arg10)
      ∧ m' ((c.tc : Thread Cert.MergeFwdRefIdeal.nD Cert.MergeFwdRefIdeal.τ).loc Cert.MergeFwdRefIdeal.main_arg11) = m ((c.tc : Thread Cert.MergeFwdIdeal.nD Cert.MergeFwdIdeal.τ).loc Cert.MergeFwdIdeal.main_arg11)
      ∧ m' ((c.tc : Thread Cert.MergeFwdRefIdeal.nD Cert.MergeFwdRefIdeal.τ).loc Cert.MergeFwdRefIdeal.main_arg12) = m ((c.tc : Thread Cert.MergeFwdIdeal.nD Cert.MergeFwdIdeal.τ).loc Cert.MergeFwdIdeal.main_arg12)
      ∧ m' ((c.tc : Thread Cert.MergeFwdRefIdeal.nD Cert.MergeFwdRefIdeal.τ).loc Cert.MergeFwdRefIdeal.main_arg13) = m ((c.tc : Thread Cert.MergeFwdIdeal.nD Cert.MergeFwdIdeal.τ).loc Cert.MergeFwdIdeal.main_arg13)
      ∧ m' ((c.tc : Thread Cert.MergeFwdRefIdeal.nD Cert.MergeFwdRefIdeal.τ).loc Cert.MergeFwdRefIdeal.main_arg14) = m ((c.tc : Thread Cert.MergeFwdIdeal.nD Cert.MergeFwdIdeal.τ).loc Cert.MergeFwdIdeal.main_arg14)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
          ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6)
          ∧ r.2.mem ((c.tc : Thread Cert.MergeFwdIdeal.nD Cert.MergeFwdIdeal.τ).loc Cert.MergeFwdIdeal.main_arg7) = m ((c.tc : Thread Cert.MergeFwdIdeal.nD Cert.MergeFwdIdeal.τ).loc Cert.MergeFwdIdeal.main_arg7)
          ∧ r.2.mem ((c.tc : Thread Cert.MergeFwdIdeal.nD Cert.MergeFwdIdeal.τ).loc Cert.MergeFwdIdeal.main_arg8) = m ((c.tc : Thread Cert.MergeFwdIdeal.nD Cert.MergeFwdIdeal.τ).loc Cert.MergeFwdIdeal.main_arg8)
          ∧ r.2.mem ((c.tc : Thread Cert.MergeFwdIdeal.nD Cert.MergeFwdIdeal.τ).loc Cert.MergeFwdIdeal.main_arg9) = m ((c.tc : Thread Cert.MergeFwdIdeal.nD Cert.MergeFwdIdeal.τ).loc Cert.MergeFwdIdeal.main_arg9)
          ∧ r.2.mem ((c.tc : Thread Cert.MergeFwdIdeal.nD Cert.MergeFwdIdeal.τ).loc Cert.MergeFwdIdeal.main_arg10) = m ((c.tc : Thread Cert.MergeFwdIdeal.nD Cert.MergeFwdIdeal.τ).loc Cert.MergeFwdIdeal.main_arg10)
          ∧ r.2.mem ((c.tc : Thread Cert.MergeFwdIdeal.nD Cert.MergeFwdIdeal.τ).loc Cert.MergeFwdIdeal.main_arg11) = m ((c.tc : Thread Cert.MergeFwdIdeal.nD Cert.MergeFwdIdeal.τ).loc Cert.MergeFwdIdeal.main_arg11)
          ∧ r.2.mem ((c.tc : Thread Cert.MergeFwdIdeal.nD Cert.MergeFwdIdeal.τ).loc Cert.MergeFwdIdeal.main_arg12) = m ((c.tc : Thread Cert.MergeFwdIdeal.nD Cert.MergeFwdIdeal.τ).loc Cert.MergeFwdIdeal.main_arg12)
          ∧ r.2.mem ((c.tc : Thread Cert.MergeFwdIdeal.nD Cert.MergeFwdIdeal.τ).loc Cert.MergeFwdIdeal.main_arg13) = m ((c.tc : Thread Cert.MergeFwdIdeal.nD Cert.MergeFwdIdeal.τ).loc Cert.MergeFwdIdeal.main_arg13)
          ∧ r.2.mem ((c.tc : Thread Cert.MergeFwdIdeal.nD Cert.MergeFwdIdeal.τ).loc Cert.MergeFwdIdeal.main_arg14) = m ((c.tc : Thread Cert.MergeFwdIdeal.nD Cert.MergeFwdIdeal.τ).loc Cert.MergeFwdIdeal.main_arg14))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v158) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5)
          ∧ r.2.mem ((c.tc : Thread Cert.MergeFwdRefIdeal.nD Cert.MergeFwdRefIdeal.τ).loc Cert.MergeFwdRefIdeal.main_arg6) = m' ((c.tc : Thread Cert.MergeFwdRefIdeal.nD Cert.MergeFwdRefIdeal.τ).loc Cert.MergeFwdRefIdeal.main_arg6)
          ∧ r.2.mem ((c.tc : Thread Cert.MergeFwdRefIdeal.nD Cert.MergeFwdRefIdeal.τ).loc Cert.MergeFwdRefIdeal.main_arg7) = m' ((c.tc : Thread Cert.MergeFwdRefIdeal.nD Cert.MergeFwdRefIdeal.τ).loc Cert.MergeFwdRefIdeal.main_arg7)
          ∧ r.2.mem ((c.tc : Thread Cert.MergeFwdRefIdeal.nD Cert.MergeFwdRefIdeal.τ).loc Cert.MergeFwdRefIdeal.main_arg8) = m' ((c.tc : Thread Cert.MergeFwdRefIdeal.nD Cert.MergeFwdRefIdeal.τ).loc Cert.MergeFwdRefIdeal.main_arg8)
          ∧ r.2.mem ((c.tc : Thread Cert.MergeFwdRefIdeal.nD Cert.MergeFwdRefIdeal.τ).loc Cert.MergeFwdRefIdeal.main_arg9) = m' ((c.tc : Thread Cert.MergeFwdRefIdeal.nD Cert.MergeFwdRefIdeal.τ).loc Cert.MergeFwdRefIdeal.main_arg9)
          ∧ r.2.mem ((c.tc : Thread Cert.MergeFwdRefIdeal.nD Cert.MergeFwdRefIdeal.τ).loc Cert.MergeFwdRefIdeal.main_arg10) = m' ((c.tc : Thread Cert.MergeFwdRefIdeal.nD Cert.MergeFwdRefIdeal.τ).loc Cert.MergeFwdRefIdeal.main_arg10)
          ∧ r.2.mem ((c.tc : Thread Cert.MergeFwdRefIdeal.nD Cert.MergeFwdRefIdeal.τ).loc Cert.MergeFwdRefIdeal.main_arg11) = m' ((c.tc : Thread Cert.MergeFwdRefIdeal.nD Cert.MergeFwdRefIdeal.τ).loc Cert.MergeFwdRefIdeal.main_arg11)
          ∧ r.2.mem ((c.tc : Thread Cert.MergeFwdRefIdeal.nD Cert.MergeFwdRefIdeal.τ).loc Cert.MergeFwdRefIdeal.main_arg12) = m' ((c.tc : Thread Cert.MergeFwdRefIdeal.nD Cert.MergeFwdRefIdeal.τ).loc Cert.MergeFwdRefIdeal.main_arg12)
          ∧ r.2.mem ((c.tc : Thread Cert.MergeFwdRefIdeal.nD Cert.MergeFwdRefIdeal.τ).loc Cert.MergeFwdRefIdeal.main_arg13) = m' ((c.tc : Thread Cert.MergeFwdRefIdeal.nD Cert.MergeFwdRefIdeal.τ).loc Cert.MergeFwdRefIdeal.main_arg13)
          ∧ r.2.mem ((c.tc : Thread Cert.MergeFwdRefIdeal.nD Cert.MergeFwdRefIdeal.τ).loc Cert.MergeFwdRefIdeal.main_arg14) = m' ((c.tc : Thread Cert.MergeFwdRefIdeal.nD Cert.MergeFwdRefIdeal.τ).loc Cert.MergeFwdRefIdeal.main_arg14))

def preserves_ModFwd_ModFwdIdeal : Prop :=
  True

def algebraic_ModFwdIdeal_ModFwdRefIdeal [hModFwdIdeal : Cert.ModFwdIdeal.Facts] [hModFwdRefIdeal : Cert.ModFwdRefIdeal.Facts] : Prop :=
  ∀ (m : (ℓ : Loc Cert.ModFwdIdeal.nD Cert.ModFwdIdeal.τ Cert.ModFwdIdeal.sig) → Buf (Elt Ideal) ℓ) (g : Dev Cert.ModFwdIdeal.nD → PrngReg)
    (m' : (ℓ : Loc Cert.ModFwdRefIdeal.nD Cert.ModFwdRefIdeal.τ Cert.ModFwdRefIdeal.sig) → Buf (Elt Ideal) ℓ) (g' : Dev Cert.ModFwdRefIdeal.nD → PrngReg), Pre_ModFwdIdeal m →
    (∀ c : Dev Cert.ModFwdIdeal.nD,
      m' ((c.tc : Thread Cert.ModFwdRefIdeal.nD Cert.ModFwdRefIdeal.τ).loc Cert.ModFwdRefIdeal.main_arg0) = m ((c.tc : Thread Cert.ModFwdIdeal.nD Cert.ModFwdIdeal.τ).loc Cert.ModFwdIdeal.main_arg0)
      ∧ m' ((c.tc : Thread Cert.ModFwdRefIdeal.nD Cert.ModFwdRefIdeal.τ).loc Cert.ModFwdRefIdeal.main_arg1) = m ((c.tc : Thread Cert.ModFwdIdeal.nD Cert.ModFwdIdeal.τ).loc Cert.ModFwdIdeal.main_arg1)
      ∧ m' ((c.tc : Thread Cert.ModFwdRefIdeal.nD Cert.ModFwdRefIdeal.τ).loc Cert.ModFwdRefIdeal.main_arg2) = m ((c.tc : Thread Cert.ModFwdIdeal.nD Cert.ModFwdIdeal.τ).loc Cert.ModFwdIdeal.main_arg2)) →
    ∃ (v0 : (c : Dev Cert.ModFwdIdeal.nD) → Buf (Elt Ideal) ((c.tc : Thread Cert.ModFwdIdeal.nD Cert.ModFwdIdeal.τ).loc Cert.ModFwdIdeal.main_v1)),
      θ_run (Cert.ModFwdIdeal.defs (F := Ideal)) (onTc (τ := Cert.ModFwdIdeal.τ) (Cert.ModFwdIdeal.main (F := Ideal))) ⟨m, fun _ => 0, g⟩ (fun r => ∀ c : Dev Cert.ModFwdIdeal.nD,
          r.2.mem ((c.tc : Thread Cert.ModFwdIdeal.nD Cert.ModFwdIdeal.τ).loc Cert.ModFwdIdeal.main_v1) = v0 c
          ∧ r.2.mem ((c.tc : Thread Cert.ModFwdIdeal.nD Cert.ModFwdIdeal.τ).loc Cert.ModFwdIdeal.main_arg0) = m ((c.tc : Thread Cert.ModFwdIdeal.nD Cert.ModFwdIdeal.τ).loc Cert.ModFwdIdeal.main_arg0)
          ∧ r.2.mem ((c.tc : Thread Cert.ModFwdIdeal.nD Cert.ModFwdIdeal.τ).loc Cert.ModFwdIdeal.main_arg1) = m ((c.tc : Thread Cert.ModFwdIdeal.nD Cert.ModFwdIdeal.τ).loc Cert.ModFwdIdeal.main_arg1)
          ∧ r.2.mem ((c.tc : Thread Cert.ModFwdIdeal.nD Cert.ModFwdIdeal.τ).loc Cert.ModFwdIdeal.main_arg2) = m ((c.tc : Thread Cert.ModFwdIdeal.nD Cert.ModFwdIdeal.τ).loc Cert.ModFwdIdeal.main_arg2))
      ∧ θ_run (Cert.ModFwdRefIdeal.defs (F := Ideal)) (onTc (τ := Cert.ModFwdRefIdeal.τ) (Cert.ModFwdRefIdeal.main (F := Ideal))) ⟨m', fun _ => 0, g'⟩ (fun r => ∀ c : Dev Cert.ModFwdRefIdeal.nD,
          r.2.mem ((c.tc : Thread Cert.ModFwdRefIdeal.nD Cert.ModFwdRefIdeal.τ).loc Cert.ModFwdRefIdeal.main_v7) = v0 c
          ∧ r.2.mem ((c.tc : Thread Cert.ModFwdRefIdeal.nD Cert.ModFwdRefIdeal.τ).loc Cert.ModFwdRefIdeal.main_arg0) = m' ((c.tc : Thread Cert.ModFwdRefIdeal.nD Cert.ModFwdRefIdeal.τ).loc Cert.ModFwdRefIdeal.main_arg0)
          ∧ r.2.mem ((c.tc : Thread Cert.ModFwdRefIdeal.nD Cert.ModFwdRefIdeal.τ).loc Cert.ModFwdRefIdeal.main_arg1) = m' ((c.tc : Thread Cert.ModFwdRefIdeal.nD Cert.ModFwdRefIdeal.τ).loc Cert.ModFwdRefIdeal.main_arg1)
          ∧ r.2.mem ((c.tc : Thread Cert.ModFwdRefIdeal.nD Cert.ModFwdRefIdeal.τ).loc Cert.ModFwdRefIdeal.main_arg2) = m' ((c.tc : Thread Cert.ModFwdRefIdeal.nD Cert.ModFwdRefIdeal.τ).loc Cert.ModFwdRefIdeal.main_arg2))

def preserves_ModBwd_ModBwdIdeal : Prop :=
  True

def algebraic_ModBwdIdeal_ModBwdRefIdeal_pre_finite_mod [hModBwdIdeal : Cert.ModBwdIdeal.Facts] [hModBwdRefIdeal : Cert.ModBwdRefIdeal.Facts] [hPre_finite_mod : Cert.Pre_finite_mod.Facts] : Prop :=
  ∀ (m : (ℓ : Loc Cert.ModBwdIdeal.nD Cert.ModBwdIdeal.τ Cert.ModBwdIdeal.sig) → Buf (Elt Ideal) ℓ) (g : Dev Cert.ModBwdIdeal.nD → PrngReg)
    (m' : (ℓ : Loc Cert.ModBwdRefIdeal.nD Cert.ModBwdRefIdeal.τ Cert.ModBwdRefIdeal.sig) → Buf (Elt Ideal) ℓ) (g' : Dev Cert.ModBwdRefIdeal.nD → PrngReg), Pre_ModBwdIdeal_finite_mod m →
    (∀ c : Dev Cert.ModBwdIdeal.nD,
      m' ((c.tc : Thread Cert.ModBwdRefIdeal.nD Cert.ModBwdRefIdeal.τ).loc Cert.ModBwdRefIdeal.main_arg0) = m ((c.tc : Thread Cert.ModBwdIdeal.nD Cert.ModBwdIdeal.τ).loc Cert.ModBwdIdeal.main_arg0)
      ∧ m' ((c.tc : Thread Cert.ModBwdRefIdeal.nD Cert.ModBwdRefIdeal.τ).loc Cert.ModBwdRefIdeal.main_arg1) = m ((c.tc : Thread Cert.ModBwdIdeal.nD Cert.ModBwdIdeal.τ).loc Cert.ModBwdIdeal.main_arg1)
      ∧ m' ((c.tc : Thread Cert.ModBwdRefIdeal.nD Cert.ModBwdRefIdeal.τ).loc Cert.ModBwdRefIdeal.main_arg2) = m ((c.tc : Thread Cert.ModBwdIdeal.nD Cert.ModBwdIdeal.τ).loc Cert.ModBwdIdeal.main_arg2)
      ∧ m' ((c.tc : Thread Cert.ModBwdRefIdeal.nD Cert.ModBwdRefIdeal.τ).loc Cert.ModBwdRefIdeal.main_arg3) = m ((c.tc : Thread Cert.ModBwdIdeal.nD Cert.ModBwdIdeal.τ).loc Cert.ModBwdIdeal.main_arg3)) →
    ∃ (v0 : (c : Dev Cert.ModBwdIdeal.nD) → Buf (Elt Ideal) ((c.tc : Thread Cert.ModBwdIdeal.nD Cert.ModBwdIdeal.τ).loc Cert.ModBwdIdeal.main_v0_0)) (v1 : (c : Dev Cert.ModBwdIdeal.nD) → Buf (Elt Ideal) ((c.tc : Thread Cert.ModBwdIdeal.nD Cert.ModBwdIdeal.τ).loc Cert.ModBwdIdeal.main_v0_1)),
      θ_run (Cert.ModBwdIdeal.defs (F := Ideal)) (onTc (τ := Cert.ModBwdIdeal.τ) (Cert.ModBwdIdeal.main (F := Ideal))) ⟨m, fun _ => 0, g⟩ (fun r => ∀ c : Dev Cert.ModBwdIdeal.nD,
          r.2.mem ((c.tc : Thread Cert.ModBwdIdeal.nD Cert.ModBwdIdeal.τ).loc Cert.ModBwdIdeal.main_v0_0) = v0 c
          ∧ r.2.mem ((c.tc : Thread Cert.ModBwdIdeal.nD Cert.ModBwdIdeal.τ).loc Cert.ModBwdIdeal.main_v0_1) = v1 c
          ∧ r.2.mem ((c.tc : Thread Cert.ModBwdIdeal.nD Cert.ModBwdIdeal.τ).loc Cert.ModBwdIdeal.main_arg0) = m ((c.tc : Thread Cert.ModBwdIdeal.nD Cert.ModBwdIdeal.τ).loc Cert.ModBwdIdeal.main_arg0)
          ∧ r.2.mem ((c.tc : Thread Cert.ModBwdIdeal.nD Cert.ModBwdIdeal.τ).loc Cert.ModBwdIdeal.main_arg1) = m ((c.tc : Thread Cert.ModBwdIdeal.nD Cert.ModBwdIdeal.τ).loc Cert.ModBwdIdeal.main_arg1)
          ∧ r.2.mem ((c.tc : Thread Cert.ModBwdIdeal.nD Cert.ModBwdIdeal.τ).loc Cert.ModBwdIdeal.main_arg2) = m ((c.tc : Thread Cert.ModBwdIdeal.nD Cert.ModBwdIdeal.τ).loc Cert.ModBwdIdeal.main_arg2)
          ∧ r.2.mem ((c.tc : Thread Cert.ModBwdIdeal.nD Cert.ModBwdIdeal.τ).loc Cert.ModBwdIdeal.main_arg3) = m ((c.tc : Thread Cert.ModBwdIdeal.nD Cert.ModBwdIdeal.τ).loc Cert.ModBwdIdeal.main_arg3))
      ∧ θ_run (Cert.ModBwdRefIdeal.defs (F := Ideal)) (onTc (τ := Cert.ModBwdRefIdeal.τ) (Cert.ModBwdRefIdeal.main (F := Ideal))) ⟨m', fun _ => 0, g'⟩ (fun r => ∀ c : Dev Cert.ModBwdRefIdeal.nD,
          r.2.mem ((c.tc : Thread Cert.ModBwdRefIdeal.nD Cert.ModBwdRefIdeal.τ).loc Cert.ModBwdRefIdeal.main_v27) = v0 c
          ∧ r.2.mem ((c.tc : Thread Cert.ModBwdRefIdeal.nD Cert.ModBwdRefIdeal.τ).loc Cert.ModBwdRefIdeal.main_v30) = v1 c
          ∧ r.2.mem ((c.tc : Thread Cert.ModBwdRefIdeal.nD Cert.ModBwdRefIdeal.τ).loc Cert.ModBwdRefIdeal.main_arg0) = m' ((c.tc : Thread Cert.ModBwdRefIdeal.nD Cert.ModBwdRefIdeal.τ).loc Cert.ModBwdRefIdeal.main_arg0)
          ∧ r.2.mem ((c.tc : Thread Cert.ModBwdRefIdeal.nD Cert.ModBwdRefIdeal.τ).loc Cert.ModBwdRefIdeal.main_arg1) = m' ((c.tc : Thread Cert.ModBwdRefIdeal.nD Cert.ModBwdRefIdeal.τ).loc Cert.ModBwdRefIdeal.main_arg1)
          ∧ r.2.mem ((c.tc : Thread Cert.ModBwdRefIdeal.nD Cert.ModBwdRefIdeal.τ).loc Cert.ModBwdRefIdeal.main_arg2) = m' ((c.tc : Thread Cert.ModBwdRefIdeal.nD Cert.ModBwdRefIdeal.τ).loc Cert.ModBwdRefIdeal.main_arg2)
          ∧ r.2.mem ((c.tc : Thread Cert.ModBwdRefIdeal.nD Cert.ModBwdRefIdeal.τ).loc Cert.ModBwdRefIdeal.main_arg3) = m' ((c.tc : Thread Cert.ModBwdRefIdeal.nD Cert.ModBwdRefIdeal.τ).loc Cert.ModBwdRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v21) = v0 c
          ∧ r.2.mem ((c.tc : Thread Cert.LossRefIdeal.nD Cert.LossRefIdeal.τ).loc Cert.LossRefIdeal.main_v25) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_arg1) = v0 c
          ∧ r.2.mem ((c.tc : Thread Cert.AdamOutRefIdeal.nD Cert.AdamOutRefIdeal.τ).loc Cert.AdamOutRefIdeal.main_v23) = v1 c
          ∧ r.2.mem ((c.tc : Thread Cert.AdamOutRefIdeal.nD Cert.AdamOutRefIdeal.τ).loc Cert.AdamOutRefIdeal.main_v4) = v2 c
          ∧ r.2.mem ((c.tc : Thread Cert.AdamOutRefIdeal.nD Cert.AdamOutRefIdeal.τ).loc Cert.AdamOutRefIdeal.main_v10) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_arg1) = v0 c
          ∧ r.2.mem ((c.tc : Thread Cert.AdamInRefIdeal.nD Cert.AdamInRefIdeal.τ).loc Cert.AdamInRefIdeal.main_v23) = v1 c
          ∧ r.2.mem ((c.tc : Thread Cert.AdamInRefIdeal.nD Cert.AdamInRefIdeal.τ).loc Cert.AdamInRefIdeal.main_v4) = v2 c
          ∧ r.2.mem ((c.tc : Thread Cert.AdamInRefIdeal.nD Cert.AdamInRefIdeal.τ).loc Cert.AdamInRefIdeal.main_v10) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamMod_AdamModIdeal : Prop :=
  True

def algebraic_AdamModIdeal_AdamModRefIdeal [hAdamModIdeal : Cert.AdamModIdeal.Facts] [hAdamModRefIdeal : Cert.AdamModRefIdeal.Facts] : Prop :=
  ∀ (m : (ℓ : Loc Cert.AdamModIdeal.nD Cert.AdamModIdeal.τ Cert.AdamModIdeal.sig) → Buf (Elt Ideal) ℓ) (g : Dev Cert.AdamModIdeal.nD → PrngReg)
    (m' : (ℓ : Loc Cert.AdamModRefIdeal.nD Cert.AdamModRefIdeal.τ Cert.AdamModRefIdeal.sig) → Buf (Elt Ideal) ℓ) (g' : Dev Cert.AdamModRefIdeal.nD → PrngReg), Pre_AdamModIdeal m →
    (∀ c : Dev Cert.AdamModIdeal.nD,
      m' ((c.tc : Thread Cert.AdamModRefIdeal.nD Cert.AdamModRefIdeal.τ).loc Cert.AdamModRefIdeal.main_arg0) = m ((c.tc : Thread Cert.AdamModIdeal.nD Cert.AdamModIdeal.τ).loc Cert.AdamModIdeal.main_arg0)
      ∧ m' ((c.tc : Thread Cert.AdamModRefIdeal.nD Cert.AdamModRefIdeal.τ).loc Cert.AdamModRefIdeal.main_arg1) = m ((c.tc : Thread Cert.AdamModIdeal.nD Cert.AdamModIdeal.τ).loc Cert.AdamModIdeal.main_arg1)
      ∧ m' ((c.tc : Thread Cert.AdamModRefIdeal.nD Cert.AdamModRefIdeal.τ).loc Cert.AdamModRefIdeal.main_arg2) = m ((c.tc : Thread Cert.AdamModIdeal.nD Cert.AdamModIdeal.τ).loc Cert.AdamModIdeal.main_arg2)
      ∧ m' ((c.tc : Thread Cert.AdamModRefIdeal.nD Cert.AdamModRefIdeal.τ).loc Cert.AdamModRefIdeal.main_arg3) = m ((c.tc : Thread Cert.AdamModIdeal.nD Cert.AdamModIdeal.τ).loc Cert.AdamModIdeal.main_arg3)) →
    ∃ (v0 : (c : Dev Cert.AdamModIdeal.nD) → Buf (Elt Ideal) ((c.tc : Thread Cert.AdamModIdeal.nD Cert.AdamModIdeal.τ).loc Cert.AdamModIdeal.main_v0_0)) (v1 : (c : Dev Cert.AdamModIdeal.nD) → Buf (Elt Ideal) ((c.tc : Thread Cert.AdamModIdeal.nD Cert.AdamModIdeal.τ).loc Cert.AdamModIdeal.main_v0_1)) (v2 : (c : Dev Cert.AdamModIdeal.nD) → Buf (Elt Ideal) ((c.tc : Thread Cert.AdamModIdeal.nD Cert.AdamModIdeal.τ).loc Cert.AdamModIdeal.main_v0_2)) (v3 : (c : Dev Cert.AdamModIdeal.nD) → Buf (Elt Ideal) ((c.tc : Thread Cert.AdamModIdeal.nD Cert.AdamModIdeal.τ).loc Cert.AdamModIdeal.main_v0_3)),
      θ_run (Cert.AdamModIdeal.defs (F := Ideal)) (onTc (τ := Cert.AdamModIdeal.τ) (Cert.AdamModIdeal.main (F := Ideal))) ⟨m, fun _ => 0, g⟩ (fun r => ∀ c : Dev Cert.AdamModIdeal.nD,
          r.2.mem ((c.tc : Thread Cert.AdamModIdeal.nD Cert.AdamModIdeal.τ).loc Cert.AdamModIdeal.main_v0_0) = v0 c
          ∧ r.2.mem ((c.tc : Thread Cert.AdamModIdeal.nD Cert.AdamModIdeal.τ).loc Cert.AdamModIdeal.main_v0_1) = v1 c
          ∧ r.2.mem ((c.tc : Thread Cert.AdamModIdeal.nD Cert.AdamModIdeal.τ).loc Cert.AdamModIdeal.main_v0_2) = v2 c
          ∧ r.2.mem ((c.tc : Thread Cert.AdamModIdeal.nD Cert.AdamModIdeal.τ).loc Cert.AdamModIdeal.main_v0_3) = v3 c
          ∧ r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
          ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
          ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
          ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ θ_run (Cert.AdamModRefIdeal.defs (F := Ideal)) (onTc (τ := Cert.AdamModRefIdeal.τ) (Cert.AdamModRefIdeal.main (F := Ideal))) ⟨m', fun _ => 0, g'⟩ (fun r => ∀ c : Dev Cert.AdamModRefIdeal.nD,
          r.2.mem ((c.tc : Thread Cert.AdamModRefIdeal.nD Cert.AdamModRefIdeal.τ).loc Cert.AdamModRefIdeal.main_arg1) = v0 c
          ∧ r.2.mem ((c.tc : Thread Cert.AdamModRefIdeal.nD Cert.AdamModRefIdeal.τ).loc Cert.AdamModRefIdeal.main_v23) = v1 c
          ∧ r.2.mem ((c.tc : Thread Cert.AdamModRefIdeal.nD Cert.AdamModRefIdeal.τ).loc Cert.AdamModRefIdeal.main_v4) = v2 c
          ∧ r.2.mem ((c.tc : Thread Cert.AdamModRefIdeal.nD Cert.AdamModRefIdeal.τ).loc Cert.AdamModRefIdeal.main_v10) = v3 c
          ∧ r.2.mem ((c.tc : Thread Cert.AdamModRefIdeal.nD Cert.AdamModRefIdeal.τ).loc Cert.AdamModRefIdeal.main_arg0) = m' ((c.tc : Thread Cert.AdamModRefIdeal.nD Cert.AdamModRefIdeal.τ).loc Cert.AdamModRefIdeal.main_arg0)
          ∧ r.2.mem ((c.tc : Thread Cert.AdamModRefIdeal.nD Cert.AdamModRefIdeal.τ).loc Cert.AdamModRefIdeal.main_arg1) = m' ((c.tc : Thread Cert.AdamModRefIdeal.nD Cert.AdamModRefIdeal.τ).loc Cert.AdamModRefIdeal.main_arg1)
          ∧ r.2.mem ((c.tc : Thread Cert.AdamModRefIdeal.nD Cert.AdamModRefIdeal.τ).loc Cert.AdamModRefIdeal.main_arg2) = m' ((c.tc : Thread Cert.AdamModRefIdeal.nD Cert.AdamModRefIdeal.τ).loc Cert.AdamModRefIdeal.main_arg2)
          ∧ r.2.mem ((c.tc : Thread Cert.AdamModRefIdeal.nD Cert.AdamModRefIdeal.τ).loc Cert.AdamModRefIdeal.main_arg3) = m' ((c.tc : Thread Cert.AdamModRefIdeal.nD Cert.AdamModRefIdeal.τ).loc Cert.AdamModRefIdeal.main_arg3))

def preserves_AdamBr_AdamBrIdeal : Prop :=
  True

def algebraic_AdamBrIdeal_AdamBrRefIdeal [hAdamBrIdeal : Cert.AdamBrIdeal.Facts] [hAdamBrRefIdeal : Cert.AdamBrRefIdeal.Facts] : Prop :=
  ∀ (m : (ℓ : Loc Cert.AdamBrIdeal.nD Cert.AdamBrIdeal.τ Cert.AdamBrIdeal.sig) → Buf (Elt Ideal) ℓ) (g : Dev Cert.AdamBrIdeal.nD → PrngReg)
    (m' : (ℓ : Loc Cert.AdamBrRefIdeal.nD Cert.AdamBrRefIdeal.τ Cert.AdamBrRefIdeal.sig) → Buf (Elt Ideal) ℓ) (g' : Dev Cert.AdamBrRefIdeal.nD → PrngReg), Pre_AdamBrIdeal m →
    (∀ c : Dev Cert.AdamBrIdeal.nD,
      m' ((c.tc : Thread Cert.AdamBrRefIdeal.nD Cert.AdamBrRefIdeal.τ).loc Cert.AdamBrRefIdeal.main_arg0) = m ((c.tc : Thread Cert.AdamBrIdeal.nD Cert.AdamBrIdeal.τ).loc Cert.AdamBrIdeal.main_arg0)
      ∧ m' ((c.tc : Thread Cert.AdamBrRefIdeal.nD Cert.AdamBrRefIdeal.τ).loc Cert.AdamBrRefIdeal.main_arg1) = m ((c.tc : Thread Cert.AdamBrIdeal.nD Cert.AdamBrIdeal.τ).loc Cert.AdamBrIdeal.main_arg1)
      ∧ m' ((c.tc : Thread Cert.AdamBrRefIdeal.nD Cert.AdamBrRefIdeal.τ).loc Cert.AdamBrRefIdeal.main_arg2) = m ((c.tc : Thread Cert.AdamBrIdeal.nD Cert.AdamBrIdeal.τ).loc Cert.AdamBrIdeal.main_arg2)
      ∧ m' ((c.tc : Thread Cert.AdamBrRefIdeal.nD Cert.AdamBrRefIdeal.τ).loc Cert.AdamBrRefIdeal.main_arg3) = m ((c.tc : Thread Cert.AdamBrIdeal.nD Cert.AdamBrIdeal.τ).loc Cert.AdamBrIdeal.main_arg3)) →
    ∃ (v0 : (c : Dev Cert.AdamBrIdeal.nD) → Buf (Elt Ideal) ((c.tc : Thread Cert.AdamBrIdeal.nD Cert.AdamBrIdeal.τ).loc Cert.AdamBrIdeal.main_v0_0)) (v1 : (c : Dev Cert.AdamBrIdeal.nD) → Buf (Elt Ideal) ((c.tc : Thread Cert.AdamBrIdeal.nD Cert.AdamBrIdeal.τ).loc Cert.AdamBrIdeal.main_v0_1)) (v2 : (c : Dev Cert.AdamBrIdeal.nD) → Buf (Elt Ideal) ((c.tc : Thread Cert.AdamBrIdeal.nD Cert.AdamBrIdeal.τ).loc Cert.AdamBrIdeal.main_v0_2)) (v3 : (c : Dev Cert.AdamBrIdeal.nD) → Buf (Elt Ideal) ((c.tc : Thread Cert.AdamBrIdeal.nD Cert.AdamBrIdeal.τ).loc Cert.AdamBrIdeal.main_v0_3)),
      θ_run (Cert.AdamBrIdeal.defs (F := Ideal)) (onTc (τ := Cert.AdamBrIdeal.τ) (Cert.AdamBrIdeal.main (F := Ideal))) ⟨m, fun _ => 0, g⟩ (fun r => ∀ c : Dev Cert.AdamBrIdeal.nD,
          r.2.mem ((c.tc : Thread Cert.AdamBrIdeal.nD Cert.AdamBrIdeal.τ).loc Cert.AdamBrIdeal.main_v0_0) = v0 c
          ∧ r.2.mem ((c.tc : Thread Cert.AdamBrIdeal.nD Cert.AdamBrIdeal.τ).loc Cert.AdamBrIdeal.main_v0_1) = v1 c
          ∧ r.2.mem ((c.tc : Thread Cert.AdamBrIdeal.nD Cert.AdamBrIdeal.τ).loc Cert.AdamBrIdeal.main_v0_2) = v2 c
          ∧ r.2.mem ((c.tc : Thread Cert.AdamBrIdeal.nD Cert.AdamBrIdeal.τ).loc Cert.AdamBrIdeal.main_v0_3) = v3 c
          ∧ r.2.mem ((c.tc : Thread Cert.AdamBrIdeal.nD Cert.AdamBrIdeal.τ).loc Cert.AdamBrIdeal.main_arg0) = m ((c.tc : Thread Cert.AdamBrIdeal.nD Cert.AdamBrIdeal.τ).loc Cert.AdamBrIdeal.main_arg0)
          ∧ r.2.mem ((c.tc : Thread Cert.AdamBrIdeal.nD Cert.AdamBrIdeal.τ).loc Cert.AdamBrIdeal.main_arg1) = m ((c.tc : Thread Cert.AdamBrIdeal.nD Cert.AdamBrIdeal.τ).loc Cert.AdamBrIdeal.main_arg1)
          ∧ r.2.mem ((c.tc : Thread Cert.AdamBrIdeal.nD Cert.AdamBrIdeal.τ).loc Cert.AdamBrIdeal.main_arg2) = m ((c.tc : Thread Cert.AdamBrIdeal.nD Cert.AdamBrIdeal.τ).loc Cert.AdamBrIdeal.main_arg2)
          ∧ r.2.mem ((c.tc : Thread Cert.AdamBrIdeal.nD Cert.AdamBrIdeal.τ).loc Cert.AdamBrIdeal.main_arg3) = m ((c.tc : Thread Cert.AdamBrIdeal.nD Cert.AdamBrIdeal.τ).loc Cert.AdamBrIdeal.main_arg3))
      ∧ θ_run (Cert.AdamBrRefIdeal.defs (F := Ideal)) (onTc (τ := Cert.AdamBrRefIdeal.τ) (Cert.AdamBrRefIdeal.main (F := Ideal))) ⟨m', fun _ => 0, g'⟩ (fun r => ∀ c : Dev Cert.AdamBrRefIdeal.nD,
          r.2.mem ((c.tc : Thread Cert.AdamBrRefIdeal.nD Cert.AdamBrRefIdeal.τ).loc Cert.AdamBrRefIdeal.main_arg1) = v0 c
          ∧ r.2.mem ((c.tc : Thread Cert.AdamBrRefIdeal.nD Cert.AdamBrRefIdeal.τ).loc Cert.AdamBrRefIdeal.main_v23) = v1 c
          ∧ r.2.mem ((c.tc : Thread Cert.AdamBrRefIdeal.nD Cert.AdamBrRefIdeal.τ).loc Cert.AdamBrRefIdeal.main_v4) = v2 c
          ∧ r.2.mem ((c.tc : Thread Cert.AdamBrRefIdeal.nD Cert.AdamBrRefIdeal.τ).loc Cert.AdamBrRefIdeal.main_v10) = v3 c
          ∧ r.2.mem ((c.tc : Thread Cert.AdamBrRefIdeal.nD Cert.AdamBrRefIdeal.τ).loc Cert.AdamBrRefIdeal.main_arg0) = m' ((c.tc : Thread Cert.AdamBrRefIdeal.nD Cert.AdamBrRefIdeal.τ).loc Cert.AdamBrRefIdeal.main_arg0)
          ∧ r.2.mem ((c.tc : Thread Cert.AdamBrRefIdeal.nD Cert.AdamBrRefIdeal.τ).loc Cert.AdamBrRefIdeal.main_arg1) = m' ((c.tc : Thread Cert.AdamBrRefIdeal.nD Cert.AdamBrRefIdeal.τ).loc Cert.AdamBrRefIdeal.main_arg1)
          ∧ r.2.mem ((c.tc : Thread Cert.AdamBrRefIdeal.nD Cert.AdamBrRefIdeal.τ).loc Cert.AdamBrRefIdeal.main_arg2) = m' ((c.tc : Thread Cert.AdamBrRefIdeal.nD Cert.AdamBrRefIdeal.τ).loc Cert.AdamBrRefIdeal.main_arg2)
          ∧ r.2.mem ((c.tc : Thread Cert.AdamBrRefIdeal.nD Cert.AdamBrRefIdeal.τ).loc Cert.AdamBrRefIdeal.main_arg3) = m' ((c.tc : Thread Cert.AdamBrRefIdeal.nD Cert.AdamBrRefIdeal.τ).loc Cert.AdamBrRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_arg1) = v0 c
          ∧ r.2.mem ((c.tc : Thread Cert.AdamSmallRefIdeal.nD Cert.AdamSmallRefIdeal.τ).loc Cert.AdamSmallRefIdeal.main_v23) = v1 c
          ∧ r.2.mem ((c.tc : Thread Cert.AdamSmallRefIdeal.nD Cert.AdamSmallRefIdeal.τ).loc Cert.AdamSmallRefIdeal.main_v4) = v2 c
          ∧ r.2.mem ((c.tc : Thread Cert.AdamSmallRefIdeal.nD Cert.AdamSmallRefIdeal.τ).loc Cert.AdamSmallRefIdeal.main_v10) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_PrepFwd_PrepFwdIdeal : Prop :=
  True

def algebraic_PrepFwdIdeal_PrepFwdRefIdeal [hPrepFwdIdeal : Cert.PrepFwdIdeal.Facts] [hPrepFwdRefIdeal : Cert.PrepFwdRefIdeal.Facts] : Prop :=
  ∀ (m : (ℓ : Loc Cert.PrepFwdIdeal.nD Cert.PrepFwdIdeal.τ Cert.PrepFwdIdeal.sig) → Buf (Elt Ideal) ℓ) (g : Dev Cert.PrepFwdIdeal.nD → PrngReg)
    (m' : (ℓ : Loc Cert.PrepFwdRefIdeal.nD Cert.PrepFwdRefIdeal.τ Cert.PrepFwdRefIdeal.sig) → Buf (Elt Ideal) ℓ) (g' : Dev Cert.PrepFwdRefIdeal.nD → PrngReg), Pre_PrepFwdIdeal m →
    (∀ c : Dev Cert.PrepFwdIdeal.nD,
      m' ((c.tc : Thread Cert.PrepFwdRefIdeal.nD Cert.PrepFwdRefIdeal.τ).loc Cert.PrepFwdRefIdeal.main_arg0) = m ((c.tc : Thread Cert.PrepFwdIdeal.nD Cert.PrepFwdIdeal.τ).loc Cert.PrepFwdIdeal.main_arg0)
      ∧ m' ((c.tc : Thread Cert.PrepFwdRefIdeal.nD Cert.PrepFwdRefIdeal.τ).loc Cert.PrepFwdRefIdeal.main_arg1) = m ((c.tc : Thread Cert.PrepFwdIdeal.nD Cert.PrepFwdIdeal.τ).loc Cert.PrepFwdIdeal.main_arg1)
      ∧ m' ((c.tc : Thread Cert.PrepFwdRefIdeal.nD Cert.PrepFwdRefIdeal.τ).loc Cert.PrepFwdRefIdeal.main_arg2) = m ((c.tc : Thread Cert.PrepFwdIdeal.nD Cert.PrepFwdIdeal.τ).loc Cert.PrepFwdIdeal.main_arg2)
      ∧ m' ((c.tc : Thread Cert.PrepFwdRefIdeal.nD Cert.PrepFwdRefIdeal.τ).loc Cert.PrepFwdRefIdeal.main_arg3) = m ((c.tc : Thread Cert.PrepFwdIdeal.nD Cert.PrepFwdIdeal.τ).loc Cert.PrepFwdIdeal.main_arg3)
      ∧ m' ((c.tc : Thread Cert.PrepFwdRefIdeal.nD Cert.PrepFwdRefIdeal.τ).loc Cert.PrepFwdRefIdeal.main_arg4) = m ((c.tc : Thread Cert.PrepFwdIdeal.nD Cert.PrepFwdIdeal.τ).loc Cert.PrepFwdIdeal.main_arg4)) →
    ∃ (v0 : (c : Dev Cert.PrepFwdIdeal.nD) → Buf (Elt Ideal) ((c.tc : Thread Cert.PrepFwdIdeal.nD Cert.PrepFwdIdeal.τ).loc Cert.PrepFwdIdeal.main_v18_0)) (v1 : (c : Dev Cert.PrepFwdIdeal.nD) → Buf (Elt Ideal) ((c.tc : Thread Cert.PrepFwdIdeal.nD Cert.PrepFwdIdeal.τ).loc Cert.PrepFwdIdeal.main_v18_1)) (v2 : (c : Dev Cert.PrepFwdIdeal.nD) → Buf (Elt Ideal) ((c.tc : Thread Cert.PrepFwdIdeal.nD Cert.PrepFwdIdeal.τ).loc Cert.PrepFwdIdeal.main_v18_2)),
      θ_run (Cert.PrepFwdIdeal.defs (F := Ideal)) (onTc (τ := Cert.PrepFwdIdeal.τ) (Cert.PrepFwdIdeal.main (F := Ideal))) ⟨m, fun _ => 0, g⟩ (fun r => ∀ c : Dev Cert.PrepFwdIdeal.nD,
          r.2.mem ((c.tc : Thread Cert.PrepFwdIdeal.nD Cert.PrepFwdIdeal.τ).loc Cert.PrepFwdIdeal.main_v18_0) = v0 c
          ∧ r.2.mem ((c.tc : Thread Cert.PrepFwdIdeal.nD Cert.PrepFwdIdeal.τ).loc Cert.PrepFwdIdeal.main_v18_1) = v1 c
          ∧ r.2.mem ((c.tc : Thread Cert.PrepFwdIdeal.nD Cert.PrepFwdIdeal.τ).loc Cert.PrepFwdIdeal.main_v18_2) = v2 c
          ∧ r.2.mem ((c.tc : Thread Cert.PrepFwdIdeal.nD Cert.PrepFwdIdeal.τ).loc Cert.PrepFwdIdeal.main_arg0) = m ((c.tc : Thread Cert.PrepFwdIdeal.nD Cert.PrepFwdIdeal.τ).loc Cert.PrepFwdIdeal.main_arg0)
          ∧ r.2.mem ((c.tc : Thread Cert.PrepFwdIdeal.nD Cert.PrepFwdIdeal.τ).loc Cert.PrepFwdIdeal.main_arg1) = m ((c.tc : Thread Cert.PrepFwdIdeal.nD Cert.PrepFwdIdeal.τ).loc Cert.PrepFwdIdeal.main_arg1)
          ∧ r.2.mem ((c.tc : Thread Cert.PrepFwdIdeal.nD Cert.PrepFwdIdeal.τ).loc Cert.PrepFwdIdeal.main_arg2) = m ((c.tc : Thread Cert.PrepFwdIdeal.nD Cert.PrepFwdIdeal.τ).loc Cert.PrepFwdIdeal.main_arg2)
          ∧ r.2.mem ((c.tc : Thread Cert.PrepFwdIdeal.nD Cert.PrepFwdIdeal.τ).loc Cert.PrepFwdIdeal.main_arg3) = m ((c.tc : Thread Cert.PrepFwdIdeal.nD Cert.PrepFwdIdeal.τ).loc Cert.PrepFwdIdeal.main_arg3)
          ∧ r.2.mem ((c.tc : Thread Cert.PrepFwdIdeal.nD Cert.PrepFwdIdeal.τ).loc Cert.PrepFwdIdeal.main_arg4) = m ((c.tc : Thread Cert.PrepFwdIdeal.nD Cert.PrepFwdIdeal.τ).loc Cert.PrepFwdIdeal.main_arg4))
      ∧ θ_run (Cert.PrepFwdRefIdeal.defs (F := Ideal)) (onTc (τ := Cert.PrepFwdRefIdeal.τ) (Cert.PrepFwdRefIdeal.main (F := Ideal))) ⟨m', fun _ => 0, g'⟩ (fun r => ∀ c : Dev Cert.PrepFwdRefIdeal.nD,
          r.2.mem ((c.tc : Thread Cert.PrepFwdRefIdeal.nD Cert.PrepFwdRefIdeal.τ).loc Cert.PrepFwdRefIdeal.main_v83) = v0 c
          ∧ r.2.mem ((c.tc : Thread Cert.PrepFwdRefIdeal.nD Cert.PrepFwdRefIdeal.τ).loc Cert.PrepFwdRefIdeal.main_v85) = v1 c
          ∧ r.2.mem ((c.tc : Thread Cert.PrepFwdRefIdeal.nD Cert.PrepFwdRefIdeal.τ).loc Cert.PrepFwdRefIdeal.main_v86) = v2 c
          ∧ r.2.mem ((c.tc : Thread Cert.PrepFwdRefIdeal.nD Cert.PrepFwdRefIdeal.τ).loc Cert.PrepFwdRefIdeal.main_arg0) = m' ((c.tc : Thread Cert.PrepFwdRefIdeal.nD Cert.PrepFwdRefIdeal.τ).loc Cert.PrepFwdRefIdeal.main_arg0)
          ∧ r.2.mem ((c.tc : Thread Cert.PrepFwdRefIdeal.nD Cert.PrepFwdRefIdeal.τ).loc Cert.PrepFwdRefIdeal.main_arg1) = m' ((c.tc : Thread Cert.PrepFwdRefIdeal.nD Cert.PrepFwdRefIdeal.τ).loc Cert.PrepFwdRefIdeal.main_arg1)
          ∧ r.2.mem ((c.tc : Thread Cert.PrepFwdRefIdeal.nD Cert.PrepFwdRefIdeal.τ).loc Cert.PrepFwdRefIdeal.main_arg2) = m' ((c.tc : Thread Cert.PrepFwdRefIdeal.nD Cert.PrepFwdRefIdeal.τ).loc Cert.PrepFwdRefIdeal.main_arg2)
          ∧ r.2.mem ((c.tc : Thread Cert.PrepFwdRefIdeal.nD Cert.PrepFwdRefIdeal.τ).loc Cert.PrepFwdRefIdeal.main_arg3) = m' ((c.tc : Thread Cert.PrepFwdRefIdeal.nD Cert.PrepFwdRefIdeal.τ).loc Cert.PrepFwdRefIdeal.main_arg3)
          ∧ r.2.mem ((c.tc : Thread Cert.PrepFwdRefIdeal.nD Cert.PrepFwdRefIdeal.τ).loc Cert.PrepFwdRefIdeal.main_arg4) = m' ((c.tc : Thread Cert.PrepFwdRefIdeal.nD Cert.PrepFwdRefIdeal.τ).loc Cert.PrepFwdRefIdeal.main_arg4))

def preserves_GlaSum_GlaSumIdeal : Prop :=
  True

def algebraic_GlaSumIdeal_GlaSumRefIdeal [hGlaSumIdeal : Cert.GlaSumIdeal.Facts] [hGlaSumRefIdeal : Cert.GlaSumRefIdeal.Facts] : Prop :=
  ∀ (m : (ℓ : Loc Cert.GlaSumIdeal.nD Cert.GlaSumIdeal.τ Cert.GlaSumIdeal.sig) → Buf (Elt Ideal) ℓ) (g : Dev Cert.GlaSumIdeal.nD → PrngReg)
    (m' : (ℓ : Loc Cert.GlaSumRefIdeal.nD Cert.GlaSumRefIdeal.τ Cert.GlaSumRefIdeal.sig) → Buf (Elt Ideal) ℓ) (g' : Dev Cert.GlaSumRefIdeal.nD → PrngReg), Pre_GlaSumIdeal m →
    (∀ c : Dev Cert.GlaSumIdeal.nD,
      m' ((c.tc : Thread Cert.GlaSumRefIdeal.nD Cert.GlaSumRefIdeal.τ).loc Cert.GlaSumRefIdeal.main_arg0) = m ((c.tc : Thread Cert.GlaSumIdeal.nD Cert.GlaSumIdeal.τ).loc Cert.GlaSumIdeal.main_arg0)
      ∧ m' ((c.tc : Thread Cert.GlaSumRefIdeal.nD Cert.GlaSumRefIdeal.τ).loc Cert.GlaSumRefIdeal.main_arg1) = m ((c.tc : Thread Cert.GlaSumIdeal.nD Cert.GlaSumIdeal.τ).loc Cert.GlaSumIdeal.main_arg1)) →
    ∃ (v0 : (c : Dev Cert.GlaSumIdeal.nD) → Buf (Elt Ideal) ((c.tc : Thread Cert.GlaSumIdeal.nD Cert.GlaSumIdeal.τ).loc Cert.GlaSumIdeal.main_v0)),
      θ_run (Cert.GlaSumIdeal.defs (F := Ideal)) (onTc (τ := Cert.GlaSumIdeal.τ) (Cert.GlaSumIdeal.main (F := Ideal))) ⟨m, fun _ => 0, g⟩ (fun r => ∀ c : Dev Cert.GlaSumIdeal.nD,
          r.2.mem ((c.tc : Thread Cert.GlaSumIdeal.nD Cert.GlaSumIdeal.τ).loc Cert.GlaSumIdeal.main_v0) = v0 c
          ∧ r.2.mem ((c.tc : Thread Cert.GlaSumIdeal.nD Cert.GlaSumIdeal.τ).loc Cert.GlaSumIdeal.main_arg0) = m ((c.tc : Thread Cert.GlaSumIdeal.nD Cert.GlaSumIdeal.τ).loc Cert.GlaSumIdeal.main_arg0)
          ∧ r.2.mem ((c.tc : Thread Cert.GlaSumIdeal.nD Cert.GlaSumIdeal.τ).loc Cert.GlaSumIdeal.main_arg1) = m ((c.tc : Thread Cert.GlaSumIdeal.nD Cert.GlaSumIdeal.τ).loc Cert.GlaSumIdeal.main_arg1))
      ∧ θ_run (Cert.GlaSumRefIdeal.defs (F := Ideal)) (onTc (τ := Cert.GlaSumRefIdeal.τ) (Cert.GlaSumRefIdeal.main (F := Ideal))) ⟨m', fun _ => 0, g'⟩ (fun r => ∀ c : Dev Cert.GlaSumRefIdeal.nD,
          r.2.mem ((c.tc : Thread Cert.GlaSumRefIdeal.nD Cert.GlaSumRefIdeal.τ).loc Cert.GlaSumRefIdeal.main_v1) = v0 c
          ∧ r.2.mem ((c.tc : Thread Cert.GlaSumRefIdeal.nD Cert.GlaSumRefIdeal.τ).loc Cert.GlaSumRefIdeal.main_arg0) = m' ((c.tc : Thread Cert.GlaSumRefIdeal.nD Cert.GlaSumRefIdeal.τ).loc Cert.GlaSumRefIdeal.main_arg0)
          ∧ r.2.mem ((c.tc : Thread Cert.GlaSumRefIdeal.nD Cert.GlaSumRefIdeal.τ).loc Cert.GlaSumRefIdeal.main_arg1) = m' ((c.tc : Thread Cert.GlaSumRefIdeal.nD Cert.GlaSumRefIdeal.τ).loc Cert.GlaSumRefIdeal.main_arg1))

def Claim : Prop :=
  ∃ (hKernel : Cert.Kernel.Facts) (hKernelIdeal : Cert.KernelIdeal.Facts) (hReferenceIdeal : Cert.ReferenceIdeal.Facts) (hDu : Cert.Du.Facts) (hDuIdeal : Cert.DuIdeal.Facts) (hDuRefIdeal : Cert.DuRefIdeal.Facts) (hDwpM : Cert.DwpM.Facts) (hDwpMIdeal : Cert.DwpMIdeal.Facts) (hDwpMRefIdeal : Cert.DwpMRefIdeal.Facts) (hDwpA : Cert.DwpA.Facts) (hDwpAIdeal : Cert.DwpAIdeal.Facts) (hDwpARefIdeal : Cert.DwpARefIdeal.Facts) (hDwpC : Cert.DwpC.Facts) (hDwpCIdeal : Cert.DwpCIdeal.Facts) (hDwpCRefIdeal : Cert.DwpCRefIdeal.Facts) (hDwpG : Cert.DwpG.Facts) (hDwpGIdeal : Cert.DwpGIdeal.Facts) (hDwpGRefIdeal : Cert.DwpGRefIdeal.Facts) (hDwbr : Cert.Dwbr.Facts) (hDwbrIdeal : Cert.DwbrIdeal.Facts) (hDwbrRefIdeal : Cert.DwbrRefIdeal.Facts) (hDwout : Cert.Dwout.Facts) (hDwoutIdeal : Cert.DwoutIdeal.Facts) (hDwoutRefIdeal : Cert.DwoutRefIdeal.Facts) (hProjM : Cert.ProjM.Facts) (hProjMIdeal : Cert.ProjMIdeal.Facts) (hProjMRefIdeal : Cert.ProjMRefIdeal.Facts) (hProjA : Cert.ProjA.Facts) (hProjAIdeal : Cert.ProjAIdeal.Facts) (hProjARefIdeal : Cert.ProjARefIdeal.Facts) (hProjC : Cert.ProjC.Facts) (hProjCIdeal : Cert.ProjCIdeal.Facts) (hProjCRefIdeal : Cert.ProjCRefIdeal.Facts) (hProjG : Cert.ProjG.Facts) (hProjGIdeal : Cert.ProjGIdeal.Facts) (hProjGRefIdeal : Cert.ProjGRefIdeal.Facts) (hAttnFwd : Cert.AttnFwd.Facts) (hAttnFwdIdeal : Cert.AttnFwdIdeal.Facts) (hAttnFwdRefIdeal : Cert.AttnFwdRefIdeal.Facts) (hLnFwd : Cert.LnFwd.Facts) (hLnFwdIdeal : Cert.LnFwdIdeal.Facts) (hLnFwdRefIdeal : Cert.LnFwdRefIdeal.Facts) (hLnBwd : Cert.LnBwd.Facts) (hLnBwdIdeal : Cert.LnBwdIdeal.Facts) (hLnBwdRefIdeal : Cert.LnBwdRefIdeal.Facts) (hMergeFwd : Cert.MergeFwd.Facts) (hMergeFwdIdeal : Cert.MergeFwdIdeal.Facts) (hMergeFwdRefIdeal : Cert.MergeFwdRefIdeal.Facts) (hModFwd : Cert.ModFwd.Facts) (hModFwdIdeal : Cert.ModFwdIdeal.Facts) (hModFwdRefIdeal : Cert.ModFwdRefIdeal.Facts) (hModBwd : Cert.ModBwd.Facts) (hModBwdIdeal : Cert.ModBwdIdeal.Facts) (hModBwdRefIdeal : Cert.ModBwdRefIdeal.Facts) (hLoss : Cert.Loss.Facts) (hLossIdeal : Cert.LossIdeal.Facts) (hLossRefIdeal : Cert.LossRefIdeal.Facts) (hAdamOut : Cert.AdamOut.Facts) (hAdamOutIdeal : Cert.AdamOutIdeal.Facts) (hAdamOutRefIdeal : Cert.AdamOutRefIdeal.Facts) (hAdamIn : Cert.AdamIn.Facts) (hAdamInIdeal : Cert.AdamInIdeal.Facts) (hAdamInRefIdeal : Cert.AdamInRefIdeal.Facts) (hAdamMod : Cert.AdamMod.Facts) (hAdamModIdeal : Cert.AdamModIdeal.Facts) (hAdamModRefIdeal : Cert.AdamModRefIdeal.Facts) (hAdamBr : Cert.AdamBr.Facts) (hAdamBrIdeal : Cert.AdamBrIdeal.Facts) (hAdamBrRefIdeal : Cert.AdamBrRefIdeal.Facts) (hAdamSmall : Cert.AdamSmall.Facts) (hAdamSmallIdeal : Cert.AdamSmallIdeal.Facts) (hAdamSmallRefIdeal : Cert.AdamSmallRefIdeal.Facts) (hPrepFwd : Cert.PrepFwd.Facts) (hPrepFwdIdeal : Cert.PrepFwdIdeal.Facts) (hPrepFwdRefIdeal : Cert.PrepFwdRefIdeal.Facts) (hGlaSum : Cert.GlaSum.Facts) (hGlaSumIdeal : Cert.GlaSumIdeal.Facts) (hGlaSumRefIdeal : Cert.GlaSumRefIdeal.Facts) (hPre_finite_qk : Cert.Pre_finite_qk.Facts) (hPre_finite_qk_fwd : Cert.Pre_finite_qk_fwd.Facts) (hPre_finite_ln : Cert.Pre_finite_ln.Facts) (hPre_finite_mod : Cert.Pre_finite_mod.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Du (hDu := hDu)
    ∧ quiescent_DuIdeal (hDuIdeal := hDuIdeal)
    ∧ quiescent_DuRefIdeal (hDuRefIdeal := hDuRefIdeal)
    ∧ quiescent_DwpM (hDwpM := hDwpM)
    ∧ quiescent_DwpMIdeal (hDwpMIdeal := hDwpMIdeal)
    ∧ quiescent_DwpMRefIdeal (hDwpMRefIdeal := hDwpMRefIdeal)
    ∧ quiescent_DwpA (hDwpA := hDwpA)
    ∧ quiescent_DwpAIdeal (hDwpAIdeal := hDwpAIdeal)
    ∧ quiescent_DwpARefIdeal (hDwpARefIdeal := hDwpARefIdeal)
    ∧ quiescent_DwpC (hDwpC := hDwpC)
    ∧ quiescent_DwpCIdeal (hDwpCIdeal := hDwpCIdeal)
    ∧ quiescent_DwpCRefIdeal (hDwpCRefIdeal := hDwpCRefIdeal)
    ∧ quiescent_DwpG (hDwpG := hDwpG)
    ∧ quiescent_DwpGIdeal (hDwpGIdeal := hDwpGIdeal)
    ∧ quiescent_DwpGRefIdeal (hDwpGRefIdeal := hDwpGRefIdeal)
    ∧ quiescent_Dwbr (hDwbr := hDwbr)
    ∧ quiescent_DwbrIdeal (hDwbrIdeal := hDwbrIdeal)
    ∧ quiescent_DwbrRefIdeal (hDwbrRefIdeal := hDwbrRefIdeal)
    ∧ quiescent_Dwout (hDwout := hDwout)
    ∧ quiescent_DwoutIdeal (hDwoutIdeal := hDwoutIdeal)
    ∧ quiescent_DwoutRefIdeal (hDwoutRefIdeal := hDwoutRefIdeal)
    ∧ quiescent_ProjM (hProjM := hProjM)
    ∧ quiescent_ProjMIdeal (hProjMIdeal := hProjMIdeal)
    ∧ quiescent_ProjMRefIdeal (hProjMRefIdeal := hProjMRefIdeal)
    ∧ quiescent_ProjA (hProjA := hProjA)
    ∧ quiescent_ProjAIdeal (hProjAIdeal := hProjAIdeal)
    ∧ quiescent_ProjARefIdeal (hProjARefIdeal := hProjARefIdeal)
    ∧ quiescent_ProjC (hProjC := hProjC)
    ∧ quiescent_ProjCIdeal (hProjCIdeal := hProjCIdeal)
    ∧ quiescent_ProjCRefIdeal (hProjCRefIdeal := hProjCRefIdeal)
    ∧ quiescent_ProjG (hProjG := hProjG)
    ∧ quiescent_ProjGIdeal (hProjGIdeal := hProjGIdeal)
    ∧ quiescent_ProjGRefIdeal (hProjGRefIdeal := hProjGRefIdeal)
    ∧ quiescent_AttnFwd (hAttnFwd := hAttnFwd)
    ∧ quiescent_AttnFwdIdeal (hAttnFwdIdeal := hAttnFwdIdeal)
    ∧ quiescent_AttnFwdIdeal_pre_finite_qk_fwd (hAttnFwdIdeal := hAttnFwdIdeal) (hPre_finite_qk_fwd := hPre_finite_qk_fwd)
    ∧ quiescent_AttnFwdRefIdeal (hAttnFwdRefIdeal := hAttnFwdRefIdeal)
    ∧ quiescent_AttnFwdRefIdeal_pre_finite_qk_fwd (hAttnFwdRefIdeal := hAttnFwdRefIdeal) (hPre_finite_qk_fwd := hPre_finite_qk_fwd)
    ∧ quiescent_LnFwd (hLnFwd := hLnFwd)
    ∧ quiescent_LnFwdIdeal (hLnFwdIdeal := hLnFwdIdeal)
    ∧ quiescent_LnFwdRefIdeal (hLnFwdRefIdeal := hLnFwdRefIdeal)
    ∧ quiescent_LnBwd (hLnBwd := hLnBwd)
    ∧ quiescent_LnBwdIdeal (hLnBwdIdeal := hLnBwdIdeal)
    ∧ quiescent_LnBwdIdeal_pre_finite_ln (hLnBwdIdeal := hLnBwdIdeal) (hPre_finite_ln := hPre_finite_ln)
    ∧ quiescent_LnBwdRefIdeal (hLnBwdRefIdeal := hLnBwdRefIdeal)
    ∧ quiescent_LnBwdRefIdeal_pre_finite_ln (hLnBwdRefIdeal := hLnBwdRefIdeal) (hPre_finite_ln := hPre_finite_ln)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_ModFwd (hModFwd := hModFwd)
    ∧ quiescent_ModFwdIdeal (hModFwdIdeal := hModFwdIdeal)
    ∧ quiescent_ModFwdRefIdeal (hModFwdRefIdeal := hModFwdRefIdeal)
    ∧ quiescent_ModBwd (hModBwd := hModBwd)
    ∧ quiescent_ModBwdIdeal (hModBwdIdeal := hModBwdIdeal)
    ∧ quiescent_ModBwdIdeal_pre_finite_mod (hModBwdIdeal := hModBwdIdeal) (hPre_finite_mod := hPre_finite_mod)
    ∧ quiescent_ModBwdRefIdeal (hModBwdRefIdeal := hModBwdRefIdeal)
    ∧ quiescent_ModBwdRefIdeal_pre_finite_mod (hModBwdRefIdeal := hModBwdRefIdeal) (hPre_finite_mod := hPre_finite_mod)
    ∧ quiescent_Loss (hLoss := hLoss)
    ∧ quiescent_LossIdeal (hLossIdeal := hLossIdeal)
    ∧ quiescent_LossRefIdeal (hLossRefIdeal := hLossRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamMod (hAdamMod := hAdamMod)
    ∧ quiescent_AdamModIdeal (hAdamModIdeal := hAdamModIdeal)
    ∧ quiescent_AdamModRefIdeal (hAdamModRefIdeal := hAdamModRefIdeal)
    ∧ quiescent_AdamBr (hAdamBr := hAdamBr)
    ∧ quiescent_AdamBrIdeal (hAdamBrIdeal := hAdamBrIdeal)
    ∧ quiescent_AdamBrRefIdeal (hAdamBrRefIdeal := hAdamBrRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_PrepFwd (hPrepFwd := hPrepFwd)
    ∧ quiescent_PrepFwdIdeal (hPrepFwdIdeal := hPrepFwdIdeal)
    ∧ quiescent_PrepFwdRefIdeal (hPrepFwdRefIdeal := hPrepFwdRefIdeal)
    ∧ quiescent_GlaSum (hGlaSum := hGlaSum)
    ∧ quiescent_GlaSumIdeal (hGlaSumIdeal := hGlaSumIdeal)
    ∧ quiescent_GlaSumRefIdeal (hGlaSumRefIdeal := hGlaSumRefIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Du_DuIdeal
    ∧ algebraic_DuIdeal_DuRefIdeal (hDuIdeal := hDuIdeal) (hDuRefIdeal := hDuRefIdeal)
    ∧ preserves_DwpM_DwpMIdeal
    ∧ algebraic_DwpMIdeal_DwpMRefIdeal (hDwpMIdeal := hDwpMIdeal) (hDwpMRefIdeal := hDwpMRefIdeal)
    ∧ preserves_DwpA_DwpAIdeal
    ∧ algebraic_DwpAIdeal_DwpARefIdeal (hDwpAIdeal := hDwpAIdeal) (hDwpARefIdeal := hDwpARefIdeal)
    ∧ preserves_DwpC_DwpCIdeal
    ∧ algebraic_DwpCIdeal_DwpCRefIdeal (hDwpCIdeal := hDwpCIdeal) (hDwpCRefIdeal := hDwpCRefIdeal)
    ∧ preserves_DwpG_DwpGIdeal
    ∧ algebraic_DwpGIdeal_DwpGRefIdeal (hDwpGIdeal := hDwpGIdeal) (hDwpGRefIdeal := hDwpGRefIdeal)
    ∧ preserves_Dwbr_DwbrIdeal
    ∧ algebraic_DwbrIdeal_DwbrRefIdeal (hDwbrIdeal := hDwbrIdeal) (hDwbrRefIdeal := hDwbrRefIdeal)
    ∧ preserves_Dwout_DwoutIdeal
    ∧ algebraic_DwoutIdeal_DwoutRefIdeal (hDwoutIdeal := hDwoutIdeal) (hDwoutRefIdeal := hDwoutRefIdeal)
    ∧ preserves_ProjM_ProjMIdeal
    ∧ algebraic_ProjMIdeal_ProjMRefIdeal (hProjMIdeal := hProjMIdeal) (hProjMRefIdeal := hProjMRefIdeal)
    ∧ preserves_ProjA_ProjAIdeal
    ∧ algebraic_ProjAIdeal_ProjARefIdeal (hProjAIdeal := hProjAIdeal) (hProjARefIdeal := hProjARefIdeal)
    ∧ preserves_ProjC_ProjCIdeal
    ∧ algebraic_ProjCIdeal_ProjCRefIdeal (hProjCIdeal := hProjCIdeal) (hProjCRefIdeal := hProjCRefIdeal)
    ∧ preserves_ProjG_ProjGIdeal
    ∧ algebraic_ProjGIdeal_ProjGRefIdeal (hProjGIdeal := hProjGIdeal) (hProjGRefIdeal := hProjGRefIdeal)
    ∧ preserves_AttnFwd_AttnFwdIdeal
    ∧ algebraic_AttnFwdIdeal_AttnFwdRefIdeal_pre_finite_qk_fwd (hAttnFwdIdeal := hAttnFwdIdeal) (hAttnFwdRefIdeal := hAttnFwdRefIdeal) (hPre_finite_qk_fwd := hPre_finite_qk_fwd)
    ∧ preserves_LnFwd_LnFwdIdeal
    ∧ algebraic_LnFwdIdeal_LnFwdRefIdeal (hLnFwdIdeal := hLnFwdIdeal) (hLnFwdRefIdeal := hLnFwdRefIdeal)
    ∧ preserves_LnBwd_LnBwdIdeal
    ∧ algebraic_LnBwdIdeal_LnBwdRefIdeal_pre_finite_ln (hLnBwdIdeal := hLnBwdIdeal) (hLnBwdRefIdeal := hLnBwdRefIdeal) (hPre_finite_ln := hPre_finite_ln)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_ModFwd_ModFwdIdeal
    ∧ algebraic_ModFwdIdeal_ModFwdRefIdeal (hModFwdIdeal := hModFwdIdeal) (hModFwdRefIdeal := hModFwdRefIdeal)
    ∧ preserves_ModBwd_ModBwdIdeal
    ∧ algebraic_ModBwdIdeal_ModBwdRefIdeal_pre_finite_mod (hModBwdIdeal := hModBwdIdeal) (hModBwdRefIdeal := hModBwdRefIdeal) (hPre_finite_mod := hPre_finite_mod)
    ∧ preserves_Loss_LossIdeal
    ∧ algebraic_LossIdeal_LossRefIdeal (hLossIdeal := hLossIdeal) (hLossRefIdeal := hLossRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamIn_AdamInIdeal
    ∧ algebraic_AdamInIdeal_AdamInRefIdeal (hAdamInIdeal := hAdamInIdeal) (hAdamInRefIdeal := hAdamInRefIdeal)
    ∧ preserves_AdamMod_AdamModIdeal
    ∧ algebraic_AdamModIdeal_AdamModRefIdeal (hAdamModIdeal := hAdamModIdeal) (hAdamModRefIdeal := hAdamModRefIdeal)
    ∧ preserves_AdamBr_AdamBrIdeal
    ∧ algebraic_AdamBrIdeal_AdamBrRefIdeal (hAdamBrIdeal := hAdamBrIdeal) (hAdamBrRefIdeal := hAdamBrRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_PrepFwd_PrepFwdIdeal
    ∧ algebraic_PrepFwdIdeal_PrepFwdRefIdeal (hPrepFwdIdeal := hPrepFwdIdeal) (hPrepFwdRefIdeal := hPrepFwdRefIdeal)
    ∧ preserves_GlaSum_GlaSumIdeal
    ∧ algebraic_GlaSumIdeal_GlaSumRefIdeal (hGlaSumIdeal := hGlaSumIdeal) (hGlaSumRefIdeal := hGlaSumRefIdeal)
-- ==== Pre_finite_ln.lean ====
abbrev S2304x1024 : Shape := ⟨2, ![2304, 1024]⟩
abbrev S8x3072 : Shape := ⟨2, ![8, 3072]⟩
abbrev S_ : Shape := ⟨0, ![]⟩

class Facts : Prop where
  bcast_S_S2304x1024 : S_.BroadcastsInDim S2304x1024 (![] : Fin 0 → Fin S2304x1024.rank)
  bcast_S_S8x3072 : S_.BroadcastsInDim S8x3072 (![] : Fin 0 → Fin S8x3072.rank)

variable [Facts]

def fn {F : FTy → Type} [FloatOps F] (main_arg0 : FVec F S2304x1024 .f32) (main_arg1 : FVec F S2304x1024 .f32) (main_arg2 : FVec F S2304x1024 .f32) (main_arg3 : FVec F S8x3072 .f32) : IVec S2304x1024 1 × IVec S2304x1024 1 × IVec S8x3072 1 :=
  let main_v0 : FVec F S2304x1024 .f32 := Host.absf main_arg0
  let main_cst : FVec F S_ .f32 := constant S_ .f32 0x7F800000#32
  let main_v1 : FVec F S2304x1024 .f32 := broadcastInDim S2304x1024 ![] bcast_S_S2304x1024 main_cst
  let main_v2 : IVec S2304x1024 1 := cmpf .olt main_v0 main_v1
  let main_v3 : FVec F S2304x1024 .f32 := Host.absf main_arg1
  let main_cst_0 : FVec F S_ .f32 := constant S_ .f32 0x7F800000#32
  let main_v4 : FVec F S2304x1024 .f32 := broadcastInDim S2304x1024 ![] bcast_S_S2304x1024 main_cst_0
  let main_v5 : IVec S2304x1024 1 := cmpf .olt main_v3 main_v4
  let main_v6 : FVec F S8x3072 .f32 := Host.absf main_arg3
  let main_cst_1 : FVec F S_ .f32 := constant S_ .f32 0x7F800000#32
  let main_v7 : FVec F S8x3072 .f32 := broadcastInDim S8x3072 ![] bcast_S_S8x3072 main_cst_1
  let main_v8 : IVec S8x3072 1 := cmpf .olt main_v6 main_v7
  (main_v2, main_v5, main_v8)
-- ==== Pre_finite_mod.lean ====
abbrev S8x1024 : Shape := ⟨2, ![8, 1024]⟩
abbrev S4x1024x768 : Shape := ⟨3, ![4, 1024, 768]⟩
abbrev S2x8x3072 : Shape := ⟨3, ![2, 8, 3072]⟩
abbrev S_ : Shape := ⟨0, ![]⟩

class Facts : Prop where
  bcast_S_S8x1024 : S_.BroadcastsInDim S8x1024 (![] : Fin 0 → Fin S8x1024.rank)
  bitsLt_bf16_f32 : FTy.bits .bf16 < FTy.bits .f32
  bcast_S_S4x1024x768 : S_.BroadcastsInDim S4x1024x768 (![] : Fin 0 → Fin S4x1024x768.rank)
  bcast_S_S2x8x3072 : S_.BroadcastsInDim S2x8x3072 (![] : Fin 0 → Fin S2x8x3072.rank)

variable [Facts]

def fn {F : FTy → Type} [FloatOps F] (main_arg0 : FVec F S8x1024 .f32) (main_arg1 : FVec F S4x1024x768 .bf16) (main_arg2 : FVec F S4x1024x768 .bf16) (main_arg3 : FVec F S2x8x3072 .f32) : IVec S8x1024 1 × IVec S4x1024x768 1 × IVec S4x1024x768 1 × IVec S2x8x3072 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_v3 : FVec F S4x1024x768 .f32 := (extf .f32 · bitsLt_bf16_f32) main_arg1
  let main_v4 : FVec F S4x1024x768 .f32 := Host.absf main_v3
  let main_cst_0 : FVec F S_ .f32 := constant S_ .f32 0x7F800000#32
  let main_v5 : FVec F S4x1024x768 .f32 := broadcastInDim S4x1024x768 ![] bcast_S_S4x1024x768 main_cst_0
  let main_v6 : IVec S4x1024x768 1 := cmpf .olt main_v4 main_v5
  let main_v7 : FVec F S4x1024x768 .f32 := (extf .f32 · bitsLt_bf16_f32) main_arg2
  let main_v8 : FVec F S4x1024x768 .f32 := Host.absf main_v7
  let main_cst_1 : FVec F S_ .f32 := constant S_ .f32 0x7F800000#32
  let main_v9 : FVec F S4x1024x768 .f32 := broadcastInDim S4x1024x768 ![] bcast_S_S4x1024x768 main_cst_1
  let main_v10 : IVec S4x1024x768 1 := cmpf .olt main_v8 main_v9
  let main_v11 : FVec F S2x8x3072 .f32 := Host.absf main_arg3
  let main_cst_2 : FVec F S_ .f32 := constant S_ .f32 0x7F800000#32
  let main_v12 : FVec F S2x8x3072 .f32 := broadcastInDim S2x8x3072 ![] bcast_S_S2x8x3072 main_cst_2
  let main_v13 : IVec S2x8x3072 1 := cmpf .olt main_v11 main_v12
  (main_v2, main_v6, main_v10, main_v13)
-- ==== Pre_finite_qk.lean ====
abbrev S2304x512 : Shape := ⟨2, ![2304, 512]⟩
abbrev S2304x256 : Shape := ⟨2, ![2304, 256]⟩
abbrev S_ : Shape := ⟨0, ![]⟩

class Facts : Prop where
  bitsLt_bf16_f32 : FTy.bits .bf16 < FTy.bits .f32
  bcast_S_S2304x512 : S_.BroadcastsInDim S2304x512 (![] : Fin 0 → Fin S2304x512.rank)
  bcast_S_S2304x256 : S_.BroadcastsInDim S2304x256 (![] : Fin 0 → Fin S2304x256.rank)

variable [Facts]

def fn {F : FTy → Type} [FloatOps F] (main_arg0 : FVec F S2304x512 .bf16) (main_arg1 : FVec F S2304x256 .bf16) (main_arg2 : FVec F S2304x256 .bf16) (main_arg3 : FVec F S2304x512 .f32) : IVec S2304x512 1 × IVec S2304x256 1 :=
  let main_v0 : FVec F S2304x512 .f32 := (extf .f32 · bitsLt_bf16_f32) main_arg0
  let main_v1 : FVec F S2304x512 .f32 := Host.absf main_v0
  let main_cst : FVec F S_ .f32 := constant S_ .f32 0x7F800000#32
  let main_v2 : FVec F S2304x512 .f32 := broadcastInDim S2304x512 ![] bcast_S_S2304x512 main_cst
  let main_v3 : IVec S2304x512 1 := cmpf .olt main_v1 main_v2
  let main_v4 : FVec F S2304x256 .f32 := (extf .f32 · bitsLt_bf16_f32) main_arg1
  let main_v5 : FVec F S2304x256 .f32 := Host.absf main_v4
  let main_cst_0 : FVec F S_ .f32 := constant S_ .f32 0x7F800000#32
  let main_v6 : FVec F S2304x256 .f32 := broadcastInDim S2304x256 ![] bcast_S_S2304x256 main_cst_0
  let main_v7 : IVec S2304x256 1 := cmpf .olt main_v5 main_v6
  (main_v3, main_v7)
-- ==== Pre_finite_qk_fwd.lean ====
abbrev S2304x512 : Shape := ⟨2, ![2304, 512]⟩
abbrev S2304x256 : Shape := ⟨2, ![2304, 256]⟩
abbrev S_ : Shape := ⟨0, ![]⟩

class Facts : Prop where
  bitsLt_bf16_f32 : FTy.bits .bf16 < FTy.bits .f32
  bcast_S_S2304x512 : S_.BroadcastsInDim S2304x512 (![] : Fin 0 → Fin S2304x512.rank)
  bcast_S_S2304x256 : S_.BroadcastsInDim S2304x256 (![] : Fin 0 → Fin S2304x256.rank)

variable [Facts]

def fn {F : FTy → Type} [FloatOps F] (main_arg0 : FVec F S2304x512 .bf16) (main_arg1 : FVec F S2304x256 .bf16) (main_arg2 : FVec F S2304x256 .bf16) : IVec S2304x512 1 × IVec S2304x256 1 :=
  let main_v0 : FVec F S2304x512 .f32 := (extf .f32 · bitsLt_bf16_f32) main_arg0
  let main_v1 : FVec F S2304x512 .f32 := Host.absf main_v0
  let main_cst : FVec F S_ .f32 := constant S_ .f32 0x7F800000#32
  let main_v2 : FVec F S2304x512 .f32 := broadcastInDim S2304x512 ![] bcast_S_S2304x512 main_cst
  let main_v3 : IVec S2304x512 1 := cmpf .olt main_v1 main_v2
  let main_v4 : FVec F S2304x256 .f32 := (extf .f32 · bitsLt_bf16_f32) main_arg1
  let main_v5 : FVec F S2304x256 .f32 := Host.absf main_v4
  let main_cst_0 : FVec F S_ .f32 := constant S_ .f32 0x7F800000#32
  let main_v6 : FVec F S2304x256 .f32 := broadcastInDim S2304x256 ![] bcast_S_S2304x256 main_cst_0
  let main_v7 : IVec S2304x256 1 := cmpf .olt main_v5 main_v6
  (main_v3, main_v7)
-- ==== Kernel.lean ====
abbrev S2304x512 : Shape := ⟨2, ![2304, 512]⟩
abbrev S2304x256 : Shape := ⟨2, ![2304, 256]⟩
abbrev S256x128 : Shape := ⟨2, ![256, 128]⟩
abbrev S2304x128 : Shape := ⟨2, ![2304, 128]⟩
abbrev S1x2304 : Shape := ⟨2, ![1, 2304]⟩
abbrev S256x2304 : Shape := ⟨2, ![256, 2304]⟩
abbrev S256 : Shape := ⟨1, ![256]⟩
abbrev S256x1 : Shape := ⟨2, ![256, 1]⟩

abbrev nBuf : Space → Nat
  | .hbm => 7
  | .vmem => 14
  | .smem => 0
  | _ => 0

abbrev bufTy : (tb : Table) → Fin (tcTables nBuf tb) → BufTy
  | .hbm, ⟨0, _⟩ => ⟨S2304x512, .bf16⟩
  | .hbm, ⟨1, _⟩ => ⟨S2304x256, .bf16⟩
  | .hbm, ⟨2, _⟩ => ⟨S2304x256, .bf16⟩
  | .hbm, ⟨3, _⟩ => ⟨S2304x512, .f32⟩
  | .hbm, ⟨4, _⟩ => ⟨S2304x512, .f32⟩
  | .hbm, ⟨5, _⟩ => ⟨S2304x256, .f32⟩
  | .hbm, ⟨6, _⟩ => ⟨S2304x256, .f32⟩
  | .local _ .vmem, ⟨0, _⟩ => ⟨S256x128, .bf16⟩
  | .local _ .vmem, ⟨1, _⟩ => ⟨S256x128, .bf16⟩
  | .local _ .vmem, ⟨2, _⟩ => ⟨S2304x128, .bf16⟩
  | .local _ .vmem, ⟨3, _⟩ => ⟨S2304x128, .bf16⟩
  | .local _ .vmem, ⟨4, _⟩ => ⟨S2304x128, .bf16⟩
  | .local _ .vmem, ⟨5, _⟩ => ⟨S2304x128, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S2304x128, .f32⟩
  | .local _ .vmem, ⟨11, _⟩ => ⟨S2304x128, .f32⟩
  | .local _ .vmem, ⟨12, _⟩ => ⟨S2304x128, .f32⟩
  | .local _ .vmem, ⟨13, _⟩ => ⟨S2304x128, .f32⟩
  | _, _ => ⟨S2304x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 2, 9], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v66 : BitVec 32 := Scalar.extui v2
  let c0_i32_26 : BitVec 32 := 0#32
  let v67 : BitVec 1 := Scalar.cmpi .ne v66 c0_i32_26
  v67

def k0_cond2 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v_true : BitVec 1 := 1#1
  let v68 : BitVec 1 := Scalar.xori v2 v_true
  let v69 : BitVec 32 := Scalar.extui v68
  let c0_i32_27 : BitVec 32 := 0#32
  let v70 : BitVec 1 := Scalar.cmpi .ne v69 c0_i32_27
  v70

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg1
  let c0_i32 : BitVec 32 := 0#32
  ![arg2.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg1
  let c0_i32 : BitVec 32 := 0#32
  ![arg2.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg1
  let c0_i32 : BitVec 32 := 0#32
  ![arg2.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S2304x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S2304x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== KernelIdeal.lean ====
variable {F : FTy → Type} [FloatOps F] [Named F]
def κ : String → Option EReal := fun
  | "mask" => some ⊥
  | _ => none
-- ==== ReferenceIdeal.lean ====
abbrev S2304x512 : Shape := ⟨2, ![2304, 512]⟩
abbrev S2304x256 : Shape := ⟨2, ![2304, 256]⟩
abbrev S2304x2x2x128 : Shape := ⟨4, ![2304, 2, 2, 128]⟩
abbrev S2x2x2304x128 : Shape := ⟨4, ![2, 2, 2304, 128]⟩
abbrev S2304x2x128 : Shape := ⟨3, ![2304, 2, 128]⟩
abbrev S2x2304x128 : Shape := ⟨3, ![2, 2304, 128]⟩
abbrev S2x2x256x128 : Shape := ⟨4, ![2, 2, 256, 128]⟩
abbrev S2x256x128 : Shape := ⟨3, ![2, 256, 128]⟩
abbrev S2x2x256x256 : Shape := ⟨4, ![2, 2, 256, 256]⟩
abbrev S_ : Shape := ⟨0, ![]⟩
abbrev S2x2x256 : Shape := ⟨3, ![2, 2, 256]⟩
abbrev S2x2x256x1 : Shape := ⟨4, ![2, 2, 256, 1]⟩
abbrev S2x2x2048x128 : Shape := ⟨4, ![2, 2, 2048, 128]⟩
abbrev S2x2x2048x2304 : Shape := ⟨4, ![2, 2, 2048, 2304]⟩
abbrev S2x2x2048 : Shape := ⟨3, ![2, 2, 2048]⟩
abbrev S2x2x2048x1 : Shape := ⟨4, ![2, 2, 2048, 1]⟩
abbrev S2x128x2304 : Shape := ⟨3, ![2, 128, 2304]⟩
abbrev S2x128x256 : Shape := ⟨3, ![2, 128, 256]⟩

abbrev nBuf : Space → Nat
  | .hbm => 159
  | .vmem => 0
  | .smem => 0
  | _ => 0

abbrev hbmTy0_0 (i : Nat) : BufTy := match i % 128 with
  | 0 => ⟨S2304x512, .bf16⟩
  | 1 => ⟨S2304x256, .bf16⟩
  | 2 => ⟨S2304x256, .bf16⟩
  | 3 => ⟨S2304x512, .f32⟩
  | 4 => ⟨S2304x512, .f32⟩
  | 5 => ⟨S2304x256, .f32⟩
  | 6 => ⟨S2304x256, .f32⟩
  | 7 => ⟨S2304x2x2x128, .f32⟩
  | 8 => ⟨S2x2x2304x128, .f32⟩
  | 9 => ⟨S2304x2x128, .f32⟩
  | 10 => ⟨S2x2304x128, .f32⟩
  | 11 => ⟨S2304x2x128, .f32⟩
  | 12 => ⟨S2x2304x128, .f32⟩
  | 13 => ⟨S2x2x256x128, .f32⟩
  | 14 => ⟨S2x256x128, .f32⟩
  | 15 => ⟨S2x256x128, .f32⟩
  | 16 => ⟨S2x2x256x256, .f32⟩
  | 17 => ⟨S_, .f32⟩
  | 18 => ⟨S2x2x256, .f32⟩
  | 19 => ⟨S2x2x256x1, .f32⟩
  | 20 => ⟨S2x2x256x256, .f32⟩
  | 21 => ⟨S2x2x256x256, .i1⟩
  | 22 => ⟨S2x2x256x256, .f32⟩
  | 23 => ⟨S_, .f32⟩
  | 24 => ⟨S2x2x256, .f32⟩
  | 25 => ⟨S_, .f32⟩
  | 26 => ⟨S2x2x256, .f32⟩
  | 27 => ⟨S2x2x256, .f32⟩
  | 28 => ⟨S_, .f32⟩
  | 29 => ⟨S2x2x256, .f32⟩
  | 30 => ⟨S2x2x256, .i1⟩
  | 31 => ⟨S_, .f32⟩
  | 32 => ⟨S2x2x256, .f32⟩
  | 33 => ⟨S2x2x256, .i1⟩
  | 34 => ⟨S_, .f32⟩
  | 35 => ⟨S2x2x256, .f32⟩
  | 36 => ⟨S_, .f32⟩
  | 37 => ⟨S2x2x256, .f32⟩
  | 38 => ⟨S_, .f32⟩
  | 39 => ⟨S2x2x256, .f32⟩
  | 40 => ⟨S2x2x256, .f32⟩
  | 41 => ⟨S2x2x256, .f32⟩
  | 42 => ⟨S2x2x256x1, .f32⟩
  | 43 => ⟨S2x2x256x256, .f32⟩
  | 44 => ⟨S2x2x256x256, .f32⟩
  | 45 => ⟨S2x2x256x256, .f32⟩
  | 46 => ⟨S_, .f32⟩
  | 47 => ⟨S2x2x256, .f32⟩
  | 48 => ⟨S2x2x256x1, .f32⟩
  | 49 => ⟨S2x2x256x256, .f32⟩
  | 50 => ⟨S2x2x256x256, .f32⟩
  | 51 => ⟨S2x2x256x1, .f32⟩
  | 52 => ⟨S_, .f32⟩
  | 53 => ⟨S2x2x256x1, .f32⟩
  | 54 => ⟨S2x2x256x1, .f32⟩
  | 55 => ⟨S2x2x256x128, .f32⟩
  | 56 => ⟨S2x2x2048x128, .f32⟩
  | 57 => ⟨S2x2x2048x2304, .f32⟩
  | 58 => ⟨S_, .f32⟩
  | 59 => ⟨S2x2x2048, .f32⟩
  | 60 => ⟨S2x2x2048x1, .f32⟩
  | 61 => ⟨S2x2x2048x2304, .f32⟩
  | 62 => ⟨S2x2x2048x2304, .i1⟩
  | 63 => ⟨S2x2x2048x2304, .f32⟩
  | 64 => ⟨S_, .f32⟩
  | 65 => ⟨S2x2x2048, .f32⟩
  | 66 => ⟨S_, .f32⟩
  | 67 => ⟨S2x2x2048, .f32⟩
  | 68 => ⟨S2x2x2048, .f32⟩
  | 69 => ⟨S_, .f32⟩
  | 70 => ⟨S2x2x2048, .f32⟩
  | 71 => ⟨S2x2x2048, .i1⟩
  | 72 => ⟨S_, .f32⟩
  | 73 => ⟨S2x2x2048, .f32⟩
  | 74 => ⟨S2x2x2048, .i1⟩
  | 75 => ⟨S_, .f32⟩
  | 76 => ⟨S2x2x2048, .f32⟩
  | 77 => ⟨S_, .f32⟩
  | 78 => ⟨S2x2x2048, .f32⟩
  | 79 => ⟨S_, .f32⟩
  | 80 => ⟨S2x2x2048, .f32⟩
  | 81 => ⟨S2x2x2048, .f32⟩
  | 82 => ⟨S2x2x2048, .f32⟩
  | 83 => ⟨S2x2x2048x1, .f32⟩
  | 84 => ⟨S2x2x2048x2304, .f32⟩
  | 85 => ⟨S2x2x2048x2304, .f32⟩
  | 86 => ⟨S2x2x2048x2304, .f32⟩
  | 87 => ⟨S_, .f32⟩
  | 88 => ⟨S2x2x2048, .f32⟩
  | 89 => ⟨S2x2x2048x1, .f32⟩
  | 90 => ⟨S2x2x2048x2304, .f32⟩
  | 91 => ⟨S2x2x2048x2304, .f32⟩
  | 92 => ⟨S2x2x2048x1, .f32⟩
  | 93 => ⟨S_, .f32⟩
  | 94 => ⟨S2x2x2048x1, .f32⟩
  | 95 => ⟨S2x2x2048x1, .f32⟩
  | 96 => ⟨S2x2x2048x128, .f32⟩
  | 97 => ⟨S2x2x2304x128, .f32⟩
  | 98 => ⟨S2304x2x2x128, .f32⟩
  | 99 => ⟨S2304x512, .f32⟩
  | 100 => ⟨S2304x2x2x128, .f32⟩
  | 101 => ⟨S2x2x2304x128, .f32⟩
  | 102 => ⟨S2x2x256x128, .f32⟩
  | 103 => ⟨S2x2x2048x128, .f32⟩
  | 104 => ⟨S2x128x2304, .f32⟩
  | 105 => ⟨S2x2304x128, .f32⟩
  | 106 => ⟨S2x2x2048x2304, .f32⟩
  | 107 => ⟨S2x2x2048x2304, .f32⟩
  | 108 => ⟨S2x2x2048x2304, .f32⟩
  | 109 => ⟨S2x2x2048x2304, .f32⟩
  | 110 => ⟨S_, .f32⟩
  | 111 => ⟨S2x2x2048, .f32⟩
  | 112 => ⟨S2x2x2048x1, .f32⟩
  | 113 => ⟨S2x2x2048x1, .f32⟩
  | 114 => ⟨S2x2x2048x2304, .f32⟩
  | 115 => ⟨S2x2x2048x2304, .f32⟩
  | 116 => ⟨S_, .f32⟩
  | 117 => ⟨S2x2x2048, .f32⟩
  | 118 => ⟨S2x2x2048x2304, .f32⟩
  | 119 => ⟨S2x2x2048x2304, .f32⟩
  | 120 => ⟨S2x2x2048x2304, .f32⟩
  | 121 => ⟨S2x2304x128, .f32⟩
  | 122 => ⟨S2x2x2048x128, .f32⟩
  | 123 => ⟨S_, .f32⟩
  | 124 => ⟨S2x2x2304x128, .f32⟩
  | 125 => ⟨S2x128x256, .f32⟩
  | 126 => ⟨S2x256x128, .f32⟩
  | 127 => ⟨S2x2x256x256, .f32⟩
  | _ => ⟨S2304x512, .bf16⟩

abbrev hbmTy0_1 (i : Nat) : BufTy := match i % 128 with
  | 0 => ⟨S2x2x256x256, .f32⟩
  | 1 => ⟨S2x2x256x256, .f32⟩
  | 2 => ⟨S2x2x256x256, .f32⟩
  | 3 => ⟨S_, .f32⟩
  | 4 => ⟨S2x2x256, .f32⟩
  | 5 => ⟨S2x2x256x1, .f32⟩
  | 6 => ⟨S2x2x256x1, .f32⟩
  | 7 => ⟨S2x2x256x256, .f32⟩
  | 8 => ⟨S2x2x256x256, .f32⟩
  | 9 => ⟨S_, .f32⟩
  | 10 => ⟨S2x2x256, .f32⟩
  | 11 => ⟨S2x2x256x256, .f32⟩
  | 12 => ⟨S2x2x256x256, .f32⟩
  | 13 => ⟨S2x2x256x256, .f32⟩
  | 14 => ⟨S2x256x128, .f32⟩
  | 15 => ⟨S2x2x256x128, .f32⟩
  | 16 => ⟨S_, .f32⟩
  | 17 => ⟨S2x2304x128, .f32⟩
  | 18 => ⟨S2x2304x128, .f32⟩
  | 19 => ⟨S_, .f32⟩
  | 20 => ⟨S2x2304x128, .f32⟩
  | 21 => ⟨S2x2304x128, .f32⟩
  | 22 => ⟨S_, .f32⟩
  | 23 => ⟨S2x2x2304x128, .f32⟩
  | 24 => ⟨S2x2x2304x128, .f32⟩
  | 25 => ⟨S2304x2x128, .f32⟩
  | 26 => ⟨S2304x256, .f32⟩
  | 27 => ⟨S2304x2x128, .f32⟩
  | 28 => ⟨S2304x256, .f32⟩
  | 29 => ⟨S2304x2x2x128, .f32⟩
  | 30 => ⟨S2304x512, .f32⟩
  | _ => ⟨S2304x512, .bf16⟩

abbrev hbmTy (i : Nat) : BufTy := match i / 128 with
  | 0 => hbmTy0_0 i
  | 1 => hbmTy0_1 i
  | _ => ⟨S2304x512, .bf16⟩

abbrev bufTy : (tb : Table) → Fin (tcTables nBuf tb) → BufTy
  | .hbm, ⟨i, _⟩ => hbmTy i
  | _, _ => ⟨S2304x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_8 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_9 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_cst_12 : Ref sig .tc := ⟨.hbm, 69, rfl⟩
abbrev main_v52 : Ref sig .tc := ⟨.hbm, 70, rfl⟩
abbrev main_v53 : Ref sig .tc := ⟨.hbm, 71, rfl⟩
abbrev main_cst_13 : Ref sig .tc := ⟨.hbm, 72, rfl⟩
abbrev main_v54 : Ref sig .tc := ⟨.hbm, 73, rfl⟩
abbrev main_v55 : Ref sig .tc := ⟨.hbm, 74, rfl⟩
abbrev main_cst_14 : Ref sig .tc := ⟨.hbm, 75, rfl⟩
abbrev main_v56 : Ref sig .tc := ⟨.hbm, 76, rfl⟩
abbrev main_cst_15 : Ref sig .tc := ⟨.hbm, 77, rfl⟩
abbrev main_v57 : Ref sig .tc := ⟨.hbm, 78, rfl⟩
abbrev main_cst_16 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_17 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_18 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_19 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_20 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_cst_21 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_cst_22 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_cst_23 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_cst_24 : Ref sig .tc := ⟨.hbm, 144, rfl⟩
abbrev main_v115 : Ref sig .tc := ⟨.hbm, 145, rfl⟩
abbrev main_v116 : Ref sig .tc := ⟨.hbm, 146, rfl⟩
abbrev main_cst_25 : Ref sig .tc := ⟨.hbm, 147, rfl⟩
abbrev main_v117 : Ref sig .tc := ⟨.hbm, 148, rfl⟩
abbrev main_v118 : Ref sig .tc := ⟨.hbm, 149, rfl⟩
abbrev main_cst_26 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩

abbrev nD : Nat := 1
abbrev τ : Topo := Topo.v7x

variable {F : FTy → Type} [FloatOps F]
-- ==== Du.lean ====
abbrev S2304x6144 : Shape := ⟨2, ![2304, 6144]⟩
abbrev S2304x1024 : Shape := ⟨2, ![2304, 1024]⟩
abbrev S5x2304x512 : Shape := ⟨3, ![5, 2304, 512]⟩
abbrev S2304x1152 : Shape := ⟨2, ![2304, 1152]⟩
abbrev S6144x1024 : Shape := ⟨2, ![6144, 1024]⟩
abbrev S1024x1024 : Shape := ⟨2, ![1024, 1024]⟩
abbrev S2560x1024 : Shape := ⟨2, ![2560, 1024]⟩
abbrev S1152x1024 : Shape := ⟨2, ![1152, 1024]⟩
abbrev S768x2048 : Shape := ⟨2, ![768, 2048]⟩
abbrev S768x1024 : Shape := ⟨2, ![768, 1024]⟩
abbrev S1x768x512 : Shape := ⟨3, ![1, 768, 512]⟩
abbrev S768x1152 : Shape := ⟨2, ![768, 1152]⟩
abbrev S2048x1024 : Shape := ⟨2, ![2048, 1024]⟩
abbrev S512x1024 : Shape := ⟨2, ![512, 1024]⟩
abbrev S768x512 : Shape := ⟨2, ![768, 512]⟩

abbrev nBuf : Space → Nat
  | .hbm => 9
  | .vmem => 19
  | .smem => 0
  | _ => 0

abbrev bufTy : (tb : Table) → Fin (tcTables nBuf tb) → BufTy
  | .hbm, ⟨0, _⟩ => ⟨S2304x6144, .bf16⟩
  | .hbm, ⟨1, _⟩ => ⟨S2304x1024, .bf16⟩
  | .hbm, ⟨2, _⟩ => ⟨S5x2304x512, .bf16⟩
  | .hbm, ⟨3, _⟩ => ⟨S2304x1152, .bf16⟩
  | .hbm, ⟨4, _⟩ => ⟨S6144x1024, .bf16⟩
  | .hbm, ⟨5, _⟩ => ⟨S1024x1024, .bf16⟩
  | .hbm, ⟨6, _⟩ => ⟨S2560x1024, .bf16⟩
  | .hbm, ⟨7, _⟩ => ⟨S1152x1024, .bf16⟩
  | .hbm, ⟨8, _⟩ => ⟨S2304x1024, .f32⟩
  | .local _ .vmem, ⟨0, _⟩ => ⟨S768x2048, .bf16⟩
  | .local _ .vmem, ⟨1, _⟩ => ⟨S768x2048, .bf16⟩
  | .local _ .vmem, ⟨2, _⟩ => ⟨S768x1024, .bf16⟩
  | .local _ .vmem, ⟨3, _⟩ => ⟨S768x1024, .bf16⟩
  | .local _ .vmem, ⟨4, _⟩ => ⟨S1x768x512, .bf16⟩
  | .local _ .vmem, ⟨5, _⟩ => ⟨S1x768x512, .bf16⟩
  | .local _ .vmem, ⟨6, _⟩ => ⟨S768x1152, .bf16⟩
  | .local _ .vmem, ⟨7, _⟩ => ⟨S768x1152, .bf16⟩
  | .local _ .vmem, ⟨8, _⟩ => ⟨S2048x1024, .bf16⟩
  | .local _ .vmem, ⟨9, _⟩ => ⟨S2048x1024, .bf16⟩
  | .local _ .vmem, ⟨10, _⟩ => ⟨S1024x1024, .bf16⟩
  | .local _ .vmem, ⟨11, _⟩ => ⟨S1024x1024, .bf16⟩
  | .local _ .vmem, ⟨12, _⟩ => ⟨S512x1024, .bf16⟩
  | .local _ .vmem, ⟨13, _⟩ => ⟨S512x1024, .bf16⟩
  | .local _ .vmem, ⟨14, _⟩ => ⟨S1152x1024, .bf16⟩
  | .local _ .vmem, ⟨15, _⟩ => ⟨S1152x1024, .bf16⟩
  | .local _ .vmem, ⟨16, _⟩ => ⟨S768x1024, .f32⟩
  | .local _ .vmem, ⟨17, _⟩ => ⟨S768x1024, .f32⟩
  | .local _ .vmem, ⟨18, _⟩ => ⟨S768x1024, .f32⟩
  | _, _ => ⟨S2304x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![3, 10], ![false, false]⟩

def k0_cond6 (i : grid0.Coords) : BitVec 1 :=
  let arg1 : BitVec 32 := BitVec.ofNat 32 (i 1).val
  let c9_i32_9 : BitVec 32 := 9#32
  let v23 : BitVec 1 := Scalar.cmpi .eq arg1 c9_i32_9
  let v24 : BitVec 32 := Scalar.extui v23
  let c0_i32_10 : BitVec 32 := 0#32
  let v25 : BitVec 1 := Scalar.cmpi .ne v24 c0_i32_10
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c4_i32_0 : BitVec 32 := 4#32
  let v1 : BitVec 32 := Scalar.maxsi c0_i32 v0
  let v2 : BitVec 32 := Scalar.minsi c4_i32_0 v1
  let c0_i32_1 : BitVec 32 := 0#32
  let c0_i32_2 : BitVec 32 := 0#32
  ![v2.toNat, arg0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  let c0_i32_2 : BitVec 32 := 0#32
  ![v2.toNat, c0_i32_1.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, c0_i32_1.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c4_i32_0 : BitVec 32 := 4#32
  let v1 : BitVec 32 := Scalar.maxsi c0_i32 v0
  let v2 : BitVec 32 := Scalar.minsi c4_i32_0 v1
  let c0_i32_1 : BitVec 32 := 0#32
  let c0_i32_2 : BitVec 32 := 0#32
  ![v2.toNat, c0_i32_1.toNat]

def cc0_transform_7 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x768x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S768x1152 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1152x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S768x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== DuRefIdeal.lean ====
abbrev S2304x6144 : Shape := ⟨2, ![2304, 6144]⟩
abbrev S2304x1024 : Shape := ⟨2, ![2304, 1024]⟩
abbrev S5x2304x512 : Shape := ⟨3, ![5, 2304, 512]⟩
abbrev S2304x1152 : Shape := ⟨2, ![2304, 1152]⟩
abbrev S6144x1024 : Shape := ⟨2, ![6144, 1024]⟩
abbrev S1024x1024 : Shape := ⟨2, ![1024, 1024]⟩
abbrev S2560x1024 : Shape := ⟨2, ![2560, 1024]⟩
abbrev S1152x1024 : Shape := ⟨2, ![1152, 1024]⟩
abbrev S_ : Shape := ⟨0, ![]⟩
abbrev S1024x6144 : Shape := ⟨2, ![1024, 6144]⟩
abbrev S1024x2560 : Shape := ⟨2, ![1024, 2560]⟩
abbrev S2304x2560 : Shape := ⟨2, ![2304, 2560]⟩
abbrev S2304x5x512 : Shape := ⟨3, ![2304, 5, 512]⟩
abbrev S1024x1152 : Shape := ⟨2, ![1024, 1152]⟩

abbrev nBuf : Space → Nat
  | .hbm => 37
  | .vmem => 0
  | .smem => 0
  | _ => 0

abbrev bufTy : (tb : Table) → Fin (tcTables nBuf tb) → BufTy
  | .hbm, ⟨0, _⟩ => ⟨S2304x6144, .bf16⟩
  | .hbm, ⟨1, _⟩ => ⟨S2304x1024, .bf16⟩
  | .hbm, ⟨2, _⟩ => ⟨S5x2304x512, .bf16⟩
  | .hbm, ⟨3, _⟩ => ⟨S2304x1152, .bf16⟩
  | .hbm, ⟨4, _⟩ => ⟨S6144x1024, .bf16⟩
  | .hbm, ⟨5, _⟩ => ⟨S1024x1024, .bf16⟩
  | .hbm, ⟨6, _⟩ => ⟨S2560x1024, .bf16⟩
  | .hbm, ⟨7, _⟩ => ⟨S1152x1024, .bf16⟩
  | .hbm, ⟨8, _⟩ => ⟨S6144x1024, .f32⟩
  | .hbm, ⟨9, _⟩ => ⟨S1024x1024, .f32⟩
  | .hbm, ⟨10, _⟩ => ⟨S2560x1024, .f32⟩
  | .hbm, ⟨11, _⟩ => ⟨S1152x1024, .f32⟩
  | .hbm, ⟨12, _⟩ => ⟨S_, .f32⟩
  | .hbm, ⟨13, _⟩ => ⟨S2304x1024, .f32⟩
  | .hbm, ⟨14, _⟩ => ⟨S1024x6144, .f32⟩
  | .hbm, ⟨15, _⟩ => ⟨S2304x6144, .f32⟩
  | .hbm, ⟨16, _⟩ => ⟨S1024x1024, .f32⟩
  | .hbm, ⟨17, _⟩ => ⟨S2304x1024, .f32⟩
  | .hbm, ⟨18, _⟩ => ⟨S1024x2560, .f32⟩
  | .hbm, ⟨19, _⟩ => ⟨S2304x2560, .f32⟩
  | .hbm, ⟨20, _⟩ => ⟨S2304x5x512, .f32⟩
  | .hbm, ⟨21, _⟩ => ⟨S5x2304x512, .f32⟩
  | .hbm, ⟨22, _⟩ => ⟨S1024x1152, .f32⟩
  | .hbm, ⟨23, _⟩ => ⟨S2304x1152, .f32⟩
  | .hbm, ⟨24, _⟩ => ⟨S2304x6144, .f32⟩
  | .hbm, ⟨25, _⟩ => ⟨S2304x1024, .f32⟩
  | .hbm, ⟨26, _⟩ => ⟨S5x2304x512, .f32⟩
  | .hbm, ⟨27, _⟩ => ⟨S2304x1152, .f32⟩
  | .hbm, ⟨28, _⟩ => ⟨S2304x1024, .f32⟩
  | .hbm, ⟨29, _⟩ => ⟨S2304x5x512, .f32⟩
  | .hbm, ⟨30, _⟩ => ⟨S2304x2560, .f32⟩
  | .hbm, ⟨31, _⟩ => ⟨S2304x1024, .f32⟩
  | .hbm, ⟨32, _⟩ => ⟨S2304x1024, .f32⟩
  | .hbm, ⟨33, _⟩ => ⟨S2304x1024, .f32⟩
  | .hbm, ⟨34, _⟩ => ⟨S2304x1024, .f32⟩
  | .hbm, ⟨35, _⟩ => ⟨S2304x1024, .f32⟩
  | .hbm, ⟨36, _⟩ => ⟨S2304x1024, .f32⟩
  | _, _ => ⟨S2304x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== DwpM.lean ====
abbrev S2304x6144 : Shape := ⟨2, ![2304, 6144]⟩
abbrev S2304x1024 : Shape := ⟨2, ![2304, 1024]⟩
abbrev S6144x1024 : Shape := ⟨2, ![6144, 1024]⟩
abbrev S2304x768 : Shape := ⟨2, ![2304, 768]⟩
abbrev S768x1024 : Shape := ⟨2, ![768, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2304x6144, .bf16⟩
  | .hbm, ⟨1, _⟩ => ⟨S2304x1024, .bf16⟩
  | .hbm, ⟨2, _⟩ => ⟨S6144x1024, .bf16⟩
  | .local _ .vmem, ⟨0, _⟩ => ⟨S2304x768, .bf16⟩
  | .local _ .vmem, ⟨1, _⟩ => ⟨S2304x768, .bf16⟩
  | .local _ .vmem, ⟨2, _⟩ => ⟨S2304x1024, .bf16⟩
  | .local _ .vmem, ⟨3, _⟩ => ⟨S768x1024, .bf16⟩
  | .local _ .vmem, ⟨4, _⟩ => ⟨S768x1024, .bf16⟩
  | .local _ .vmem, ⟨5, _⟩ => ⟨S768x1024, .f32⟩
  | _, _ => ⟨S2304x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2304x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2304x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwpMIdeal.lean ====
abbrev S2304x6144 : Shape := ⟨2, ![2304, 6144]⟩
abbrev S2304x1024 : Shape := ⟨2, ![2304, 1024]⟩
abbrev S6144x1024 : Shape := ⟨2, ![6144, 1024]⟩
abbrev S2304x768 : Shape := ⟨2, ![2304, 768]⟩
abbrev S768x1024 : Shape := ⟨2, ![768, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2304x6144, .bf16⟩
  | .hbm, ⟨1, _⟩ => ⟨S2304x1024, .bf16⟩
  | .hbm, ⟨2, _⟩ => ⟨S6144x1024, .bf16⟩
  | .local _ .vmem, ⟨0, _⟩ => ⟨S2304x768, .bf16⟩
  | .local _ .vmem, ⟨1, _⟩ => ⟨S2304x768, .bf16⟩
  | .local _ .vmem, ⟨2, _⟩ => ⟨S2304x1024, .bf16⟩
  | .local _ .vmem, ⟨3, _⟩ => ⟨S768x1024, .bf16⟩
  | .local _ .vmem, ⟨4, _⟩ => ⟨S768x1024, .bf16⟩
  | .local _ .vmem, ⟨5, _⟩ => ⟨S768x1024, .f32⟩
  | _, _ => ⟨S2304x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2304x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2304x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwpMRefIdeal.lean ====
abbrev S2304x6144 : Shape := ⟨2, ![2304, 6144]⟩
abbrev S2304x1024 : Shape := ⟨2, ![2304, 1024]⟩
abbrev S_ : Shape := ⟨0, ![]⟩
abbrev S6144x1024 : Shape := ⟨2, ![6144, 1024]⟩
abbrev S1024x6144 : Shape := ⟨2, ![1024, 6144]⟩

abbrev nBuf : Space → Nat
  | .hbm => 12
  | .vmem => 0
  | .smem => 0
  | _ => 0

abbrev bufTy : (tb : Table) → Fin (tcTables nBuf tb) → BufTy
  | .hbm, ⟨0, _⟩ => ⟨S2304x6144, .bf16⟩
  | .hbm, ⟨1, _⟩ => ⟨S2304x1024, .bf16⟩
  | .hbm, ⟨2, _⟩ => ⟨S_, .f32⟩
  | .hbm, ⟨3, _⟩ => ⟨S6144x1024, .f32⟩
  | .hbm, ⟨4, _⟩ => ⟨S2304x1024, .f32⟩
  | .hbm, ⟨5, _⟩ => ⟨S1024x6144, .f32⟩
  | .hbm, ⟨6, _⟩ => ⟨S2304x6144, .f32⟩
  | .hbm, ⟨7, _⟩ => ⟨S2304x6144, .f32⟩
  | .hbm, ⟨8, _⟩ => ⟨S6144x1024, .f32⟩
  | .hbm, ⟨9, _⟩ => ⟨S1024x6144, .f32⟩
  | .hbm, ⟨10, _⟩ => ⟨S6144x1024, .f32⟩
  | .hbm, ⟨11, _⟩ => ⟨S6144x1024, .bf16⟩
  | _, _ => ⟨S2304x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DwpA.lean ====
abbrev S2304x1024 : Shape := ⟨2, ![2304, 1024]⟩
abbrev S1024x1024 : Shape := ⟨2, ![1024, 1024]⟩

abbrev nBuf : Space → Nat
  | .hbm => 3
  | .vmem => 4
  | .smem => 0
  | _ => 0

abbrev bufTy : (tb : Table) → Fin (tcTables nBuf tb) → BufTy
  | .hbm, ⟨0, _⟩ => ⟨S2304x1024, .bf16⟩
  | .hbm, ⟨1, _⟩ => ⟨S2304x1024, .bf16⟩
  | .hbm, ⟨2, _⟩ => ⟨S1024x1024, .bf16⟩
  | .local _ .vmem, ⟨0, _⟩ => ⟨S2304x1024, .bf16⟩
  | .local _ .vmem, ⟨1, _⟩ => ⟨S2304x1024, .bf16⟩
  | .local _ .vmem, ⟨2, _⟩ => ⟨S1024x1024, .bf16⟩
  | .local _ .vmem, ⟨3, _⟩ => ⟨S1024x1024, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S2304x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 1 → Memref sig .tc .vmem S2304x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwpAIdeal.lean ====
abbrev S2304x1024 : Shape := ⟨2, ![2304, 1024]⟩
abbrev S1024x1024 : Shape := ⟨2, ![1024, 1024]⟩

abbrev nBuf : Space → Nat
  | .hbm => 3
  | .vmem => 4
  | .smem => 0
  | _ => 0

abbrev bufTy : (tb : Table) → Fin (tcTables nBuf tb) → BufTy
  | .hbm, ⟨0, _⟩ => ⟨S2304x1024, .bf16⟩
  | .hbm, ⟨1, _⟩ => ⟨S2304x1024, .bf16⟩
  | .hbm, ⟨2, _⟩ => ⟨S1024x1024, .bf16⟩
  | .local _ .vmem, ⟨0, _⟩ => ⟨S2304x1024, .bf16⟩
  | .local _ .vmem, ⟨1, _⟩ => ⟨S2304x1024, .bf16⟩
  | .local _ .vmem, ⟨2, _⟩ => ⟨S1024x1024, .bf16⟩
  | .local _ .vmem, ⟨3, _⟩ => ⟨S1024x1024, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S2304x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 1 → Memref sig .tc .vmem S2304x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwpARefIdeal.lean ====
abbrev S2304x1024 : Shape := ⟨2, ![2304, 1024]⟩
abbrev S_ : Shape := ⟨0, ![]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S2304x1024, .bf16⟩
  | .hbm, ⟨2, _⟩ => ⟨S_, .f32⟩
  | .hbm, ⟨3, _⟩ => ⟨S1024x1024, .f32⟩
  | .hbm, ⟨4, _⟩ => ⟨S2304x1024, .f32⟩
  | .hbm, ⟨5, _⟩ => ⟨S1024x1024, .f32⟩
  | .hbm, ⟨6, _⟩ => ⟨S2304x1024, .f32⟩
  | .hbm, ⟨7, _⟩ => ⟨S2304x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DwpC.lean ====
abbrev S5x2304x512 : Shape := ⟨3, ![5, 2304, 512]⟩
abbrev S2304x1024 : Shape := ⟨2, ![2304, 1024]⟩
abbrev S2560x1024 : Shape := ⟨2, ![2560, 1024]⟩
abbrev S1x2304x512 : Shape := ⟨3, ![1, 2304, 512]⟩
abbrev S512x1024 : Shape := ⟨2, ![512, 1024]⟩
abbrev S2304x512 : Shape := ⟨2, ![2304, 512]⟩

abbrev nBuf : Space → Nat
  | .hbm => 3
  | .vmem => 6
  | .smem => 0
  | _ => 0

abbrev bufTy : (tb : Table) → Fin (tcTables nBuf tb) → BufTy
  | .hbm, ⟨0, _⟩ => ⟨S5x2304x512, .bf16⟩
  | .hbm, ⟨1, _⟩ => ⟨S2304x1024, .bf16⟩
  | .hbm, ⟨2, _⟩ => ⟨S2560x1024, .bf16⟩
  | .local _ .vmem, ⟨0, _⟩ => ⟨S1x2304x512, .bf16⟩
  | .local _ .vmem, ⟨1, _⟩ => ⟨S1x2304x512, .bf16⟩
  | .local _ .vmem, ⟨2, _⟩ => ⟨S2304x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | _, _ => ⟨S5x2304x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 5, 1], ![false, false, false]⟩

def k0_cond3 (i : grid0.Coords) : BitVec 1 :=
  let arg2 : BitVec 32 := BitVec.ofNat 32 (i 2).val
  let c0_i32_7 : BitVec 32 := 0#32
  let v10 : BitVec 1 := Scalar.cmpi .eq arg2 c0_i32_7
  let v11 : BitVec 32 := Scalar.extui v10
  let c0_i32_8 : BitVec 32 := 0#32
  let v12 : BitVec 1 := Scalar.cmpi .ne v11 c0_i32_8
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1x2304x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2304x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwpCIdeal.lean ====
abbrev S5x2304x512 : Shape := ⟨3, ![5, 2304, 512]⟩
abbrev S2304x1024 : Shape := ⟨2, ![2304, 1024]⟩
abbrev S2560x1024 : Shape := ⟨2, ![2560, 1024]⟩
abbrev S1x2304x512 : Shape := ⟨3, ![1, 2304, 512]⟩
abbrev S512x1024 : Shape := ⟨2, ![512, 1024]⟩
abbrev S2304x512 : Shape := ⟨2, ![2304, 512]⟩

abbrev nBuf : Space → Nat
  | .hbm => 3
  | .vmem => 6
  | .smem => 0
  | _ => 0

abbrev bufTy : (tb : Table) → Fin (tcTables nBuf tb) → BufTy
  | .hbm, ⟨0, _⟩ => ⟨S5x2304x512, .bf16⟩
  | .hbm, ⟨1, _⟩ => ⟨S2304x1024, .bf16⟩
  | .hbm, ⟨2, _⟩ => ⟨S2560x1024, .bf16⟩
  | .local _ .vmem, ⟨0, _⟩ => ⟨S1x2304x512, .bf16⟩
  | .local _ .vmem, ⟨1, _⟩ => ⟨S1x2304x512, .bf16⟩
  | .local _ .vmem, ⟨2, _⟩ => ⟨S2304x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | _, _ => ⟨S5x2304x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 5, 1], ![false, false, false]⟩

def k0_cond3 (i : grid0.Coords) : BitVec 1 :=
  let arg2 : BitVec 32 := BitVec.ofNat 32 (i 2).val
  let c0_i32_7 : BitVec 32 := 0#32
  let v10 : BitVec 1 := Scalar.cmpi .eq arg2 c0_i32_7
  let v11 : BitVec 32 := Scalar.extui v10
  let c0_i32_8 : BitVec 32 := 0#32
  let v12 : BitVec 1 := Scalar.cmpi .ne v11 c0_i32_8
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1x2304x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2304x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwpCRefIdeal.lean ====
abbrev S5x2304x512 : Shape := ⟨3, ![5, 2304, 512]⟩
abbrev S2304x1024 : Shape := ⟨2, ![2304, 1024]⟩
abbrev S_ : Shape := ⟨0, ![]⟩
abbrev S2560x1024 : Shape := ⟨2, ![2560, 1024]⟩
abbrev S1024x2560 : Shape := ⟨2, ![1024, 2560]⟩
abbrev S2304x2560 : Shape := ⟨2, ![2304, 2560]⟩
abbrev S2304x5x512 : Shape := ⟨3, ![2304, 5, 512]⟩

abbrev nBuf : Space → Nat
  | .hbm => 16
  | .vmem => 0
  | .smem => 0
  | _ => 0

abbrev bufTy : (tb : Table) → Fin (tcTables nBuf tb) → BufTy
  | .hbm, ⟨0, _⟩ => ⟨S5x2304x512, .bf16⟩
  | .hbm, ⟨1, _⟩ => ⟨S2304x1024, .bf16⟩
  | .hbm, ⟨2, _⟩ => ⟨S_, .f32⟩
  | .hbm, ⟨3, _⟩ => ⟨S2560x1024, .f32⟩
  | .hbm, ⟨4, _⟩ => ⟨S2304x1024, .f32⟩
  | .hbm, ⟨5, _⟩ => ⟨S1024x2560, .f32⟩
  | .hbm, ⟨6, _⟩ => ⟨S2304x2560, .f32⟩
  | .hbm, ⟨7, _⟩ => ⟨S2304x5x512, .f32⟩
  | .hbm, ⟨8, _⟩ => ⟨S5x2304x512, .f32⟩
  | .hbm, ⟨9, _⟩ => ⟨S5x2304x512, .f32⟩
  | .hbm, ⟨10, _⟩ => ⟨S2304x5x512, .f32⟩
  | .hbm, ⟨11, _⟩ => ⟨S2304x2560, .f32⟩
  | .hbm, ⟨12, _⟩ => ⟨S2560x1024, .f32⟩
  | .hbm, ⟨13, _⟩ => ⟨S1024x2560, .f32⟩
  | .hbm, ⟨14, _⟩ => ⟨S2560x1024, .f32⟩
  | .hbm, ⟨15, _⟩ => ⟨S2560x1024, .bf16⟩
  | _, _ => ⟨S5x2304x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== DwpG.lean ====
abbrev S2304x1152 : Shape := ⟨2, ![2304, 1152]⟩
abbrev S2304x1024 : Shape := ⟨2, ![2304, 1024]⟩
abbrev S1152x1024 : Shape := ⟨2, ![1152, 1024]⟩

abbrev nBuf : Space → Nat
  | .hbm => 3
  | .vmem => 4
  | .smem => 0
  | _ => 0

abbrev bufTy : (tb : Table) → Fin (tcTables nBuf tb) → BufTy
  | .hbm, ⟨0, _⟩ => ⟨S2304x1152, .bf16⟩
  | .hbm, ⟨1, _⟩ => ⟨S2304x1024, .bf16⟩
  | .hbm, ⟨2, _⟩ => ⟨S1152x1024, .bf16⟩
  | .local _ .vmem, ⟨0, _⟩ => ⟨S2304x1152, .bf16⟩
  | .local _ .vmem, ⟨1, _⟩ => ⟨S2304x1024, .bf16⟩
  | .local _ .vmem, ⟨2, _⟩ => ⟨S1152x1024, .bf16⟩
  | .local _ .vmem, ⟨3, _⟩ => ⟨S1152x1024, .f32⟩
  | _, _ => ⟨S2304x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S2304x1152 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 1 → Memref sig .tc .vmem S2304x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 1 → Memref sig .tc .vmem S1152x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwpGIdeal.lean ====
abbrev S2304x1152 : Shape := ⟨2, ![2304, 1152]⟩
abbrev S2304x1024 : Shape := ⟨2, ![2304, 1024]⟩
abbrev S1152x1024 : Shape := ⟨2, ![1152, 1024]⟩

abbrev nBuf : Space → Nat
  | .hbm => 3
  | .vmem => 4
  | .smem => 0
  | _ => 0

abbrev bufTy : (tb : Table) → Fin (tcTables nBuf tb) → BufTy
  | .hbm, ⟨0, _⟩ => ⟨S2304x1152, .bf16⟩
  | .hbm, ⟨1, _⟩ => ⟨S2304x1024, .bf16⟩
  | .hbm, ⟨2, _⟩ => ⟨S1152x1024, .bf16⟩
  | .local _ .vmem, ⟨0, _⟩ => ⟨S2304x1152, .bf16⟩
  | .local _ .vmem, ⟨1, _⟩ => ⟨S2304x1024, .bf16⟩
  | .local _ .vmem, ⟨2, _⟩ => ⟨S1152x1024, .bf16⟩
  | .local _ .vmem, ⟨3, _⟩ => ⟨S1152x1024, .f32⟩
  | _, _ => ⟨S2304x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S2304x1152 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 1 → Memref sig .tc .vmem S2304x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 1 → Memref sig .tc .vmem S1152x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwpGRefIdeal.lean ====
abbrev S2304x1152 : Shape := ⟨2, ![2304, 1152]⟩
abbrev S2304x1024 : Shape := ⟨2, ![2304, 1024]⟩
abbrev S_ : Shape := ⟨0, ![]⟩
abbrev S1152x1024 : Shape := ⟨2, ![1152, 1024]⟩
abbrev S1024x1152 : Shape := ⟨2, ![1024, 1152]⟩

abbrev nBuf : Space → Nat
  | .hbm => 12
  | .vmem => 0
  | .smem => 0
  | _ => 0

abbrev bufTy : (tb : Table) → Fin (tcTables nBuf tb) → BufTy
  | .hbm, ⟨0, _⟩ => ⟨S2304x1152, .bf16⟩
  | .hbm, ⟨1, _⟩ => ⟨S2304x1024, .bf16⟩
  | .hbm, ⟨2, _⟩ => ⟨S_, .f32⟩
  | .hbm, ⟨3, _⟩ => ⟨S1152x1024, .f32⟩
  | .hbm, ⟨4, _⟩ => ⟨S2304x1024, .f32⟩
  | .hbm, ⟨5, _⟩ => ⟨S1024x1152, .f32⟩
  | .hbm, ⟨6, _⟩ => ⟨S2304x1152, .f32⟩
  | .hbm, ⟨7, _⟩ => ⟨S2304x1152, .f32⟩
  | .hbm, ⟨8, _⟩ => ⟨S1152x1024, .f32⟩
  | .hbm, ⟨9, _⟩ => ⟨S1024x1152, .f32⟩
  | .hbm, ⟨10, _⟩ => ⟨S1152x1024, .f32⟩
  | .hbm, ⟨11, _⟩ => ⟨S1152x1024, .bf16⟩
  | _, _ => ⟨S2304x1152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Dwbr.lean ====
abbrev S4x2304x512 : Shape := ⟨3, ![4, 2304, 512]⟩
abbrev S4x2304x1024 : Shape := ⟨3, ![4, 2304, 1024]⟩
abbrev S4x4x512x256 : Shape := ⟨4, ![4, 4, 512, 256]⟩
abbrev S1x2304x512 : Shape := ⟨3, ![1, 2304, 512]⟩
abbrev S1x2304x256 : Shape := ⟨3, ![1, 2304, 256]⟩
abbrev S1x1x512x256 : Shape := ⟨4, ![1, 1, 512, 256]⟩
abbrev S2304x512 : Shape := ⟨2, ![2304, 512]⟩
abbrev S2304x256 : Shape := ⟨2, ![2304, 256]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S4x2304x512, .bf16⟩
  | .hbm, ⟨1, _⟩ => ⟨S4x2304x1024, .bf16⟩
  | .hbm, ⟨2, _⟩ => ⟨S4x4x512x256, .bf16⟩
  | .local _ .vmem, ⟨0, _⟩ => ⟨S1x2304x512, .bf16⟩
  | .local _ .vmem, ⟨1, _⟩ => ⟨S1x2304x512, .bf16⟩
  | .local _ .vmem, ⟨2, _⟩ => ⟨S1x2304x256, .bf16⟩
  | .local _ .vmem, ⟨3, _⟩ => ⟨S1x2304x256, .bf16⟩
  | .local _ .vmem, ⟨4, _⟩ => ⟨S1x1x512x256, .bf16⟩
  | .local _ .vmem, ⟨5, _⟩ => ⟨S1x1x512x256, .bf16⟩
  | _, _ => ⟨S4x2304x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x2304x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2304x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwbrRefIdeal.lean ====
abbrev S4x2304x512 : Shape := ⟨3, ![4, 2304, 512]⟩
abbrev S4x2304x1024 : Shape := ⟨3, ![4, 2304, 1024]⟩
abbrev S_ : Shape := ⟨0, ![]⟩
abbrev S4x512x1024 : Shape := ⟨3, ![4, 512, 1024]⟩
abbrev S4x1024x512 : Shape := ⟨3, ![4, 1024, 512]⟩
abbrev S4x512x4x256 : Shape := ⟨4, ![4, 512, 4, 256]⟩
abbrev S4x4x512x256 : Shape := ⟨4, ![4, 4, 512, 256]⟩

abbrev nBuf : Space → Nat
  | .hbm => 12
  | .vmem => 0
  | .smem => 0
  | _ => 0

abbrev bufTy : (tb : Table) → Fin (tcTables nBuf tb) → BufTy
  | .hbm, ⟨0, _⟩ => ⟨S4x2304x512, .bf16⟩
  | .hbm, ⟨1, _⟩ => ⟨S4x2304x1024, .bf16⟩
  | .hbm, ⟨2, _⟩ => ⟨S_, .f32⟩
  | .hbm, ⟨3, _⟩ => ⟨S4x512x1024, .f32⟩
  | .hbm, ⟨4, _⟩ => ⟨S4x2304x512, .f32⟩
  | .hbm, ⟨5, _⟩ => ⟨S4x2304x1024, .f32⟩
  | .hbm, ⟨6, _⟩ => ⟨S4x2304x1024, .f32⟩
  | .hbm, ⟨7, _⟩ => ⟨S4x1024x512, .f32⟩
  | .hbm, ⟨8, _⟩ => ⟨S4x512x1024, .f32⟩
  | .hbm, ⟨9, _⟩ => ⟨S4x512x1024, .bf16⟩
  | .hbm, ⟨10, _⟩ => ⟨S4x512x4x256, .bf16⟩
  | .hbm, ⟨11, _⟩ => ⟨S4x4x512x256, .bf16⟩
  | _, _ => ⟨S4x2304x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Dwout.lean ====
abbrev S2304x1024 : Shape := ⟨2, ![2304, 1024]⟩
abbrev S1024x1024 : Shape := ⟨2, ![1024, 1024]⟩

abbrev nBuf : Space → Nat
  | .hbm => 3
  | .vmem => 4
  | .smem => 0
  | _ => 0

abbrev bufTy : (tb : Table) → Fin (tcTables nBuf tb) → BufTy
  | .hbm, ⟨0, _⟩ => ⟨S2304x1024, .bf16⟩
  | .hbm, ⟨1, _⟩ => ⟨S2304x1024, .bf16⟩
  | .hbm, ⟨2, _⟩ => ⟨S1024x1024, .bf16⟩
  | .local _ .vmem, ⟨0, _⟩ => ⟨S2304x1024, .bf16⟩
  | .local _ .vmem, ⟨1, _⟩ => ⟨S2304x1024, .bf16⟩
  | .local _ .vmem, ⟨2, _⟩ => ⟨S1024x1024, .bf16⟩
  | .local _ .vmem, ⟨3, _⟩ => ⟨S1024x1024, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S2304x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 1 → Memref sig .tc .vmem S2304x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwoutRefIdeal.lean ====
abbrev S2304x1024 : Shape := ⟨2, ![2304, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S2304x1024, .bf16⟩
  | .hbm, ⟨2, _⟩ => ⟨S_, .f32⟩
  | .hbm, ⟨3, _⟩ => ⟨S1024x1024, .f32⟩
  | .hbm, ⟨4, _⟩ => ⟨S2304x1024, .f32⟩
  | .hbm, ⟨5, _⟩ => ⟨S2304x1024, .f32⟩
  | .hbm, ⟨6, _⟩ => ⟨S2304x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjM.lean ====
abbrev S2304x1024 : Shape := ⟨2, ![2304, 1024]⟩
abbrev S6144x1024 : Shape := ⟨2, ![6144, 1024]⟩
abbrev S2304x6144 : Shape := ⟨2, ![2304, 6144]⟩
abbrev S768x1024 : Shape := ⟨2, ![768, 1024]⟩
abbrev S2048x1024 : Shape := ⟨2, ![2048, 1024]⟩
abbrev S768x2048 : Shape := ⟨2, ![768, 2048]⟩

abbrev nBuf : Space → Nat
  | .hbm => 3
  | .vmem => 7
  | .smem => 0
  | _ => 0

abbrev bufTy : (tb : Table) → Fin (tcTables nBuf tb) → BufTy
  | .hbm, ⟨0, _⟩ => ⟨S2304x1024, .bf16⟩
  | .hbm, ⟨1, _⟩ => ⟨S6144x1024, .bf16⟩
  | .hbm, ⟨2, _⟩ => ⟨S2304x6144, .bf16⟩
  | .local _ .vmem, ⟨0, _⟩ => ⟨S768x1024, .bf16⟩
  | .local _ .vmem, ⟨1, _⟩ => ⟨S768x1024, .bf16⟩
  | .local _ .vmem, ⟨2, _⟩ => ⟨S2048x1024, .bf16⟩
  | .local _ .vmem, ⟨3, _⟩ => ⟨S2048x1024, .bf16⟩
  | .local _ .vmem, ⟨4, _⟩ => ⟨S768x2048, .bf16⟩
  | .local _ .vmem, ⟨5, _⟩ => ⟨S768x2048, .bf16⟩
  | .local _ .vmem, ⟨6, _⟩ => ⟨S768x2048, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 3, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S768x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjMIdeal.lean ====
abbrev S2304x1024 : Shape := ⟨2, ![2304, 1024]⟩
abbrev S6144x1024 : Shape := ⟨2, ![6144, 1024]⟩
abbrev S2304x6144 : Shape := ⟨2, ![2304, 6144]⟩
abbrev S768x1024 : Shape := ⟨2, ![768, 1024]⟩
abbrev S2048x1024 : Shape := ⟨2, ![2048, 1024]⟩
abbrev S768x2048 : Shape := ⟨2, ![768, 2048]⟩

abbrev nBuf : Space → Nat
  | .hbm => 3
  | .vmem => 7
  | .smem => 0
  | _ => 0

abbrev bufTy : (tb : Table) → Fin (tcTables nBuf tb) → BufTy
  | .hbm, ⟨0, _⟩ => ⟨S2304x1024, .bf16⟩
  | .hbm, ⟨1, _⟩ => ⟨S6144x1024, .bf16⟩
  | .hbm, ⟨2, _⟩ => ⟨S2304x6144, .bf16⟩
  | .local _ .vmem, ⟨0, _⟩ => ⟨S768x1024, .bf16⟩
  | .local _ .vmem, ⟨1, _⟩ => ⟨S768x1024, .bf16⟩
  | .local _ .vmem, ⟨2, _⟩ => ⟨S2048x1024, .bf16⟩
  | .local _ .vmem, ⟨3, _⟩ => ⟨S2048x1024, .bf16⟩
  | .local _ .vmem, ⟨4, _⟩ => ⟨S768x2048, .bf16⟩
  | .local _ .vmem, ⟨5, _⟩ => ⟨S768x2048, .bf16⟩
  | .local _ .vmem, ⟨6, _⟩ => ⟨S768x2048, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 3, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S768x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjMRefIdeal.lean ====
abbrev S2304x1024 : Shape := ⟨2, ![2304, 1024]⟩
abbrev S6144x1024 : Shape := ⟨2, ![6144, 1024]⟩
abbrev S1024x6144 : Shape := ⟨2, ![1024, 6144]⟩
abbrev S2304x6144 : Shape := ⟨2, ![2304, 6144]⟩

abbrev nBuf : Space → Nat
  | .hbm => 7
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S6144x1024, .bf16⟩
  | .hbm, ⟨2, _⟩ => ⟨S2304x1024, .f32⟩
  | .hbm, ⟨3, _⟩ => ⟨S6144x1024, .f32⟩
  | .hbm, ⟨4, _⟩ => ⟨S1024x6144, .f32⟩
  | .hbm, ⟨5, _⟩ => ⟨S2304x6144, .f32⟩
  | .hbm, ⟨6, _⟩ => ⟨S2304x6144, .bf16⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ProjA.lean ====
abbrev S2304x1024 : Shape := ⟨2, ![2304, 1024]⟩
abbrev S1024x1024 : Shape := ⟨2, ![1024, 1024]⟩
abbrev S768x1024 : Shape := ⟨2, ![768, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2304x1024, .bf16⟩
  | .hbm, ⟨1, _⟩ => ⟨S1024x1024, .bf16⟩
  | .hbm, ⟨2, _⟩ => ⟨S2304x1024, .bf16⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S768x1024, .bf16⟩
  | .local _ .vmem, ⟨4, _⟩ => ⟨S768x1024, .bf16⟩
  | .local _ .vmem, ⟨5, _⟩ => ⟨S768x1024, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 3, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjAIdeal.lean ====
abbrev S2304x1024 : Shape := ⟨2, ![2304, 1024]⟩
abbrev S1024x1024 : Shape := ⟨2, ![1024, 1024]⟩
abbrev S768x1024 : Shape := ⟨2, ![768, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2304x1024, .bf16⟩
  | .hbm, ⟨1, _⟩ => ⟨S1024x1024, .bf16⟩
  | .hbm, ⟨2, _⟩ => ⟨S2304x1024, .bf16⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S768x1024, .bf16⟩
  | .local _ .vmem, ⟨4, _⟩ => ⟨S768x1024, .bf16⟩
  | .local _ .vmem, ⟨5, _⟩ => ⟨S768x1024, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 3, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjARefIdeal.lean ====
abbrev S2304x1024 : Shape := ⟨2, ![2304, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S1024x1024, .bf16⟩
  | .hbm, ⟨2, _⟩ => ⟨S2304x1024, .f32⟩
  | .hbm, ⟨3, _⟩ => ⟨S1024x1024, .f32⟩
  | .hbm, ⟨4, _⟩ => ⟨S1024x1024, .f32⟩
  | .hbm, ⟨5, _⟩ => ⟨S2304x1024, .f32⟩
  | .hbm, ⟨6, _⟩ => ⟨S2304x1024, .bf16⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ProjC.lean ====
abbrev S2304x1024 : Shape := ⟨2, ![2304, 1024]⟩
abbrev S2560x1024 : Shape := ⟨2, ![2560, 1024]⟩
abbrev S2304x2560 : Shape := ⟨2, ![2304, 2560]⟩
abbrev S768x1024 : Shape := ⟨2, ![768, 1024]⟩
abbrev S1280x1024 : Shape := ⟨2, ![1280, 1024]⟩
abbrev S768x1280 : Shape := ⟨2, ![768, 1280]⟩

abbrev nBuf : Space → Nat
  | .hbm => 3
  | .vmem => 7
  | .smem => 0
  | _ => 0

abbrev bufTy : (tb : Table) → Fin (tcTables nBuf tb) → BufTy
  | .hbm, ⟨0, _⟩ => ⟨S2304x1024, .bf16⟩
  | .hbm, ⟨1, _⟩ => ⟨S2560x1024, .bf16⟩
  | .hbm, ⟨2, _⟩ => ⟨S2304x2560, .bf16⟩
  | .local _ .vmem, ⟨0, _⟩ => ⟨S768x1024, .bf16⟩
  | .local _ .vmem, ⟨1, _⟩ => ⟨S768x1024, .bf16⟩
  | .local _ .vmem, ⟨2, _⟩ => ⟨S1280x1024, .bf16⟩
  | .local _ .vmem, ⟨3, _⟩ => ⟨S1280x1024, .bf16⟩
  | .local _ .vmem, ⟨4, _⟩ => ⟨S768x1280, .bf16⟩
  | .local _ .vmem, ⟨5, _⟩ => ⟨S768x1280, .bf16⟩
  | .local _ .vmem, ⟨6, _⟩ => ⟨S768x1280, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S768x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjCIdeal.lean ====
abbrev S2304x1024 : Shape := ⟨2, ![2304, 1024]⟩
abbrev S2560x1024 : Shape := ⟨2, ![2560, 1024]⟩
abbrev S2304x2560 : Shape := ⟨2, ![2304, 2560]⟩
abbrev S768x1024 : Shape := ⟨2, ![768, 1024]⟩
abbrev S1280x1024 : Shape := ⟨2, ![1280, 1024]⟩
abbrev S768x1280 : Shape := ⟨2, ![768, 1280]⟩

abbrev nBuf : Space → Nat
  | .hbm => 3
  | .vmem => 7
  | .smem => 0
  | _ => 0

abbrev bufTy : (tb : Table) → Fin (tcTables nBuf tb) → BufTy
  | .hbm, ⟨0, _⟩ => ⟨S2304x1024, .bf16⟩
  | .hbm, ⟨1, _⟩ => ⟨S2560x1024, .bf16⟩
  | .hbm, ⟨2, _⟩ => ⟨S2304x2560, .bf16⟩
  | .local _ .vmem, ⟨0, _⟩ => ⟨S768x1024, .bf16⟩
  | .local _ .vmem, ⟨1, _⟩ => ⟨S768x1024, .bf16⟩
  | .local _ .vmem, ⟨2, _⟩ => ⟨S1280x1024, .bf16⟩
  | .local _ .vmem, ⟨3, _⟩ => ⟨S1280x1024, .bf16⟩
  | .local _ .vmem, ⟨4, _⟩ => ⟨S768x1280, .bf16⟩
  | .local _ .vmem, ⟨5, _⟩ => ⟨S768x1280, .bf16⟩
  | .local _ .vmem, ⟨6, _⟩ => ⟨S768x1280, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S768x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjCRefIdeal.lean ====
abbrev S2304x1024 : Shape := ⟨2, ![2304, 1024]⟩
abbrev S2560x1024 : Shape := ⟨2, ![2560, 1024]⟩
abbrev S1024x2560 : Shape := ⟨2, ![1024, 2560]⟩
abbrev S2304x2560 : Shape := ⟨2, ![2304, 2560]⟩

abbrev nBuf : Space → Nat
  | .hbm => 7
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S2560x1024, .bf16⟩
  | .hbm, ⟨2, _⟩ => ⟨S2304x1024, .f32⟩
  | .hbm, ⟨3, _⟩ => ⟨S2560x1024, .f32⟩
  | .hbm, ⟨4, _⟩ => ⟨S1024x2560, .f32⟩
  | .hbm, ⟨5, _⟩ => ⟨S2304x2560, .f32⟩
  | .hbm, ⟨6, _⟩ => ⟨S2304x2560, .bf16⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ProjG.lean ====
abbrev S2304x1024 : Shape := ⟨2, ![2304, 1024]⟩
abbrev S1152x1024 : Shape := ⟨2, ![1152, 1024]⟩
abbrev S2304x1152 : Shape := ⟨2, ![2304, 1152]⟩
abbrev S768x1024 : Shape := ⟨2, ![768, 1024]⟩
abbrev S768x1152 : Shape := ⟨2, ![768, 1152]⟩

abbrev nBuf : Space → Nat
  | .hbm => 3
  | .vmem => 6
  | .smem => 0
  | _ => 0

abbrev bufTy : (tb : Table) → Fin (tcTables nBuf tb) → BufTy
  | .hbm, ⟨0, _⟩ => ⟨S2304x1024, .bf16⟩
  | .hbm, ⟨1, _⟩ => ⟨S1152x1024, .bf16⟩
  | .hbm, ⟨2, _⟩ => ⟨S2304x1152, .bf16⟩
  | .local _ .vmem, ⟨0, _⟩ => ⟨S768x1024, .bf16⟩
  | .local _ .vmem, ⟨1, _⟩ => ⟨S768x1024, .bf16⟩
  | .local _ .vmem, ⟨2, _⟩ => ⟨S1152x1024, .bf16⟩
  | .local _ .vmem, ⟨3, _⟩ => ⟨S768x1152, .bf16⟩
  | .local _ .vmem, ⟨4, _⟩ => ⟨S768x1152, .bf16⟩
  | .local _ .vmem, ⟨5, _⟩ => ⟨S768x1152, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 3, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1152x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S768x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjGIdeal.lean ====
abbrev S2304x1024 : Shape := ⟨2, ![2304, 1024]⟩
abbrev S1152x1024 : Shape := ⟨2, ![1152, 1024]⟩
abbrev S2304x1152 : Shape := ⟨2, ![2304, 1152]⟩
abbrev S768x1024 : Shape := ⟨2, ![768, 1024]⟩
abbrev S768x1152 : Shape := ⟨2, ![768, 1152]⟩

abbrev nBuf : Space → Nat
  | .hbm => 3
  | .vmem => 6
  | .smem => 0
  | _ => 0

abbrev bufTy : (tb : Table) → Fin (tcTables nBuf tb) → BufTy
  | .hbm, ⟨0, _⟩ => ⟨S2304x1024, .bf16⟩
  | .hbm, ⟨1, _⟩ => ⟨S1152x1024, .bf16⟩
  | .hbm, ⟨2, _⟩ => ⟨S2304x1152, .bf16⟩
  | .local _ .vmem, ⟨0, _⟩ => ⟨S768x1024, .bf16⟩
  | .local _ .vmem, ⟨1, _⟩ => ⟨S768x1024, .bf16⟩
  | .local _ .vmem, ⟨2, _⟩ => ⟨S1152x1024, .bf16⟩
  | .local _ .vmem, ⟨3, _⟩ => ⟨S768x1152, .bf16⟩
  | .local _ .vmem, ⟨4, _⟩ => ⟨S768x1152, .bf16⟩
  | .local _ .vmem, ⟨5, _⟩ => ⟨S768x1152, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 3, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1152x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S768x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjGRefIdeal.lean ====
abbrev S2304x1024 : Shape := ⟨2, ![2304, 1024]⟩
abbrev S1152x1024 : Shape := ⟨2, ![1152, 1024]⟩
abbrev S1024x1152 : Shape := ⟨2, ![1024, 1152]⟩
abbrev S2304x1152 : Shape := ⟨2, ![2304, 1152]⟩

abbrev nBuf : Space → Nat
  | .hbm => 7
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S1152x1024, .bf16⟩
  | .hbm, ⟨2, _⟩ => ⟨S2304x1024, .f32⟩
  | .hbm, ⟨3, _⟩ => ⟨S1152x1024, .f32⟩
  | .hbm, ⟨4, _⟩ => ⟨S1024x1152, .f32⟩
  | .hbm, ⟨5, _⟩ => ⟨S2304x1152, .f32⟩
  | .hbm, ⟨6, _⟩ => ⟨S2304x1152, .bf16⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== AttnFwd.lean ====
abbrev S2304x512 : Shape := ⟨2, ![2304, 512]⟩
abbrev S2304x256 : Shape := ⟨2, ![2304, 256]⟩
abbrev S256x128 : Shape := ⟨2, ![256, 128]⟩
abbrev S2304x128 : Shape := ⟨2, ![2304, 128]⟩
abbrev S1x2304 : Shape := ⟨2, ![1, 2304]⟩
abbrev S256x2304 : Shape := ⟨2, ![256, 2304]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S2304x512, .bf16⟩
  | .hbm, ⟨1, _⟩ => ⟨S2304x256, .bf16⟩
  | .hbm, ⟨2, _⟩ => ⟨S2304x256, .bf16⟩
  | .hbm, ⟨3, _⟩ => ⟨S2304x512, .f32⟩
  | .local _ .vmem, ⟨0, _⟩ => ⟨S256x128, .bf16⟩
  | .local _ .vmem, ⟨1, _⟩ => ⟨S256x128, .bf16⟩
  | .local _ .vmem, ⟨2, _⟩ => ⟨S2304x128, .bf16⟩
  | .local _ .vmem, ⟨3, _⟩ => ⟨S2304x128, .bf16⟩
  | .local _ .vmem, ⟨4, _⟩ => ⟨S2304x128, .bf16⟩
  | .local _ .vmem, ⟨5, _⟩ => ⟨S2304x128, .bf16⟩
  | .local _ .vmem, ⟨6, _⟩ => ⟨S256x128, .f32⟩
  | .local _ .vmem, ⟨7, _⟩ => ⟨S256x128, .f32⟩
  | _, _ => ⟨S2304x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttnFwdIdeal.lean ====
variable {F : FTy → Type} [FloatOps F] [Named F]
def κ : String → Option EReal := fun
  | "mask" => some ⊥
  | _ => none
-- ==== AttnFwdRefIdeal.lean ====
abbrev S2304x512 : Shape := ⟨2, ![2304, 512]⟩
abbrev S2304x256 : Shape := ⟨2, ![2304, 256]⟩
abbrev S2304x2x2x128 : Shape := ⟨4, ![2304, 2, 2, 128]⟩
abbrev S2x2x2304x128 : Shape := ⟨4, ![2, 2, 2304, 128]⟩
abbrev S2304x2x128 : Shape := ⟨3, ![2304, 2, 128]⟩
abbrev S2x2304x128 : Shape := ⟨3, ![2, 2304, 128]⟩
abbrev S2x2x256x128 : Shape := ⟨4, ![2, 2, 256, 128]⟩
abbrev S2x256x128 : Shape := ⟨3, ![2, 256, 128]⟩
abbrev S2x2x256x256 : Shape := ⟨4, ![2, 2, 256, 256]⟩
abbrev S_ : Shape := ⟨0, ![]⟩
abbrev S2x2x256 : Shape := ⟨3, ![2, 2, 256]⟩
abbrev S2x2x256x1 : Shape := ⟨4, ![2, 2, 256, 1]⟩
abbrev S2x2x2048x128 : Shape := ⟨4, ![2, 2, 2048, 128]⟩
abbrev S2x2x2048x2304 : Shape := ⟨4, ![2, 2, 2048, 2304]⟩
abbrev S2x2x2048 : Shape := ⟨3, ![2, 2, 2048]⟩
abbrev S2x2x2048x1 : Shape := ⟨4, ![2, 2, 2048, 1]⟩

abbrev nBuf : Space → Nat
  | .hbm => 51
  | .vmem => 0
  | .smem => 0
  | _ => 0

abbrev bufTy : (tb : Table) → Fin (tcTables nBuf tb) → BufTy
  | .hbm, ⟨0, _⟩ => ⟨S2304x512, .bf16⟩
  | .hbm, ⟨1, _⟩ => ⟨S2304x256, .bf16⟩
  | .hbm, ⟨2, _⟩ => ⟨S2304x256, .bf16⟩
  | .hbm, ⟨3, _⟩ => ⟨S2304x512, .f32⟩
  | .hbm, ⟨4, _⟩ => ⟨S2304x256, .f32⟩
  | .hbm, ⟨5, _⟩ => ⟨S2304x256, .f32⟩
  | .hbm, ⟨6, _⟩ => ⟨S2304x2x2x128, .f32⟩
  | .hbm, ⟨7, _⟩ => ⟨S2x2x2304x128, .f32⟩
  | .hbm, ⟨8, _⟩ => ⟨S2304x2x128, .f32⟩
  | .hbm, ⟨9, _⟩ => ⟨S2x2304x128, .f32⟩
  | .hbm, ⟨10, _⟩ => ⟨S2304x2x128, .f32⟩
  | .hbm, ⟨11, _⟩ => ⟨S2x2304x128, .f32⟩
  | .hbm, ⟨12, _⟩ => ⟨S2x2x256x128, .f32⟩
  | .hbm, ⟨13, _⟩ => ⟨S2x256x128, .f32⟩
  | .hbm, ⟨14, _⟩ => ⟨S2x256x128, .f32⟩
  | .hbm, ⟨15, _⟩ => ⟨S2x2x256x256, .f32⟩
  | .hbm, ⟨16, _⟩ => ⟨S_, .f32⟩
  | .hbm, ⟨17, _⟩ => ⟨S2x2x256, .f32⟩
  | .hbm, ⟨18, _⟩ => ⟨S_, .f32⟩
  | .hbm, ⟨19, _⟩ => ⟨S2x2x256, .f32⟩
  | .hbm, ⟨20, _⟩ => ⟨S2x2x256, .f32⟩
  | .hbm, ⟨21, _⟩ => ⟨S2x2x256x1, .f32⟩
  | .hbm, ⟨22, _⟩ => ⟨S2x2x256x256, .f32⟩
  | .hbm, ⟨23, _⟩ => ⟨S2x2x256x256, .f32⟩
  | .hbm, ⟨24, _⟩ => ⟨S2x2x256x256, .f32⟩
  | .hbm, ⟨25, _⟩ => ⟨S_, .f32⟩
  | .hbm, ⟨26, _⟩ => ⟨S2x2x256, .f32⟩
  | .hbm, ⟨27, _⟩ => ⟨S2x2x256x1, .f32⟩
  | .hbm, ⟨28, _⟩ => ⟨S2x2x256x256, .f32⟩
  | .hbm, ⟨29, _⟩ => ⟨S2x2x256x256, .f32⟩
  | .hbm, ⟨30, _⟩ => ⟨S2x2x256x128, .f32⟩
  | .hbm, ⟨31, _⟩ => ⟨S2x2x2048x128, .f32⟩
  | .hbm, ⟨32, _⟩ => ⟨S2x2x2048x2304, .f32⟩
  | .hbm, ⟨33, _⟩ => ⟨S_, .f32⟩
  | .hbm, ⟨34, _⟩ => ⟨S2x2x2048, .f32⟩
  | .hbm, ⟨35, _⟩ => ⟨S_, .f32⟩
  | .hbm, ⟨36, _⟩ => ⟨S2x2x2048, .f32⟩
  | .hbm, ⟨37, _⟩ => ⟨S2x2x2048, .f32⟩
  | .hbm, ⟨38, _⟩ => ⟨S2x2x2048x1, .f32⟩
  | .hbm, ⟨39, _⟩ => ⟨S2x2x2048x2304, .f32⟩
  | .hbm, ⟨40, _⟩ => ⟨S2x2x2048x2304, .f32⟩
  | .hbm, ⟨41, _⟩ => ⟨S2x2x2048x2304, .f32⟩
  | .hbm, ⟨42, _⟩ => ⟨S_, .f32⟩
  | .hbm, ⟨43, _⟩ => ⟨S2x2x2048, .f32⟩
  | .hbm, ⟨44, _⟩ => ⟨S2x2x2048x1, .f32⟩
  | .hbm, ⟨45, _⟩ => ⟨S2x2x2048x2304, .f32⟩
  | .hbm, ⟨46, _⟩ => ⟨S2x2x2048x2304, .f32⟩
  | .hbm, ⟨47, _⟩ => ⟨S2x2x2048x128, .f32⟩
  | .hbm, ⟨48, _⟩ => ⟨S2x2x2304x128, .f32⟩
  | .hbm, ⟨49, _⟩ => ⟨S2304x2x2x128, .f32⟩
  | .hbm, ⟨50, _⟩ => ⟨S2304x512, .f32⟩
  | _, _ => ⟨S2304x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩

abbrev nD : Nat := 1
abbrev τ : Topo := Topo.v7x

variable {F : FTy → Type} [FloatOps F]
-- ==== LnFwd.lean ====
abbrev S2304x1024 : Shape := ⟨2, ![2304, 1024]⟩
abbrev S8x3072 : Shape := ⟨2, ![8, 3072]⟩
abbrev S256x1024 : Shape := ⟨2, ![256, 1024]⟩
abbrev S256x1 : Shape := ⟨2, ![256, 1]⟩
abbrev S1x3072 : Shape := ⟨2, ![1, 3072]⟩
abbrev S256 : Shape := ⟨1, ![256]⟩
abbrev S1x1024 : Shape := ⟨2, ![1, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2304x1024, .f32⟩
  | .hbm, ⟨1, _⟩ => ⟨S8x3072, .f32⟩
  | .hbm, ⟨2, _⟩ => ⟨S2304x1024, .bf16⟩
  | .local _ .vmem, ⟨0, _⟩ => ⟨S256x1024, .f32⟩
  | .local _ .vmem, ⟨1, _⟩ => ⟨S256x1024, .f32⟩
  | .local _ .vmem, ⟨2, _⟩ => ⟨S8x3072, .f32⟩
  | .local _ .vmem, ⟨3, _⟩ => ⟨S256x1024, .bf16⟩
  | .local _ .vmem, ⟨4, _⟩ => ⟨S256x1024, .bf16⟩
  | _, _ => ⟨S2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== LnFwdRefIdeal.lean ====
abbrev S2304x1024 : Shape := ⟨2, ![2304, 1024]⟩
abbrev S8x3072 : Shape := ⟨2, ![8, 3072]⟩
abbrev S256x1024 : Shape := ⟨2, ![256, 1024]⟩
abbrev S1x3072 : Shape := ⟨2, ![1, 3072]⟩
abbrev S3072 : Shape := ⟨1, ![3072]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S2048x1024 : Shape := ⟨2, ![2048, 1024]⟩
abbrev S2048 : Shape := ⟨1, ![2048]⟩
abbrev S2048x1 : Shape := ⟨2, ![2048, 1]⟩

abbrev nBuf : Space → Nat
  | .hbm => 80
  | .vmem => 0
  | .smem => 0
  | _ => 0

abbrev bufTy : (tb : Table) → Fin (tcTables nBuf tb) → BufTy
  | .hbm, ⟨0, _⟩ => ⟨S2304x1024, .f32⟩
  | .hbm, ⟨1, _⟩ => ⟨S8x3072, .f32⟩
  | .hbm, ⟨2, _⟩ => ⟨S256x1024, .f32⟩
  | .hbm, ⟨3, _⟩ => ⟨S1x3072, .f32⟩
  | .hbm, ⟨4, _⟩ => ⟨S3072, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S256, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S_, .f32⟩
  | .hbm, ⟨18, _⟩ => ⟨S256, .f32⟩
  | .hbm, ⟨19, _⟩ => ⟨S256x1, .f32⟩
  | .hbm, ⟨20, _⟩ => ⟨S_, .f32⟩
  | .hbm, ⟨21, _⟩ => ⟨S256x1, .f32⟩
  | .hbm, ⟨22, _⟩ => ⟨S256x1, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1, .f32⟩
  | .hbm, ⟨27, _⟩ => ⟨S256x1, .f32⟩
  | .hbm, ⟨28, _⟩ => ⟨S256x1, .f32⟩
  | .hbm, ⟨29, _⟩ => ⟨S256x1024, .f32⟩
  | .hbm, ⟨30, _⟩ => ⟨S256x1024, .f32⟩
  | .hbm, ⟨31, _⟩ => ⟨S_, .f32⟩
  | .hbm, ⟨32, _⟩ => ⟨S1024, .f32⟩
  | .hbm, ⟨33, _⟩ => ⟨S1024, .f32⟩
  | .hbm, ⟨34, _⟩ => ⟨S1x1024, .f32⟩
  | .hbm, ⟨35, _⟩ => ⟨S256x1024, .f32⟩
  | .hbm, ⟨36, _⟩ => ⟨S256x1024, .f32⟩
  | .hbm, ⟨37, _⟩ => ⟨S1x1024, .f32⟩
  | .hbm, ⟨38, _⟩ => ⟨S256x1024, .f32⟩
  | .hbm, ⟨39, _⟩ => ⟨S256x1024, .f32⟩
  | .hbm, ⟨40, _⟩ => ⟨S2048x1024, .f32⟩
  | .hbm, ⟨41, _⟩ => ⟨S1x3072, .f32⟩
  | .hbm, ⟨42, _⟩ => ⟨S3072, .f32⟩
  | .hbm, ⟨43, _⟩ => ⟨S1024, .f32⟩
  | .hbm, ⟨44, _⟩ => ⟨S1024, .f32⟩
  | .hbm, ⟨45, _⟩ => ⟨S1024, .f32⟩
  | .hbm, ⟨46, _⟩ => ⟨S_, .f32⟩
  | .hbm, ⟨47, _⟩ => ⟨S2048, .f32⟩
  | .hbm, ⟨48, _⟩ => ⟨S2048x1, .f32⟩
  | .hbm, ⟨49, _⟩ => ⟨S_, .f32⟩
  | .hbm, ⟨50, _⟩ => ⟨S2048x1, .f32⟩
  | .hbm, ⟨51, _⟩ => ⟨S2048x1, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S2048x1024, .f32⟩
  | .hbm, ⟨62, _⟩ => ⟨S2048x1024, .f32⟩
  | .hbm, ⟨63, _⟩ => ⟨S_, .f32⟩
  | .hbm, ⟨64, _⟩ => ⟨S2048x1, .f32⟩
  | .hbm, ⟨65, _⟩ => ⟨S2048x1, .f32⟩
  | .hbm, ⟨66, _⟩ => ⟨S2048x1, .f32⟩
  | .hbm, ⟨67, _⟩ => ⟨S2048x1024, .f32⟩
  | .hbm, ⟨68, _⟩ => ⟨S2048x1024, .f32⟩
  | .hbm, ⟨69, _⟩ => ⟨S_, .f32⟩
  | .hbm, ⟨70, _⟩ => ⟨S1024, .f32⟩
  | .hbm, ⟨71, _⟩ => ⟨S1024, .f32⟩
  | .hbm, ⟨72, _⟩ => ⟨S1x1024, .f32⟩
  | .hbm, ⟨73, _⟩ => ⟨S2048x1024, .f32⟩
  | .hbm, ⟨74, _⟩ => ⟨S2048x1024, .f32⟩
  | .hbm, ⟨75, _⟩ => ⟨S1x1024, .f32⟩
  | .hbm, ⟨76, _⟩ => ⟨S2048x1024, .f32⟩
  | .hbm, ⟨77, _⟩ => ⟨S2048x1024, .f32⟩
  | .hbm, ⟨78, _⟩ => ⟨S2304x1024, .f32⟩
  | .hbm, ⟨79, _⟩ => ⟨S2304x1024, .bf16⟩
  | _, _ => ⟨S2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_5 : Ref sig .tc := ⟨.hbm, 46, rfl⟩
abbrev main_v38 : Ref sig .tc := ⟨.hbm, 47, rfl⟩
abbrev main_v39 : Ref sig .tc := ⟨.hbm, 48, rfl⟩
abbrev main_cst_6 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_7 : Ref sig .tc := ⟨.hbm, 55, rfl⟩
abbrev main_v45 : Ref sig .tc := ⟨.hbm, 56, rfl⟩
abbrev main_v46 : Ref sig .tc := ⟨.hbm, 57, rfl⟩
abbrev main_cst_8 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_9 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_10 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩

abbrev nD : Nat := 1
abbrev τ : Topo := Topo.v7x

variable {F : FTy → Type} [FloatOps F]
-- ==== LnBwd.lean ====
abbrev S2304x1024 : Shape := ⟨2, ![2304, 1024]⟩
abbrev S8x3072 : Shape := ⟨2, ![8, 3072]⟩
abbrev S9x8x3072 : Shape := ⟨3, ![9, 8, 3072]⟩
abbrev S256x1024 : Shape := ⟨2, ![256, 1024]⟩
abbrev S1x8x3072 : Shape := ⟨3, ![1, 8, 3072]⟩
abbrev S256x1 : Shape := ⟨2, ![256, 1]⟩
abbrev S1x3072 : Shape := ⟨2, ![1, 3072]⟩
abbrev S256 : Shape := ⟨1, ![256]⟩
abbrev S1x1024 : Shape := ⟨2, ![1, 1024]⟩
abbrev S1024 : Shape := ⟨1, ![1024]⟩
abbrev S1x2048 : Shape := ⟨2, ![1, 2048]⟩
abbrev S1x1x3072 : Shape := ⟨3, ![1, 1, 3072]⟩
abbrev S6x3072 : Shape := ⟨2, ![6, 3072]⟩
abbrev S1x6x3072 : Shape := ⟨3, ![1, 6, 3072]⟩

abbrev nBuf : Space → Nat
  | .hbm => 6
  | .vmem => 11
  | .smem => 0
  | _ => 0

abbrev bufTy : (tb : Table) → Fin (tcTables nBuf tb) → BufTy
  | .hbm, ⟨0, _⟩ => ⟨S2304x1024, .f32⟩
  | .hbm, ⟨1, _⟩ => ⟨S2304x1024, .f32⟩
  | .hbm, ⟨2, _⟩ => ⟨S2304x1024, .f32⟩
  | .hbm, ⟨3, _⟩ => ⟨S8x3072, .f32⟩
  | .hbm, ⟨4, _⟩ => ⟨S2304x1024, .f32⟩
  | .hbm, ⟨5, _⟩ => ⟨S9x8x3072, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S8x3072, .f32⟩
  | .local _ .vmem, ⟨7, _⟩ => ⟨S256x1024, .f32⟩
  | .local _ .vmem, ⟨8, _⟩ => ⟨S256x1024, .f32⟩
  | .local _ .vmem, ⟨9, _⟩ => ⟨S1x8x3072, .f32⟩
  | .local _ .vmem, ⟨10, _⟩ => ⟨S1x8x3072, .f32⟩
  | _, _ => ⟨S2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LnBwdRefIdeal.lean ====
abbrev S2304x1024 : Shape := ⟨2, ![2304, 1024]⟩
abbrev S8x3072 : Shape := ⟨2, ![8, 3072]⟩
abbrev S1x3072 : Shape := ⟨2, ![1, 3072]⟩
abbrev S3072 : Shape := ⟨1, ![3072]⟩
abbrev S9x1x3072 : Shape := ⟨3, ![9, 1, 3072]⟩
abbrev S9x256x1024 : Shape := ⟨3, ![9, 256, 1024]⟩
abbrev S1x256x1024 : Shape := ⟨3, ![1, 256, 1024]⟩
abbrev S1x1x3072 : Shape := ⟨3, ![1, 1, 3072]⟩
abbrev S1x1x1024 : Shape := ⟨3, ![1, 1, 1024]⟩
abbrev S_ : Shape := ⟨0, ![]⟩
abbrev S1x256 : Shape := ⟨2, ![1, 256]⟩
abbrev S1x256x1 : Shape := ⟨3, ![1, 256, 1]⟩
abbrev S8x256x1024 : Shape := ⟨3, ![8, 256, 1024]⟩
abbrev S8x1x3072 : Shape := ⟨3, ![8, 1, 3072]⟩
abbrev S8x1x1024 : Shape := ⟨3, ![8, 1, 1024]⟩
abbrev S8x256 : Shape := ⟨2, ![8, 256]⟩
abbrev S8x256x1 : Shape := ⟨3, ![8, 256, 1]⟩
abbrev S8x1024 : Shape := ⟨2, ![8, 1024]⟩
abbrev S1x1024 : Shape := ⟨2, ![1, 1024]⟩
abbrev S256 : Shape := ⟨1, ![256]⟩
abbrev S9x6x3072 : Shape := ⟨3, ![9, 6, 3072]⟩
abbrev S9x8x3072 : Shape := ⟨3, ![9, 8, 3072]⟩

abbrev nBuf : Space → Nat
  | .hbm => 202
  | .vmem => 0
  | .smem => 0
  | _ => 0

abbrev hbmTy0_0 (i : Nat) : BufTy := match i % 128 with
  | 0 => ⟨S2304x1024, .f32⟩
  | 1 => ⟨S2304x1024, .f32⟩
  | 2 => ⟨S2304x1024, .f32⟩
  | 3 => ⟨S8x3072, .f32⟩
  | 4 => ⟨S1x3072, .f32⟩
  | 5 => ⟨S3072, .f32⟩
  | 6 => ⟨S9x1x3072, .f32⟩
  | 7 => ⟨S1x3072, .f32⟩
  | 8 => ⟨S3072, .f32⟩
  | 9 => ⟨S9x1x3072, .f32⟩
  | 10 => ⟨S9x256x1024, .f32⟩
  | 11 => ⟨S1x256x1024, .f32⟩
  | 12 => ⟨S1x1x3072, .f32⟩
  | 13 => ⟨S1x1x1024, .f32⟩
  | 14 => ⟨S1x1x1024, .f32⟩
  | 15 => ⟨S1x1x1024, .f32⟩
  | 16 => ⟨S_, .f32⟩
  | 17 => ⟨S1x256, .f32⟩
  | 18 => ⟨S1x256x1, .f32⟩
  | 19 => ⟨S_, .f32⟩
  | 20 => ⟨S1x256x1, .f32⟩
  | 21 => ⟨S1x256x1, .f32⟩
  | 22 => ⟨S1x256x1024, .f32⟩
  | 23 => ⟨S1x256x1024, .f32⟩
  | 24 => ⟨S1x256x1024, .f32⟩
  | 25 => ⟨S_, .f32⟩
  | 26 => ⟨S1x256x1024, .f32⟩
  | 27 => ⟨S1x256x1024, .f32⟩
  | 28 => ⟨S_, .f32⟩
  | 29 => ⟨S1x256, .f32⟩
  | 30 => ⟨S1x256x1, .f32⟩
  | 31 => ⟨S_, .f32⟩
  | 32 => ⟨S1x256x1, .f32⟩
  | 33 => ⟨S1x256x1, .f32⟩
  | 34 => ⟨S1x256x1024, .f32⟩
  | 35 => ⟨S1x256x1024, .f32⟩
  | 36 => ⟨S_, .f32⟩
  | 37 => ⟨S1x256x1, .f32⟩
  | 38 => ⟨S1x256x1, .f32⟩
  | 39 => ⟨S1x256x1, .f32⟩
  | 40 => ⟨S1x256x1, .f32⟩
  | 41 => ⟨S_, .f32⟩
  | 42 => ⟨S1x256x1, .f32⟩
  | 43 => ⟨S1x256x1, .f32⟩
  | 44 => ⟨S1x256x1024, .f32⟩
  | 45 => ⟨S1x256x1024, .f32⟩
  | 46 => ⟨S_, .f32⟩
  | 47 => ⟨S1x1x1024, .f32⟩
  | 48 => ⟨S1x1x1024, .f32⟩
  | 49 => ⟨S1x256x1024, .f32⟩
  | 50 => ⟨S1x256x1024, .f32⟩
  | 51 => ⟨S1x256x1024, .f32⟩
  | 52 => ⟨S1x256x1024, .f32⟩
  | 53 => ⟨S8x256x1024, .f32⟩
  | 54 => ⟨S8x1x3072, .f32⟩
  | 55 => ⟨S8x1x1024, .f32⟩
  | 56 => ⟨S8x1x1024, .f32⟩
  | 57 => ⟨S8x1x1024, .f32⟩
  | 58 => ⟨S_, .f32⟩
  | 59 => ⟨S8x256, .f32⟩
  | 60 => ⟨S8x256x1, .f32⟩
  | 61 => ⟨S_, .f32⟩
  | 62 => ⟨S8x256x1, .f32⟩
  | 63 => ⟨S8x256x1, .f32⟩
  | 64 => ⟨S8x256x1024, .f32⟩
  | 65 => ⟨S8x256x1024, .f32⟩
  | 66 => ⟨S8x256x1024, .f32⟩
  | 67 => ⟨S_, .f32⟩
  | 68 => ⟨S8x256x1024, .f32⟩
  | 69 => ⟨S8x256x1024, .f32⟩
  | 70 => ⟨S_, .f32⟩
  | 71 => ⟨S8x256, .f32⟩
  | 72 => ⟨S8x256x1, .f32⟩
  | 73 => ⟨S_, .f32⟩
  | 74 => ⟨S8x256x1, .f32⟩
  | 75 => ⟨S8x256x1, .f32⟩
  | 76 => ⟨S8x256x1024, .f32⟩
  | 77 => ⟨S8x256x1024, .f32⟩
  | 78 => ⟨S_, .f32⟩
  | 79 => ⟨S8x256x1, .f32⟩
  | 80 => ⟨S8x256x1, .f32⟩
  | 81 => ⟨S8x256x1, .f32⟩
  | 82 => ⟨S8x256x1, .f32⟩
  | 83 => ⟨S_, .f32⟩
  | 84 => ⟨S8x256x1, .f32⟩
  | 85 => ⟨S8x256x1, .f32⟩
  | 86 => ⟨S8x256x1024, .f32⟩
  | 87 => ⟨S8x256x1024, .f32⟩
  | 88 => ⟨S_, .f32⟩
  | 89 => ⟨S8x1x1024, .f32⟩
  | 90 => ⟨S8x1x1024, .f32⟩
  | 91 => ⟨S8x256x1024, .f32⟩
  | 92 => ⟨S8x256x1024, .f32⟩
  | 93 => ⟨S8x256x1024, .f32⟩
  | 94 => ⟨S8x256x1024, .f32⟩
  | 95 => ⟨S9x256x1024, .f32⟩
  | 96 => ⟨S2304x1024, .f32⟩
  | 97 => ⟨S9x256x1024, .f32⟩
  | 98 => ⟨S1x256x1024, .f32⟩
  | 99 => ⟨S8x256x1024, .f32⟩
  | 100 => ⟨S_, .f32⟩
  | 101 => ⟨S8x1024, .f32⟩
  | 102 => ⟨S8x1x1024, .f32⟩
  | 103 => ⟨S8x256x1024, .f32⟩
  | 104 => ⟨S_, .f32⟩
  | 105 => ⟨S8x1024, .f32⟩
  | 106 => ⟨S8x1x1024, .f32⟩
  | 107 => ⟨S8x256x1024, .f32⟩
  | 108 => ⟨S8x256x1024, .f32⟩
  | 109 => ⟨S8x256x1024, .f32⟩
  | 110 => ⟨S_, .f32⟩
  | 111 => ⟨S8x256, .f32⟩
  | 112 => ⟨S8x256x1, .f32⟩
  | 113 => ⟨S8x256x1024, .f32⟩
  | 114 => ⟨S8x256x1024, .f32⟩
  | 115 => ⟨S8x256x1, .f32⟩
  | 116 => ⟨S8x256x1024, .f32⟩
  | 117 => ⟨S_, .f32⟩
  | 118 => ⟨S8x256, .f32⟩
  | 119 => ⟨S8x256x1, .f32⟩
  | 120 => ⟨S_, .f32⟩
  | 121 => ⟨S8x256x1, .f32⟩
  | 122 => ⟨S8x256x1, .f32⟩
  | 123 => ⟨S_, .f32⟩
  | 124 => ⟨S8x256, .f32⟩
  | 125 => ⟨S8x256x1024, .f32⟩
  | 126 => ⟨S8x256x1024, .f32⟩
  | 127 => ⟨S8x256x1024, .f32⟩
  | _ => ⟨S2304x1024, .f32⟩

abbrev hbmTy0_1 (i : Nat) : BufTy := match i % 128 with
  | 0 => ⟨S_, .f32⟩
  | 1 => ⟨S8x256, .f32⟩
  | 2 => ⟨S8x256x1, .f32⟩
  | 3 => ⟨S8x256x1024, .f32⟩
  | 4 => ⟨S8x256x1, .f32⟩
  | 5 => ⟨S_, .f32⟩
  | 6 => ⟨S8x256x1, .f32⟩
  | 7 => ⟨S8x256x1, .f32⟩
  | 8 => ⟨S_, .f32⟩
  | 9 => ⟨S8x256, .f32⟩
  | 10 => ⟨S8x256x1024, .f32⟩
  | 11 => ⟨S8x256x1024, .f32⟩
  | 12 => ⟨S_, .f32⟩
  | 13 => ⟨S8x1x1024, .f32⟩
  | 14 => ⟨S8x1x3072, .f32⟩
  | 15 => ⟨S_, .f32⟩
  | 16 => ⟨S9x1x3072, .f32⟩
  | 17 => ⟨S_, .f32⟩
  | 18 => ⟨S9x256x1024, .f32⟩
  | 19 => ⟨S_, .f32⟩
  | 20 => ⟨S1x1024, .f32⟩
  | 21 => ⟨S1x1x1024, .f32⟩
  | 22 => ⟨S1x256x1024, .f32⟩
  | 23 => ⟨S_, .f32⟩
  | 24 => ⟨S1x1024, .f32⟩
  | 25 => ⟨S1x1x1024, .f32⟩
  | 26 => ⟨S1x256x1024, .f32⟩
  | 27 => ⟨S1x256x1024, .f32⟩
  | 28 => ⟨S1x256x1024, .f32⟩
  | 29 => ⟨S_, .f32⟩
  | 30 => ⟨S1x256, .f32⟩
  | 31 => ⟨S1x256x1, .f32⟩
  | 32 => ⟨S1x256x1024, .f32⟩
  | 33 => ⟨S1x256x1024, .f32⟩
  | 34 => ⟨S1x256x1, .f32⟩
  | 35 => ⟨S1x256x1024, .f32⟩
  | 36 => ⟨S_, .f32⟩
  | 37 => ⟨S1x256, .f32⟩
  | 38 => ⟨S1x256x1, .f32⟩
  | 39 => ⟨S_, .f32⟩
  | 40 => ⟨S1x256x1, .f32⟩
  | 41 => ⟨S1x256x1, .f32⟩
  | 42 => ⟨S_, .f32⟩
  | 43 => ⟨S256, .f32⟩
  | 44 => ⟨S1x256, .f32⟩
  | 45 => ⟨S1x256x1024, .f32⟩
  | 46 => ⟨S1x256x1024, .f32⟩
  | 47 => ⟨S1x256x1024, .f32⟩
  | 48 => ⟨S_, .f32⟩
  | 49 => ⟨S1x256, .f32⟩
  | 50 => ⟨S1x256x1, .f32⟩
  | 51 => ⟨S1x256x1024, .f32⟩
  | 52 => ⟨S1x256x1, .f32⟩
  | 53 => ⟨S_, .f32⟩
  | 54 => ⟨S1x256x1, .f32⟩
  | 55 => ⟨S1x256x1, .f32⟩
  | 56 => ⟨S_, .f32⟩
  | 57 => ⟨S256, .f32⟩
  | 58 => ⟨S1x256, .f32⟩
  | 59 => ⟨S1x256x1024, .f32⟩
  | 60 => ⟨S1x256x1024, .f32⟩
  | 61 => ⟨S_, .f32⟩
  | 62 => ⟨S1x1x1024, .f32⟩
  | 63 => ⟨S1x1x3072, .f32⟩
  | 64 => ⟨S_, .f32⟩
  | 65 => ⟨S9x1x3072, .f32⟩
  | 66 => ⟨S_, .f32⟩
  | 67 => ⟨S9x256x1024, .f32⟩
  | 68 => ⟨S9x256x1024, .f32⟩
  | 69 => ⟨S2304x1024, .f32⟩
  | 70 => ⟨S2304x1024, .f32⟩
  | 71 => ⟨S_, .f32⟩
  | 72 => ⟨S9x6x3072, .f32⟩
  | 73 => ⟨S9x8x3072, .f32⟩
  | _ => ⟨S2304x1024, .f32⟩

abbrev hbmTy (i : Nat) : BufTy := match i / 128 with
  | 0 => hbmTy0_0 i
  | 1 => hbmTy0_1 i
  | _ => ⟨S2304x1024, .f32⟩

abbrev bufTy : (tb : Table) → Fin (tcTables nBuf tb) → BufTy
  | .hbm, ⟨i, _⟩ => hbmTy i
  | _, _ => ⟨S2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_7 : Ref sig .tc := ⟨.hbm, 58, rfl⟩
abbrev main_v46 : Ref sig .tc := ⟨.hbm, 59, rfl⟩
abbrev main_v47 : Ref sig .tc := ⟨.hbm, 60, rfl⟩
abbrev main_cst_8 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_9 : Ref sig .tc := ⟨.hbm, 67, rfl⟩
abbrev main_v53 : Ref sig .tc := ⟨.hbm, 68, rfl⟩
abbrev main_v54 : Ref sig .tc := ⟨.hbm, 69, rfl⟩
abbrev main_cst_10 : Ref sig .tc := ⟨.hbm, 70, rfl⟩
abbrev main_v55 : Ref sig .tc := ⟨.hbm, 71, rfl⟩
abbrev main_v56 : Ref sig .tc := ⟨.hbm, 72, rfl⟩
abbrev main_cst_11 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_12 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_13 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_14 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_15 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_cst_16 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_cst_17 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_cst_18 : Ref sig .tc := ⟨.hbm, 117, rfl⟩
abbrev main_v94 : Ref sig .tc := ⟨.hbm, 118, rfl⟩
abbrev main_v95 : Ref sig .tc := ⟨.hbm, 119, rfl⟩
abbrev main_cst_19 : Ref sig .tc := ⟨.hbm, 120, rfl⟩
abbrev main_v96 : Ref sig .tc := ⟨.hbm, 121, rfl⟩
abbrev main_v97 : Ref sig .tc := ⟨.hbm, 122, rfl⟩
abbrev main_cst_20 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_cst_21 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_cst_22 : Ref sig .tc := ⟨.hbm, 133, rfl⟩
abbrev main_v106 : Ref sig .tc := ⟨.hbm, 134, rfl⟩
abbrev main_v107 : Ref sig .tc := ⟨.hbm, 135, rfl⟩
abbrev main_cst_23 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_cst_24 : Ref sig .tc := ⟨.hbm, 140, rfl⟩
abbrev main_v111 : Ref sig .tc := ⟨.hbm, 141, rfl⟩
abbrev main_v112 : Ref sig .tc := ⟨.hbm, 142, rfl⟩
abbrev main_cst_25 : Ref sig .tc := ⟨.hbm, 143, rfl⟩
abbrev main_v113 : Ref sig .tc := ⟨.hbm, 144, rfl⟩
abbrev main_cst_26 : Ref sig .tc := ⟨.hbm, 145, rfl⟩
abbrev main_v114 : Ref sig .tc := ⟨.hbm, 146, rfl⟩
abbrev main_cst_27 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_cst_28 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_cst_29 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_cst_30 : Ref sig .tc := ⟨.hbm, 164, rfl⟩
abbrev main_v129 : Ref sig .tc := ⟨.hbm, 165, rfl⟩
abbrev main_v130 : Ref sig .tc := ⟨.hbm, 166, rfl⟩
abbrev main_cst_31 : Ref sig .tc := ⟨.hbm, 167, rfl⟩
abbrev main_v131 : Ref sig .tc := ⟨.hbm, 168, rfl⟩
abbrev main_v132 : Ref sig .tc := ⟨.hbm, 169, rfl⟩
abbrev main_cst_32 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_cst_33 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_cst_34 : Ref sig .tc := ⟨.hbm, 181, rfl⟩
abbrev main_v142 : Ref sig .tc := ⟨.hbm, 182, rfl⟩
abbrev main_v143 : Ref sig .tc := ⟨.hbm, 183, rfl⟩
abbrev main_cst_35 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_cst_36 : Ref sig .tc := ⟨.hbm, 189, rfl⟩
abbrev main_v148 : Ref sig .tc := ⟨.hbm, 190, rfl⟩
abbrev main_v149 : Ref sig .tc := ⟨.hbm, 191, rfl⟩
abbrev main_cst_37 : Ref sig .tc := ⟨.hbm, 192, rfl⟩
abbrev main_v150 : Ref sig .tc := ⟨.hbm, 193, rfl⟩
abbrev main_cst_38 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_cst_39 : Ref sig .tc := ⟨.hbm, 199, rfl⟩
abbrev main_v155 : Ref sig .tc := ⟨.hbm, 200, rfl⟩
abbrev main_v156 : Ref sig .tc := ⟨.hbm, 201, rfl⟩

abbrev nD : Nat := 1
abbrev τ : Topo := Topo.v7x

variable {F : FTy → Type} [FloatOps F]
-- ==== MergeFwd.lean ====
abbrev S2304x1024 : Shape := ⟨2, ![2304, 1024]⟩
abbrev S8x3072 : Shape := ⟨2, ![8, 3072]⟩
abbrev S2304x512 : Shape := ⟨2, ![2304, 512]⟩
abbrev S2304x6144 : Shape := ⟨2, ![2304, 6144]⟩
abbrev S1x512 : Shape := ⟨2, ![1, 512]⟩
abbrev S1x1024 : Shape := ⟨2, ![1, 1024]⟩
abbrev S4x512x1024 : Shape := ⟨3, ![4, 512, 1024]⟩
abbrev S1024x1024 : Shape := ⟨2, ![1024, 1024]⟩
abbrev S256x1024 : Shape := ⟨2, ![256, 1024]⟩
abbrev S256x512 : Shape := ⟨2, ![256, 512]⟩
abbrev S256x4096 : Shape := ⟨2, ![256, 4096]⟩
abbrev S256x1 : Shape := ⟨2, ![256, 1]⟩
abbrev S1x3072 : Shape := ⟨2, ![1, 3072]⟩
abbrev S1x512x1024 : Shape := ⟨3, ![1, 512, 1024]⟩
abbrev S512x1024 : Shape := ⟨2, ![512, 1024]⟩
abbrev S256x128 : Shape := ⟨2, ![256, 128]⟩
abbrev S1x128 : Shape := ⟨2, ![1, 128]⟩
abbrev S256 : Shape := ⟨1, ![256]⟩

abbrev nBuf : Space → Nat
  | .hbm => 16
  | .vmem => 32
  | .smem => 0
  | _ => 0

abbrev bufTy : (tb : Table) → Fin (tcTables nBuf tb) → BufTy
  | .hbm, ⟨0, _⟩ => ⟨S2304x1024, .f32⟩
  | .hbm, ⟨1, _⟩ => ⟨S8x3072, .f32⟩
  | .hbm, ⟨2, _⟩ => ⟨S2304x512, .f32⟩
  | .hbm, ⟨3, _⟩ => ⟨S2304x512, .f32⟩
  | .hbm, ⟨4, _⟩ => ⟨S2304x512, .f32⟩
  | .hbm, ⟨5, _⟩ => ⟨S2304x512, .f32⟩
  | .hbm, ⟨6, _⟩ => ⟨S2304x512, .f32⟩
  | .hbm, ⟨7, _⟩ => ⟨S2304x6144, .bf16⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1x1024, .f32⟩
  | .hbm, ⟨12, _⟩ => ⟨S1x1024, .f32⟩
  | .hbm, ⟨13, _⟩ => ⟨S4x512x1024, .bf16⟩
  | .hbm, ⟨14, _⟩ => ⟨S1024x1024, .bf16⟩
  | .hbm, ⟨15, _⟩ => ⟨S2304x1024, .f32⟩
  | .local _ .vmem, ⟨0, _⟩ => ⟨S256x1024, .f32⟩
  | .local _ .vmem, ⟨1, _⟩ => ⟨S256x1024, .f32⟩
  | .local _ .vmem, ⟨2, _⟩ => ⟨S8x3072, .f32⟩
  | .local _ .vmem, ⟨3, _⟩ => ⟨S256x512, .f32⟩
  | .local _ .vmem, ⟨4, _⟩ => ⟨S256x512, .f32⟩
  | .local _ .vmem, ⟨5, _⟩ => ⟨S256x512, .bf16⟩
  | .local _ .vmem, ⟨6, _⟩ => ⟨S256x512, .bf16⟩
  | .local _ .vmem, ⟨7, _⟩ => ⟨S256x512, .f32⟩
  | .local _ .vmem, ⟨8, _⟩ => ⟨S256x512, .f32⟩
  | .local _ .vmem, ⟨9, _⟩ => ⟨S256x512, .bf16⟩
  | .local _ .vmem, ⟨10, _⟩ => ⟨S256x512, .bf16⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .bf16⟩
  | .local _ .vmem, ⟨16, _⟩ => ⟨S256x512, .bf16⟩
  | .local _ .vmem, ⟨17, _⟩ => ⟨S256x512, .f32⟩
  | .local _ .vmem, ⟨18, _⟩ => ⟨S256x512, .f32⟩
  | .local _ .vmem, ⟨19, _⟩ => ⟨S256x512, .bf16⟩
  | .local _ .vmem, ⟨20, _⟩ => ⟨S256x512, .bf16⟩
  | .local _ .vmem, ⟨21, _⟩ => ⟨S256x4096, .bf16⟩
  | .local _ .vmem, ⟨22, _⟩ => ⟨S256x4096, .bf16⟩
  | .local _ .vmem, ⟨23, _⟩ => ⟨S1x512, .f32⟩
  | .local _ .vmem, ⟨24, _⟩ => ⟨S1x512, .f32⟩
  | .local _ .vmem, ⟨25, _⟩ => ⟨S1x512, .f32⟩
  | .local _ .vmem, ⟨26, _⟩ => ⟨S1x1024, .f32⟩
  | .local _ .vmem, ⟨27, _⟩ => ⟨S1x1024, .f32⟩
  | .local _ .vmem, ⟨28, _⟩ => ⟨S4x512x1024, .bf16⟩
  | .local _ .vmem, ⟨29, _⟩ => ⟨S1024x1024, .bf16⟩
  | .local _ .vmem, ⟨30, _⟩ => ⟨S256x1024, .f32⟩
  | .local _ .vmem, ⟨31, _⟩ => ⟨S256x1024, .f32⟩
  | _, _ => ⟨S2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg19_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem19_1 : DmaSem sig := 31

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x512x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== MergeFwdRefIdeal.lean ====
abbrev S2304x1024 : Shape := ⟨2, ![2304, 1024]⟩
abbrev S8x3072 : Shape := ⟨2, ![8, 3072]⟩
abbrev S2304x512 : Shape := ⟨2, ![2304, 512]⟩
abbrev S2304x6144 : Shape := ⟨2, ![2304, 6144]⟩
abbrev S1x512 : Shape := ⟨2, ![1, 512]⟩
abbrev S1x1024 : Shape := ⟨2, ![1, 1024]⟩
abbrev S4x512x1024 : Shape := ⟨3, ![4, 512, 1024]⟩
abbrev S1024x1024 : Shape := ⟨2, ![1024, 1024]⟩
abbrev S2304x4096 : Shape := ⟨2, ![2304, 4096]⟩
abbrev S2304x4x128 : Shape := ⟨3, ![2304, 4, 128]⟩
abbrev S1x4x128 : Shape := ⟨3, ![1, 4, 128]⟩
abbrev S_ : Shape := ⟨0, ![]⟩
abbrev S2304x4 : Shape := ⟨2, ![2304, 4]⟩
abbrev S2304x4x1 : Shape := ⟨3, ![2304, 4, 1]⟩
abbrev S2304 : Shape := ⟨1, ![2304]⟩
abbrev S2304x1 : Shape := ⟨2, ![2304, 1]⟩
abbrev S1x512x1024 : Shape := ⟨3, ![1, 512, 1024]⟩
abbrev S512x1024 : Shape := ⟨2, ![512, 1024]⟩
abbrev S2304x4x1024 : Shape := ⟨3, ![2304, 4, 1024]⟩
abbrev S2304x1x1024 : Shape := ⟨3, ![2304, 1, 1024]⟩
abbrev S8x1024 : Shape := ⟨2, ![8, 1024]⟩
abbrev S256x1024 : Shape := ⟨2, ![256, 1024]⟩
abbrev S1024 : Shape := ⟨1, ![1024]⟩
abbrev S256 : Shape := ⟨1, ![256]⟩
abbrev S256x1 : Shape := ⟨2, ![256, 1]⟩
abbrev S2048x1024 : Shape := ⟨2, ![2048, 1024]⟩
abbrev S2048 : Shape := ⟨1, ![2048]⟩
abbrev S2048x1 : Shape := ⟨2, ![2048, 1]⟩

abbrev nBuf : Space → Nat
  | .hbm => 236
  | .vmem => 0
  | .smem => 0
  | _ => 0

abbrev hbmTy0_0 (i : Nat) : BufTy := match i % 128 with
  | 0 => ⟨S2304x1024, .f32⟩
  | 1 => ⟨S8x3072, .f32⟩
  | 2 => ⟨S2304x512, .f32⟩
  | 3 => ⟨S2304x512, .f32⟩
  | 4 => ⟨S2304x512, .f32⟩
  | 5 => ⟨S2304x512, .f32⟩
  | 6 => ⟨S2304x512, .f32⟩
  | 7 => ⟨S2304x6144, .bf16⟩
  | 8 => ⟨S1x512, .f32⟩
  | 9 => ⟨S1x512, .f32⟩
  | 10 => ⟨S1x512, .f32⟩
  | 11 => ⟨S1x1024, .f32⟩
  | 12 => ⟨S1x1024, .f32⟩
  | 13 => ⟨S4x512x1024, .bf16⟩
  | 14 => ⟨S1024x1024, .bf16⟩
  | 15 => ⟨S2304x6144, .f32⟩
  | 16 => ⟨S2304x4096, .f32⟩
  | 17 => ⟨S2304x512, .f32⟩
  | 18 => ⟨S2304x512, .f32⟩
  | 19 => ⟨S2304x512, .f32⟩
  | 20 => ⟨S2304x512, .f32⟩
  | 21 => ⟨S2304x512, .f32⟩
  | 22 => ⟨S2304x4x128, .f32⟩
  | 23 => ⟨S1x4x128, .f32⟩
  | 24 => ⟨S2304x4x128, .f32⟩
  | 25 => ⟨S_, .f32⟩
  | 26 => ⟨S2304x4, .f32⟩
  | 27 => ⟨S2304x4x1, .f32⟩
  | 28 => ⟨S_, .f32⟩
  | 29 => ⟨S2304x4x1, .f32⟩
  | 30 => ⟨S2304x4x1, .f32⟩
  | 31 => ⟨S_, .f32⟩
  | 32 => ⟨S2304x4x1, .f32⟩
  | 33 => ⟨S2304x4x1, .f32⟩
  | 34 => ⟨S2304x4x1, .f32⟩
  | 35 => ⟨S2304x4x128, .f32⟩
  | 36 => ⟨S2304x4x128, .f32⟩
  | 37 => ⟨S2304x4x128, .f32⟩
  | 38 => ⟨S2304x4x128, .f32⟩
  | 39 => ⟨S2304x512, .f32⟩
  | 40 => ⟨S_, .f32⟩
  | 41 => ⟨S2304, .f32⟩
  | 42 => ⟨S2304x1, .f32⟩
  | 43 => ⟨S_, .f32⟩
  | 44 => ⟨S2304x1, .f32⟩
  | 45 => ⟨S2304x1, .f32⟩
  | 46 => ⟨S2304x512, .f32⟩
  | 47 => ⟨S2304x512, .f32⟩
  | 48 => ⟨S2304x512, .f32⟩
  | 49 => ⟨S_, .f32⟩
  | 50 => ⟨S2304, .f32⟩
  | 51 => ⟨S2304x1, .f32⟩
  | 52 => ⟨S_, .f32⟩
  | 53 => ⟨S2304x1, .f32⟩
  | 54 => ⟨S2304x1, .f32⟩
  | 55 => ⟨S2304x512, .f32⟩
  | 56 => ⟨S2304x512, .f32⟩
  | 57 => ⟨S_, .f32⟩
  | 58 => ⟨S2304x1, .f32⟩
  | 59 => ⟨S2304x1, .f32⟩
  | 60 => ⟨S2304x1, .f32⟩
  | 61 => ⟨S2304x512, .f32⟩
  | 62 => ⟨S2304x512, .f32⟩
  | 63 => ⟨S2304x512, .f32⟩
  | 64 => ⟨S2304x512, .f32⟩
  | 65 => ⟨S2304x512, .f32⟩
  | 66 => ⟨S2304x512, .f32⟩
  | 67 => ⟨S2304x512, .f32⟩
  | 68 => ⟨S2304x512, .f32⟩
  | 69 => ⟨S_, .f32⟩
  | 70 => ⟨S2304x512, .f32⟩
  | 71 => ⟨S2304x512, .f32⟩
  | 72 => ⟨S_, .f32⟩
  | 73 => ⟨S2304x512, .f32⟩
  | 74 => ⟨S2304x512, .f32⟩
  | 75 => ⟨S2304x512, .f32⟩
  | 76 => ⟨S2304x512, .f32⟩
  | 77 => ⟨S2304x512, .f32⟩
  | 78 => ⟨S_, .f32⟩
  | 79 => ⟨S2304x512, .f32⟩
  | 80 => ⟨S2304x512, .f32⟩
  | 81 => ⟨S_, .f32⟩
  | 82 => ⟨S2304x512, .f32⟩
  | 83 => ⟨S2304x512, .f32⟩
  | 84 => ⟨S2304x512, .f32⟩
  | 85 => ⟨S2304x512, .f32⟩
  | 86 => ⟨S2304x512, .f32⟩
  | 87 => ⟨S2304x512, .f32⟩
  | 88 => ⟨S_, .f32⟩
  | 89 => ⟨S2304x512, .f32⟩
  | 90 => ⟨S2304x512, .f32⟩
  | 91 => ⟨S_, .f32⟩
  | 92 => ⟨S2304x512, .f32⟩
  | 93 => ⟨S2304x512, .f32⟩
  | 94 => ⟨S2304x512, .f32⟩
  | 95 => ⟨S2304x512, .f32⟩
  | 96 => ⟨S2304x512, .f32⟩
  | 97 => ⟨S2304x512, .f32⟩
  | 98 => ⟨S_, .f32⟩
  | 99 => ⟨S2304x512, .f32⟩
  | 100 => ⟨S2304x512, .f32⟩
  | 101 => ⟨S_, .f32⟩
  | 102 => ⟨S2304x512, .f32⟩
  | 103 => ⟨S2304x512, .f32⟩
  | 104 => ⟨S2304x512, .f32⟩
  | 105 => ⟨S2304x512, .f32⟩
  | 106 => ⟨S2304x512, .f32⟩
  | 107 => ⟨S2304x512, .f32⟩
  | 108 => ⟨S_, .f32⟩
  | 109 => ⟨S2304x512, .f32⟩
  | 110 => ⟨S2304x512, .f32⟩
  | 111 => ⟨S_, .f32⟩
  | 112 => ⟨S2304x512, .f32⟩
  | 113 => ⟨S2304x512, .f32⟩
  | 114 => ⟨S2304x512, .f32⟩
  | 115 => ⟨S2304x512, .f32⟩
  | 116 => ⟨S1x512x1024, .bf16⟩
  | 117 => ⟨S512x1024, .bf16⟩
  | 118 => ⟨S512x1024, .f32⟩
  | 119 => ⟨S2304x1024, .f32⟩
  | 120 => ⟨S1x512x1024, .bf16⟩
  | 121 => ⟨S512x1024, .bf16⟩
  | 122 => ⟨S512x1024, .f32⟩
  | 123 => ⟨S2304x1024, .f32⟩
  | 124 => ⟨S1x512x1024, .bf16⟩
  | 125 => ⟨S512x1024, .bf16⟩
  | 126 => ⟨S512x1024, .f32⟩
  | 127 => ⟨S2304x1024, .f32⟩
  | _ => ⟨S2304x1024, .f32⟩

abbrev hbmTy0_1 (i : Nat) : BufTy := match i % 128 with
  | 0 => ⟨S1x512x1024, .bf16⟩
  | 1 => ⟨S512x1024, .bf16⟩
  | 2 => ⟨S512x1024, .f32⟩
  | 3 => ⟨S2304x1024, .f32⟩
  | 4 => ⟨S2304x4x1024, .f32⟩
  | 5 => ⟨S2304x4x1024, .f32⟩
  | 6 => ⟨S2304x4x1024, .f32⟩
  | 7 => ⟨S_, .f32⟩
  | 8 => ⟨S2304x4x1024, .f32⟩
  | 9 => ⟨S2304x4x1024, .f32⟩
  | 10 => ⟨S_, .f32⟩
  | 11 => ⟨S2304x4x1024, .f32⟩
  | 12 => ⟨S2304x4x1024, .f32⟩
  | 13 => ⟨S2304x1x1024, .f32⟩
  | 14 => ⟨S2304x1024, .f32⟩
  | 15 => ⟨S2304x1024, .f32⟩
  | 16 => ⟨S2304x1x1024, .f32⟩
  | 17 => ⟨S2304x1024, .f32⟩
  | 18 => ⟨S2304x1024, .f32⟩
  | 19 => ⟨S2304x1024, .f32⟩
  | 20 => ⟨S2304x1x1024, .f32⟩
  | 21 => ⟨S2304x1024, .f32⟩
  | 22 => ⟨S2304x1024, .f32⟩
  | 23 => ⟨S2304x1024, .f32⟩
  | 24 => ⟨S2304x1x1024, .f32⟩
  | 25 => ⟨S2304x1024, .f32⟩
  | 26 => ⟨S2304x1024, .f32⟩
  | 27 => ⟨S2304x1024, .f32⟩
  | 28 => ⟨S1024x1024, .f32⟩
  | 29 => ⟨S2304x1024, .f32⟩
  | 30 => ⟨S8x1024, .f32⟩
  | 31 => ⟨S256x1024, .f32⟩
  | 32 => ⟨S256x1024, .f32⟩
  | 33 => ⟨S1x1024, .f32⟩
  | 34 => ⟨S1024, .f32⟩
  | 35 => ⟨S_, .f32⟩
  | 36 => ⟨S256x1024, .f32⟩
  | 37 => ⟨S256x1024, .f32⟩
  | 38 => ⟨S1x1024, .f32⟩
  | 39 => ⟨S256x1024, .f32⟩
  | 40 => ⟨S256x1024, .f32⟩
  | 41 => ⟨S256x1024, .f32⟩
  | 42 => ⟨S_, .f32⟩
  | 43 => ⟨S256, .f32⟩
  | 44 => ⟨S256x1, .f32⟩
  | 45 => ⟨S_, .f32⟩
  | 46 => ⟨S256x1, .f32⟩
  | 47 => ⟨S256x1, .f32⟩
  | 48 => ⟨S256x1024, .f32⟩
  | 49 => ⟨S256x1024, .f32⟩
  | 50 => ⟨S256x1024, .f32⟩
  | 51 => ⟨S_, .f32⟩
  | 52 => ⟨S256, .f32⟩
  | 53 => ⟨S256x1, .f32⟩
  | 54 => ⟨S_, .f32⟩
  | 55 => ⟨S256x1, .f32⟩
  | 56 => ⟨S256x1, .f32⟩
  | 57 => ⟨S256x1024, .f32⟩
  | 58 => ⟨S256x1024, .f32⟩
  | 59 => ⟨S_, .f32⟩
  | 60 => ⟨S256x1, .f32⟩
  | 61 => ⟨S256x1, .f32⟩
  | 62 => ⟨S256x1, .f32⟩
  | 63 => ⟨S256x1024, .f32⟩
  | 64 => ⟨S256x1024, .f32⟩
  | 65 => ⟨S256x1024, .f32⟩
  | 66 => ⟨S256x1024, .f32⟩
  | 67 => ⟨S256x1024, .f32⟩
  | 68 => ⟨S256x1024, .f32⟩
  | 69 => ⟨S2048x1024, .f32⟩
  | 70 => ⟨S2048x1024, .f32⟩
  | 71 => ⟨S1x1024, .f32⟩
  | 72 => ⟨S1024, .f32⟩
  | 73 => ⟨S_, .f32⟩
  | 74 => ⟨S2048x1024, .f32⟩
  | 75 => ⟨S2048x1024, .f32⟩
  | 76 => ⟨S1x1024, .f32⟩
  | 77 => ⟨S2048x1024, .f32⟩
  | 78 => ⟨S2048x1024, .f32⟩
  | 79 => ⟨S2048x1024, .f32⟩
  | 80 => ⟨S_, .f32⟩
  | 81 => ⟨S2048, .f32⟩
  | 82 => ⟨S2048x1, .f32⟩
  | 83 => ⟨S_, .f32⟩
  | 84 => ⟨S2048x1, .f32⟩
  | 85 => ⟨S2048x1, .f32⟩
  | 86 => ⟨S2048x1024, .f32⟩
  | 87 => ⟨S2048x1024, .f32⟩
  | 88 => ⟨S2048x1024, .f32⟩
  | 89 => ⟨S_, .f32⟩
  | 90 => ⟨S2048, .f32⟩
  | 91 => ⟨S2048x1, .f32⟩
  | 92 => ⟨S_, .f32⟩
  | 93 => ⟨S2048x1, .f32⟩
  | 94 => ⟨S2048x1, .f32⟩
  | 95 => ⟨S2048x1024, .f32⟩
  | 96 => ⟨S2048x1024, .f32⟩
  | 97 => ⟨S_, .f32⟩
  | 98 => ⟨S2048x1, .f32⟩
  | 99 => ⟨S2048x1, .f32⟩
  | 100 => ⟨S2048x1, .f32⟩
  | 101 => ⟨S2048x1024, .f32⟩
  | 102 => ⟨S2048x1024, .f32⟩
  | 103 => ⟨S2048x1024, .f32⟩
  | 104 => ⟨S2048x1024, .f32⟩
  | 105 => ⟨S2048x1024, .f32⟩
  | 106 => ⟨S2048x1024, .f32⟩
  | 107 => ⟨S2304x1024, .f32⟩
  | _ => ⟨S2304x1024, .f32⟩

abbrev hbmTy (i : Nat) : BufTy := match i / 128 with
  | 0 => hbmTy0_0 i
  | 1 => hbmTy0_1 i
  | _ => ⟨S2304x1024, .f32⟩

abbrev bufTy : (tb : Table) → Fin (tcTables nBuf tb) → BufTy
  | .hbm, ⟨i, _⟩ => hbmTy i
  | _, _ => ⟨S2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_6 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_call0_v0 : Ref sig .tc := ⟨.hbm, 67, rfl⟩
abbrev main_call0_v1 : Ref sig .tc := ⟨.hbm, 68, rfl⟩
abbrev main_call0_cst : Ref sig .tc := ⟨.hbm, 69, rfl⟩
abbrev main_call0_v2 : Ref sig .tc := ⟨.hbm, 70, rfl⟩
abbrev main_call0_v3 : Ref sig .tc := ⟨.hbm, 71, rfl⟩
abbrev main_call0_cst_0 : Ref sig .tc := ⟨.hbm, 72, rfl⟩
abbrev main_call0_v4 : Ref sig .tc := ⟨.hbm, 73, rfl⟩
abbrev main_call0_v5 : Ref sig .tc := ⟨.hbm, 74, rfl⟩
abbrev main_v44 : Ref sig .tc := ⟨.hbm, 75, rfl⟩
abbrev main_call1_v0 : Ref sig .tc := ⟨.hbm, 76, rfl⟩
abbrev main_call1_v1 : Ref sig .tc := ⟨.hbm, 77, rfl⟩
abbrev main_call1_cst : Ref sig .tc := ⟨.hbm, 78, rfl⟩
abbrev main_call1_v2 : Ref sig .tc := ⟨.hbm, 79, rfl⟩
abbrev main_call1_v3 : Ref sig .tc := ⟨.hbm, 80, rfl⟩
abbrev main_call1_cst_0 : Ref sig .tc := ⟨.hbm, 81, rfl⟩
abbrev main_call1_v4 : Ref sig .tc := ⟨.hbm, 82, rfl⟩
abbrev main_call1_v5 : Ref sig .tc := ⟨.hbm, 83, rfl⟩
abbrev main_v45 : Ref sig .tc := ⟨.hbm, 84, rfl⟩
abbrev main_v46 : Ref sig .tc := ⟨.hbm, 85, rfl⟩
abbrev main_call2_v0 : Ref sig .tc := ⟨.hbm, 86, rfl⟩
abbrev main_call2_v1 : Ref sig .tc := ⟨.hbm, 87, rfl⟩
abbrev main_call2_cst : Ref sig .tc := ⟨.hbm, 88, rfl⟩
abbrev main_call2_v2 : Ref sig .tc := ⟨.hbm, 89, rfl⟩
abbrev main_call2_v3 : Ref sig .tc := ⟨.hbm, 90, rfl⟩
abbrev main_call2_cst_0 : Ref sig .tc := ⟨.hbm, 91, rfl⟩
abbrev main_call2_v4 : Ref sig .tc := ⟨.hbm, 92, rfl⟩
abbrev main_call2_v5 : Ref sig .tc := ⟨.hbm, 93, rfl⟩
abbrev main_v47 : Ref sig .tc := ⟨.hbm, 94, rfl⟩
abbrev main_v48 : Ref sig .tc := ⟨.hbm, 95, rfl⟩
abbrev main_call3_v0 : Ref sig .tc := ⟨.hbm, 96, rfl⟩
abbrev main_call3_v1 : Ref sig .tc := ⟨.hbm, 97, rfl⟩
abbrev main_call3_cst : Ref sig .tc := ⟨.hbm, 98, rfl⟩
abbrev main_call3_v2 : Ref sig .tc := ⟨.hbm, 99, rfl⟩
abbrev main_call3_v3 : Ref sig .tc := ⟨.hbm, 100, rfl⟩
abbrev main_call3_cst_0 : Ref sig .tc := ⟨.hbm, 101, rfl⟩
abbrev main_call3_v4 : Ref sig .tc := ⟨.hbm, 102, rfl⟩
abbrev main_call3_v5 : Ref sig .tc := ⟨.hbm, 103, rfl⟩
abbrev main_v49 : Ref sig .tc := ⟨.hbm, 104, rfl⟩
abbrev main_v50 : Ref sig .tc := ⟨.hbm, 105, rfl⟩
abbrev main_call4_v0 : Ref sig .tc := ⟨.hbm, 106, rfl⟩
abbrev main_call4_v1 : Ref sig .tc := ⟨.hbm, 107, rfl⟩
abbrev main_call4_cst : Ref sig .tc := ⟨.hbm, 108, rfl⟩
abbrev main_call4_v2 : Ref sig .tc := ⟨.hbm, 109, rfl⟩
abbrev main_call4_v3 : Ref sig .tc := ⟨.hbm, 110, rfl⟩
abbrev main_call4_cst_0 : Ref sig .tc := ⟨.hbm, 111, rfl⟩
abbrev main_call4_v4 : Ref sig .tc := ⟨.hbm, 112, rfl⟩
abbrev main_call4_v5 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_cst_7 : Ref sig .tc := ⟨.hbm, 135, rfl⟩
abbrev main_v72 : Ref sig .tc := ⟨.hbm, 136, rfl⟩
abbrev main_v73 : Ref sig .tc := ⟨.hbm, 137, rfl⟩
abbrev main_cst_8 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_cst_9 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_cst_10 : Ref sig .tc := ⟨.hbm, 170, rfl⟩
abbrev main_v104 : Ref sig .tc := ⟨.hbm, 171, rfl⟩
abbrev main_v105 : Ref sig .tc := ⟨.hbm, 172, rfl⟩
abbrev main_cst_11 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_cst_12 : Ref sig .tc := ⟨.hbm, 179, rfl⟩
abbrev main_v111 : Ref sig .tc := ⟨.hbm, 180, rfl⟩
abbrev main_v112 : Ref sig .tc := ⟨.hbm, 181, rfl⟩
abbrev main_cst_13 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_cst_14 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_cst_15 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_cst_16 : Ref sig .tc := ⟨.hbm, 208, rfl⟩
abbrev main_v136 : Ref sig .tc := ⟨.hbm, 209, rfl⟩
abbrev main_v137 : Ref sig .tc := ⟨.hbm, 210, rfl⟩
abbrev main_cst_17 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_v142 : Ref sig .tc := ⟨.hbm, 216, rfl⟩
abbrev main_cst_18 : Ref sig .tc := ⟨.hbm, 217, rfl⟩
abbrev main_v143 : Ref sig .tc := ⟨.hbm, 218, rfl⟩
abbrev main_v144 : Ref sig .tc := ⟨.hbm, 219, rfl⟩
abbrev main_cst_19 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_cst_20 : Ref sig .tc := ⟨.hbm, 225, rfl⟩
abbrev main_v149 : Ref sig .tc := ⟨.hbm, 226, rfl⟩
abbrev main_v150 : Ref sig .tc := ⟨.hbm, 227, rfl⟩
abbrev main_v151 : Ref sig .tc := ⟨.hbm, 228, rfl⟩
abbrev main_v152 : Ref sig .tc := ⟨.hbm, 229, rfl⟩
abbrev main_v153 : Ref sig .tc := ⟨.hbm, 230, rfl⟩
abbrev main_v154 : Ref sig .tc := ⟨.hbm, 231, rfl⟩
abbrev main_v155 : Ref sig .tc := ⟨.hbm, 232, rfl⟩
abbrev main_v156 : Ref sig .tc := ⟨.hbm, 233, rfl⟩
abbrev main_v157 : Ref sig .tc := ⟨.hbm, 234, rfl⟩
abbrev main_v158 : Ref sig .tc := ⟨.hbm, 235, rfl⟩

abbrev nD : Nat := 1
abbrev τ : Topo := Topo.v7x

variable {F : FTy → Type} [FloatOps F]
-- ==== ModFwd.lean ====
abbrev S8x1024 : Shape := ⟨2, ![8, 1024]⟩
abbrev S4x1024x768 : Shape := ⟨3, ![4, 1024, 768]⟩
abbrev S3072 : Shape := ⟨1, ![3072]⟩
abbrev S1x3072 : Shape := ⟨2, ![1, 3072]⟩
abbrev S8x3072 : Shape := ⟨2, ![8, 3072]⟩
abbrev S1x1024x768 : Shape := ⟨3, ![1, 1024, 768]⟩
abbrev S1x768 : Shape := ⟨2, ![1, 768]⟩
abbrev S8x768 : Shape := ⟨2, ![8, 768]⟩
abbrev S1024x768 : Shape := ⟨2, ![1024, 768]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x768, .bf16⟩
  | .hbm, ⟨2, _⟩ => ⟨S3072, .f32⟩
  | .hbm, ⟨3, _⟩ => ⟨S1x3072, .f32⟩
  | .hbm, ⟨4, _⟩ => ⟨S8x3072, .f32⟩
  | .local _ .vmem, ⟨0, _⟩ => ⟨S8x1024, .f32⟩
  | .local _ .vmem, ⟨1, _⟩ => ⟨S1x1024x768, .bf16⟩
  | .local _ .vmem, ⟨2, _⟩ => ⟨S1x1024x768, .bf16⟩
  | .local _ .vmem, ⟨3, _⟩ => ⟨S1x768, .f32⟩
  | .local _ .vmem, ⟨4, _⟩ => ⟨S1x768, .f32⟩
  | .local _ .vmem, ⟨5, _⟩ => ⟨S8x768, .f32⟩
  | .local _ .vmem, ⟨6, _⟩ => ⟨S8x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModFwdRefIdeal.lean ====
abbrev S8x1024 : Shape := ⟨2, ![8, 1024]⟩
abbrev S4x1024x768 : Shape := ⟨3, ![4, 1024, 768]⟩
abbrev S3072 : Shape := ⟨1, ![3072]⟩
abbrev S_ : Shape := ⟨0, ![]⟩
abbrev S1024x4x768 : Shape := ⟨3, ![1024, 4, 768]⟩
abbrev S1024x3072 : Shape := ⟨2, ![1024, 3072]⟩
abbrev S8x3072 : Shape := ⟨2, ![8, 3072]⟩
abbrev S1x3072 : Shape := ⟨2, ![1, 3072]⟩

abbrev nBuf : Space → Nat
  | .hbm => 19
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x768, .bf16⟩
  | .hbm, ⟨2, _⟩ => ⟨S3072, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S4x1024x768, .f32⟩
  | .hbm, ⟨13, _⟩ => ⟨S1024x4x768, .f32⟩
  | .hbm, ⟨14, _⟩ => ⟨S1024x3072, .f32⟩
  | .hbm, ⟨15, _⟩ => ⟨S8x3072, .f32⟩
  | .hbm, ⟨16, _⟩ => ⟨S1x3072, .f32⟩
  | .hbm, ⟨17, _⟩ => ⟨S8x3072, .f32⟩
  | .hbm, ⟨18, _⟩ => ⟨S8x3072, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== ModBwd.lean ====
abbrev S8x1024 : Shape := ⟨2, ![8, 1024]⟩
abbrev S4x1024x768 : Shape := ⟨3, ![4, 1024, 768]⟩
abbrev S2x8x3072 : Shape := ⟨3, ![2, 8, 3072]⟩
abbrev S4x2x1024x768 : Shape := ⟨4, ![4, 2, 1024, 768]⟩
abbrev S2x4x8x1024 : Shape := ⟨4, ![2, 4, 8, 1024]⟩
abbrev S1x1024x768 : Shape := ⟨3, ![1, 1024, 768]⟩
abbrev S1x8x768 : Shape := ⟨3, ![1, 8, 768]⟩
abbrev S1x1x1024x768 : Shape := ⟨4, ![1, 1, 1024, 768]⟩
abbrev S1x1x8x1024 : Shape := ⟨4, ![1, 1, 8, 1024]⟩
abbrev S1024x768 : Shape := ⟨2, ![1024, 768]⟩
abbrev S8x768 : Shape := ⟨2, ![8, 768]⟩

abbrev nBuf : Space → Nat
  | .hbm => 6
  | .vmem => 11
  | .smem => 0
  | _ => 0

abbrev bufTy : (tb : Table) → Fin (tcTables nBuf tb) → BufTy
  | .hbm, ⟨0, _⟩ => ⟨S8x1024, .f32⟩
  | .hbm, ⟨1, _⟩ => ⟨S4x1024x768, .bf16⟩
  | .hbm, ⟨2, _⟩ => ⟨S4x1024x768, .bf16⟩
  | .hbm, ⟨3, _⟩ => ⟨S2x8x3072, .f32⟩
  | .hbm, ⟨4, _⟩ => ⟨S4x2x1024x768, .bf16⟩
  | .hbm, ⟨5, _⟩ => ⟨S2x4x8x1024, .f32⟩
  | .local _ .vmem, ⟨0, _⟩ => ⟨S8x1024, .f32⟩
  | .local _ .vmem, ⟨1, _⟩ => ⟨S1x1024x768, .bf16⟩
  | .local _ .vmem, ⟨2, _⟩ => ⟨S1x1024x768, .bf16⟩
  | .local _ .vmem, ⟨3, _⟩ => ⟨S1x1024x768, .bf16⟩
  | .local _ .vmem, ⟨4, _⟩ => ⟨S1x1024x768, .bf16⟩
  | .local _ .vmem, ⟨5, _⟩ => ⟨S1x8x768, .f32⟩
  | .local _ .vmem, ⟨6, _⟩ => ⟨S1x8x768, .f32⟩
  | .local _ .vmem, ⟨7, _⟩ => ⟨S1x1x1024x768, .bf16⟩
  | .local _ .vmem, ⟨8, _⟩ => ⟨S1x1x1024x768, .bf16⟩
  | .local _ .vmem, ⟨9, _⟩ => ⟨S1x1x8x1024, .f32⟩
  | .local _ .vmem, ⟨10, _⟩ => ⟨S1x1x8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ModBwdRefIdeal.lean ====
abbrev S8x1024 : Shape := ⟨2, ![8, 1024]⟩
abbrev S4x1024x768 : Shape := ⟨3, ![4, 1024, 768]⟩
abbrev S2x8x3072 : Shape := ⟨3, ![2, 8, 3072]⟩
abbrev S1x8x3072 : Shape := ⟨3, ![1, 8, 3072]⟩
abbrev S8x3072 : Shape := ⟨2, ![8, 3072]⟩
abbrev S4x8x1024 : Shape := ⟨3, ![4, 8, 1024]⟩
abbrev S_ : Shape := ⟨0, ![]⟩
abbrev S4x8x768 : Shape := ⟨3, ![4, 8, 768]⟩
abbrev S8x4x768 : Shape := ⟨3, ![8, 4, 768]⟩
abbrev S4x768x1024 : Shape := ⟨3, ![4, 768, 1024]⟩
abbrev S4x1x1024x768 : Shape := ⟨4, ![4, 1, 1024, 768]⟩
abbrev S4x2x1024x768 : Shape := ⟨4, ![4, 2, 1024, 768]⟩
abbrev S1x4x8x1024 : Shape := ⟨4, ![1, 4, 8, 1024]⟩
abbrev S2x4x8x1024 : Shape := ⟨4, ![2, 4, 8, 1024]⟩

abbrev nBuf : Space → Nat
  | .hbm => 65
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x768, .bf16⟩
  | .hbm, ⟨2, _⟩ => ⟨S4x1024x768, .bf16⟩
  | .hbm, ⟨3, _⟩ => ⟨S2x8x3072, .f32⟩
  | .hbm, ⟨4, _⟩ => ⟨S1x8x3072, .f32⟩
  | .hbm, ⟨5, _⟩ => ⟨S8x3072, .f32⟩
  | .hbm, ⟨6, _⟩ => ⟨S4x8x1024, .f32⟩
  | .hbm, ⟨7, _⟩ => ⟨S4x1024x768, .f32⟩
  | .hbm, ⟨8, _⟩ => ⟨S4x8x1024, .f32⟩
  | .hbm, ⟨9, _⟩ => ⟨S4x8x1024, .f32⟩
  | .hbm, ⟨10, _⟩ => ⟨S_, .f32⟩
  | .hbm, ⟨11, _⟩ => ⟨S4x8x1024, .f32⟩
  | .hbm, ⟨12, _⟩ => ⟨S4x8x1024, .f32⟩
  | .hbm, ⟨13, _⟩ => ⟨S_, .f32⟩
  | .hbm, ⟨14, _⟩ => ⟨S4x8x1024, .f32⟩
  | .hbm, ⟨15, _⟩ => ⟨S4x8x1024, .f32⟩
  | .hbm, ⟨16, _⟩ => ⟨S_, .f32⟩
  | .hbm, ⟨17, _⟩ => ⟨S4x8x1024, .f32⟩
  | .hbm, ⟨18, _⟩ => ⟨S4x8x1024, .f32⟩
  | .hbm, ⟨19, _⟩ => ⟨S4x8x1024, .f32⟩
  | .hbm, ⟨20, _⟩ => ⟨S4x8x1024, .f32⟩
  | .hbm, ⟨21, _⟩ => ⟨S4x8x768, .f32⟩
  | .hbm, ⟨22, _⟩ => ⟨S8x4x768, .f32⟩
  | .hbm, ⟨23, _⟩ => ⟨S4x8x768, .f32⟩
  | .hbm, ⟨24, _⟩ => ⟨S4x768x1024, .f32⟩
  | .hbm, ⟨25, _⟩ => ⟨S4x1024x768, .f32⟩
  | .hbm, ⟨26, _⟩ => ⟨S4x8x1024, .f32⟩
  | .hbm, ⟨27, _⟩ => ⟨S4x8x1024, .f32⟩
  | .hbm, ⟨28, _⟩ => ⟨S4x8x1024, .f32⟩
  | .hbm, ⟨29, _⟩ => ⟨S4x8x1024, .f32⟩
  | .hbm, ⟨30, _⟩ => ⟨S4x8x1024, .f32⟩
  | .hbm, ⟨31, _⟩ => ⟨S1x8x3072, .f32⟩
  | .hbm, ⟨32, _⟩ => ⟨S8x3072, .f32⟩
  | .hbm, ⟨33, _⟩ => ⟨S4x8x1024, .f32⟩
  | .hbm, ⟨34, _⟩ => ⟨S4x1024x768, .f32⟩
  | .hbm, ⟨35, _⟩ => ⟨S4x8x1024, .f32⟩
  | .hbm, ⟨36, _⟩ => ⟨S4x8x1024, .f32⟩
  | .hbm, ⟨37, _⟩ => ⟨S_, .f32⟩
  | .hbm, ⟨38, _⟩ => ⟨S4x8x1024, .f32⟩
  | .hbm, ⟨39, _⟩ => ⟨S4x8x1024, .f32⟩
  | .hbm, ⟨40, _⟩ => ⟨S_, .f32⟩
  | .hbm, ⟨41, _⟩ => ⟨S4x8x1024, .f32⟩
  | .hbm, ⟨42, _⟩ => ⟨S4x8x1024, .f32⟩
  | .hbm, ⟨43, _⟩ => ⟨S_, .f32⟩
  | .hbm, ⟨44, _⟩ => ⟨S4x8x1024, .f32⟩
  | .hbm, ⟨45, _⟩ => ⟨S4x8x1024, .f32⟩
  | .hbm, ⟨46, _⟩ => ⟨S4x8x1024, .f32⟩
  | .hbm, ⟨47, _⟩ => ⟨S4x8x1024, .f32⟩
  | .hbm, ⟨48, _⟩ => ⟨S4x8x768, .f32⟩
  | .hbm, ⟨49, _⟩ => ⟨S8x4x768, .f32⟩
  | .hbm, ⟨50, _⟩ => ⟨S4x8x768, .f32⟩
  | .hbm, ⟨51, _⟩ => ⟨S4x768x1024, .f32⟩
  | .hbm, ⟨52, _⟩ => ⟨S4x1024x768, .f32⟩
  | .hbm, ⟨53, _⟩ => ⟨S4x8x1024, .f32⟩
  | .hbm, ⟨54, _⟩ => ⟨S4x8x1024, .f32⟩
  | .hbm, ⟨55, _⟩ => ⟨S4x8x1024, .f32⟩
  | .hbm, ⟨56, _⟩ => ⟨S4x8x1024, .f32⟩
  | .hbm, ⟨57, _⟩ => ⟨S4x8x1024, .f32⟩
  | .hbm, ⟨58, _⟩ => ⟨S4x1x1024x768, .f32⟩
  | .hbm, ⟨59, _⟩ => ⟨S4x1x1024x768, .f32⟩
  | .hbm, ⟨60, _⟩ => ⟨S4x2x1024x768, .f32⟩
  | .hbm, ⟨61, _⟩ => ⟨S4x2x1024x768, .bf16⟩
  | .hbm, ⟨62, _⟩ => ⟨S1x4x8x1024, .f32⟩
  | .hbm, ⟨63, _⟩ => ⟨S1x4x8x1024, .f32⟩
  | .hbm, ⟨64, _⟩ => ⟨S2x4x8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_call2_v0 : Ref sig .tc := ⟨.hbm, 35, rfl⟩
abbrev main_call2_v1 : Ref sig .tc := ⟨.hbm, 36, rfl⟩
abbrev main_call2_cst : Ref sig .tc := ⟨.hbm, 37, rfl⟩
abbrev main_call2_v2 : Ref sig .tc := ⟨.hbm, 38, rfl⟩
abbrev main_call2_v3 : Ref sig .tc := ⟨.hbm, 39, rfl⟩
abbrev main_call2_cst_0 : Ref sig .tc := ⟨.hbm, 40, rfl⟩
abbrev main_call2_v4 : Ref sig .tc := ⟨.hbm, 41, rfl⟩
abbrev main_v16_2 : Ref sig .tc := ⟨.hbm, 42, rfl⟩
abbrev main_call2_cst_1 : Ref sig .tc := ⟨.hbm, 43, rfl⟩
abbrev main_call2_v6 : Ref sig .tc := ⟨.hbm, 44, rfl⟩
abbrev main_call2_v7 : Ref sig .tc := ⟨.hbm, 45, rfl⟩
abbrev main_v16_1 : Ref sig .tc := ⟨.hbm, 46, rfl⟩
abbrev main_v16_0 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_call3_v0 : Ref sig .tc := ⟨.hbm, 54, rfl⟩
abbrev main_call3_v1 : Ref sig .tc := ⟨.hbm, 55, rfl⟩
abbrev main_call3_v2 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩

abbrev nD : Nat := 1
abbrev τ : Topo := Topo.v7x

variable {F : FTy → Type} [FloatOps F]
-- ==== Loss.lean ====
abbrev S2304x1024 : Shape := ⟨2, ![2304, 1024]⟩
abbrev S2048x1024 : Shape := ⟨2, ![2048, 1024]⟩
abbrev S9x8x128 : Shape := ⟨3, ![9, 8, 128]⟩
abbrev S256x1024 : Shape := ⟨2, ![256, 1024]⟩
abbrev S1x8x128 : Shape := ⟨3, ![1, 8, 128]⟩
abbrev S8x128 : Shape := ⟨2, ![8, 128]⟩
abbrev S1x256x1024 : Shape := ⟨3, ![1, 256, 1024]⟩
abbrev S1 : Shape := ⟨1, ![1]⟩
abbrev S1x1x1 : Shape := ⟨3, ![1, 1, 1]⟩

abbrev nBuf : Space → Nat
  | .hbm => 4
  | .vmem => 8
  | .smem => 0
  | _ => 0

abbrev bufTy : (tb : Table) → Fin (tcTables nBuf tb) → BufTy
  | .hbm, ⟨0, _⟩ => ⟨S2304x1024, .f32⟩
  | .hbm, ⟨1, _⟩ => ⟨S2048x1024, .f32⟩
  | .hbm, ⟨2, _⟩ => ⟨S2304x1024, .f32⟩
  | .hbm, ⟨3, _⟩ => ⟨S9x8x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x8x128, .f32⟩
  | .local _ .vmem, ⟨7, _⟩ => ⟨S1x8x128, .f32⟩
  | _, _ => ⟨S2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossRefIdeal.lean ====
abbrev S2304x1024 : Shape := ⟨2, ![2304, 1024]⟩
abbrev S2048x1024 : Shape := ⟨2, ![2048, 1024]⟩
abbrev S_ : Shape := ⟨0, ![]⟩
abbrev S2048 : Shape := ⟨1, ![2048]⟩
abbrev S8x256 : Shape := ⟨2, ![8, 256]⟩
abbrev S8 : Shape := ⟨1, ![8]⟩
abbrev S1 : Shape := ⟨1, ![1]⟩
abbrev S9 : Shape := ⟨1, ![9]⟩
abbrev S9x1x1 : Shape := ⟨3, ![9, 1, 1]⟩
abbrev S9x8x128 : Shape := ⟨3, ![9, 8, 128]⟩

abbrev nBuf : Space → Nat
  | .hbm => 38
  | .vmem => 0
  | .smem => 0
  | _ => 0

abbrev bufTy : (tb : Table) → Fin (tcTables nBuf tb) → BufTy
  | .hbm, ⟨0, _⟩ => ⟨S2304x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S_, .f32⟩
  | .hbm, ⟨11, _⟩ => ⟨S2048, .f32⟩
  | .hbm, ⟨12, _⟩ => ⟨S2048, .f32⟩
  | .hbm, ⟨13, _⟩ => ⟨S8x256, .f32⟩
  | .hbm, ⟨14, _⟩ => ⟨S_, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S8x256, .f32⟩
  | .hbm, ⟨25, _⟩ => ⟨S2048, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2304x1024, .f32⟩
  | .hbm, ⟨33, _⟩ => ⟨S_, .f32⟩
  | .hbm, ⟨34, _⟩ => ⟨S1, .f32⟩
  | .hbm, ⟨35, _⟩ => ⟨S9, .f32⟩
  | .hbm, ⟨36, _⟩ => ⟨S9x1x1, .f32⟩
  | .hbm, ⟨37, _⟩ => ⟨S9x8x128, .f32⟩
  | _, _ => ⟨S2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]
-- ==== AdamOut.lean ====
abbrev S2x256x1024 : Shape := ⟨3, ![2, 256, 1024]⟩
abbrev S1x256x1024 : Shape := ⟨3, ![1, 256, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamOutIdeal.lean ====
abbrev S2x256x1024 : Shape := ⟨3, ![2, 256, 1024]⟩
abbrev S1x256x1024 : Shape := ⟨3, ![1, 256, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamOutRefIdeal.lean ====
abbrev S2x256x1024 : Shape := ⟨3, ![2, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S2x2696x1024 : Shape := ⟨3, ![2, 2696, 1024]⟩
abbrev S1x2696x256 : Shape := ⟨3, ![1, 2696, 256]⟩
abbrev S2696x256 : Shape := ⟨2, ![2696, 256]⟩

abbrev nBuf : Space → Nat
  | .hbm => 8
  | .vmem => 16
  | .smem => 0
  | _ => 0

abbrev bufTy : (tb : Table) → Fin (tcTables nBuf tb) → BufTy
  | .hbm, ⟨0, _⟩ => ⟨S2x2696x1024, .f32⟩
  | .hbm, ⟨1, _⟩ => ⟨S2x2696x1024, .f32⟩
  | .hbm, ⟨2, _⟩ => ⟨S2x2696x1024, .f32⟩
  | .hbm, ⟨3, _⟩ => ⟨S2x2696x1024, .f32⟩
  | .hbm, ⟨4, _⟩ => ⟨S2x2696x1024, .f32⟩
  | .hbm, ⟨5, _⟩ => ⟨S2x2696x1024, .f32⟩
  | .hbm, ⟨6, _⟩ => ⟨S2x2696x1024, .f32⟩
  | .hbm, ⟨7, _⟩ => ⟨S2x2696x1024, .f32⟩
  | .local _ .vmem, ⟨0, _⟩ => ⟨S1x2696x256, .f32⟩
  | .local _ .vmem, ⟨1, _⟩ => ⟨S1x2696x256, .f32⟩
  | .local _ .vmem, ⟨2, _⟩ => ⟨S1x2696x256, .f32⟩
  | .local _ .vmem, ⟨3, _⟩ => ⟨S1x2696x256, .f32⟩
  | .local _ .vmem, ⟨4, _⟩ => ⟨S1x2696x256, .f32⟩
  | .local _ .vmem, ⟨5, _⟩ => ⟨S1x2696x256, .f32⟩
  | .local _ .vmem, ⟨6, _⟩ => ⟨S1x2696x256, .f32⟩
  | .local _ .vmem, ⟨7, _⟩ => ⟨S1x2696x256, .f32⟩
  | .local _ .vmem, ⟨8, _⟩ => ⟨S1x2696x256, .f32⟩
  | .local _ .vmem, ⟨9, _⟩ => ⟨S1x2696x256, .f32⟩
  | .local _ .vmem, ⟨10, _⟩ => ⟨S1x2696x256, .f32⟩
  | .local _ .vmem, ⟨11, _⟩ => ⟨S1x2696x256, .f32⟩
  | .local _ .vmem, ⟨12, _⟩ => ⟨S1x2696x256, .f32⟩
  | .local _ .vmem, ⟨13, _⟩ => ⟨S1x2696x256, .f32⟩
  | .local _ .vmem, ⟨14, _⟩ => ⟨S1x2696x256, .f32⟩
  | .local _ .vmem, ⟨15, _⟩ => ⟨S1x2696x256, .f32⟩
  | _, _ => ⟨S2x2696x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2696x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2696x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2696x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2696x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2696x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2696x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2696x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2696x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamInIdeal.lean ====
abbrev S2x2696x1024 : Shape := ⟨3, ![2, 2696, 1024]⟩
abbrev S1x2696x256 : Shape := ⟨3, ![1, 2696, 256]⟩
abbrev S2696x256 : Shape := ⟨2, ![2696, 256]⟩

abbrev nBuf : Space → Nat
  | .hbm => 8
  | .vmem => 16
  | .smem => 0
  | _ => 0

abbrev bufTy : (tb : Table) → Fin (tcTables nBuf tb) → BufTy
  | .hbm, ⟨0, _⟩ => ⟨S2x2696x1024, .f32⟩
  | .hbm, ⟨1, _⟩ => ⟨S2x2696x1024, .f32⟩
  | .hbm, ⟨2, _⟩ => ⟨S2x2696x1024, .f32⟩
  | .hbm, ⟨3, _⟩ => ⟨S2x2696x1024, .f32⟩
  | .hbm, ⟨4, _⟩ => ⟨S2x2696x1024, .f32⟩
  | .hbm, ⟨5, _⟩ => ⟨S2x2696x1024, .f32⟩
  | .hbm, ⟨6, _⟩ => ⟨S2x2696x1024, .f32⟩
  | .hbm, ⟨7, _⟩ => ⟨S2x2696x1024, .f32⟩
  | .local _ .vmem, ⟨0, _⟩ => ⟨S1x2696x256, .f32⟩
  | .local _ .vmem, ⟨1, _⟩ => ⟨S1x2696x256, .f32⟩
  | .local _ .vmem, ⟨2, _⟩ => ⟨S1x2696x256, .f32⟩
  | .local _ .vmem, ⟨3, _⟩ => ⟨S1x2696x256, .f32⟩
  | .local _ .vmem, ⟨4, _⟩ => ⟨S1x2696x256, .f32⟩
  | .local _ .vmem, ⟨5, _⟩ => ⟨S1x2696x256, .f32⟩
  | .local _ .vmem, ⟨6, _⟩ => ⟨S1x2696x256, .f32⟩
  | .local _ .vmem, ⟨7, _⟩ => ⟨S1x2696x256, .f32⟩
  | .local _ .vmem, ⟨8, _⟩ => ⟨S1x2696x256, .f32⟩
  | .local _ .vmem, ⟨9, _⟩ => ⟨S1x2696x256, .f32⟩
  | .local _ .vmem, ⟨10, _⟩ => ⟨S1x2696x256, .f32⟩
  | .local _ .vmem, ⟨11, _⟩ => ⟨S1x2696x256, .f32⟩
  | .local _ .vmem, ⟨12, _⟩ => ⟨S1x2696x256, .f32⟩
  | .local _ .vmem, ⟨13, _⟩ => ⟨S1x2696x256, .f32⟩
  | .local _ .vmem, ⟨14, _⟩ => ⟨S1x2696x256, .f32⟩
  | .local _ .vmem, ⟨15, _⟩ => ⟨S1x2696x256, .f32⟩
  | _, _ => ⟨S2x2696x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2696x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2696x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2696x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2696x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2696x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2696x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2696x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2696x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamInRefIdeal.lean ====
abbrev S2x2696x1024 : Shape := ⟨3, ![2, 2696, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2696x1024, .f32⟩
  | .hbm, ⟨1, _⟩ => ⟨S2x2696x1024, .f32⟩
  | .hbm, ⟨2, _⟩ => ⟨S2x2696x1024, .f32⟩
  | .hbm, ⟨3, _⟩ => ⟨S2x2696x1024, .f32⟩
  | .hbm, ⟨4, _⟩ => ⟨S_, .f32⟩
  | .hbm, ⟨5, _⟩ => ⟨S2x2696x1024, .f32⟩
  | .hbm, ⟨6, _⟩ => ⟨S2x2696x1024, .f32⟩
  | .hbm, ⟨7, _⟩ => ⟨S_, .f32⟩
  | .hbm, ⟨8, _⟩ => ⟨S2x2696x1024, .f32⟩
  | .hbm, ⟨9, _⟩ => ⟨S2x2696x1024, .f32⟩
  | .hbm, ⟨10, _⟩ => ⟨S2x2696x1024, .f32⟩
  | .hbm, ⟨11, _⟩ => ⟨S_, .f32⟩
  | .hbm, ⟨12, _⟩ => ⟨S2x2696x1024, .f32⟩
  | .hbm, ⟨13, _⟩ => ⟨S2x2696x1024, .f32⟩
  | .hbm, ⟨14, _⟩ => ⟨S2x2696x1024, .f32⟩
  | .hbm, ⟨15, _⟩ => ⟨S_, .f32⟩
  | .hbm, ⟨16, _⟩ => ⟨S2x2696x1024, .f32⟩
  | .hbm, ⟨17, _⟩ => ⟨S2x2696x1024, .f32⟩
  | .hbm, ⟨18, _⟩ => ⟨S2x2696x1024, .f32⟩
  | .hbm, ⟨19, _⟩ => ⟨S_, .f32⟩
  | .hbm, ⟨20, _⟩ => ⟨S2x2696x1024, .f32⟩
  | .hbm, ⟨21, _⟩ => ⟨S2x2696x1024, .f32⟩
  | .hbm, ⟨22, _⟩ => ⟨S_, .f32⟩
  | .hbm, ⟨23, _⟩ => ⟨S2x2696x1024, .f32⟩
  | .hbm, ⟨24, _⟩ => ⟨S2x2696x1024, .f32⟩
  | .hbm, ⟨25, _⟩ => ⟨S2x2696x1024, .f32⟩
  | .hbm, ⟨26, _⟩ => ⟨S_, .f32⟩
  | .hbm, ⟨27, _⟩ => ⟨S2x2696x1024, .f32⟩
  | .hbm, ⟨28, _⟩ => ⟨S2x2696x1024, .f32⟩
  | .hbm, ⟨29, _⟩ => ⟨S2x2696x1024, .f32⟩
  | .hbm, ⟨30, _⟩ => ⟨S_, .f32⟩
  | .hbm, ⟨31, _⟩ => ⟨S2x2696x1024, .f32⟩
  | .hbm, ⟨32, _⟩ => ⟨S2x2696x1024, .f32⟩
  | .hbm, ⟨33, _⟩ => ⟨S2x2696x1024, .f32⟩
  | .hbm, ⟨34, _⟩ => ⟨S_, .f32⟩
  | .hbm, ⟨35, _⟩ => ⟨S2x2696x1024, .f32⟩
  | .hbm, ⟨36, _⟩ => ⟨S2x2696x1024, .f32⟩
  | _, _ => ⟨S2x2696x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamMod.lean ====
abbrev S1x2048x768 : Shape := ⟨3, ![1, 2048, 768]⟩
abbrev S1x256x768 : Shape := ⟨3, ![1, 256, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x768, .f32⟩
  | .hbm, ⟨1, _⟩ => ⟨S1x2048x768, .f32⟩
  | .hbm, ⟨2, _⟩ => ⟨S1x2048x768, .f32⟩
  | .hbm, ⟨3, _⟩ => ⟨S1x2048x768, .f32⟩
  | .hbm, ⟨4, _⟩ => ⟨S1x2048x768, .f32⟩
  | .hbm, ⟨5, _⟩ => ⟨S1x2048x768, .f32⟩
  | .hbm, ⟨6, _⟩ => ⟨S1x2048x768, .f32⟩
  | .hbm, ⟨7, _⟩ => ⟨S1x2048x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamModIdeal.lean ====
abbrev S1x2048x768 : Shape := ⟨3, ![1, 2048, 768]⟩
abbrev S1x256x768 : Shape := ⟨3, ![1, 256, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x768, .f32⟩
  | .hbm, ⟨1, _⟩ => ⟨S1x2048x768, .f32⟩
  | .hbm, ⟨2, _⟩ => ⟨S1x2048x768, .f32⟩
  | .hbm, ⟨3, _⟩ => ⟨S1x2048x768, .f32⟩
  | .hbm, ⟨4, _⟩ => ⟨S1x2048x768, .f32⟩
  | .hbm, ⟨5, _⟩ => ⟨S1x2048x768, .f32⟩
  | .hbm, ⟨6, _⟩ => ⟨S1x2048x768, .f32⟩
  | .hbm, ⟨7, _⟩ => ⟨S1x2048x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamModRefIdeal.lean ====
abbrev S1x2048x768 : Shape := ⟨3, ![1, 2048, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S1x2048x768, .f32⟩
  | .hbm, ⟨2, _⟩ => ⟨S1x2048x768, .f32⟩
  | .hbm, ⟨3, _⟩ => ⟨S1x2048x768, .f32⟩
  | .hbm, ⟨4, _⟩ => ⟨S_, .f32⟩
  | .hbm, ⟨5, _⟩ => ⟨S1x2048x768, .f32⟩
  | .hbm, ⟨6, _⟩ => ⟨S1x2048x768, .f32⟩
  | .hbm, ⟨7, _⟩ => ⟨S_, .f32⟩
  | .hbm, ⟨8, _⟩ => ⟨S1x2048x768, .f32⟩
  | .hbm, ⟨9, _⟩ => ⟨S1x2048x768, .f32⟩
  | .hbm, ⟨10, _⟩ => ⟨S1x2048x768, .f32⟩
  | .hbm, ⟨11, _⟩ => ⟨S_, .f32⟩
  | .hbm, ⟨12, _⟩ => ⟨S1x2048x768, .f32⟩
  | .hbm, ⟨13, _⟩ => ⟨S1x2048x768, .f32⟩
  | .hbm, ⟨14, _⟩ => ⟨S1x2048x768, .f32⟩
  | .hbm, ⟨15, _⟩ => ⟨S_, .f32⟩
  | .hbm, ⟨16, _⟩ => ⟨S1x2048x768, .f32⟩
  | .hbm, ⟨17, _⟩ => ⟨S1x2048x768, .f32⟩
  | .hbm, ⟨18, _⟩ => ⟨S1x2048x768, .f32⟩
  | .hbm, ⟨19, _⟩ => ⟨S_, .f32⟩
  | .hbm, ⟨20, _⟩ => ⟨S1x2048x768, .f32⟩
  | .hbm, ⟨21, _⟩ => ⟨S1x2048x768, .f32⟩
  | .hbm, ⟨22, _⟩ => ⟨S_, .f32⟩
  | .hbm, ⟨23, _⟩ => ⟨S1x2048x768, .f32⟩
  | .hbm, ⟨24, _⟩ => ⟨S1x2048x768, .f32⟩
  | .hbm, ⟨25, _⟩ => ⟨S1x2048x768, .f32⟩
  | .hbm, ⟨26, _⟩ => ⟨S_, .f32⟩
  | .hbm, ⟨27, _⟩ => ⟨S1x2048x768, .f32⟩
  | .hbm, ⟨28, _⟩ => ⟨S1x2048x768, .f32⟩
  | .hbm, ⟨29, _⟩ => ⟨S1x2048x768, .f32⟩
  | .hbm, ⟨30, _⟩ => ⟨S_, .f32⟩
  | .hbm, ⟨31, _⟩ => ⟨S1x2048x768, .f32⟩
  | .hbm, ⟨32, _⟩ => ⟨S1x2048x768, .f32⟩
  | .hbm, ⟨33, _⟩ => ⟨S1x2048x768, .f32⟩
  | .hbm, ⟨34, _⟩ => ⟨S_, .f32⟩
  | .hbm, ⟨35, _⟩ => ⟨S1x2048x768, .f32⟩
  | .hbm, ⟨36, _⟩ => ⟨S1x2048x768, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamBr.lean ====
abbrev S2x2048x256 : Shape := ⟨3, ![2, 2048, 256]⟩
abbrev S1x1024x256 : Shape := ⟨3, ![1, 1024, 256]⟩
abbrev S1024x256 : Shape := ⟨2, ![1024, 256]⟩

abbrev nBuf : Space → Nat
  | .hbm => 8
  | .vmem => 16
  | .smem => 0
  | _ => 0

abbrev bufTy : (tb : Table) → Fin (tcTables nBuf tb) → BufTy
  | .hbm, ⟨0, _⟩ => ⟨S2x2048x256, .f32⟩
  | .hbm, ⟨1, _⟩ => ⟨S2x2048x256, .f32⟩
  | .hbm, ⟨2, _⟩ => ⟨S2x2048x256, .f32⟩
  | .hbm, ⟨3, _⟩ => ⟨S2x2048x256, .f32⟩
  | .hbm, ⟨4, _⟩ => ⟨S2x2048x256, .f32⟩
  | .hbm, ⟨5, _⟩ => ⟨S2x2048x256, .f32⟩
  | .hbm, ⟨6, _⟩ => ⟨S2x2048x256, .f32⟩
  | .hbm, ⟨7, _⟩ => ⟨S2x2048x256, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S1x1024x256, .f32⟩
  | .local _ .vmem, ⟨9, _⟩ => ⟨S1x1024x256, .f32⟩
  | .local _ .vmem, ⟨10, _⟩ => ⟨S1x1024x256, .f32⟩
  | .local _ .vmem, ⟨11, _⟩ => ⟨S1x1024x256, .f32⟩
  | .local _ .vmem, ⟨12, _⟩ => ⟨S1x1024x256, .f32⟩
  | .local _ .vmem, ⟨13, _⟩ => ⟨S1x1024x256, .f32⟩
  | .local _ .vmem, ⟨14, _⟩ => ⟨S1x1024x256, .f32⟩
  | .local _ .vmem, ⟨15, _⟩ => ⟨S1x1024x256, .f32⟩
  | _, _ => ⟨S2x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamBrIdeal.lean ====
abbrev S2x2048x256 : Shape := ⟨3, ![2, 2048, 256]⟩
abbrev S1x1024x256 : Shape := ⟨3, ![1, 1024, 256]⟩
abbrev S1024x256 : Shape := ⟨2, ![1024, 256]⟩

abbrev nBuf : Space → Nat
  | .hbm => 8
  | .vmem => 16
  | .smem => 0
  | _ => 0

abbrev bufTy : (tb : Table) → Fin (tcTables nBuf tb) → BufTy
  | .hbm, ⟨0, _⟩ => ⟨S2x2048x256, .f32⟩
  | .hbm, ⟨1, _⟩ => ⟨S2x2048x256, .f32⟩
  | .hbm, ⟨2, _⟩ => ⟨S2x2048x256, .f32⟩
  | .hbm, ⟨3, _⟩ => ⟨S2x2048x256, .f32⟩
  | .hbm, ⟨4, _⟩ => ⟨S2x2048x256, .f32⟩
  | .hbm, ⟨5, _⟩ => ⟨S2x2048x256, .f32⟩
  | .hbm, ⟨6, _⟩ => ⟨S2x2048x256, .f32⟩
  | .hbm, ⟨7, _⟩ => ⟨S2x2048x256, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S1x1024x256, .f32⟩
  | .local _ .vmem, ⟨9, _⟩ => ⟨S1x1024x256, .f32⟩
  | .local _ .vmem, ⟨10, _⟩ => ⟨S1x1024x256, .f32⟩
  | .local _ .vmem, ⟨11, _⟩ => ⟨S1x1024x256, .f32⟩
  | .local _ .vmem, ⟨12, _⟩ => ⟨S1x1024x256, .f32⟩
  | .local _ .vmem, ⟨13, _⟩ => ⟨S1x1024x256, .f32⟩
  | .local _ .vmem, ⟨14, _⟩ => ⟨S1x1024x256, .f32⟩
  | .local _ .vmem, ⟨15, _⟩ => ⟨S1x1024x256, .f32⟩
  | _, _ => ⟨S2x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamBrRefIdeal.lean ====
abbrev S2x2048x256 : Shape := ⟨3, ![2, 2048, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2048x256, .f32⟩
  | .hbm, ⟨1, _⟩ => ⟨S2x2048x256, .f32⟩
  | .hbm, ⟨2, _⟩ => ⟨S2x2048x256, .f32⟩
  | .hbm, ⟨3, _⟩ => ⟨S2x2048x256, .f32⟩
  | .hbm, ⟨4, _⟩ => ⟨S_, .f32⟩
  | .hbm, ⟨5, _⟩ => ⟨S2x2048x256, .f32⟩
  | .hbm, ⟨6, _⟩ => ⟨S2x2048x256, .f32⟩
  | .hbm, ⟨7, _⟩ => ⟨S_, .f32⟩
  | .hbm, ⟨8, _⟩ => ⟨S2x2048x256, .f32⟩
  | .hbm, ⟨9, _⟩ => ⟨S2x2048x256, .f32⟩
  | .hbm, ⟨10, _⟩ => ⟨S2x2048x256, .f32⟩
  | .hbm, ⟨11, _⟩ => ⟨S_, .f32⟩
  | .hbm, ⟨12, _⟩ => ⟨S2x2048x256, .f32⟩
  | .hbm, ⟨13, _⟩ => ⟨S2x2048x256, .f32⟩
  | .hbm, ⟨14, _⟩ => ⟨S2x2048x256, .f32⟩
  | .hbm, ⟨15, _⟩ => ⟨S_, .f32⟩
  | .hbm, ⟨16, _⟩ => ⟨S2x2048x256, .f32⟩
  | .hbm, ⟨17, _⟩ => ⟨S2x2048x256, .f32⟩
  | .hbm, ⟨18, _⟩ => ⟨S2x2048x256, .f32⟩
  | .hbm, ⟨19, _⟩ => ⟨S_, .f32⟩
  | .hbm, ⟨20, _⟩ => ⟨S2x2048x256, .f32⟩
  | .hbm, ⟨21, _⟩ => ⟨S2x2048x256, .f32⟩
  | .hbm, ⟨22, _⟩ => ⟨S_, .f32⟩
  | .hbm, ⟨23, _⟩ => ⟨S2x2048x256, .f32⟩
  | .hbm, ⟨24, _⟩ => ⟨S2x2048x256, .f32⟩
  | .hbm, ⟨25, _⟩ => ⟨S2x2048x256, .f32⟩
  | .hbm, ⟨26, _⟩ => ⟨S_, .f32⟩
  | .hbm, ⟨27, _⟩ => ⟨S2x2048x256, .f32⟩
  | .hbm, ⟨28, _⟩ => ⟨S2x2048x256, .f32⟩
  | .hbm, ⟨29, _⟩ => ⟨S2x2048x256, .f32⟩
  | .hbm, ⟨30, _⟩ => ⟨S_, .f32⟩
  | .hbm, ⟨31, _⟩ => ⟨S2x2048x256, .f32⟩
  | .hbm, ⟨32, _⟩ => ⟨S2x2048x256, .f32⟩
  | .hbm, ⟨33, _⟩ => ⟨S2x2048x256, .f32⟩
  | .hbm, ⟨34, _⟩ => ⟨S_, .f32⟩
  | .hbm, ⟨35, _⟩ => ⟨S2x2048x256, .f32⟩
  | .hbm, ⟨36, _⟩ => ⟨S2x2048x256, .f32⟩
  | _, _ => ⟨S2x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S1x240x128 : Shape := ⟨3, ![1, 240, 128]⟩
abbrev S240x128 : Shape := ⟨2, ![240, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x240x128, .f32⟩
  | .hbm, ⟨1, _⟩ => ⟨S1x240x128, .f32⟩
  | .hbm, ⟨2, _⟩ => ⟨S1x240x128, .f32⟩
  | .hbm, ⟨3, _⟩ => ⟨S1x240x128, .f32⟩
  | .hbm, ⟨4, _⟩ => ⟨S1x240x128, .f32⟩
  | .hbm, ⟨5, _⟩ => ⟨S1x240x128, .f32⟩
  | .hbm, ⟨6, _⟩ => ⟨S1x240x128, .f32⟩
  | .hbm, ⟨7, _⟩ => ⟨S1x240x128, .f32⟩
  | .local _ .vmem, ⟨0, _⟩ => ⟨S1x240x128, .f32⟩
  | .local _ .vmem, ⟨1, _⟩ => ⟨S1x240x128, .f32⟩
  | .local _ .vmem, ⟨2, _⟩ => ⟨S1x240x128, .f32⟩
  | .local _ .vmem, ⟨3, _⟩ => ⟨S1x240x128, .f32⟩
  | .local _ .vmem, ⟨4, _⟩ => ⟨S1x240x128, .f32⟩
  | .local _ .vmem, ⟨5, _⟩ => ⟨S1x240x128, .f32⟩
  | .local _ .vmem, ⟨6, _⟩ => ⟨S1x240x128, .f32⟩
  | .local _ .vmem, ⟨7, _⟩ => ⟨S1x240x128, .f32⟩
  | _, _ => ⟨S1x240x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x240x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x240x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x240x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x240x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x240x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x240x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x240x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1x240x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== AdamSmallRefIdeal.lean ====
abbrev S1x240x128 : Shape := ⟨3, ![1, 240, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x240x128, .f32⟩
  | .hbm, ⟨1, _⟩ => ⟨S1x240x128, .f32⟩
  | .hbm, ⟨2, _⟩ => ⟨S1x240x128, .f32⟩
  | .hbm, ⟨3, _⟩ => ⟨S1x240x128, .f32⟩
  | .hbm, ⟨4, _⟩ => ⟨S_, .f32⟩
  | .hbm, ⟨5, _⟩ => ⟨S1x240x128, .f32⟩
  | .hbm, ⟨6, _⟩ => ⟨S1x240x128, .f32⟩
  | .hbm, ⟨7, _⟩ => ⟨S_, .f32⟩
  | .hbm, ⟨8, _⟩ => ⟨S1x240x128, .f32⟩
  | .hbm, ⟨9, _⟩ => ⟨S1x240x128, .f32⟩
  | .hbm, ⟨10, _⟩ => ⟨S1x240x128, .f32⟩
  | .hbm, ⟨11, _⟩ => ⟨S_, .f32⟩
  | .hbm, ⟨12, _⟩ => ⟨S1x240x128, .f32⟩
  | .hbm, ⟨13, _⟩ => ⟨S1x240x128, .f32⟩
  | .hbm, ⟨14, _⟩ => ⟨S1x240x128, .f32⟩
  | .hbm, ⟨15, _⟩ => ⟨S_, .f32⟩
  | .hbm, ⟨16, _⟩ => ⟨S1x240x128, .f32⟩
  | .hbm, ⟨17, _⟩ => ⟨S1x240x128, .f32⟩
  | .hbm, ⟨18, _⟩ => ⟨S1x240x128, .f32⟩
  | .hbm, ⟨19, _⟩ => ⟨S_, .f32⟩
  | .hbm, ⟨20, _⟩ => ⟨S1x240x128, .f32⟩
  | .hbm, ⟨21, _⟩ => ⟨S1x240x128, .f32⟩
  | .hbm, ⟨22, _⟩ => ⟨S_, .f32⟩
  | .hbm, ⟨23, _⟩ => ⟨S1x240x128, .f32⟩
  | .hbm, ⟨24, _⟩ => ⟨S1x240x128, .f32⟩
  | .hbm, ⟨25, _⟩ => ⟨S1x240x128, .f32⟩
  | .hbm, ⟨26, _⟩ => ⟨S_, .f32⟩
  | .hbm, ⟨27, _⟩ => ⟨S1x240x128, .f32⟩
  | .hbm, ⟨28, _⟩ => ⟨S1x240x128, .f32⟩
  | .hbm, ⟨29, _⟩ => ⟨S1x240x128, .f32⟩
  | .hbm, ⟨30, _⟩ => ⟨S_, .f32⟩
  | .hbm, ⟨31, _⟩ => ⟨S1x240x128, .f32⟩
  | .hbm, ⟨32, _⟩ => ⟨S1x240x128, .f32⟩
  | .hbm, ⟨33, _⟩ => ⟨S1x240x128, .f32⟩
  | .hbm, ⟨34, _⟩ => ⟨S_, .f32⟩
  | .hbm, ⟨35, _⟩ => ⟨S1x240x128, .f32⟩
  | .hbm, ⟨36, _⟩ => ⟨S1x240x128, .f32⟩
  | _, _ => ⟨S1x240x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== PrepFwd.lean ====
abbrev S2304x1024 : Shape := ⟨2, ![2304, 1024]⟩
abbrev S1x128 : Shape := ⟨2, ![1, 128]⟩
abbrev S2048x64 : Shape := ⟨2, ![2048, 64]⟩
abbrev S2048x64x2 : Shape := ⟨3, ![2048, 64, 2]⟩
abbrev S2048x128 : Shape := ⟨2, ![2048, 128]⟩
abbrev S128 : Shape := ⟨1, ![128]⟩
abbrev S_ : Shape := ⟨0, ![]⟩
abbrev S256x128 : Shape := ⟨2, ![256, 128]⟩
abbrev S2304x128 : Shape := ⟨2, ![2304, 128]⟩
abbrev S2304x512 : Shape := ⟨2, ![2304, 512]⟩
abbrev S2304x256 : Shape := ⟨2, ![2304, 256]⟩
abbrev S256x512 : Shape := ⟨2, ![256, 512]⟩
abbrev S256x256 : Shape := ⟨2, ![256, 256]⟩
abbrev S256 : Shape := ⟨1, ![256]⟩
abbrev S256x1 : Shape := ⟨2, ![256, 1]⟩

abbrev nBuf : Space → Nat
  | .hbm => 59
  | .vmem => 20
  | .smem => 0
  | _ => 0

abbrev bufTy : (tb : Table) → Fin (tcTables nBuf tb) → BufTy
  | .hbm, ⟨0, _⟩ => ⟨S2304x1024, .bf16⟩
  | .hbm, ⟨1, _⟩ => ⟨S1x128, .f32⟩
  | .hbm, ⟨2, _⟩ => ⟨S1x128, .f32⟩
  | .hbm, ⟨3, _⟩ => ⟨S2048x64, .f32⟩
  | .hbm, ⟨4, _⟩ => ⟨S2048x64, .f32⟩
  | .hbm, ⟨5, _⟩ => ⟨S2048x64x2, .f32⟩
  | .hbm, ⟨6, _⟩ => ⟨S2048x128, .f32⟩
  | .hbm, ⟨7, _⟩ => ⟨S2048x64x2, .f32⟩
  | .hbm, ⟨8, _⟩ => ⟨S2048x128, .f32⟩
  | .hbm, ⟨9, _⟩ => ⟨S128, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S128, .i32⟩
  | .hbm, ⟨17, _⟩ => ⟨S128, .i32⟩
  | .hbm, ⟨18, _⟩ => ⟨S_, .i32⟩
  | .hbm, ⟨19, _⟩ => ⟨S128, .i32⟩
  | .hbm, ⟨20, _⟩ => ⟨S128, .i1⟩
  | .hbm, ⟨21, _⟩ => ⟨S_, .i32⟩
  | .hbm, ⟨22, _⟩ => ⟨S128, .i32⟩
  | .hbm, ⟨23, _⟩ => ⟨S128, .i1⟩
  | .hbm, ⟨24, _⟩ => ⟨S_, .i32⟩
  | .hbm, ⟨25, _⟩ => ⟨S_, .i1⟩
  | .hbm, ⟨26, _⟩ => ⟨S128, .i1⟩
  | .hbm, ⟨27, _⟩ => ⟨S128, .i1⟩
  | .hbm, ⟨28, _⟩ => ⟨S128, .i1⟩
  | .hbm, ⟨29, _⟩ => ⟨S128, .i32⟩
  | .hbm, ⟨30, _⟩ => ⟨S128, .i32⟩
  | .hbm, ⟨31, _⟩ => ⟨S128, .i32⟩
  | .hbm, ⟨32, _⟩ => ⟨S_, .i32⟩
  | .hbm, ⟨33, _⟩ => ⟨S128, .i32⟩
  | .hbm, ⟨34, _⟩ => ⟨S128, .i1⟩
  | .hbm, ⟨35, _⟩ => ⟨S1x128, .i1⟩
  | .hbm, ⟨36, _⟩ => ⟨S_, .f32⟩
  | .hbm, ⟨37, _⟩ => ⟨S256x128, .f32⟩
  | .hbm, ⟨38, _⟩ => ⟨S2304x128, .f32⟩
  | .hbm, ⟨39, _⟩ => ⟨S_, .f32⟩
  | .hbm, ⟨40, _⟩ => ⟨S256x128, .f32⟩
  | .hbm, ⟨41, _⟩ => ⟨S2048x128, .f32⟩
  | .hbm, ⟨42, _⟩ => ⟨S_, .f32⟩
  | .hbm, ⟨43, _⟩ => ⟨S_, .f32⟩
  | .hbm, ⟨44, _⟩ => ⟨S2048x128, .i1⟩
  | .hbm, ⟨45, _⟩ => ⟨S2048x128, .f32⟩
  | .hbm, ⟨46, _⟩ => ⟨S2048x128, .f32⟩
  | .hbm, ⟨47, _⟩ => ⟨S2304x128, .f32⟩
  | .hbm, ⟨48, _⟩ => ⟨S_, .f32⟩
  | .hbm, ⟨49, _⟩ => ⟨S256x128, .f32⟩
  | .hbm, ⟨50, _⟩ => ⟨S_, .f32⟩
  | .hbm, ⟨51, _⟩ => ⟨S_, .f32⟩
  | .hbm, ⟨52, _⟩ => ⟨S2048x128, .i1⟩
  | .hbm, ⟨53, _⟩ => ⟨S2048x128, .f32⟩
  | .hbm, ⟨54, _⟩ => ⟨S2048x128, .f32⟩
  | .hbm, ⟨55, _⟩ => ⟨S2304x128, .f32⟩
  | .hbm, ⟨56, _⟩ => ⟨S2304x512, .bf16⟩
  | .hbm, ⟨57, _⟩ => ⟨S2304x256, .bf16⟩
  | .hbm, ⟨58, _⟩ => ⟨S2304x256, .bf16⟩
  | .local _ .vmem, ⟨0, _⟩ => ⟨S256x512, .bf16⟩
  | .local _ .vmem, ⟨1, _⟩ => ⟨S256x512, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S1x128, .f32⟩
  | .local _ .vmem, ⟨7, _⟩ => ⟨S1x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x512, .bf16⟩
  | .local _ .vmem, ⟨15, _⟩ => ⟨S256x512, .bf16⟩
  | .local _ .vmem, ⟨16, _⟩ => ⟨S256x256, .bf16⟩
  | .local _ .vmem, ⟨17, _⟩ => ⟨S256x256, .bf16⟩
  | .local _ .vmem, ⟨18, _⟩ => ⟨S256x256, .bf16⟩
  | .local _ .vmem, ⟨19, _⟩ => ⟨S256x256, .bf16⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_c_3 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v5 : Ref sig .tc := ⟨.hbm, 31, rfl⟩
abbrev main_c_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_cst : Ref sig .tc := ⟨.hbm, 36, rfl⟩
abbrev main_v9 : Ref sig .tc := ⟨.hbm, 37, rfl⟩
abbrev main_v10 : Ref sig .tc := ⟨.hbm, 38, rfl⟩
abbrev main_cst_1 : Ref sig .tc := ⟨.hbm, 39, rfl⟩
abbrev main_v11 : Ref sig .tc := ⟨.hbm, 40, rfl⟩
abbrev main_v12 : Ref sig .tc := ⟨.hbm, 41, rfl⟩
abbrev main_cst_2 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v13 : Ref sig .tc := ⟨.hbm, 46, rfl⟩
abbrev main_v14 : Ref sig .tc := ⟨.hbm, 47, rfl⟩
abbrev main_cst_3 : Ref sig .tc := ⟨.hbm, 48, rfl⟩
abbrev main_v15 : Ref sig .tc := ⟨.hbm, 49, rfl⟩
abbrev main_cst_4 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_v16 : Ref sig .tc := ⟨.hbm, 54, rfl⟩
abbrev main_v17 : Ref sig .tc := ⟨.hbm, 55, rfl⟩
abbrev main_v18_0 : Ref sig .tc := ⟨.hbm, 56, rfl⟩
abbrev main_v18_1 : Ref sig .tc := ⟨.hbm, 57, rfl⟩
abbrev main_v18_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== PrepFwdRefIdeal.lean ====
abbrev S2304x1024 : Shape := ⟨2, ![2304, 1024]⟩
abbrev S1x128 : Shape := ⟨2, ![1, 128]⟩
abbrev S2048x64 : Shape := ⟨2, ![2048, 64]⟩
abbrev S2304x512 : Shape := ⟨2, ![2304, 512]⟩
abbrev S2304x4x128 : Shape := ⟨3, ![2304, 4, 128]⟩
abbrev S_ : Shape := ⟨0, ![]⟩
abbrev S2304x4 : Shape := ⟨2, ![2304, 4]⟩
abbrev S2304x4x1 : Shape := ⟨3, ![2304, 4, 1]⟩
abbrev S1x1x128 : Shape := ⟨3, ![1, 1, 128]⟩
abbrev S256x4x128 : Shape := ⟨3, ![256, 4, 128]⟩
abbrev S2048x4x128 : Shape := ⟨3, ![2048, 4, 128]⟩
abbrev S2048x4x64x2 : Shape := ⟨4, ![2048, 4, 64, 2]⟩
abbrev S2048x4x64x1 : Shape := ⟨4, ![2048, 4, 64, 1]⟩
abbrev S2048x4x64 : Shape := ⟨3, ![2048, 4, 64]⟩
abbrev S2048x1x64 : Shape := ⟨3, ![2048, 1, 64]⟩
abbrev S2304x256 : Shape := ⟨2, ![2304, 256]⟩
abbrev S2304x2x128 : Shape := ⟨3, ![2304, 2, 128]⟩
abbrev S2304x2 : Shape := ⟨2, ![2304, 2]⟩
abbrev S2304x2x1 : Shape := ⟨3, ![2304, 2, 1]⟩
abbrev S256x2x128 : Shape := ⟨3, ![256, 2, 128]⟩
abbrev S2048x2x128 : Shape := ⟨3, ![2048, 2, 128]⟩
abbrev S2048x2x64x2 : Shape := ⟨4, ![2048, 2, 64, 2]⟩
abbrev S2048x2x64x1 : Shape := ⟨4, ![2048, 2, 64, 1]⟩
abbrev S2048x2x64 : Shape := ⟨3, ![2048, 2, 64]⟩

abbrev nBuf : Space → Nat
  | .hbm => 99
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S1x128, .f32⟩
  | .hbm, ⟨2, _⟩ => ⟨S1x128, .f32⟩
  | .hbm, ⟨3, _⟩ => ⟨S2048x64, .f32⟩
  | .hbm, ⟨4, _⟩ => ⟨S2048x64, .f32⟩
  | .hbm, ⟨5, _⟩ => ⟨S2304x512, .bf16⟩
  | .hbm, ⟨6, _⟩ => ⟨S2304x512, .f32⟩
  | .hbm, ⟨7, _⟩ => ⟨S2304x4x128, .f32⟩
  | .hbm, ⟨8, _⟩ => ⟨S2304x4x128, .f32⟩
  | .hbm, ⟨9, _⟩ => ⟨S_, .f32⟩
  | .hbm, ⟨10, _⟩ => ⟨S2304x4, .f32⟩
  | .hbm, ⟨11, _⟩ => ⟨S2304x4x1, .f32⟩
  | .hbm, ⟨12, _⟩ => ⟨S_, .f32⟩
  | .hbm, ⟨13, _⟩ => ⟨S2304x4x1, .f32⟩
  | .hbm, ⟨14, _⟩ => ⟨S2304x4x1, .f32⟩
  | .hbm, ⟨15, _⟩ => ⟨S_, .f32⟩
  | .hbm, ⟨16, _⟩ => ⟨S2304x4x1, .f32⟩
  | .hbm, ⟨17, _⟩ => ⟨S2304x4x1, .f32⟩
  | .hbm, ⟨18, _⟩ => ⟨S2304x4x1, .f32⟩
  | .hbm, ⟨19, _⟩ => ⟨S2304x4x128, .f32⟩
  | .hbm, ⟨20, _⟩ => ⟨S2304x4x128, .f32⟩
  | .hbm, ⟨21, _⟩ => ⟨S1x1x128, .f32⟩
  | .hbm, ⟨22, _⟩ => ⟨S2304x4x128, .f32⟩
  | .hbm, ⟨23, _⟩ => ⟨S2304x4x128, .f32⟩
  | .hbm, ⟨24, _⟩ => ⟨S256x4x128, .f32⟩
  | .hbm, ⟨25, _⟩ => ⟨S2048x4x128, .f32⟩
  | .hbm, ⟨26, _⟩ => ⟨S2048x4x64x2, .f32⟩
  | .hbm, ⟨27, _⟩ => ⟨S2048x4x64x1, .f32⟩
  | .hbm, ⟨28, _⟩ => ⟨S2048x4x64, .f32⟩
  | .hbm, ⟨29, _⟩ => ⟨S2048x4x64x1, .f32⟩
  | .hbm, ⟨30, _⟩ => ⟨S2048x4x64, .f32⟩
  | .hbm, ⟨31, _⟩ => ⟨S2048x1x64, .f32⟩
  | .hbm, ⟨32, _⟩ => ⟨S2048x1x64, .f32⟩
  | .hbm, ⟨33, _⟩ => ⟨S2048x4x64, .f32⟩
  | .hbm, ⟨34, _⟩ => ⟨S2048x4x64, .f32⟩
  | .hbm, ⟨35, _⟩ => ⟨S2048x4x64, .f32⟩
  | .hbm, ⟨36, _⟩ => ⟨S2048x4x64, .f32⟩
  | .hbm, ⟨37, _⟩ => ⟨S2048x4x64, .f32⟩
  | .hbm, ⟨38, _⟩ => ⟨S2048x4x64, .f32⟩
  | .hbm, ⟨39, _⟩ => ⟨S2048x4x64, .f32⟩
  | .hbm, ⟨40, _⟩ => ⟨S2048x4x64, .f32⟩
  | .hbm, ⟨41, _⟩ => ⟨S2048x4x64, .f32⟩
  | .hbm, ⟨42, _⟩ => ⟨S2048x4x64, .f32⟩
  | .hbm, ⟨43, _⟩ => ⟨S2048x4x64x1, .f32⟩
  | .hbm, ⟨44, _⟩ => ⟨S2048x4x64x1, .f32⟩
  | .hbm, ⟨45, _⟩ => ⟨S2048x4x64x2, .f32⟩
  | .hbm, ⟨46, _⟩ => ⟨S2048x4x128, .f32⟩
  | .hbm, ⟨47, _⟩ => ⟨S2304x4x128, .f32⟩
  | .hbm, ⟨48, _⟩ => ⟨S_, .f32⟩
  | .hbm, ⟨49, _⟩ => ⟨S2304x4x128, .f32⟩
  | .hbm, ⟨50, _⟩ => ⟨S2304x4x128, .f32⟩
  | .hbm, ⟨51, _⟩ => ⟨S2304x256, .bf16⟩
  | .hbm, ⟨52, _⟩ => ⟨S2304x256, .f32⟩
  | .hbm, ⟨53, _⟩ => ⟨S2304x2x128, .f32⟩
  | .hbm, ⟨54, _⟩ => ⟨S2304x2x128, .f32⟩
  | .hbm, ⟨55, _⟩ => ⟨S_, .f32⟩
  | .hbm, ⟨56, _⟩ => ⟨S2304x2, .f32⟩
  | .hbm, ⟨57, _⟩ => ⟨S2304x2x1, .f32⟩
  | .hbm, ⟨58, _⟩ => ⟨S_, .f32⟩
  | .hbm, ⟨59, _⟩ => ⟨S2304x2x1, .f32⟩
  | .hbm, ⟨60, _⟩ => ⟨S2304x2x1, .f32⟩
  | .hbm, ⟨61, _⟩ => ⟨S_, .f32⟩
  | .hbm, ⟨62, _⟩ => ⟨S2304x2x1, .f32⟩
  | .hbm, ⟨63, _⟩ => ⟨S2304x2x1, .f32⟩
  | .hbm, ⟨64, _⟩ => ⟨S2304x2x1, .f32⟩
  | .hbm, ⟨65, _⟩ => ⟨S2304x2x128, .f32⟩
  | .hbm, ⟨66, _⟩ => ⟨S2304x2x128, .f32⟩
  | .hbm, ⟨67, _⟩ => ⟨S1x1x128, .f32⟩
  | .hbm, ⟨68, _⟩ => ⟨S2304x2x128, .f32⟩
  | .hbm, ⟨69, _⟩ => ⟨S2304x2x128, .f32⟩
  | .hbm, ⟨70, _⟩ => ⟨S256x2x128, .f32⟩
  | .hbm, ⟨71, _⟩ => ⟨S2048x2x128, .f32⟩
  | .hbm, ⟨72, _⟩ => ⟨S2048x2x64x2, .f32⟩
  | .hbm, ⟨73, _⟩ => ⟨S2048x2x64x1, .f32⟩
  | .hbm, ⟨74, _⟩ => ⟨S2048x2x64, .f32⟩
  | .hbm, ⟨75, _⟩ => ⟨S2048x2x64x1, .f32⟩
  | .hbm, ⟨76, _⟩ => ⟨S2048x2x64, .f32⟩
  | .hbm, ⟨77, _⟩ => ⟨S2048x1x64, .f32⟩
  | .hbm, ⟨78, _⟩ => ⟨S2048x1x64, .f32⟩
  | .hbm, ⟨79, _⟩ => ⟨S2048x2x64, .f32⟩
  | .hbm, ⟨80, _⟩ => ⟨S2048x2x64, .f32⟩
  | .hbm, ⟨81, _⟩ => ⟨S2048x2x64, .f32⟩
  | .hbm, ⟨82, _⟩ => ⟨S2048x2x64, .f32⟩
  | .hbm, ⟨83, _⟩ => ⟨S2048x2x64, .f32⟩
  | .hbm, ⟨84, _⟩ => ⟨S2048x2x64, .f32⟩
  | .hbm, ⟨85, _⟩ => ⟨S2048x2x64, .f32⟩
  | .hbm, ⟨86, _⟩ => ⟨S2048x2x64, .f32⟩
  | .hbm, ⟨87, _⟩ => ⟨S2048x2x64, .f32⟩
  | .hbm, ⟨88, _⟩ => ⟨S2048x2x64, .f32⟩
  | .hbm, ⟨89, _⟩ => ⟨S2048x2x64x1, .f32⟩
  | .hbm, ⟨90, _⟩ => ⟨S2048x2x64x1, .f32⟩
  | .hbm, ⟨91, _⟩ => ⟨S2048x2x64x2, .f32⟩
  | .hbm, ⟨92, _⟩ => ⟨S2048x2x128, .f32⟩
  | .hbm, ⟨93, _⟩ => ⟨S2304x2x128, .f32⟩
  | .hbm, ⟨94, _⟩ => ⟨S2304x512, .f32⟩
  | .hbm, ⟨95, _⟩ => ⟨S2304x512, .bf16⟩
  | .hbm, ⟨96, _⟩ => ⟨S2304x256, .f32⟩
  | .hbm, ⟨97, _⟩ => ⟨S2304x256, .bf16⟩
  | .hbm, ⟨98, _⟩ => ⟨S2304x256, .bf16⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_2 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_3 : Ref sig .tc := ⟨.hbm, 55, rfl⟩
abbrev main_v46 : Ref sig .tc := ⟨.hbm, 56, rfl⟩
abbrev main_v47 : Ref sig .tc := ⟨.hbm, 57, rfl⟩
abbrev main_cst_4 : Ref sig .tc := ⟨.hbm, 58, rfl⟩
abbrev main_v48 : Ref sig .tc := ⟨.hbm, 59, rfl⟩
abbrev main_v49 : Ref sig .tc := ⟨.hbm, 60, rfl⟩
abbrev main_cst_5 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩

abbrev nD : Nat := 1
abbrev τ : Topo := Topo.v7x

variable {F : FTy → Type} [FloatOps F]
-- ==== GlaSum.lean ====
abbrev S2304x1152 : Shape := ⟨2, ![2304, 1152]⟩
abbrev S256x1152 : Shape := ⟨2, ![256, 1152]⟩

abbrev nBuf : Space → Nat
  | .hbm => 3
  | .vmem => 6
  | .smem => 0
  | _ => 0

abbrev bufTy : (tb : Table) → Fin (tcTables nBuf tb) → BufTy
  | .hbm, ⟨0, _⟩ => ⟨S2304x1152, .f32⟩
  | .hbm, ⟨1, _⟩ => ⟨S2304x1152, .f32⟩
  | .hbm, ⟨2, _⟩ => ⟨S2304x1152, .bf16⟩
  | .local _ .vmem, ⟨0, _⟩ => ⟨S256x1152, .f32⟩
  | .local _ .vmem, ⟨1, _⟩ => ⟨S256x1152, .f32⟩
  | .local _ .vmem, ⟨2, _⟩ => ⟨S256x1152, .f32⟩
  | .local _ .vmem, ⟨3, _⟩ => ⟨S256x1152, .f32⟩
  | .local _ .vmem, ⟨4, _⟩ => ⟨S256x1152, .bf16⟩
  | .local _ .vmem, ⟨5, _⟩ => ⟨S256x1152, .bf16⟩
  | _, _ => ⟨S2304x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GlaSumRefIdeal.lean ====
abbrev S2304x1152 : Shape := ⟨2, ![2304, 1152]⟩

abbrev nBuf : Space → Nat
  | .hbm => 4
  | .vmem => 0
  | .smem => 0
  | _ => 0

abbrev bufTy : (tb : Table) → Fin (tcTables nBuf tb) → BufTy
  | .hbm, ⟨0, _⟩ => ⟨S2304x1152, .f32⟩
  | .hbm, ⟨1, _⟩ => ⟨S2304x1152, .f32⟩
  | .hbm, ⟨2, _⟩ => ⟨S2304x1152, .f32⟩
  | .hbm, ⟨3, _⟩ => ⟨S2304x1152, .bf16⟩
  | _, _ => ⟨S2304x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Row.lean ====
/-
  One row of a softmax and its gradient, over the extended reals: the quantities the kernel computes for a row of
  scores, the quantities a plain softmax's derivative computes, and that the two agree when the scores are real numbers.

  A row may also be MASKED: its scores past the first 256 are −∞. Such a row has the same maximum, the same denominator
  and the same weights as its first 256 scores alone, and weight zero past them.
-/
module

public import Idealize.ShloMosaic.PureOps.Ideal
public import Idealize.ShloMosaic.PureOps.Ideal.Laws
public import Idealize.ShloMosaic.Lib.IdealHost

@[expose] public section

noncomputable section

namespace Cert.Row

open Idealize.ShloMosaic

variable {n : ℕ}

/-- A row's greatest score. -/
def top (s : Fin n → EReal) : EReal := Finset.univ.fold max ⊥ s

/-- The exponential of a score less the greatest. -/
def ex (s : Fin n → EReal) (c : Fin n) : EReal := Ideal.exp (s c - top s)

/-- The softmax's denominator. -/
def den (s : Fin n → EReal) : EReal := ∑ c, ex s c

/-- The weight of column `c`, as a product with the reciprocal of the denominator. -/
def weight (s : Fin n → EReal) (c : Fin n) : EReal := ex s c * Ideal.div 1 (den s)

/-- The gradient of the score of column `c`, `d` the gradients of the weights, in the kernel's order of operations. -/
def grad (s d : Fin n → EReal) (c : Fin n) : EReal :=
  (d c * Ideal.div 1 (den s) + (0 - (∑ x, ex s x * d x) * Ideal.div 1 (den s * den s))) * ex s c

/-- A row of real scores. -/
def IsReal (s : Fin n → EReal) : Prop := ∀ c, ∃ r : ℝ, s c = (r : EReal)

theorem top_real [NeZero n] {s : Fin n → EReal} (hs : IsReal s) : ∃ r : ℝ, top s = (r : EReal) := by
  obtain ⟨i, -, hi⟩ := Finset.exists_mem_eq_sup (Finset.univ : Finset (Fin n)) ⟨0, Finset.mem_univ _⟩ s
  obtain ⟨r, hr⟩ := hs i
  exact ⟨r, (show top s = s i from hi).trans hr⟩

theorem ex_real [NeZero n] {s : Fin n → EReal} (hs : IsReal s) : ∃ f : Fin n → ℝ, (∀ c, 0 < f c) ∧ ∀ c, ex s c = (f c : EReal) := by
  obtain ⟨t, ht⟩ := top_real hs
  choose g hg using hs
  refine ⟨fun c => Real.exp (g c - t), fun c => Real.exp_pos _, fun c => ?_⟩
  rw [ex, ht, hg, ← EReal.coe_sub, Ideal.exp_coe]

/-- A sum of reals is a real. -/
theorem sum_coe {ι : Type} (t : Finset ι) (f : ι → ℝ) : ∑ i ∈ t, (f i : EReal) = ((∑ i ∈ t, f i : ℝ) : EReal) := by
  classical
  induction t using Finset.induction_on with
  | empty => simp
  | insert a t ha ih => rw [Finset.sum_insert ha, Finset.sum_insert ha, ih, EReal.coe_add]

/-- The denominator of a row of real scores is a positive real. -/
theorem den_real [NeZero n] {s : Fin n → EReal} (hs : IsReal s) : ∃ r : ℝ, 0 < r ∧ den s = (r : EReal) := by
  obtain ⟨f, hf, h⟩ := ex_real hs
  refine ⟨∑ c, f c, Finset.sum_pos (fun c _ => hf c) ⟨0, Finset.mem_univ _⟩, ?_⟩
  rw [den, Finset.sum_congr rfl fun c _ => h c, sum_coe]

/-- A sum times a real that is not negative, term by term, whatever the terms. -/
theorem sum_mul_coe {ι : Type} (t : Finset ι) (f : ι → EReal) {w : ℝ} (hw : 0 ≤ w) :
    (∑ i ∈ t, f i) * (w : EReal) = ∑ i ∈ t, f i * (w : EReal) := by
  classical
  induction t using Finset.induction_on with
  | empty => simp
  | insert a t ha ih =>
    rw [Finset.sum_insert ha, Finset.sum_insert ha,
      EReal.right_distrib_of_nonneg_of_ne_top (by exact_mod_cast hw) (EReal.coe_ne_top _), ih]

/-- The quotient by the denominator is the kernel's weight. -/
theorem div_den [NeZero n] {s : Fin n → EReal} (hs : IsReal s) (x : EReal) :
    Ideal.div x (den s) = x * Ideal.div 1 (den s) := by
  obtain ⟨r, hr, h⟩ := den_real hs
  rw [Ideal.mul_one_div]
  rw [h]
  exact_mod_cast hr.ne'

/-- The softmax's derivative, in the reference's order of operations, is the kernel's. -/
theorem grad_eq [NeZero n] {s : Fin n → EReal} (hs : IsReal s) (d : Fin n → EReal) (c : Fin n) :
    (Ideal.div (d c) (den s) + -(∑ x, d x * Ideal.div 1 (den s * den s) * ex s x)) * ex s c = grad s d c := by
  obtain ⟨r, hr, h⟩ := den_real hs
  have hw : Ideal.div 1 (den s * den s) = ((1 / (r * r) : ℝ) : EReal) := by
    rw [h, ← EReal.coe_mul, Ideal.div_coe (mul_pos hr hr).ne', one_mul]
  have hsum : ∑ x, d x * Ideal.div 1 (den s * den s) * ex s x = (∑ x, ex s x * d x) * Ideal.div 1 (den s * den s) := by
    rw [hw, sum_mul_coe _ _ (by positivity)]
    exact Finset.sum_congr rfl fun x _ => by rw [mul_right_comm, mul_comm (d x) (ex s x)]
  rw [grad, hsum, div_den hs, zero_sub]

/-! ## A masked row -/

/-- The row of 2304 scores that is `s` on the first 256 columns and −∞ past them. -/
def masked (s : Fin 256 → EReal) (c : Fin 2304) : EReal := if h : c.val < 256 then s ⟨c.val, h⟩ else ⊥

/-- A column of the first 256 among the 2304. -/
abbrev wide (c : Fin 256) : Fin 2304 := ⟨c.val, by omega⟩

theorem masked_wide (s : Fin 256 → EReal) (c : Fin 256) : masked s (wide c) = s c := by
  simp [masked, wide]

/-- A sum over 2304 columns whose terms past the first 256 are zero. -/
theorem sum_wide (f : Fin 2304 → EReal) (hf : ∀ c : Fin 2304, ¬c.val < 256 → f c = 0) : ∑ c, f c = ∑ c : Fin 256, f (wide c) := by
  have h := Fin.sum_univ_add (a := 256) (b := 2048) f
  rw [show ∑ c, f c = ∑ c : Fin (256 + 2048), f c from rfl, h]
  rw [show ∑ i : Fin 2048, f (Fin.natAdd 256 i) = 0 from Finset.sum_eq_zero fun i _ => hf _ (by simp)]
  rw [add_zero]
  rfl

theorem top_masked (s : Fin 256 → EReal) : top (masked s) = top s := by
  show Finset.univ.sup (masked s) = Finset.univ.sup s
  apply le_antisymm
  · refine Finset.sup_le fun c _ => ?_
    by_cases h : c.val < 256
    · rw [masked, dif_pos h]; exact Finset.le_sup (f := s) (Finset.mem_univ _)
    · rw [masked, dif_neg h]; exact bot_le
  · refine Finset.sup_le fun c _ => ?_
    rw [← masked_wide s c]; exact Finset.le_sup (f := masked s) (Finset.mem_univ _)

theorem ex_masked_wide (s : Fin 256 → EReal) (c : Fin 256) : ex (masked s) (wide c) = ex s c := by
  rw [ex, ex, top_masked, masked_wide]

theorem ex_masked_past (s : Fin 256 → EReal) (c : Fin 2304) (h : ¬c.val < 256) : ex (masked s) c = 0 := by
  rw [ex, masked, dif_neg h, EReal.bot_sub, Ideal.exp_bot]

theorem den_masked (s : Fin 256 → EReal) : den (masked s) = den s := by
  rw [den, sum_wide _ fun c h => ex_masked_past s c h, den]
  exact Finset.sum_congr rfl fun c _ => ex_masked_wide s c

theorem weight_masked_wide (s : Fin 256 → EReal) (c : Fin 256) : weight (masked s) (wide c) = weight s c := by
  rw [weight, weight, den_masked, ex_masked_wide]

theorem weight_masked_past (s : Fin 256 → EReal) (c : Fin 2304) (h : ¬c.val < 256) : weight (masked s) c = 0 := by
  rw [weight, ex_masked_past s c h, zero_mul]

theorem grad_masked_wide (s : Fin 256 → EReal) (d : Fin 2304 → EReal) (c : Fin 256) :
    grad (masked s) d (wide c) = grad s (fun x => d (wide x)) c := by
  rw [grad, grad, den_masked, ex_masked_wide,
    sum_wide _ fun x h => show ex (masked s) x * d x = 0 by rw [ex_masked_past s x h, zero_mul]]
  simp only [ex_masked_wide]

theorem grad_masked_past (s : Fin 256 → EReal) (d : Fin 2304 → EReal) (c : Fin 2304) (h : ¬c.val < 256) :
    grad (masked s) d c = 0 := by
  rw [grad, ex_masked_past s c h, mul_zero]

end Cert.Row

end
-- ==== Proof.Blocks.lean ====
/-
  What the kernel's body computes from one point's blocks, read at an index: the exponentials of a row of scores, their
  sum, the softmax weights, the gradient of the scores, and the three products that are stored.
-/
module

public import proofs.«01_k».proof.Proof.Gen.KernelIdeal.Value
public import proofs.«01_k».proof.Proof.Row
public import Idealize.ShloMosaic.Lib.Pointwise
public import Idealize.ShloMosaic.Lib.WordCmp
public import Idealize.ShloMosaic.PureOps.IdealRules

@[expose] public section

noncomputable section

namespace Cert.Row

/-- A query's scores. One of the first 256 positions sees the first 256 keys and no other. -/
def scores (first : Prop) [Decidable first] (q : Fin 128 → EReal) (k : Fin 2304 → Fin 128 → EReal) : Fin 2304 → EReal :=
  if first then masked (fun c => ∑ d, q d * k (wide c) d) else fun c => ∑ d, q d * k c d

/-- The products of one row with every row of `v`. -/
def against (g : Fin 128 → EReal) (v : Fin 2304 → Fin 128 → EReal) (c : Fin 2304) : EReal := ∑ d, g d * v c d

end Cert.Row

namespace Cert.KernelIdeal.Blocks

open Cert.KernelIdeal Cert.KernelIdeal.Gen Idealize.ShloMosaic Cert.Row

/-- The mask, which the program's table of constants names: −∞. -/
theorem mask_eq : Named.named (F := Ideal) (φ := .f32) κ "mask" 0xF149F2CA#32 = (⊥ : EReal) :=
  IdealRules.named_const.ideal_named_scalar _ _ _ _ rfl

theorem neg_inf : Ideal.ofBits .f32 0xFF800000#32 = ⊥ := by
  simp [Ideal.ofBits, Ideal.ieee]

/-- The blocks of row `r` and of every row, as functions of the coordinates. -/
abbrev row (x : S256x128.Idx → EReal) (r : Fin 256) (d : Fin 128) : EReal := x (ix2 r d)
abbrev rows (y : S2304x128.Idx → EReal) (c : Fin 2304) (d : Fin 128) : EReal := y (ix2 c d)

/-- The scores of row `r` of a block of queries. -/
abbrev sc (i : grid0.Coords) (x : S256x128.Idx → EReal) (y : S2304x128.Idx → EReal) (r : Fin 256) : Fin 2304 → EReal :=
  scores ((i 2).val = 0) (row x r) (rows y)

/-- The comparison that picks the mask, of a column and the bound the point's row of blocks sets. -/
theorem bias_of (a : Fin 9) (s : EReal) (c : Fin 2304) :
    s + Scalar.select (IntOp.cmpi CmpIPredicate.slt (BitVec.ofNat 32 c.val)
              (Scalar.select (Scalar.cmpi CmpIPredicate.slt (Scalar.muli (BitVec.ofNat 32 a.val) 256#32) 256#32) 256#32
                2304#32)) (0 : EReal) (Named.named (F := Ideal) (φ := .f32) κ "mask" 0xF149F2CA#32)
      = if a.val = 0 ∧ ¬c.val < 256 then ⊥ else s := by
  rw [mask_eq]
  have hc : c.val < 2304 := c.isLt
  have h1 : IntOp.cmpi CmpIPredicate.slt (BitVec.ofNat 32 c.val) 256#32 = if c.val < 256 then 1#1 else 0#1 := by
    rw [WordCmp.cmpi_slt_ofNat (by omega) (by omega)]
    by_cases h : c.val < 256 <;> simp [h]
  have h2 : IntOp.cmpi CmpIPredicate.slt (BitVec.ofNat 32 c.val) 2304#32 = 1#1 :=
    (WordCmp.cmpi_slt_ofNat_eq_one_iff (by omega) (by omega)).mpr hc
  have h3 : Scalar.cmpi CmpIPredicate.slt (Scalar.muli (BitVec.ofNat 32 a.val) 256#32) 256#32 = if a.val = 0 then 1#1 else 0#1 := by
    have : ∀ a : Fin 9, Scalar.cmpi CmpIPredicate.slt (Scalar.muli (BitVec.ofNat 32 a.val) 256#32) 256#32 = if a.val = 0 then 1#1 else 0#1 := by decide +kernel
    exact this a
  rw [h3]
  by_cases hi : a.val = 0
  · simp only [hi, if_true, true_and]
    by_cases h : c.val < 256
    · simp [Scalar.select, h1, h]
    · simp [Scalar.select, h1, h]
  · simp [Scalar.select, h2, hi]

theorem bias (i : grid0.Coords) (s : EReal) (c : Fin 2304) :
    s + Scalar.select (IntOp.cmpi CmpIPredicate.slt (BitVec.ofNat 32 c.val)
              (Scalar.select (Scalar.cmpi CmpIPredicate.slt (Scalar.muli (BitVec.ofNat 32 (i 2).val) 256#32) 256#32) 256#32
                2304#32)) (0 : EReal) (Named.named (F := Ideal) (φ := .f32) κ "mask" 0xF149F2CA#32)
      = if (i 2).val = 0 ∧ ¬c.val < 256 then ⊥ else s := bias_of (i 2) s c

theorem sc_eq (i : grid0.Coords) (x : S256x128.Idx → EReal) (y : S2304x128.Idx → EReal) (r : Fin 256) (c : Fin 2304) :
    (if (i 2).val = 0 ∧ ¬c.val < 256 then ⊥ else ∑ d, x (ix2 r d) * y (ix2 c d)) = sc i x y r c := by
  unfold sc scores
  by_cases hi : (i 2).val = 0
  · by_cases h : c.val < 256
    · simp [hi, h, masked]
    · simp [hi, h, masked]
  · simp [hi]

theorem exps (i : grid0.Coords) (x : Vec Ideal S256x128 .bf16) (y : Vec Ideal S2304x128 .bf16) (r : Fin 256) (c : Fin 2304) :
    k0_pay10 i x y (ix2 r c) = ex (sc i x y r) c := by
  pointwise [k0_pay10, k0_pay7, k0_pay8]
  simp only [bias, neg_inf]
  simp only [sc_eq]
  rfl

theorem dens (i : grid0.Coords) (x : Vec Ideal S256x128 .bf16) (y : Vec Ideal S2304x128 .bf16) (r : Fin 256) :
    k0_pay11 i x y (ix2 r 0) = den (sc i x y r) := by
  have h := exps i x y
  unfold k0_pay11
  generalize k0_pay10 i x y = e at h ⊢
  pointwise
  simp only [h]
  rfl

theorem recips (i : grid0.Coords) (x : Vec Ideal S256x128 .bf16) (y : Vec Ideal S2304x128 .bf16) (r : Fin 256) :
    k0_pay12 i x y (ix2 r 0) = Ideal.div 1 (den (sc i x y r)) := by
  have h := dens i x y
  unfold k0_pay12
  generalize k0_pay11 i x y = e at h ⊢
  pointwise
  rw [h]

theorem squares (i : grid0.Coords) (x : Vec Ideal S256x128 .bf16) (y : Vec Ideal S2304x128 .bf16) (r : Fin 256) :
    k0_pay13 i x y (ix2 r 0) = Ideal.div 1 (den (sc i x y r) * den (sc i x y r)) := by
  have h := dens i x y
  unfold k0_pay13
  generalize k0_pay11 i x y = e at h ⊢
  pointwise
  rw [h]

theorem weights (i : grid0.Coords) (x : Vec Ideal S256x128 .bf16) (y : Vec Ideal S2304x128 .bf16) (r : Fin 256) (c : Fin 2304) :
    k0_pay14 i x y (ix2 r c) = weight (sc i x y r) c := by
  have h := exps i x y
  have h' := recips i x y
  unfold k0_pay14
  generalize k0_pay10 i x y = e at h ⊢
  generalize k0_pay12 i x y = e' at h' ⊢
  pointwise
  rw [h, h']
  rfl

/-- The gradient of the scores. -/
theorem grads (i : grid0.Coords) (x : Vec Ideal S256x128 .bf16) (y z : Vec Ideal S2304x128 .bf16) (w : Vec Ideal S256x128 .f32)
    (r : Fin 256) (c : Fin 2304) :
    k0_pay2 (k0_pay9 z) (k0_pay10 i x y) (k0_pay12 i x y) (k0_pay13 i x y) w (ix2 r c)
      = grad (sc i x y r) (against (row w r) (rows z)) c := by
  have h := exps i x y
  have h' := recips i x y
  have h'' := squares i x y
  unfold k0_pay2
  generalize k0_pay10 i x y = e at h ⊢
  generalize k0_pay12 i x y = e' at h' ⊢
  generalize k0_pay13 i x y = e'' at h'' ⊢
  pointwise [k0_pay9]
  simp only [Finset.univ_unique, Finset.sum_singleton, Fin.default_eq_zero, h, h', h'']
  rfl

/-- The block of the queries' gradient. -/
theorem dq (i : grid0.Coords) (x : Vec Ideal S256x128 .bf16) (y z : Vec Ideal S2304x128 .bf16) (w : Vec Ideal S256x128 .f32)
    (r : Fin 256) (d : Fin 128) :
    k0_pay3 (k0_pay8 y) (k0_pay9 z) (k0_pay10 i x y) (k0_pay12 i x y) (k0_pay13 i x y) w (ix2 r d)
      = ∑ c, grad (sc i x y r) (against (row w r) (rows z)) c * y (ix2 c d) := by
  have h := grads i x y z w
  unfold k0_pay3
  generalize k0_pay2 (k0_pay9 z) (k0_pay10 i x y) (k0_pay12 i x y) (k0_pay13 i x y) w = e at h ⊢
  pointwise [k0_pay8]
  simp only [h]

/-- The point's part of the keys' gradient. -/
theorem dk (i : grid0.Coords) (x : Vec Ideal S256x128 .bf16) (y z : Vec Ideal S2304x128 .bf16) (w : Vec Ideal S256x128 .f32)
    (c : Fin 2304) (d : Fin 128) :
    k0_pay4 (k0_pay7 x) (k0_pay9 z) (k0_pay10 i x y) (k0_pay12 i x y) (k0_pay13 i x y) w (ix2 c d)
      = ∑ r, grad (sc i x y r) (against (row w r) (rows z)) c * x (ix2 r d) := by
  have h := grads i x y z w
  unfold k0_pay4
  generalize k0_pay2 (k0_pay9 z) (k0_pay10 i x y) (k0_pay12 i x y) (k0_pay13 i x y) w = e at h ⊢
  pointwise [k0_pay7]
  simp only [h]

/-- The point's part of the values' gradient. -/
theorem dv (i : grid0.Coords) (x : Vec Ideal S256x128 .bf16) (y : Vec Ideal S2304x128 .bf16) (w : Vec Ideal S256x128 .f32)
    (c : Fin 2304) (d : Fin 128) :
    k0_pay1 (k0_pay14 i x y) w (ix2 c d) = ∑ r, weight (sc i x y r) c * w (ix2 r d) := by
  have h := weights i x y
  unfold k0_pay1
  generalize k0_pay14 i x y = e at h ⊢
  pointwise
  simp only [h]

end Cert.KernelIdeal.Blocks

end
-- ==== Proof.Attn.lean ====
/-
  The gradient of the attention, as three functions of the four arrays. There are 2304 positions, of which the first 256
  see one another only; four heads of queries, 128 columns each; and two heads of keys and values, each serving two heads
  of queries.
-/
module

public import proofs.«01_k».proof.Proof.Blocks

@[expose] public section

noncomputable section

namespace Cert.Attn

open Cert.Row

/-- Column `d` of head `h` of the queries. -/
def qcol (h : Fin 4) (d : Fin 128) : Fin 512 := ⟨128 * h.val + d.val, by omega⟩

/-- Column `d` of head `p` of the keys. -/
def kcol (p : Fin 2) (d : Fin 128) : Fin 256 := ⟨128 * p.val + d.val, by omega⟩

/-- The head of keys that serves head `h` of queries. -/
def serves (h : Fin 4) : Fin 2 := ⟨h.val / 2, by omega⟩

/-- Query head number `g` of those that key head `p` serves. -/
def served (p g : Fin 2) : Fin 4 := ⟨2 * p.val + g.val, by omega⟩

@[simp] theorem serves_served (p g : Fin 2) : serves (served p g) = p := by
  apply Fin.ext; simp only [serves, served]; omega

variable (Q : Fin 2304 → Fin 512 → EReal) (K V : Fin 2304 → Fin 256 → EReal) (G : Fin 2304 → Fin 512 → EReal)

/-- The scores of position `R` in head `h`. -/
def score (h : Fin 4) (R : Fin 2304) : Fin 2304 → EReal :=
  scores (R.val < 256) (fun d => Q R (qcol h d)) (fun c d => K c (kcol (serves h) d))

/-- What the cotangent of position `R` says of the weights in head `h`. -/
def cot (h : Fin 4) (R : Fin 2304) : Fin 2304 → EReal :=
  against (fun d => G R (qcol h d)) (fun c d => V c (kcol (serves h) d))

/-- The gradient of the scores. -/
def dscore (h : Fin 4) (R c : Fin 2304) : EReal := grad (score Q K h R) (cot V G h R) c

/-- The gradient of the queries. -/
def dq (h : Fin 4) (R : Fin 2304) (d : Fin 128) : EReal := ∑ c, dscore Q K V G h R c * K c (kcol (serves h) d)

/-- The gradient of the keys. -/
def dk (p : Fin 2) (c : Fin 2304) (d : Fin 128) : EReal :=
  ∑ g : Fin 2, ∑ R, dscore Q K V G (served p g) R c * Q R (qcol (served p g) d)

/-- The gradient of the values. -/
def dv (p : Fin 2) (c : Fin 2304) (d : Fin 128) : EReal :=
  ∑ g : Fin 2, ∑ R, weight (score Q K (served p g) R) c * G R (qcol (served p g) d)

/-- The head and the column in it of a column of the queries, and of the keys. -/
def qhead (C : Fin 512) : Fin 4 := ⟨C.val / 128, by omega⟩
def khead (C : Fin 256) : Fin 2 := ⟨C.val / 128, by omega⟩
def lane {n : ℕ} (C : Fin n) : Fin 128 := ⟨C.val % 128, by omega⟩

end Cert.Attn

end
-- ==== Proof.KernelValue.lean ====
/-
  What the kernel leaves in its three result arrays.
-/
module

public import proofs.«01_k».proof.Proof.Attn
public import Idealize.ShloMosaic.Lib.Pipeline.ValueKit

@[expose] public section

noncomputable section

namespace Cert.KernelIdeal.Arrays

open Cert.KernelIdeal Cert.KernelIdeal.Gen Idealize.ShloMosaic Idealize.ShloMosaic.TcCoe Cert.Row Cert.Attn

variable (m : (ℓ : Loc nD τ sig) → Buf (Elt Ideal) ℓ)

abbrev Q (c : Dev nD) (R : Fin 2304) (C : Fin 512) : EReal := m ((c : Thread nD τ).loc main_arg0) (ix2 R C)
abbrev K (c : Dev nD) (R : Fin 2304) (C : Fin 256) : EReal := m ((c : Thread nD τ).loc main_arg1) (ix2 R C)
abbrev Vv (c : Dev nD) (R : Fin 2304) (C : Fin 256) : EReal := m ((c : Thread nD τ).loc main_arg2) (ix2 R C)
abbrev G (c : Dev nD) (R : Fin 2304) (C : Fin 512) : EReal := m ((c : Thread nD τ).loc main_arg3) (ix2 R C)

theorem idx0 : ∀ t : Fin cfg0.N, win0_0.index t = ![t.val % 9, t.val / 9] := by decide +kernel
theorem idx1 : ∀ t : Fin cfg0.N, win0_1.index t = ![0, t.val / 18] := by decide +kernel
theorem idx2 : ∀ t : Fin cfg0.N, win0_2.index t = ![0, t.val / 18] := by decide +kernel
theorem idx3 : ∀ t : Fin cfg0.N, win0_3.index t = ![t.val % 9, t.val / 9] := by decide +kernel
theorem idx4 : ∀ t : Fin cfg0.N, win0_4.index t = ![t.val % 9, t.val / 9] := by decide +kernel
theorem idx5 : ∀ t : Fin cfg0.N, win0_5.index t = ![0, t.val / 18] := by decide +kernel
theorem idx6 : ∀ t : Fin cfg0.N, win0_6.index t = ![0, t.val / 18] := by decide +kernel
theorem coord2 : ∀ t : Fin cfg0.N, (grid0.coords t 2).val = t.val % 9 := by decide +kernel

theorem t_lt (t : Fin cfg0.N) : t.val < 36 := t.isLt

/-- The position of row `r` of point `n`'s block, and the head the point works on. -/
def pos (n : ℕ) (r : Fin 256) : Fin 2304 := ⟨256 * (n % 9) + r.val, by omega⟩
def head (n : ℕ) : Fin 4 := ⟨n / 9 % 4, by omega⟩

theorem blkQ (c : Dev nD) (t : Fin cfg0.N) (r : Fin 256) (d : Fin 128) :
    iblk m c 0 t (ix2 r d) = Q m c (pos t.val r) (qcol (head t.val) d) := by
  blk_ext [iblk, V, idx0 t] <;> simp only [pos, qcol, head] <;> have := t_lt t <;> omega

theorem blkK (c : Dev nD) (t : Fin cfg0.N) (r : Fin 2304) (d : Fin 128) :
    iblk m c 1 t (ix2 r d) = K m c r (kcol (serves (head t.val)) d) := by
  blk_ext [iblk, V, idx1 t] <;> simp only [kcol, serves, head] <;> have := t_lt t <;> omega

theorem blkV (c : Dev nD) (t : Fin cfg0.N) (r : Fin 2304) (d : Fin 128) :
    iblk m c 2 t (ix2 r d) = Vv m c r (kcol (serves (head t.val)) d) := by
  blk_ext [iblk, V, idx2 t] <;> simp only [kcol, serves, head] <;> have := t_lt t <;> omega

theorem blkG (c : Dev nD) (t : Fin cfg0.N) (r : Fin 256) (d : Fin 128) :
    iblk m c 3 t (ix2 r d) = G m c (pos t.val r) (qcol (head t.val) d) := by
  blk_ext [iblk, V, idx3 t] <;> simp only [pos, qcol, head] <;> have := t_lt t <;> omega

/-- The scores of a row of the point's block are the scores of its position. -/
theorem sc_at (c : Dev nD) (t : Fin cfg0.N) (r : Fin 256) :
    Blocks.sc (grid0.coords t) (iblk m c 0 t) (iblk m c 1 t) r = score (Q m c) (K m c) (head t.val) (pos t.val r) := by
  have hp : (grid0.coords t 2).val = 0 ↔ (pos t.val r).val < 256 := by
    rw [coord2 t]; simp only [pos]; omega
  unfold Blocks.sc score Blocks.row Blocks.rows scores
  simp only [blkQ, blkK, hp]

theorem cot_at (c : Dev nD) (t : Fin cfg0.N) (r : Fin 256) :
    against (Blocks.row (iblk m c 3 t) r) (Blocks.rows (iblk m c 2 t)) = cot (Vv m c) (G m c) (head t.val) (pos t.val r) := by
  unfold cot Blocks.row Blocks.rows
  simp only [blkG, blkV]

/-- The queries' gradient, as an array. -/
def dqArr (c : Dev nD) : S2304x512.Idx → EReal :=
  fun y => dq (Q m c) (K m c) (Vv m c) (G m c) (qhead (y 1)) (y 0) (lane (y 1))

/-- The point's block of the queries' gradient. -/
theorem dq_at (c : Dev nD) (t : Fin cfg0.N) (r : Fin 256) (d : Fin 128) :
    k0_pay3 (k0_pay8 (iblk m c 1 t)) (k0_pay9 (iblk m c 2 t)) (k0_pay10 (grid0.coords t) (iblk m c 0 t) (iblk m c 1 t))
      (k0_pay12 (grid0.coords t) (iblk m c 0 t) (iblk m c 1 t))
      (k0_pay13 (grid0.coords t) (iblk m c 0 t) (iblk m c 1 t)) (iblk m c 3 t) (ix2 r d)
      = dqArr m c (ix2 (pos t.val r) (qcol (head t.val) d)) := by
  have e : qhead (qcol (head t.val) d) = head t.val := by
    apply Fin.ext; simp only [qhead, qcol]; omega
  have e' : lane (qcol (head t.val) d) = d := by
    apply Fin.ext; simp only [lane, qcol]; omega
  refine (Blocks.dq _ _ _ _ _ r d).trans ?_
  show _ = dq _ _ _ _ (qhead (qcol (head t.val) d)) (pos t.val r) (lane (qcol (head t.val) d))
  rw [e, e']
  unfold dq dscore
  simp only [sc_at, cot_at, blkK]

theorem arr4 (c : Dev nD) : (dats m 0 c).arrAt 4 cfg0.N = dqArr m c := by
  refine (dats m 0 c).arrAt_eq_of_covers 4 (dqArr m c) (by decide +kernel) fun t hf y => ?_
  blk_simp
  rw [after0_4]
  have emb : ∀ (r : Fin 256) (d : Fin 128), dqArr m c (((View.whole main_v0_0).slice (win0_4.rect t)).emb (ix2 r d))
      = dqArr m c (ix2 (pos t.val r) (qcol (head t.val) d)) := by
    intro r d
    blk_ext [idx4 t] <;> simp only [pos, qcol, head] <;> have := t_lt t <;> omega
  by_cases h : t.val % 18 = 0
  · rw [outsAt0_A m c t h (by omega)]
    frame_out
    obtain ⟨r, d, rfl⟩ : ∃ (r : Fin 256) (d : Fin 128), y = ix2 r d := ⟨y 0, y 1, eq_ix2 y⟩
    rw [emb, dq_at]
  · rw [outsAt0_B m c t h (by omega)]
    frame_out
    obtain ⟨r, d, rfl⟩ : ∃ (r : Fin 256) (d : Fin 128), y = ix2 r d := ⟨y 0, y 1, eq_ix2 y⟩
    rw [emb, dq_at]

/-- Point `n`'s part of the keys' gradient, and of the values'. -/
def dkPart (c : Dev nD) (n : ℕ) (j : S2304x128.Idx) : EReal :=
  ∑ r : Fin 256, dscore (Q m c) (K m c) (Vv m c) (G m c) (head n) (pos n r) (j 0) * Q m c (pos n r) (qcol (head n) (j 1))
def dvPart (c : Dev nD) (n : ℕ) (j : S2304x128.Idx) : EReal :=
  ∑ r : Fin 256, weight (score (Q m c) (K m c) (head n) (pos n r)) (j 0) * G m c (pos n r) (qcol (head n) (j 1))

theorem dkPart_at (c : Dev nD) (t : Fin cfg0.N) (j : S2304x128.Idx) :
    k0_pay4 (k0_pay7 (iblk m c 0 t)) (k0_pay9 (iblk m c 2 t)) (k0_pay10 (grid0.coords t) (iblk m c 0 t) (iblk m c 1 t))
      (k0_pay12 (grid0.coords t) (iblk m c 0 t) (iblk m c 1 t))
      (k0_pay13 (grid0.coords t) (iblk m c 0 t) (iblk m c 1 t)) (iblk m c 3 t) j = dkPart m c t.val j := by
  obtain ⟨x, d, rfl⟩ : ∃ (x : Fin 2304) (d : Fin 128), j = ix2 x d := ⟨j 0, j 1, eq_ix2 j⟩
  refine (Blocks.dk _ _ _ _ _ x d).trans ?_
  unfold dkPart dscore
  simp only [sc_at, cot_at, blkQ]
  rfl

theorem dvPart_at (c : Dev nD) (t : Fin cfg0.N) (j : S2304x128.Idx) :
    k0_pay1 (k0_pay14 (grid0.coords t) (iblk m c 0 t) (iblk m c 1 t)) (iblk m c 3 t) j = dvPart m c t.val j := by
  obtain ⟨x, d, rfl⟩ : ∃ (x : Fin 2304) (d : Fin 128), j = ix2 x d := ⟨j 0, j 1, eq_ix2 j⟩
  refine (Blocks.dv _ _ _ _ x d).trans ?_
  unfold dvPart
  simp only [sc_at, blkG]
  rfl

/-- The accumulating stores add the point's part to what is there. -/
theorem add_k0_pay5 (a : Vec Ideal S256x128 .f32) (b : Vec Ideal S2304x128 .f32) (e : Vec Ideal S256x2304 .f32) (r s : Vec Ideal S256x1 .f32) (g : Vec Ideal S256x128 .f32)
    (v : Vec Ideal S2304x128 .f32) (j : S2304x128.Idx) : k0_pay5 a b e r s g v j = v j + k0_pay4 a b e r s g j := by
  unfold k0_pay5
  generalize k0_pay4 a b e r s g = z
  pointwise

theorem add_k0_pay6 (a : Vec Ideal S256x2304 .f32) (g : Vec Ideal S256x128 .f32)
    (v : Vec Ideal S2304x128 .f32) (j : S2304x128.Idx) : k0_pay6 a g v j = v j + k0_pay1 a g j := by
  unfold k0_pay6
  generalize k0_pay1 a g = z
  pointwise

theorem dk_sum (c : Dev nD) (t : Fin cfg0.N) (ht : t.val % 18 = 17) (j : S2304x128.Idx) :
    (outsAt0 m c t.val t.isLt).2.1 j = ∑ k ∈ Finset.range 18, dkPart m c (18 * (t.val / 18) + k) j := by
  refine (Pipeline.eq_sum_of_reset_step_apply_of_mod (fun n h => (outsAt0 m c n h).2.1) 18 (fun _ => (0 : EReal)) (dkPart m c)
    (fun t h j => ?_) (fun t h j => ?_) t ht j).trans (zero_add _)
  · rw [outsAt0_A m c t h (by omega)]
    frame_out
    rw [dkPart_at, zero_add]
  · beta_reduce
    rw [outsAt0_B m c t h (by omega)]
    frame_out
    rw [← dkPart_at]
    exact add_k0_pay5 _ _ _ _ _ _ _ _

theorem dv_sum (c : Dev nD) (t : Fin cfg0.N) (ht : t.val % 18 = 17) (j : S2304x128.Idx) :
    (outsAt0 m c t.val t.isLt).2.2 j = ∑ k ∈ Finset.range 18, dvPart m c (18 * (t.val / 18) + k) j := by
  refine (Pipeline.eq_sum_of_reset_step_apply_of_mod (fun n h => (outsAt0 m c n h).2.2) 18 (fun _ => (0 : EReal)) (dvPart m c)
    (fun t h j => ?_) (fun t h j => ?_) t ht j).trans (zero_add _)
  · rw [outsAt0_A m c t h (by omega)]
    frame_out
    rw [dvPart_at, zero_add]
  · beta_reduce
    rw [outsAt0_B m c t h (by omega)]
    frame_out
    rw [← dvPart_at]
    exact add_k0_pay6 _ _ _ _

/-- A run's 18 points and their 256 rows are the two served heads and all positions. -/
theorem run_sum (f : Fin 4 → Fin 2304 → EReal) (p : Fin 2) :
    ∑ k ∈ Finset.range 18, ∑ r : Fin 256, f (head (18 * p.val + k)) (pos (18 * p.val + k) r)
      = ∑ g : Fin 2, ∑ R : Fin 2304, f (served p g) R := by
  rw [Finset.sum_range]
  refine Fin.sum_points_lanes_congr 9 (g := fun g R => f (served p g) R) fun k r ha hl => ?_
  have h1 : head (18 * p.val + k.val) = served p ⟨k.val / 9, ha⟩ := by
    apply Fin.ext; simp only [head, served]; omega
  have h2 : pos (18 * p.val + k.val) r = ⟨k.val % 9 * 256 + r.val, hl⟩ := by
    apply Fin.ext; simp only [pos]; omega
  rw [h1, h2]

/-- The keys' and the values' gradients, as arrays. -/
def dkArr (c : Dev nD) : S2304x256.Idx → EReal :=
  fun y => dk (Q m c) (K m c) (Vv m c) (G m c) (khead (y 1)) (y 0) (lane (y 1))
def dvArr (c : Dev nD) : S2304x256.Idx → EReal :=
  fun y => dv (Q m c) (K m c) (G m c) (khead (y 1)) (y 0) (lane (y 1))

theorem arr5 (c : Dev nD) : (dats m 0 c).arrAt 5 cfg0.N = dkArr m c := by
  refine (dats m 0 c).arrAt_eq_of_covers 5 (dkArr m c) (by decide +kernel) fun t hf y => ?_
  have ht := (flush0_5 t).mp hf
  have hlt := t_lt t
  blk_simp
  rw [after0_5]
  refine (dk_sum m c t ht y).trans ?_
  obtain ⟨x, d, rfl⟩ : ∃ (x : Fin 2304) (d : Fin 128), y = ix2 x d := ⟨y 0, y 1, eq_ix2 y⟩
  have emb : dkArr m c (((View.whole main_v0_1).slice (win0_5.rect t)).emb (ix2 x d))
      = dkArr m c (ix2 x (kcol ⟨t.val / 18, by omega⟩ d)) := by
    blk_ext [idx5 t] <;> simp only [kcol] <;> omega
  refine Eq.trans ?_ emb.symm
  have e : khead (kcol ⟨t.val / 18, by omega⟩ d) = ⟨t.val / 18, by omega⟩ := by
    apply Fin.ext; simp only [khead, kcol]; omega
  have e' : lane (kcol ⟨t.val / 18, by omega⟩ d) = d := by
    apply Fin.ext; simp only [lane, kcol]; omega
  show _ = dk _ _ _ _ (khead (kcol ⟨t.val / 18, by omega⟩ d)) x (lane (kcol ⟨t.val / 18, by omega⟩ d))
  rw [e, e']
  exact run_sum (fun h R => dscore (Q m c) (K m c) (Vv m c) (G m c) h R x * Q m c R (qcol h d)) ⟨t.val / 18, by omega⟩

theorem arr6 (c : Dev nD) : (dats m 0 c).arrAt 6 cfg0.N = dvArr m c := by
  refine (dats m 0 c).arrAt_eq_of_covers 6 (dvArr m c) (by decide +kernel) fun t hf y => ?_
  have ht := (flush0_6 t).mp hf
  have hlt := t_lt t
  blk_simp
  rw [after0_6]
  refine (dv_sum m c t ht y).trans ?_
  obtain ⟨x, d, rfl⟩ : ∃ (x : Fin 2304) (d : Fin 128), y = ix2 x d := ⟨y 0, y 1, eq_ix2 y⟩
  have emb : dvArr m c (((View.whole main_v0_2).slice (win0_6.rect t)).emb (ix2 x d))
      = dvArr m c (ix2 x (kcol ⟨t.val / 18, by omega⟩ d)) := by
    blk_ext [idx6 t] <;> simp only [kcol] <;> omega
  refine Eq.trans ?_ emb.symm
  have e : khead (kcol ⟨t.val / 18, by omega⟩ d) = ⟨t.val / 18, by omega⟩ := by
    apply Fin.ext; simp only [khead, kcol]; omega
  have e' : lane (kcol ⟨t.val / 18, by omega⟩ d) = d := by
    apply Fin.ext; simp only [lane, kcol]; omega
  show _ = dv _ _ _ (khead (kcol ⟨t.val / 18, by omega⟩ d)) x (lane (kcol ⟨t.val / 18, by omega⟩ d))
  rw [e, e']
  exact run_sum (fun h R => weight (score (Q m c) (K m c) h R) x * G m c R (qcol h d)) ⟨t.val / 18, by omega⟩

end Cert.KernelIdeal.Arrays

end
-- ==== Proof.RefRows.lean ====
/-
  What the reference computes, one head and one row of scores at a time.
-/
module

public import proofs.«01_k».proof.Proof.Gen.ReferenceIdeal.Read
public import proofs.«01_k».proof.Proof.Attn

@[expose] public section

noncomputable section

namespace Cert.ReferenceIdeal.Rows

open Cert.ReferenceIdeal Cert.ReferenceIdeal.Gen Cert.ReferenceIdeal.Read Idealize.ShloMosaic Idealize.ShloMosaic.TcCoe
open Cert.Row Cert.Attn

variable (x0 : (⟨S2304x512, .bf16⟩ : BufTy).Contents (Elt Ideal)) (x1 x2 : (⟨S2304x256, .bf16⟩ : BufTy).Contents (Elt Ideal))
  (x3 : (⟨S2304x512, .f32⟩ : BufTy).Contents (Elt Ideal))

/-- The position of a late row: 256 positions come before it. -/
def late (q : Fin 2048) : Fin 2304 := ⟨256 + q.val, by omega⟩

/-- An array by row and column. -/
abbrev mat {n : ℕ} (x : (⟨2, ![2304, n]⟩ : Shape).Idx → EReal) (R : Fin 2304) (C : Fin n) : EReal := x (ix2 R C)

/-- The scores of an early row against the early keys. -/
def near (p g : Fin 2) (r c : Fin 256) : EReal :=
  ∑ d, mat x0 (wide r) (qcol (served p g) d) * mat x1 (wide c) (kcol p d)

/-- The scores of a late row against every key. -/
def far (p g : Fin 2) (q : Fin 2048) (c : Fin 2304) : EReal :=
  ∑ d, mat x0 (late q) (qcol (served p g) d) * mat x1 c (kcol p d)

/-- The cotangent of the weights of an early row, and of a late row. -/
def nearCot (p g : Fin 2) (r c : Fin 256) : EReal :=
  ∑ d, mat x3 (wide r) (qcol (served p g) d) * mat x2 (wide c) (kcol p d)
def farCot (p g : Fin 2) (q : Fin 2048) (c : Fin 2304) : EReal :=
  ∑ d, mat x3 (late q) (qcol (served p g) d) * mat x2 c (kcol p d)

theorem q_at (p g : Fin 2) (R : Fin 2304) (d : Fin 128) :
    val_main_v4 (F := Ideal) x0 (ix4 p g R d) = mat x0 R (qcol (served p g) d) := by
  pointwise [val_main_v4, val_main_v3, val_main_v0]
  refine congrArg (fun C => x0 (ix2 R C)) (Fin.ext ?_)
  simp only [qcol, served]; omega

theorem ct_at (p g : Fin 2) (R : Fin 2304) (d : Fin 128) :
    val_main_v77 (F := Ideal) x3 (ix4 p g R d) = mat x3 R (qcol (served p g) d) := by
  pointwise [val_main_v77, val_main_v76]
  refine congrArg (fun C => x3 (ix2 R C)) (Fin.ext ?_)
  simp only [qcol, served]; omega

theorem k_at (p : Fin 2) (R : Fin 2304) (d : Fin 128) :
    val_main_v6 (F := Ideal) x1 (ix3 p R d) = mat x1 R (kcol p d) := by
  pointwise [val_main_v6, val_main_v5, val_main_v1]
  refine congrArg (fun C => x1 (ix2 R C)) (Fin.ext ?_)
  simp only [kcol]; omega

theorem v_at (p : Fin 2) (R : Fin 2304) (d : Fin 128) :
    val_main_v8 (F := Ideal) x2 (ix3 p R d) = mat x2 R (kcol p d) := by
  pointwise [val_main_v8, val_main_v7, val_main_v2]
  refine congrArg (fun C => x2 (ix2 R C)) (Fin.ext ?_)
  simp only [kcol]; omega

theorem near_at (p g : Fin 2) (r c : Fin 256) : val_main_v12 (F := Ideal) x0 x1 (ix4 p g r c) = near x0 x1 p g r c := by
  have hq := q_at x0
  have hk := k_at x1
  unfold val_main_v12 val_main_v9 val_main_v10
  generalize val_main_v4 (F := Ideal) x0 = a at hq ⊢
  generalize val_main_v6 (F := Ideal) x1 = b at hk ⊢
  pointwise
  simp only [hq, hk]
  rfl

theorem far_at (p g : Fin 2) (q : Fin 2048) (c : Fin 2304) :
    val_main_v43 (F := Ideal) x0 x1 (ix4 p g q c) = far x0 x1 p g q c := by
  have hq := q_at x0
  have hk := k_at x1
  unfold val_main_v43 val_main_v42
  generalize val_main_v4 (F := Ideal) x0 = a at hq ⊢
  generalize val_main_v6 (F := Ideal) x1 = b at hk ⊢
  pointwise
  simp only [hq, hk]
  rfl

theorem nearCot_at (p g : Fin 2) (r c : Fin 256) : val_main_v100 (F := Ideal) x2 x3 (ix4 p g r c) = nearCot x2 x3 p g r c := by
  have hq := ct_at x3
  have hk := v_at x2
  unfold val_main_v100 val_main_v78 val_main_v11
  generalize val_main_v77 (F := Ideal) x3 = a at hq ⊢
  generalize val_main_v8 (F := Ideal) x2 = b at hk ⊢
  pointwise
  simp only [hq, hk]
  rfl

theorem farCot_at (p g : Fin 2) (q : Fin 2048) (c : Fin 2304) :
    val_main_v82 (F := Ideal) x2 x3 (ix4 p g q c) = farCot x2 x3 p g q c := by
  have hq := ct_at x3
  have hk := v_at x2
  unfold val_main_v82 val_main_v79
  generalize val_main_v77 (F := Ideal) x3 = a at hq ⊢
  generalize val_main_v8 (F := Ideal) x2 = b at hk ⊢
  pointwise
  simp only [hq, hk]
  rfl

theorem near_ex (p g : Fin 2) (r c : Fin 256) : val_main_v33 (F := Ideal) x0 x1 (ix4 p g r c) = ex (near x0 x1 p g r) c := by
  have h := near_at x0 x1
  unfold val_main_v33 val_main_v32 val_main_v31 val_main_v30 val_main_v20 val_main_v19 val_main_cst_1 val_main_v13 val_main_cst
  generalize val_main_v12 (F := Ideal) x0 x1 = a at h ⊢
  pointwise
  simp only [h, KernelIdeal.Blocks.neg_inf]
  rw [max_eq_right bot_le]
  rfl

theorem near_den (p g : Fin 2) (r : Fin 256) (o : Fin 1) : val_main_v35 (F := Ideal) x0 x1 (ix4 p g r o) = den (near x0 x1 p g r) := by
  have h := near_ex x0 x1
  unfold val_main_v35 val_main_v34 val_main_cst_7
  generalize val_main_v33 (F := Ideal) x0 x1 = a at h ⊢
  pointwise
  simp only [h]
  rfl

theorem near_weight (p g : Fin 2) (r c : Fin 256) :
    val_main_v37 (F := Ideal) x0 x1 (ix4 p g r c) = Ideal.div (ex (near x0 x1 p g r) c) (den (near x0 x1 p g r)) := by
  have h := near_ex x0 x1
  have h' := near_den x0 x1
  unfold val_main_v37 val_main_v36
  generalize val_main_v33 (F := Ideal) x0 x1 = a at h ⊢
  generalize val_main_v35 (F := Ideal) x0 x1 = b at h' ⊢
  pointwise
  simp only [h, h']

theorem near_grad (p g : Fin 2) (r c : Fin 256) :
    val_main_v112 (F := Ideal) x0 x1 x2 x3 (ix4 p g r c) = (Ideal.div (nearCot x2 x3 p g r c) (den (near x0 x1 p g r))
      + -(∑ x, nearCot x2 x3 p g r x * Ideal.div 1 (den (near x0 x1 p g r) * den (near x0 x1 p g r)) * ex (near x0 x1 p g r) x))
      * ex (near x0 x1 p g r) c := by
  have h := near_ex x0 x1
  have h' := near_den x0 x1
  have h'' := nearCot_at x2 x3
  unfold val_main_v112 val_main_v111 val_main_v110 val_main_v109 val_main_cst_23 val_main_v108 val_main_v107 val_main_v106
    val_main_v105 val_main_v104 val_main_cst_22 val_main_v103 val_main_v102 val_main_v101 val_main_v40 val_main_v39
    val_main_cst_8 val_main_v38
  generalize val_main_v33 (F := Ideal) x0 x1 = a at h ⊢
  generalize val_main_v35 (F := Ideal) x0 x1 = b at h' ⊢
  generalize val_main_v100 (F := Ideal) x2 x3 = e at h'' ⊢
  pointwise
  simp only [h, h', h'', Finset.univ_unique, Finset.sum_singleton]

/-- A row's greatest score, as the fold the operation is. -/
theorem fold_top {n : ℕ} (f : Fin n → Ideal .f32) : Finset.univ.fold (max : Ideal .f32 → Ideal .f32 → Ideal .f32) ⊥ f = top f := rfl

/-- The greatest element along the last axis of an array. -/
theorem reduce_top (x : (⟨S2x2x2048x2304, .f32⟩ : BufTy).Contents (Elt Ideal)) (p g : Fin 2) (q : Fin 2048) (f : Fin 2304 → EReal)
    (h : ∀ c, x (ix4 p g q c) = f c) :
    Host.reduce FloatOps.maximumf x (constant (F := Ideal) S_ .f32 0xFF800000#32) reducesTo_S2x2x2048x2304_S2x2x2048_d3 h_S_ (ix3 p g q)
      = top f := by
  pointwise
  rw [KernelIdeal.Blocks.neg_inf, show (fun c => x (ix4 p g q c)) = f from funext h]
  exact fold_top _

/-- The greatest score of a late row. -/
theorem far_top (p g : Fin 2) (q : Fin 2048) : val_main_v44 (F := Ideal) x0 x1 (ix3 p g q) = top (far x0 x1 p g q) := by
  have h := far_at x0 x1
  unfold val_main_v44 val_main_cst_9
  generalize val_main_v43 (F := Ideal) x0 x1 = a at h ⊢
  exact reduce_top a p g q _ (h p g q)

theorem bot_max (t : Ideal .f32) : max (⊥ : Ideal .f32) t = t := max_eq_right bot_le

/-- Its maximum with −∞ is itself. -/
theorem max_neg_inf (t : Ideal .f32) : FloatOps.maximumf (F := Ideal) (φ := .f32) (FloatOps.ofBits .f32 0xFF800000#32) t = t := by
  show max (Ideal.ofBits .f32 0xFF800000#32) t = t
  rw [KernelIdeal.Blocks.neg_inf, bot_max]

theorem far_top' (p g : Fin 2) (q : Fin 2048) : val_main_v51 (F := Ideal) x0 x1 (ix3 p g q) = top (far x0 x1 p g q) := by
  rw [val_main_v51_apply, val_main_v50_apply, val_main_cst_11_apply, far_top, max_neg_inf]

theorem far_ex (p g : Fin 2) (q : Fin 2048) (c : Fin 2304) : val_main_v64 (F := Ideal) x0 x1 (ix4 p g q c) = ex (far x0 x1 p g q) c := by
  have h := far_at x0 x1 p g q c
  have h' := far_top' x0 x1 p g q
  unfold ex
  generalize far x0 x1 p g q c = s at h ⊢
  generalize top (far x0 x1 p g q) = t at h' ⊢
  unfold val_main_v64 val_main_v63 val_main_v62 val_main_v61
  generalize val_main_v43 (F := Ideal) x0 x1 = a at h ⊢
  generalize val_main_v51 (F := Ideal) x0 x1 = b at h' ⊢
  pointwise
  rw [h, h']

theorem far_den (p g : Fin 2) (q : Fin 2048) (o : Fin 1) : val_main_v66 (F := Ideal) x0 x1 (ix4 p g q o) = den (far x0 x1 p g q) := by
  have h := far_ex x0 x1
  unfold val_main_v66 val_main_v65 val_main_cst_17
  generalize val_main_v64 (F := Ideal) x0 x1 = a at h ⊢
  pointwise
  simp only [h]
  rfl

theorem far_weight (p g : Fin 2) (q : Fin 2048) (c : Fin 2304) :
    val_main_v68 (F := Ideal) x0 x1 (ix4 p g q c) = Ideal.div (ex (far x0 x1 p g q) c) (den (far x0 x1 p g q)) := by
  have h := far_ex x0 x1
  have h' := far_den x0 x1
  unfold val_main_v68 val_main_v67
  generalize val_main_v64 (F := Ideal) x0 x1 = a at h ⊢
  generalize val_main_v66 (F := Ideal) x0 x1 = b at h' ⊢
  pointwise
  simp only [h, h']

theorem far_grad (p g : Fin 2) (q : Fin 2048) (c : Fin 2304) :
    val_main_v94 (F := Ideal) x0 x1 x2 x3 (ix4 p g q c) = (Ideal.div (farCot x2 x3 p g q c) (den (far x0 x1 p g q))
      + -(∑ x, farCot x2 x3 p g q x * Ideal.div 1 (den (far x0 x1 p g q) * den (far x0 x1 p g q)) * ex (far x0 x1 p g q) x))
      * ex (far x0 x1 p g q) c := by
  have h := far_ex x0 x1
  have h' := far_den x0 x1
  have h'' := farCot_at x2 x3
  unfold val_main_v94 val_main_v93 val_main_v92 val_main_v91 val_main_cst_20 val_main_v90 val_main_v89 val_main_v88
    val_main_v87 val_main_v86 val_main_cst_19 val_main_v85 val_main_v84 val_main_v83 val_main_v71 val_main_v70
    val_main_cst_18 val_main_v69
  generalize val_main_v64 (F := Ideal) x0 x1 = a at h ⊢
  generalize val_main_v66 (F := Ideal) x0 x1 = b at h' ⊢
  generalize val_main_v82 (F := Ideal) x2 x3 = e at h'' ⊢
  pointwise
  simp only [h, h', h'', Finset.univ_unique, Finset.sum_singleton]

end Cert.ReferenceIdeal.Rows

end
-- ==== Proof.RefValue.lean ====
/-
  The reference's three results at an index: the sums over the early rows and over the late rows, each with its own
  softmax.
-/
module

public import proofs.«01_k».proof.Proof.RefRows

@[expose] public section

noncomputable section

namespace Cert.ReferenceIdeal.Rows

open Cert.ReferenceIdeal Cert.ReferenceIdeal.Gen Cert.ReferenceIdeal.Read Idealize.ShloMosaic Idealize.ShloMosaic.TcCoe
open Cert.Row Cert.Attn

variable (x0 : (⟨S2304x512, .bf16⟩ : BufTy).Contents (Elt Ideal)) (x1 x2 : (⟨S2304x256, .bf16⟩ : BufTy).Contents (Elt Ideal))
  (x3 : (⟨S2304x512, .f32⟩ : BufTy).Contents (Elt Ideal))

theorem late_dq (p g : Fin 2) (q : Fin 2048) (d : Fin 128) :
    val_main_v96 (F := Ideal) x0 x1 x2 x3 (ix4 p g q d)
      = ∑ c, val_main_v94 (F := Ideal) x0 x1 x2 x3 (ix4 p g q c) * mat x1 c (kcol p d) := by
  have hk := k_at x1
  unfold val_main_v96
  generalize val_main_v94 (F := Ideal) x0 x1 x2 x3 = a
  generalize val_main_v6 (F := Ideal) x1 = b at hk ⊢
  pointwise
  simp only [hk]

theorem early_dq (p g : Fin 2) (r : Fin 256) (d : Fin 128) :
    val_main_v114 (F := Ideal) x0 x1 x2 x3 (ix4 p g r d)
      = ∑ c, val_main_v112 (F := Ideal) x0 x1 x2 x3 (ix4 p g r c) * mat x1 (wide c) (kcol p d) := by
  have hk := k_at x1
  unfold val_main_v114 val_main_v10
  generalize val_main_v112 (F := Ideal) x0 x1 x2 x3 = a
  generalize val_main_v6 (F := Ideal) x1 = b at hk ⊢
  pointwise
  simp only [hk]

theorem dq_late (p g : Fin 2) (q : Fin 2048) (d : Fin 128) :
    val_main_v120 (F := Ideal) x0 x1 x2 x3 (ix4 p g (late q) d) = val_main_v96 (F := Ideal) x0 x1 x2 x3 (ix4 p g q d) := by
  unfold val_main_v120 val_main_v119 val_main_v97 val_main_cst_26 val_main_cst_21
  generalize val_main_v96 (F := Ideal) x0 x1 x2 x3 = a
  generalize val_main_v114 (F := Ideal) x0 x1 x2 x3 = b
  pointwise
  have hq := q.isLt
  have e : (late q).val = 256 + q.val := rfl
  rw [dif_pos (by omega), dif_neg (by omega), add_zero]
  refine congrArg (fun r => a (ix4 p g r d)) (Fin.ext ?_)
  show (late q).val - 256 = q.val
  omega

theorem dq_early (p g : Fin 2) (r : Fin 256) (d : Fin 128) :
    val_main_v120 (F := Ideal) x0 x1 x2 x3 (ix4 p g (wide r) d) = val_main_v114 (F := Ideal) x0 x1 x2 x3 (ix4 p g r d) := by
  unfold val_main_v120 val_main_v119 val_main_v97 val_main_cst_26 val_main_cst_21
  generalize val_main_v96 (F := Ideal) x0 x1 x2 x3 = a
  generalize val_main_v114 (F := Ideal) x0 x1 x2 x3 = b
  pointwise
  have hr := r.isLt
  exact zero_add _

/-- The two heads of a column of the queries, as the reference counts them. -/
def outer (C : Fin 512) : Fin 2 := ⟨C.val / 256, by omega⟩
def inner (C : Fin 512) : Fin 2 := ⟨C.val / 128 % 2, by omega⟩

theorem served_outer (C : Fin 512) : served (outer C) (inner C) = qhead C := by
  apply Fin.ext; simp only [served, outer, inner, qhead]; omega

theorem out_dq (R : Fin 2304) (C : Fin 512) :
    val_main_v126 (F := Ideal) x0 x1 x2 x3 (ix2 R C)
      = val_main_v120 (F := Ideal) x0 x1 x2 x3 (ix4 (outer C) (inner C) R (lane C)) := by
  unfold val_main_v126 val_main_v125
  generalize val_main_v120 (F := Ideal) x0 x1 x2 x3 = a
  pointwise
  rfl

theorem dk_rows (p : Fin 2) (R : Fin 2304) (d : Fin 128) :
    val_main_v118 (F := Ideal) x0 x1 x2 x3 (ix3 p R d) = val_main_v95 (F := Ideal) x0 x1 x2 x3 (ix3 p R d)
      + if h : R.val < 256 then val_main_v113 (F := Ideal) x0 x1 x2 x3 (ix3 p ⟨R.val, h⟩ d) else 0 := by
  unfold val_main_v118 val_main_v117 val_main_cst_25
  generalize val_main_v95 (F := Ideal) x0 x1 x2 x3 = a
  generalize val_main_v113 (F := Ideal) x0 x1 x2 x3 = b
  pointwise

theorem out_dk (R : Fin 2304) (C : Fin 256) :
    val_main_v124 (F := Ideal) x0 x1 x2 x3 (ix2 R C) = val_main_v118 (F := Ideal) x0 x1 x2 x3 (ix3 (khead C) R (lane C)) := by
  unfold val_main_v124 val_main_v123
  generalize val_main_v118 (F := Ideal) x0 x1 x2 x3 = a
  pointwise
  rfl

theorem dv_rows (p : Fin 2) (R : Fin 2304) (d : Fin 128) :
    val_main_v116 (F := Ideal) x0 x1 x3 (ix3 p R d) = val_main_v80 (F := Ideal) x0 x1 x3 (ix3 p d R)
      + if h : R.val < 256 then val_main_v98 (F := Ideal) x0 x1 x3 (ix3 p d ⟨R.val, h⟩) else 0 := by
  unfold val_main_v116 val_main_v115 val_main_cst_24 val_main_v81 val_main_v99
  generalize val_main_v80 (F := Ideal) x0 x1 x3 = a
  generalize val_main_v98 (F := Ideal) x0 x1 x3 = b
  pointwise

theorem out_dv (R : Fin 2304) (C : Fin 256) :
    val_main_v122 (F := Ideal) x0 x1 x3 (ix2 R C) = val_main_v116 (F := Ideal) x0 x1 x3 (ix3 (khead C) R (lane C)) := by
  unfold val_main_v122 val_main_v121
  generalize val_main_v116 (F := Ideal) x0 x1 x3 = a
  pointwise
  rfl

theorem late_dk (p : Fin 2) (c : Fin 2304) (d : Fin 128) :
    val_main_v95 (F := Ideal) x0 x1 x2 x3 (ix3 p c d)
      = ∑ g : Fin 2, ∑ q : Fin 2048, val_main_v94 (F := Ideal) x0 x1 x2 x3 (ix4 p g q c) * mat x0 (late q) (qcol (served p g) d) := by
  have hq := q_at x0
  unfold val_main_v95 val_main_v42
  generalize val_main_v94 (F := Ideal) x0 x1 x2 x3 = a
  generalize val_main_v4 (F := Ideal) x0 = b at hq ⊢
  pointwise
  simp only [hq]
  rfl

theorem early_dk (p : Fin 2) (c : Fin 256) (d : Fin 128) :
    val_main_v113 (F := Ideal) x0 x1 x2 x3 (ix3 p c d)
      = ∑ g : Fin 2, ∑ r : Fin 256, val_main_v112 (F := Ideal) x0 x1 x2 x3 (ix4 p g r c) * mat x0 (wide r) (qcol (served p g) d) := by
  have hq := q_at x0
  unfold val_main_v113 val_main_v9
  generalize val_main_v112 (F := Ideal) x0 x1 x2 x3 = a
  generalize val_main_v4 (F := Ideal) x0 = b at hq ⊢
  pointwise
  simp only [hq]

theorem late_dv (p : Fin 2) (d : Fin 128) (c : Fin 2304) :
    val_main_v80 (F := Ideal) x0 x1 x3 (ix3 p d c)
      = ∑ g : Fin 2, ∑ q : Fin 2048, mat x3 (late q) (qcol (served p g) d) * val_main_v68 (F := Ideal) x0 x1 (ix4 p g q c) := by
  have hq := ct_at x3
  unfold val_main_v80 val_main_v79
  generalize val_main_v68 (F := Ideal) x0 x1 = a
  generalize val_main_v77 (F := Ideal) x3 = b at hq ⊢
  pointwise
  simp only [hq]
  rfl

theorem early_dv (p : Fin 2) (d : Fin 128) (c : Fin 256) :
    val_main_v98 (F := Ideal) x0 x1 x3 (ix3 p d c)
      = ∑ g : Fin 2, ∑ r : Fin 256, mat x3 (wide r) (qcol (served p g) d) * val_main_v37 (F := Ideal) x0 x1 (ix4 p g r c) := by
  have hq := ct_at x3
  unfold val_main_v98 val_main_v78
  generalize val_main_v37 (F := Ideal) x0 x1 = a
  generalize val_main_v77 (F := Ideal) x3 = b at hq ⊢
  pointwise
  simp only [hq]

end Cert.ReferenceIdeal.Rows

end
-- ==== Proof.Equal.lean ====
/-
  The reference's results are the gradient of the attention, when the queries and the keys are real numbers: then every
  row of scores has a real greatest element and a positive real denominator.
-/
module

public import proofs.«01_k».proof.Proof.RefValue

@[expose] public section

noncomputable section

namespace Cert.ReferenceIdeal.Rows

open Cert.ReferenceIdeal Cert.ReferenceIdeal.Gen Cert.ReferenceIdeal.Read Idealize.ShloMosaic Idealize.ShloMosaic.TcCoe
open Cert.Row Cert.Attn

/-- Every element is a real number. -/
def RealMat {n : ℕ} (x : (⟨2, ![2304, n]⟩ : Shape).Idx → EReal) : Prop := ∀ R C, ∃ r : ℝ, mat x R C = (r : EReal)

theorem dot_real {n : ℕ} {f g : Fin n → EReal} (hf : IsReal f) (hg : IsReal g) : ∃ r : ℝ, ∑ d, f d * g d = (r : EReal) := by
  choose a ha using hf
  choose b hb using hg
  refine ⟨∑ d, a d * b d, ?_⟩
  rw [← sum_coe]
  exact Finset.sum_congr rfl fun d _ => by rw [ha, hb, EReal.coe_mul]

variable (x0 : (⟨S2304x512, .bf16⟩ : BufTy).Contents (Elt Ideal)) (x1 x2 : (⟨S2304x256, .bf16⟩ : BufTy).Contents (Elt Ideal))
  (x3 : (⟨S2304x512, .f32⟩ : BufTy).Contents (Elt Ideal))

theorem score_early (p g : Fin 2) (r : Fin 256) :
    score (mat x0) (mat x1) (served p g) (wide r) = masked (near x0 x1 p g r) := by
  unfold score scores
  rw [if_pos r.isLt]
  simp only [serves_served]
  rfl

theorem score_late (p g : Fin 2) (q : Fin 2048) :
    score (mat x0) (mat x1) (served p g) (late q) = far x0 x1 p g q := by
  unfold score scores
  rw [if_neg (by show ¬256 + q.val < 256; omega)]
  simp only [serves_served]
  rfl

theorem cot_early (p g : Fin 2) (r c : Fin 256) :
    cot (mat x2) (mat x3) (served p g) (wide r) (wide c) = nearCot x2 x3 p g r c := by
  unfold cot against
  simp only [serves_served]
  rfl

theorem cot_late (p g : Fin 2) (q : Fin 2048) : cot (mat x2) (mat x3) (served p g) (late q) = farCot x2 x3 p g q := by
  unfold cot against
  simp only [serves_served]
  rfl

section
variable {x0 x1} (h0 : RealMat x0) (h1 : RealMat x1)
include h0 h1

theorem near_real (p g : Fin 2) (r : Fin 256) : IsReal (near x0 x1 p g r) := fun _ => dot_real (fun _ => h0 _ _) (fun _ => h1 _ _)
theorem far_real (p g : Fin 2) (q : Fin 2048) : IsReal (far x0 x1 p g q) := fun _ => dot_real (fun _ => h0 _ _) (fun _ => h1 _ _)

theorem dscore_early (p g : Fin 2) (r c : Fin 256) :
    dscore (mat x0) (mat x1) (mat x2) (mat x3) (served p g) (wide r) (wide c)
      = val_main_v112 (F := Ideal) x0 x1 x2 x3 (ix4 p g r c) := by
  rw [near_grad, grad_eq (near_real h0 h1 p g r), dscore, score_early, grad_masked_wide]
  exact congrArg (fun d => grad (near x0 x1 p g r) d c) (funext fun c => cot_early x2 x3 p g r c)

theorem dscore_early_past (p g : Fin 2) (r : Fin 256) (c : Fin 2304) (h : ¬c.val < 256) :
    dscore (mat x0) (mat x1) (mat x2) (mat x3) (served p g) (wide r) c = 0 := by
  rw [dscore, score_early, grad_masked_past _ _ _ h]

theorem dscore_late (p g : Fin 2) (q : Fin 2048) (c : Fin 2304) :
    dscore (mat x0) (mat x1) (mat x2) (mat x3) (served p g) (late q) c
      = val_main_v94 (F := Ideal) x0 x1 x2 x3 (ix4 p g q c) := by
  rw [far_grad, grad_eq (far_real h0 h1 p g q), dscore, score_late, cot_late]

theorem weight_early (p g : Fin 2) (r c : Fin 256) :
    weight (score (mat x0) (mat x1) (served p g) (wide r)) (wide c) = val_main_v37 (F := Ideal) x0 x1 (ix4 p g r c) := by
  rw [near_weight, div_den (near_real h0 h1 p g r), score_early, weight_masked_wide, weight]

theorem weight_early_past (p g : Fin 2) (r : Fin 256) (c : Fin 2304) (h : ¬c.val < 256) :
    weight (score (mat x0) (mat x1) (served p g) (wide r)) c = 0 := by
  rw [score_early, weight_masked_past _ _ h]

theorem weight_late (p g : Fin 2) (q : Fin 2048) (c : Fin 2304) :
    weight (score (mat x0) (mat x1) (served p g) (late q)) c = val_main_v68 (F := Ideal) x0 x1 (ix4 p g q c) := by
  rw [far_weight, div_den (far_real h0 h1 p g q), score_late, weight]

end

/-- A sum over the positions: the early ones and the late ones. -/
theorem sum_positions (f : Fin 2304 → EReal) : ∑ R, f R = (∑ q : Fin 2048, f (late q)) + ∑ r : Fin 256, f (wide r) := by
  have h := Fin.sum_univ_add (a := 256) (b := 2048) f
  rw [add_comm]
  exact h

section
variable {x0 x1} (h0 : RealMat x0) (h1 : RealMat x1)
include h0 h1

theorem ref_dq (R : Fin 2304) (C : Fin 512) :
    val_main_v126 (F := Ideal) x0 x1 x2 x3 (ix2 R C) = dq (mat x0) (mat x1) (mat x2) (mat x3) (qhead C) R (lane C) := by
  rw [out_dq, ← served_outer]
  generalize outer C = p
  generalize inner C = g
  generalize lane C = d
  unfold dq
  simp only [serves_served]
  by_cases hR : R.val < 256
  · obtain ⟨r, rfl⟩ : ∃ r : Fin 256, R = wide r := ⟨⟨R.val, hR⟩, rfl⟩
    rw [dq_early, early_dq, sum_wide _ fun c h => by rw [dscore_early_past x2 x3 h0 h1 p g r c h, zero_mul]]
    exact Finset.sum_congr rfl fun c _ => by rw [dscore_early x2 x3 h0 h1]
  · obtain ⟨q, rfl⟩ : ∃ q : Fin 2048, R = late q := ⟨⟨R.val - 256, by omega⟩, Fin.ext (by show R.val = 256 + (R.val - 256); omega)⟩
    rw [dq_late, late_dq]
    exact Finset.sum_congr rfl fun c _ => by rw [dscore_late x2 x3 h0 h1]

theorem ref_dk (R : Fin 2304) (C : Fin 256) :
    val_main_v124 (F := Ideal) x0 x1 x2 x3 (ix2 R C) = dk (mat x0) (mat x1) (mat x2) (mat x3) (khead C) R (lane C) := by
  rw [out_dk]
  generalize khead C = p
  generalize lane C = d
  rw [dk_rows]
  unfold dk
  simp only [sum_positions]
  rw [Finset.sum_add_distrib, late_dk]
  simp only [dscore_late x2 x3 h0 h1]
  congr 1
  by_cases hR : R.val < 256
  · rw [dif_pos hR, early_dk]
    obtain ⟨c, rfl⟩ : ∃ c : Fin 256, R = wide c := ⟨⟨R.val, hR⟩, rfl⟩
    simp only [dscore_early x2 x3 h0 h1]
  · rw [dif_neg hR]
    simp only [dscore_early_past x2 x3 h0 h1 _ _ _ R hR, zero_mul, Finset.sum_const_zero]

theorem ref_dv (R : Fin 2304) (C : Fin 256) :
    val_main_v122 (F := Ideal) x0 x1 x3 (ix2 R C) = dv (mat x0) (mat x1) (mat x3) (khead C) R (lane C) := by
  rw [out_dv]
  generalize khead C = p
  generalize lane C = d
  rw [dv_rows]
  unfold dv
  simp only [sum_positions]
  rw [Finset.sum_add_distrib, late_dv]
  simp only [weight_late h0 h1]
  congr 1
  · exact Finset.sum_congr rfl fun g _ => Finset.sum_congr rfl fun q _ => mul_comm _ _
  by_cases hR : R.val < 256
  · rw [dif_pos hR, early_dv]
    obtain ⟨c, rfl⟩ : ∃ c : Fin 256, R = wide c := ⟨⟨R.val, hR⟩, rfl⟩
    simp only [weight_early h0 h1]
    exact Finset.sum_congr rfl fun g _ => Finset.sum_congr rfl fun q _ => mul_comm _ _
  · rw [dif_neg hR]
    simp only [weight_early_past h0 h1 _ _ _ R hR, zero_mul, Finset.sum_const_zero]

end

end Cert.ReferenceIdeal.Rows

end
-- ==== Proof.Finite.lean ====
/-
  What the precondition of the attention's gradient says: the queries and the keys are real numbers.
-/
module

public import proofs.«01_k».proof.Pre_finite_qk
public import proofs.«01_k».proof.Proof.Equal

@[expose] public section

noncomputable section

namespace Cert.Pre_finite_qk

open Idealize.ShloMosaic Cert.ReferenceIdeal.Rows

theorem facts : Facts := ⟨by decide, by decide, by decide⟩

/-- An extended real whose absolute value is below the top is a real number. -/
theorem real_of_abs_lt {x : EReal} (h : max x (-x) < ⊤) : ∃ r : ℝ, x = (r : EReal) := by
  induction x using EReal.rec with
  | bot => simp at h
  | top => simp at h
  | coe r => exact ⟨r, rfl⟩

theorem real_of_cmp {x : EReal} (h : Ideal.cmp .olt (max x (-x)) (Ideal.ofBits .f32 0x7F800000#32) = 1#1) :
    ∃ r : ℝ, x = (r : EReal) := by
  have e : Ideal.ofBits .f32 0x7F800000#32 = ⊤ := by simp [Ideal.ofBits, Ideal.ieee]
  rw [e] at h
  refine real_of_abs_lt ?_
  by_contra hn
  simp [Ideal.cmp, hn] at h

variable [Facts] (x0 : FVec Ideal S2304x512 .bf16) (x1 x2 : FVec Ideal S2304x256 .bf16) (x3 : FVec Ideal S2304x512 .f32)

theorem real_q (h : (fn (F := Ideal) x0 x1 x2 x3).1 = fun _ => 1#1) : RealMat x0 :=
  fun R C => real_of_cmp (congrFun h (ix2 R C))

theorem real_k (h : (fn (F := Ideal) x0 x1 x2 x3).2 = fun _ => 1#1) : RealMat x1 :=
  fun R C => real_of_cmp (congrFun h (ix2 R C))

end Cert.Pre_finite_qk

end
-- ==== Proof.AttnBwd.lean ====
/-
  The claims about the attention's gradient: its frames, the rewrite, and the equation of its three results with the
  reference's.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.KernelValue
public import proofs.«01_k».proof.Proof.Finite
public import Idealize.ShloMosaic.Lib.Quiescent

@[expose] public section

noncomputable section

namespace Cert.AttnBwd

open Idealize.ShloMosaic Idealize.ShloMosaic.TcCoe Idealize.SL.Sem
open Cert.ReferenceIdeal.Rows

instance : Cert.Pre_finite_qk.Facts := Cert.Pre_finite_qk.facts

theorem frame : Cert.quiescent_Kernel := fun m ρ _ => Cert.Kernel.Gen.frame m ρ

theorem frame_ideal : Cert.quiescent_KernelIdeal := fun m ρ _ => Cert.KernelIdeal.Gen.frame m ρ

theorem frame_ideal_pre : Cert.quiescent_KernelIdeal_pre_finite_qk := fun m ρ _ => Cert.KernelIdeal.Gen.frame m ρ

theorem frame_ref : Cert.quiescent_ReferenceIdeal := fun m ρ _ =>
  (θ_run Cert.ReferenceIdeal.defs _ _).mono
    (fun r h => ⟨fun c => (h c).2.2.2, sem_eq_zero_of_no_sems (by decide) r.2⟩) (Cert.ReferenceIdeal.Value.run m ρ)

theorem frame_ref_pre : Cert.quiescent_ReferenceIdeal_pre_finite_qk := fun m ρ _ => frame_ref m ρ trivial

theorem preserves : Cert.preserves_Kernel_KernelIdeal :=
  IdealRules.named_const.statement Cert.KernelIdeal.κ "mask" .f32 0xF149F2CA#32 ⊥ rfl

theorem algebraic : Cert.algebraic_KernelIdeal_ReferenceIdeal_pre_finite_qk := fun m ρ m' ρ' hpre hargs =>
  ⟨Cert.KernelIdeal.Arrays.dqArr m, Cert.KernelIdeal.Arrays.dkArr m, Cert.KernelIdeal.Arrays.dvArr m,
    (θ_run Cert.KernelIdeal.defs _ _).mono
      (fun r h c => by
        obtain ⟨a, b, d, rest⟩ := h c
        exact ⟨a.trans (Cert.KernelIdeal.Arrays.arr4 m c), b.trans (Cert.KernelIdeal.Arrays.arr5 m c),
          d.trans (Cert.KernelIdeal.Arrays.arr6 m c), rest⟩)
      (Cert.KernelIdeal.Value.run_blocks m ρ),
    (θ_run Cert.ReferenceIdeal.defs _ _).mono
      (fun r h c => by
        obtain ⟨a, b, d, rest⟩ := h c
        obtain ⟨e0, e1, e2, e3⟩ := hargs c
        have hq := Cert.Pre_finite_qk.real_q _ _ _ _ (hpre c).1
        have hk := Cert.Pre_finite_qk.real_k _ _ _ _ (hpre c).2
        refine ⟨(a.trans (Cert.ReferenceIdeal.Read.val_main_v126_eq m' c)).trans ?_,
          (b.trans (Cert.ReferenceIdeal.Read.val_main_v124_eq m' c)).trans ?_,
          (d.trans (Cert.ReferenceIdeal.Read.val_main_v122_eq m' c)).trans ?_, rest⟩
        · rw [e0, e1, e2, e3]
          funext y
          rw [eq_ix2 y]
          exact ref_dq _ _ hq hk _ _
        · rw [e0, e1, e2, e3]
          funext y
          rw [eq_ix2 y]
          exact ref_dk _ _ hq hk _ _
        · rw [e0, e1, e3]
          funext y
          rw [eq_ix2 y]
          exact ref_dv _ hq hk _ _)
      (Cert.ReferenceIdeal.Value.run m' ρ')⟩

end Cert.AttnBwd

end
-- ==== Proof.Du.lean ====
/-
  The gradient of the input projection's input: the sum of four groups' products, each cotangent times its weights. What
  the call leaves after its ten steps to a block of tokens, what the reference computes, and the claims.
-/
module

public import proofs.«01_k».proof.Defs
public import proofs.«01_k».proof.Proof.Gen.Du.Frame
public import proofs.«01_k».proof.Proof.Gen.DuIdeal.Frame
public import proofs.«01_k».proof.Proof.Gen.DuRefIdeal.Run
public import proofs.«01_k».proof.Proof.Gen.DuRefIdeal.Read
public import Idealize.ShloMosaic.Lib.Pipeline.Value
public import Idealize.ShloMosaic.Lib.Pipeline.ValueKit
public import Idealize.ShloMosaic.Lib.Quiescent

@[expose] public section

noncomputable section

namespace Cert.DuClaims

open Cert.DuIdeal Cert.DuIdeal.Gen Idealize.ShloMosaic Idealize.ShloMosaic.TcCoe Idealize.SL.Sem

variable (m : (ℓ : Loc nD τ sig) → Buf (Elt Ideal) ℓ)

/-- The part and the column of it that a weights' row of group C belongs to. -/
def part (n : Fin 2560) : Fin 5 := ⟨n.val / 512, by omega⟩
def lane (n : Fin 2560) : Fin 512 := ⟨n.val % 512, by omega⟩

section
variable (pm : S2304x6144.Idx → EReal) (pa : S2304x1024.Idx → EReal) (pc : S5x2304x512.Idx → EReal)
  (pg : S2304x1152.Idx → EReal) (wm : S6144x1024.Idx → EReal) (wa : S1024x1024.Idx → EReal)
  (wc : S2560x1024.Idx → EReal) (wg : S1152x1024.Idx → EReal)

/-- The gradient: each group's product over its columns. -/
def grad : S2304x1024.Idx → EReal := fun y =>
  (∑ k : Fin 1152, pg (ix2 (y 0) k) * wg (ix2 k (y 1))) + (∑ k : Fin 2560, pc (ix3 (part k) (y 0) (lane k)) * wc (ix2 k (y 1)))
    + (∑ k : Fin 1024, pa (ix2 (y 0) k) * wa (ix2 k (y 1))) + ∑ k : Fin 6144, pm (ix2 (y 0) k) * wm (ix2 k (y 1))

/-- The columns that a step of group M, and of group C, walks. -/
def colM (s : ℕ) (k : Fin 2048) : Fin 6144 := ⟨(s % 3) * 2048 + k.val, by omega⟩
def colC (s : ℕ) (k : Fin 512) : Fin 2560 := ⟨(s % 5) * 512 + k.val, by omega⟩

def stepM (s : ℕ) (r : Fin 2304) (d : Fin 1024) : EReal := ∑ k : Fin 2048, pm (ix2 r (colM s k)) * wm (ix2 (colM s k) d)
def stepA (r : Fin 2304) (d : Fin 1024) : EReal := ∑ k : Fin 1024, pa (ix2 r k) * wa (ix2 k d)
def stepC (s : ℕ) (r : Fin 2304) (d : Fin 1024) : EReal :=
  ∑ k : Fin 512, pc (ix3 ⟨s % 5, by omega⟩ r k) * wc (ix2 (colC s k) d)
def stepG (r : Fin 2304) (d : Fin 1024) : EReal := ∑ k : Fin 1152, pg (ix2 r k) * wg (ix2 k d)

/-- The three steps of group M, and the five of group C, make its product. -/
theorem sumM (r : Fin 2304) (d : Fin 1024) :
    ∑ s : Fin 3, stepM pm wm s.val r d = ∑ k : Fin 6144, pm (ix2 r k) * wm (ix2 k d) := by
  refine (Fin.sum_points_lanes_congr 3 (g := fun (_ : Fin 1) k => pm (ix2 r k) * wm (ix2 k d)) fun s k _ hl => ?_).trans
    (Fin.sum_univ_one _)
  have e : colM s.val k = ⟨s.val % 3 * 2048 + k.val, hl⟩ := rfl
  rw [e]

theorem sumC (r : Fin 2304) (d : Fin 1024) :
    ∑ s : Fin 5, stepC pc wc s.val r d = ∑ k : Fin 2560, pc (ix3 (part k) r (lane k)) * wc (ix2 k d) := by
  refine (Fin.sum_points_lanes_congr 5 (g := fun (_ : Fin 1) k => pc (ix3 (part k) r (lane k)) * wc (ix2 k d))
    fun s k _ hl => ?_).trans (Fin.sum_univ_one _)
  have e : colC s.val k = ⟨s.val % 5 * 512 + k.val, hl⟩ := rfl
  have e1 : part ⟨s.val % 5 * 512 + k.val, hl⟩ = ⟨s.val % 5, by omega⟩ := by
    apply Fin.ext; simp only [part]; omega
  have e2 : lane ⟨s.val % 5 * 512 + k.val, hl⟩ = k := by
    apply Fin.ext; simp only [lane]; omega
  rw [e, e1, e2]

/-- What step `s` of the ten adds. -/
def step (s : ℕ) (r : Fin 2304) (d : Fin 1024) : EReal :=
  if s ≤ 2 then stepM pm wm s r d else if s = 3 then stepA pa wa r d else if s ≤ 8 then stepC pc wc (s - 4) r d
  else stepG pg wg r d

theorem sum_steps (r : Fin 2304) (d : Fin 1024) :
    ∑ s ∈ Finset.range 10, step pm pa pc pg wm wa wc wg s r d = grad pm pa pc pg wm wa wc wg (ix2 r d) := by
  have h : grad pm pa pc pg wm wa wc wg (ix2 r d) = stepG pg wg r d + (∑ s : Fin 5, stepC pc wc s.val r d)
      + stepA pa wa r d + ∑ s : Fin 3, stepM pm wm s.val r d := by
    rw [sumM, sumC]; rfl
  rw [h]
  simp only [Finset.sum_range_succ, Finset.sum_range_zero, Fin.sum_univ_succ, Fin.sum_univ_zero]
  have e0 : step pm pa pc pg wm wa wc wg 0 r d = stepM pm wm 0 r d := rfl
  have e1 : step pm pa pc pg wm wa wc wg 1 r d = stepM pm wm 1 r d := rfl
  have e2 : step pm pa pc pg wm wa wc wg 2 r d = stepM pm wm 2 r d := rfl
  have e3 : step pm pa pc pg wm wa wc wg 3 r d = stepA pa wa r d := rfl
  have e4 : step pm pa pc pg wm wa wc wg 4 r d = stepC pc wc 0 r d := rfl
  have e5 : step pm pa pc pg wm wa wc wg 5 r d = stepC pc wc 1 r d := rfl
  have e6 : step pm pa pc pg wm wa wc wg 6 r d = stepC pc wc 2 r d := rfl
  have e7 : step pm pa pc pg wm wa wc wg 7 r d = stepC pc wc 3 r d := rfl
  have e8 : step pm pa pc pg wm wa wc wg 8 r d = stepC pc wc 4 r d := rfl
  have e9 : step pm pa pc pg wm wa wc wg 9 r d = stepG pg wg r d := rfl
  rw [e0, e1, e2, e3, e4, e5, e6, e7, e8, e9]
  show _ = stepG pg wg r d + (stepC pc wc 0 r d + (stepC pc wc 1 r d + (stepC pc wc 2 r d + (stepC pc wc 3 r d
    + (stepC pc wc 4 r d + 0))))) + stepA pa wa r d + (stepM pm wm 0 r d + (stepM pm wm 1 r d + (stepM pm wm 2 r d + 0)))
  generalize stepM pm wm 0 r d = a0
  generalize stepM pm wm 1 r d = a1
  generalize stepM pm wm 2 r d = a2
  generalize stepA pa wa r d = a3
  generalize stepC pc wc 0 r d = a4
  generalize stepC pc wc 1 r d = a5
  generalize stepC pc wc 2 r d = a6
  generalize stepC pc wc 3 r d = a7
  generalize stepC pc wc 4 r d = a8
  generalize stepG pg wg r d = a9
  simp only [zero_add, add_zero]
  ac_rfl
end

abbrev Pm (c : Dev nD) : S2304x6144.Idx → EReal := m ((c : Thread nD τ).loc main_arg0)
abbrev Pa (c : Dev nD) : S2304x1024.Idx → EReal := m ((c : Thread nD τ).loc main_arg1)
abbrev Pc (c : Dev nD) : S5x2304x512.Idx → EReal := m ((c : Thread nD τ).loc main_arg2)
abbrev Pg (c : Dev nD) : S2304x1152.Idx → EReal := m ((c : Thread nD τ).loc main_arg3)
abbrev Wm (c : Dev nD) : S6144x1024.Idx → EReal := m ((c : Thread nD τ).loc main_arg4)
abbrev Wa (c : Dev nD) : S1024x1024.Idx → EReal := m ((c : Thread nD τ).loc main_arg5)
abbrev Wc (c : Dev nD) : S2560x1024.Idx → EReal := m ((c : Thread nD τ).loc main_arg6)
abbrev Wg (c : Dev nD) : S1152x1024.Idx → EReal := m ((c : Thread nD τ).loc main_arg7)

/-- The call's gradient. -/
def out (c : Dev nD) : S2304x1024.Idx → EReal :=
  grad (Pm m c) (Pa m c) (Pc m c) (Pg m c) (Wm m c) (Wa m c) (Wc m c) (Wg m c)

theorem idx0 : ∀ t : Fin cfg0.N, win0_0.index t = ![t.val / 10, min (t.val % 10) 2] := by decide +kernel
theorem idx1 : ∀ t : Fin cfg0.N, win0_1.index t = ![t.val / 10, 0] := by decide +kernel
theorem idx2 : ∀ t : Fin cfg0.N, win0_2.index t = ![min (t.val % 10 - 4) 4, t.val / 10, 0] := by decide +kernel
theorem idx3 : ∀ t : Fin cfg0.N, win0_3.index t = ![t.val / 10, 0] := by decide +kernel
theorem idx4 : ∀ t : Fin cfg0.N, win0_4.index t = ![min (t.val % 10) 2, 0] := by decide +kernel
theorem idx5 : ∀ t : Fin cfg0.N, win0_5.index t = ![0, 0] := by decide +kernel
theorem idx6 : ∀ t : Fin cfg0.N, win0_6.index t = ![min (t.val % 10 - 4) 4, 0] := by decide +kernel
theorem idx7 : ∀ t : Fin cfg0.N, win0_7.index t = ![0, 0] := by decide +kernel
theorem idx8 : ∀ t : Fin cfg0.N, win0_8.index t = ![t.val / 10, 0] := by decide +kernel

theorem t_lt (t : Fin cfg0.N) : t.val < 30 := t.isLt

/-- The token that the block of point `n` has at `a`. -/
def tok (n : ℕ) (a : Fin 768) : Fin 2304 := ⟨(n / 10 % 3) * 768 + a.val, by omega⟩

theorem blkPm (c : Dev nD) (t : Fin cfg0.N) (h : t.val % 10 ≤ 2) (a : Fin 768) (k : Fin 2048) :
    iblk m c 0 t (ix2 a k) = Pm m c (ix2 (tok t.val a) (colM (t.val % 10) k)) := by
  have := t_lt t
  blk_ext [iblk, V, idx0 t] <;> simp only [tok, colM] <;> omega

theorem blkPa (c : Dev nD) (t : Fin cfg0.N) (a : Fin 768) (k : Fin 1024) :
    iblk m c 1 t (ix2 a k) = Pa m c (ix2 (tok t.val a) k) := by
  have := t_lt t
  blk_ext [iblk, V, idx1 t] <;> simp only [tok] <;> omega

theorem blkPc (c : Dev nD) (t : Fin cfg0.N) (h : 4 ≤ t.val % 10 ∧ t.val % 10 ≤ 8) (a : Fin 768) (k : Fin 512) :
    iblk m c 2 t (ix3 0 a k) = Pc m c (ix3 ⟨(t.val % 10 - 4) % 5, by omega⟩ (tok t.val a) k) := by
  have := t_lt t
  blk_ext [iblk, V, idx2 t] <;> simp only [tok] <;> omega

theorem blkPg (c : Dev nD) (t : Fin cfg0.N) (a : Fin 768) (k : Fin 1152) :
    iblk m c 3 t (ix2 a k) = Pg m c (ix2 (tok t.val a) k) := by
  have := t_lt t
  blk_ext [iblk, V, idx3 t] <;> simp only [tok] <;> omega

theorem blkWm (c : Dev nD) (t : Fin cfg0.N) (h : t.val % 10 ≤ 2) (k : Fin 2048) (d : Fin 1024) :
    iblk m c 4 t (ix2 k d) = Wm m c (ix2 (colM (t.val % 10) k) d) := by
  blk_ext [iblk, V, idx4 t] <;> simp only [colM] <;> omega

theorem blkWa (c : Dev nD) (t : Fin cfg0.N) (k d : Fin 1024) : iblk m c 5 t (ix2 k d) = Wa m c (ix2 k d) := by
  blk_ext [iblk, V, idx5 t] <;> omega

theorem blkWc (c : Dev nD) (t : Fin cfg0.N) (h : 4 ≤ t.val % 10 ∧ t.val % 10 ≤ 8) (k : Fin 512) (d : Fin 1024) :
    iblk m c 6 t (ix2 k d) = Wc m c (ix2 (colC (t.val % 10 - 4) k) d) := by
  blk_ext [iblk, V, idx6 t] <;> simp only [colC] <;> omega

theorem blkWg (c : Dev nD) (t : Fin cfg0.N) (k : Fin 1152) (d : Fin 1024) : iblk m c 7 t (ix2 k d) = Wg m c (ix2 k d) := by
  blk_ext [iblk, V, idx7 t] <;> omega

/-- What point `n` adds to the carried block, at each of its places. -/
def term (c : Dev nD) (n : ℕ) (j : S768x1024.Idx) : EReal :=
  step (Pm m c) (Pa m c) (Pc m c) (Pg m c) (Wm m c) (Wa m c) (Wc m c) (Wg m c) (n % 10) (tok n (j 0)) (j 1)

theorem addM (c : Dev nD) (t : Fin cfg0.N) (h : t.val % 10 ≤ 2) (acc : S768x1024.Idx → EReal) (j : S768x1024.Idx) :
    k0_pay2 (F := Ideal) acc (iblk m c 0 t) (iblk m c 4 t) j = acc j + term m c t.val j := by
  obtain ⟨a, d, rfl⟩ : ∃ (a : Fin 768) (d : Fin 1024), j = ix2 a d := ⟨j 0, j 1, eq_ix2 j⟩
  have e : term m c t.val (ix2 a d) = ∑ k : Fin 2048, @HMul.hMul EReal EReal EReal _ (iblk m c 0 t (ix2 a k)) (iblk m c 4 t (ix2 k d)) := by
    refine (if_pos h).trans (Finset.sum_congr rfl fun k _ => ?_)
    rw [blkPm m c t h, blkWm m c t h]; rfl
  rw [e]
  pointwise [k0_pay2]

theorem addA (c : Dev nD) (t : Fin cfg0.N) (h : t.val % 10 = 3) (acc : S768x1024.Idx → EReal) (j : S768x1024.Idx) :
    k0_pay3 (F := Ideal) acc (iblk m c 1 t) (iblk m c 5 t) j = acc j + term m c t.val j := by
  obtain ⟨a, d, rfl⟩ : ∃ (a : Fin 768) (d : Fin 1024), j = ix2 a d := ⟨j 0, j 1, eq_ix2 j⟩
  have e : term m c t.val (ix2 a d) = ∑ k : Fin 1024, @HMul.hMul EReal EReal EReal _ (iblk m c 1 t (ix2 a k)) (iblk m c 5 t (ix2 k d)) := by
    refine (if_neg (by omega)).trans ((if_pos h).trans (Finset.sum_congr rfl fun k _ => ?_))
    rw [blkPa, blkWa]; rfl
  rw [e]
  pointwise [k0_pay3]

theorem addC (c : Dev nD) (t : Fin cfg0.N) (h : 4 ≤ t.val % 10 ∧ t.val % 10 ≤ 8) (acc : S768x1024.Idx → EReal)
    (j : S768x1024.Idx) : k0_pay4 (F := Ideal) acc (iblk m c 2 t) (iblk m c 6 t) j = acc j + term m c t.val j := by
  obtain ⟨a, d, rfl⟩ : ∃ (a : Fin 768) (d : Fin 1024), j = ix2 a d := ⟨j 0, j 1, eq_ix2 j⟩
  have e : term m c t.val (ix2 a d) = ∑ k : Fin 512, @HMul.hMul EReal EReal EReal _ (iblk m c 2 t (ix3 0 a k)) (iblk m c 6 t (ix2 k d)) := by
    refine (if_neg (by omega)).trans ((if_neg (by omega)).trans ((if_pos h.2).trans (Finset.sum_congr rfl fun k _ => ?_)))
    rw [blkPc m c t h, blkWc m c t h]; rfl
  rw [e]
  pointwise [k0_pay4]

theorem addG (c : Dev nD) (t : Fin cfg0.N) (h : t.val % 10 = 9) (acc : S768x1024.Idx → EReal) (j : S768x1024.Idx) :
    k0_pay5 (F := Ideal) acc (iblk m c 3 t) (iblk m c 7 t) j = acc j + term m c t.val j := by
  obtain ⟨a, d, rfl⟩ : ∃ (a : Fin 768) (d : Fin 1024), j = ix2 a d := ⟨j 0, j 1, eq_ix2 j⟩
  have e : term m c t.val (ix2 a d) = ∑ k : Fin 1152, @HMul.hMul EReal EReal EReal _ (iblk m c 3 t (ix2 a k)) (iblk m c 7 t (ix2 k d)) := by
    refine (if_neg (by omega)).trans ((if_neg (by omega)).trans ((if_neg (by omega)).trans (Finset.sum_congr rfl fun k _ => ?_)))
    rw [blkPg, blkWg]; rfl
  rw [e]
  pointwise [k0_pay5]

theorem zero_pay (j : S768x1024.Idx) : k0_pay1 (F := Ideal) j = (0 : EReal) := by
  pointwise [k0_pay1]

theorem carried (c : Dev nD) (t : Fin cfg0.N) {r : ℕ} (hr : t.val % 10 = r) (j : S768x1024.Idx) :
    (outsAt0 m c t.val t.isLt).2 j = ∑ k ∈ Finset.range (r + 1), term m c (10 * (t.val / 10) + k) j := by
  refine (Pipeline.eq_sum_of_reset_step_apply_of_mod (fun n h => (outsAt0 m c n h).2) 10 (fun _ => (0 : EReal)) (term m c)
    (fun t h j => ?_) (fun t h j => ?_) t hr j).trans (zero_add _)
  · rw [outsAt0_A m c t h (by omega) (by omega) (by omega) (by omega) (by omega)]
    frame_out
    rw [addM m c t (by omega), zero_pay]
  · beta_reduce
    have hlt := t_lt t
    rcases (by omega : t.val % 10 ≤ 2 ∨ t.val % 10 = 3 ∨ (4 ≤ t.val % 10 ∧ t.val % 10 ≤ 8) ∨ t.val % 10 = 9) with h' | h' | h' | h'
    · rw [outsAt0_B m c t h h' (by omega) (by omega) (by omega) (by omega)]
      frame_out
      refine (addM m c t h' _ j).trans ?_
      rw [(Memref.isWhole_whole _).read_unread]
    · rw [outsAt0_C m c t h (by omega) h' (by omega) (by omega) (by omega)]
      frame_out
      refine (addA m c t h' _ j).trans ?_
      rw [(Memref.isWhole_whole _).read_unread]
    · rw [outsAt0_D m c t h (by omega) (by omega) h' (by omega) (by omega)]
      frame_out
      refine (addC m c t h' _ j).trans ?_
      rw [(Memref.isWhole_whole _).read_unread]
    · rw [outsAt0_E m c t h (by omega) (by omega) (by omega) h' h']
      frame_out
      refine (addG m c t h' _ j).trans ?_
      rw [(Memref.isWhole_whole _).read_unread]

/-- The last of the ten points writes what is carried. -/
theorem written (c : Dev nD) (t : Fin cfg0.N) (h : t.val % 10 = 9) (j : S768x1024.Idx) :
    (outsAt0 m c t.val t.isLt).1 j = (outsAt0 m c t.val t.isLt).2 j := by
  rw [outsAt0_E m c t (by omega) (by omega) (by omega) (by omega) h h]
  frame_out

theorem arr8 (c : Dev nD) : (dats m 0 c).arrAt 8 cfg0.N = out m c := by
  refine (dats m 0 c).arrAt_eq_of_covers 8 (out m c) (by decide +kernel) fun t hf y => ?_
  have ht := (flush0_8 t).mp hf
  have hlt := t_lt t
  blk_simp
  rw [after0_8]
  refine ((written m c t ht y).trans (carried m c t ht y)).trans ?_
  obtain ⟨a, d, rfl⟩ : ∃ (a : Fin 768) (d : Fin 1024), y = ix2 a d := ⟨y 0, y 1, eq_ix2 y⟩
  have emb : out m c (((View.whole main_v0).slice (win0_8.rect t)).emb (ix2 a d)) = out m c (ix2 (tok t.val a) d) := by
    blk_ext [idx8 t] <;> simp only [tok] <;> omega
  refine Eq.trans ?_ emb.symm
  refine Eq.trans (Finset.sum_congr rfl fun k hk => ?_) (sum_steps _ _ _ _ _ _ _ _ (tok t.val a) d)
  have hk' := Finset.mem_range.mp hk
  have e1 : (10 * (t.val / 10) + k) % 10 = k := by omega
  have e2 : tok (10 * (t.val / 10) + k) a = tok t.val a := by apply Fin.ext; simp only [tok]; omega
  show step _ _ _ _ _ _ _ _ ((10 * (t.val / 10) + k) % 10) (tok (10 * (t.val / 10) + k) a) d = _
  rw [e1, e2]

open Cert.DuRefIdeal.Read in
theorem ref (pm : S2304x6144.Idx → EReal) (pa : S2304x1024.Idx → EReal) (pc : S5x2304x512.Idx → EReal)
    (pg : S2304x1152.Idx → EReal) (wm : S6144x1024.Idx → EReal) (wa : S1024x1024.Idx → EReal)
    (wc : S2560x1024.Idx → EReal) (wg : S1152x1024.Idx → EReal) (y : S2304x1024.Idx) :
    val_main_v27 (F := Ideal) pm pa pc pg wm wa wc wg y = grad pm pa pc pg wm wa wc wg y := by
  rw [val_main_v27_apply, val_main_v25_apply, val_main_v23_apply]
  refine congrArg₂ (· + ·) (congrArg₂ (· + ·) (congrArg₂ (· + ·) ?_ ?_) ?_) ?_
  · rw [val_main_v19_apply]
    refine Finset.sum_congr rfl fun k _ => ?_
    rw [val_main_v18_apply, val_main_v13_apply, val_main_v3_apply]
    exact congrArg₂ (fun a b => pg a * wg b) (funext fun a => match a with | ⟨0, _⟩ => rfl | ⟨1, _⟩ => rfl)
      (funext fun a => match a with | ⟨0, _⟩ => rfl | ⟨1, _⟩ => rfl)
  · rw [val_main_v22_apply]
    refine Finset.sum_congr rfl fun k _ => ?_
    rw [val_main_v21_apply, val_main_v20_apply, val_main_v17_apply, val_main_v9_apply, val_main_v2_apply]
    have h0 : (y 0).val < 2304 := (y 0).isLt
    refine congrArg₂ (fun a b => pc a * wc b) (funext fun a => ?_)
      (funext fun a => match a with | ⟨0, _⟩ => rfl | ⟨1, _⟩ => rfl)
    match a with
    | ⟨0, _⟩ => apply Fin.ext; show ((y 0).val * 2560 + k.val) / 512 % 5 = k.val / 512; omega
    | ⟨1, _⟩ => apply Fin.ext; show ((y 0).val * 2560 + k.val) / 2560 = (y 0).val; omega
    | ⟨2, _⟩ => apply Fin.ext; show ((y 0).val * 2560 + k.val) % 512 = k.val % 512; omega
  · rw [val_main_v24_apply]
    refine Finset.sum_congr rfl fun k _ => ?_
    rw [val_main_v16_apply, val_main_v7_apply, val_main_v1_apply]
    exact congrArg₂ (fun a b => pa a * wa b) (funext fun a => match a with | ⟨0, _⟩ => rfl | ⟨1, _⟩ => rfl)
      (funext fun a => match a with | ⟨0, _⟩ => rfl | ⟨1, _⟩ => rfl)
  · rw [val_main_v26_apply]
    refine Finset.sum_congr rfl fun k _ => ?_
    rw [val_main_v15_apply, val_main_v5_apply, val_main_v0_apply]
    exact congrArg₂ (fun a b => pm a * wm b) (funext fun a => match a with | ⟨0, _⟩ => rfl | ⟨1, _⟩ => rfl)
      (funext fun a => match a with | ⟨0, _⟩ => rfl | ⟨1, _⟩ => rfl)

/-- The run: the result is what window 8's array holds after the last point, the arguments are unchanged. -/
theorem run_blocks (ρ : Dev nD → PrngReg) :
    θ_run defs (onTc (τ := τ) (main (F := Ideal))) ⟨m, fun _ => 0, ρ⟩ fun r => ∀ c : Dev nD,
      r.2.mem ((c : Thread nD τ).loc main_v0) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1 8,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c)))⟩)
    (run_main m ρ)

theorem frame : Cert.quiescent_Du := fun m ρ _ => Cert.Du.Gen.frame m ρ

theorem frame_ideal : Cert.quiescent_DuIdeal := fun m ρ _ => Cert.DuIdeal.Gen.frame m ρ

theorem frame_ref : Cert.quiescent_DuRefIdeal := fun m ρ _ =>
  (θ_run Cert.DuRefIdeal.defs _ _).mono
    (fun r h => ⟨fun c => (h c).2, sem_eq_zero_of_no_sems (by decide) r.2⟩) (Cert.DuRefIdeal.Value.run m ρ)

theorem algebraic : Cert.algebraic_DuIdeal_DuRefIdeal := fun m ρ m' ρ' _ hargs =>
  ⟨fun c => out m c,
    (θ_run Cert.DuIdeal.defs _ _).mono
      (fun r h c => ⟨(h c).1.trans (arr8 m c), (h c).2⟩) (run_blocks m ρ),
    (θ_run Cert.DuRefIdeal.defs _ _).mono
      (fun r h c => by
        obtain ⟨e0, e1, e2, e3, e4, e5, e6, e7⟩ := hargs c
        refine ⟨((h c).1.trans (Cert.DuRefIdeal.Read.val_main_v27_eq _ _ _ _ _ _ _ _)).trans ?_, (h c).2⟩
        rw [e0, e1, e2, e3, e4, e5, e6, e7]
        exact funext fun y => ref _ _ _ _ _ _ _ _ y)
      (Cert.DuRefIdeal.Value.run m' ρ')⟩

end Cert.DuClaims

end
-- ==== Proof.DwpM.lean ====
/-
  The gradient of the input projection's weights, group M: the product of the cotangent's transpose with the layer's
  input. What the call leaves, what the reference computes, and the claims.
-/
module

public import proofs.«01_k».proof.Defs
public import proofs.«01_k».proof.Proof.Gen.DwpM.Frame
public import proofs.«01_k».proof.Proof.Gen.DwpMIdeal.Value
public import proofs.«01_k».proof.Proof.Gen.DwpMRefIdeal.Run
public import proofs.«01_k».proof.Proof.Gen.DwpMRefIdeal.Read
public import Idealize.ShloMosaic.Lib.Pipeline.ValueKit
public import Idealize.ShloMosaic.Lib.Quiescent

@[expose] public section

noncomputable section

namespace Cert.DwpMClaims

open Cert.DwpMIdeal Cert.DwpMIdeal.Gen Idealize.ShloMosaic Idealize.ShloMosaic.TcCoe Idealize.SL.Sem

variable (m : (ℓ : Loc nD τ sig) → Buf (Elt Ideal) ℓ)

/-- The gradient: over the tokens, the cotangent's column times the input's. -/
def grad (p : S2304x6144.Idx → EReal) (u : S2304x1024.Idx → EReal) : S6144x1024.Idx → EReal :=
  fun y => ∑ r : Fin 2304, p (ix2 r (y 0)) * u (ix2 r (y 1))

theorem idx0 : ∀ t : Fin cfg0.N, win0_0.index t = ![0, t.val] := by decide +kernel
theorem idx1 : ∀ t : Fin cfg0.N, win0_1.index t = ![0, 0] := by decide +kernel
theorem idx2 : ∀ t : Fin cfg0.N, win0_2.index t = ![t.val, 0] := by decide +kernel

theorem t_lt (t : Fin cfg0.N) : t.val < 8 := t.isLt

/-- The array's row that the block of point `t` has at `a`. -/
def row (t : ℕ) (a : Fin 768) : Fin 6144 := ⟨(t % 8) * 768 + a.val, by omega⟩

theorem blkP (c : Dev nD) (t : Fin cfg0.N) (r : Fin 2304) (a : Fin 768) :
    iblk m c 0 t (ix2 r a) = m ((c : Thread nD τ).loc main_arg0) (ix2 r (row t.val a)) := by
  blk_ext [iblk, V, idx0 t] <;> simp only [row] <;> have := t_lt t <;> omega

theorem blkU (c : Dev nD) (t : Fin cfg0.N) (r : Fin 2304) (b : Fin 1024) :
    iblk m c 1 t (ix2 r b) = m ((c : Thread nD τ).loc main_arg1) (ix2 r b) := by
  blk_ext [iblk, V, idx1 t] <;> omega

theorem block (c : Dev nD) (t : Fin cfg0.N) (a : Fin 768) (b : Fin 1024) :
    (∑ r : Fin 2304, @HMul.hMul EReal EReal EReal _ (iblk m c 0 t (ix2 r a)) (iblk m c 1 t (ix2 r b)))
      = grad (m ((c : Thread nD τ).loc main_arg0)) (m ((c : Thread nD τ).loc main_arg1)) (ix2 (row t.val a) b) :=
  Finset.sum_congr rfl fun r _ => by rw [blkP, blkU]; rfl

theorem arr2 (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  obtain ⟨a, b, rfl⟩ : ∃ (a : Fin 768) (b : Fin 1024), y = ix2 a b := ⟨y 0, y 1, eq_ix2 y⟩
  have emb : ((View.whole main_v0).slice (win0_2.rect t)).emb (ix2 a b) = ix2 (row t.val a) b := by
    blk_ext [idx2 t] <;> simp only [row] <;> have := t_lt t <;> omega
  rw [emb]
  simp only [outsAt0]
  frame_out
  refine Eq.trans ?_ (block m c t a b)
  pointwise [k0_pay4, k0_pay2, k0_pay1]

theorem ref (p : S2304x6144.Idx → EReal) (u : S2304x1024.Idx → EReal) (y : S6144x1024.Idx) :
    Cert.DwpMRefIdeal.Read.val_main_v8 (F := Ideal) p u y = grad p u y := by
  open Cert.DwpMRefIdeal.Read in
  rw [val_main_v8_apply]
  show val_main_v7 (F := Ideal) p u y = _
  rw [val_main_v7_apply, val_main_v6_apply, val_main_v5_apply]
  refine Finset.sum_congr rfl fun k _ => ?_
  rw [val_main_v4_apply, val_main_v1_apply]
  exact congrArg₂ (fun a b => p a * u b) (funext fun a => match a with | ⟨0, _⟩ => rfl | ⟨1, _⟩ => rfl)
    (funext fun a => match a with | ⟨0, _⟩ => rfl | ⟨1, _⟩ => rfl)

theorem frame : Cert.quiescent_DwpM := fun m ρ _ => Cert.DwpM.Gen.frame m ρ

theorem frame_ideal : Cert.quiescent_DwpMIdeal := fun m ρ _ => Cert.DwpMIdeal.Gen.frame m ρ

theorem frame_ref : Cert.quiescent_DwpMRefIdeal := fun m ρ _ =>
  (θ_run Cert.DwpMRefIdeal.defs _ _).mono
    (fun r h => ⟨fun c => (h c).2, sem_eq_zero_of_no_sems (by decide) r.2⟩) (Cert.DwpMRefIdeal.Value.run m ρ)

theorem algebraic : Cert.algebraic_DwpMIdeal_DwpMRefIdeal := fun m ρ m' ρ' _ hargs =>
  ⟨fun c => grad (m ((c : Thread nD τ).loc main_arg0)) (m ((c : Thread nD τ).loc main_arg1)),
    (θ_run Cert.DwpMIdeal.defs _ _).mono
      (fun r h c => ⟨(h c).1.trans (arr2 m c), (h c).2⟩) (Cert.DwpMIdeal.Value.run_blocks m ρ),
    (θ_run Cert.DwpMRefIdeal.defs _ _).mono
      (fun r h c => by
        obtain ⟨e0, e1⟩ := hargs c
        refine ⟨((h c).1.trans (Cert.DwpMRefIdeal.Read.val_main_v8_eq _ _)).trans ?_, (h c).2⟩
        rw [e0, e1]
        exact funext fun y => ref _ _ y)
      (Cert.DwpMRefIdeal.Value.run m' ρ')⟩

end Cert.DwpMClaims

end
-- ==== Proof.DwpA.lean ====
/-
  The gradient of the input projection's weights, group A: the product of the cotangent's transpose with the layer's
  input. What the call leaves, what the reference computes, and the claims.
-/
module

public import proofs.«01_k».proof.Defs
public import proofs.«01_k».proof.Proof.Gen.DwpA.Frame
public import proofs.«01_k».proof.Proof.Gen.DwpAIdeal.Value
public import proofs.«01_k».proof.Proof.Gen.DwpARefIdeal.Run
public import proofs.«01_k».proof.Proof.Gen.DwpARefIdeal.Read
public import Idealize.ShloMosaic.Lib.Pipeline.ValueKit
public import Idealize.ShloMosaic.Lib.Quiescent

@[expose] public section

noncomputable section

namespace Cert.DwpAClaims

open Cert.DwpAIdeal Cert.DwpAIdeal.Gen Idealize.ShloMosaic Idealize.ShloMosaic.TcCoe Idealize.SL.Sem

variable (m : (ℓ : Loc nD τ sig) → Buf (Elt Ideal) ℓ)

/-- The gradient: over the tokens, the cotangent's column times the input's. -/
def grad (p : S2304x1024.Idx → EReal) (u : S2304x1024.Idx → EReal) : S1024x1024.Idx → EReal :=
  fun y => ∑ r : Fin 2304, p (ix2 r (y 0)) * u (ix2 r (y 1))

theorem idx0 : ∀ t : Fin cfg0.N, win0_0.index t = ![0, t.val] := by decide +kernel
theorem idx1 : ∀ t : Fin cfg0.N, win0_1.index t = ![0, 0] := by decide +kernel
theorem idx2 : ∀ t : Fin cfg0.N, win0_2.index t = ![t.val, 0] := by decide +kernel

theorem t_lt (t : Fin cfg0.N) : t.val < 1 := t.isLt

/-- The array's row that the block of point `t` has at `a`. -/
def row (t : ℕ) (a : Fin 1024) : Fin 1024 := ⟨(t % 1) * 1024 + a.val, by omega⟩

theorem blkP (c : Dev nD) (t : Fin cfg0.N) (r : Fin 2304) (a : Fin 1024) :
    iblk m c 0 t (ix2 r a) = m ((c : Thread nD τ).loc main_arg0) (ix2 r (row t.val a)) := by
  blk_ext [iblk, V, idx0 t] <;> simp only [row] <;> have := t_lt t <;> omega

theorem blkU (c : Dev nD) (t : Fin cfg0.N) (r : Fin 2304) (b : Fin 1024) :
    iblk m c 1 t (ix2 r b) = m ((c : Thread nD τ).loc main_arg1) (ix2 r b) := by
  blk_ext [iblk, V, idx1 t] <;> omega

theorem block (c : Dev nD) (t : Fin cfg0.N) (a : Fin 1024) (b : Fin 1024) :
    (∑ r : Fin 2304, @HMul.hMul EReal EReal EReal _ (iblk m c 0 t (ix2 r a)) (iblk m c 1 t (ix2 r b)))
      = grad (m ((c : Thread nD τ).loc main_arg0)) (m ((c : Thread nD τ).loc main_arg1)) (ix2 (row t.val a) b) :=
  Finset.sum_congr rfl fun r _ => by rw [blkP, blkU]; rfl

theorem arr2 (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  obtain ⟨a, b, rfl⟩ : ∃ (a : Fin 1024) (b : Fin 1024), y = ix2 a b := ⟨y 0, y 1, eq_ix2 y⟩
  have emb : ((View.whole main_v0).slice (win0_2.rect t)).emb (ix2 a b) = ix2 (row t.val a) b := by
    blk_ext [idx2 t] <;> simp only [row] <;> have := t_lt t <;> omega
  rw [emb]
  simp only [outsAt0]
  frame_out
  refine Eq.trans ?_ (block m c t a b)
  pointwise [k0_pay4, k0_pay2, k0_pay1]

theorem ref (p : S2304x1024.Idx → EReal) (u : S2304x1024.Idx → EReal) (y : S1024x1024.Idx) :
    Cert.DwpARefIdeal.Read.val_main_v8 (F := Ideal) p u y = grad p u y := by
  open Cert.DwpARefIdeal.Read in
  rw [val_main_v8_apply]
  show val_main_v7 (F := Ideal) p u y = _
  rw [val_main_v7_apply, val_main_v6_apply, val_main_v5_apply]
  refine Finset.sum_congr rfl fun k _ => ?_
  rw [val_main_v4_apply, val_main_v1_apply]
  exact congrArg₂ (fun a b => p a * u b) (funext fun a => match a with | ⟨0, _⟩ => rfl | ⟨1, _⟩ => rfl)
    (funext fun a => match a with | ⟨0, _⟩ => rfl | ⟨1, _⟩ => rfl)

theorem frame : Cert.quiescent_DwpA := fun m ρ _ => Cert.DwpA.Gen.frame m ρ

theorem frame_ideal : Cert.quiescent_DwpAIdeal := fun m ρ _ => Cert.DwpAIdeal.Gen.frame m ρ

theorem frame_ref : Cert.quiescent_DwpARefIdeal := fun m ρ _ =>
  (θ_run Cert.DwpARefIdeal.defs _ _).mono
    (fun r h => ⟨fun c => (h c).2, sem_eq_zero_of_no_sems (by decide) r.2⟩) (Cert.DwpARefIdeal.Value.run m ρ)

theorem algebraic : Cert.algebraic_DwpAIdeal_DwpARefIdeal := fun m ρ m' ρ' _ hargs =>
  ⟨fun c => grad (m ((c : Thread nD τ).loc main_arg0)) (m ((c : Thread nD τ).loc main_arg1)),
    (θ_run Cert.DwpAIdeal.defs _ _).mono
      (fun r h c => ⟨(h c).1.trans (arr2 m c), (h c).2⟩) (Cert.DwpAIdeal.Value.run_blocks m ρ),
    (θ_run Cert.DwpARefIdeal.defs _ _).mono
      (fun r h c => by
        obtain ⟨e0, e1⟩ := hargs c
        refine ⟨((h c).1.trans (Cert.DwpARefIdeal.Read.val_main_v8_eq _ _)).trans ?_, (h c).2⟩
        rw [e0, e1]
        exact funext fun y => ref _ _ y)
      (Cert.DwpARefIdeal.Value.run m' ρ')⟩

end Cert.DwpAClaims

end
-- ==== Proof.DwpC.lean ====
/-
  The gradient of the input projection's weights, group C, whose five parts are the cotangent's leading axis: the product of the cotangent's transpose with the layer's
  input. What the call leaves, what the reference computes, and the claims.
-/
module

public import proofs.«01_k».proof.Defs
public import proofs.«01_k».proof.Proof.Gen.DwpC.Frame
public import proofs.«01_k».proof.Proof.Gen.DwpCIdeal.Value
public import proofs.«01_k».proof.Proof.Gen.DwpCRefIdeal.Run
public import proofs.«01_k».proof.Proof.Gen.DwpCRefIdeal.Read
public import Idealize.ShloMosaic.Lib.Pipeline.ValueKit
public import Idealize.ShloMosaic.Lib.Quiescent

@[expose] public section

noncomputable section

namespace Cert.DwpCClaims

open Cert.DwpCIdeal Cert.DwpCIdeal.Gen Idealize.ShloMosaic Idealize.ShloMosaic.TcCoe Idealize.SL.Sem

variable (m : (ℓ : Loc nD τ sig) → Buf (Elt Ideal) ℓ)

/-- The part and the column of it that the weights' row `n` belongs to. -/
def part (n : Fin 2560) : Fin 5 := ⟨n.val / 512, by omega⟩
def lane (n : Fin 2560) : Fin 512 := ⟨n.val % 512, by omega⟩

/-- The gradient: over the tokens, the cotangent's column times the input's. -/
def grad (p : S5x2304x512.Idx → EReal) (u : S2304x1024.Idx → EReal) : S2560x1024.Idx → EReal :=
  fun y => ∑ r : Fin 2304, p (ix3 (part (y 0)) r (lane (y 0))) * u (ix2 r (y 1))

theorem idx0 : ∀ t : Fin cfg0.N, win0_0.index t = ![t.val, 0, 0] := by decide +kernel
theorem idx1 : ∀ t : Fin cfg0.N, win0_1.index t = ![0, 0] := by decide +kernel
theorem idx2 : ∀ t : Fin cfg0.N, win0_2.index t = ![t.val, 0] := by decide +kernel

theorem t_lt (t : Fin cfg0.N) : t.val < 5 := t.isLt

/-- The array's row that the block of point `t` has at `a`. -/
def row (t : ℕ) (a : Fin 512) : Fin 2560 := ⟨(t % 5) * 512 + a.val, by omega⟩

theorem blkP (c : Dev nD) (t : Fin cfg0.N) (r : Fin 2304) (a : Fin 512) :
    iblk m c 0 t (ix3 0 r a) = m ((c : Thread nD τ).loc main_arg0) (ix3 (part (row t.val a)) r (lane (row t.val a))) := by
  blk_ext [iblk, V, idx0 t] <;> simp only [row, part, lane] <;> have := t_lt t <;> omega

theorem blkU (c : Dev nD) (t : Fin cfg0.N) (r : Fin 2304) (b : Fin 1024) :
    iblk m c 1 t (ix2 r b) = m ((c : Thread nD τ).loc main_arg1) (ix2 r b) := by
  blk_ext [iblk, V, idx1 t] <;> omega

theorem block (c : Dev nD) (t : Fin cfg0.N) (a : Fin 512) (b : Fin 1024) :
    (∑ r : Fin 2304, @HMul.hMul EReal EReal EReal _ (iblk m c 0 t (ix3 0 r a)) (iblk m c 1 t (ix2 r b)))
      = grad (m ((c : Thread nD τ).loc main_arg0)) (m ((c : Thread nD τ).loc main_arg1)) (ix2 (row t.val a) b) :=
  Finset.sum_congr rfl fun r _ => by rw [blkP, blkU]; rfl

theorem arr2 (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  obtain ⟨a, b, rfl⟩ : ∃ (a : Fin 512) (b : Fin 1024), y = ix2 a b := ⟨y 0, y 1, eq_ix2 y⟩
  have emb : ((View.whole main_v0).slice (win0_2.rect t)).emb (ix2 a b) = ix2 (row t.val a) b := by
    blk_ext [idx2 t] <;> simp only [row] <;> have := t_lt t <;> omega
  rw [emb]
  simp only [outsAt0]
  frame_out
  refine Eq.trans ?_ (block m c t a b)
  pointwise [k0_pay4, k0_pay2, k0_pay1]

theorem ref (p : S5x2304x512.Idx → EReal) (u : S2304x1024.Idx → EReal) (y : S2560x1024.Idx) :
    Cert.DwpCRefIdeal.Read.val_main_v12 (F := Ideal) p u y = grad p u y := by
  open Cert.DwpCRefIdeal.Read in
  rw [val_main_v12_apply]
  show val_main_v11 (F := Ideal) p u y = _
  rw [val_main_v11_apply, val_main_v10_apply, val_main_v9_apply]
  refine Finset.sum_congr rfl fun k _ => ?_
  rw [val_main_v8_apply, val_main_v7_apply, val_main_v6_apply, val_main_v1_apply]
  refine congrArg₂ (fun a b => p a * u b) (funext fun a => ?_)
    (funext fun a => match a with | ⟨0, _⟩ => rfl | ⟨1, _⟩ => rfl)
  have h0 : (y 0).val < 2560 := (y 0).isLt
  match a with
  | ⟨0, _⟩ => apply Fin.ext; show (k.val * 2560 + (y 0).val) / 512 % 5 = (y 0).val / 512; omega
  | ⟨1, _⟩ => apply Fin.ext; show (k.val * 2560 + (y 0).val) / 2560 = k.val; omega
  | ⟨2, _⟩ => apply Fin.ext; show (k.val * 2560 + (y 0).val) % 512 = (y 0).val % 512; omega

theorem frame : Cert.quiescent_DwpC := fun m ρ _ => Cert.DwpC.Gen.frame m ρ

theorem frame_ideal : Cert.quiescent_DwpCIdeal := fun m ρ _ => Cert.DwpCIdeal.Gen.frame m ρ

theorem frame_ref : Cert.quiescent_DwpCRefIdeal := fun m ρ _ =>
  (θ_run Cert.DwpCRefIdeal.defs _ _).mono
    (fun r h => ⟨fun c => (h c).2, sem_eq_zero_of_no_sems (by decide) r.2⟩) (Cert.DwpCRefIdeal.Value.run m ρ)

theorem algebraic : Cert.algebraic_DwpCIdeal_DwpCRefIdeal := fun m ρ m' ρ' _ hargs =>
  ⟨fun c => grad (m ((c : Thread nD τ).loc main_arg0)) (m ((c : Thread nD τ).loc main_arg1)),
    (θ_run Cert.DwpCIdeal.defs _ _).mono
      (fun r h c => ⟨(h c).1.trans (arr2 m c), (h c).2⟩) (Cert.DwpCIdeal.Value.run_blocks m ρ),
    (θ_run Cert.DwpCRefIdeal.defs _ _).mono
      (fun r h c => by
        obtain ⟨e0, e1⟩ := hargs c
        refine ⟨((h c).1.trans (Cert.DwpCRefIdeal.Read.val_main_v12_eq _ _)).trans ?_, (h c).2⟩
        rw [e0, e1]
        exact funext fun y => ref _ _ y)
      (Cert.DwpCRefIdeal.Value.run m' ρ')⟩

end Cert.DwpCClaims

end
-- ==== Proof.DwpG.lean ====
/-
  The gradient of the input projection's weights, group G: the product of the cotangent's transpose with the layer's
  input. What the call leaves, what the reference computes, and the claims.
-/
module

public import proofs.«01_k».proof.Defs
public import proofs.«01_k».proof.Proof.Gen.DwpG.Frame
public import proofs.«01_k».proof.Proof.Gen.DwpGIdeal.Value
public import proofs.«01_k».proof.Proof.Gen.DwpGRefIdeal.Run
public import proofs.«01_k».proof.Proof.Gen.DwpGRefIdeal.Read
public import Idealize.ShloMosaic.Lib.Pipeline.ValueKit
public import Idealize.ShloMosaic.Lib.Quiescent

@[expose] public section

noncomputable section

namespace Cert.DwpGClaims

open Cert.DwpGIdeal Cert.DwpGIdeal.Gen Idealize.ShloMosaic Idealize.ShloMosaic.TcCoe Idealize.SL.Sem

variable (m : (ℓ : Loc nD τ sig) → Buf (Elt Ideal) ℓ)

/-- The gradient: over the tokens, the cotangent's column times the input's. -/
def grad (p : S2304x1152.Idx → EReal) (u : S2304x1024.Idx → EReal) : S1152x1024.Idx → EReal :=
  fun y => ∑ r : Fin 2304, p (ix2 r (y 0)) * u (ix2 r (y 1))

theorem idx0 : ∀ t : Fin cfg0.N, win0_0.index t = ![0, t.val] := by decide +kernel
theorem idx1 : ∀ t : Fin cfg0.N, win0_1.index t = ![0, 0] := by decide +kernel
theorem idx2 : ∀ t : Fin cfg0.N, win0_2.index t = ![t.val, 0] := by decide +kernel

theorem t_lt (t : Fin cfg0.N) : t.val < 1 := t.isLt

/-- The array's row that the block of point `t` has at `a`. -/
def row (t : ℕ) (a : Fin 1152) : Fin 1152 := ⟨(t % 1) * 1152 + a.val, by omega⟩

theorem blkP (c : Dev nD) (t : Fin cfg0.N) (r : Fin 2304) (a : Fin 1152) :
    iblk m c 0 t (ix2 r a) = m ((c : Thread nD τ).loc main_arg0) (ix2 r (row t.val a)) := by
  blk_ext [iblk, V, idx0 t] <;> simp only [row] <;> have := t_lt t <;> omega

theorem blkU (c : Dev nD) (t : Fin cfg0.N) (r : Fin 2304) (b : Fin 1024) :
    iblk m c 1 t (ix2 r b) = m ((c : Thread nD τ).loc main_arg1) (ix2 r b) := by
  blk_ext [iblk, V, idx1 t] <;> omega

theorem block (c : Dev nD) (t : Fin cfg0.N) (a : Fin 1152) (b : Fin 1024) :
    (∑ r : Fin 2304, @HMul.hMul EReal EReal EReal _ (iblk m c 0 t (ix2 r a)) (iblk m c 1 t (ix2 r b)))
      = grad (m ((c : Thread nD τ).loc main_arg0)) (m ((c : Thread nD τ).loc main_arg1)) (ix2 (row t.val a) b) :=
  Finset.sum_congr rfl fun r _ => by rw [blkP, blkU]; rfl

theorem arr2 (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  obtain ⟨a, b, rfl⟩ : ∃ (a : Fin 1152) (b : Fin 1024), y = ix2 a b := ⟨y 0, y 1, eq_ix2 y⟩
  have emb : ((View.whole main_v0).slice (win0_2.rect t)).emb (ix2 a b) = ix2 (row t.val a) b := by
    blk_ext [idx2 t] <;> simp only [row] <;> have := t_lt t <;> omega
  rw [emb]
  simp only [outsAt0]
  frame_out
  refine Eq.trans ?_ (block m c t a b)
  pointwise [k0_pay4, k0_pay2, k0_pay1]

theorem ref (p : S2304x1152.Idx → EReal) (u : S2304x1024.Idx → EReal) (y : S1152x1024.Idx) :
    Cert.DwpGRefIdeal.Read.val_main_v8 (F := Ideal) p u y = grad p u y := by
  open Cert.DwpGRefIdeal.Read in
  rw [val_main_v8_apply]
  show val_main_v7 (F := Ideal) p u y = _
  rw [val_main_v7_apply, val_main_v6_apply, val_main_v5_apply]
  refine Finset.sum_congr rfl fun k _ => ?_
  rw [val_main_v4_apply, val_main_v1_apply]
  exact congrArg₂ (fun a b => p a * u b) (funext fun a => match a with | ⟨0, _⟩ => rfl | ⟨1, _⟩ => rfl)
    (funext fun a => match a with | ⟨0, _⟩ => rfl | ⟨1, _⟩ => rfl)

theorem frame : Cert.quiescent_DwpG := fun m ρ _ => Cert.DwpG.Gen.frame m ρ

theorem frame_ideal : Cert.quiescent_DwpGIdeal := fun m ρ _ => Cert.DwpGIdeal.Gen.frame m ρ

theorem frame_ref : Cert.quiescent_DwpGRefIdeal := fun m ρ _ =>
  (θ_run Cert.DwpGRefIdeal.defs _ _).mono
    (fun r h => ⟨fun c => (h c).2, sem_eq_zero_of_no_sems (by decide) r.2⟩) (Cert.DwpGRefIdeal.Value.run m ρ)

theorem algebraic : Cert.algebraic_DwpGIdeal_DwpGRefIdeal := fun m ρ m' ρ' _ hargs =>
  ⟨fun c => grad (m ((c : Thread nD τ).loc main_arg0)) (m ((c : Thread nD τ).loc main_arg1)),
    (θ_run Cert.DwpGIdeal.defs _ _).mono
      (fun r h c => ⟨(h c).1.trans (arr2 m c), (h c).2⟩) (Cert.DwpGIdeal.Value.run_blocks m ρ),
    (θ_run Cert.DwpGRefIdeal.defs _ _).mono
      (fun r h c => by
        obtain ⟨e0, e1⟩ := hargs c
        refine ⟨((h c).1.trans (Cert.DwpGRefIdeal.Read.val_main_v8_eq _ _)).trans ?_, (h c).2⟩
        rw [e0, e1]
        exact funext fun y => ref _ _ y)
      (Cert.DwpGRefIdeal.Value.run m' ρ')⟩

end Cert.DwpGClaims

end
-- ==== Proof.Dwbr.lean ====
/-
  The gradient of the branches' weights: branch by branch, the product of the branch's transpose with its cotangent, the
  columns divided among four chips. What the call leaves, what the reference computes, and the claims.
-/
module

public import proofs.«01_k».proof.Defs
public import proofs.«01_k».proof.Proof.Gen.Dwbr.Frame
public import proofs.«01_k».proof.Proof.Gen.DwbrIdeal.Value
public import proofs.«01_k».proof.Proof.Gen.DwbrRefIdeal.Run
public import proofs.«01_k».proof.Proof.Gen.DwbrRefIdeal.Read
public import Idealize.ShloMosaic.Lib.Pipeline.ValueKit
public import Idealize.ShloMosaic.Lib.Quiescent

@[expose] public section

noncomputable section

namespace Cert.DwbrClaims

open Cert.DwbrIdeal Cert.DwbrIdeal.Gen Idealize.ShloMosaic Idealize.ShloMosaic.TcCoe Idealize.SL.Sem

variable (m : (ℓ : Loc nD τ sig) → Buf (Elt Ideal) ℓ)

/-- The column of the product that chip `s` keeps as its `b`. -/
def col (s : Fin 4) (b : Fin 256) : Fin 1024 := ⟨s.val * 256 + b.val, by omega⟩

/-- The gradient: over the tokens, the branch's column times its cotangent's. -/
def grad (br : S4x2304x512.Idx → EReal) (z : S4x2304x1024.Idx → EReal) : S4x4x512x256.Idx → EReal :=
  fun y => ∑ r : Fin 2304, br (ix3 (y 1) r (y 2)) * z (ix3 (y 1) r (col (y 0) (y 3)))

theorem idx0 : ∀ t : Fin cfg0.N, win0_0.index t = ![t.val / 4, 0, 0] := by decide +kernel
theorem idx1 : ∀ t : Fin cfg0.N, win0_1.index t = ![t.val / 4, 0, t.val % 4] := by decide +kernel
theorem idx2 : ∀ t : Fin cfg0.N, win0_2.index t = ![t.val % 4, t.val / 4, 0, 0] := by decide +kernel

theorem t_lt (t : Fin cfg0.N) : t.val < 16 := t.isLt

/-- The branch and the chip of point `t`. -/
def br (t : Fin cfg0.N) : Fin 4 := ⟨t.val / 4, by have := t_lt t; omega⟩
def chip (t : Fin cfg0.N) : Fin 4 := ⟨t.val % 4, by omega⟩

theorem blkB (c : Dev nD) (t : Fin cfg0.N) (r : Fin 2304) (a : Fin 512) :
    iblk m c 0 t (ix3 0 r a) = m ((c : Thread nD τ).loc main_arg0) (ix3 (br t) r a) := by
  blk_ext [iblk, V, idx0 t] <;> simp only [br] <;> omega

theorem blkZ (c : Dev nD) (t : Fin cfg0.N) (r : Fin 2304) (b : Fin 256) :
    iblk m c 1 t (ix3 0 r b) = m ((c : Thread nD τ).loc main_arg1) (ix3 (br t) r (col (chip t) b)) := by
  blk_ext [iblk, V, idx1 t] <;> simp only [br, chip, col] <;> omega

theorem block (c : Dev nD) (t : Fin cfg0.N) (a : Fin 512) (b : Fin 256) :
    (∑ r : Fin 2304, @HMul.hMul EReal EReal EReal _ (iblk m c 0 t (ix3 0 r a)) (iblk m c 1 t (ix3 0 r b)))
      = grad (m ((c : Thread nD τ).loc main_arg0)) (m ((c : Thread nD τ).loc main_arg1)) (ix4 (chip t) (br t) a b) :=
  Finset.sum_congr rfl fun r _ => by rw [blkB, blkZ]; rfl

theorem arr2 (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  obtain ⟨i, j, a, b, rfl⟩ : ∃ (i j : Fin 1) (a : Fin 512) (b : Fin 256), y = ix4 i j a b :=
    ⟨y 0, y 1, y 2, y 3, eq_ix4 y⟩
  obtain rfl : i = 0 := Subsingleton.elim _ _
  obtain rfl : j = 0 := Subsingleton.elim _ _
  have emb : ((View.whole main_v0).slice (win0_2.rect t)).emb (ix4 0 0 a b) = ix4 (chip t) (br t) a b := by
    blk_ext [idx2 t] <;> simp only [chip, br] <;> omega
  rw [emb]
  refine Eq.trans ?_ (block m c t a b)
  frame_out
  pointwise [k0_pay1]
  done

theorem ref (x : S4x2304x512.Idx → EReal) (z : S4x2304x1024.Idx → EReal) (y : S4x4x512x256.Idx) :
    Cert.DwbrRefIdeal.Read.val_main_v8 (F := Ideal) x z y = grad x z y := by
  open Cert.DwbrRefIdeal.Read in
  rw [val_main_v8_apply, val_main_v7_apply, val_main_v6_apply]
  open Cert.DwbrRefIdeal.Read in
  show val_main_v5 (F := Ideal) x z _ = _
  open Cert.DwbrRefIdeal.Read in
  rw [val_main_v5_apply, val_main_v4_apply]
  refine Finset.sum_congr rfl fun k _ => ?_
  open Cert.DwbrRefIdeal.Read in
  rw [val_main_v3_apply, val_main_v1_apply, mul_comm]
  have h0 : (y 0).val < 4 := (y 0).isLt
  have h1 : (y 1).val < 4 := (y 1).isLt
  have h2 : (y 2).val < 512 := (y 2).isLt
  have h3 : (y 3).val < 256 := (y 3).isLt
  refine congrArg₂ (fun a b => x a * z b) (funext fun a => Fin.ext ?_) (funext fun a => Fin.ext ?_)
  · match a with
    | ⟨0, _⟩ =>
      show ((((y 1).val * 512 + (y 2).val) * 4 + (y 0).val) * 256 + (y 3).val) / 524288 = (y 1).val
      omega
    | ⟨1, _⟩ => rfl
    | ⟨2, _⟩ =>
      show ((((y 1).val * 512 + (y 2).val) * 4 + (y 0).val) * 256 + (y 3).val) / 1024 % 512 = (y 2).val
      omega
  · match a with
    | ⟨0, _⟩ =>
      show ((((y 1).val * 512 + (y 2).val) * 4 + (y 0).val) * 256 + (y 3).val) / 524288 = (y 1).val
      omega
    | ⟨1, _⟩ => rfl
    | ⟨2, _⟩ =>
      show ((((y 1).val * 512 + (y 2).val) * 4 + (y 0).val) * 256 + (y 3).val) % 1024 = (y 0).val * 256 + (y 3).val
      omega

theorem frame : Cert.quiescent_Dwbr := fun m ρ _ => Cert.Dwbr.Gen.frame m ρ

theorem frame_ideal : Cert.quiescent_DwbrIdeal := fun m ρ _ => Cert.DwbrIdeal.Gen.frame m ρ

theorem frame_ref : Cert.quiescent_DwbrRefIdeal := fun m ρ _ =>
  (θ_run Cert.DwbrRefIdeal.defs _ _).mono
    (fun r h => ⟨fun c => (h c).2, sem_eq_zero_of_no_sems (by decide) r.2⟩) (Cert.DwbrRefIdeal.Value.run m ρ)

theorem algebraic : Cert.algebraic_DwbrIdeal_DwbrRefIdeal := fun m ρ m' ρ' _ hargs =>
  ⟨fun c => grad (m ((c : Thread nD τ).loc main_arg0)) (m ((c : Thread nD τ).loc main_arg1)),
    (θ_run Cert.DwbrIdeal.defs _ _).mono
      (fun r h c => ⟨(h c).1.trans (arr2 m c), (h c).2⟩) (Cert.DwbrIdeal.Value.run_blocks m ρ),
    (θ_run Cert.DwbrRefIdeal.defs _ _).mono
      (fun r h c => by
        obtain ⟨e0, e1⟩ := hargs c
        refine ⟨((h c).1.trans (Cert.DwbrRefIdeal.Read.val_main_v8_eq _ _)).trans ?_, (h c).2⟩
        rw [e0, e1]
        exact funext fun y => ref _ _ y)
      (Cert.DwbrRefIdeal.Value.run m' ρ')⟩

end Cert.DwbrClaims

end
-- ==== Proof.Dwout.lean ====
/-
  The gradient of the output product's weights: the product of the transpose of the branches' sum with the cotangent. What the call leaves, what the reference computes, and the claims.
-/
module

public import proofs.«01_k».proof.Defs
public import proofs.«01_k».proof.Proof.Gen.Dwout.Frame
public import proofs.«01_k».proof.Proof.Gen.DwoutIdeal.Value
public import proofs.«01_k».proof.Proof.Gen.DwoutRefIdeal.Run
public import proofs.«01_k».proof.Proof.Gen.DwoutRefIdeal.Read
public import Idealize.ShloMosaic.Lib.Pipeline.ValueKit
public import Idealize.ShloMosaic.Lib.Quiescent

@[expose] public section

noncomputable section

namespace Cert.DwoutClaims

open Cert.DwoutIdeal Cert.DwoutIdeal.Gen Idealize.ShloMosaic Idealize.ShloMosaic.TcCoe Idealize.SL.Sem

variable (m : (ℓ : Loc nD τ sig) → Buf (Elt Ideal) ℓ)

/-- The gradient: over the tokens, the sum's column times the cotangent's. -/
def grad (p : S2304x1024.Idx → EReal) (u : S2304x1024.Idx → EReal) : S1024x1024.Idx → EReal :=
  fun y => ∑ r : Fin 2304, p (ix2 r (y 0)) * u (ix2 r (y 1))

theorem idx0 : ∀ t : Fin cfg0.N, win0_0.index t = ![0, t.val] := by decide +kernel
theorem idx1 : ∀ t : Fin cfg0.N, win0_1.index t = ![0, 0] := by decide +kernel
theorem idx2 : ∀ t : Fin cfg0.N, win0_2.index t = ![t.val, 0] := by decide +kernel

theorem t_lt (t : Fin cfg0.N) : t.val < 1 := t.isLt

/-- The array's row that the block of point `t` has at `a`. -/
def row (t : ℕ) (a : Fin 1024) : Fin 1024 := ⟨(t % 1) * 1024 + a.val, by omega⟩

theorem blkP (c : Dev nD) (t : Fin cfg0.N) (r : Fin 2304) (a : Fin 1024) :
    iblk m c 0 t (ix2 r a) = m ((c : Thread nD τ).loc main_arg0) (ix2 r (row t.val a)) := by
  blk_ext [iblk, V, idx0 t] <;> simp only [row] <;> have := t_lt t <;> omega

theorem blkU (c : Dev nD) (t : Fin cfg0.N) (r : Fin 2304) (b : Fin 1024) :
    iblk m c 1 t (ix2 r b) = m ((c : Thread nD τ).loc main_arg1) (ix2 r b) := by
  blk_ext [iblk, V, idx1 t] <;> omega

theorem block (c : Dev nD) (t : Fin cfg0.N) (a : Fin 1024) (b : Fin 1024) :
    (∑ r : Fin 2304, @HMul.hMul EReal EReal EReal _ (iblk m c 0 t (ix2 r a)) (iblk m c 1 t (ix2 r b)))
      = grad (m ((c : Thread nD τ).loc main_arg0)) (m ((c : Thread nD τ).loc main_arg1)) (ix2 (row t.val a) b) :=
  Finset.sum_congr rfl fun r _ => by rw [blkP, blkU]; rfl

theorem arr2 (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  obtain ⟨a, b, rfl⟩ : ∃ (a : Fin 1024) (b : Fin 1024), y = ix2 a b := ⟨y 0, y 1, eq_ix2 y⟩
  have emb : ((View.whole main_v0).slice (win0_2.rect t)).emb (ix2 a b) = ix2 (row t.val a) b := by
    blk_ext [idx2 t] <;> simp only [row] <;> have := t_lt t <;> omega
  rw [emb]
  simp only [outsAt0]
  frame_out
  refine Eq.trans ?_ (block m c t a b)
  pointwise [k0_pay4, k0_pay2, k0_pay1]

theorem ref (p : S2304x1024.Idx → EReal) (u : S2304x1024.Idx → EReal) (y : S1024x1024.Idx) :
    Cert.DwoutRefIdeal.Read.val_main_v6 (F := Ideal) p u y = grad p u y := by
  open Cert.DwoutRefIdeal.Read in
  rw [val_main_v6_apply]
  show val_main_v5 (F := Ideal) p u y = _
  rw [val_main_v5_apply, val_main_v4_apply]
  refine Finset.sum_congr rfl fun k _ => ?_
  rw [val_main_v3_apply, val_main_v1_apply, mul_comm]
  exact congrArg₂ (fun a b => p a * u b) (funext fun a => match a with | ⟨0, _⟩ => rfl | ⟨1, _⟩ => rfl)
    (funext fun a => match a with | ⟨0, _⟩ => rfl | ⟨1, _⟩ => rfl)

theorem frame : Cert.quiescent_Dwout := fun m ρ _ => Cert.Dwout.Gen.frame m ρ

theorem frame_ideal : Cert.quiescent_DwoutIdeal := fun m ρ _ => Cert.DwoutIdeal.Gen.frame m ρ

theorem frame_ref : Cert.quiescent_DwoutRefIdeal := fun m ρ _ =>
  (θ_run Cert.DwoutRefIdeal.defs _ _).mono
    (fun r h => ⟨fun c => (h c).2, sem_eq_zero_of_no_sems (by decide) r.2⟩) (Cert.DwoutRefIdeal.Value.run m ρ)

theorem algebraic : Cert.algebraic_DwoutIdeal_DwoutRefIdeal := fun m ρ m' ρ' _ hargs =>
  ⟨fun c => grad (m ((c : Thread nD τ).loc main_arg0)) (m ((c : Thread nD τ).loc main_arg1)),
    (θ_run Cert.DwoutIdeal.defs _ _).mono
      (fun r h c => ⟨(h c).1.trans (arr2 m c), (h c).2⟩) (Cert.DwoutIdeal.Value.run_blocks m ρ),
    (θ_run Cert.DwoutRefIdeal.defs _ _).mono
      (fun r h c => by
        obtain ⟨e0, e1⟩ := hargs c
        refine ⟨((h c).1.trans (Cert.DwoutRefIdeal.Read.val_main_v6_eq _ _)).trans ?_, (h c).2⟩
        rw [e0, e1]
        exact funext fun y => ref _ _ y)
      (Cert.DwoutRefIdeal.Value.run m' ρ')⟩

end Cert.DwoutClaims

end
-- ==== Proof.ProjM.lean ====
/-
  The input projection, group M: the layer's input times the weights' transpose. What the call leaves, what the
  reference computes, and the claims.
-/
module

public import proofs.«01_k».proof.Defs
public import proofs.«01_k».proof.Proof.Gen.ProjM.Frame
public import proofs.«01_k».proof.Proof.Gen.ProjMIdeal.Value
public import proofs.«01_k».proof.Proof.Gen.ProjMRefIdeal.Run
public import proofs.«01_k».proof.Proof.Gen.ProjMRefIdeal.Read
public import Idealize.ShloMosaic.Lib.Pipeline.ValueKit
public import Idealize.ShloMosaic.Lib.Quiescent

@[expose] public section

noncomputable section

namespace Cert.ProjMClaims

open Cert.ProjMIdeal Cert.ProjMIdeal.Gen Idealize.ShloMosaic Idealize.ShloMosaic.TcCoe Idealize.SL.Sem

variable (m : (ℓ : Loc nD τ sig) → Buf (Elt Ideal) ℓ)

/-- The projection: over the input's columns, the token's entry times the weights' row's. -/
def proj (u : S2304x1024.Idx → EReal) (w : S6144x1024.Idx → EReal) : S2304x6144.Idx → EReal :=
  fun y => ∑ k : Fin 1024, u (ix2 (y 0) k) * w (ix2 (y 1) k)

theorem idx0 : ∀ t : Fin cfg0.N, win0_0.index t = ![t.val % 3, 0] := by decide +kernel
theorem idx1 : ∀ t : Fin cfg0.N, win0_1.index t = ![t.val / 3, 0] := by decide +kernel
theorem idx2 : ∀ t : Fin cfg0.N, win0_2.index t = ![t.val % 3, t.val / 3] := by decide +kernel

theorem t_lt (t : Fin cfg0.N) : t.val < 9 := t.isLt

/-- The token and the column that the block of point `t` has at `a`, `b`. -/
def tok (t : ℕ) (a : Fin 768) : Fin 2304 := ⟨(t % 3) * 768 + a.val, by omega⟩
def col (t : Fin cfg0.N) (b : Fin 2048) : Fin 6144 := ⟨(t.val / 3) * 2048 + b.val, by have := t_lt t; omega⟩

theorem blkU (c : Dev nD) (t : Fin cfg0.N) (a : Fin 768) (k : Fin 1024) :
    iblk m c 0 t (ix2 a k) = m ((c : Thread nD τ).loc main_arg0) (ix2 (tok t.val a) k) := by
  blk_ext [iblk, V, idx0 t] <;> simp only [tok] <;> omega

theorem blkW (c : Dev nD) (t : Fin cfg0.N) (b : Fin 2048) (k : Fin 1024) :
    iblk m c 1 t (ix2 b k) = m ((c : Thread nD τ).loc main_arg1) (ix2 (col t b) k) := by
  blk_ext [iblk, V, idx1 t] <;> simp only [col] <;> omega

theorem block (c : Dev nD) (t : Fin cfg0.N) (a : Fin 768) (b : Fin 2048) :
    (∑ k : Fin 1024, @HMul.hMul EReal EReal EReal _ (iblk m c 0 t (ix2 a k)) (iblk m c 1 t (ix2 b k)))
      = proj (m ((c : Thread nD τ).loc main_arg0)) (m ((c : Thread nD τ).loc main_arg1)) (ix2 (tok t.val a) (col t b)) :=
  Finset.sum_congr rfl fun k _ => by rw [blkU, blkW]; rfl

theorem arr2 (c : Dev nD) : (dats m 0 c).arrAt 2 cfg0.N
    = proj (m ((c : Thread nD τ).loc main_arg0)) (m ((c : Thread nD τ).loc main_arg1)) := by
  refine (dats m 0 c).arrAt_eq_of_covers 2 _ (by decide +kernel) fun t hf y => ?_
  blk_simp
  rw [after0_2]
  obtain ⟨a, b, rfl⟩ : ∃ (a : Fin 768) (b : Fin 2048), y = ix2 a b := ⟨y 0, y 1, eq_ix2 y⟩
  have emb : ((View.whole main_v0).slice (win0_2.rect t)).emb (ix2 a b) = ix2 (tok t.val a) (col t b) := by
    blk_ext [idx2 t] <;> simp only [tok, col] <;> omega
  rw [emb]
  simp only [outsAt0]
  frame_out
  refine Eq.trans ?_ (block m c t a b)
  pointwise [k0_pay4, k0_pay2, k0_pay1]

theorem ref (u : S2304x1024.Idx → EReal) (w : S6144x1024.Idx → EReal) (y : S2304x6144.Idx) :
    Cert.ProjMRefIdeal.Read.val_main_v4 (F := Ideal) u w y = proj u w y := by
  open Cert.ProjMRefIdeal.Read in
  rw [val_main_v4_apply]
  show val_main_v3 (F := Ideal) u w y = _
  rw [val_main_v3_apply]
  refine Finset.sum_congr rfl fun k _ => ?_
  rw [val_main_v0_apply, val_main_v2_apply, val_main_v1_apply]
  exact congrArg₂ (fun a b => u a * w b) (funext fun a => match a with | ⟨0, _⟩ => rfl | ⟨1, _⟩ => rfl)
    (funext fun a => match a with | ⟨0, _⟩ => rfl | ⟨1, _⟩ => rfl)

theorem frame : Cert.quiescent_ProjM := fun m ρ _ => Cert.ProjM.Gen.frame m ρ

theorem frame_ideal : Cert.quiescent_ProjMIdeal := fun m ρ _ => Cert.ProjMIdeal.Gen.frame m ρ

theorem frame_ref : Cert.quiescent_ProjMRefIdeal := fun m ρ _ =>
  (θ_run Cert.ProjMRefIdeal.defs _ _).mono
    (fun r h => ⟨fun c => (h c).2, sem_eq_zero_of_no_sems (by decide) r.2⟩) (Cert.ProjMRefIdeal.Value.run m ρ)

theorem algebraic : Cert.algebraic_ProjMIdeal_ProjMRefIdeal := fun m ρ m' ρ' _ hargs =>
  ⟨fun c => proj (m ((c : Thread nD τ).loc main_arg0)) (m ((c : Thread nD τ).loc main_arg1)),
    (θ_run Cert.ProjMIdeal.defs _ _).mono
      (fun r h c => ⟨(h c).1.trans (arr2 m c), (h c).2⟩) (Cert.ProjMIdeal.Value.run_blocks m ρ),
    (θ_run Cert.ProjMRefIdeal.defs _ _).mono
      (fun r h c => by
        obtain ⟨e0, e1⟩ := hargs c
        refine ⟨((h c).1.trans (Cert.ProjMRefIdeal.Read.val_main_v4_eq _ _)).trans ?_, (h c).2⟩
        rw [e0, e1]
        exact funext fun y => ref _ _ y)
      (Cert.ProjMRefIdeal.Value.run m' ρ')⟩

end Cert.ProjMClaims

end
-- ==== Proof.ProjA.lean ====
/-
  The input projection, group A: the layer's input times the weights' transpose. What the call leaves, what the
  reference computes, and the claims.
-/
module

public import proofs.«01_k».proof.Defs
public import proofs.«01_k».proof.Proof.Gen.ProjA.Frame
public import proofs.«01_k».proof.Proof.Gen.ProjAIdeal.Value
public import proofs.«01_k».proof.Proof.Gen.ProjARefIdeal.Run
public import proofs.«01_k».proof.Proof.Gen.ProjARefIdeal.Read
public import Idealize.ShloMosaic.Lib.Pipeline.ValueKit
public import Idealize.ShloMosaic.Lib.Quiescent

@[expose] public section

noncomputable section

namespace Cert.ProjAClaims

open Cert.ProjAIdeal Cert.ProjAIdeal.Gen Idealize.ShloMosaic Idealize.ShloMosaic.TcCoe Idealize.SL.Sem

variable (m : (ℓ : Loc nD τ sig) → Buf (Elt Ideal) ℓ)

/-- The projection: over the input's columns, the token's entry times the weights' row's. -/
def proj (u : S2304x1024.Idx → EReal) (w : S1024x1024.Idx → EReal) : S2304x1024.Idx → EReal :=
  fun y => ∑ k : Fin 1024, u (ix2 (y 0) k) * w (ix2 (y 1) k)

theorem idx0 : ∀ t : Fin cfg0.N, win0_0.index t = ![t.val % 3, 0] := by decide +kernel
theorem idx1 : ∀ t : Fin cfg0.N, win0_1.index t = ![t.val / 3, 0] := by decide +kernel
theorem idx2 : ∀ t : Fin cfg0.N, win0_2.index t = ![t.val % 3, t.val / 3] := by decide +kernel

theorem t_lt (t : Fin cfg0.N) : t.val < 3 := t.isLt

/-- The token and the column that the block of point `t` has at `a`, `b`. -/
def tok (t : ℕ) (a : Fin 768) : Fin 2304 := ⟨(t % 3) * 768 + a.val, by omega⟩
def col (t : Fin cfg0.N) (b : Fin 1024) : Fin 1024 := ⟨(t.val / 3) * 1024 + b.val, by have := t_lt t; omega⟩

theorem blkU (c : Dev nD) (t : Fin cfg0.N) (a : Fin 768) (k : Fin 1024) :
    iblk m c 0 t (ix2 a k) = m ((c : Thread nD τ).loc main_arg0) (ix2 (tok t.val a) k) := by
  blk_ext [iblk, V, idx0 t] <;> simp only [tok] <;> omega

theorem blkW (c : Dev nD) (t : Fin cfg0.N) (b : Fin 1024) (k : Fin 1024) :
    iblk m c 1 t (ix2 b k) = m ((c : Thread nD τ).loc main_arg1) (ix2 (col t b) k) := by
  blk_ext [iblk, V, idx1 t] <;> simp only [col] <;> omega

theorem block (c : Dev nD) (t : Fin cfg0.N) (a : Fin 768) (b : Fin 1024) :
    (∑ k : Fin 1024, @HMul.hMul EReal EReal EReal _ (iblk m c 0 t (ix2 a k)) (iblk m c 1 t (ix2 b k)))
      = proj (m ((c : Thread nD τ).loc main_arg0)) (m ((c : Thread nD τ).loc main_arg1)) (ix2 (tok t.val a) (col t b)) :=
  Finset.sum_congr rfl fun k _ => by rw [blkU, blkW]; rfl

theorem arr2 (c : Dev nD) : (dats m 0 c).arrAt 2 cfg0.N
    = proj (m ((c : Thread nD τ).loc main_arg0)) (m ((c : Thread nD τ).loc main_arg1)) := by
  refine (dats m 0 c).arrAt_eq_of_covers 2 _ (by decide +kernel) fun t hf y => ?_
  blk_simp
  rw [after0_2]
  obtain ⟨a, b, rfl⟩ : ∃ (a : Fin 768) (b : Fin 1024), y = ix2 a b := ⟨y 0, y 1, eq_ix2 y⟩
  have emb : ((View.whole main_v0).slice (win0_2.rect t)).emb (ix2 a b) = ix2 (tok t.val a) (col t b) := by
    blk_ext [idx2 t] <;> simp only [tok, col] <;> omega
  rw [emb]
  simp only [outsAt0]
  frame_out
  refine Eq.trans ?_ (block m c t a b)
  pointwise [k0_pay4, k0_pay2, k0_pay1]

theorem ref (u : S2304x1024.Idx → EReal) (w : S1024x1024.Idx → EReal) (y : S2304x1024.Idx) :
    Cert.ProjARefIdeal.Read.val_main_v4 (F := Ideal) u w y = proj u w y := by
  open Cert.ProjARefIdeal.Read in
  rw [val_main_v4_apply]
  show val_main_v3 (F := Ideal) u w y = _
  rw [val_main_v3_apply]
  refine Finset.sum_congr rfl fun k _ => ?_
  rw [val_main_v0_apply, val_main_v2_apply, val_main_v1_apply]
  exact congrArg₂ (fun a b => u a * w b) (funext fun a => match a with | ⟨0, _⟩ => rfl | ⟨1, _⟩ => rfl)
    (funext fun a => match a with | ⟨0, _⟩ => rfl | ⟨1, _⟩ => rfl)

theorem frame : Cert.quiescent_ProjA := fun m ρ _ => Cert.ProjA.Gen.frame m ρ

theorem frame_ideal : Cert.quiescent_ProjAIdeal := fun m ρ _ => Cert.ProjAIdeal.Gen.frame m ρ

theorem frame_ref : Cert.quiescent_ProjARefIdeal := fun m ρ _ =>
  (θ_run Cert.ProjARefIdeal.defs _ _).mono
    (fun r h => ⟨fun c => (h c).2, sem_eq_zero_of_no_sems (by decide) r.2⟩) (Cert.ProjARefIdeal.Value.run m ρ)

theorem algebraic : Cert.algebraic_ProjAIdeal_ProjARefIdeal := fun m ρ m' ρ' _ hargs =>
  ⟨fun c => proj (m ((c : Thread nD τ).loc main_arg0)) (m ((c : Thread nD τ).loc main_arg1)),
    (θ_run Cert.ProjAIdeal.defs _ _).mono
      (fun r h c => ⟨(h c).1.trans (arr2 m c), (h c).2⟩) (Cert.ProjAIdeal.Value.run_blocks m ρ),
    (θ_run Cert.ProjARefIdeal.defs _ _).mono
      (fun r h c => by
        obtain ⟨e0, e1⟩ := hargs c
        refine ⟨((h c).1.trans (Cert.ProjARefIdeal.Read.val_main_v4_eq _ _)).trans ?_, (h c).2⟩
        rw [e0, e1]
        exact funext fun y => ref _ _ y)
      (Cert.ProjARefIdeal.Value.run m' ρ')⟩

end Cert.ProjAClaims

end
-- ==== Proof.ProjC.lean ====
/-
  The input projection, group C: the layer's input times the weights' transpose. What the call leaves, what the
  reference computes, and the claims.
-/
module

public import proofs.«01_k».proof.Defs
public import proofs.«01_k».proof.Proof.Gen.ProjC.Frame
public import proofs.«01_k».proof.Proof.Gen.ProjCIdeal.Value
public import proofs.«01_k».proof.Proof.Gen.ProjCRefIdeal.Run
public import proofs.«01_k».proof.Proof.Gen.ProjCRefIdeal.Read
public import Idealize.ShloMosaic.Lib.Pipeline.ValueKit
public import Idealize.ShloMosaic.Lib.Quiescent

@[expose] public section

noncomputable section

namespace Cert.ProjCClaims

open Cert.ProjCIdeal Cert.ProjCIdeal.Gen Idealize.ShloMosaic Idealize.ShloMosaic.TcCoe Idealize.SL.Sem

variable (m : (ℓ : Loc nD τ sig) → Buf (Elt Ideal) ℓ)

/-- The projection: over the input's columns, the token's entry times the weights' row's. -/
def proj (u : S2304x1024.Idx → EReal) (w : S2560x1024.Idx → EReal) : S2304x2560.Idx → EReal :=
  fun y => ∑ k : Fin 1024, u (ix2 (y 0) k) * w (ix2 (y 1) k)

theorem idx0 : ∀ t : Fin cfg0.N, win0_0.index t = ![t.val % 3, 0] := by decide +kernel
theorem idx1 : ∀ t : Fin cfg0.N, win0_1.index t = ![t.val / 3, 0] := by decide +kernel
theorem idx2 : ∀ t : Fin cfg0.N, win0_2.index t = ![t.val % 3, t.val / 3] := by decide +kernel

theorem t_lt (t : Fin cfg0.N) : t.val < 6 := t.isLt

/-- The token and the column that the block of point `t` has at `a`, `b`. -/
def tok (t : ℕ) (a : Fin 768) : Fin 2304 := ⟨(t % 3) * 768 + a.val, by omega⟩
def col (t : Fin cfg0.N) (b : Fin 1280) : Fin 2560 := ⟨(t.val / 3) * 1280 + b.val, by have := t_lt t; omega⟩

theorem blkU (c : Dev nD) (t : Fin cfg0.N) (a : Fin 768) (k : Fin 1024) :
    iblk m c 0 t (ix2 a k) = m ((c : Thread nD τ).loc main_arg0) (ix2 (tok t.val a) k) := by
  blk_ext [iblk, V, idx0 t] <;> simp only [tok] <;> omega

theorem blkW (c : Dev nD) (t : Fin cfg0.N) (b : Fin 1280) (k : Fin 1024) :
    iblk m c 1 t (ix2 b k) = m ((c : Thread nD τ).loc main_arg1) (ix2 (col t b) k) := by
  blk_ext [iblk, V, idx1 t] <;> simp only [col] <;> omega

theorem block (c : Dev nD) (t : Fin cfg0.N) (a : Fin 768) (b : Fin 1280) :
    (∑ k : Fin 1024, @HMul.hMul EReal EReal EReal _ (iblk m c 0 t (ix2 a k)) (iblk m c 1 t (ix2 b k)))
      = proj (m ((c : Thread nD τ).loc main_arg0)) (m ((c : Thread nD τ).loc main_arg1)) (ix2 (tok t.val a) (col t b)) :=
  Finset.sum_congr rfl fun k _ => by rw [blkU, blkW]; rfl

theorem arr2 (c : Dev nD) : (dats m 0 c).arrAt 2 cfg0.N
    = proj (m ((c : Thread nD τ).loc main_arg0)) (m ((c : Thread nD τ).loc main_arg1)) := by
  refine (dats m 0 c).arrAt_eq_of_covers 2 _ (by decide +kernel) fun t hf y => ?_
  blk_simp
  rw [after0_2]
  obtain ⟨a, b, rfl⟩ : ∃ (a : Fin 768) (b : Fin 1280), y = ix2 a b := ⟨y 0, y 1, eq_ix2 y⟩
  have emb : ((View.whole main_v0).slice (win0_2.rect t)).emb (ix2 a b) = ix2 (tok t.val a) (col t b) := by
    blk_ext [idx2 t] <;> simp only [tok, col] <;> omega
  rw [emb]
  simp only [outsAt0]
  frame_out
  refine Eq.trans ?_ (block m c t a b)
  pointwise [k0_pay4, k0_pay2, k0_pay1]

theorem ref (u : S2304x1024.Idx → EReal) (w : S2560x1024.Idx → EReal) (y : S2304x2560.Idx) :
    Cert.ProjCRefIdeal.Read.val_main_v4 (F := Ideal) u w y = proj u w y := by
  open Cert.ProjCRefIdeal.Read in
  rw [val_main_v4_apply]
  show val_main_v3 (F := Ideal) u w y = _
  rw [val_main_v3_apply]
  refine Finset.sum_congr rfl fun k _ => ?_
  rw [val_main_v0_apply, val_main_v2_apply, val_main_v1_apply]
  exact congrArg₂ (fun a b => u a * w b) (funext fun a => match a with | ⟨0, _⟩ => rfl | ⟨1, _⟩ => rfl)
    (funext fun a => match a with | ⟨0, _⟩ => rfl | ⟨1, _⟩ => rfl)

theorem frame : Cert.quiescent_ProjC := fun m ρ _ => Cert.ProjC.Gen.frame m ρ

theorem frame_ideal : Cert.quiescent_ProjCIdeal := fun m ρ _ => Cert.ProjCIdeal.Gen.frame m ρ

theorem frame_ref : Cert.quiescent_ProjCRefIdeal := fun m ρ _ =>
  (θ_run Cert.ProjCRefIdeal.defs _ _).mono
    (fun r h => ⟨fun c => (h c).2, sem_eq_zero_of_no_sems (by decide) r.2⟩) (Cert.ProjCRefIdeal.Value.run m ρ)

theorem algebraic : Cert.algebraic_ProjCIdeal_ProjCRefIdeal := fun m ρ m' ρ' _ hargs =>
  ⟨fun c => proj (m ((c : Thread nD τ).loc main_arg0)) (m ((c : Thread nD τ).loc main_arg1)),
    (θ_run Cert.ProjCIdeal.defs _ _).mono
      (fun r h c => ⟨(h c).1.trans (arr2 m c), (h c).2⟩) (Cert.ProjCIdeal.Value.run_blocks m ρ),
    (θ_run Cert.ProjCRefIdeal.defs _ _).mono
      (fun r h c => by
        obtain ⟨e0, e1⟩ := hargs c
        refine ⟨((h c).1.trans (Cert.ProjCRefIdeal.Read.val_main_v4_eq _ _)).trans ?_, (h c).2⟩
        rw [e0, e1]
        exact funext fun y => ref _ _ y)
      (Cert.ProjCRefIdeal.Value.run m' ρ')⟩

end Cert.ProjCClaims

end
-- ==== Proof.ProjG.lean ====
/-
  The input projection, group G: the layer's input times the weights' transpose. What the call leaves, what the
  reference computes, and the claims.
-/
module

public import proofs.«01_k».proof.Defs
public import proofs.«01_k».proof.Proof.Gen.ProjG.Frame
public import proofs.«01_k».proof.Proof.Gen.ProjGIdeal.Value
public import proofs.«01_k».proof.Proof.Gen.ProjGRefIdeal.Run
public import proofs.«01_k».proof.Proof.Gen.ProjGRefIdeal.Read
public import Idealize.ShloMosaic.Lib.Pipeline.ValueKit
public import Idealize.ShloMosaic.Lib.Quiescent

@[expose] public section

noncomputable section

namespace Cert.ProjGClaims

open Cert.ProjGIdeal Cert.ProjGIdeal.Gen Idealize.ShloMosaic Idealize.ShloMosaic.TcCoe Idealize.SL.Sem

variable (m : (ℓ : Loc nD τ sig) → Buf (Elt Ideal) ℓ)

/-- The projection: over the input's columns, the token's entry times the weights' row's. -/
def proj (u : S2304x1024.Idx → EReal) (w : S1152x1024.Idx → EReal) : S2304x1152.Idx → EReal :=
  fun y => ∑ k : Fin 1024, u (ix2 (y 0) k) * w (ix2 (y 1) k)

theorem idx0 : ∀ t : Fin cfg0.N, win0_0.index t = ![t.val % 3, 0] := by decide +kernel
theorem idx1 : ∀ t : Fin cfg0.N, win0_1.index t = ![t.val / 3, 0] := by decide +kernel
theorem idx2 : ∀ t : Fin cfg0.N, win0_2.index t = ![t.val % 3, t.val / 3] := by decide +kernel

theorem t_lt (t : Fin cfg0.N) : t.val < 3 := t.isLt

/-- The token and the column that the block of point `t` has at `a`, `b`. -/
def tok (t : ℕ) (a : Fin 768) : Fin 2304 := ⟨(t % 3) * 768 + a.val, by omega⟩
def col (t : Fin cfg0.N) (b : Fin 1152) : Fin 1152 := ⟨(t.val / 3) * 1152 + b.val, by have := t_lt t; omega⟩

theorem blkU (c : Dev nD) (t : Fin cfg0.N) (a : Fin 768) (k : Fin 1024) :
    iblk m c 0 t (ix2 a k) = m ((c : Thread nD τ).loc main_arg0) (ix2 (tok t.val a) k) := by
  blk_ext [iblk, V, idx0 t] <;> simp only [tok] <;> omega

theorem blkW (c : Dev nD) (t : Fin cfg0.N) (b : Fin 1152) (k : Fin 1024) :
    iblk m c 1 t (ix2 b k) = m ((c : Thread nD τ).loc main_arg1) (ix2 (col t b) k) := by
  blk_ext [iblk, V, idx1 t] <;> simp only [col] <;> omega

theorem block (c : Dev nD) (t : Fin cfg0.N) (a : Fin 768) (b : Fin 1152) :
    (∑ k : Fin 1024, @HMul.hMul EReal EReal EReal _ (iblk m c 0 t (ix2 a k)) (iblk m c 1 t (ix2 b k)))
      = proj (m ((c : Thread nD τ).loc main_arg0)) (m ((c : Thread nD τ).loc main_arg1)) (ix2 (tok t.val a) (col t b)) :=
  Finset.sum_congr rfl fun k _ => by rw [blkU, blkW]; rfl

theorem arr2 (c : Dev nD) : (dats m 0 c).arrAt 2 cfg0.N
    = proj (m ((c : Thread nD τ).loc main_arg0)) (m ((c : Thread nD τ).loc main_arg1)) := by
  refine (dats m 0 c).arrAt_eq_of_covers 2 _ (by decide +kernel) fun t hf y => ?_
  blk_simp
  rw [after0_2]
  obtain ⟨a, b, rfl⟩ : ∃ (a : Fin 768) (b : Fin 1152), y = ix2 a b := ⟨y 0, y 1, eq_ix2 y⟩
  have emb : ((View.whole main_v0).slice (win0_2.rect t)).emb (ix2 a b) = ix2 (tok t.val a) (col t b) := by
    blk_ext [idx2 t] <;> simp only [tok, col] <;> omega
  rw [emb]
  simp only [outsAt0]
  frame_out
  refine Eq.trans ?_ (block m c t a b)
  pointwise [k0_pay4, k0_pay2, k0_pay1]

theorem ref (u : S2304x1024.Idx → EReal) (w : S1152x1024.Idx → EReal) (y : S2304x1152.Idx) :
    Cert.ProjGRefIdeal.Read.val_main_v4 (F := Ideal) u w y = proj u w y := by
  open Cert.ProjGRefIdeal.Read in
  rw [val_main_v4_apply]
  show val_main_v3 (F := Ideal) u w y = _
  rw [val_main_v3_apply]
  refine Finset.sum_congr rfl fun k _ => ?_
  rw [val_main_v0_apply, val_main_v2_apply, val_main_v1_apply]
  exact congrArg₂ (fun a b => u a * w b) (funext fun a => match a with | ⟨0, _⟩ => rfl | ⟨1, _⟩ => rfl)
    (funext fun a => match a with | ⟨0, _⟩ => rfl | ⟨1, _⟩ => rfl)

theorem frame : Cert.quiescent_ProjG := fun m ρ _ => Cert.ProjG.Gen.frame m ρ

theorem frame_ideal : Cert.quiescent_ProjGIdeal := fun m ρ _ => Cert.ProjGIdeal.Gen.frame m ρ

theorem frame_ref : Cert.quiescent_ProjGRefIdeal := fun m ρ _ =>
  (θ_run Cert.ProjGRefIdeal.defs _ _).mono
    (fun r h => ⟨fun c => (h c).2, sem_eq_zero_of_no_sems (by decide) r.2⟩) (Cert.ProjGRefIdeal.Value.run m ρ)

theorem algebraic : Cert.algebraic_ProjGIdeal_ProjGRefIdeal := fun m ρ m' ρ' _ hargs =>
  ⟨fun c => proj (m ((c : Thread nD τ).loc main_arg0)) (m ((c : Thread nD τ).loc main_arg1)),
    (θ_run Cert.ProjGIdeal.defs _ _).mono
      (fun r h c => ⟨(h c).1.trans (arr2 m c), (h c).2⟩) (Cert.ProjGIdeal.Value.run_blocks m ρ),
    (θ_run Cert.ProjGRefIdeal.defs _ _).mono
      (fun r h c => by
        obtain ⟨e0, e1⟩ := hargs c
        refine ⟨((h c).1.trans (Cert.ProjGRefIdeal.Read.val_main_v4_eq _ _)).trans ?_, (h c).2⟩
        rw [e0, e1]
        exact funext fun y => ref _ _ y)
      (Cert.ProjGRefIdeal.Value.run m' ρ')⟩

end Cert.ProjGClaims

end
-- ==== Proof.AttnFwdValue.lean ====
/-
  The attention itself: every position's outcome, a row of softmax weights against the values. What the call leaves.
-/
module

public import proofs.«01_k».proof.Proof.Gen.AttnFwdIdeal.Value
public import proofs.«01_k».proof.Proof.Attn
public import Idealize.ShloMosaic.Lib.Pipeline.ValueKit

@[expose] public section

noncomputable section

namespace Cert.Attn

open Cert.Row

/-- The outcome of position `R` in head `h`. -/
def out (Q : Fin 2304 → Fin 512 → EReal) (K V : Fin 2304 → Fin 256 → EReal) (h : Fin 4) (R : Fin 2304) (d : Fin 128) : EReal :=
  ∑ c, weight (score Q K h R) c * V c (kcol (serves h) d)

end Cert.Attn

namespace Cert.AttnFwdClaims

open Cert.AttnFwdIdeal Cert.AttnFwdIdeal.Gen Idealize.ShloMosaic Idealize.ShloMosaic.TcCoe Idealize.SL.Sem Cert.Row Cert.Attn

/-- The mask, which the program's table of constants names: −∞. -/
theorem mask_eq : Named.named (F := Ideal) (φ := .f32) κ "mask" 0xF149F2CA#32 = (⊥ : EReal) :=
  IdealRules.named_const.ideal_named_scalar _ _ _ _ rfl

/-- The comparison that picks the mask, of a column and the bound the point's row of blocks sets. -/
theorem bias (a : Fin 9) (s : EReal) (c : Fin 2304) :
    s + Scalar.select (IntOp.cmpi CmpIPredicate.slt (BitVec.ofNat 32 c.val)
              (Scalar.select (Scalar.cmpi CmpIPredicate.slt (Scalar.muli (BitVec.ofNat 32 a.val) 256#32) 256#32) 256#32
                2304#32)) (0 : EReal) (Named.named (F := Ideal) (φ := .f32) κ "mask" 0xF149F2CA#32)
      = if a.val = 0 ∧ ¬c.val < 256 then ⊥ else s := by
  rw [mask_eq, ← KernelIdeal.Blocks.mask_eq]
  exact KernelIdeal.Blocks.bias_of a s c

/-- The scores of a block's row. -/
def sc (a : ℕ) (x : S256x128.Idx → EReal) (y : S2304x128.Idx → EReal) (r : Fin 256) : Fin 2304 → EReal :=
  scores (a = 0) (fun d => x (ix2 r d)) (fun c d => y (ix2 c d))

theorem sc_eq (a : ℕ) (x : S256x128.Idx → EReal) (y : S2304x128.Idx → EReal) (r : Fin 256) (c : Fin 2304) :
    (if a = 0 ∧ ¬c.val < 256 then ⊥ else ∑ d, x (ix2 r d) * y (ix2 c d)) = sc a x y r c := by
  unfold sc scores
  by_cases hi : a = 0
  · by_cases h : c.val < 256
    · simp [hi, h, masked]
    · simp [hi, h, masked]
  · simp [hi]

theorem out_at (i : grid0.Coords) (x : Vec Ideal S256x128 .bf16) (y z : Vec Ideal S2304x128 .bf16) (r : Fin 256) (d : Fin 128) :
    k0_pay1 i x y z (ix2 r d) = ∑ c, weight (sc (i 1).val x y r) c * z (ix2 c d) := by
  pointwise [k0_pay1]
  have hb := bias (i 1)
  simp only [hb, KernelIdeal.Blocks.neg_inf]
  simp only [sc_eq]
  rfl

variable (m : (ℓ : Loc nD τ sig) → Buf (Elt Ideal) ℓ)

abbrev Q (c : Dev nD) (R : Fin 2304) (C : Fin 512) : EReal := m ((c : Thread nD τ).loc main_arg0) (ix2 R C)
abbrev K (c : Dev nD) (R : Fin 2304) (C : Fin 256) : EReal := m ((c : Thread nD τ).loc main_arg1) (ix2 R C)
abbrev W (c : Dev nD) (R : Fin 2304) (C : Fin 256) : EReal := m ((c : Thread nD τ).loc main_arg2) (ix2 R C)

theorem idx0 : ∀ t : Fin cfg0.N, win0_0.index t = ![t.val % 9, t.val / 9] := by decide +kernel
theorem idx1 : ∀ t : Fin cfg0.N, win0_1.index t = ![0, t.val / 18] := by decide +kernel
theorem idx2 : ∀ t : Fin cfg0.N, win0_2.index t = ![0, t.val / 18] := by decide +kernel
theorem idx3 : ∀ t : Fin cfg0.N, win0_3.index t = ![t.val % 9, t.val / 9] := by decide +kernel
theorem coord : ∀ t : Fin cfg0.N, (grid0.coords t 1).val = t.val % 9 := by decide +kernel

theorem t_lt (t : Fin cfg0.N) : t.val < 36 := t.isLt

/-- The head of point `t`, and the position its block has at `r`. -/
def head (t : ℕ) : Fin 4 := ⟨t / 9 % 4, by omega⟩
def pos (t : ℕ) (r : Fin 256) : Fin 2304 := ⟨t % 9 * 256 + r.val, by omega⟩

theorem blkQ (c : Dev nD) (t : Fin cfg0.N) (r : Fin 256) (d : Fin 128) :
    iblk m c 0 t (ix2 r d) = Q m c (pos t.val r) (qcol (head t.val) d) := by
  blk_ext [iblk, V, idx0 t] <;> simp only [pos, qcol, head] <;> have := t_lt t <;> omega

theorem blkK (c : Dev nD) (t : Fin cfg0.N) (r : Fin 2304) (d : Fin 128) :
    iblk m c 1 t (ix2 r d) = K m c r (kcol (serves (head t.val)) d) := by
  blk_ext [iblk, V, idx1 t] <;> simp only [kcol, serves, head] <;> have := t_lt t <;> omega

theorem blkV (c : Dev nD) (t : Fin cfg0.N) (r : Fin 2304) (d : Fin 128) :
    iblk m c 2 t (ix2 r d) = W m c r (kcol (serves (head t.val)) d) := by
  blk_ext [iblk, V, idx2 t] <;> simp only [kcol, serves, head] <;> have := t_lt t <;> omega

/-- The outcome, as an array. -/
def outArr (c : Dev nD) : S2304x512.Idx → EReal := fun y => out (Q m c) (K m c) (W m c) (qhead (y 1)) (y 0) (lane (y 1))

theorem sc_at (c : Dev nD) (t : Fin cfg0.N) (r : Fin 256) :
    sc (grid0.coords t 1).val (iblk m c 0 t) (iblk m c 1 t) r = score (Q m c) (K m c) (head t.val) (pos t.val r) := by
  have hp : (grid0.coords t 1).val = 0 ↔ (pos t.val r).val < 256 := by
    rw [coord]; simp only [pos]; constructor <;> intro <;> omega
  unfold sc score scores
  simp only [blkQ, blkK, hp]

theorem block (c : Dev nD) (t : Fin cfg0.N) (r : Fin 256) (d : Fin 128) :
    k0_pay1 (grid0.coords t) (iblk m c 0 t) (iblk m c 1 t) (iblk m c 2 t) (ix2 r d)
      = outArr m c (ix2 (pos t.val r) (qcol (head t.val) d)) := by
  refine (out_at _ _ _ _ r d).trans ?_
  rw [sc_at]
  have e : qhead (qcol (head t.val) d) = head t.val := by
    apply Fin.ext; simp only [qhead, qcol]; omega
  have e' : lane (qcol (head t.val) d) = d := by
    apply Fin.ext; simp only [lane, qcol]; omega
  show _ = out _ _ _ (qhead (qcol (head t.val) d)) (pos t.val r) (lane (qcol (head t.val) d))
  rw [e, e', out]
  exact Finset.sum_congr rfl fun x _ => by rw [blkV]

theorem arr3 (c : Dev nD) : (dats m 0 c).arrAt 3 cfg0.N = outArr m c := by
  refine (dats m 0 c).arrAt_eq_of_covers 3 _ (by decide +kernel) fun t hf y => ?_
  blk_simp
  rw [after0_3]
  obtain ⟨a, b, rfl⟩ : ∃ (a : Fin 256) (b : Fin 128), y = ix2 a b := ⟨y 0, y 1, eq_ix2 y⟩
  have emb : ((View.whole main_v0).slice (win0_3.rect t)).emb (ix2 a b) = ix2 (pos t.val a) (qcol (head t.val) b) := by
    blk_ext [idx3 t] <;> simp only [pos, qcol, head] <;> have := t_lt t <;> omega
  rw [emb, ← block]
  frame_out

end Cert.AttnFwdClaims

end
-- ==== Proof.AttnFwdRef.lean ====
/-
  The attention itself, as the reference computes it: the early rows among themselves, the late rows over every key.
-/
module

public import proofs.«01_k».proof.Proof.Gen.AttnFwdRefIdeal.Read
public import proofs.«01_k».proof.Proof.AttnFwdValue
public import proofs.«01_k».proof.Proof.Equal

@[expose] public section

noncomputable section

namespace Cert.AttnFwdClaims

open Cert.AttnFwdRefIdeal Cert.AttnFwdRefIdeal.Gen Cert.AttnFwdRefIdeal.Read Idealize.ShloMosaic Idealize.ShloMosaic.TcCoe
open Cert.Row Cert.Attn Cert.ReferenceIdeal.Rows

variable (x0 : (⟨S2304x512, .bf16⟩ : BufTy).Contents (Elt Ideal)) (x1 x2 : (⟨S2304x256, .bf16⟩ : BufTy).Contents (Elt Ideal))

theorem rq_at (p g : Fin 2) (R : Fin 2304) (d : Fin 128) :
    val_main_v4 (F := Ideal) x0 (ix4 p g R d) = mat x0 R (qcol (served p g) d) := by
  pointwise [val_main_v4, val_main_v3, val_main_v0]
  refine congrArg (fun C => x0 (ix2 R C)) (Fin.ext ?_)
  simp only [qcol, served]; omega

theorem rk_at (p : Fin 2) (R : Fin 2304) (d : Fin 128) :
    val_main_v6 (F := Ideal) x1 (ix3 p R d) = mat x1 R (kcol p d) := by
  pointwise [val_main_v6, val_main_v5, val_main_v1]
  refine congrArg (fun C => x1 (ix2 R C)) (Fin.ext ?_)
  simp only [kcol]; omega

theorem rv_at (p : Fin 2) (R : Fin 2304) (d : Fin 128) :
    val_main_v8 (F := Ideal) x2 (ix3 p R d) = mat x2 R (kcol p d) := by
  pointwise [val_main_v8, val_main_v7, val_main_v2]
  refine congrArg (fun C => x2 (ix2 R C)) (Fin.ext ?_)
  simp only [kcol]; omega

theorem rnear_at (p g : Fin 2) (r c : Fin 256) : val_main_v12 (F := Ideal) x0 x1 (ix4 p g r c) = near x0 x1 p g r c := by
  have hq := rq_at x0
  have hk := rk_at x1
  unfold val_main_v12 val_main_v9 val_main_v10
  generalize val_main_v4 (F := Ideal) x0 = a at hq ⊢
  generalize val_main_v6 (F := Ideal) x1 = b at hk ⊢
  pointwise
  simp only [hq, hk]
  rfl

theorem rfar_at (p g : Fin 2) (q : Fin 2048) (c : Fin 2304) :
    val_main_v26 (F := Ideal) x0 x1 (ix4 p g q c) = far x0 x1 p g q c := by
  have hq := rq_at x0
  have hk := rk_at x1
  unfold val_main_v26 val_main_v25
  generalize val_main_v4 (F := Ideal) x0 = a at hq ⊢
  generalize val_main_v6 (F := Ideal) x1 = b at hk ⊢
  pointwise
  simp only [hq, hk]
  rfl

theorem rnear_ex (p g : Fin 2) (r c : Fin 256) : val_main_v19 (F := Ideal) x0 x1 (ix4 p g r c) = ex (near x0 x1 p g r) c := by
  have h := rnear_at x0 x1
  unfold val_main_v19 val_main_v18 val_main_v17 val_main_v16 val_main_v15 val_main_v14 val_main_cst_0 val_main_v13 val_main_cst
  generalize val_main_v12 (F := Ideal) x0 x1 = a at h ⊢
  pointwise
  simp only [h, KernelIdeal.Blocks.neg_inf]
  rw [max_eq_right bot_le]
  rfl

theorem rnear_weight (p g : Fin 2) (r c : Fin 256) :
    val_main_v23 (F := Ideal) x0 x1 (ix4 p g r c) = Ideal.div (ex (near x0 x1 p g r) c) (den (near x0 x1 p g r)) := by
  have h := rnear_ex x0 x1
  unfold val_main_v23 val_main_v22 val_main_v21 val_main_v20 val_main_cst_1
  generalize val_main_v19 (F := Ideal) x0 x1 = a at h ⊢
  pointwise
  simp only [h]
  rfl

theorem rfar_top (p g : Fin 2) (q : Fin 2048) : val_main_v29 (F := Ideal) x0 x1 (ix3 p g q) = top (far x0 x1 p g q) := by
  have h := rfar_at x0 x1
  rw [val_main_v29_apply, val_main_v28_apply, val_main_cst_3_apply, max_neg_inf]
  unfold val_main_v27 val_main_cst_2
  generalize val_main_v26 (F := Ideal) x0 x1 = a at h ⊢
  exact reduce_top a p g q _ (h p g q)

theorem rfar_ex (p g : Fin 2) (q : Fin 2048) (c : Fin 2304) : val_main_v33 (F := Ideal) x0 x1 (ix4 p g q c) = ex (far x0 x1 p g q) c := by
  have h := rfar_at x0 x1 p g q c
  have h' := rfar_top x0 x1 p g q
  unfold ex
  generalize far x0 x1 p g q c = s at h ⊢
  generalize top (far x0 x1 p g q) = t at h' ⊢
  unfold val_main_v33 val_main_v32 val_main_v31 val_main_v30
  generalize val_main_v26 (F := Ideal) x0 x1 = a at h ⊢
  generalize val_main_v29 (F := Ideal) x0 x1 = b at h' ⊢
  pointwise
  rw [h, h']

theorem rfar_weight (p g : Fin 2) (q : Fin 2048) (c : Fin 2304) :
    val_main_v37 (F := Ideal) x0 x1 (ix4 p g q c) = Ideal.div (ex (far x0 x1 p g q) c) (den (far x0 x1 p g q)) := by
  have h := rfar_ex x0 x1
  unfold val_main_v37 val_main_v36 val_main_v35 val_main_v34 val_main_cst_4
  generalize val_main_v33 (F := Ideal) x0 x1 = a at h ⊢
  pointwise
  simp only [h]
  rfl

theorem early_out (p g : Fin 2) (r : Fin 256) (d : Fin 128) : val_main_v39 (F := Ideal) x0 x1 x2 (ix4 p g (wide r) d)
    = ∑ c, Ideal.div (ex (near x0 x1 p g r) c) (den (near x0 x1 p g r)) * mat x2 (wide c) (kcol p d) := by
  have h := rnear_weight x0 x1
  have hv := rv_at x2
  unfold val_main_v39 val_main_v24 val_main_v11
  generalize val_main_v23 (F := Ideal) x0 x1 = a at h ⊢
  generalize val_main_v8 (F := Ideal) x2 = b at hv ⊢
  generalize val_main_v38 (F := Ideal) x0 x1 x2 = e
  pointwise
  simp only [h, hv]

theorem late_out (p g : Fin 2) (q : Fin 2048) (d : Fin 128) : val_main_v39 (F := Ideal) x0 x1 x2 (ix4 p g (late q) d)
    = ∑ c, Ideal.div (ex (far x0 x1 p g q) c) (den (far x0 x1 p g q)) * mat x2 c (kcol p d) := by
  have h := rfar_weight x0 x1
  have hv := rv_at x2
  unfold val_main_v39 val_main_v38
  generalize val_main_v37 (F := Ideal) x0 x1 = a at h ⊢
  generalize val_main_v8 (F := Ideal) x2 = b at hv ⊢
  generalize val_main_v24 (F := Ideal) x0 x1 x2 = e
  pointwise
  have hq := q.isLt
  have e : (late q).val = 256 + q.val := rfl
  rw [dif_neg (by omega)]
  have e' : (⟨(late q).val - 256, by omega⟩ : Fin 2048) = q := Fin.ext (by show (late q).val - 256 = q.val; omega)
  simp only [e', h, hv]

theorem rout (R : Fin 2304) (C : Fin 512) : val_main_v41 (F := Ideal) x0 x1 x2 (ix2 R C)
      = val_main_v39 (F := Ideal) x0 x1 x2 (ix4 (outer C) (inner C) R (lane C)) := by
  unfold val_main_v41 val_main_v40
  generalize val_main_v39 (F := Ideal) x0 x1 x2 = a
  pointwise
  rfl

/-- The reference's outcome is the kernel's, when the queries and the keys are real numbers. -/
theorem ref {x0 x1} (h0 : RealMat x0) (h1 : RealMat x1) (R : Fin 2304) (C : Fin 512) :
    val_main_v41 (F := Ideal) x0 x1 x2 (ix2 R C) = out (mat x0) (mat x1) (mat x2) (qhead C) R (lane C) := by
  rw [rout, ← served_outer]
  generalize outer C = p
  generalize inner C = g
  generalize lane C = d
  unfold out
  simp only [serves_served]
  by_cases hR : R.val < 256
  · obtain ⟨r, rfl⟩ : ∃ r : Fin 256, R = wide r := ⟨⟨R.val, hR⟩, rfl⟩
    rw [early_out, score_early, sum_wide _ fun c h => by rw [weight_masked_past _ c h, zero_mul]]
    exact Finset.sum_congr rfl fun c _ => by rw [div_den (near_real h0 h1 p g r), weight_masked_wide]; rfl
  · obtain ⟨q, rfl⟩ : ∃ q : Fin 2048, R = late q := ⟨⟨R.val - 256, by omega⟩, Fin.ext (by show R.val = 256 + (R.val - 256); omega)⟩
    rw [late_out, score_late]
    exact Finset.sum_congr rfl fun c _ => by rw [div_den (far_real h0 h1 p g q)]; rfl

end Cert.AttnFwdClaims

end
-- ==== Proof.AttnFwd.lean ====
/-
  The claims about the attention itself: its frames, the rewrite, and the equation of its result with the reference's.
-/
module

public import proofs.«01_k».proof.Defs
public import proofs.«01_k».proof.Proof.Gen.AttnFwd.Frame
public import proofs.«01_k».proof.Proof.Gen.AttnFwdRefIdeal.Run
public import proofs.«01_k».proof.Proof.AttnFwdRef
public import proofs.«01_k».proof.Proof.Finite
public import Idealize.ShloMosaic.Lib.Quiescent

@[expose] public section

noncomputable section

namespace Cert.Pre_finite_qk_fwd

open Idealize.ShloMosaic Cert.ReferenceIdeal.Rows Cert.Pre_finite_qk

theorem facts : Facts := ⟨by decide, by decide, by decide⟩

variable [Facts] (x0 : FVec Ideal S2304x512 .bf16) (x1 x2 : FVec Ideal S2304x256 .bf16)

theorem real_q (h : (fn (F := Ideal) x0 x1 x2).1 = fun _ => 1#1) : RealMat x0 :=
  fun R C => real_of_cmp (congrFun h (ix2 R C))

theorem real_k (h : (fn (F := Ideal) x0 x1 x2).2 = fun _ => 1#1) : RealMat x1 :=
  fun R C => real_of_cmp (congrFun h (ix2 R C))

end Cert.Pre_finite_qk_fwd

namespace Cert.AttnFwdClaims

open Idealize.ShloMosaic Idealize.ShloMosaic.TcCoe Idealize.SL.Sem

instance : Cert.Pre_finite_qk_fwd.Facts := Cert.Pre_finite_qk_fwd.facts

theorem frame : Cert.quiescent_AttnFwd := fun m ρ _ => Cert.AttnFwd.Gen.frame m ρ

theorem frame_ideal : Cert.quiescent_AttnFwdIdeal := fun m ρ _ => Cert.AttnFwdIdeal.Gen.frame m ρ

theorem frame_ideal_pre : Cert.quiescent_AttnFwdIdeal_pre_finite_qk_fwd := fun m ρ _ => Cert.AttnFwdIdeal.Gen.frame m ρ

theorem frame_ref : Cert.quiescent_AttnFwdRefIdeal := fun m ρ _ =>
  (θ_run Cert.AttnFwdRefIdeal.defs _ _).mono
    (fun r h => ⟨fun c => (h c).2, sem_eq_zero_of_no_sems (by decide) r.2⟩) (Cert.AttnFwdRefIdeal.Value.run m ρ)

theorem frame_ref_pre : Cert.quiescent_AttnFwdRefIdeal_pre_finite_qk_fwd := fun m ρ _ => frame_ref m ρ trivial

theorem preserves : Cert.preserves_AttnFwd_AttnFwdIdeal :=
  IdealRules.named_const.statement Cert.AttnFwdIdeal.κ "mask" .f32 0xF149F2CA#32 ⊥ rfl

theorem algebraic : Cert.algebraic_AttnFwdIdeal_AttnFwdRefIdeal_pre_finite_qk_fwd := fun m ρ m' ρ' hpre hargs =>
  ⟨outArr m,
    (θ_run Cert.AttnFwdIdeal.defs _ _).mono
      (fun r h c => ⟨(h c).1.trans (arr3 m c), (h c).2⟩) (Cert.AttnFwdIdeal.Value.run_blocks m ρ),
    (θ_run Cert.AttnFwdRefIdeal.defs _ _).mono
      (fun r h c => by
        obtain ⟨e0, e1, e2⟩ := hargs c
        have hq := Cert.Pre_finite_qk_fwd.real_q _ _ _ (hpre c).1
        have hk := Cert.Pre_finite_qk_fwd.real_k _ _ _ (hpre c).2
        refine ⟨((h c).1.trans (Cert.AttnFwdRefIdeal.Read.val_main_v41_eq m' c)).trans ?_, (h c).2⟩
        rw [e0, e1, e2]
        funext y
        rw [eq_ix2 y]
        exact ref _ hq hk _ _)
      (Cert.AttnFwdRefIdeal.Value.run m' ρ')⟩

end Cert.AttnFwdClaims

end
-- ==== Proof.Norm.lean ====
/-
  The norm of a row over the extended reals: the row less its mean, over the root of its variance.
-/
module

public import proofs.«01_k».proof.Proof.RefRows

@[expose] public section

noncomputable section

namespace Cert.Norm

open Idealize.ShloMosaic

/-- What a norm adds to a variance. -/
def eps : EReal := Ideal.ofBits .f32 0x358637BD#32

variable {n : ℕ} (w : EReal) (x : Fin n → EReal)

/-- The mean of a row, `w` its width. -/
def mean : EReal := Ideal.div (∑ j, x j) w

/-- The row less its mean. -/
def cen (j : Fin n) : EReal := x j - mean w x

/-- The mean of a row's squares. -/
def meanSq : EReal := mean w fun j => x j * x j

/-- The row less its mean, over the root of its variance. -/
def norm (j : Fin n) : EReal := cen w x j * Ideal.rsqrt (meanSq w (cen w x) + eps)

/-- The choice, by a block's row, between the context's value and the latent positions'. -/
theorem pick {α : Type} (a tm r : ℕ) (h : a * tm + r < 2304) (p q : α) :
    Scalar.select (IntOp.cmpi CmpIPredicate.slt (IntOp.addi (Scalar.muli (BitVec.ofNat 32 a) (BitVec.ofNat 32 tm)) (BitVec.ofNat 32 r))
      256#32) p q = if a * tm + r < 256 then p else q := by
  have e : IntOp.addi (Scalar.muli (BitVec.ofNat 32 a) (BitVec.ofNat 32 tm)) (BitVec.ofNat 32 r) = BitVec.ofNat 32 (a * tm + r) := by
    show BitVec.ofNat 32 a * BitVec.ofNat 32 tm + BitVec.ofNat 32 r = _
    rw [BitVec.ofNat_add, BitVec.ofNat_mul]
  rw [e, WordCmp.cmpi_slt_ofNat (by omega) (by omega)]
  by_cases h : a * tm + r < 256 <;> simp [Scalar.select, h]

/-- The row of the modulation that position `R` takes. -/
def side (R : Fin 2304) : Fin 8 := if R.val < 256 then 1 else 0

end Cert.Norm

end
-- ==== Proof.LnFwd.lean ====
/-
  The norm of the layer's input, modulated.
-/
module

public import proofs.«01_k».proof.Defs
public import proofs.«01_k».proof.Proof.Norm
public import proofs.«01_k».proof.Proof.Gen.LnFwd.Frame
public import proofs.«01_k».proof.Proof.Gen.LnFwdIdeal.Value
public import proofs.«01_k».proof.Proof.Gen.LnFwdRefIdeal.Run
public import proofs.«01_k».proof.Proof.Gen.LnFwdRefIdeal.Read
public import Idealize.ShloMosaic.Lib.Pipeline.ValueKit
public import Idealize.ShloMosaic.Lib.Quiescent

@[expose] public section

noncomputable section

namespace Cert.LnFwdClaims

open Cert.LnFwdIdeal Cert.LnFwdIdeal.Gen Idealize.ShloMosaic Idealize.ShloMosaic.TcCoe Idealize.SL.Sem Cert.Norm

theorem norm_at (x : Vec Ideal S256x1024 .f32) (r : Fin 256) (d : Fin 1024) :
    k0_pay3 x (ix2 r d) = norm (Ideal.ofBits .f32 0x44800000#32) (fun j => x (ix2 r j)) d := by
  pointwise [k0_pay3]
  rfl

theorem shift_at (i : grid0.Coords) (ml mc : Vec Ideal S1x3072 .f32) (r : Fin 256) (d : Fin 1024) :
    k0_pay4 i ml mc (ix2 r d) = if (i 0).val * 256 + r.val < 256 then mc (ix2 0 ⟨d.val, by omega⟩) else ml (ix2 0 ⟨d.val, by omega⟩) := by
  pointwise [k0_pay4, k0_pay2]
  exact pick _ _ _ (by have : (i 0).val < 9 := (i 0).isLt; omega) _ _

theorem scale_at (i : grid0.Coords) (ml mc : Vec Ideal S1x3072 .f32) (r : Fin 256) (d : Fin 1024) :
    k0_pay5 i ml mc (ix2 r d)
      = 1 + if (i 0).val * 256 + r.val < 256 then mc (ix2 0 ⟨1024 + d.val, by omega⟩) else ml (ix2 0 ⟨1024 + d.val, by omega⟩) := by
  pointwise [k0_pay5, k0_pay2]
  exact congrArg (fun x : EReal => 1 + x) (pick _ _ _ (by have : (i 0).val < 9 := (i 0).isLt; omega) _ _)

/-- The modulated norm. -/
def modulated (h : S2304x1024.Idx → EReal) (m : S8x3072.Idx → EReal) (R : Fin 2304) (d : Fin 1024) : EReal :=
  norm (Ideal.ofBits .f32 0x44800000#32) (fun j => h (ix2 R j)) d * (1 + m (ix2 (side R) ⟨1024 + d.val, by omega⟩))
    + m (ix2 (side R) ⟨d.val, by omega⟩)

variable (m : (ℓ : Loc nD τ sig) → Buf (Elt Ideal) ℓ)

abbrev H (c : Dev nD) : S2304x1024.Idx → EReal := m ((c : Thread nD τ).loc main_arg0)
abbrev M (c : Dev nD) : S8x3072.Idx → EReal := m ((c : Thread nD τ).loc main_arg1)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem coord : ∀ t : Fin cfg0.N, (grid0.coords t 0).val = t.val := by decide +kernel

theorem t_lt (t : Fin cfg0.N) : t.val < 9 := t.isLt

/-- The position that the block of point `t` has at `r`. -/
def pos (t : ℕ) (r : Fin 256) : Fin 2304 := ⟨t % 9 * 256 + r.val, by omega⟩

theorem blkH (c : Dev nD) (t : Fin cfg0.N) (r : Fin 256) (d : Fin 1024) : iblk m c 0 t (ix2 r d) = H m c (ix2 (pos t.val r) d) := by
  blk_ext [iblk, V, idx0 t] <;> simp only [pos] <;> have := t_lt t <;> omega

theorem blkM (c : Dev nD) (t : Fin cfg0.N) (k : Fin 8) (d : Fin 3072) : iblk m c 1 t (ix2 k d) = M m c (ix2 k d) := by
  blk_ext [iblk, V, idx1 t] <;> omega

theorem row0 (X : Vec Ideal S8x3072 .f32) (k : Fin 3072) : View.ld X r0_1 (ix2 (n0 := 1) (n1 := 3072) 0 k) = X (ix2 0 k) :=
  congrArg (a₁ := r0_1.idx (ix2 0 k)) (a₂ := ix2 0 k) X (funext fun a => match a with
    | ⟨0, _⟩ => Fin.ext rfl | ⟨1, _⟩ => Fin.ext (by show 0 + 1 * k.val = k.val; omega))

theorem row1 (X : Vec Ideal S8x3072 .f32) (k : Fin 3072) : View.ld X r0_2 (ix2 (n0 := 1) (n1 := 3072) 0 k) = X (ix2 1 k) :=
  congrArg (a₁ := r0_2.idx (ix2 0 k)) (a₂ := ix2 1 k) X (funext fun a => match a with
    | ⟨0, _⟩ => Fin.ext rfl | ⟨1, _⟩ => Fin.ext (by show 0 + 1 * k.val = k.val; omega))

/-- The row of the modulation that row `r` of point `i`'s block takes. -/
def bside (a : ℕ) (r : Fin 256) : Fin 8 := if a * 256 + r.val < 256 then 1 else 0

theorem out_at (i : grid0.Coords) (x : Vec Ideal S256x1024 .f32) (y : Vec Ideal S8x3072 .f32) (r : Fin 256) (d : Fin 1024) :
    out0_2 i x y (ix2 r d) = norm (Ideal.ofBits .f32 0x44800000#32) (fun j => x (ix2 r j)) d
        * (1 + y (ix2 (bside (i 0).val r) ⟨1024 + d.val, by omega⟩)) + y (ix2 (bside (i 0).val r) ⟨d.val, by omega⟩) := by
  unfold out0_2
  frame_out
  pointwise [k0_pay1]
  rw [norm_at, scale_at, shift_at]
  unfold bside
  by_cases h : (i 0).val * 256 + r.val < 256
  · simp only [h, if_true]
    exact congrArg₂ (fun a b : EReal => norm (Ideal.ofBits .f32 0x44800000#32) (fun j => x (ix2 r j)) d * (1 + a) + b)
      (row1 y ⟨1024 + d.val, by omega⟩) (row1 y ⟨d.val, by omega⟩)
  · simp only [h, if_false]
    exact congrArg₂ (fun a b : EReal => norm (Ideal.ofBits .f32 0x44800000#32) (fun j => x (ix2 r j)) d * (1 + a) + b)
      (row0 y ⟨1024 + d.val, by omega⟩) (row0 y ⟨d.val, by omega⟩)

theorem block (c : Dev nD) (t : Fin cfg0.N) (r : Fin 256) (d : Fin 1024) :
    out0_2 (grid0.coords t) (iblk m c 0 t) (iblk m c 1 t) (ix2 r d) = modulated (H m c) (M m c) (pos t.val r) d := by
  refine (out_at _ _ _ r d).trans ?_
  have hs : bside (grid0.coords t 0).val r = side (pos t.val r) := by
    have := t_lt t
    rw [coord]; simp only [bside, side, pos, show t.val % 9 = t.val by omega]
  simp only [hs, blkH, blkM]
  rfl

theorem arr2 (c : Dev nD) : (dats m 0 c).arrAt 2 cfg0.N = fun y => modulated (H m c) (M m c) (y 0) (y 1) := by
  refine (dats m 0 c).arrAt_eq_of_covers 2 _ (by decide +kernel) fun t hf y => ?_
  blk_simp
  rw [after0_2]
  obtain ⟨a, b, rfl⟩ : ∃ (a : Fin 256) (b : Fin 1024), y = ix2 a b := ⟨y 0, y 1, eq_ix2 y⟩
  have emb : ((View.whole main_v0).slice (win0_2.rect t)).emb (ix2 a b) = ix2 (pos t.val a) b := by
    blk_ext [idx2 t] <;> simp only [pos] <;> have := t_lt t <;> omega
  rw [emb]
  exact block m c t a b

open Cert.LnFwdRefIdeal.Read Cert.ReferenceIdeal.Rows Cert.Row

theorem early (h : S2304x1024.Idx → EReal) (q : S8x3072.Idx → EReal) (r : Fin 256) (d : Fin 1024) :
    val_main_v64 (F := Ideal) h q (ix2 (wide r) d) = modulated h q (wide r) d := by
  have e : ∀ r d, val_main_v23 (F := Ideal) h (ix2 r d) = norm (Ideal.ofBits .f32 0x44800000#32) (fun j => h (ix2 (wide r) j)) d := by
    intro r d
    pointwise [val_main_v23, val_main_v22, val_main_v21, val_main_v20, val_main_v19, val_main_cst_3, val_main_v18, val_main_v17,
      val_main_v16, val_main_v15, val_main_cst_2, val_main_v14, val_main_v13, val_main_v12, val_main_v11, val_main_v10,
      val_main_v9, val_main_v8, val_main_cst_0, val_main_cst_1, val_main_v7, val_main_v6, val_main_cst, val_main_v0]
    rfl
  unfold val_main_v64 val_main_v31 val_main_v30 val_main_v29 val_main_v28 val_main_v27 val_main_v26 val_main_v25 val_main_v24
    val_main_cst_4 val_main_v4 val_main_v3 val_main_v2 val_main_v1
  generalize val_main_v23 (F := Ideal) h = a at e ⊢
  generalize val_main_v63 (F := Ideal) h q = b
  pointwise
  rw [e]
  simp only [modulated, side, r.isLt, if_true]

theorem after (h : S2304x1024.Idx → EReal) (q : S8x3072.Idx → EReal) (r : Fin 2048) (d : Fin 1024) :
    val_main_v64 (F := Ideal) h q (ix2 (late r) d) = modulated h q (late r) d := by
  have e : ∀ r d, val_main_v55 (F := Ideal) h (ix2 r d) = norm (Ideal.ofBits .f32 0x44800000#32) (fun j => h (ix2 (late r) j)) d := by
    intro r d
    pointwise [val_main_v55, val_main_v54, val_main_v53, val_main_v52, val_main_v51, val_main_cst_9, val_main_v50, val_main_v49,
      val_main_v48, val_main_v47, val_main_cst_8, val_main_v46, val_main_v45, val_main_v44, val_main_v43, val_main_v42,
      val_main_v41, val_main_v40, val_main_cst_6, val_main_cst_7, val_main_v39, val_main_v38, val_main_cst_5, val_main_v32]
    rfl
  unfold val_main_v64 val_main_v63 val_main_v62 val_main_v61 val_main_v60 val_main_v59 val_main_v58 val_main_v57 val_main_v56
    val_main_cst_10 val_main_v36 val_main_v35 val_main_v34 val_main_v33
  generalize val_main_v55 (F := Ideal) h = a at e ⊢
  generalize val_main_v31 (F := Ideal) h q = b
  pointwise
  have hq := r.isLt
  have e' : (late r).val = 256 + r.val := rfl
  have e'' : (⟨(late r).val - 256, by omega⟩ : Fin 2048) = r := Fin.ext (by show (late r).val - 256 = r.val; omega)
  rw [dif_neg (by omega), e'', e]
  simp only [modulated, side, show ¬(late r).val < 256 by omega, if_false]

theorem ref (h : S2304x1024.Idx → EReal) (q : S8x3072.Idx → EReal) (R : Fin 2304) (d : Fin 1024) :
    val_main_v65 (F := Ideal) h q (ix2 R d) = modulated h q R d := by
  refine Eq.trans (b := val_main_v64 (F := Ideal) h q (ix2 R d)) rfl ?_
  by_cases hR : R.val < 256
  · exact early h q ⟨R.val, hR⟩ d
  · obtain ⟨r, rfl⟩ : ∃ r : Fin 2048, R = late r := ⟨⟨R.val - 256, by omega⟩, Fin.ext (by show R.val = 256 + (R.val - 256); omega)⟩
    exact after h q r d

theorem frame : Cert.quiescent_LnFwd := fun m ρ _ => Cert.LnFwd.Gen.frame m ρ

theorem frame_ideal : Cert.quiescent_LnFwdIdeal := fun m ρ _ => Cert.LnFwdIdeal.Gen.frame m ρ

theorem frame_ref : Cert.quiescent_LnFwdRefIdeal := fun m ρ _ =>
  (θ_run Cert.LnFwdRefIdeal.defs _ _).mono
    (fun r h => ⟨fun c => (h c).2, sem_eq_zero_of_no_sems (by decide) r.2⟩) (Cert.LnFwdRefIdeal.Value.run m ρ)

theorem algebraic : Cert.algebraic_LnFwdIdeal_LnFwdRefIdeal := fun m ρ m' ρ' _ hargs =>
  ⟨fun c y => modulated (H m c) (M m c) (y 0) (y 1),
    (θ_run Cert.LnFwdIdeal.defs _ _).mono
      (fun r h c => ⟨(h c).1.trans (arr2 m c), (h c).2⟩) (Cert.LnFwdIdeal.Value.run_blocks m ρ),
    (θ_run Cert.LnFwdRefIdeal.defs _ _).mono
      (fun r h c => by
        obtain ⟨e0, e1⟩ := hargs c
        refine ⟨((h c).1.trans (Cert.LnFwdRefIdeal.Read.val_main_v65_eq m' c)).trans ?_, (h c).2⟩
        rw [e0, e1]
        funext y
        rw [eq_ix2 y]
        exact ref _ _ _ _)
      (Cert.LnFwdRefIdeal.Value.run m' ρ')⟩

end Cert.LnFwdClaims

end
-- ==== Proof.NormGrad.lean ====
/-
  The gradient of the norm of a row, and the finiteness that its two readings need to agree.
-/
module

public import proofs.«01_k».proof.Proof.Norm
public import Idealize.ShloMosaic.Lib.Pipeline.ValueKit

@[expose] public section

noncomputable section

namespace Cert.Norm

open Idealize.ShloMosaic

/-- The value is a real number. -/
def IsReal (x : EReal) : Prop := ∃ r : ℝ, x = (r : EReal)

/-- The value is a positive real number. -/
def IsPos (x : EReal) : Prop := ∃ r : ℝ, 0 < r ∧ x = (r : EReal)

namespace IsReal

variable {x y : EReal}

theorem add : IsReal x → IsReal y → IsReal (x + y) := fun ⟨a, ha⟩ ⟨b, hb⟩ => ⟨a + b, by rw [ha, hb]; rfl⟩

theorem mul : IsReal x → IsReal y → IsReal (x * y) := fun ⟨a, ha⟩ ⟨b, hb⟩ => ⟨a * b, by rw [ha, hb]; rfl⟩

theorem neg : IsReal x → IsReal (-x) := fun ⟨a, ha⟩ => ⟨-a, by rw [ha]; rfl⟩

theorem sub : IsReal x → IsReal y → IsReal (x - y) := fun ⟨a, ha⟩ ⟨b, hb⟩ => ⟨a - b, by rw [ha, hb]; rfl⟩

theorem sum {ι : Type} [Fintype ι] {f : ι → EReal} (h : ∀ i, IsReal (f i)) : IsReal (∑ i, f i) := by
  classical
  refine Finset.sum_induction f IsReal (fun _ _ => add) ⟨0, rfl⟩ fun i _ => h i

theorem of_pos : IsPos x → IsReal x := fun ⟨r, _, h⟩ => ⟨r, h⟩

theorem div (hx : IsReal x) : IsPos y → IsReal (Ideal.div x y) := fun ⟨b, h0, hb⟩ => by
  obtain ⟨a, ha⟩ := hx
  have h : y ≠ 0 := by rw [hb]; exact_mod_cast h0.ne'
  unfold Ideal.div
  rw [if_neg h, ha, hb]
  exact ⟨a * b⁻¹, by rw [EReal.coe_mul, EReal.coe_inv]⟩

theorem neg_add (hx : IsReal x) (hy : IsReal y) : -(x + y) = -x + -y := by
  obtain ⟨a, rfl⟩ := hx
  obtain ⟨b, rfl⟩ := hy
  rw [← EReal.coe_add, ← EReal.coe_neg, ← EReal.coe_neg, ← EReal.coe_neg, ← EReal.coe_add, _root_.neg_add]

end IsReal

theorem IsPos.rsqrt {x : EReal} : IsPos x → IsPos (Ideal.rsqrt x) := fun ⟨r, h, e⟩ =>
  ⟨(Real.sqrt r)⁻¹, inv_pos.2 (Real.sqrt_pos.2 h), by rw [e, Ideal.rsqrt_coe, if_neg (not_lt.2 h.le), if_neg h.ne']⟩

theorem eps_eq : eps = ((8796093 * 2 ^ (-43 : ℤ) : ℝ) : EReal) := by
  unfold eps; simp [Ideal.ofBits, Ideal.ieee]

theorem eps_pos : IsPos eps := ⟨_, by positivity, eps_eq⟩

theorem add_self (y : EReal) : y + y = ((2 : ℝ) : EReal) * y := by
  induction y using EReal.rec with
  | bot => rw [EReal.coe_mul_bot_of_pos (by norm_num)]; rfl
  | top => rw [EReal.coe_mul_top_of_pos (by norm_num)]; rfl
  | coe r => rw [← EReal.coe_add, ← EReal.coe_mul, two_mul]

variable {n : ℕ} (w : EReal) (x g : Fin n → EReal)

/-- The variance, as the norm takes it. -/
def spread : EReal := meanSq w (cen w x) + eps

/-- How the norm's root moves with the variance. -/
def rate : EReal := Ideal.ofBits .f32 0xBF000000#32 * Ideal.div (Ideal.rsqrt (spread w x)) (spread w x)

/-- What the variance hands back to each centred entry's square. -/
def pull : EReal := Ideal.div ((∑ j, cen w x j * g j) * rate w x) w

/-- The norm's gradient at a cotangent. -/
def grad (j : Fin n) : EReal :=
  g j * Ideal.rsqrt (spread w x) + pull w x g * (Ideal.ofBits .f32 0x40000000#32 * cen w x j)
    + Ideal.div ((∑ k, -(g k * Ideal.rsqrt (spread w x))) + ∑ k, -(pull w x g * (Ideal.ofBits .f32 0x40000000#32 * cen w x k))) w

variable {w x g} (hw : IsPos w) (hx : ∀ j, IsReal (x j)) (hg : ∀ j, IsReal (g j))

include hw hx

theorem real_cen (j : Fin n) : IsReal (cen w x j) := (hx j).sub ((IsReal.sum hx).div hw)

theorem pos_spread : IsPos (spread w x) := by
  choose c hc using real_cen hw hx
  obtain ⟨u, hu, rfl⟩ := hw
  obtain ⟨e, he, h⟩ := eps_pos
  refine ⟨(∑ j, c j * c j) * u⁻¹ + e, add_pos_of_nonneg_of_pos (mul_nonneg (Finset.sum_nonneg fun j _ => mul_self_nonneg _)
    (inv_pos.2 hu).le) he, ?_⟩
  have hne : (u : EReal) ≠ 0 := by exact_mod_cast hu.ne'
  unfold spread meanSq mean Ideal.div
  rw [if_neg hne, h, Finset.sum_congr rfl fun j _ => show cen (u : EReal) x j * cen (u : EReal) x j = ((c j * c j : ℝ) : EReal) by rw [hc, EReal.coe_mul]]
  rw [EReal.coe_add, EReal.coe_mul, EReal.coe_inv, Cert.Row.sum_coe]

theorem real_root : IsReal (Ideal.rsqrt (spread w x)) := .of_pos (pos_spread hw hx).rsqrt

theorem real_norm (j : Fin n) : IsReal (norm w x j) := (real_cen hw hx j).mul (real_root hw hx)

theorem real_rate : IsReal (rate w x) := by
  refine IsReal.mul ⟨-(1 / 2), ?_⟩ ((real_root hw hx).div (pos_spread hw hx))
  simp [Ideal.ofBits, Ideal.ieee]; rw [← EReal.coe_mul]; norm_num

include hg

theorem real_pull : IsReal (pull w x g) :=
  ((IsReal.sum fun j => (real_cen hw hx j).mul (hg j)).mul (real_rate hw hx)).div hw

omit hw hx hg in
theorem twice (a b : EReal) : b * a + a * b = a * (Ideal.ofBits .f32 0x40000000#32 * b) := by
  have e : Ideal.ofBits .f32 0x40000000#32 = ((2 : ℝ) : EReal) := by
    simp [Ideal.ofBits, Ideal.ieee]; rw [← EReal.coe_mul]; norm_num
  rw [e, mul_comm b a, mul_left_comm, add_self]

theorem real_turn (j : Fin n) : IsReal (pull w x g * (Ideal.ofBits .f32 0x40000000#32 * cen w x j)) := by
  rw [← twice]
  exact ((real_cen hw hx j).mul (real_pull hw hx hg)).add ((real_pull hw hx hg).mul (real_cen hw hx j))

/-- The gradient with the two pulls of an entry apart and one sum over the row. -/
theorem grad_of (j : Fin n) :
    (g j * Ideal.rsqrt (spread w x) + cen w x j * pull w x g + pull w x g * cen w x j)
      + Ideal.div (∑ k, -(g k * Ideal.rsqrt (spread w x) + cen w x k * pull w x g + pull w x g * cen w x k)) w = grad w x g j := by
  unfold grad
  simp only [add_assoc, twice]
  rw [Finset.sum_congr rfl fun k _ => ((hg k).mul (real_root hw hx)).neg_add (real_turn hw hx hg k), Finset.sum_add_distrib]

theorem real_grad (j : Fin n) : IsReal (grad w x g j) :=
  (((hg j).mul (real_root hw hx)).add (real_turn hw hx hg j)).add
    (((IsReal.sum fun k => ((hg k).mul (real_root hw hx)).neg).add (IsReal.sum fun k => (real_turn hw hx hg k).neg)).div hw)

end Cert.Norm

end
-- ==== Proof.LnBwdValue.lean ====
/-
  The norm's backward pass: what the body leaves in a block of rows, and in the block's rows of the modulation's gradient.
-/
module

public import proofs.«01_k».proof.Proof.NormGrad
public import proofs.«01_k».proof.Proof.Gen.LnBwdIdeal.Value
public import Idealize.ShloMosaic.Lib.Pipeline.ValueKit

@[expose] public section

noncomputable section

namespace Cert.LnBwdClaims

open Cert.LnBwdIdeal Cert.LnBwdIdeal.Gen Idealize.ShloMosaic Idealize.ShloMosaic.TcCoe Idealize.SL.Sem Cert.Norm

abbrev wide : EReal := Ideal.ofBits .f32 0x44800000#32

theorem cen_at (x : Vec Ideal S256x1024 .f32) (r : Fin 256) (d : Fin 1024) :
    k0_pay6 x (ix2 r d) = cen wide (fun j => x (ix2 r j)) d := by
  pointwise [k0_pay6]
  rfl

theorem root_at (x : Vec Ideal S256x1024 .f32) (r : Fin 256) :
    k0_pay8 x (ix2 r 0) = Ideal.rsqrt (spread wide (fun j => x (ix2 r j))) := by
  pointwise [k0_pay8, k0_pay7, k0_pay6]
  rfl

theorem rate_at (x : Vec Ideal S256x1024 .f32) (r : Fin 256) :
    k0_pay9 x (ix2 r 0) = rate wide (fun j => x (ix2 r j)) := by
  pointwise [k0_pay9, k0_pay8, k0_pay7, k0_pay6]
  rfl

theorem norm_at (x : Vec Ideal S256x1024 .f32) (r : Fin 256) (d : Fin 1024) :
    k0_pay10 x (ix2 r d) = norm wide (fun j => x (ix2 r j)) d := by
  pointwise [k0_pay10, k0_pay8, k0_pay7, k0_pay6]
  rfl

theorem scale_at (i : grid0.Coords) (ml mc : Vec Ideal S1x3072 .f32) (r : Fin 256) (d : Fin 1024) :
    k0_pay13 i ml mc (ix2 r d)
      = 1 + if (i 0).val * 256 + r.val < 256 then mc (ix2 0 ⟨1024 + d.val, by omega⟩) else ml (ix2 0 ⟨1024 + d.val, by omega⟩) := by
  pointwise [k0_pay13, k0_pay12, k0_pay5]
  exact congrArg (fun x : EReal => 1 + x) (pick _ _ _ (by have : (i 0).val < 9 := (i 0).isLt; omega) _ _)

theorem pay21 (xc : FVec Ideal S256x1024 .f32) (rt rr : FVec Ideal S256x1 .f32) (sc : FVec Ideal S256x1024 .f32) (u : Vec Ideal S256x1024 .f32)
    (r : Fin 256) (d : Fin 1024) :
    k0_pay21 xc rt rr sc u (ix2 r d) = u (ix2 r d) * sc (ix2 r d) * rt (ix2 r 0)
        + xc (ix2 r d) * Ideal.div ((∑ j, xc (ix2 r j) * (u (ix2 r j) * sc (ix2 r j))) * rr (ix2 r 0)) wide
        + Ideal.div ((∑ j, xc (ix2 r j) * (u (ix2 r j) * sc (ix2 r j))) * rr (ix2 r 0)) wide * xc (ix2 r d) := by
  pointwise [k0_pay21, k0_pay14]
  simp only [Fin.sum_univ_one]

theorem pay1 (b : FVec Ideal S256x1024 .f32) (u : Vec Ideal S256x1024 .f32) (r : Fin 256) (d : Fin 1024) :
    k0_pay1 b u (ix2 r d) = b (ix2 r d) + Ideal.div (∑ j, -b (ix2 r j)) wide + u (ix2 r d) := by
  pointwise [k0_pay1]
  simp only [Fin.sum_univ_one, zero_sub]

theorem pay2 (v : FVec Ideal S1x3072 .f32) (e : Fin 3072) : k0_pay2 v (ix3 0 0 e) = v (ix2 0 e) := by pointwise [k0_pay2]

theorem pay3 (v : FVec Ideal S1x3072 .f32) (e : Fin 3072) : k0_pay3 v (ix3 0 0 e) = v (ix2 0 e) := by pointwise [k0_pay3]

theorem pay4 (k : Fin 6) (e : Fin 3072) : k0_pay4 (F := Ideal) (ix3 0 k e) = 0 := by pointwise [k0_pay4]

/-- A block's summand of the modulation's gradient. -/
def summand (n u : Fin 256 → Fin 1024 → EReal) (e : Fin 3072) : EReal :=
  if h : e.val < 1024 then ∑ r, u r ⟨e.val, h⟩
  else if h' : e.val < 2048 then ∑ r, n r ⟨e.val - 1024, by omega⟩ * u r ⟨e.val - 1024, by omega⟩
  else 0

theorem summand_of (n u : Fin 256 → Fin 1024 → EReal) (e : Fin 3072) :
    ((if h : e.val < 2048 then
        if h : e.val < 1024 then (0 : EReal) else ∑ r, n r ⟨e.val - 1024, by omega⟩ * u r ⟨e.val - 1024, by omega⟩
      else 0) + if h : e.val < 1024 then ∑ r, u r ⟨e.val, h⟩ else 0) = summand n u e := by
  unfold summand
  by_cases h : e.val < 1024
  · rw [dif_pos (by omega), dif_pos h, dif_pos h, dif_pos h, zero_add]
  · rw [dif_neg h, dif_neg h, add_zero]
    by_cases h' : e.val < 2048
    · rw [dif_pos h', dif_neg h, dif_pos h']
    · rw [dif_neg h', dif_neg h']

/-- The rows' side, as the body's masks carry it. -/
theorem mask_at (i : grid0.Coords) (r : Fin 256) (d : Fin 1024) (p q : EReal) :
    Scalar.select (k0_pay11 i (ix2 r d)) p q = if (i 0).val = 0 then p else q := by
  pointwise [k0_pay11, k0_pay5]
  refine (pick (i 0).val 256 r.val (by have : (i 0).val < 9 := (i 0).isLt; omega) p q).trans ?_
  by_cases h : (i 0).val = 0
  · rw [if_pos (by omega), if_pos h]
  · rw [if_neg (by omega), if_neg h]

theorem mask_at' (i : grid0.Coords) (r : Fin 256) (d : Fin 1024) (p q : EReal) :
    Scalar.select (k0_pay12 i (ix2 r d)) p q = if (i 0).val = 0 then p else q := mask_at i r d p q

variable (n : FVec Ideal S256x1024 .f32) (a b : IVec S256x1024 1) (u : Vec Ideal S256x1024 .f32) (A : Prop) [Decidable A]
  (ha : ∀ r d (p q : EReal), Scalar.select (a (ix2 r d)) p q = if A then p else q)
  (hb : ∀ r d (p q : EReal), Scalar.select (b (ix2 r d)) p q = if A then p else q)

include ha hb

theorem pay19 (e : Fin 3072) :
    k0_pay19 n a b u (ix2 0 e) = if A then 0 else summand (fun r j => n (ix2 r j)) (fun r j => u (ix2 r j)) e := by
  pointwise [k0_pay19, k0_pay15, k0_pay16, k0_pay17, k0_pay18, k0_pay14]
  simp only [ha, hb]
  by_cases h : A
  · simp only [if_pos h, Finset.sum_const_zero, dite_eq_ite, ite_self, add_zero]
  · simp only [if_neg h]
    exact summand_of (fun r j => n (ix2 r j)) (fun r j => u (ix2 r j)) e

theorem pay20 (e : Fin 3072) :
    k0_pay20 n a b u (ix2 0 e) = if A then summand (fun r j => n (ix2 r j)) (fun r j => u (ix2 r j)) e else 0 := by
  pointwise [k0_pay20, k0_pay15, k0_pay16, k0_pay17, k0_pay18, k0_pay14]
  simp only [ha, hb]
  by_cases h : A
  · simp only [if_pos h]
    exact summand_of (fun r j => n (ix2 r j)) (fun r j => u (ix2 r j)) e
  · simp only [if_neg h, Finset.sum_const_zero, dite_eq_ite, ite_self, add_zero]

omit ha hb

/-- Two rows and the rest, read back. -/
theorem rows_at (z : Vec Ideal S1x6x3072 .f32) (p q : Vec Ideal S1x1x3072 .f32) (k : Fin 8) (e : Fin 3072) (v : EReal)
    (h0 : k.val = 0 → q (ix3 0 0 e) = v) (h1 : k.val = 1 → p (ix3 0 0 e) = v) (h2 : ∀ k' : Fin 6, k.val = k'.val + 2 → z (ix3 0 k' e) = v) :
    View.canon (Val := Elt Ideal) (s := S1x8x3072) (e := .f32)
      [⟨Rect.unit ![0, 2, 0] ![1, 6, 3072] inb_S1x8x3072_S1x6x3072_0_2_0, z⟩,
        ⟨Rect.unit ![0, 1, 0] ![1, 1, 3072] inb_S1x8x3072_S1x1x3072_0_1_0, p⟩,
        ⟨Rect.unit ![0, 0, 0] ![1, 1, 3072] inb_S1x8x3072_S1x1x3072_0_0_0, q⟩] (ix3 0 k e) = v := by
  refine View.canon_eq_of_allAt _ _ _ (View.cover_of_tiledBy _ ![1, 1, 3072] (by sl_kernel_rfl) _)
    (View.allAt_cons_unit _ _ _ _ _ (fun x hx => ?_) (View.allAt_cons_unit _ _ _ _ _ (fun x hx => ?_)
      (View.allAt_cons_unit _ _ _ _ _ (fun x hx => ?_) (View.allAt_nil _ _))))
  · obtain ⟨i, k', e', rfl⟩ : ∃ (i : Fin 1) (k' : Fin 6) (e' : Fin 3072), x = ix3 i k' e' := ⟨x 0, x 1, x 2, eq_ix3 x⟩
    obtain rfl : i = 0 := Subsingleton.elim _ _
    have e1 : k.val = 2 + k'.val := hx 1
    have e2 : e.val = 0 + e'.val := hx 2
    obtain rfl : e = e' := Fin.ext (by omega)
    exact h2 k' (by omega)
  · obtain ⟨i, k', e', rfl⟩ : ∃ (i k' : Fin 1) (e' : Fin 3072), x = ix3 i k' e' := ⟨x 0, x 1, x 2, eq_ix3 x⟩
    obtain rfl : i = 0 := Subsingleton.elim _ _
    obtain rfl : k' = 0 := Subsingleton.elim _ _
    have e1 : k.val = 1 + 0 := hx 1
    have e2 : e.val = 0 + e'.val := hx 2
    obtain rfl : e = e' := Fin.ext (by omega)
    exact h1 (by omega)
  · obtain ⟨i, k', e', rfl⟩ : ∃ (i k' : Fin 1) (e' : Fin 3072), x = ix3 i k' e' := ⟨x 0, x 1, x 2, eq_ix3 x⟩
    obtain rfl : i = 0 := Subsingleton.elim _ _
    obtain rfl : k' = 0 := Subsingleton.elim _ _
    have e1 : k.val = 0 + 0 := hx 1
    have e2 : e.val = 0 + e'.val := hx 2
    obtain rfl : e = e' := Fin.ext (by omega)
    exact h0 (by omega)

end Cert.LnBwdClaims

end
-- ==== Proof.LnBwdArray.lean ====
/-
  The backward pass of the norm of the layer's input: its frames, and the equation of its results with the reference's.
-/
module

public import proofs.«01_k».proof.Defs
public import proofs.«01_k».proof.Proof.Finite
public import proofs.«01_k».proof.Proof.LnBwdValue
public import proofs.«01_k».proof.Proof.Gen.LnBwd.Frame
public import proofs.«01_k».proof.Proof.Gen.LnBwdRefIdeal.Run
public import proofs.«01_k».proof.Proof.Gen.LnBwdRefIdeal.Read
public import Idealize.ShloMosaic.Lib.Quiescent

@[expose] public section

noncomputable section

namespace Cert.Pre_finite_ln

open Idealize.ShloMosaic Cert.Pre_finite_qk Cert.Norm

theorem facts : Facts := ⟨by decide, by decide⟩

end Cert.Pre_finite_ln

namespace Cert.LnBwdClaims

open Cert.LnBwdIdeal Cert.LnBwdIdeal.Gen Idealize.ShloMosaic Idealize.ShloMosaic.TcCoe Idealize.SL.Sem Cert.Norm

instance : Cert.Pre_finite_ln.Facts := Cert.Pre_finite_ln.facts

theorem wide_pos : IsPos wide :=
  ⟨1024, by norm_num, by simp [wide, Ideal.ofBits, Ideal.ieee]; rw [← EReal.coe_mul]; norm_num⟩

/-- The cotangent of the norm itself at position `R`. -/
def cot (du : S2304x1024.Idx → EReal) (q : S8x3072.Idx → EReal) (R : Fin 2304) (d : Fin 1024) : EReal :=
  du (ix2 R d) * (1 + q (ix2 (side R) ⟨1024 + d.val, by omega⟩))

/-- The layer's input's gradient, with what the residual path brings. -/
def dh (du h res : S2304x1024.Idx → EReal) (q : S8x3072.Idx → EReal) (R : Fin 2304) (d : Fin 1024) : EReal :=
  grad wide (fun j => h (ix2 R j)) (cot du q R) d + res (ix2 R d)

/-- The position that the block `t` has at `r`. -/
def pos (t : ℕ) (r : Fin 256) : Fin 2304 := ⟨t % 9 * 256 + r.val, by omega⟩

/-- The block's summand of the gradient of the modulation of its side. -/
def part (du h : S2304x1024.Idx → EReal) (t : ℕ) (e : Fin 3072) : EReal :=
  summand (fun r => norm wide fun j => h (ix2 (pos t r) j)) (fun r j => du (ix2 (pos t r) j)) e

/-- The block's summands: the latent positions', the context's, and none. -/
def dm (du h : S2304x1024.Idx → EReal) (t : Fin 9) (k : Fin 8) (e : Fin 3072) : EReal :=
  if k.val = 0 then if t.val = 0 then 0 else part du h t.val e
  else if k.val = 1 then if t.val = 0 then part du h t.val e else 0
  else 0

variable (m : (ℓ : Loc nD τ sig) → Buf (Elt Ideal) ℓ)

abbrev DU (c : Dev nD) : S2304x1024.Idx → EReal := m ((c : Thread nD τ).loc main_arg0)
abbrev H (c : Dev nD) : S2304x1024.Idx → EReal := m ((c : Thread nD τ).loc main_arg1)
abbrev Res (c : Dev nD) : S2304x1024.Idx → EReal := m ((c : Thread nD τ).loc main_arg2)
abbrev M (c : Dev nD) : S8x3072.Idx → EReal := m ((c : Thread nD τ).loc main_arg3)

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![0, 0] := by decide +kernel
theorem idx4 : ∀ t : Fin cfg0.N, win0_4.index t = ![t.val, 0] := by decide +kernel
theorem idx5 : ∀ t : Fin cfg0.N, win0_5.index t = ![t.val, 0, 0] := by decide +kernel
theorem coord : ∀ t : Fin cfg0.N, (grid0.coords t 0).val = t.val := by decide +kernel

theorem t_lt (t : Fin cfg0.N) : t.val < 9 := t.isLt

theorem blkU (c : Dev nD) (t : Fin cfg0.N) (r : Fin 256) (d : Fin 1024) : iblk m c 0 t (ix2 r d) = DU m c (ix2 (pos t.val r) d) := by
  blk_ext [iblk, V, idx0 t] <;> simp only [pos] <;> have := t_lt t <;> omega

theorem blkH (c : Dev nD) (t : Fin cfg0.N) (r : Fin 256) (d : Fin 1024) : iblk m c 1 t (ix2 r d) = H m c (ix2 (pos t.val r) d) := by
  blk_ext [iblk, V, idx1 t] <;> simp only [pos] <;> have := t_lt t <;> omega

theorem blkR (c : Dev nD) (t : Fin cfg0.N) (r : Fin 256) (d : Fin 1024) : iblk m c 2 t (ix2 r d) = Res m c (ix2 (pos t.val r) d) := by
  blk_ext [iblk, V, idx2 t] <;> simp only [pos] <;> have := t_lt t <;> omega

theorem blkM (c : Dev nD) (t : Fin cfg0.N) (k : Fin 8) (d : Fin 3072) : iblk m c 3 t (ix2 k d) = M m c (ix2 k d) := by
  blk_ext [iblk, V, idx3 t] <;> omega

theorem row0 (X : Vec Ideal S8x3072 .f32) (k : Fin 3072) :
    View.ld X (Rect.unit ![0, 0] ![1, 3072] inb_S8x3072_S1x3072_0_0) (ix2 (n0 := 1) (n1 := 3072) 0 k) = X (ix2 0 k) :=
  View.ld_unit_apply_of _ _ _ _ _ _ fun a => match a with | ⟨0, _⟩ => rfl | ⟨1, _⟩ => (Nat.zero_add _).symm

theorem row1 (X : Vec Ideal S8x3072 .f32) (k : Fin 3072) :
    View.ld X (Rect.unit ![1, 0] ![1, 3072] inb_S8x3072_S1x3072_1_0) (ix2 (n0 := 1) (n1 := 3072) 0 k) = X (ix2 1 k) :=
  View.ld_unit_apply_of _ _ _ _ _ _ fun a => match a with | ⟨0, _⟩ => rfl | ⟨1, _⟩ => (Nat.zero_add _).symm

/-- The row of the modulation that row `r` of point `i`'s block takes. -/
def bside (a : ℕ) (r : Fin 256) : Fin 8 := if a * 256 + r.val < 256 then 1 else 0

/-- A block's input's gradient, from the block's rows. -/
theorem out_at (i : grid0.Coords) (u x s : Vec Ideal S256x1024 .f32) (y : Vec Ideal S8x3072 .f32) (r : Fin 256) (d : Fin 1024)
    (hx : ∀ r j, IsReal (x (ix2 r j))) (hu : ∀ r j, IsReal (u (ix2 r j))) (hy : ∀ k j, IsReal (y (ix2 k j))) :
    k0_pay1 (k0_pay21 (k0_pay6 x) (k0_pay8 x) (k0_pay9 x)
        (k0_pay13 i (View.ld y (Rect.unit ![0, 0] ![1, 3072] inb_S8x3072_S1x3072_0_0))
          (View.ld y (Rect.unit ![1, 0] ![1, 3072] inb_S8x3072_S1x3072_1_0))) u) s (ix2 r d)
      = grad wide (fun j => x (ix2 r j)) (fun j => u (ix2 r j) * (1 + y (ix2 (bside (i 0).val r) ⟨1024 + j.val, by omega⟩))) d + s (ix2 r d) := by
  have sc : ∀ j, k0_pay13 i (View.ld y (Rect.unit ![0, 0] ![1, 3072] inb_S8x3072_S1x3072_0_0))
          (View.ld y (Rect.unit ![1, 0] ![1, 3072] inb_S8x3072_S1x3072_1_0)) (ix2 r j)
        = 1 + y (ix2 (bside (i 0).val r) ⟨1024 + j.val, by omega⟩) := fun j => by
    rw [scale_at]
    unfold bside
    by_cases h : (i 0).val * 256 + r.val < 256
    · simp only [h, if_true]; exact congrArg (fun a : EReal => 1 + a) (row1 y _)
    · simp only [h, if_false]; exact congrArg (fun a : EReal => 1 + a) (row0 y _)
  rw [pay1]
  simp only [pay21, sc, cen_at, root_at, rate_at]
  have G := grad_of (w := wide) (x := fun j => x (ix2 r j)) (g := fun j => u (ix2 r j) * (1 + y (ix2 (bside (i 0).val r) ⟨1024 + j.val, by omega⟩)))
    wide_pos (fun j => hx r j) (fun j => (hu r j).mul (IsReal.add ⟨1, rfl⟩ (hy _ _))) d
  unfold pull at G
  rw [← G]

variable (hh : ∀ c i, IsReal (H m c i)) (hu : ∀ c i, IsReal (DU m c i)) (hq : ∀ c i, IsReal (M m c i))

include hh hu hq in
theorem arr4 (c : Dev nD) : (dats m 0 c).arrAt 4 cfg0.N = fun y => dh (DU m c) (H m c) (Res m c) (M m c) (y 0) (y 1) := by
  refine (dats m 0 c).arrAt_eq_of_covers 4 _ (by decide +kernel) fun t hf y => ?_
  blk_simp
  rw [after0_4]
  obtain ⟨a, b, rfl⟩ : ∃ (a : Fin 256) (b : Fin 1024), y = ix2 a b := ⟨y 0, y 1, eq_ix2 y⟩
  have emb : ((View.whole main_v0_0).slice (win0_4.rect t)).emb (ix2 a b) = ix2 (pos t.val a) b := by
    blk_ext [idx4 t] <;> simp only [pos] <;> have := t_lt t <;> omega
  rw [emb]
  simp only [outsAt0]
  frame_out
  refine (out_at (grid0.coords t) (iblk m c 0 t) (iblk m c 1 t) (iblk m c 2 t) (iblk m c 3 t) a b (fun r j => by rw [blkH]; exact hh c _)
    (fun r j => by rw [blkU]; exact hu c _) (fun k j => by rw [blkM]; exact hq c _)).trans ?_
  have hs : bside (grid0.coords t 0).val a = side (pos t.val a) := by
    have := t_lt t
    rw [coord]; simp only [bside, side, pos, show t.val % 9 = t.val by omega]
  simp only [hs, blkH, blkM, blkU, blkR]
  rfl

theorem arr5 (c : Dev nD) : (dats m 0 c).arrAt 5 cfg0.N = fun y => dm (DU m c) (H m c) (y 0) (y 1) (y 2) := by
  refine (dats m 0 c).arrAt_eq_of_covers 5 _ (by decide +kernel) fun t hf y => ?_
  blk_simp
  rw [after0_5]
  obtain ⟨a, k, e, rfl⟩ : ∃ (a : Fin 1) (k : Fin 8) (e : Fin 3072), y = ix3 a k e := ⟨y 0, y 1, y 2, eq_ix3 y⟩
  obtain rfl : a = 0 := Subsingleton.elim _ _
  have emb : ((View.whole main_v0_1).slice (win0_5.rect t)).emb (ix3 0 k e) = ix3 (⟨t.val, t_lt t⟩ : Fin 9) k e := by
    blk_ext [idx5 t] <;> omega
  rw [emb]
  simp only [outsAt0]
  frame_out
  have hp : summand (fun r j => k0_pay10 (iblk m c 1 t) (ix2 r j)) (fun r j => iblk m c 0 t (ix2 r j)) e = part (DU m c) (H m c) t.val e := by
    simp only [norm_at, blkH, blkU]; rfl
  refine Eq.trans (b := dm (DU m c) (H m c) ⟨t.val, t_lt t⟩ k e) ?_ rfl
  refine rows_at _ _ _ k e _ (fun h => ?_) (fun h => ?_) (fun k' h => ?_)
  · refine (pay2 _ e).trans
      ((pay19 _ _ _ _ _ (mask_at (grid0.coords t)) (mask_at' (grid0.coords t)) e).trans ?_)
    rw [hp]
    simp only [dm, coord, h, if_true]
  · refine (pay3 _ e).trans
      ((pay20 _ _ _ _ _ (mask_at (grid0.coords t)) (mask_at' (grid0.coords t)) e).trans ?_)
    rw [hp]
    simp only [dm, coord, h, if_true, if_neg Nat.one_ne_zero]
  · refine (pay4 k' e).trans ?_
    simp only [dm, if_neg (show ¬k.val = 0 by omega), if_neg (show ¬k.val = 1 by omega)]

end Cert.LnBwdClaims

end
-- ==== Proof.LnBwdRef.lean ====
/-
  The norm's backward pass: the reference's results, one position and one block at a time.
-/
module

public import proofs.«01_k».proof.Proof.NormGrad
public import proofs.«01_k».proof.Proof.LnBwdArray

@[expose] public section

noncomputable section

namespace Cert.LnBwdClaims

open Cert.LnBwdRefIdeal Cert.LnBwdRefIdeal.Read Idealize.ShloMosaic Cert.Norm

variable (du h res : S2304x1024.Idx → EReal) (q : S8x3072.Idx → EReal)

theorem later (t : Fin 8) (r : Fin 256) (d : Fin 1024) (R : Fin 2304) (hR : R.val = (1 + t.val) * 256 + r.val) :
    val_main_v110 (F := Ideal) du h q (ix3 t r d) = grad wide (fun j => h (ix2 R j)) (cot du q R) d := by
  obtain ⟨R, hr⟩ := R
  obtain rfl : R = (1 + t.val) * 256 + r.val := hR
  rw [show cot du q ⟨(1 + t.val) * 256 + r.val, by omega⟩
      = fun j : Fin 1024 => du (ix2 (⟨(1 + t.val) * 256 + r.val, by omega⟩ : Fin 2304) j) * (1 + q (ix2 (0 : Fin 8) (⟨1024 + j.val, by omega⟩ : Fin 3072)))
    from funext fun j => by simp only [cot, side, if_neg (show ¬(1 + t.val) * 256 + r.val < 256 by omega)]]
  pointwise [val_main_v110, val_main_v104, val_main_v91, val_main_v86, val_main_v79, val_main_v77, val_main_v85, val_main_v70,
      val_main_v69, val_main_cst_14, val_main_v44, val_main_v42, val_main_v2, val_main_v1, val_main_v0, val_main_v90, val_main_v63,
      val_main_v62, val_main_v58, val_main_v56, val_main_v55, val_main_v52, val_main_v51, val_main_v41, val_main_v6, val_main_v50,
      val_main_v49, val_main_v47, val_main_v46, val_main_cst_7, val_main_v48, val_main_cst_8, val_main_cst_10, val_main_v57,
      val_main_cst_11, val_main_v61, val_main_cst_12, val_main_v100, val_main_v99, val_main_v98, val_main_v97, val_main_v92,
      val_main_v89, val_main_v88, val_main_v87, val_main_v60, val_main_v59, val_main_cst_17, val_main_v66, val_main_v65,
      val_main_cst_13, val_main_v64, val_main_v96, val_main_cst_19, val_main_cst_20, val_main_v54, val_main_v53, val_main_cst_9,
      val_main_v109, val_main_v108, val_main_v107, val_main_v105, val_main_v95, val_main_v94, val_main_v93, val_main_cst_18,
      val_main_v103, val_main_v102, val_main_v101, val_main_cst_21, val_main_v106, val_main_cst_22, val_main_cst_23]
  simp only [Fin.sum_univ_one]
  rfl

theorem unit_sum (v : S1x256x1.Idx → EReal) (a : EReal) (r : Fin 256) :
    Ideal.hostReduceAdd Cert.LnBwdRefIdeal.Gen.reducesTo_S1x256x1_S256_d0_2 v a (ix1 r) = a + v (ix3 0 r 0) := by
  refine Eq.trans (b := a + ∑ i ∈ Finset.univ.filter (fun i => Cert.LnBwdRefIdeal.Gen.reducesTo_S1x256x1_S256_d0_2.drop i = ix1 r), v i) rfl (congrArg (a + ·) ?_)
  refine (Finset.sum_filter_eq_sum_of_fiber _ (fun _ : Fin 1 => ix3 (0 : Fin 1) r (0 : Fin 1)) (fun _ _ _ => Subsingleton.elim _ _) (fun i => ?_) v).trans (Fin.sum_univ_one _)
  constructor
  · intro e
    refine ⟨0, funext fun a => Fin.ext ?_⟩
    have h0 : (i 0).val < 1 := (i 0).isLt
    have h2 : (i 2).val < 1 := (i 2).isLt
    match a with
    | ⟨0, _⟩ => show 0 = (i 0).val; omega
    | ⟨1, _⟩ => exact (congrArg Fin.val (congrFun e 0)).symm
    | ⟨2, _⟩ => show 0 = (i 2).val; omega
  · rintro ⟨k, rfl⟩
    exact funext fun b => Fin.ext (by match b with | ⟨0, _⟩ => rfl)

theorem early (r : Fin 256) (d : Fin 1024) (R : Fin 2304) (hR : R.val = r.val) :
    val_main_v147 (F := Ideal) du h q (ix3 0 r d) = grad wide (fun j => h (ix2 R j)) (cot du q R) d := by
  obtain ⟨R, hr⟩ := R
  obtain rfl : R = r.val := hR
  rw [show cot du q ⟨r.val, by omega⟩
      = fun j : Fin 1024 => du (ix2 (⟨r.val, by omega⟩ : Fin 2304) j) * (1 + q (ix2 (1 : Fin 8) (⟨1024 + j.val, by omega⟩ : Fin 3072)))
    from funext fun j => by simp only [cot, side, if_pos (show r.val < 256 by omega)]]
  pointwise [unit_sum, val_main_v147, val_main_v140, val_main_v126, val_main_v121, val_main_v78, val_main_v77, val_main_v120, val_main_v36,
      val_main_v35, val_main_cst_6, val_main_v10, val_main_v8, val_main_v5, val_main_v4, val_main_v3, val_main_v125, val_main_v29,
      val_main_v28, val_main_v24, val_main_v22, val_main_v21, val_main_v18, val_main_v17, val_main_v7, val_main_v6, val_main_v16,
      val_main_v15, val_main_v13, val_main_v12, val_main_cst, val_main_v14, val_main_cst_0, val_main_cst_2, val_main_v23,
      val_main_cst_3, val_main_v27, val_main_cst_4, val_main_v136, val_main_v135, val_main_v134, val_main_v133, val_main_v132,
      val_main_v127, val_main_v124, val_main_v123, val_main_v122, val_main_v26, val_main_v25, val_main_cst_29, val_main_v32,
      val_main_v31, val_main_cst_5, val_main_v30, val_main_v131, val_main_cst_31, val_main_cst_32, val_main_v20, val_main_v19,
      val_main_cst_1, val_main_v146, val_main_v145, val_main_v144, val_main_v143, val_main_v141, val_main_v130, val_main_v129,
      val_main_v128, val_main_cst_30, val_main_v139, val_main_v138, val_main_v137, val_main_cst_33, val_main_v142, val_main_cst_34,
      val_main_cst_35]
  rfl

theorem summand_eq (n u : Fin 256 → Fin 1024 → EReal) (e : Fin 3072) :
    (if h : e.val < 1024 then ∑ r, u r ⟨e.val, h⟩
      else if h' : e.val - 1024 < 1024 then ∑ r, n r ⟨e.val - 1024, h'⟩ * u r ⟨e.val - 1024, h'⟩ else 0) = summand n u e := by
  unfold summand
  by_cases h : e.val < 1024
  · rw [dif_pos h, dif_pos h]
  · rw [dif_neg h, dif_neg h]
    by_cases h' : e.val < 2048
    · rw [dif_pos (by omega), dif_pos h']
    · rw [dif_neg (by omega), dif_neg h']

theorem late_part (t : Fin 8) (e : Fin 3072) (t' : ℕ) (ht : t' = 1 + t.val) :
    val_main_v112 (F := Ideal) du h (ix3 t 0 e) = part du h t' e := by
  have hp : ∀ r, pos t' r = ⟨(1 + t.val) * 256 + r.val, by omega⟩ := fun r => Fin.ext (by simp only [pos]; omega)
  simp only [part, hp, ← summand_eq]
  pointwise [val_main_v112, val_main_v81, val_main_v80, val_main_v79, val_main_v77, val_main_cst_15, val_main_v84, val_main_v83,
      val_main_v82, val_main_v68, val_main_v60, val_main_v41, val_main_v6, val_main_v59, val_main_v49, val_main_v47, val_main_v46,
      val_main_cst_7, val_main_v48, val_main_cst_8, val_main_v67, val_main_v63, val_main_v62, val_main_v58, val_main_v56,
      val_main_v55, val_main_v52, val_main_v51, val_main_v50, val_main_cst_10, val_main_v57, val_main_cst_11, val_main_v61,
      val_main_cst_12, val_main_cst_16, val_main_v111, val_main_cst_24]
  rfl

theorem early_part (e : Fin 3072) : val_main_v149 (F := Ideal) du h (ix3 0 0 e) = part du h 0 e := by
  have hp : ∀ r, pos 0 r = ⟨r.val, by omega⟩ := fun r => Fin.ext (by simp only [pos]; omega)
  simp only [part, hp, ← summand_eq]
  pointwise [val_main_v149, val_main_v116, val_main_v115, val_main_v78, val_main_v77, val_main_cst_27, val_main_v119, val_main_v118,
      val_main_v117, val_main_v34, val_main_v26, val_main_v7, val_main_v6, val_main_v25, val_main_v15, val_main_v13, val_main_v12,
      val_main_cst, val_main_v14, val_main_cst_0, val_main_v33, val_main_v29, val_main_v28, val_main_v24, val_main_v22,
      val_main_v21, val_main_v18, val_main_v17, val_main_v16, val_main_cst_2, val_main_v23, val_main_cst_3, val_main_v27,
      val_main_cst_4, val_main_cst_28, val_main_v148, val_main_cst_36]
  rfl

theorem ref_dh (R : Fin 2304) (d : Fin 1024) : val_main_v154 (F := Ideal) du h res q (ix2 R d) = dh du h res q R d := by
  have e1 := later du h q
  have e0 : ∀ (z : Fin 1) r d (R : Fin 2304), R.val = r.val → val_main_v147 (F := Ideal) du h q (ix3 z r d) = grad wide (fun j => h (ix2 R j)) (cot du q R) d :=
    fun z r d R hR => by obtain rfl : z = 0 := Subsingleton.elim _ _; exact early du h q r d R hR
  unfold val_main_v154 val_main_v153 val_main_v152 val_main_v151 val_main_v114
  generalize val_main_v110 (F := Ideal) du h q = a at e1 ⊢
  generalize val_main_v147 (F := Ideal) du h q = b at e0 ⊢
  pointwise [val_main_cst_38, val_main_cst_26]
  have hR := R.isLt
  refine congrArg (· + res (ix2 R d)) ?_
  by_cases h : R.val < 256
  · rw [dif_neg (by omega), dif_pos ⟨by omega, by omega⟩, zero_add]
    exact e0 _ _ d R (by show R.val = R.val % 256; omega)
  · rw [dif_pos ⟨⟨by omega, by omega⟩, by omega⟩, dif_neg (by omega), add_zero]
    exact e1 _ _ d R (by show R.val = (1 + (R.val / 256 - 1)) * 256 + R.val % 256; omega)

theorem ref_dm (t : Fin 9) (k : Fin 8) (e : Fin 3072) : val_main_v156 (F := Ideal) du h (ix3 t k e) = dm du h t k e := by
  have e1 : ∀ t (z : Fin 1) e t', t' = 1 + t.val → val_main_v112 (F := Ideal) du h (ix3 t z e) = part du h t' e :=
    fun t z e t' ht => by obtain rfl : z = 0 := Subsingleton.elim _ _; exact late_part du h t e t' ht
  have e0 : ∀ (y z : Fin 1) e, val_main_v149 (F := Ideal) du h (ix3 y z e) = part du h 0 e :=
    fun y z e => by obtain rfl : y = 0 := Subsingleton.elim _ _; obtain rfl : z = 0 := Subsingleton.elim _ _; exact early_part du h e
  unfold val_main_v156 val_main_v155 val_main_v150 val_main_v113
  generalize val_main_v112 (F := Ideal) du h = a at e1 ⊢
  generalize val_main_v149 (F := Ideal) du h = b at e0 ⊢
  pointwise [val_main_cst_37, val_main_cst_25, val_main_cst_39]
  have ht := t.isLt
  unfold dm
  by_cases h0 : k.val = 0
  · rw [dif_pos (by omega), if_pos h0]
    by_cases hz : t.val = 0
    · rw [dif_neg (by omega), if_pos hz]
    · rw [dif_pos ⟨⟨by omega, by omega⟩, by omega⟩, if_neg hz]
      exact e1 _ _ e _ (by show t.val = 1 + (t.val - 1); omega)
  · rw [dif_neg (by omega), if_neg h0]
    by_cases h1 : k.val = 1
    · rw [dif_pos (by omega), if_pos h1]
      by_cases hz : t.val = 0
      · rw [dif_pos ⟨by omega, by omega⟩, if_pos hz]
        exact (e0 _ _ e).trans (congrArg (fun n => part du h n e) hz.symm)
      · rw [dif_neg (by omega), if_neg hz]
    · rw [dif_neg (by omega), if_neg h1]

end Cert.LnBwdClaims

end
-- ==== Proof.LnBwd.lean ====
/-
  The backward pass of the norm of the layer's input: the claims.
-/
module

public import proofs.«01_k».proof.Proof.LnBwdArray
public import proofs.«01_k».proof.Proof.LnBwdRef

@[expose] public section

noncomputable section

namespace Cert.LnBwdClaims

open Idealize.ShloMosaic Idealize.SL.Sem Cert.LnBwdRefIdeal Cert.Norm

theorem frame : Cert.quiescent_LnBwd := fun m ρ _ => Cert.LnBwd.Gen.frame m ρ

theorem frame_ideal : Cert.quiescent_LnBwdIdeal := fun m ρ _ => Cert.LnBwdIdeal.Gen.frame m ρ

theorem frame_ideal_pre : Cert.quiescent_LnBwdIdeal_pre_finite_ln := fun m ρ _ => Cert.LnBwdIdeal.Gen.frame m ρ

theorem frame_ref : Cert.quiescent_LnBwdRefIdeal := fun m ρ _ =>
  (θ_run Cert.LnBwdRefIdeal.defs _ _).mono
    (fun r h => ⟨fun c => (h c).2.2, sem_eq_zero_of_no_sems (by decide) r.2⟩) (Cert.LnBwdRefIdeal.Value.run m ρ)

theorem frame_ref_pre : Cert.quiescent_LnBwdRefIdeal_pre_finite_ln := fun m ρ _ => frame_ref m ρ trivial

theorem real_args (m : (ℓ : Loc Cert.LnBwdIdeal.nD Cert.LnBwdIdeal.τ Cert.LnBwdIdeal.sig) → Buf (Elt Ideal) ℓ)
    (hpre : Cert.Pre_LnBwdIdeal_finite_ln m) (c : Dev Cert.LnBwdIdeal.nD) :
    (∀ i, IsReal (DU m c i)) ∧ (∀ i, IsReal (H m c i)) ∧ ∀ i, IsReal (M m c i) :=
  ⟨fun i => Cert.Pre_finite_qk.real_of_cmp (congrFun (hpre c).1 i), fun i => Cert.Pre_finite_qk.real_of_cmp (congrFun (hpre c).2.1 i),
    fun i => Cert.Pre_finite_qk.real_of_cmp (congrFun (hpre c).2.2 i)⟩

theorem ref4 (du h res : S2304x1024.Idx → EReal) (q : S8x3072.Idx → EReal) :
    Read.val_main_v154 (F := Ideal) du h res q = fun y => dh du h res q (y 0) (y 1) := by
  funext y
  rw [eq_ix2 y]
  exact ref_dh du h res q _ _

theorem ref5 (du h : S2304x1024.Idx → EReal) :
    Read.val_main_v156 (F := Ideal) du h = fun y => dm du h (y 0) (y 1) (y 2) := by
  funext y
  rw [eq_ix3 y]
  exact ref_dm du h _ _ _

theorem algebraic : Cert.algebraic_LnBwdIdeal_LnBwdRefIdeal_pre_finite_ln := fun m ρ m' ρ' hpre hargs =>
  ⟨fun c y => dh (DU m c) (H m c) (Res m c) (M m c) (y 0) (y 1), fun c y => dm (DU m c) (H m c) (y 0) (y 1) (y 2),
    (θ_run Cert.LnBwdIdeal.defs _ _).mono
      (fun r h c => by
        refine ⟨(h c).1.trans (arr4 m ?_ ?_ ?_ c), (h c).2.1.trans (arr5 m c), (h c).2.2⟩
        · exact fun c => (real_args m hpre c).2.1
        · exact fun c => (real_args m hpre c).1
        · exact fun c => (real_args m hpre c).2.2) (Cert.LnBwdIdeal.Value.run_blocks m ρ),
    (θ_run Cert.LnBwdRefIdeal.defs _ _).mono
      (fun r h c => by
        obtain ⟨e0, e1, e2, e3⟩ := hargs c
        refine ⟨(((h c).1.trans (Read.val_main_v154_eq (StableHlo.launchContents m' c))).trans (ref4 _ _ _ _)).trans ?_,
          (((h c).2.1.trans (Read.val_main_v156_eq (StableHlo.launchContents m' c))).trans (ref5 _ _)).trans ?_, (h c).2.2⟩
        · rw [show StableHlo.launchContents m' c (Proc.devRef .tc main_arg0) = _ from e0,
            show StableHlo.launchContents m' c (Proc.devRef .tc main_arg1) = _ from e1,
            show StableHlo.launchContents m' c (Proc.devRef .tc main_arg2) = _ from e2,
            show StableHlo.launchContents m' c (Proc.devRef .tc main_arg3) = _ from e3]
          rfl
        · rw [show StableHlo.launchContents m' c (Proc.devRef .tc main_arg0) = _ from e0,
            show StableHlo.launchContents m' c (Proc.devRef .tc main_arg1) = _ from e1]
          rfl)
      (Cert.LnBwdRefIdeal.Value.run m' ρ')⟩

end Cert.LnBwdClaims

end
-- ==== Proof.MergeFn.lean ====
/-
  The merge of the four mixers' outputs, one position at a time, over the extended reals.
-/
module

public import proofs.«01_k».proof.Proof.Norm
public import Idealize.ShloMosaic.Lib.Pipeline.ValueKit

@[expose] public section

noncomputable section

namespace Cert.Merge

open Idealize.ShloMosaic Cert.Norm

/-- One half, as the programs write it. -/
def half : EReal := Ideal.ofBits .f32 0x3F000000#32

theorem half_eq : half = ((1 / 2 : ℝ) : EReal) := by
  unfold half; simp [Ideal.ofBits, Ideal.ieee]; rw [← EReal.coe_mul]; norm_num

/-- The logistic function, by the hyperbolic tangent of the half. -/
theorem sig_eq (x : EReal) : half * Ideal.tanh (half * x) + half = Ideal.logistic x := by
  rw [half_eq]
  induction x using EReal.rec with
  | bot =>
    rw [EReal.coe_mul_bot_of_pos (by norm_num), Ideal.tanh_bot, Ideal.logistic_bot]
    rw [show (-1 : EReal) = ((-1 : ℝ) : EReal) by simp, ← EReal.coe_mul, ← EReal.coe_add]; norm_num
  | top =>
    rw [EReal.coe_mul_top_of_pos (by norm_num), Ideal.tanh_top, Ideal.logistic_top]
    rw [mul_one, ← EReal.coe_add]; norm_num
  | coe r =>
    rw [← EReal.coe_mul, Ideal.tanh_coe, ← EReal.coe_mul, ← EReal.coe_add, Ideal.logistic_coe]
    congr 1
    rw [Real.tanh_eq_sinh_div_cosh, Real.sinh_eq, Real.cosh_eq]
    have h : Real.exp (1 / 2 * r) = Real.exp (-(1 / 2 * r)) * Real.exp r := by rw [← Real.exp_add]; ring_nf
    have h2 : Real.exp (-r) * Real.exp r = 1 := by rw [← Real.exp_add]; simp
    have p := Real.exp_pos (-(1 / 2 * r)); have q := Real.exp_pos r; have s := Real.exp_pos (-r)
    rw [h]
    field_simp
    nlinarith

/-- The gate `x` times its logistic function. -/
def silu (x : EReal) : EReal := x * Ideal.logistic x

/-- The norm by the mean square, over the head of 128 columns that column `j` lies in. -/
def rms (o g : Fin 512 → EReal) (j : Fin 512) : EReal :=
  o j * Ideal.rsqrt (meanSq (Ideal.ofBits .f32 0x43000000#32) (fun d : Fin 128 => o ⟨128 * (j.val / 128) + d.val, by omega⟩) + eps) * g j

/-- What the four branches hand on. -/
def branch (ya yb o hh : Fin 512 → EReal) (z : Fin 4 → Fin 512 → EReal) (cn dng dnb : Fin 512 → EReal) (i : Fin 4) (j : Fin 512) : EReal :=
  match i with
  | 0 => ya j * silu (z 0 j)
  | 1 => yb j * silu (z 1 j)
  | 2 => rms o cn j * silu (z 2 j)
  | 3 => silu (norm (Ideal.ofBits .f32 0x44000000#32) hh j * dng j + dnb j) * silu (z 3 j)

/-- The gated sum of the branches' products. -/
def gated (b : Fin 4 → Fin 512 → EReal) (mg : Fin 4 → Fin 1024 → EReal) (w : Fin 4 → Fin 512 → Fin 1024 → EReal) (e : Fin 1024) : EReal :=
  Ideal.logistic (mg 0 e) * (∑ j, b 0 j * w 0 j e) + Ideal.logistic (mg 1 e) * (∑ j, b 1 j * w 1 j e)
    + Ideal.logistic (mg 2 e) * (∑ j, b 2 j * w 2 j e) + Ideal.logistic (mg 3 e) * (∑ j, b 3 j * w 3 j e)

/-- What the last norm takes. -/
def res (h gate acc : Fin 1024 → EReal) (w : Fin 1024 → Fin 1024 → EReal) (f : Fin 1024) : EReal :=
  Ideal.ofBits .f32 0x3FB504F3#32 * h f + gate f * ∑ e, acc e * w e f

/-- The last norm. -/
def out (x lg lb : Fin 1024 → EReal) (f : Fin 1024) : EReal :=
  norm (Ideal.ofBits .f32 0x44800000#32) x f * lg f + lb f

theorem sig_of (x : EReal) : Ideal.ofBits .f32 0x3F000000#32 * Ideal.tanh (Ideal.ofBits .f32 0x3F000000#32 * x) + Ideal.ofBits .f32 0x3F000000#32
    = Ideal.logistic x := sig_eq x

theorem rms_of (o g : Fin 512 → EReal) (j j' : Fin 512) (f : Fin 128 → Fin 512) (hj : j'.val = j.val)
    (hf : ∀ d, (f d).val = 128 * (j.val / 128) + d.val) :
    o j' * Ideal.rsqrt (Ideal.div (∑ d, o (f d) * o (f d)) (Ideal.ofBits .f32 0x43000000#32) + Ideal.ofBits .f32 0x358637BD#32) * g j' = rms o g j := by
  obtain rfl : j' = j := Fin.ext hj
  obtain rfl : f = fun d => ⟨128 * (j'.val / 128) + d.val, by omega⟩ := funext fun d => Fin.ext (hf d)
  rfl

end Cert.Merge

end
-- ==== Proof.MergeFwdValue.lean ====
/-
  What the merge's kernel leaves, from its blocks.
-/
module

public import proofs.«01_k».proof.Proof.MergeFn
public import proofs.«01_k».proof.Proof.Gen.MergeFwdIdeal.Frame

@[expose] public section

noncomputable section

namespace Cert.MergeFwdClaims

open Cert.MergeFwdIdeal Cert.MergeFwdIdeal.Gen Idealize.ShloMosaic Idealize.ShloMosaic.TcCoe Idealize.SL.Sem Cert.Norm Cert.Merge

theorem pay18_at (x z : Vec Ideal S256x512 .f32) (r : Fin 256) (j : Fin 512) :
    k0_pay18 x z (ix2 r j) = x (ix2 r j) * silu (z (ix2 r j)) := by
  pointwise [k0_pay18]
  exact congrArg (fun s : EReal => x (ix2 r j) * (z (ix2 r j) * s)) (sig_eq _)

theorem pay20_at (x z : Vec Ideal S256x512 .f32) (r : Fin 256) (j : Fin 512) :
    k0_pay20 x z (k0_pay19 z) (Scalar.ofBits .f32 0x3F000000#32) (ix2 r j) = x (ix2 r j) * silu (z (ix2 r j)) := by
  pointwise [k0_pay20, k0_pay19]
  exact congrArg (fun s : EReal => x (ix2 r j) * (z (ix2 r j) * s)) (sig_eq _)

theorem pay21_at (z x : FVec Ideal S256x512 .f32) (r : Fin 256) (j : Fin 512) :
    k0_pay21 z x (ix2 r j) = x (ix2 r j) * silu (z (ix2 r j)) := by
  pointwise [k0_pay21]
  exact congrArg (fun s : EReal => x (ix2 r j) * (z (ix2 r j) * s)) (sig_eq _)

theorem pay24_at (z x : FVec Ideal S256x512 .f32) (r : Fin 256) (j : Fin 512) :
    k0_pay24 z x (k0_pay23 z) (Scalar.ofBits .f32 0x3F000000#32) (ix2 r j) = x (ix2 r j) * silu (z (ix2 r j)) := by
  pointwise [k0_pay24, k0_pay23]
  exact congrArg (fun s : EReal => x (ix2 r j) * (z (ix2 r j) * s)) (sig_eq _)

theorem pay22_at (x : Vec Ideal S256x512 .f32) (g b : Vec Ideal S1x512 .f32) (r : Fin 256) (j : Fin 512) :
    k0_pay22 x g b (ix2 r j)
      = silu (norm (Ideal.ofBits .f32 0x44000000#32) (fun j => x (ix2 r j)) j * g (ix2 0 j) + b (ix2 0 j)) := by
  pointwise [k0_pay22]
  exact congrArg (fun s : EReal => (norm (Ideal.ofBits .f32 0x44000000#32) (fun j => x (ix2 r j)) j * g (ix2 0 j) + b (ix2 0 j)) * s) (sig_eq _)

theorem pay17_at (g : Vec Ideal S1x512 .f32) (x y : Vec Ideal S256x512 .f32) (r : Fin 256) (j : Fin 512) :
    k0_pay17 g (k0_pay12 x y) (k0_pay13 x y g) (k0_pay14 x y) (k0_pay15 g) (k0_pay16 x y) (ix2 r j)
      = rms (fun j => x (ix2 r j) + y (ix2 r j)) (fun j => g (ix2 0 j)) j := by
  pointwise [k0_pay17, k0_pay12, k0_pay13, k0_pay14, k0_pay15, k0_pay16]
  split
  · exact rms_of (fun j => x (ix2 r j) + y (ix2 r j)) (fun j => g (ix2 0 j)) j j (fun d => ⟨d.val, by omega⟩) rfl (fun d => by show d.val = _; omega)
  split
  · exact rms_of (fun j => x (ix2 r j) + y (ix2 r j)) (fun j => g (ix2 0 j)) j ⟨128 + (j.val - 128), by omega⟩
      (fun d => ⟨128 + d.val, by omega⟩) (by show 128 + (j.val - 128) = _; omega) (fun d => by show 128 + d.val = _; omega)
  split
  · exact rms_of (fun j => x (ix2 r j) + y (ix2 r j)) (fun j => g (ix2 0 j)) j ⟨256 + (j.val - 128 - 128), by omega⟩
      (fun d => ⟨256 + d.val, by omega⟩) (by show 256 + (j.val - 128 - 128) = _; omega) (fun d => by show 256 + d.val = _; omega)
  · exact rms_of (fun j => x (ix2 r j) + y (ix2 r j)) (fun j => g (ix2 0 j)) j ⟨384 + (j.val - 128 - 128 - 128), by omega⟩
      (fun d => ⟨384 + d.val, by omega⟩) (by show 384 + (j.val - 128 - 128 - 128) = _; omega) (fun d => by show 384 + d.val = _; omega)

theorem pay25_at (g : FVec Ideal S256x4096 .f32) (w0 w1 w2 : Vec Ideal S1x512x1024 .bf16) (a b c : FVec Ideal S256x512 .f32)
    (r : Fin 256) (e : Fin 1024) :
    k0_pay25 k0_pay2 g (k0_pay8 w0) (k0_pay9 w1) (k0_pay10 w2) a b c (ix2 r e)
      = Ideal.logistic (g (ix2 r ⟨e.val, by omega⟩)) * (∑ j : Fin 512, @HMul.hMul EReal EReal EReal _ (a (ix2 r j)) (w0 (ix3 0 j e)))
        + Ideal.logistic (g (ix2 r ⟨1024 + e.val, by omega⟩)) * (∑ j : Fin 512, @HMul.hMul EReal EReal EReal _ (b (ix2 r j)) (w1 (ix3 0 j e)))
        + Ideal.logistic (g (ix2 r ⟨2048 + e.val, by omega⟩)) * (∑ j : Fin 512, @HMul.hMul EReal EReal EReal _ (c (ix2 r j)) (w2 (ix3 0 j e))) := by
  pointwise [k0_pay25, k0_pay2, k0_pay8, k0_pay9, k0_pay10]
  simp only [sig_of]

theorem pay28_at (i : grid0.Coords) (h : Vec Ideal S256x1024 .f32) (mc ml : Vec Ideal S1x3072 .f32) (lg lb : Vec Ideal S1x1024 .f32)
    (w3 : Vec Ideal S1x512x1024 .bf16) (wo : Vec Ideal S1024x1024 .bf16) (b : FVec Ideal S256x512 .f32) (acc : FVec Ideal S256x1024 .f32)
    (g : FVec Ideal S256x4096 .f32) (r : Fin 256) (f : Fin 1024) :
    k0_pay28 (k0_pay1 i) k0_pay2 h mc ml lg lb (k0_pay11 w3) wo b acc (k0_pay26 g) k0_pay27 (ix2 r f)
      = out (res (fun f => h (ix2 r f))
          (fun f => if (i 0).val * 256 + r.val < 256 then ml (ix2 0 ⟨2048 + f.val, by omega⟩) else mc (ix2 0 ⟨2048 + f.val, by omega⟩))
          (fun e => acc (ix2 r e) + Ideal.logistic (g (ix2 r ⟨3072 + e.val, by omega⟩))
            * (∑ j : Fin 512, @HMul.hMul EReal EReal EReal _ (b (ix2 r j)) (w3 (ix3 0 j e)))) (fun e f => wo (ix2 e f)))
          (fun f => lg (ix2 0 f)) (fun f => lb (ix2 0 f)) f := by
  have P := pick (α := EReal) (i 0).val 256 r.val (by have : (i 0).val < 9 := (i 0).isLt; omega)
  pointwise [k0_pay28, k0_pay1, k0_pay2, k0_pay11, k0_pay26, k0_pay27]
  simp only [sig_of, P]
  rfl

theorem row0 (X : Vec Ideal S8x3072 .f32) (k : Fin 3072) :
    View.ld X (Rect.unit ![0, 0] ![1, 3072] inb_S8x3072_S1x3072_0_0) (ix2 (n0 := 1) (n1 := 3072) 0 k) = X (ix2 0 k) :=
  congrArg (a₁ := (Rect.unit ![0, 0] ![1, 3072] inb_S8x3072_S1x3072_0_0).idx (ix2 0 k)) (a₂ := ix2 0 k) X (funext fun a => match a with
    | ⟨0, _⟩ => Fin.ext rfl | ⟨1, _⟩ => Fin.ext (by show 0 + 1 * k.val = k.val; omega))

theorem row1 (X : Vec Ideal S8x3072 .f32) (k : Fin 3072) :
    View.ld X (Rect.unit ![1, 0] ![1, 3072] inb_S8x3072_S1x3072_1_0) (ix2 (n0 := 1) (n1 := 3072) 0 k) = X (ix2 1 k) :=
  congrArg (a₁ := (Rect.unit ![1, 0] ![1, 3072] inb_S8x3072_S1x3072_1_0).idx (ix2 0 k)) (a₂ := ix2 1 k) X (funext fun a => match a with
    | ⟨0, _⟩ => Fin.ext rfl | ⟨1, _⟩ => Fin.ext (by show 0 + 1 * k.val = k.val; omega))

theorem slab (X : Vec Ideal S4x512x1024 .bf16) (i : Fin 4) (h) (j : Fin 512) (e : Fin 1024) :
    View.ld X (Rect.unit ![i.val, 0, 0] ![1, 512, 1024] h) (ix3 (n0 := 1) (n1 := 512) (n2 := 1024) 0 j e) = X (ix3 i j e) :=
  congrArg (a₁ := (Rect.unit ![i.val, 0, 0] ![1, 512, 1024] h).idx (ix3 0 j e)) (a₂ := ix3 i j e) X (funext fun a => match a with
    | ⟨0, _⟩ => Fin.ext (by show i.val + 1 * 0 = i.val; omega) | ⟨1, _⟩ => Fin.ext (by show 0 + 1 * j.val = j.val; omega)
    | ⟨2, _⟩ => Fin.ext (by show 0 + 1 * e.val = e.val; omega))

/-- The row of the modulation that row `r` of point `i`'s block takes. -/
def bside (a : ℕ) (r : Fin 256) : Fin 8 := if a * 256 + r.val < 256 then 1 else 0

/-- The four gates of a row of a block. -/
def bz (x3 x5 x8 x10 : Vec Ideal S256x512 .bf16) (r : Fin 256) (i : Fin 4) (j : Fin 512) : EReal :=
  match i with
  | 0 => x3 (ix2 r j)
  | 1 => x5 (ix2 r j)
  | 2 => x8 (ix2 r j)
  | 3 => x10 (ix2 r j)

theorem out_at (i : grid0.Coords) (x0 : Vec Ideal S256x1024 .f32) (x1 : Vec Ideal S8x3072 .f32) (x2 x4 x6 x7 x9 : Vec Ideal S256x512 .f32)
    (x3 x5 x8 x10 : Vec Ideal S256x512 .bf16) (x11 : Vec Ideal S256x4096 .bf16) (x12 x13 x14 : Vec Ideal S1x512 .f32)
    (x15 x16 : Vec Ideal S1x1024 .f32) (x17 : Vec Ideal S4x512x1024 .bf16) (x18 : Vec Ideal S1024x1024 .bf16) (r : Fin 256) (f : Fin 1024) :
    k0_pay28 (k0_pay1 i) k0_pay2 x0
      (View.ld x1 (Rect.unit ![0, 0] ![1, 3072] inb_S8x3072_S1x3072_0_0))
      (View.ld x1 (Rect.unit ![1, 0] ![1, 3072] inb_S8x3072_S1x3072_1_0)) x15 x16
      (k0_pay11 (View.ld x17 (Rect.unit ![3, 0, 0] ![1, 512, 1024] inb_S4x512x1024_S1x512x1024_3_0_0))) x18
      (k0_pay24 (k0_pay6 x10) (k0_pay22 x9 x13 x14) (k0_pay23 (k0_pay6 x10)) (Scalar.ofBits .f32 0x3F000000#32))
      (k0_pay25 k0_pay2 (k0_pay7 x11)
        (k0_pay8 (View.ld x17 (Rect.unit ![0, 0, 0] ![1, 512, 1024] inb_S4x512x1024_S1x512x1024_0_0_0)))
        (k0_pay9 (View.ld x17 (Rect.unit ![1, 0, 0] ![1, 512, 1024] inb_S4x512x1024_S1x512x1024_1_0_0)))
        (k0_pay10 (View.ld x17 (Rect.unit ![2, 0, 0] ![1, 512, 1024] inb_S4x512x1024_S1x512x1024_2_0_0)))
        (k0_pay18 x2 (k0_pay3 x3))
        (k0_pay20 x4 (k0_pay4 x5) (k0_pay19 (k0_pay4 x5)) (Scalar.ofBits .f32 0x3F000000#32))
        (k0_pay21 (k0_pay5 x8)
          (k0_pay17 x12 (k0_pay12 x6 x7) (k0_pay13 x6 x7 x12) (k0_pay14 x6 x7) (k0_pay15 x12) (k0_pay16 x6 x7))))
      (k0_pay26 (k0_pay7 x11)) k0_pay27 (ix2 r f)
    = out (res (fun f => x0 (ix2 r f)) (fun f => x1 (ix2 (bside (i 0).val r) ⟨2048 + f.val, by omega⟩))
        (gated (branch (fun j => x2 (ix2 r j)) (fun j => x4 (ix2 r j)) (fun j => x6 (ix2 r j) + x7 (ix2 r j)) (fun j => x9 (ix2 r j))
            (bz x3 x5 x8 x10 r) (fun j => x12 (ix2 0 j)) (fun j => x13 (ix2 0 j)) (fun j => x14 (ix2 0 j)))
          (fun i e => x11 (ix2 r ⟨1024 * i.val + e.val, by omega⟩)) (fun i j e => x17 (ix3 i j e)))
        (fun e f => x18 (ix2 e f)))
      (fun f => x15 (ix2 0 f)) (fun f => x16 (ix2 0 f)) f := by
  rw [pay28_at]
  have hg : ∀ f : Fin 1024, (if (i 0).val * 256 + r.val < 256
        then View.ld x1 (Rect.unit ![1, 0] ![1, 3072] inb_S8x3072_S1x3072_1_0) (ix2 (n0 := 1) (n1 := 3072) 0 ⟨2048 + f.val, by omega⟩)
        else View.ld x1 (Rect.unit ![0, 0] ![1, 3072] inb_S8x3072_S1x3072_0_0) (ix2 (n0 := 1) (n1 := 3072) 0 ⟨2048 + f.val, by omega⟩))
      = x1 (ix2 (bside (i 0).val r) ⟨2048 + f.val, by omega⟩) := fun f => by
    unfold bside
    by_cases h : (i 0).val * 256 + r.val < 256
    · simp only [h, if_true]; exact row1 x1 ⟨2048 + f.val, by omega⟩
    · simp only [h, if_false]; exact row0 x1 ⟨2048 + f.val, by omega⟩
  refine congrArg₂ (fun g a => out (res (fun f => x0 (ix2 r f)) g a (fun e f => x18 (ix2 e f))) (fun f => x15 (ix2 0 f))
    (fun f => x16 (ix2 0 f)) f) (funext hg) (funext fun e => ?_)
  rw [pay25_at]
  refine congrArg₂ (fun a b : EReal => a + b) (congrArg₂ (fun a b : EReal => a + b) (congrArg₂ (fun a b : EReal => a + b)
    (congrArg₂ (fun a b : EReal => Ideal.logistic a * b) ?_ (Finset.sum_congr rfl fun j _ => congrArg₂ (fun a b : EReal => a * b) (pay18_at _ _ r j) (slab x17 0 _ j e)))
    (congrArg₂ (fun a b : EReal => Ideal.logistic a * b) rfl (Finset.sum_congr rfl fun j _ => congrArg₂ (fun a b : EReal => a * b) (pay20_at _ _ r j) (slab x17 1 _ j e))))
    (congrArg₂ (fun a b : EReal => Ideal.logistic a * b) rfl (Finset.sum_congr rfl fun j _ => congrArg₂ (fun a b : EReal => a * b)
      ((pay21_at _ _ r j).trans (congrArg (fun a : EReal => a * silu (x8 (ix2 r j))) (pay17_at x12 x6 x7 r j))) (slab x17 2 _ j e))))
    (congrArg₂ (fun a b : EReal => Ideal.logistic a * b) rfl (Finset.sum_congr rfl fun j _ => congrArg₂ (fun a b : EReal => a * b)
      ((pay24_at _ _ r j).trans (congrArg (fun a : EReal => a * silu (x10 (ix2 r j))) (pay22_at x9 x13 x14 r j))) (slab x17 3 _ j e)))
  exact congrArg (fun q => x11 (ix2 r q)) (Fin.ext (by show e.val = 1024 * 0 + e.val; omega))

end Cert.MergeFwdClaims

end
-- ==== Proof.MergeFwdArray.lean ====
/-
  The merge of the mixers' outputs: gates, norms, the gated sum of the branches' products, the output product and the
  last norm.
-/
module

public import proofs.«01_k».proof.Defs
public import proofs.«01_k».proof.Proof.MergeFwdValue
public import proofs.«01_k».proof.Proof.Gen.MergeFwd.Frame
public import proofs.«01_k».proof.Proof.Gen.MergeFwdIdeal.Value
public import proofs.«01_k».proof.Proof.Gen.MergeFwdRefIdeal.Run
public import proofs.«01_k».proof.Proof.Gen.MergeFwdRefIdeal.Read
public import Idealize.ShloMosaic.Lib.Quiescent

@[expose] public section

noncomputable section

namespace Cert.MergeFwdClaims

open Cert.MergeFwdIdeal Cert.MergeFwdIdeal.Gen Idealize.ShloMosaic Idealize.ShloMosaic.TcCoe Idealize.SL.Sem Cert.Norm Cert.Merge

variable (m : (ℓ : Loc nD τ sig) → Buf (Elt Ideal) ℓ)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![t.val, 8] := by decide +kernel
theorem idx4 : ∀ t : Fin cfg0.N, win0_4.index t = ![t.val, 0] := by decide +kernel
theorem idx5 : ∀ t : Fin cfg0.N, win0_5.index t = ![t.val, 9] := by decide +kernel
theorem idx6 : ∀ t : Fin cfg0.N, win0_6.index t = ![t.val, 0] := by decide +kernel
theorem idx7 : ∀ t : Fin cfg0.N, win0_7.index t = ![t.val, 0] := by decide +kernel
theorem idx8 : ∀ t : Fin cfg0.N, win0_8.index t = ![t.val, 10] := by decide +kernel
theorem idx9 : ∀ t : Fin cfg0.N, win0_9.index t = ![t.val, 0] := by decide +kernel
theorem idx10 : ∀ t : Fin cfg0.N, win0_10.index t = ![t.val, 11] := by decide +kernel
theorem idx11 : ∀ t : Fin cfg0.N, win0_11.index t = ![t.val, 0] := by decide +kernel
theorem idx12 : ∀ t : Fin cfg0.N, win0_12.index t = ![0, 0] := by decide +kernel
theorem idx13 : ∀ t : Fin cfg0.N, win0_13.index t = ![0, 0] := by decide +kernel
theorem idx14 : ∀ t : Fin cfg0.N, win0_14.index t = ![0, 0] := by decide +kernel
theorem idx15 : ∀ t : Fin cfg0.N, win0_15.index t = ![0, 0] := by decide +kernel
theorem idx16 : ∀ t : Fin cfg0.N, win0_16.index t = ![0, 0] := by decide +kernel
theorem idx17 : ∀ t : Fin cfg0.N, win0_17.index t = ![0, 0, 0] := by decide +kernel
theorem idx18 : ∀ t : Fin cfg0.N, win0_18.index t = ![0, 0] := by decide +kernel
theorem idx19 : ∀ t : Fin cfg0.N, win0_19.index t = ![t.val, 0] := by decide +kernel
theorem coord : ∀ t : Fin cfg0.N, (grid0.coords t 0).val = t.val := by decide +kernel

theorem t_lt (t : Fin cfg0.N) : t.val < 9 := t.isLt

/-- The position that the block of point `t` has at `r`. -/
def pos (t : ℕ) (r : Fin 256) : Fin 2304 := ⟨t % 9 * 256 + r.val, by omega⟩

theorem blkH (c : Dev nD) (t : Fin cfg0.N) (r : Fin 256) (d : Fin 1024) :
    iblk m c 0 t (ix2 r d) = m ((c : Thread nD τ).loc main_arg0) (ix2 (pos t.val r) d) := by
  blk_ext [iblk, V, idx0 t] <;> simp only [pos] <;> have := t_lt t <;> omega

theorem blkYA (c : Dev nD) (t : Fin cfg0.N) (r : Fin 256) (d : Fin 512) :
    iblk m c 2 t (ix2 r d) = m ((c : Thread nD τ).loc main_arg2) (ix2 (pos t.val r) d) := by
  blk_ext [iblk, V, idx2 t] <;> simp only [pos] <;> have := t_lt t <;> omega

theorem blkGA (c : Dev nD) (t : Fin cfg0.N) (r : Fin 256) (d : Fin 512) :
    iblk m c 3 t (ix2 r d) = m ((c : Thread nD τ).loc main_arg7) (ix2 (pos t.val r) ⟨4096 + d.val, by omega⟩) := by
  blk_ext [iblk, V, idx3 t] <;> simp only [pos] <;> have := t_lt t <;> omega

theorem blkYB (c : Dev nD) (t : Fin cfg0.N) (r : Fin 256) (d : Fin 512) :
    iblk m c 4 t (ix2 r d) = m ((c : Thread nD τ).loc main_arg3) (ix2 (pos t.val r) d) := by
  blk_ext [iblk, V, idx4 t] <;> simp only [pos] <;> have := t_lt t <;> omega

theorem blkGB (c : Dev nD) (t : Fin cfg0.N) (r : Fin 256) (d : Fin 512) :
    iblk m c 5 t (ix2 r d) = m ((c : Thread nD τ).loc main_arg7) (ix2 (pos t.val r) ⟨4608 + d.val, by omega⟩) := by
  blk_ext [iblk, V, idx5 t] <;> simp only [pos] <;> have := t_lt t <;> omega

theorem blkOF (c : Dev nD) (t : Fin cfg0.N) (r : Fin 256) (d : Fin 512) :
    iblk m c 6 t (ix2 r d) = m ((c : Thread nD τ).loc main_arg4) (ix2 (pos t.val r) d) := by
  blk_ext [iblk, V, idx6 t] <;> simp only [pos] <;> have := t_lt t <;> omega

theorem blkOB (c : Dev nD) (t : Fin cfg0.N) (r : Fin 256) (d : Fin 512) :
    iblk m c 7 t (ix2 r d) = m ((c : Thread nD τ).loc main_arg5) (ix2 (pos t.val r) d) := by
  blk_ext [iblk, V, idx7 t] <;> simp only [pos] <;> have := t_lt t <;> omega

theorem blkGC (c : Dev nD) (t : Fin cfg0.N) (r : Fin 256) (d : Fin 512) :
    iblk m c 8 t (ix2 r d) = m ((c : Thread nD τ).loc main_arg7) (ix2 (pos t.val r) ⟨5120 + d.val, by omega⟩) := by
  blk_ext [iblk, V, idx8 t] <;> simp only [pos] <;> have := t_lt t <;> omega

theorem blkHH (c : Dev nD) (t : Fin cfg0.N) (r : Fin 256) (d : Fin 512) :
    iblk m c 9 t (ix2 r d) = m ((c : Thread nD τ).loc main_arg6) (ix2 (pos t.val r) d) := by
  blk_ext [iblk, V, idx9 t] <;> simp only [pos] <;> have := t_lt t <;> omega

theorem blkGD (c : Dev nD) (t : Fin cfg0.N) (r : Fin 256) (d : Fin 512) :
    iblk m c 10 t (ix2 r d) = m ((c : Thread nD τ).loc main_arg7) (ix2 (pos t.val r) ⟨5632 + d.val, by omega⟩) := by
  blk_ext [iblk, V, idx10 t] <;> simp only [pos] <;> have := t_lt t <;> omega

theorem blkMg (c : Dev nD) (t : Fin cfg0.N) (r : Fin 256) (d : Fin 4096) :
    X0_11 m c t (ix2 r d) = m ((c : Thread nD τ).loc main_arg7) (ix2 (pos t.val r) ⟨d.val, by omega⟩) := by
  unfold X0_11 Pipeline.Window.fill
  rw [dif_pos (moved0_11 t _)]
  blk_ext [iblk, V, idx11 t] <;> simp only [pos] <;> have := t_lt t <;> omega

theorem blkM (c : Dev nD) (t : Fin cfg0.N) (k : Fin 8) (d : Fin 3072) :
    iblk m c 1 t (ix2 k d) = m ((c : Thread nD τ).loc main_arg1) (ix2 k d) := by
  blk_ext [iblk, V, idx1 t] <;> omega

theorem blkCn (c : Dev nD) (t : Fin cfg0.N) (k : Fin 1) (d : Fin 512) :
    iblk m c 12 t (ix2 k d) = m ((c : Thread nD τ).loc main_arg8) (ix2 k d) := by
  blk_ext [iblk, V, idx12 t] <;> omega

theorem blkDng (c : Dev nD) (t : Fin cfg0.N) (k : Fin 1) (d : Fin 512) :
    iblk m c 13 t (ix2 k d) = m ((c : Thread nD τ).loc main_arg9) (ix2 k d) := by
  blk_ext [iblk, V, idx13 t] <;> omega

theorem blkDnb (c : Dev nD) (t : Fin cfg0.N) (k : Fin 1) (d : Fin 512) :
    iblk m c 14 t (ix2 k d) = m ((c : Thread nD τ).loc main_arg10) (ix2 k d) := by
  blk_ext [iblk, V, idx14 t] <;> omega

theorem blkLg (c : Dev nD) (t : Fin cfg0.N) (k : Fin 1) (d : Fin 1024) :
    iblk m c 15 t (ix2 k d) = m ((c : Thread nD τ).loc main_arg11) (ix2 k d) := by
  blk_ext [iblk, V, idx15 t] <;> omega

theorem blkLb (c : Dev nD) (t : Fin cfg0.N) (k : Fin 1) (d : Fin 1024) :
    iblk m c 16 t (ix2 k d) = m ((c : Thread nD τ).loc main_arg12) (ix2 k d) := by
  blk_ext [iblk, V, idx16 t] <;> omega

theorem blkWout (c : Dev nD) (t : Fin cfg0.N) (k : Fin 1024) (d : Fin 1024) :
    iblk m c 18 t (ix2 k d) = m ((c : Thread nD τ).loc main_arg14) (ix2 k d) := by
  blk_ext [iblk, V, idx18 t] <;> omega

theorem blkWbr (c : Dev nD) (t : Fin cfg0.N) (i : Fin 4) (k : Fin 512) (d : Fin 1024) :
    iblk m c 17 t (ix3 i k d) = m ((c : Thread nD τ).loc main_arg13) (ix3 i k d) := by
  blk_ext [iblk, V, idx17 t] <;> omega

/-- A position's four gates, in the projection's last columns. -/
def gates (p : S2304x6144.Idx → EReal) (R : Fin 2304) (i : Fin 4) (j : Fin 512) : EReal := p (ix2 R ⟨4096 + 512 * i.val + j.val, by omega⟩)

theorem blkGates (c : Dev nD) (t : Fin cfg0.N) (r : Fin 256) :
    bz (iblk m c 3 t) (iblk m c 5 t) (iblk m c 8 t) (iblk m c 10 t) r = gates (m ((c : Thread nD τ).loc main_arg7)) (pos t.val r) :=
  funext fun i => funext fun j => match i with
    | ⟨0, _⟩ => blkGA m c t r j
    | ⟨1, _⟩ => blkGB m c t r j
    | ⟨2, _⟩ => blkGC m c t r j
    | ⟨3, _⟩ => blkGD m c t r j

/-- The merge. -/
def merged (h : S2304x1024.Idx → EReal) (q : S8x3072.Idx → EReal) (ya yb of ob hh : S2304x512.Idx → EReal) (p : S2304x6144.Idx → EReal)
    (cn dng dnb : S1x512.Idx → EReal) (lg lb : S1x1024.Idx → EReal) (wbr : S4x512x1024.Idx → EReal) (wout : S1024x1024.Idx → EReal)
    (R : Fin 2304) (f : Fin 1024) : EReal :=
  out (res (fun f => h (ix2 R f)) (fun f => q (ix2 (side R) ⟨2048 + f.val, by omega⟩))
      (gated (branch (fun j => ya (ix2 R j)) (fun j => yb (ix2 R j)) (fun j => of (ix2 R j) + ob (ix2 R j)) (fun j => hh (ix2 R j))
          (gates p R) (fun j => cn (ix2 0 j)) (fun j => dng (ix2 0 j)) (fun j => dnb (ix2 0 j)))
        (fun i e => p (ix2 R ⟨1024 * i.val + e.val, by omega⟩)) (fun i j e => wbr (ix3 i j e)))
      (fun e f => wout (ix2 e f)))
    (fun f => lg (ix2 0 f)) (fun f => lb (ix2 0 f)) f

/-- The merge of what the program is given. -/
def result (c : Dev nD) : Fin 2304 → Fin 1024 → EReal :=
  merged (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))

theorem arr19 (c : Dev nD) : (dats m 0 c).arrAt 19 cfg0.N = fun y => result m c (y 0) (y 1) := by
  refine (dats m 0 c).arrAt_eq_of_covers 19 _ (by decide +kernel) fun t hf y => ?_
  blk_simp
  rw [after0_19]
  obtain ⟨a, b, rfl⟩ : ∃ (a : Fin 256) (b : Fin 1024), y = ix2 a b := ⟨y 0, y 1, eq_ix2 y⟩
  have emb : ((View.whole main_v0).slice (win0_19.rect t)).emb (ix2 a b) = ix2 (pos t.val a) b := by
    blk_ext [idx19 t] <;> simp only [pos] <;> have := t_lt t <;> omega
  rw [emb]
  simp only [outsAt0]
  frame_out
  refine (out_at (grid0.coords t) (iblk m c 0 t) (iblk m c 1 t) (iblk m c 2 t) (iblk m c 4 t) (iblk m c 6 t) (iblk m c 7 t) (iblk m c 9 t)
    (iblk m c 3 t) (iblk m c 5 t) (iblk m c 8 t) (iblk m c 10 t) (X0_11 m c t) (iblk m c 12 t) (iblk m c 13 t) (iblk m c 14 t)
    (iblk m c 15 t) (iblk m c 16 t) (iblk m c 17 t) (iblk m c 18 t) a b).trans ?_
  have hs : bside (grid0.coords t 0).val a = side (pos t.val a) := by
    have := t_lt t
    rw [coord]; simp only [bside, side, pos, show t.val % 9 = t.val by omega]
  simp only [hs, blkGates, blkH, blkM, blkYA, blkYB, blkOF, blkOB, blkHH, blkMg, blkCn, blkDng, blkDnb, blkLg, blkLb, blkWbr, blkWout]
  rfl

end Cert.MergeFwdClaims

end
-- ==== Proof.MergeFwd.lean ====
/-
  The merge: what the reference computes, and the claims.
-/
module

public import proofs.«01_k».proof.Proof.MergeFwdArray

@[expose] public section

noncomputable section

namespace Cert.MergeFwdClaims

open Idealize.ShloMosaic Idealize.SL.Sem Cert.MergeFwdRefIdeal Cert.MergeFwdRefIdeal.Read Cert.Norm Cert.Merge Cert.ReferenceIdeal.Rows Cert.Row

theorem rms_ref (x y : S2304x512.Idx → EReal) (g : S1x512.Idx → EReal) (R : Fin 2304) (j : Fin 512) :
    val_main_v21 (F := Ideal) x y g (ix2 R j) = rms (fun j => x (ix2 R j) + y (ix2 R j)) (fun j => g (ix2 0 j)) j := by
  pointwise [val_main_v21, val_main_v20, val_main_v19, val_main_v18, val_main_v17, val_main_v16, val_main_v15, val_main_v14, val_main_cst_1,
    val_main_v13, val_main_v12, val_main_cst_0, val_main_v11, val_main_v10, val_main_cst, val_main_v9, val_main_v8, val_main_v7, val_main_v6]
  exact rms_of (fun j => x (ix2 R j) + y (ix2 R j)) (fun j => g (ix2 0 j)) j j (fun d => ⟨j.val / 128 * 128 + d.val, by omega⟩) rfl
    (fun d => by show j.val / 128 * 128 + d.val = _; omega)

theorem norm_ref (x : S2304x512.Idx → EReal) (g b : S1x512.Idx → EReal) (R : Fin 2304) (j : Fin 512) :
    val_main_v43 (F := Ideal) x g b (ix2 R j)
      = norm (Ideal.ofBits .f32 0x44000000#32) (fun j => x (ix2 R j)) j * g (ix2 0 j) + b (ix2 0 j) := by
  pointwise [val_main_v43, val_main_v42, val_main_v41, val_main_v40, val_main_v39, val_main_v38, val_main_v37, val_main_v36, val_main_v35,
    val_main_cst_6, val_main_v34, val_main_v33, val_main_v32, val_main_v31, val_main_cst_5, val_main_v30, val_main_v29, val_main_cst_4,
    val_main_v28, val_main_v27, val_main_v26, val_main_v25, val_main_v24, val_main_cst_3, val_main_v23, val_main_v22, val_main_cst_2]
  rfl

theorem silu_hh (x : S2304x512.Idx → EReal) (g b : S1x512.Idx → EReal) (R : Fin 2304) (j : Fin 512) :
    val_main_v44 (F := Ideal) x g b (ix2 R j)
      = silu (norm (Ideal.ofBits .f32 0x44000000#32) (fun j => x (ix2 R j)) j * g (ix2 0 j) + b (ix2 0 j)) := by
  rw [← norm_ref x g b R j]
  unfold val_main_v44 val_main_call0_v5 val_main_call0_v3 val_main_call0_v1 val_main_call0_v0
  generalize val_main_v43 (F := Ideal) x g b = a
  pointwise [val_main_call0_v4, val_main_call0_cst_0, val_main_call0_v2, val_main_call0_cst]
  rfl

theorem silu_a (p : S2304x6144.Idx → EReal) (R : Fin 2304) (j : Fin 512) :
    val_main_v45 (F := Ideal) p (ix2 R j) = silu (gates p R 0 j) := by
  pointwise [val_main_v45, val_main_call1_v5, val_main_call1_v4, val_main_call1_cst_0, val_main_call1_v3, val_main_call1_v2, val_main_call1_cst, val_main_call1_v1, val_main_call1_v0, val_main_v2, val_main_v0]
  rfl

theorem silu_b (p : S2304x6144.Idx → EReal) (R : Fin 2304) (j : Fin 512) :
    val_main_v47 (F := Ideal) p (ix2 R j) = silu (gates p R 1 j) := by
  pointwise [val_main_v47, val_main_call2_v5, val_main_call2_v4, val_main_call2_cst_0, val_main_call2_v3, val_main_call2_v2, val_main_call2_cst, val_main_call2_v1, val_main_call2_v0, val_main_v3, val_main_v0]
  rfl

theorem silu_c (p : S2304x6144.Idx → EReal) (R : Fin 2304) (j : Fin 512) :
    val_main_v49 (F := Ideal) p (ix2 R j) = silu (gates p R 2 j) := by
  pointwise [val_main_v49, val_main_call3_v5, val_main_call3_v4, val_main_call3_cst_0, val_main_call3_v3, val_main_call3_v2, val_main_call3_cst, val_main_call3_v1, val_main_call3_v0, val_main_v4, val_main_v0]
  rfl

theorem silu_d (p : S2304x6144.Idx → EReal) (R : Fin 2304) (j : Fin 512) :
    val_main_v51 (F := Ideal) p (ix2 R j) = silu (gates p R 3 j) := by
  pointwise [val_main_v51, val_main_call4_v5, val_main_call4_v4, val_main_call4_cst_0, val_main_call4_v3, val_main_call4_v2, val_main_call4_cst, val_main_call4_v1, val_main_call4_v0, val_main_v5, val_main_v0]
  rfl

section

variable (ya yb of ob hh : S2304x512.Idx → EReal) (p : S2304x6144.Idx → EReal) (cn dng dnb : S1x512.Idx → EReal)
  (wbr : S4x512x1024.Idx → EReal) (R : Fin 2304)

/-- What the four branches of the reference hand on. -/
abbrev B : Fin 4 → Fin 512 → EReal :=
  branch (fun j => ya (ix2 R j)) (fun j => yb (ix2 R j)) (fun j => of (ix2 R j) + ob (ix2 R j)) (fun j => hh (ix2 R j))
    (gates p R) (fun j => cn (ix2 0 j)) (fun j => dng (ix2 0 j)) (fun j => dnb (ix2 0 j))

theorem branch_a (j : Fin 512) : val_main_v46 (F := Ideal) ya p (ix2 R j) = B ya yb of ob hh p cn dng dnb R 0 j :=
  congrArg (fun s : EReal => ya (ix2 R j) * s) (silu_a p R j)

theorem branch_b (j : Fin 512) : val_main_v48 (F := Ideal) yb p (ix2 R j) = B ya yb of ob hh p cn dng dnb R 1 j :=
  congrArg (fun s : EReal => yb (ix2 R j) * s) (silu_b p R j)

theorem branch_c (j : Fin 512) : val_main_v50 (F := Ideal) of ob p cn (ix2 R j) = B ya yb of ob hh p cn dng dnb R 2 j :=
  congrArg₂ (fun a b : EReal => a * b) (rms_ref of ob cn R j) (silu_c p R j)

theorem branch_d (j : Fin 512) : val_main_v52 (F := Ideal) hh p dng dnb (ix2 R j) = B ya yb of ob hh p cn dng dnb R 3 j :=
  congrArg₂ (fun a b : EReal => a * b) (silu_hh hh dng dnb R j) (silu_d p R j)

theorem gate_ref (i : Fin 4) (e : Fin 1024) :
    val_main_v75 (F := Ideal) p (ix3 R i e) = Ideal.logistic (p (ix2 R ⟨1024 * i.val + e.val, by omega⟩)) := by
  pointwise [val_main_v75, val_main_v74, val_main_cst_8, val_main_v73, val_main_v72, val_main_cst_7, val_main_v71, val_main_v70, val_main_v69,
    val_main_v1, val_main_v0]
  exact congrArg (fun q => Ideal.logistic (p (ix2 R q))) (Fin.ext (by show i.val * 1024 + e.val = 1024 * i.val + e.val; omega))

theorem gated_ref (e : Fin 1024) :
    val_main_v90 (F := Ideal) ya yb of ob hh p cn dng dnb wbr (ix2 R e)
      = gated (B ya yb of ob hh p cn dng dnb R) (fun i e => p (ix2 R ⟨1024 * i.val + e.val, by omega⟩)) (fun i j e => wbr (ix3 i j e)) e := by
  have hg := gate_ref p R
  have ha := branch_a ya yb of ob hh p cn dng dnb R
  have hb := branch_b ya yb of ob hh p cn dng dnb R
  have hc := branch_c ya yb of ob hh p cn dng dnb R
  have hd := branch_d ya yb of ob hh p cn dng dnb R
  unfold val_main_v90 val_main_v89 val_main_v88 val_main_v87 val_main_v86 val_main_v85 val_main_v84 val_main_v83 val_main_v82 val_main_v81
    val_main_v80 val_main_v79 val_main_v78 val_main_v77 val_main_v76 val_main_v68 val_main_v64 val_main_v60 val_main_v56
  generalize val_main_v75 (F := Ideal) p = g at hg ⊢
  generalize val_main_v46 (F := Ideal) ya p = a at ha ⊢
  generalize val_main_v48 (F := Ideal) yb p = b at hb ⊢
  generalize val_main_v50 (F := Ideal) of ob p cn = c at hc ⊢
  generalize val_main_v52 (F := Ideal) hh p dng dnb = d at hd ⊢
  pointwise [val_main_v53, val_main_v54, val_main_v55, val_main_v57, val_main_v58, val_main_v59, val_main_v61, val_main_v62, val_main_v63,
    val_main_v65, val_main_v66, val_main_v67]
  simp only [hg, ha, hb, hc, hd]
  rfl

theorem out_ref (wout : S1024x1024.Idx → EReal) (f : Fin 1024) :
    val_main_v92 (F := Ideal) ya yb of ob hh p cn dng dnb wbr wout (ix2 R f)
      = ∑ e, gated (B ya yb of ob hh p cn dng dnb R) (fun i e => p (ix2 R ⟨1024 * i.val + e.val, by omega⟩)) (fun i j e => wbr (ix3 i j e)) e
          * wout (ix2 e f) := by
  have h := gated_ref ya yb of ob hh p cn dng dnb wbr R
  unfold val_main_v92
  generalize val_main_v90 (F := Ideal) ya yb of ob hh p cn dng dnb wbr = a at h ⊢
  pointwise [val_main_v91]
  simp only [h]

variable (h : S2304x1024.Idx → EReal) (q : S8x3072.Idx → EReal) (lg lb : S1x1024.Idx → EReal) (wout : S1024x1024.Idx → EReal)

theorem early (r : Fin 256) (f : Fin 1024) :
    val_main_v158 (F := Ideal) h q ya yb of ob hh p cn dng dnb lg lb wbr wout (ix2 (wide r) f)
      = merged h q ya yb of ob hh p cn dng dnb lg lb wbr wout (wide r) f := by
  have e := out_ref ya yb of ob hh p cn dng dnb wbr (wide r) wout
  have e3 : ∀ f, val_main_v103 (F := Ideal) h q ya yb of ob hh p cn dng dnb wbr wout (ix2 r f)
      = res (fun f => h (ix2 (wide r) f)) (fun f => q (ix2 (side (wide r)) ⟨2048 + f.val, by omega⟩))
        (gated (B ya yb of ob hh p cn dng dnb (wide r)) (fun i e => p (ix2 (wide r) ⟨1024 * i.val + e.val, by omega⟩)) (fun i j e => wbr (ix3 i j e)))
        (fun e f => wout (ix2 e f)) f := by
    intro f
    unfold val_main_v103 val_main_v102 val_main_v95
    generalize val_main_v92 (F := Ideal) ya yb of ob hh p cn dng dnb wbr wout = y at e ⊢
    pointwise [val_main_v101, val_main_v100, val_main_v97, val_main_v96, val_main_v93, val_main_v99, val_main_v98, val_main_cst_9, val_main_v94]
    simp only [side, r.isLt, if_true]
    exact congrArg (fun z : EReal => Ideal.ofBits .f32 0x3FB504F3#32 * h (ix2 (wide r) f) + q (ix2 1 ⟨2048 + f.val, by omega⟩) * z) (e f)
  have e5 : val_main_v125 (F := Ideal) h q ya yb of ob hh p cn dng dnb lg lb wbr wout (ix2 r f)
      = merged h q ya yb of ob hh p cn dng dnb lg lb wbr wout (wide r) f := by
    unfold val_main_v125 val_main_v123 val_main_v121 val_main_v120 val_main_v119 val_main_v118 val_main_v116 val_main_v115
      val_main_v114 val_main_v113 val_main_v112 val_main_v111 val_main_v110 val_main_v109 val_main_v108 val_main_v107 val_main_v106 val_main_v105
      val_main_v104
    generalize val_main_v103 (F := Ideal) h q ya yb of ob hh p cn dng dnb wbr wout = y at e3 ⊢
    pointwise [val_main_v124, val_main_v122, val_main_v117, val_main_cst_14, val_main_cst_13, val_main_cst_12, val_main_cst_11, val_main_cst_10]
    simp only [e3]
    rfl
  unfold val_main_v158
  generalize val_main_v125 (F := Ideal) h q ya yb of ob hh p cn dng dnb lg lb wbr wout = y at e5 ⊢
  generalize val_main_v157 (F := Ideal) h q ya yb of ob hh p cn dng dnb lg lb wbr wout = z
  pointwise
  exact e5

theorem after (r : Fin 2048) (f : Fin 1024) :
    val_main_v158 (F := Ideal) h q ya yb of ob hh p cn dng dnb lg lb wbr wout (ix2 (late r) f)
      = merged h q ya yb of ob hh p cn dng dnb lg lb wbr wout (late r) f := by
  have e := out_ref ya yb of ob hh p cn dng dnb wbr (late r) wout
  have e3 : ∀ f, val_main_v135 (F := Ideal) h q ya yb of ob hh p cn dng dnb wbr wout (ix2 r f)
      = res (fun f => h (ix2 (late r) f)) (fun f => q (ix2 (side (late r)) ⟨2048 + f.val, by omega⟩))
        (gated (B ya yb of ob hh p cn dng dnb (late r)) (fun i e => p (ix2 (late r) ⟨1024 * i.val + e.val, by omega⟩)) (fun i j e => wbr (ix3 i j e)))
        (fun e f => wout (ix2 e f)) f := by
    intro f
    unfold val_main_v135 val_main_v134 val_main_v127
    generalize val_main_v92 (F := Ideal) ya yb of ob hh p cn dng dnb wbr wout = y at e ⊢
    pointwise [val_main_v133, val_main_v132, val_main_v129, val_main_v128, val_main_v93, val_main_v131, val_main_v130, val_main_cst_15, val_main_v126]
    have e' : (late r).val = 256 + r.val := rfl
    simp only [side, show ¬(late r).val < 256 by omega, if_false]
    exact congrArg (fun z : EReal => Ideal.ofBits .f32 0x3FB504F3#32 * h (ix2 (late r) f) + q (ix2 0 ⟨2048 + f.val, by omega⟩) * z) (e f)
  have e5 : val_main_v157 (F := Ideal) h q ya yb of ob hh p cn dng dnb lg lb wbr wout (ix2 r f)
      = merged h q ya yb of ob hh p cn dng dnb lg lb wbr wout (late r) f := by
    unfold val_main_v157 val_main_v155 val_main_v153 val_main_v152 val_main_v151 val_main_v150 val_main_v148 val_main_v147
      val_main_v146 val_main_v145 val_main_v144 val_main_v143 val_main_v142 val_main_v141 val_main_v140 val_main_v139 val_main_v138 val_main_v137
      val_main_v136
    generalize val_main_v135 (F := Ideal) h q ya yb of ob hh p cn dng dnb wbr wout = y at e3 ⊢
    pointwise [val_main_v156, val_main_v154, val_main_v149, val_main_cst_20, val_main_cst_19, val_main_cst_18, val_main_cst_17, val_main_cst_16]
    simp only [e3]
    rfl
  unfold val_main_v158
  generalize val_main_v157 (F := Ideal) h q ya yb of ob hh p cn dng dnb lg lb wbr wout = y at e5 ⊢
  generalize val_main_v125 (F := Ideal) h q ya yb of ob hh p cn dng dnb lg lb wbr wout = z
  pointwise
  have e' : (late r).val = 256 + r.val := rfl
  have e'' : (⟨(late r).val - 256, by omega⟩ : Fin 2048) = r := Fin.ext (by show (late r).val - 256 = r.val; omega)
  rw [dif_neg (by omega), e'', e5]

theorem ref : val_main_v158 (F := Ideal) h q ya yb of ob hh p cn dng dnb lg lb wbr wout
    = fun y => merged h q ya yb of ob hh p cn dng dnb lg lb wbr wout (y 0) (y 1) := by
  funext y
  obtain ⟨R, f, rfl⟩ : ∃ (R : Fin 2304) (f : Fin 1024), y = ix2 R f := ⟨y 0, y 1, eq_ix2 y⟩
  by_cases hR : R.val < 256
  · exact early ya yb of ob hh p cn dng dnb wbr h q lg lb wout ⟨R.val, hR⟩ f
  · obtain ⟨r, rfl⟩ : ∃ r : Fin 2048, R = late r := ⟨⟨R.val - 256, by omega⟩, Fin.ext (by show R.val = 256 + (R.val - 256); omega)⟩
    exact after ya yb of ob hh p cn dng dnb wbr h q lg lb wout r f

end

theorem frame : Cert.quiescent_MergeFwd := fun m ρ _ => Cert.MergeFwd.Gen.frame m ρ

theorem frame_ideal : Cert.quiescent_MergeFwdIdeal := fun m ρ _ => Cert.MergeFwdIdeal.Gen.frame m ρ

theorem frame_ref : Cert.quiescent_MergeFwdRefIdeal := fun m ρ _ =>
  (θ_run Cert.MergeFwdRefIdeal.defs _ _).mono
    (fun r h => ⟨fun c => (h c).2, sem_eq_zero_of_no_sems (by decide) r.2⟩) (Cert.MergeFwdRefIdeal.Value.run m ρ)

theorem algebraic : Cert.algebraic_MergeFwdIdeal_MergeFwdRefIdeal := fun m ρ m' ρ' _ hargs =>
  ⟨fun c y => result m c (y 0) (y 1),
    (θ_run Cert.MergeFwdIdeal.defs _ _).mono
      (fun r h c => ⟨(h c).1.trans (arr19 m c), (h c).2⟩) (Cert.MergeFwdIdeal.Value.run_blocks m ρ),
    (θ_run Cert.MergeFwdRefIdeal.defs _ _).mono
      (fun r h c => by
        obtain ⟨e0, e1, e2, e3, e4, e5, e6, e7, e8, e9, e10, e11, e12, e13, e14⟩ := hargs c
        refine ⟨(((h c).1.trans (Cert.MergeFwdRefIdeal.Read.val_main_v158_eq (StableHlo.launchContents m' c))).trans (ref _ _ _ _ _ _ _ _ _ _ _ _ _ _ _)).trans ?_, (h c).2⟩
        rw [show StableHlo.launchContents m' c (Proc.devRef .tc main_arg0) = _ from e0,
          show StableHlo.launchContents m' c (Proc.devRef .tc main_arg1) = _ from e1,
          show StableHlo.launchContents m' c (Proc.devRef .tc main_arg2) = _ from e2,
          show StableHlo.launchContents m' c (Proc.devRef .tc main_arg3) = _ from e3,
          show StableHlo.launchContents m' c (Proc.devRef .tc main_arg4) = _ from e4,
          show StableHlo.launchContents m' c (Proc.devRef .tc main_arg5) = _ from e5,
          show StableHlo.launchContents m' c (Proc.devRef .tc main_arg6) = _ from e6,
          show StableHlo.launchContents m' c (Proc.devRef .tc main_arg7) = _ from e7,
          show StableHlo.launchContents m' c (Proc.devRef .tc main_arg8) = _ from e8,
          show StableHlo.launchContents m' c (Proc.devRef .tc main_arg9) = _ from e9,
          show StableHlo.launchContents m' c (Proc.devRef .tc main_arg10) = _ from e10,
          show StableHlo.launchContents m' c (Proc.devRef .tc main_arg11) = _ from e11,
          show StableHlo.launchContents m' c (Proc.devRef .tc main_arg12) = _ from e12,
          show StableHlo.launchContents m' c (Proc.devRef .tc main_arg13) = _ from e13,
          show StableHlo.launchContents m' c (Proc.devRef .tc main_arg14) = _ from e14]
        rfl)
      (Cert.MergeFwdRefIdeal.Value.run m' ρ')⟩

end Cert.MergeFwdClaims

end
-- ==== Proof.ModFwd.lean ====
/-
  The modulation: the gate `silu` of the conditioning vector, times the layer's weights, plus the bias.
-/
module

public import proofs.«01_k».proof.Defs
public import proofs.«01_k».proof.Proof.MergeFn
public import proofs.«01_k».proof.Proof.Gen.ModFwd.Frame
public import proofs.«01_k».proof.Proof.Gen.ModFwdIdeal.Value
public import proofs.«01_k».proof.Proof.Gen.ModFwdRefIdeal.Run
public import proofs.«01_k».proof.Proof.Gen.ModFwdRefIdeal.Read
public import Idealize.ShloMosaic.Lib.Pipeline.ValueKit
public import Idealize.ShloMosaic.Lib.Quiescent

@[expose] public section

noncomputable section

namespace Cert.ModFwdClaims

open Cert.ModFwdIdeal Cert.ModFwdIdeal.Gen Idealize.ShloMosaic Idealize.ShloMosaic.TcCoe Idealize.SL.Sem Cert.Merge

/-- The modulation of sample `r`, at `k`: `k / 768` is the weights' slab. -/
def modulation (x : S8x1024.Idx → EReal) (w : S4x1024x768.Idx → EReal) (b : S3072.Idx → EReal) (r : Fin 8) (k : Fin 3072) : EReal :=
  (∑ j : Fin 1024, silu (x (ix2 r j)) * w (ix3 ⟨k.val / 768, by omega⟩ j ⟨k.val % 768, by omega⟩)) + b (ix1 k)

theorem pay_at (x : Vec Ideal S8x1024 .f32) (w : Vec Ideal S1x1024x768 .bf16) (b : Vec Ideal S1x768 .f32) (r : Fin 8) (e : Fin 768) :
    k0_pay1 x w b (ix2 r e)
      = (∑ j : Fin 1024, @HMul.hMul EReal EReal EReal _ (silu (x (ix2 r j))) (w (ix3 0 j e))) + b (ix2 0 e) := by
  pointwise [k0_pay1, sig_of]
  rfl

variable (m : (ℓ : Loc nD τ sig) → Buf (Elt Ideal) ℓ)

abbrev X (c : Dev nD) : S8x1024.Idx → EReal := m ((c : Thread nD τ).loc main_arg0)
abbrev W (c : Dev nD) : S4x1024x768.Idx → EReal := m ((c : Thread nD τ).loc main_arg1)
abbrev B (c : Dev nD) : S3072.Idx → EReal := m ((c : Thread nD τ).loc main_arg2)

theorem idx0 : ∀ t : Fin cfg0.N, win0_0.index t = ![0, 0] := by decide +kernel
theorem idx1 : ∀ t : Fin cfg0.N, win0_1.index t = ![t.val, 0, 0] := by decide +kernel
theorem idx2 : ∀ t : Fin cfg0.N, win0_2.index t = ![0, t.val] := by decide +kernel
theorem idx3 : ∀ t : Fin cfg0.N, win0_3.index t = ![0, t.val] := by decide +kernel

theorem t_lt (t : Fin cfg0.N) : t.val < 4 := t.isLt

/-- The column that the block of point `t` has at `e`. -/
def col (t : ℕ) (e : Fin 768) : Fin 3072 := ⟨t % 4 * 768 + e.val, by omega⟩

theorem blkX (c : Dev nD) (t : Fin cfg0.N) (r : Fin 8) (j : Fin 1024) : iblk m c 0 t (ix2 r j) = X m c (ix2 r j) := by
  blk_ext [iblk, V, idx0 t] <;> omega

theorem blkW (c : Dev nD) (t : Fin cfg0.N) (j : Fin 1024) (e : Fin 768) :
    iblk m c 1 t (ix3 0 j e) = W m c (ix3 ⟨t.val % 4, by omega⟩ j e) := by
  blk_ext [iblk, V, idx1 t] <;> have := t_lt t <;> omega

theorem bias (c : Dev nD) (k : Fin 3072) : V m c main_v0 (ix2 0 k) = B m c (ix1 k) := by
  show broadcastInDim S1x3072 ![1] bcast_S3072_S1x3072_1 (B m c : (⟨S3072, .f32⟩ : BufTy).Contents (Elt Ideal)) (ix2 0 k) = _
  pointwise

theorem blkB (c : Dev nD) (t : Fin cfg0.N) (e : Fin 768) : iblk m c 2 t (ix2 0 e) = B m c (ix1 (col t.val e)) := by
  refine Eq.trans (b := V m c main_v0 (ix2 0 (col t.val e))) ?_ (bias m c _)
  blk_ext [iblk, idx2 t] <;> simp only [col] <;> have := t_lt t <;> omega

theorem arr3 (c : Dev nD) : (dats m 0 c).arrAt 3 cfg0.N = fun y => modulation (X m c) (W m c) (B m c) (y 0) (y 1) := by
  refine (dats m 0 c).arrAt_eq_of_covers 3 _ (by decide +kernel) fun t hf y => ?_
  blk_simp
  rw [after0_3]
  obtain ⟨a, b, rfl⟩ : ∃ (a : Fin 8) (b : Fin 768), y = ix2 a b := ⟨y 0, y 1, eq_ix2 y⟩
  have emb : ((View.whole main_v1).slice (win0_3.rect t)).emb (ix2 a b) = ix2 a (col t.val b) := by
    blk_ext [idx3 t] <;> simp only [col] <;> have := t_lt t <;> omega
  rw [emb]
  unfold out0_3
  frame_out
  refine (pay_at _ _ _ a b).trans ?_
  simp only [blkX, blkW, blkB]
  have h1 : (⟨(col t.val b).val / 768, by omega⟩ : Fin 4) = ⟨t.val % 4, by omega⟩ := Fin.ext (by simp only [col]; omega)
  have h2 : (⟨(col t.val b).val % 768, by omega⟩ : Fin 768) = b := Fin.ext (by simp only [col]; omega)
  show _ = (∑ j : Fin 1024, silu (X m c (ix2 a j)) * W m c (ix3 ⟨(col t.val b).val / 768, by omega⟩ j ⟨(col t.val b).val % 768, by omega⟩))
    + B m c (ix1 (col t.val b))
  rw [h1, h2]

open Cert.ModFwdRefIdeal.Read

theorem ref (x : S8x1024.Idx → EReal) (w : S4x1024x768.Idx → EReal) (b : S3072.Idx → EReal) :
    val_main_v7 (F := Ideal) x w b = fun y => modulation x w b (y 0) (y 1) := by
  funext y
  obtain ⟨r, k, rfl⟩ : ∃ (r : Fin 8) (k : Fin 3072), y = ix2 r k := ⟨y 0, y 1, eq_ix2 y⟩
  pointwise [val_main_v7, val_main_v4, val_main_v0, val_main_call0_v5, val_main_call0_v4, val_main_call0_cst_0, val_main_call0_v3,
    val_main_call0_v2, val_main_call0_cst, val_main_call0_v1, val_main_call0_v0, val_main_v3, val_main_v2, val_main_v1,
    val_main_v6, val_main_v5]
  rfl

theorem frame : Cert.quiescent_ModFwd := fun m ρ _ => Cert.ModFwd.Gen.frame m ρ

theorem frame_ideal : Cert.quiescent_ModFwdIdeal := fun m ρ _ => Cert.ModFwdIdeal.Gen.frame m ρ

theorem frame_ref : Cert.quiescent_ModFwdRefIdeal := fun m ρ _ =>
  (θ_run Cert.ModFwdRefIdeal.defs _ _).mono
    (fun r h => ⟨fun c => (h c).2, sem_eq_zero_of_no_sems (by decide) r.2⟩) (Cert.ModFwdRefIdeal.Value.run m ρ)

theorem algebraic : Cert.algebraic_ModFwdIdeal_ModFwdRefIdeal := fun m ρ m' ρ' _ hargs =>
  ⟨fun c y => modulation (X m c) (W m c) (B m c) (y 0) (y 1),
    (θ_run Cert.ModFwdIdeal.defs _ _).mono
      (fun r h c => ⟨(h c).1.trans (arr3 m c), (h c).2⟩) (Cert.ModFwdIdeal.Value.run_blocks m ρ),
    (θ_run Cert.ModFwdRefIdeal.defs _ _).mono
      (fun r h c => by
        obtain ⟨e0, e1, e2⟩ := hargs c
        refine ⟨((h c).1.trans (Cert.ModFwdRefIdeal.Read.val_main_v7_eq _ _ _)).trans ?_, (h c).2⟩
        rw [e0, e1, e2]
        exact ref _ _ _)
      (Cert.ModFwdRefIdeal.Value.run m' ρ')⟩

end Cert.ModFwdClaims

end
-- ==== Proof.ModBwd.lean ====
/-
  The backward pass of the modulation: the gradient of its weights, and of the conditioning vector by layer and slab.
-/
module

public import proofs.«01_k».proof.Defs
public import proofs.«01_k».proof.Proof.MergeFn
public import proofs.«01_k».proof.Proof.NormGrad
public import proofs.«01_k».proof.Proof.Finite
public import proofs.«01_k».proof.Proof.Gen.ModBwd.Frame
public import proofs.«01_k».proof.Proof.Gen.ModBwdIdeal.Value
public import proofs.«01_k».proof.Proof.Gen.ModBwdRefIdeal.Run
public import proofs.«01_k».proof.Proof.Gen.ModBwdRefIdeal.Read
public import Idealize.ShloMosaic.Lib.Pipeline.ValueKit
public import Idealize.ShloMosaic.Lib.Quiescent

@[expose] public section

noncomputable section

namespace Cert.Pre_finite_mod

open Idealize.ShloMosaic

theorem facts : Facts := ⟨by decide, by decide, by decide, by decide⟩

end Cert.Pre_finite_mod

namespace Cert.ModBwdClaims

instance : Cert.Pre_finite_mod.Facts := Cert.Pre_finite_mod.facts

open Cert.ModBwdIdeal Cert.ModBwdIdeal.Gen Idealize.ShloMosaic Idealize.ShloMosaic.TcCoe Idealize.SL.Sem Cert.Merge Cert.Norm

/-- The derivative of `silu`. -/
def slope (x : EReal) : EReal := Ideal.logistic x + x * (Ideal.logistic x - Ideal.logistic x * Ideal.logistic x)

/-- The cotangent of layer `l`'s slab `k`. -/
def cot (g : S2x8x3072.Idx → EReal) (l : Fin 2) (k : Fin 4) (r : Fin 8) (e : Fin 768) : EReal := g (ix3 l r ⟨k.val * 768 + e.val, by omega⟩)

/-- The gradient of the weights. -/
def dw (x : S8x1024.Idx → EReal) (g : S2x8x3072.Idx → EReal) (k : Fin 4) (l : Fin 2) (j : Fin 1024) (e : Fin 768) : EReal :=
  ∑ r : Fin 8, silu (x (ix2 r j)) * cot g l k r e

/-- The gradient of the conditioning vector, one layer's weights at one slab. -/
def dc (x : S8x1024.Idx → EReal) (w : S4x1024x768.Idx → EReal) (g : S2x8x3072.Idx → EReal) (l : Fin 2) (k : Fin 4) (r : Fin 8)
    (j : Fin 1024) : EReal :=
  (∑ e : Fin 768, cot g l k r e * w (ix3 k j e)) * slope (x (ix2 r j))

theorem pick1 {α : Type} (n : ℕ) (h : n < 2) (p q : α) :
    Scalar.select (Scalar.cmpi .eq (BitVec.ofNat 32 n) 1#32) p q = if n = 1 then p else q := by
  rcases (by omega : n = 0 ∨ n = 1) with rfl | rfl <;> rfl

theorem pay_dw (x : Vec Ideal S8x1024 .f32) (g : Vec Ideal S1x8x768 .f32) (j : Fin 1024) (e : Fin 768) :
    k0_pay5 x g (ix4 0 0 j e) = ∑ r : Fin 8, @HMul.hMul EReal EReal EReal _ (silu (x (ix2 r j))) (g (ix3 0 r e)) := by
  pointwise [k0_pay5, k0_pay3, k0_pay2, sig_of]
  rfl

theorem pay_dc (i : grid0.Coords) (w0 w1 : Vec Ideal S1x1024x768 .bf16) (x : Vec Ideal S8x1024 .f32) (g : Vec Ideal S1x8x768 .f32)
    (r : Fin 8) (j : Fin 1024) :
    k0_pay1 (k0_pay4 i w0 w1 x g) (ix4 0 0 r j)
      = (∑ e : Fin 768, @HMul.hMul EReal EReal EReal _ (g (ix3 0 r e)) ((if (i 0).val = 1 then w1 else w0) (ix3 0 j e)))
        * slope (x (ix2 r j)) := by
  pointwise [k0_pay1, k0_pay4, k0_pay3, k0_pay2, sig_of]
  simp only [pick1 _ (i 0).isLt]
  rcases Classical.em ((i 0).val = 1) with h | h
  · simp only [h, if_true]; rfl
  · simp only [h, if_false]; rfl

variable (m : (ℓ : Loc nD τ sig) → Buf (Elt Ideal) ℓ)

abbrev X (c : Dev nD) : S8x1024.Idx → EReal := m ((c : Thread nD τ).loc main_arg0)
abbrev W0 (c : Dev nD) : S4x1024x768.Idx → EReal := m ((c : Thread nD τ).loc main_arg1)
abbrev W1 (c : Dev nD) : S4x1024x768.Idx → EReal := m ((c : Thread nD τ).loc main_arg2)
abbrev G (c : Dev nD) : S2x8x3072.Idx → EReal := m ((c : Thread nD τ).loc main_arg3)

theorem idx0 : ∀ t : Fin cfg0.N, win0_0.index t = ![0, 0] := by decide +kernel
theorem idx1 : ∀ t : Fin cfg0.N, win0_1.index t = ![t.val % 4, 0, 0] := by decide +kernel
theorem idx2 : ∀ t : Fin cfg0.N, win0_2.index t = ![t.val % 4, 0, 0] := by decide +kernel
theorem idx3 : ∀ t : Fin cfg0.N, win0_3.index t = ![t.val / 4, 0, t.val % 4] := by decide +kernel
theorem idx4 : ∀ t : Fin cfg0.N, win0_4.index t = ![t.val % 4, t.val / 4, 0, 0] := by decide +kernel
theorem idx5 : ∀ t : Fin cfg0.N, win0_5.index t = ![t.val / 4, t.val % 4, 0, 0] := by decide +kernel
theorem coord : ∀ t : Fin cfg0.N, (grid0.coords t 0).val = t.val / 4 := by decide +kernel

theorem t_lt (t : Fin cfg0.N) : t.val < 8 := t.isLt

/-- The layer of point `t`, and its slab. -/
def lay (t : ℕ) : Fin 2 := ⟨t / 4 % 2, by omega⟩
def slot (t : ℕ) : Fin 4 := ⟨t % 4, by omega⟩

theorem blkX (c : Dev nD) (t : Fin cfg0.N) (r : Fin 8) (j : Fin 1024) : iblk m c 0 t (ix2 r j) = X m c (ix2 r j) := by
  blk_ext [iblk, V, idx0 t] <;> omega

theorem blkW0 (c : Dev nD) (t : Fin cfg0.N) (j : Fin 1024) (e : Fin 768) : iblk m c 1 t (ix3 0 j e) = W0 m c (ix3 (slot t.val) j e) := by
  blk_ext [iblk, V, idx1 t] <;> simp only [slot] <;> omega

theorem blkW1 (c : Dev nD) (t : Fin cfg0.N) (j : Fin 1024) (e : Fin 768) : iblk m c 2 t (ix3 0 j e) = W1 m c (ix3 (slot t.val) j e) := by
  blk_ext [iblk, V, idx2 t] <;> simp only [slot] <;> omega

theorem blkG (c : Dev nD) (t : Fin cfg0.N) (r : Fin 8) (e : Fin 768) :
    iblk m c 3 t (ix3 0 r e) = cot (G m c) (lay t.val) (slot t.val) r e := by
  unfold cot
  blk_ext [iblk, V, idx3 t] <;> simp only [lay, slot] <;> have := t_lt t <;> omega

theorem arr4 (c : Dev nD) : (dats m 0 c).arrAt 4 cfg0.N = fun y => dw (X m c) (G m c) (y 0) (y 1) (y 2) (y 3) := by
  refine (dats m 0 c).arrAt_eq_of_covers 4 _ (by decide +kernel) fun t hf y => ?_
  blk_simp
  rw [after0_4]
  obtain ⟨a, b, j, e, rfl⟩ : ∃ (a : Fin 1) (b : Fin 1) (j : Fin 1024) (e : Fin 768), y = ix4 a b j e :=
    ⟨y 0, y 1, y 2, y 3, eq_ix4 y⟩
  obtain rfl : a = 0 := Subsingleton.elim _ _
  obtain rfl : b = 0 := Subsingleton.elim _ _
  have emb : ((View.whole main_v0_0).slice (win0_4.rect t)).emb (ix4 0 0 j e) = ix4 (slot t.val) (lay t.val) j e := by
    blk_ext [idx4 t] <;> simp only [lay, slot] <;> have := t_lt t <;> omega
  rw [emb]
  unfold out0_4
  frame_out
  refine (pay_dw _ _ j e).trans ?_
  simp only [blkX, blkG]
  rfl

/-- The weights of layer `l`. -/
def pickW (w0 w1 : S4x1024x768.Idx → EReal) (l : Fin 2) : S4x1024x768.Idx → EReal := if l.val = 1 then w1 else w0

theorem arr5 (c : Dev nD) : (dats m 0 c).arrAt 5 cfg0.N
    = fun y => dc (X m c) (pickW (W0 m c) (W1 m c) (y 0)) (G m c) (y 0) (y 1) (y 2) (y 3) := by
  refine (dats m 0 c).arrAt_eq_of_covers 5 _ (by decide +kernel) fun t hf y => ?_
  blk_simp
  rw [after0_5]
  obtain ⟨a, b, r, j, rfl⟩ : ∃ (a : Fin 1) (b : Fin 1) (r : Fin 8) (j : Fin 1024), y = ix4 a b r j :=
    ⟨y 0, y 1, y 2, y 3, eq_ix4 y⟩
  obtain rfl : a = 0 := Subsingleton.elim _ _
  obtain rfl : b = 0 := Subsingleton.elim _ _
  have emb : ((View.whole main_v0_1).slice (win0_5.rect t)).emb (ix4 0 0 r j) = ix4 (lay t.val) (slot t.val) r j := by
    blk_ext [idx5 t] <;> simp only [lay, slot] <;> have := t_lt t <;> omega
  rw [emb]
  unfold out0_5
  frame_out
  refine (pay_dc _ _ _ _ _ r j).trans ?_
  have hl : (grid0.coords t 0).val = (lay t.val).val := by rw [coord]; simp only [lay]; have := t_lt t; omega
  have hw : ∀ e, (if (grid0.coords t 0).val = 1 then iblk m c 2 t else iblk m c 1 t) (ix3 0 j e)
      = pickW (W0 m c) (W1 m c) (lay t.val) (ix3 (slot t.val) j e) := by
    intro e
    rw [hl]
    unfold pickW
    by_cases h : (lay t.val).val = 1
    · rw [if_pos h, if_pos h]; exact blkW1 m c t j e
    · rw [if_neg h, if_neg h]; exact blkW0 m c t j e
  refine Eq.trans (b := (∑ e : Fin 768, cot (G m c) (lay t.val) (slot t.val) r e
      * pickW (W0 m c) (W1 m c) (lay t.val) (ix3 (slot t.val) j e)) * slope (X m c (ix2 r j))) ?_ rfl
  refine congrArg₂ (fun a b : EReal => a * b) (Finset.sum_congr rfl fun e _ => congrArg₂ (fun a b : EReal => a * b) (blkG m c t r e) (hw e))
    (congrArg slope (blkX m c t r j))

/-! ## The reference -/

theorem real_logistic (x : EReal) : IsReal x → IsReal (Ideal.logistic x) := fun ⟨r, h⟩ => ⟨_, by rw [h, Ideal.logistic_coe]⟩

/-- The product rule's two terms, as one product with `silu`'s derivative. -/
theorem turn {a x : EReal} (ha : IsReal a) (hx : IsReal x) :
    a * Ideal.logistic x + x * a * (Ideal.logistic x * (1 - Ideal.logistic x)) = a * slope x := by
  obtain ⟨s, hs⟩ := real_logistic x hx
  obtain ⟨a, rfl⟩ := ha
  obtain ⟨x, rfl⟩ := hx
  unfold slope
  rw [hs]
  rw [show (1 : EReal) = ((1 : ℝ) : EReal) from rfl]
  simp only [← EReal.coe_mul, ← EReal.coe_sub, ← EReal.coe_add]
  congr 1
  ring

open Cert.ModBwdRefIdeal.Read

theorem ref_dw (x : S8x1024.Idx → EReal) (g : S2x8x3072.Idx → EReal) :
    val_main_v27 (F := Ideal) x g = fun y => dw x g (y 0) (y 1) (y 2) (y 3) := by
  funext y
  obtain ⟨k, l, j, e, rfl⟩ : ∃ (k : Fin 4) (l : Fin 2) (j : Fin 1024) (e : Fin 768), y = ix4 k l j e :=
    ⟨y 0, y 1, y 2, y 3, eq_ix4 y⟩
  show _ = ∑ r : Fin 8, silu (x (ix2 r j)) * cot g l k r e
  refine Eq.trans ?_ (Finset.sum_congr rfl fun r _ => mul_comm _ _)
  rcases (by omega : l = 0 ∨ l = 1) with rfl | rfl
  · pointwise [val_main_v27, val_main_v26, val_main_v24, val_main_v9, val_main_v8, val_main_v7, val_main_v6, val_main_v1, val_main_v0,
      val_main_v4_0, val_main_v2, val_main_v4_2, val_main_call0_v4, val_main_call0_cst_0, val_main_call0_v3, val_main_call0_v2,
      val_main_call0_cst, val_main_call0_v1, val_main_call0_v0]
    rfl
  · pointwise [val_main_v27, val_main_v26, val_main_v25, val_main_v21, val_main_v20, val_main_v19, val_main_v18, val_main_v13, val_main_v12,
      val_main_v16_0, val_main_v14, val_main_v16_2, val_main_call2_v4, val_main_call2_cst_0, val_main_call2_v3, val_main_call2_v2,
      val_main_call2_cst, val_main_call2_v1, val_main_call2_v0]
    rfl

theorem ref_dc (x : S8x1024.Idx → EReal) (w0 w1 : S4x1024x768.Idx → EReal) (g : S2x8x3072.Idx → EReal)
    (hx : ∀ i, IsReal (x i)) (h0 : ∀ i, IsReal (w0 i)) (h1 : ∀ i, IsReal (w1 i)) (hg : ∀ i, IsReal (g i)) :
    val_main_v30 (F := Ideal) x w0 w1 g = fun y => dc x (pickW w0 w1 (y 0)) g (y 0) (y 1) (y 2) (y 3) := by
  funext y
  obtain ⟨l, k, r, j, rfl⟩ : ∃ (l : Fin 2) (k : Fin 4) (r : Fin 8) (j : Fin 1024), y = ix4 l k r j :=
    ⟨y 0, y 1, y 2, y 3, eq_ix4 y⟩
  have hp : ∀ w : S4x1024x768.Idx → EReal, (∀ i, IsReal (w i)) →
      IsReal (∑ e : Fin 768, cot g l k r e * w (ix3 k j e)) := fun w hw => .sum fun e => (hg _).mul (hw _)
  show _ = dc x (pickW w0 w1 l) g l k r j
  rcases (by omega : l = 0 ∨ l = 1) with rfl | rfl
  · refine Eq.trans ?_ (turn (hp w0 h0) (hx (ix2 r j)))
    pointwise [val_main_v30, val_main_v28, val_main_v11, val_main_call1_v2, val_main_call1_v1, val_main_call1_v0, val_main_v10,
      val_main_v7, val_main_v6, val_main_v1, val_main_v0, val_main_v3, val_main_v4_1, val_main_call0_v7, val_main_call0_v6,
      val_main_call0_cst_1, val_main_v2, val_main_v4_2, val_main_call0_v4, val_main_call0_cst_0, val_main_call0_v3,
      val_main_call0_v2, val_main_call0_cst, val_main_call0_v1, val_main_call0_v0]
    rfl
  · refine Eq.trans ?_ (turn (hp w1 h1) (hx (ix2 r j)))
    pointwise [val_main_v30, val_main_v29, val_main_v23, val_main_call3_v2, val_main_call3_v1, val_main_call3_v0, val_main_v22,
      val_main_v19, val_main_v18, val_main_v13, val_main_v12, val_main_v15, val_main_v16_1, val_main_call2_v7, val_main_call2_v6,
      val_main_call2_cst_1, val_main_v14, val_main_v16_2, val_main_call2_v4, val_main_call2_cst_0, val_main_call2_v3,
      val_main_call2_v2, val_main_call2_cst, val_main_call2_v1, val_main_call2_v0]
    rfl

/-! ## The claims -/

theorem frame : Cert.quiescent_ModBwd := fun m ρ _ => Cert.ModBwd.Gen.frame m ρ

theorem frame_ideal : Cert.quiescent_ModBwdIdeal := fun m ρ _ => Cert.ModBwdIdeal.Gen.frame m ρ

theorem frame_ideal_pre : Cert.quiescent_ModBwdIdeal_pre_finite_mod := fun m ρ _ => Cert.ModBwdIdeal.Gen.frame m ρ

theorem frame_ref : Cert.quiescent_ModBwdRefIdeal := fun m ρ _ =>
  (θ_run Cert.ModBwdRefIdeal.defs _ _).mono
    (fun r h => ⟨fun c => (h c).2.2, sem_eq_zero_of_no_sems (by decide) r.2⟩) (Cert.ModBwdRefIdeal.Value.run m ρ)

theorem frame_ref_pre : Cert.quiescent_ModBwdRefIdeal_pre_finite_mod := fun m ρ _ => frame_ref m ρ trivial

theorem real_args (hpre : Cert.Pre_ModBwdIdeal_finite_mod m) (c : Dev nD) :
    (∀ i, IsReal (X m c i)) ∧ (∀ i, IsReal (W0 m c i)) ∧ (∀ i, IsReal (W1 m c i)) ∧ ∀ i, IsReal (G m c i) :=
  ⟨fun i => Cert.Pre_finite_qk.real_of_cmp (congrFun (hpre c).1 i), fun i => Cert.Pre_finite_qk.real_of_cmp (congrFun (hpre c).2.1 i),
    fun i => Cert.Pre_finite_qk.real_of_cmp (congrFun (hpre c).2.2.1 i),
    fun i => Cert.Pre_finite_qk.real_of_cmp (congrFun (hpre c).2.2.2 i)⟩

theorem algebraic : Cert.algebraic_ModBwdIdeal_ModBwdRefIdeal_pre_finite_mod := fun m ρ m' ρ' hpre hargs =>
  ⟨fun c y => dw (X m c) (G m c) (y 0) (y 1) (y 2) (y 3),
    fun c y => dc (X m c) (pickW (W0 m c) (W1 m c) (y 0)) (G m c) (y 0) (y 1) (y 2) (y 3),
    (θ_run Cert.ModBwdIdeal.defs _ _).mono
      (fun r h c => ⟨(h c).1.trans (arr4 m c), (h c).2.1.trans (arr5 m c), (h c).2.2⟩) (Cert.ModBwdIdeal.Value.run_blocks m ρ),
    (θ_run Cert.ModBwdRefIdeal.defs _ _).mono
      (fun r h c => by
        obtain ⟨e0, e1, e2, e3⟩ := hargs c
        obtain ⟨hx, h0, h1, hg⟩ := real_args m hpre c
        refine ⟨((h c).1.trans (val_main_v27_eq _ _)).trans ?_, ((h c).2.1.trans (val_main_v30_eq m' c)).trans ?_, (h c).2.2⟩
        · rw [e0, e3]
          exact ref_dw _ _
        · rw [e0, e1, e2, e3]
          exact ref_dc _ _ _ _ hx h0 h1 hg)
      (Cert.ModBwdRefIdeal.Value.run m' ρ')⟩

end Cert.ModBwdClaims

end
-- ==== Proof.Loss.lean ====
/-
  The loss of the flow: the mean squared error's partial sums, and its gradient.
-/
module

public import proofs.«01_k».proof.Defs
public import proofs.«01_k».proof.Proof.MergeFn
public import proofs.«01_k».proof.Proof.Gen.Loss.Frame
public import proofs.«01_k».proof.Proof.Gen.LossIdeal.Value
public import proofs.«01_k».proof.Proof.Gen.LossRefIdeal.Run
public import proofs.«01_k».proof.Proof.Gen.LossRefIdeal.Read
public import Idealize.ShloMosaic.Lib.Pipeline.ValueKit
public import Idealize.ShloMosaic.Lib.Quiescent

@[expose] public section

noncomputable section

namespace Cert.LossClaims

open Cert.LossIdeal Cert.LossIdeal.Gen Idealize.ShloMosaic Idealize.ShloMosaic.TcCoe Idealize.SL.Sem Cert.Merge

/-! ## The constants, and a sum of quotients -/

/-- The width of a row, as the programs write it. -/
def wide : EReal := Ideal.ofBits .f32 0x44800000#32

/-- One over the width. -/
def unit : EReal := ((1 / 1024 : ℝ) : EReal)

theorem div_wide (x : EReal) : Ideal.div x wide = x * unit := by
  have h : wide = ((1024 : ℝ) : EReal) := by simp [wide, Ideal.ofBits, Ideal.ieee]; rw [← EReal.coe_mul]; norm_num
  have h0 : wide ≠ 0 := by rw [h]; exact_mod_cast (by norm_num : (1024 : ℝ) ≠ 0)
  unfold Ideal.div
  rw [if_neg h0, h, ← EReal.coe_inv]
  unfold unit
  norm_num

theorem sum_unit {n : ℕ} (f : Fin n → EReal) : ∑ r, f r * unit = (∑ r, f r) * unit := by
  have h0 : (0 : EReal) ≤ unit := by unfold unit; exact_mod_cast (by norm_num : (0 : ℝ) ≤ 1 / 1024)
  have ht : unit ≠ ⊤ := EReal.coe_ne_top _
  have : ∀ s : Finset (Fin n), ∑ r ∈ s, f r * unit = (∑ r ∈ s, f r) * unit := by
    intro s
    induction s using Finset.cons_induction with
    | empty => simp
    | cons a s ha ih => rw [Finset.sum_cons, Finset.sum_cons, ih, EReal.right_distrib_of_nonneg_of_ne_top h0 ht]
  exact this _

theorem two_eq : half * unit * Ideal.ofBits .f32 0x40000000#32 = unit := by
  have h : Ideal.ofBits .f32 0x40000000#32 = ((2 : ℝ) : EReal) := by simp [Ideal.ofBits, Ideal.ieee]; rw [← EReal.coe_mul]; norm_num
  rw [half_eq, h]
  unfold unit
  rw [← EReal.coe_mul, ← EReal.coe_mul]
  norm_num

/-! ## The results -/

/-- The error of the row after the context. -/
def err (h : S2304x1024.Idx → EReal) (g : S2048x1024.Idx → EReal) (R : Fin 2048) (d : Fin 1024) : EReal :=
  h (ix2 ⟨256 + R.val, by omega⟩ d) - g (ix2 R d)

/-- The gradient: none at the context's rows. -/
def dh (h : S2304x1024.Idx → EReal) (g : S2048x1024.Idx → EReal) (R : Fin 2304) (d : Fin 1024) : EReal :=
  if hR : R.val < 256 then 0 else err h g ⟨R.val - 256, by omega⟩ d * unit

/-- The loss of block `t`: none at the context's. -/
def part (h : S2304x1024.Idx → EReal) (g : S2048x1024.Idx → EReal) (t : Fin 9) : EReal :=
  if ht : t.val = 0 then 0
  else half * (∑ r : Fin 256, ∑ d : Fin 1024, err h g ⟨(t.val - 1) * 256 + r.val, by omega⟩ d * err h g ⟨(t.val - 1) * 256 + r.val, by omega⟩ d)
    * unit

theorem flag (n : ℕ) (h : n < 9) : (Scalar.sitofp .f32 (Scalar.extui (Scalar.cmpi .sge (BitVec.ofNat 32 n) 1#32) : BitVec 32) : Ideal .f32)
    = if n = 0 then (0 : EReal) else 1 := by
  have key : (Scalar.extui (Scalar.cmpi .sge (BitVec.ofNat 32 n) 1#32) : BitVec 32) = if n = 0 then 0#32 else 1#32 := by
    rcases (by omega : n = 0 ∨ n = 1 ∨ n = 2 ∨ n = 3 ∨ n = 4 ∨ n = 5 ∨ n = 6 ∨ n = 7 ∨ n = 8) with
      rfl | rfl | rfl | rfl | rfl | rfl | rfl | rfl | rfl <;> rfl
  rw [key]
  by_cases h0 : n = 0
  · rw [if_pos h0, if_pos h0]; show (((0#32 : BitVec 32).toInt : ℝ) : EReal) = 0; norm_num
  · rw [if_neg h0, if_neg h0]; show (((1#32 : BitVec 32).toInt : ℝ) : EReal) = 1; norm_num

theorem flag_at (i : grid0.Coords) : (k0_pay2 (F := Ideal) i : EReal) = if (i 0).val = 0 then (0 : EReal) else 1 := flag _ (i 0).isLt

theorem pay_dh (i : grid0.Coords) (x g : Vec Ideal S256x1024 .f32) (r : Fin 256) (d : Fin 1024) :
    k0_pay3 i x g (ix2 r d) = @HMul.hMul EReal EReal EReal _ (@HSub.hSub EReal EReal EReal _ (x (ix2 r d)) (g (ix2 r d)))
      (if (i 0).val = 0 then 0 else unit) := by
  refine Eq.trans (b := @HMul.hMul EReal EReal EReal _ (@HSub.hSub EReal EReal EReal _ (x (ix2 r d)) (g (ix2 r d)))
      (Ideal.div (k0_pay2 (F := Ideal) i) wide)) ?_ ?_
  · pointwise [k0_pay3, k0_pay1]
    rfl
  · rw [div_wide, flag_at]
    by_cases h : (i 0).val = 0
    · rw [if_pos h, if_pos h, zero_mul]
    · rw [if_neg h, if_neg h, one_mul]

theorem pay_part (i : grid0.Coords) (x g : Vec Ideal S256x1024 .f32) (a : Fin 8) (b : Fin 128) :
    k0_pay4 i x g (ix3 0 a b) = if (i 0).val = 0 then (0 : EReal) else
      half * (∑ r : Fin 256, ∑ d : Fin 1024,
        @HMul.hMul EReal EReal EReal _ (@HSub.hSub EReal EReal EReal _ (x (ix2 r d)) (g (ix2 r d)))
          (@HSub.hSub EReal EReal EReal _ (x (ix2 r d)) (g (ix2 r d)))) * unit := by
  refine Eq.trans (b := (0 : EReal) + Ideal.div ((k0_pay2 (F := Ideal) i : EReal) * half * ∑ r : Fin 256, ∑ d : Fin 1024,
        @HMul.hMul EReal EReal EReal _ (@HSub.hSub EReal EReal EReal _ (x (ix2 r d)) (g (ix2 r d)))
          (@HSub.hSub EReal EReal EReal _ (x (ix2 r d)) (g (ix2 r d)))) wide) ?_ ?_
  · pointwise [k0_pay4, k0_pay1]
    rfl
  · rw [div_wide, flag_at, zero_add]
    by_cases h : (i 0).val = 0
    · rw [if_pos h, if_pos h, zero_mul, zero_mul, zero_mul]
    · rw [if_neg h, if_neg h, one_mul]

variable (m : (ℓ : Loc nD τ sig) → Buf (Elt Ideal) ℓ)

abbrev H (c : Dev nD) : S2304x1024.Idx → EReal := m ((c : Thread nD τ).loc main_arg0)
abbrev T (c : Dev nD) : S2048x1024.Idx → EReal := m ((c : Thread nD τ).loc main_arg1)

theorem idx0 : ∀ t : Fin cfg0.N, win0_0.index t = ![t.val, 0] := by decide +kernel
theorem idx1 : ∀ t : Fin cfg0.N, win0_1.index t = ![t.val - 1, 0] := by decide +kernel
theorem idx2 : ∀ t : Fin cfg0.N, win0_2.index t = ![t.val, 0] := by decide +kernel
theorem idx3 : ∀ t : Fin cfg0.N, win0_3.index t = ![t.val, 0, 0] := by decide +kernel
theorem coord : ∀ t : Fin cfg0.N, (grid0.coords t 0).val = t.val := by decide +kernel

theorem t_lt (t : Fin cfg0.N) : t.val < 9 := t.isLt

/-- The position that the block of point `t` has at `r`, and the target's. -/
def pos (t : ℕ) (r : Fin 256) : Fin 2304 := ⟨t % 9 * 256 + r.val, by omega⟩
def tpos (t : ℕ) (r : Fin 256) : Fin 2048 := ⟨(t % 9 - 1) * 256 + r.val, by omega⟩

theorem blkH (c : Dev nD) (t : Fin cfg0.N) (r : Fin 256) (d : Fin 1024) : iblk m c 0 t (ix2 r d) = H m c (ix2 (pos t.val r) d) := by
  blk_ext [iblk, V, idx0 t] <;> simp only [pos] <;> have := t_lt t <;> omega

theorem blkT (c : Dev nD) (t : Fin cfg0.N) (r : Fin 256) (d : Fin 1024) : iblk m c 1 t (ix2 r d) = T m c (ix2 (tpos t.val r) d) := by
  blk_ext [iblk, V, idx1 t] <;> simp only [tpos] <;> have := t_lt t <;> omega

theorem err_blk (c : Dev nD) (t : Fin cfg0.N) (ht : ¬t.val = 0) (r : Fin 256) (d : Fin 1024) :
    H m c (ix2 (pos t.val r) d) - T m c (ix2 (tpos t.val r) d) = err (H m c) (T m c) ⟨(t.val - 1) * 256 + r.val, by have := t_lt t; omega⟩ d := by
  have h9 := t_lt t
  have h1 : pos t.val r = ⟨256 + ((t.val - 1) * 256 + r.val), by omega⟩ := Fin.ext (by simp only [pos]; omega)
  have h2 : tpos t.val r = ⟨(t.val - 1) * 256 + r.val, by omega⟩ := Fin.ext (by simp only [tpos]; omega)
  rw [h1, h2]
  rfl

theorem arr2 (c : Dev nD) : (dats m 0 c).arrAt 2 cfg0.N = fun y => dh (H m c) (T m c) (y 0) (y 1) := by
  refine (dats m 0 c).arrAt_eq_of_covers 2 _ (by decide +kernel) fun t hf y => ?_
  blk_simp
  rw [after0_2]
  obtain ⟨r, d, rfl⟩ : ∃ (r : Fin 256) (d : Fin 1024), y = ix2 r d := ⟨y 0, y 1, eq_ix2 y⟩
  have h9 := t_lt t
  have emb : ((View.whole main_v0_0).slice (win0_2.rect t)).emb (ix2 r d) = ix2 (pos t.val r) d := by
    blk_ext [idx2 t] <;> simp only [pos] <;> omega
  rw [emb]
  unfold out0_2
  frame_out
  refine (pay_dh _ _ _ r d).trans ?_
  refine Eq.trans (b := dh (H m c) (T m c) (pos t.val r) d) ?_ rfl
  rw [blkH, blkT, coord]
  unfold dh
  by_cases ht : t.val = 0
  · rw [if_pos ht, dif_pos (by simp only [pos]; omega)]
    exact mul_zero _
  · rw [if_neg ht, dif_neg (by simp only [pos]; omega)]
    refine congrArg (fun e : EReal => e * unit) ((err_blk m c t ht r d).trans ?_)
    exact congrArg (fun q => err (H m c) (T m c) q d) (Fin.ext (by simp only [pos]; omega))

theorem arr3 (c : Dev nD) : (dats m 0 c).arrAt 3 cfg0.N = fun y => part (H m c) (T m c) (y 0) := by
  refine (dats m 0 c).arrAt_eq_of_covers 3 _ (by decide +kernel) fun t hf y => ?_
  blk_simp
  rw [after0_3]
  obtain ⟨z, a, b, rfl⟩ : ∃ (z : Fin 1) (a : Fin 8) (b : Fin 128), y = ix3 z a b := ⟨y 0, y 1, y 2, eq_ix3 y⟩
  obtain rfl : z = 0 := Subsingleton.elim _ _
  have h9 := t_lt t
  have emb : ((View.whole main_v0_1).slice (win0_3.rect t)).emb (ix3 0 a b) = ix3 (⟨t.val, t_lt t⟩ : Fin 9) a b := by
    blk_ext [idx3 t] <;> omega
  rw [emb]
  unfold out0_3
  frame_out
  refine (pay_part _ _ _ a b).trans ?_
  refine Eq.trans (b := part (H m c) (T m c) ⟨t.val, t_lt t⟩) ?_ rfl
  rw [coord]
  unfold part
  by_cases ht : t.val = 0
  · rw [if_pos ht, dif_pos ht]
  · rw [if_neg ht, dif_neg ht]
    simp only [blkH, blkT]
    refine congrArg (fun e : EReal => half * e * unit) (Finset.sum_congr rfl fun r _ => Finset.sum_congr rfl fun d _ => ?_)
    exact congrArg (fun e : EReal => e * e) (err_blk m c t ht r d)

/-! ## The reference -/

open Cert.LossRefIdeal.Read

variable (h : S2304x1024.Idx → EReal) (g : S2048x1024.Idx → EReal)

theorem ref_err (R : Fin 2048) (d : Fin 1024) : val_main_v1 (F := Ideal) h g (ix2 R d) = err h g R d := by
  pointwise [val_main_v1, val_main_v0]
  rfl

theorem ref_grad (R : Fin 2048) (d : Fin 1024) : val_main_v20 (F := Ideal) h g (ix2 R d) = err h g R d * unit := by
  refine Eq.trans (b := Ideal.div half wide * (Ideal.ofBits .f32 0x40000000#32 * err h g R d)) ?_ ?_
  · pointwise [val_main_v20, val_main_v19, val_main_v18, val_main_v17, val_main_cst_6, val_main_v16, val_main_v15, val_main_v14,
      val_main_v13, val_main_cst_5, val_main_v12, val_main_cst_4, val_main_v4, val_main_v3, val_main_cst, val_main_v1, val_main_v0]
    rfl
  · rw [div_wide, ← mul_assoc, two_eq, mul_comm]

theorem ref_dh : val_main_v21 (F := Ideal) h g = fun y => dh h g (y 0) (y 1) := by
  funext y
  obtain ⟨R, d, rfl⟩ : ∃ (R : Fin 2304) (d : Fin 1024), y = ix2 R d := ⟨y 0, y 1, eq_ix2 y⟩
  show _ = dh h g R d
  have e := ref_grad h g
  unfold val_main_v21
  generalize val_main_v20 (F := Ideal) h g = a at e ⊢
  pointwise [val_main_cst_7]
  unfold dh
  by_cases hR : R.val < 256
  · rw [dif_neg (by omega), dif_pos hR]
  · rw [dif_pos (by omega), dif_neg hR, e]

theorem ref_sum (t : Fin 8) : val_main_v11 (F := Ideal) h g (ix1 t)
    = half * (∑ r : Fin 256, ∑ d : Fin 1024, err h g ⟨t.val * 256 + r.val, by omega⟩ d * err h g ⟨t.val * 256 + r.val, by omega⟩ d) * unit := by
  refine Eq.trans (b := half * ∑ r : Fin 256, Ideal.div (∑ d : Fin 1024, err h g ⟨t.val * 256 + r.val, by omega⟩ d
      * err h g ⟨t.val * 256 + r.val, by omega⟩ d) wide) ?_ ?_
  · have e := ref_err h g
    unfold val_main_v11 val_main_v9 val_main_v8 val_main_v7 val_main_v5 val_main_v2
    generalize val_main_v1 (F := Ideal) h g = a at e ⊢
    pointwise [val_main_v10, val_main_cst_3, val_main_cst_2, val_main_v6, val_main_cst_1, val_main_cst_0]
    simp only [e]
    rfl
  · simp only [div_wide]
    rw [sum_unit, mul_assoc]

theorem ref_part : val_main_v25 (F := Ideal) h g = fun y => part h g (y 0) := by
  funext y
  obtain ⟨t, a, b, rfl⟩ : ∃ (t : Fin 9) (a : Fin 8) (b : Fin 128), y = ix3 t a b := ⟨y 0, y 1, y 2, eq_ix3 y⟩
  show _ = part h g t
  have e := ref_sum h g
  unfold val_main_v25 val_main_v24 val_main_v23
  generalize val_main_v11 (F := Ideal) h g = a at e ⊢
  pointwise [val_main_v22, val_main_cst_8]
  unfold part
  by_cases ht : t.val = 0
  · rw [dif_pos (by omega), dif_pos ht]
  · rw [dif_neg (by omega), dif_neg ht, e]

theorem frame : Cert.quiescent_Loss := fun m ρ _ => Cert.Loss.Gen.frame m ρ

theorem frame_ideal : Cert.quiescent_LossIdeal := fun m ρ _ => Cert.LossIdeal.Gen.frame m ρ

theorem frame_ref : Cert.quiescent_LossRefIdeal := fun m ρ _ =>
  (θ_run Cert.LossRefIdeal.defs _ _).mono
    (fun r h => ⟨fun c => (h c).2.2, sem_eq_zero_of_no_sems (by decide) r.2⟩) (Cert.LossRefIdeal.Value.run m ρ)

theorem algebraic : Cert.algebraic_LossIdeal_LossRefIdeal := fun m ρ m' ρ' _ hargs =>
  ⟨fun c y => dh (H m c) (T m c) (y 0) (y 1), fun c y => part (H m c) (T m c) (y 0),
    (θ_run Cert.LossIdeal.defs _ _).mono
      (fun r h c => ⟨(h c).1.trans (arr2 m c), (h c).2.1.trans (arr3 m c), (h c).2.2⟩) (Cert.LossIdeal.Value.run_blocks m ρ),
    (θ_run Cert.LossRefIdeal.defs _ _).mono
      (fun r h c => by
        obtain ⟨e0, e1⟩ := hargs c
        refine ⟨((h c).1.trans (val_main_v21_eq _ _)).trans ?_, ((h c).2.1.trans (val_main_v25_eq _ _)).trans ?_, (h c).2.2⟩
        · rw [e0, e1]
          exact ref_dh _ _
        · rw [e0, e1]
          exact ref_part _ _)
      (Cert.LossRefIdeal.Value.run m' ρ')⟩

end Cert.LossClaims

end
-- ==== Proof.AdamW.lean ====
/-
  AdamW at one entry, as both programs compute it.
-/
module

public import proofs.«01_k».proof.Defs

@[expose] public section

noncomputable section

namespace Cert.AdamW

open Idealize.ShloMosaic

/-- The first moment, moved a tenth of the way to the gradient. -/
def moment (g m : EReal) : EReal := Ideal.ofBits .f32 0x3F666666#32 * m + Ideal.ofBits .f32 0x3DCCCCCD#32 * g

/-- The second moment, moved a thousandth of the way to the gradient's square. -/
def square (g v : EReal) : EReal := Ideal.ofBits .f32 0x3F7FBE77#32 * v + Ideal.ofBits .f32 0x3A83126F#32 * (g * g)

/-- The step: the first moment over the second's root, each without its bias, and the weight's decay. -/
def step (w g m v : EReal) : EReal :=
  Ideal.ofBits .f32 0xBA83126F#32
    * (Ideal.div (Ideal.div (moment g m) (Ideal.ofBits .f32 0x3F26BD02#32))
        (FloatOps.sqrt (F := Ideal) (φ := .f32) (Ideal.div (square g v) (Ideal.ofBits .f32 0x3C231ACC#32)) + Ideal.ofBits .f32 0x322BCC77#32)
      + Ideal.ofBits .f32 0x3C23D70A#32 * w)

end Cert.AdamW

end
-- ==== Proof.AdamOut.lean ====
/-
  AdamW on w_out: what the call leaves, what the reference computes, and the claims.
-/
module

public import proofs.«01_k».proof.Defs
public import proofs.«01_k».proof.Proof.AdamW
public import proofs.«01_k».proof.Proof.Gen.AdamOut.Frame
public import proofs.«01_k».proof.Proof.Gen.AdamOutIdeal.Value
public import proofs.«01_k».proof.Proof.Gen.AdamOutRefIdeal.Run
public import proofs.«01_k».proof.Proof.Gen.AdamOutRefIdeal.Read
public import Idealize.ShloMosaic.Lib.Pipeline.ValueKit
public import Idealize.ShloMosaic.Lib.Quiescent

@[expose] public section

noncomputable section

namespace Cert.AdamOutClaims

open Cert.AdamOutIdeal Cert.AdamOutIdeal.Gen Idealize.ShloMosaic Idealize.ShloMosaic.TcCoe Idealize.SL.Sem Cert.AdamW

/-! ## One block -/

theorem pay_g (g : Vec Ideal S1x256x1024 .f32) (a : Fin 256) (b : Fin 1024) : k0_pay5 g (ix3 0 a b) = g (ix3 0 a b) := by
  pointwise [k0_pay5, k0_pay4]

theorem pay_m (g m : Vec Ideal S1x256x1024 .f32) (a : Fin 256) (b : Fin 1024) :
    k0_pay2 (k0_pay6 g m) (ix3 0 a b) = moment (g (ix3 0 a b)) (m (ix3 0 a b)) := by
  pointwise [k0_pay2, k0_pay6, k0_pay4]
  rfl

theorem pay_v (g v : Vec Ideal S1x256x1024 .f32) (a : Fin 256) (b : Fin 1024) :
    k0_pay3 (k0_pay7 g v) (ix3 0 a b) = square (g (ix3 0 a b)) (v (ix3 0 a b)) := by
  pointwise [k0_pay3, k0_pay7, k0_pay4]
  rfl

theorem pay_w (g m v w : Vec Ideal S1x256x1024 .f32) (a : Fin 256) (b : Fin 1024) :
    k0_pay1 (k0_pay8 g m v w) (Scalar.ofBits .f32 0xBA83126F#32) (ix3 0 a b)
      = step (w (ix3 0 a b)) (g (ix3 0 a b)) (m (ix3 0 a b)) (v (ix3 0 a b)) := by
  pointwise [k0_pay1, k0_pay8, k0_pay6, k0_pay7, k0_pay4]
  rfl

/-! ## The blocks in their arrays -/

variable (m : (ℓ : Loc nD τ sig) → Buf (Elt Ideal) ℓ)

abbrev W (c : Dev nD) : S2x256x1024.Idx → EReal := m ((c : Thread nD τ).loc main_arg0)
abbrev G (c : Dev nD) : S2x256x1024.Idx → EReal := m ((c : Thread nD τ).loc main_arg1)
abbrev M (c : Dev nD) : S2x256x1024.Idx → EReal := m ((c : Thread nD τ).loc main_arg2)
abbrev V2 (c : Dev nD) : S2x256x1024.Idx → EReal := m ((c : Thread nD τ).loc main_arg3)

theorem entry (y : S1x256x1024.Idx) : ∃ (a : Fin 256) (b : Fin 1024), y = ix3 0 a b :=
  ⟨y 1, y 2, (eq_ix3 y).trans (congrArg (fun z => ix3 z (y 1) (y 2)) (Subsingleton.elim (α := Fin 1) (y 0) 0))⟩

theorem arr4 (c : Dev nD) : (dats m 0 c).arrAt 4 cfg0.N = G m c := by
  refine (dats m 0 c).arrAt_eq_of_covers 4 _ (by decide +kernel) fun t hf y => ?_
  blk_simp
  rw [after0_4]
  unfold out0_4
  obtain ⟨a, b, rfl⟩ := entry y
  frame_out
  exact pay_g _ a b

theorem arr5 (c : Dev nD) : (dats m 0 c).arrAt 5 cfg0.N = fun y => step (W m c y) (G m c y) (M m c y) (V2 m c y) := by
  refine (dats m 0 c).arrAt_eq_of_covers 5 _ (by decide +kernel) fun t hf y => ?_
  blk_simp
  rw [after0_5]
  unfold out0_5
  obtain ⟨a, b, rfl⟩ := entry y
  frame_out
  exact pay_w _ _ _ _ a b

theorem arr6 (c : Dev nD) : (dats m 0 c).arrAt 6 cfg0.N = fun y => moment (G m c y) (M m c y) := by
  refine (dats m 0 c).arrAt_eq_of_covers 6 _ (by decide +kernel) fun t hf y => ?_
  blk_simp
  rw [after0_6]
  unfold out0_6
  obtain ⟨a, b, rfl⟩ := entry y
  frame_out
  exact pay_m _ _ a b

theorem arr7 (c : Dev nD) : (dats m 0 c).arrAt 7 cfg0.N = fun y => square (G m c y) (V2 m c y) := by
  refine (dats m 0 c).arrAt_eq_of_covers 7 _ (by decide +kernel) fun t hf y => ?_
  blk_simp
  rw [after0_7]
  unfold out0_7
  obtain ⟨a, b, rfl⟩ := entry y
  frame_out
  exact pay_v _ _ a b

/-! ## The reference -/

open Cert.AdamOutRefIdeal.Read

variable (w g s v : S2x256x1024.Idx → EReal)

theorem ref_m : val_main_v4 (F := Ideal) g s = fun y => moment (g y) (s y) := rfl

theorem ref_v : val_main_v10 (F := Ideal) g v = fun y => square (g y) (v y) := rfl

theorem ref_w : val_main_v23 (F := Ideal) w g s v = fun y => step (w y) (g y) (s y) (v y) := rfl

/-! ## The claims -/

theorem frame : Cert.quiescent_AdamOut := fun m ρ _ => Cert.AdamOut.Gen.frame m ρ

theorem frame_ideal : Cert.quiescent_AdamOutIdeal := fun m ρ _ => Cert.AdamOutIdeal.Gen.frame m ρ

theorem frame_ref : Cert.quiescent_AdamOutRefIdeal := fun m ρ _ =>
  (θ_run Cert.AdamOutRefIdeal.defs _ _).mono
    (fun r h => ⟨fun c => (h c).2.2.2.2, sem_eq_zero_of_no_sems (by decide) r.2⟩) (Cert.AdamOutRefIdeal.Value.run m ρ)

theorem algebraic : Cert.algebraic_AdamOutIdeal_AdamOutRefIdeal := fun m ρ m' ρ' _ hargs =>
  ⟨fun c => G m c, fun c y => step (W m c y) (G m c y) (M m c y) (V2 m c y), fun c y => moment (G m c y) (M m c y),
    fun c y => square (G m c y) (V2 m c y),
    (θ_run Cert.AdamOutIdeal.defs _ _).mono
      (fun r h c => ⟨(h c).1.trans (arr4 m c), (h c).2.1.trans (arr5 m c), (h c).2.2.1.trans (arr6 m c),
        (h c).2.2.2.1.trans (arr7 m c), (h c).2.2.2.2⟩) (Cert.AdamOutIdeal.Value.run_blocks m ρ),
    (θ_run Cert.AdamOutRefIdeal.defs _ _).mono
      (fun r h c => by
        obtain ⟨e0, e1, e2, e3⟩ := hargs c
        refine ⟨(h c).1.trans e1, ((h c).2.1.trans (val_main_v23_eq _ _ _ _)).trans ?_,
          ((h c).2.2.1.trans (val_main_v4_eq _ _)).trans ?_, ((h c).2.2.2.1.trans (val_main_v10_eq _ _)).trans ?_, (h c).2.2.2.2⟩
        · rw [e0, e1, e2, e3]
          exact ref_w _ _ _ _
        · rw [e1, e2]
          exact ref_m _ _
        · rw [e1, e3]
          exact ref_v _ _)
      (Cert.AdamOutRefIdeal.Value.run m' ρ')⟩

end Cert.AdamOutClaims

end
-- ==== Proof.AdamIn.lean ====
/-
  AdamW on w_in: what the call leaves, what the reference computes, and the claims.
-/
module

public import proofs.«01_k».proof.Defs
public import proofs.«01_k».proof.Proof.AdamW
public import proofs.«01_k».proof.Proof.Gen.AdamIn.Frame
public import proofs.«01_k».proof.Proof.Gen.AdamInIdeal.Value
public import proofs.«01_k».proof.Proof.Gen.AdamInRefIdeal.Run
public import proofs.«01_k».proof.Proof.Gen.AdamInRefIdeal.Read
public import Idealize.ShloMosaic.Lib.Pipeline.ValueKit
public import Idealize.ShloMosaic.Lib.Quiescent

@[expose] public section

noncomputable section

namespace Cert.AdamInClaims

open Cert.AdamInIdeal Cert.AdamInIdeal.Gen Idealize.ShloMosaic Idealize.ShloMosaic.TcCoe Idealize.SL.Sem Cert.AdamW

/-! ## One block -/

theorem pay_g (g : Vec Ideal S1x2696x256 .f32) (a : Fin 2696) (b : Fin 256) : k0_pay5 g (ix3 0 a b) = g (ix3 0 a b) := by
  pointwise [k0_pay5, k0_pay4]

theorem pay_m (g m : Vec Ideal S1x2696x256 .f32) (a : Fin 2696) (b : Fin 256) :
    k0_pay2 (k0_pay6 g m) (ix3 0 a b) = moment (g (ix3 0 a b)) (m (ix3 0 a b)) := by
  pointwise [k0_pay2, k0_pay6, k0_pay4]
  rfl

theorem pay_v (g v : Vec Ideal S1x2696x256 .f32) (a : Fin 2696) (b : Fin 256) :
    k0_pay3 (k0_pay7 g v) (ix3 0 a b) = square (g (ix3 0 a b)) (v (ix3 0 a b)) := by
  pointwise [k0_pay3, k0_pay7, k0_pay4]
  rfl

theorem pay_w (g m v w : Vec Ideal S1x2696x256 .f32) (a : Fin 2696) (b : Fin 256) :
    k0_pay1 (k0_pay8 g m v w) (Scalar.ofBits .f32 0xBA83126F#32) (ix3 0 a b)
      = step (w (ix3 0 a b)) (g (ix3 0 a b)) (m (ix3 0 a b)) (v (ix3 0 a b)) := by
  pointwise [k0_pay1, k0_pay8, k0_pay6, k0_pay7, k0_pay4]
  rfl

/-! ## The blocks in their arrays -/

variable (m : (ℓ : Loc nD τ sig) → Buf (Elt Ideal) ℓ)

abbrev W (c : Dev nD) : S2x2696x1024.Idx → EReal := m ((c : Thread nD τ).loc main_arg0)
abbrev G (c : Dev nD) : S2x2696x1024.Idx → EReal := m ((c : Thread nD τ).loc main_arg1)
abbrev M (c : Dev nD) : S2x2696x1024.Idx → EReal := m ((c : Thread nD τ).loc main_arg2)
abbrev V2 (c : Dev nD) : S2x2696x1024.Idx → EReal := m ((c : Thread nD τ).loc main_arg3)

theorem entry (y : S1x2696x256.Idx) : ∃ (a : Fin 2696) (b : Fin 256), y = ix3 0 a b :=
  ⟨y 1, y 2, (eq_ix3 y).trans (congrArg (fun z => ix3 z (y 1) (y 2)) (Subsingleton.elim (α := Fin 1) (y 0) 0))⟩

theorem arr4 (c : Dev nD) : (dats m 0 c).arrAt 4 cfg0.N = G m c := by
  refine (dats m 0 c).arrAt_eq_of_covers 4 _ (by decide +kernel) fun t hf y => ?_
  blk_simp
  rw [after0_4]
  unfold out0_4
  obtain ⟨a, b, rfl⟩ := entry y
  frame_out
  exact pay_g _ a b

theorem arr5 (c : Dev nD) : (dats m 0 c).arrAt 5 cfg0.N = fun y => step (W m c y) (G m c y) (M m c y) (V2 m c y) := by
  refine (dats m 0 c).arrAt_eq_of_covers 5 _ (by decide +kernel) fun t hf y => ?_
  blk_simp
  rw [after0_5]
  unfold out0_5
  obtain ⟨a, b, rfl⟩ := entry y
  frame_out
  exact pay_w _ _ _ _ a b

theorem arr6 (c : Dev nD) : (dats m 0 c).arrAt 6 cfg0.N = fun y => moment (G m c y) (M m c y) := by
  refine (dats m 0 c).arrAt_eq_of_covers 6 _ (by decide +kernel) fun t hf y => ?_
  blk_simp
  rw [after0_6]
  unfold out0_6
  obtain ⟨a, b, rfl⟩ := entry y
  frame_out
  exact pay_m _ _ a b

theorem arr7 (c : Dev nD) : (dats m 0 c).arrAt 7 cfg0.N = fun y => square (G m c y) (V2 m c y) := by
  refine (dats m 0 c).arrAt_eq_of_covers 7 _ (by decide +kernel) fun t hf y => ?_
  blk_simp
  rw [after0_7]
  unfold out0_7
  obtain ⟨a, b, rfl⟩ := entry y
  frame_out
  exact pay_v _ _ a b

/-! ## The reference -/

open Cert.AdamInRefIdeal.Read

variable (w g s v : S2x2696x1024.Idx → EReal)

theorem ref_m : val_main_v4 (F := Ideal) g s = fun y => moment (g y) (s y) := rfl

theorem ref_v : val_main_v10 (F := Ideal) g v = fun y => square (g y) (v y) := rfl

theorem ref_w : val_main_v23 (F := Ideal) w g s v = fun y => step (w y) (g y) (s y) (v y) := rfl

/-! ## The claims -/

theorem frame : Cert.quiescent_AdamIn := fun m ρ _ => Cert.AdamIn.Gen.frame m ρ

theorem frame_ideal : Cert.quiescent_AdamInIdeal := fun m ρ _ => Cert.AdamInIdeal.Gen.frame m ρ

theorem frame_ref : Cert.quiescent_AdamInRefIdeal := fun m ρ _ =>
  (θ_run Cert.AdamInRefIdeal.defs _ _).mono
    (fun r h => ⟨fun c => (h c).2.2.2.2, sem_eq_zero_of_no_sems (by decide) r.2⟩) (Cert.AdamInRefIdeal.Value.run m ρ)

theorem algebraic : Cert.algebraic_AdamInIdeal_AdamInRefIdeal := fun m ρ m' ρ' _ hargs =>
  ⟨fun c => G m c, fun c y => step (W m c y) (G m c y) (M m c y) (V2 m c y), fun c y => moment (G m c y) (M m c y),
    fun c y => square (G m c y) (V2 m c y),
    (θ_run Cert.AdamInIdeal.defs _ _).mono
      (fun r h c => ⟨(h c).1.trans (arr4 m c), (h c).2.1.trans (arr5 m c), (h c).2.2.1.trans (arr6 m c),
        (h c).2.2.2.1.trans (arr7 m c), (h c).2.2.2.2⟩) (Cert.AdamInIdeal.Value.run_blocks m ρ),
    (θ_run Cert.AdamInRefIdeal.defs _ _).mono
      (fun r h c => by
        obtain ⟨e0, e1, e2, e3⟩ := hargs c
        refine ⟨(h c).1.trans e1, ((h c).2.1.trans (val_main_v23_eq _ _ _ _)).trans ?_,
          ((h c).2.2.1.trans (val_main_v4_eq _ _)).trans ?_, ((h c).2.2.2.1.trans (val_main_v10_eq _ _)).trans ?_, (h c).2.2.2.2⟩
        · rw [e0, e1, e2, e3]
          exact ref_w _ _ _ _
        · rw [e1, e2]
          exact ref_m _ _
        · rw [e1, e3]
          exact ref_v _ _)
      (Cert.AdamInRefIdeal.Value.run m' ρ')⟩

end Cert.AdamInClaims

end
-- ==== Proof.AdamMod.lean ====
/-
  AdamW on w_mod: what the call leaves, what the reference computes, and the claims.
-/
module

public import proofs.«01_k».proof.Defs
public import proofs.«01_k».proof.Proof.AdamW
public import proofs.«01_k».proof.Proof.Gen.AdamMod.Frame
public import proofs.«01_k».proof.Proof.Gen.AdamModIdeal.Value
public import proofs.«01_k».proof.Proof.Gen.AdamModRefIdeal.Run
public import proofs.«01_k».proof.Proof.Gen.AdamModRefIdeal.Read
public import Idealize.ShloMosaic.Lib.Pipeline.ValueKit
public import Idealize.ShloMosaic.Lib.Quiescent

@[expose] public section

noncomputable section

namespace Cert.AdamModClaims

open Cert.AdamModIdeal Cert.AdamModIdeal.Gen Idealize.ShloMosaic Idealize.ShloMosaic.TcCoe Idealize.SL.Sem Cert.AdamW

/-! ## One block -/

theorem pay_g (g : Vec Ideal S1x256x768 .f32) (a : Fin 256) (b : Fin 768) : k0_pay5 g (ix3 0 a b) = g (ix3 0 a b) := by
  pointwise [k0_pay5, k0_pay4]

theorem pay_m (g m : Vec Ideal S1x256x768 .f32) (a : Fin 256) (b : Fin 768) :
    k0_pay2 (k0_pay6 g m) (ix3 0 a b) = moment (g (ix3 0 a b)) (m (ix3 0 a b)) := by
  pointwise [k0_pay2, k0_pay6, k0_pay4]
  rfl

theorem pay_v (g v : Vec Ideal S1x256x768 .f32) (a : Fin 256) (b : Fin 768) :
    k0_pay3 (k0_pay7 g v) (ix3 0 a b) = square (g (ix3 0 a b)) (v (ix3 0 a b)) := by
  pointwise [k0_pay3, k0_pay7, k0_pay4]
  rfl

theorem pay_w (g m v w : Vec Ideal S1x256x768 .f32) (a : Fin 256) (b : Fin 768) :
    k0_pay1 (k0_pay8 g m v w) (Scalar.ofBits .f32 0xBA83126F#32) (ix3 0 a b)
      = step (w (ix3 0 a b)) (g (ix3 0 a b)) (m (ix3 0 a b)) (v (ix3 0 a b)) := by
  pointwise [k0_pay1, k0_pay8, k0_pay6, k0_pay7, k0_pay4]
  rfl

/-! ## The blocks in their arrays -/

variable (m : (ℓ : Loc nD τ sig) → Buf (Elt Ideal) ℓ)

abbrev W (c : Dev nD) : S1x2048x768.Idx → EReal := m ((c : Thread nD τ).loc main_arg0)
abbrev G (c : Dev nD) : S1x2048x768.Idx → EReal := m ((c : Thread nD τ).loc main_arg1)
abbrev M (c : Dev nD) : S1x2048x768.Idx → EReal := m ((c : Thread nD τ).loc main_arg2)
abbrev V2 (c : Dev nD) : S1x2048x768.Idx → EReal := m ((c : Thread nD τ).loc main_arg3)

theorem entry (y : S1x256x768.Idx) : ∃ (a : Fin 256) (b : Fin 768), y = ix3 0 a b :=
  ⟨y 1, y 2, (eq_ix3 y).trans (congrArg (fun z => ix3 z (y 1) (y 2)) (Subsingleton.elim (α := Fin 1) (y 0) 0))⟩

theorem arr4 (c : Dev nD) : (dats m 0 c).arrAt 4 cfg0.N = G m c := by
  refine (dats m 0 c).arrAt_eq_of_covers 4 _ (by decide +kernel) fun t hf y => ?_
  blk_simp
  rw [after0_4]
  unfold out0_4
  obtain ⟨a, b, rfl⟩ := entry y
  frame_out
  exact pay_g _ a b

theorem arr5 (c : Dev nD) : (dats m 0 c).arrAt 5 cfg0.N = fun y => step (W m c y) (G m c y) (M m c y) (V2 m c y) := by
  refine (dats m 0 c).arrAt_eq_of_covers 5 _ (by decide +kernel) fun t hf y => ?_
  blk_simp
  rw [after0_5]
  unfold out0_5
  obtain ⟨a, b, rfl⟩ := entry y
  frame_out
  exact pay_w _ _ _ _ a b

theorem arr6 (c : Dev nD) : (dats m 0 c).arrAt 6 cfg0.N = fun y => moment (G m c y) (M m c y) := by
  refine (dats m 0 c).arrAt_eq_of_covers 6 _ (by decide +kernel) fun t hf y => ?_
  blk_simp
  rw [after0_6]
  unfold out0_6
  obtain ⟨a, b, rfl⟩ := entry y
  frame_out
  exact pay_m _ _ a b

theorem arr7 (c : Dev nD) : (dats m 0 c).arrAt 7 cfg0.N = fun y => square (G m c y) (V2 m c y) := by
  refine (dats m 0 c).arrAt_eq_of_covers 7 _ (by decide +kernel) fun t hf y => ?_
  blk_simp
  rw [after0_7]
  unfold out0_7
  obtain ⟨a, b, rfl⟩ := entry y
  frame_out
  exact pay_v _ _ a b

/-! ## The reference -/

open Cert.AdamModRefIdeal.Read

variable (w g s v : S1x2048x768.Idx → EReal)

theorem ref_m : val_main_v4 (F := Ideal) g s = fun y => moment (g y) (s y) := rfl

theorem ref_v : val_main_v10 (F := Ideal) g v = fun y => square (g y) (v y) := rfl

theorem ref_w : val_main_v23 (F := Ideal) w g s v = fun y => step (w y) (g y) (s y) (v y) := rfl

/-! ## The claims -/

theorem frame : Cert.quiescent_AdamMod := fun m ρ _ => Cert.AdamMod.Gen.frame m ρ

theorem frame_ideal : Cert.quiescent_AdamModIdeal := fun m ρ _ => Cert.AdamModIdeal.Gen.frame m ρ

theorem frame_ref : Cert.quiescent_AdamModRefIdeal := fun m ρ _ =>
  (θ_run Cert.AdamModRefIdeal.defs _ _).mono
    (fun r h => ⟨fun c => (h c).2.2.2.2, sem_eq_zero_of_no_sems (by decide) r.2⟩) (Cert.AdamModRefIdeal.Value.run m ρ)

theorem algebraic : Cert.algebraic_AdamModIdeal_AdamModRefIdeal := fun m ρ m' ρ' _ hargs =>
  ⟨fun c => G m c, fun c y => step (W m c y) (G m c y) (M m c y) (V2 m c y), fun c y => moment (G m c y) (M m c y),
    fun c y => square (G m c y) (V2 m c y),
    (θ_run Cert.AdamModIdeal.defs _ _).mono
      (fun r h c => ⟨(h c).1.trans (arr4 m c), (h c).2.1.trans (arr5 m c), (h c).2.2.1.trans (arr6 m c),
        (h c).2.2.2.1.trans (arr7 m c), (h c).2.2.2.2⟩) (Cert.AdamModIdeal.Value.run_blocks m ρ),
    (θ_run Cert.AdamModRefIdeal.defs _ _).mono
      (fun r h c => by
        obtain ⟨e0, e1, e2, e3⟩ := hargs c
        refine ⟨(h c).1.trans e1, ((h c).2.1.trans (val_main_v23_eq _ _ _ _)).trans ?_,
          ((h c).2.2.1.trans (val_main_v4_eq _ _)).trans ?_, ((h c).2.2.2.1.trans (val_main_v10_eq _ _)).trans ?_, (h c).2.2.2.2⟩
        · rw [e0, e1, e2, e3]
          exact ref_w _ _ _ _
        · rw [e1, e2]
          exact ref_m _ _
        · rw [e1, e3]
          exact ref_v _ _)
      (Cert.AdamModRefIdeal.Value.run m' ρ')⟩

end Cert.AdamModClaims

end
-- ==== Proof.AdamBr.lean ====
/-
  AdamW on w_br: what the call leaves, what the reference computes, and the claims.
-/
module

public import proofs.«01_k».proof.Defs
public import proofs.«01_k».proof.Proof.AdamW
public import proofs.«01_k».proof.Proof.Gen.AdamBr.Frame
public import proofs.«01_k».proof.Proof.Gen.AdamBrIdeal.Value
public import proofs.«01_k».proof.Proof.Gen.AdamBrRefIdeal.Run
public import proofs.«01_k».proof.Proof.Gen.AdamBrRefIdeal.Read
public import Idealize.ShloMosaic.Lib.Pipeline.ValueKit
public import Idealize.ShloMosaic.Lib.Quiescent

@[expose] public section

noncomputable section

namespace Cert.AdamBrClaims

open Cert.AdamBrIdeal Cert.AdamBrIdeal.Gen Idealize.ShloMosaic Idealize.ShloMosaic.TcCoe Idealize.SL.Sem Cert.AdamW

/-! ## One block -/

theorem pay_g (g : Vec Ideal S1x1024x256 .f32) (a : Fin 1024) (b : Fin 256) : k0_pay5 g (ix3 0 a b) = g (ix3 0 a b) := by
  pointwise [k0_pay5, k0_pay4]

theorem pay_m (g m : Vec Ideal S1x1024x256 .f32) (a : Fin 1024) (b : Fin 256) :
    k0_pay2 (k0_pay6 g m) (ix3 0 a b) = moment (g (ix3 0 a b)) (m (ix3 0 a b)) := by
  pointwise [k0_pay2, k0_pay6, k0_pay4]
  rfl

theorem pay_v (g v : Vec Ideal S1x1024x256 .f32) (a : Fin 1024) (b : Fin 256) :
    k0_pay3 (k0_pay7 g v) (ix3 0 a b) = square (g (ix3 0 a b)) (v (ix3 0 a b)) := by
  pointwise [k0_pay3, k0_pay7, k0_pay4]
  rfl

theorem pay_w (g m v w : Vec Ideal S1x1024x256 .f32) (a : Fin 1024) (b : Fin 256) :
    k0_pay1 (k0_pay8 g m v w) (Scalar.ofBits .f32 0xBA83126F#32) (ix3 0 a b)
      = step (w (ix3 0 a b)) (g (ix3 0 a b)) (m (ix3 0 a b)) (v (ix3 0 a b)) := by
  pointwise [k0_pay1, k0_pay8, k0_pay6, k0_pay7, k0_pay4]
  rfl

/-! ## The blocks in their arrays -/

variable (m : (ℓ : Loc nD τ sig) → Buf (Elt Ideal) ℓ)

abbrev W (c : Dev nD) : S2x2048x256.Idx → EReal := m ((c : Thread nD τ).loc main_arg0)
abbrev G (c : Dev nD) : S2x2048x256.Idx → EReal := m ((c : Thread nD τ).loc main_arg1)
abbrev M (c : Dev nD) : S2x2048x256.Idx → EReal := m ((c : Thread nD τ).loc main_arg2)
abbrev V2 (c : Dev nD) : S2x2048x256.Idx → EReal := m ((c : Thread nD τ).loc main_arg3)

theorem entry (y : S1x1024x256.Idx) : ∃ (a : Fin 1024) (b : Fin 256), y = ix3 0 a b :=
  ⟨y 1, y 2, (eq_ix3 y).trans (congrArg (fun z => ix3 z (y 1) (y 2)) (Subsingleton.elim (α := Fin 1) (y 0) 0))⟩

theorem arr4 (c : Dev nD) : (dats m 0 c).arrAt 4 cfg0.N = G m c := by
  refine (dats m 0 c).arrAt_eq_of_covers 4 _ (by decide +kernel) fun t hf y => ?_
  blk_simp
  rw [after0_4]
  unfold out0_4
  obtain ⟨a, b, rfl⟩ := entry y
  frame_out
  exact pay_g _ a b

theorem arr5 (c : Dev nD) : (dats m 0 c).arrAt 5 cfg0.N = fun y => step (W m c y) (G m c y) (M m c y) (V2 m c y) := by
  refine (dats m 0 c).arrAt_eq_of_covers 5 _ (by decide +kernel) fun t hf y => ?_
  blk_simp
  rw [after0_5]
  unfold out0_5
  obtain ⟨a, b, rfl⟩ := entry y
  frame_out
  exact pay_w _ _ _ _ a b

theorem arr6 (c : Dev nD) : (dats m 0 c).arrAt 6 cfg0.N = fun y => moment (G m c y) (M m c y) := by
  refine (dats m 0 c).arrAt_eq_of_covers 6 _ (by decide +kernel) fun t hf y => ?_
  blk_simp
  rw [after0_6]
  unfold out0_6
  obtain ⟨a, b, rfl⟩ := entry y
  frame_out
  exact pay_m _ _ a b

theorem arr7 (c : Dev nD) : (dats m 0 c).arrAt 7 cfg0.N = fun y => square (G m c y) (V2 m c y) := by
  refine (dats m 0 c).arrAt_eq_of_covers 7 _ (by decide +kernel) fun t hf y => ?_
  blk_simp
  rw [after0_7]
  unfold out0_7
  obtain ⟨a, b, rfl⟩ := entry y
  frame_out
  exact pay_v _ _ a b

/-! ## The reference -/

open Cert.AdamBrRefIdeal.Read

variable (w g s v : S2x2048x256.Idx → EReal)

theorem ref_m : val_main_v4 (F := Ideal) g s = fun y => moment (g y) (s y) := rfl

theorem ref_v : val_main_v10 (F := Ideal) g v = fun y => square (g y) (v y) := rfl

theorem ref_w : val_main_v23 (F := Ideal) w g s v = fun y => step (w y) (g y) (s y) (v y) := rfl

/-! ## The claims -/

theorem frame : Cert.quiescent_AdamBr := fun m ρ _ => Cert.AdamBr.Gen.frame m ρ

theorem frame_ideal : Cert.quiescent_AdamBrIdeal := fun m ρ _ => Cert.AdamBrIdeal.Gen.frame m ρ

theorem frame_ref : Cert.quiescent_AdamBrRefIdeal := fun m ρ _ =>
  (θ_run Cert.AdamBrRefIdeal.defs _ _).mono
    (fun r h => ⟨fun c => (h c).2.2.2.2, sem_eq_zero_of_no_sems (by decide) r.2⟩) (Cert.AdamBrRefIdeal.Value.run m ρ)

theorem algebraic : Cert.algebraic_AdamBrIdeal_AdamBrRefIdeal := fun m ρ m' ρ' _ hargs =>
  ⟨fun c => G m c, fun c y => step (W m c y) (G m c y) (M m c y) (V2 m c y), fun c y => moment (G m c y) (M m c y),
    fun c y => square (G m c y) (V2 m c y),
    (θ_run Cert.AdamBrIdeal.defs _ _).mono
      (fun r h c => ⟨(h c).1.trans (arr4 m c), (h c).2.1.trans (arr5 m c), (h c).2.2.1.trans (arr6 m c),
        (h c).2.2.2.1.trans (arr7 m c), (h c).2.2.2.2⟩) (Cert.AdamBrIdeal.Value.run_blocks m ρ),
    (θ_run Cert.AdamBrRefIdeal.defs _ _).mono
      (fun r h c => by
        obtain ⟨e0, e1, e2, e3⟩ := hargs c
        refine ⟨(h c).1.trans e1, ((h c).2.1.trans (val_main_v23_eq _ _ _ _)).trans ?_,
          ((h c).2.2.1.trans (val_main_v4_eq _ _)).trans ?_, ((h c).2.2.2.1.trans (val_main_v10_eq _ _)).trans ?_, (h c).2.2.2.2⟩
        · rw [e0, e1, e2, e3]
          exact ref_w _ _ _ _
        · rw [e1, e2]
          exact ref_m _ _
        · rw [e1, e3]
          exact ref_v _ _)
      (Cert.AdamBrRefIdeal.Value.run m' ρ')⟩

end Cert.AdamBrClaims

end
-- ==== Proof.AdamSmall.lean ====
/-
  AdamW on the small weights, packed one after another: what the call leaves, what the reference computes, and the claims.
-/
module

public import proofs.«01_k».proof.Defs
public import proofs.«01_k».proof.Proof.AdamW
public import proofs.«01_k».proof.Proof.Gen.AdamSmall.Frame
public import proofs.«01_k».proof.Proof.Gen.AdamSmallIdeal.Value
public import proofs.«01_k».proof.Proof.Gen.AdamSmallRefIdeal.Run
public import proofs.«01_k».proof.Proof.Gen.AdamSmallRefIdeal.Read
public import Idealize.ShloMosaic.Lib.Pipeline.ValueKit
public import Idealize.ShloMosaic.Lib.Quiescent

@[expose] public section

noncomputable section

namespace Cert.AdamSmallClaims

open Cert.AdamSmallIdeal Cert.AdamSmallIdeal.Gen Idealize.ShloMosaic Idealize.ShloMosaic.TcCoe Idealize.SL.Sem Cert.AdamW

/-! ## One block -/

theorem pay_g (g : Vec Ideal S1x240x128 .f32) (a : Fin 240) (b : Fin 128) : k0_pay5 g (ix3 0 a b) = g (ix3 0 a b) := by
  pointwise [k0_pay5, k0_pay4]

theorem pay_m (g m : Vec Ideal S1x240x128 .f32) (a : Fin 240) (b : Fin 128) :
    k0_pay2 (k0_pay6 g m) (ix3 0 a b) = moment (g (ix3 0 a b)) (m (ix3 0 a b)) := by
  pointwise [k0_pay2, k0_pay6, k0_pay4]
  rfl

theorem pay_v (g v : Vec Ideal S1x240x128 .f32) (a : Fin 240) (b : Fin 128) :
    k0_pay3 (k0_pay7 g v) (ix3 0 a b) = square (g (ix3 0 a b)) (v (ix3 0 a b)) := by
  pointwise [k0_pay3, k0_pay7, k0_pay4]
  rfl

theorem pay_w (g m v w : Vec Ideal S1x240x128 .f32) (a : Fin 240) (b : Fin 128) :
    k0_pay1 (k0_pay8 g m v w) (Scalar.ofBits .f32 0xBA83126F#32) (ix3 0 a b)
      = step (w (ix3 0 a b)) (g (ix3 0 a b)) (m (ix3 0 a b)) (v (ix3 0 a b)) := by
  pointwise [k0_pay1, k0_pay8, k0_pay6, k0_pay7, k0_pay4]
  rfl

/-! ## The blocks in their arrays -/

variable (m : (ℓ : Loc nD τ sig) → Buf (Elt Ideal) ℓ)

abbrev W (c : Dev nD) : S1x240x128.Idx → EReal := m ((c : Thread nD τ).loc main_arg0)
abbrev G (c : Dev nD) : S1x240x128.Idx → EReal := m ((c : Thread nD τ).loc main_arg1)
abbrev M (c : Dev nD) : S1x240x128.Idx → EReal := m ((c : Thread nD τ).loc main_arg2)
abbrev V2 (c : Dev nD) : S1x240x128.Idx → EReal := m ((c : Thread nD τ).loc main_arg3)

theorem entry (y : S1x240x128.Idx) : ∃ (a : Fin 240) (b : Fin 128), y = ix3 0 a b :=
  ⟨y 1, y 2, (eq_ix3 y).trans (congrArg (fun z => ix3 z (y 1) (y 2)) (Subsingleton.elim (α := Fin 1) (y 0) 0))⟩

theorem arr4 (c : Dev nD) : (dats m 0 c).arrAt 4 cfg0.N = G m c := by
  refine (dats m 0 c).arrAt_eq_of_covers 4 _ (by decide +kernel) fun t hf y => ?_
  blk_simp
  rw [after0_4]
  unfold out0_4
  obtain ⟨a, b, rfl⟩ := entry y
  frame_out
  exact pay_g _ a b

theorem arr5 (c : Dev nD) : (dats m 0 c).arrAt 5 cfg0.N = fun y => step (W m c y) (G m c y) (M m c y) (V2 m c y) := by
  refine (dats m 0 c).arrAt_eq_of_covers 5 _ (by decide +kernel) fun t hf y => ?_
  blk_simp
  rw [after0_5]
  unfold out0_5
  obtain ⟨a, b, rfl⟩ := entry y
  frame_out
  exact pay_w _ _ _ _ a b

theorem arr6 (c : Dev nD) : (dats m 0 c).arrAt 6 cfg0.N = fun y => moment (G m c y) (M m c y) := by
  refine (dats m 0 c).arrAt_eq_of_covers 6 _ (by decide +kernel) fun t hf y => ?_
  blk_simp
  rw [after0_6]
  unfold out0_6
  obtain ⟨a, b, rfl⟩ := entry y
  frame_out
  exact pay_m _ _ a b

theorem arr7 (c : Dev nD) : (dats m 0 c).arrAt 7 cfg0.N = fun y => square (G m c y) (V2 m c y) := by
  refine (dats m 0 c).arrAt_eq_of_covers 7 _ (by decide +kernel) fun t hf y => ?_
  blk_simp
  rw [after0_7]
  unfold out0_7
  obtain ⟨a, b, rfl⟩ := entry y
  frame_out
  exact pay_v _ _ a b

/-! ## The reference -/

open Cert.AdamSmallRefIdeal.Read

variable (w g s v : S1x240x128.Idx → EReal)

theorem ref_m : val_main_v4 (F := Ideal) g s = fun y => moment (g y) (s y) := rfl

theorem ref_v : val_main_v10 (F := Ideal) g v = fun y => square (g y) (v y) := rfl

theorem ref_w : val_main_v23 (F := Ideal) w g s v = fun y => step (w y) (g y) (s y) (v y) := rfl

/-! ## The claims -/

theorem frame : Cert.quiescent_AdamSmall := fun m ρ _ => Cert.AdamSmall.Gen.frame m ρ

theorem frame_ideal : Cert.quiescent_AdamSmallIdeal := fun m ρ _ => Cert.AdamSmallIdeal.Gen.frame m ρ

theorem frame_ref : Cert.quiescent_AdamSmallRefIdeal := fun m ρ _ =>
  (θ_run Cert.AdamSmallRefIdeal.defs _ _).mono
    (fun r h => ⟨fun c => (h c).2.2.2.2, sem_eq_zero_of_no_sems (by decide) r.2⟩) (Cert.AdamSmallRefIdeal.Value.run m ρ)

theorem algebraic : Cert.algebraic_AdamSmallIdeal_AdamSmallRefIdeal := fun m ρ m' ρ' _ hargs =>
  ⟨fun c => G m c, fun c y => step (W m c y) (G m c y) (M m c y) (V2 m c y), fun c y => moment (G m c y) (M m c y),
    fun c y => square (G m c y) (V2 m c y),
    (θ_run Cert.AdamSmallIdeal.defs _ _).mono
      (fun r h c => ⟨(h c).1.trans (arr4 m c), (h c).2.1.trans (arr5 m c), (h c).2.2.1.trans (arr6 m c),
        (h c).2.2.2.1.trans (arr7 m c), (h c).2.2.2.2⟩) (Cert.AdamSmallIdeal.Value.run_blocks m ρ),
    (θ_run Cert.AdamSmallRefIdeal.defs _ _).mono
      (fun r h c => by
        obtain ⟨e0, e1, e2, e3⟩ := hargs c
        refine ⟨(h c).1.trans e1, ((h c).2.1.trans (val_main_v23_eq _ _ _ _)).trans ?_,
          ((h c).2.2.1.trans (val_main_v4_eq _ _)).trans ?_, ((h c).2.2.2.1.trans (val_main_v10_eq _ _)).trans ?_, (h c).2.2.2.2⟩
        · rw [e0, e1, e2, e3]
          exact ref_w _ _ _ _
        · rw [e1, e2]
          exact ref_m _ _
        · rw [e1, e3]
          exact ref_v _ _)
      (Cert.AdamSmallRefIdeal.Value.run m' ρ')⟩

end Cert.AdamSmallClaims

end
-- ==== Proof.Rope.lean ====
/-
  The norm of one head of 128 columns and the rotary embedding, entry by entry.
-/
module

public import proofs.«01_k».proof.Proof.Norm

@[expose] public section

noncomputable section

namespace Cert.Rope

open Idealize.ShloMosaic Cert.Norm

/-- The norm of a head by its mean square. -/
def head (x g : Fin 128 → EReal) (e : Fin 128) : EReal :=
  x e * Ideal.rsqrt (meanSq (Ideal.ofBits .f32 0x43000000#32) x + eps) * g e

/-- The next column, the first after the last. -/
def nxt (e : Fin 128) : Fin 128 := ⟨(e.val + 128 - 127 % 128) % 128, by omega⟩

/-- The column before, the last before the first. -/
def prv (e : Fin 128) : Fin 128 := ⟨(e.val + 128 - 1 % 128) % 128, by omega⟩

/-- The pair that a column belongs to. -/
def pair (e : Fin 128) : Fin 64 := ⟨e.val / 2, by omega⟩

/-- A row by three tables: of itself, of the next columns and of the columns before. -/
def spin (y c a b : Fin 128 → EReal) (e : Fin 128) : EReal := y e * c e + y (nxt e) * a e + y (prv e) * b e

/-- Each pair of columns turned by its angle. -/
def turn (y : Fin 128 → EReal) (c s : Fin 64 → EReal) (e : Fin 128) : EReal :=
  if e.val % 2 = 0 then y e * c (pair e) - y (nxt e) * s (pair e) else y (prv e) * s (pair e) + y e * c (pair e)

theorem spin_ctx (y : Fin 128 → EReal) (e : Fin 128) : spin y (fun _ => 1) (fun _ => 0) (fun _ => 0) e = y e := by
  simp [spin]

theorem spin_lat (y : Fin 128 → EReal) (c s : Fin 64 → EReal) (e : Fin 128) :
    spin y (fun d => c (pair d)) (fun d => if d.val % 2 = 0 then -s (pair d) else 0) (fun d => if d.val % 2 = 0 then 0 else s (pair d)) e
      = turn y c s e := by
  unfold spin turn
  by_cases h : e.val % 2 = 0
  · simp only [if_pos h]; rw [mul_zero, add_zero, mul_neg, sub_eq_add_neg]
  · simp only [if_neg h]; rw [mul_zero, add_zero, add_comm]

theorem turn_pair (y : Fin 128 → EReal) (c s : Fin 64 → EReal) (e : Fin 128) :
    (if _ : e.val % 2 < 1 then y ⟨e.val / 2 * 2, by omega⟩ * c (pair e) - y ⟨e.val / 2 * 2 + 1, by omega⟩ * s (pair e)
      else y ⟨e.val / 2 * 2, by omega⟩ * s (pair e) + y ⟨e.val / 2 * 2 + 1, by omega⟩ * c (pair e)) = turn y c s e := by
  unfold turn
  by_cases h : e.val % 2 = 0
  · rw [dif_pos (by omega), if_pos h]
    have h1 : (⟨e.val / 2 * 2, by omega⟩ : Fin 128) = e := Fin.ext (by show e.val / 2 * 2 = e.val; omega)
    have h2 : (⟨e.val / 2 * 2 + 1, by omega⟩ : Fin 128) = nxt e :=
      Fin.ext (by show e.val / 2 * 2 + 1 = (e.val + 128 - 127 % 128) % 128; omega)
    rw [h1, h2]
  · rw [dif_neg (by omega), if_neg h]
    have h1 : (⟨e.val / 2 * 2, by omega⟩ : Fin 128) = prv e :=
      Fin.ext (by show e.val / 2 * 2 = (e.val + 128 - 1 % 128) % 128; omega)
    have h2 : (⟨e.val / 2 * 2 + 1, by omega⟩ : Fin 128) = e := Fin.ext (by show e.val / 2 * 2 + 1 = e.val; omega)
    rw [h1, h2]

/-- Row `R` turned: the context's 256 rows are not, the latent rows by the angles of their positions. -/
def rot (y : Fin 128 → EReal) (c s : Fin 2048 → Fin 64 → EReal) (R : Fin 2304) (e : Fin 128) : EReal :=
  if h : R.val < 256 then y e else turn y (c ⟨R.val - 256, by omega⟩) (s ⟨R.val - 256, by omega⟩) e

theorem rot_ctx (y : Fin 128 → EReal) (c s : Fin 2048 → Fin 64 → EReal) (R : Fin 2304) (e : Fin 128) (h : R.val < 256) :
    rot y c s R e = y e := dif_pos h

theorem rot_lat (y : Fin 128 → EReal) (c s : Fin 2048 → Fin 64 → EReal) (R : Fin 2304) (e : Fin 128) (h : ¬R.val < 256) :
    rot y c s R e = turn y (c ⟨R.val - 256, by omega⟩) (s ⟨R.val - 256, by omega⟩) e := dif_neg h

variable (c s : Fin 2048 → Fin 64 → EReal) (R : Fin 2304) (e : Fin 128)

/-- The table of the cosines, by column. -/
def tabC : EReal := if h : R.val < 256 then 1 else c ⟨R.val - 256, by omega⟩ (pair e)

/-- The table of the next columns' factors. -/
def tabA : EReal := if h : R.val < 256 then 0 else if e.val % 2 = 0 then -s ⟨R.val - 256, by omega⟩ (pair e) else 0

/-- The table of the factors of the columns before. -/
def tabB : EReal := if h : R.val < 256 then 0 else if e.val % 2 = 0 then 0 else s ⟨R.val - 256, by omega⟩ (pair e)

theorem spin_tab (y : Fin 128 → EReal) : spin y (tabC c R) (tabA s R) (tabB s R) e = rot y c s R e := by
  unfold rot
  by_cases h : R.val < 256
  · rw [dif_pos h, show tabC c R = fun _ => 1 from funext fun d => dif_pos h, show tabA s R = fun _ => 0 from funext fun d => dif_pos h,
      show tabB s R = fun _ => 0 from funext fun d => dif_pos h, spin_ctx]
  · rw [dif_neg h, show tabC c R = fun d => c ⟨R.val - 256, by omega⟩ (pair d) from funext fun d => dif_neg h,
      show tabA s R = fun d => if d.val % 2 = 0 then -s ⟨R.val - 256, by omega⟩ (pair d) else 0 from funext fun d => dif_neg h,
      show tabB s R = fun d => if d.val % 2 = 0 then 0 else s ⟨R.val - 256, by omega⟩ (pair d) from funext fun d => dif_neg h, spin_lat]

theorem spin_head {x x' g g' u a b : Fin 128 → EReal} (hx : ∀ d, x d = x' d) (hg : ∀ d, g d = g' d) (hu : ∀ d, u d = tabC c R d)
    (ha : ∀ d, a d = tabA s R d) (hb : ∀ d, b d = tabB s R d) : spin (head x g) u a b e = rot (head x' g') c s R e := by
  rw [funext hx, funext hg, show u = tabC c R from funext hu, show a = tabA s R from funext ha, show b = tabB s R from funext hb, spin_tab]

end Cert.Rope

end
-- ==== Proof.PrepFwdPay.lean ====
/-
  One block of the attention's preparation.
-/
module

public import proofs.«01_k».proof.Proof.Rope
public import proofs.«01_k».proof.Proof.Gen.PrepFwdIdeal.Value
public import Idealize.ShloMosaic.Lib.Pipeline.ValueKit

@[expose] public section

noncomputable section

namespace Cert.PrepFwdClaims

open Cert.PrepFwdIdeal Cert.PrepFwdIdeal.Gen Idealize.ShloMosaic Idealize.ShloMosaic.TcCoe Idealize.SL.Sem Cert.Rope

/-- The scale of the queries, `128 ** -0.5`, as the programs write it. -/
def scale : EReal := Ideal.ofBits .f32 0x3DB504F3#32

/-- Row `r` of a block of 128 columns. -/
abbrev row {n : ℕ} (x : (⟨2, ![n, 128]⟩ : Shape).Idx → EReal) (r : Fin n) (e : Fin 128) : EReal := x (ix2 r e)

section
variable (x : Vec Ideal S256x512 .bf16) (g : Vec Ideal S1x128 .f32) (c a b : Vec Ideal S256x128 .f32) (r : Fin 256) (e : Fin 128)

theorem q0 : k0_pay8 x g c a b (ix2 r e)
    = spin (head (fun d => x (ix2 r ⟨d.val, by omega⟩)) (row g 0)) (row c r) (row a r) (row b r) e * scale := by
  pointwise [k0_pay8, k0_pay3, k0_pay5, k0_pay6, k0_pay7]
  rfl

theorem q1 : k0_pay11 g (k0_pay5 c) (k0_pay6 a) (k0_pay7 b) (k0_pay9 x) (k0_pay10 x) (ix2 r e)
    = spin (head (fun d => x (ix2 r ⟨128 + d.val, by omega⟩)) (row g 0)) (row c r) (row a r) (row b r) e * scale := by
  pointwise [k0_pay11, k0_pay9, k0_pay10, k0_pay3, k0_pay5, k0_pay6, k0_pay7]
  rfl

theorem q2 : k0_pay12 (k0_pay3 x) g (k0_pay5 c) (k0_pay6 a) (k0_pay7 b) (ix2 r e)
    = spin (head (fun d => x (ix2 r ⟨256 + d.val, by omega⟩)) (row g 0)) (row c r) (row a r) (row b r) e * scale := by
  pointwise [k0_pay12, k0_pay3, k0_pay5, k0_pay6, k0_pay7]
  rfl

theorem q3 : k0_pay15 g (k0_pay5 c) (k0_pay6 a) (k0_pay7 b) (k0_pay13 (k0_pay3 x)) (k0_pay14 (k0_pay3 x)) (FloatOps.ofBits .f32 0x358637BD#32) (ix2 r e)
    = spin (head (fun d => x (ix2 r ⟨384 + d.val, by omega⟩)) (row g 0)) (row c r) (row a r) (row b r) e * scale := by
  pointwise [k0_pay15, k0_pay13, k0_pay14, k0_pay3, k0_pay5, k0_pay6, k0_pay7]
  rfl
end

section
variable (x : Vec Ideal S256x256 .bf16) (g : Vec Ideal S1x128 .f32) (c a b : Vec Ideal S256x128 .f32) (r : Fin 256) (e : Fin 128)

theorem k0 : k0_pay16 (k0_pay4 x) g (k0_pay5 c) (k0_pay6 a) (k0_pay7 b) (ix2 r e)
    = spin (head (fun d => x (ix2 r ⟨d.val, by omega⟩)) (row g 0)) (row c r) (row a r) (row b r) e := by
  pointwise [k0_pay16, k0_pay4, k0_pay5, k0_pay6, k0_pay7]
  rfl

theorem k1 : k0_pay17 (k0_pay4 x) g (ix2 r e) = head (fun d => x (ix2 r ⟨128 + d.val, by omega⟩)) (row g 0) e := by
  pointwise [k0_pay17, k0_pay4]
  rfl
end

theorem cat4 (p q s t : Vec Ideal S256x128 .f32) (r : Fin 256) (j : Fin 512) :
    k0_pay1 (F := Ideal) p q s t (ix2 r j) = if j.val < 128 then row p r ⟨j.val % 128, by omega⟩
      else if j.val < 256 then row q r ⟨j.val % 128, by omega⟩ else if j.val < 384 then row s r ⟨j.val % 128, by omega⟩
      else row t r ⟨j.val % 128, by omega⟩ := by
  by_cases h0 : j.val < 128
  · rw [if_pos h0]
    rw [show (⟨j.val % 128, by omega⟩ : Fin 128) = ⟨j.val, by omega⟩ from Fin.ext (by show j.val % 128 = j.val; omega)]
    pointwise [k0_pay1]
    exact dif_pos h0
  · rw [if_neg h0]
    by_cases h1 : j.val < 256
    · rw [if_pos h1]
      rw [show (⟨j.val % 128, by omega⟩ : Fin 128) = ⟨j.val - 128, by omega⟩ from Fin.ext (by show j.val % 128 = j.val - 128; omega)]
      pointwise [k0_pay1]
      exact (dif_neg h0).trans (dif_pos (by omega))
    · rw [if_neg h1]
      by_cases h2 : j.val < 384
      · rw [if_pos h2]
        rw [show (⟨j.val % 128, by omega⟩ : Fin 128) = ⟨j.val - 128 - 128, by omega⟩ from Fin.ext (by show j.val % 128 = j.val - 128 - 128; omega)]
        pointwise [k0_pay1]
        exact (dif_neg h0).trans ((dif_neg (by omega)).trans (dif_pos (by omega)))
      · rw [if_neg h2]
        rw [show (⟨j.val % 128, by omega⟩ : Fin 128) = ⟨j.val - 128 - 128 - 128, by omega⟩ from Fin.ext (by show j.val % 128 = j.val - 128 - 128 - 128; omega)]
        pointwise [k0_pay1]
        exact (dif_neg h0).trans ((dif_neg (by omega)).trans (dif_neg (by omega)))

theorem cat2 (c a b p q : Vec Ideal S256x128 .f32) (r : Fin 256) (j : Fin 256) :
    k0_pay2 (k0_pay5 c) (k0_pay6 a) (k0_pay7 b) p q (ix2 r j) = if j.val < 128 then row p r ⟨j.val % 128, by omega⟩
      else spin (row q r) (row c r) (row a r) (row b r) ⟨j.val % 128, by omega⟩ := by
  by_cases h : j.val < 128
  · rw [if_pos h, show (⟨j.val % 128, by omega⟩ : Fin 128) = ⟨j.val, h⟩ from Fin.ext (by show j.val % 128 = j.val; omega)]
    pointwise [k0_pay2, k0_pay5, k0_pay6, k0_pay7]
    exact dif_pos h
  · rw [if_neg h, show (⟨j.val % 128, by omega⟩ : Fin 128) = ⟨j.val - 128, by omega⟩ from Fin.ext (by show j.val % 128 = j.val - 128; omega)]
    pointwise [k0_pay2, k0_pay5, k0_pay6, k0_pay7]
    exact dif_neg h

/-- The queries of a block. -/
theorem q_at (x : Vec Ideal S256x512 .bf16) (g : Vec Ideal S1x128 .f32) (c a b : Vec Ideal S256x128 .f32) (r : Fin 256) (j : Fin 512) :
    k0_pay1 (F := Ideal) (k0_pay8 x g c a b) (k0_pay11 g (k0_pay5 c) (k0_pay6 a) (k0_pay7 b) (k0_pay9 x) (k0_pay10 x))
        (k0_pay12 (k0_pay3 x) g (k0_pay5 c) (k0_pay6 a) (k0_pay7 b))
        (k0_pay15 g (k0_pay5 c) (k0_pay6 a) (k0_pay7 b) (k0_pay13 (k0_pay3 x)) (k0_pay14 (k0_pay3 x)) (FloatOps.ofBits .f32 0x358637BD#32)) (ix2 r j)
      = spin (head (fun d => x (ix2 r ⟨j.val / 128 * 128 + d.val, by omega⟩)) (row g 0)) (row c r) (row a r) (row b r) ⟨j.val % 128, by omega⟩
        * scale := by
  rw [cat4]
  by_cases h0 : j.val < 128
  · rw [if_pos h0]
    refine (q0 x g c a b r _).trans ?_
    rw [show (fun d : Fin 128 => x (ix2 r ⟨d.val, by omega⟩)) = fun d : Fin 128 => x (ix2 r ⟨j.val / 128 * 128 + d.val, by omega⟩) from
      funext fun d => congrArg (fun z => x (ix2 r z)) (Fin.ext (by show d.val = j.val / 128 * 128 + d.val; omega))]
  · rw [if_neg h0]
    by_cases h1 : j.val < 256
    · rw [if_pos h1]
      refine (q1 x g c a b r _).trans ?_
      rw [show (fun d : Fin 128 => x (ix2 r ⟨128 + d.val, by omega⟩)) = fun d : Fin 128 => x (ix2 r ⟨j.val / 128 * 128 + d.val, by omega⟩) from
        funext fun d => congrArg (fun z => x (ix2 r z)) (Fin.ext (by show 128 + d.val = j.val / 128 * 128 + d.val; omega))]
    · rw [if_neg h1]
      by_cases h2 : j.val < 384
      · rw [if_pos h2]
        refine (q2 x g c a b r _).trans ?_
        rw [show (fun d : Fin 128 => x (ix2 r ⟨256 + d.val, by omega⟩)) = fun d : Fin 128 => x (ix2 r ⟨j.val / 128 * 128 + d.val, by omega⟩) from
          funext fun d => congrArg (fun z => x (ix2 r z)) (Fin.ext (by show 256 + d.val = j.val / 128 * 128 + d.val; omega))]
      · rw [if_neg h2]
        refine (q3 x g c a b r _).trans ?_
        rw [show (fun d : Fin 128 => x (ix2 r ⟨384 + d.val, by omega⟩)) = fun d : Fin 128 => x (ix2 r ⟨j.val / 128 * 128 + d.val, by omega⟩) from
          funext fun d => congrArg (fun z => x (ix2 r z)) (Fin.ext (by show 384 + d.val = j.val / 128 * 128 + d.val; omega))]

/-- The keys of a block. -/
theorem k_at (x : Vec Ideal S256x256 .bf16) (g : Vec Ideal S1x128 .f32) (c a b : Vec Ideal S256x128 .f32) (r : Fin 256) (j : Fin 256) :
    k0_pay2 (k0_pay5 c) (k0_pay6 a) (k0_pay7 b) (k0_pay16 (k0_pay4 x) g (k0_pay5 c) (k0_pay6 a) (k0_pay7 b)) (k0_pay17 (k0_pay4 x) g) (ix2 r j)
      = spin (head (fun d => x (ix2 r ⟨j.val / 128 * 128 + d.val, by omega⟩)) (row g 0)) (row c r) (row a r) (row b r) ⟨j.val % 128, by omega⟩ := by
  rw [cat2]
  by_cases h0 : j.val < 128
  · rw [if_pos h0]
    refine (k0 x g c a b r _).trans ?_
    rw [show (fun d : Fin 128 => x (ix2 r ⟨d.val, by omega⟩)) = fun d : Fin 128 => x (ix2 r ⟨j.val / 128 * 128 + d.val, by omega⟩) from
      funext fun d => congrArg (fun z => x (ix2 r z)) (Fin.ext (by show d.val = j.val / 128 * 128 + d.val; omega))]
  · rw [if_neg h0, show row (k0_pay17 (k0_pay4 x) g) r = head (fun d => x (ix2 r ⟨128 + d.val, by omega⟩)) (row g 0) from
        funext fun e => k1 x g r e,
      show (fun d : Fin 128 => x (ix2 r ⟨128 + d.val, by omega⟩)) = fun d : Fin 128 => x (ix2 r ⟨j.val / 128 * 128 + d.val, by omega⟩) from
        funext fun d => congrArg (fun z => x (ix2 r z)) (Fin.ext (by show 128 + d.val = j.val / 128 * 128 + d.val; omega))]

end Cert.PrepFwdClaims

end
-- ==== Proof.PrepFwdTab.lean ====
/-
  The rotation's tables, as the region finds them.
-/
module

public import proofs.«01_k».proof.Proof.Rope
public import proofs.«01_k».proof.Proof.Gen.PrepFwdIdeal.Value
public import Idealize.ShloMosaic.Lib.Pipeline.ValueKit
public import Idealize.ShloMosaic.Lib.StableHlo.ReadAt

@[expose] public section

noncomputable section

namespace Cert.PrepFwdClaims

open Cert.PrepFwdIdeal Cert.PrepFwdIdeal.Gen Idealize.ShloMosaic Idealize.ShloMosaic.TcCoe Idealize.SL.Sem Cert.Rope

/-- The divisor of the columns, two, as the remainder takes it. -/
def two : (⟨S_, .i32⟩ : BufTy).Contents (Elt Ideal) :=
  select (cmpi .eq (constantI S_ 32 2#32) (constantI S_ 32 0#32)) (constantI S_ 32 1#32) (constantI S_ 32 2#32)

/-- The columns' remainders, before the sign's correction. -/
def rem0 : (⟨S128, .i32⟩ : BufTy).Contents (Elt Ideal) := Host.remsi (iotaInDim S128 32 0) (broadcastInDim S128 ![] bcast_S_S128 two)

/-- The columns' remainders. -/
def rem1 : (⟨S128, .i32⟩ : BufTy).Contents (Elt Ideal) :=
  select (andi (cmpi .ne (cmpi .slt rem0 (broadcastInDim S128 ![] bcast_S_S128 (constantI S_ 32 0#32)))
      (broadcastInDim S128 ![] bcast_S_S128 (cmpi .slt two (constantI S_ 32 0#32))))
    (cmpi .ne rem0 (broadcastInDim S128 ![] bcast_S_S128 (constantI S_ 32 0#32))))
    (addi rem0 (broadcastInDim S128 ![] bcast_S_S128 two)) rem0

/-- Which columns are even. -/
def even : (⟨S128, .i1⟩ : BufTy).Contents (Elt Ideal) := cmpi .eq rem1 (broadcastInDim S128 ![] bcast_S_S128 (constantI S_ 32 0#32))

theorem even_at (e : Fin 128) : (even (ix1 e) : BitVec 1) = if e.val % 2 = 0 then 1#1 else 0#1 := by
  revert e
  decide +kernel

variable (m : (ℓ : Loc nD τ sig) → Buf (Elt Ideal) ℓ)

abbrev P (c : Dev nD) : S2304x1024.Idx → EReal := m ((c : Thread nD τ).loc main_arg0)
abbrev GQ (c : Dev nD) : S1x128.Idx → EReal := m ((c : Thread nD τ).loc main_arg1)
abbrev GK (c : Dev nD) : S1x128.Idx → EReal := m ((c : Thread nD τ).loc main_arg2)
abbrev Cos (c : Dev nD) : S2048x64.Idx → EReal := m ((c : Thread nD τ).loc main_arg3)
abbrev Sin (c : Dev nD) : S2048x64.Idx → EReal := m ((c : Thread nD τ).loc main_arg4)

theorem one_eq : Ideal.ofBits .f32 0x3F800000#32 = 1 := by
  simp [Ideal.ofBits, Ideal.ieee]; rw [← EReal.coe_mul]; norm_num

theorem zero_eq : Ideal.ofBits .f32 0x00000000#32 = 0 := by simp [Ideal.ofBits, Ideal.ieee]

theorem cos_at (c : Dev nD) (R : Fin 2304) (e : Fin 128) : V m c main_v10 (ix2 R e) = tabC (fun a d => Cos m c (ix2 a d)) R e := by
  show concatenate S2304x128 0 [⟨S256x128, broadcastInDim S256x128 ![] bcast_S_S256x128 (constant (F := Ideal) S_ .f32 0x3F800000#32)⟩,
    ⟨S2048x128, shapeCast S2048x128 (broadcastInDim S2048x64x2 ![0, 1] bcast_S2048x64_S2048x64x2_0_1
      (Cos m c : (⟨S2048x64, .f32⟩ : BufTy).Contents (Elt Ideal))) shapeCasts_S2048x64x2_S2048x128⟩]
    concatenates_S256x128_S2048x128_S2304x128_d0 (ix2 R e) = _
  pointwise
  rfl

/-- The sine by column. -/
abbrev wide (c : Dev nD) : (⟨S2048x128, .f32⟩ : BufTy).Contents (Elt Ideal) :=
  shapeCast S2048x128 (broadcastInDim S2048x64x2 ![0, 1] bcast_S2048x64_S2048x64x2_0_1
      (Sin m c : (⟨S2048x64, .f32⟩ : BufTy).Contents (Elt Ideal))) shapeCasts_S2048x64x2_S2048x128

/-- A choice by the columns' parity. -/
abbrev byPar (p q : (⟨S2048x128, .f32⟩ : BufTy).Contents (Elt Ideal)) : (⟨S2048x128, .f32⟩ : BufTy).Contents (Elt Ideal) :=
  select (broadcastInDim S2048x128 ![0, 1] bcast_S1x128_S2048x128_0_1 (broadcastInDim S1x128 ![1] bcast_S128_S1x128_1 even)) p q

/-- No factor. -/
abbrev none : (⟨S2048x128, .f32⟩ : BufTy).Contents (Elt Ideal) :=
  broadcastInDim S2048x128 ![] bcast_S_S2048x128 (constant (F := Ideal) S_ .f32 0x00000000#32)

theorem next_read (c : Dev nD) (R : Fin 2304) (e : Fin 128) : V m c main_v14 (ix2 R e) = concatenate S2304x128 0
    [⟨S256x128, broadcastInDim S256x128 ![] bcast_S_S256x128 (constant (F := Ideal) S_ .f32 0x00000000#32)⟩, ⟨S2048x128, byPar (Host.negf (F := Ideal) (φ := .f32) (s := S2048x128) (wide m c)) none⟩]
    concatenates_S256x128_S2048x128_S2304x128_d0 (ix2 R e) := by
  unfold V hostOps0 hostOps0_1 hostOps0_2 hostOps0_3 hostOps0_4 hostOps0_5 hostOps0_6 byPar none wide even rem1 rem0 two
  simp only [List.flatten_cons, List.flatten_nil, List.cons_append, List.nil_append]
  after_reads_simp
  try simp -implicitDefEqProofs only [StableHlo.TRef.toBuf, StableHlo.TRef.ofBuf, cast_cast, cast_eq, id_eq]
  clean_types
  pointwise

theorem next_at (c : Dev nD) (R : Fin 2304) (e : Fin 128) : V m c main_v14 (ix2 R e) = tabA (fun a d => Sin m c (ix2 a d)) R e := by
  rw [next_read]
  unfold tabA
  pointwise
  rw [even_at]
  split_ifs <;> rfl

theorem before_read (c : Dev nD) (R : Fin 2304) (e : Fin 128) : V m c main_v17 (ix2 R e) = concatenate S2304x128 0
    [⟨S256x128, broadcastInDim S256x128 ![] bcast_S_S256x128 (constant (F := Ideal) S_ .f32 0x00000000#32)⟩, ⟨S2048x128, byPar none (wide m c)⟩]
    concatenates_S256x128_S2048x128_S2304x128_d0 (ix2 R e) := by
  unfold V hostOps0 hostOps0_1 hostOps0_2 hostOps0_3 hostOps0_4 hostOps0_5 hostOps0_6 byPar none wide even rem1 rem0 two
  simp only [List.flatten_cons, List.flatten_nil, List.cons_append, List.nil_append]
  after_reads_simp
  try simp -implicitDefEqProofs only [StableHlo.TRef.toBuf, StableHlo.TRef.ofBuf, cast_cast, cast_eq, id_eq]
  clean_types
  pointwise

theorem before_at (c : Dev nD) (R : Fin 2304) (e : Fin 128) : V m c main_v17 (ix2 R e) = tabB (fun a d => Sin m c (ix2 a d)) R e := by
  rw [before_read]
  unfold tabB
  pointwise
  rw [even_at]
  split_ifs <;> rfl

end Cert.PrepFwdClaims

end
-- ==== Proof.PrepFwdRef.lean ====
/-
  The attention's preparation: what the reference computes.
-/
module

public import proofs.«01_k».proof.Proof.Rope
public import proofs.«01_k».proof.Proof.Gen.PrepFwdRefIdeal.Read
public import Idealize.ShloMosaic.Lib.Pipeline.ValueKit

@[expose] public section

noncomputable section

namespace Cert.PrepFwdClaims

open Cert.PrepFwdRefIdeal Cert.PrepFwdRefIdeal.Read Idealize.ShloMosaic Cert.Rope

theorem head_q (p : S2304x1024.Idx → EReal) (g : S1x128.Idx → EReal) (R : Fin 2304) (h : Fin 4) (e : Fin 128) :
    val_main_v15 (F := Ideal) p g (ix3 R h e) = head (fun d => p (ix2 R ⟨h.val * 128 + d.val, by omega⟩)) (fun d => g (ix2 0 d)) e := by
  pointwise [val_main_v15, val_main_v14, val_main_v13, val_main_v12, val_main_v11, val_main_v10, val_main_v9, val_main_v8, val_main_cst_1,
    val_main_v7, val_main_v6, val_main_cst_0, val_main_v5, val_main_v4, val_main_cst, val_main_v3, val_main_v2, val_main_v1, val_main_v0]
  rfl

theorem head_k (p : S2304x1024.Idx → EReal) (g : S1x128.Idx → EReal) (R : Fin 2304) (h : Fin 2) (e : Fin 128) :
    val_main_v57 (F := Ideal) p g (ix3 R h e) = head (fun d => p (ix2 R ⟨512 + (h.val * 128 + d.val), by omega⟩)) (fun d => g (ix2 0 d)) e := by
  pointwise [val_main_v57, val_main_v56, val_main_v55, val_main_v54, val_main_v53, val_main_v52, val_main_v51, val_main_v50, val_main_cst_5,
    val_main_v49, val_main_v48, val_main_cst_4, val_main_v47, val_main_v46, val_main_cst_3, val_main_v45, val_main_v44, val_main_v43, val_main_v42]
  rfl

theorem rot_q (p : S2304x1024.Idx → EReal) (g : S1x128.Idx → EReal) (c s : S2048x64.Idx → EReal) (R : Fin 2304) (h : Fin 4) (e : Fin 128) :
    val_main_v39 (F := Ideal) p g c s (ix3 R h e) = rot (fun d => val_main_v15 (F := Ideal) p g (ix3 R h d)) (fun a d => c (ix2 a d)) (fun a d => s (ix2 a d)) R e := by
  unfold val_main_v39 val_main_v38 val_main_v37 val_main_v36 val_main_v35 val_main_v34 val_main_v33 val_main_v31 val_main_v29 val_main_v28 val_main_v26
    val_main_v22 val_main_v21 val_main_v20 val_main_v19 val_main_v18 val_main_v17 val_main_v16
  generalize val_main_v15 (F := Ideal) p g = y
  pointwise [val_main_v32, val_main_v30, val_main_v27, val_main_v25, val_main_v24, val_main_v23]
  by_cases hR : R.val < 256
  · refine (dif_pos hR).trans ?_
    exact Eq.symm (rot_ctx _ _ _ _ _ hR)
  · refine (dif_neg hR).trans ?_
    refine Eq.trans ?_ (rot_lat _ _ _ _ _ hR).symm
    have e1 : (⟨256 + (R.val - 256), by omega⟩ : Fin 2304) = R := Fin.ext (by show 256 + (R.val - 256) = R.val; omega)
    simp only [e1]
    exact turn_pair (fun d => y (ix3 R h d)) (fun d => c (ix2 ⟨R.val - 256, by omega⟩ d)) (fun d => s (ix2 ⟨R.val - 256, by omega⟩ d)) e

theorem rot_k (p : S2304x1024.Idx → EReal) (g : S1x128.Idx → EReal) (c s : S2048x64.Idx → EReal) (R : Fin 2304) (h : Fin 2) (e : Fin 128) :
    val_main_v81 (F := Ideal) p g c s (ix3 R h e) = rot (fun d => val_main_v57 (F := Ideal) p g (ix3 R h d)) (fun a d => c (ix2 a d)) (fun a d => s (ix2 a d)) R e := by
  unfold val_main_v81 val_main_v80 val_main_v79 val_main_v78 val_main_v77 val_main_v76 val_main_v75 val_main_v73 val_main_v71 val_main_v70 val_main_v68
    val_main_v64 val_main_v63 val_main_v62 val_main_v61 val_main_v60 val_main_v59 val_main_v58
  generalize val_main_v57 (F := Ideal) p g = y
  pointwise [val_main_v74, val_main_v72, val_main_v69, val_main_v67, val_main_v66, val_main_v65]
  by_cases hR : R.val < 256
  · refine (dif_pos hR).trans ?_
    exact Eq.symm (rot_ctx _ _ _ _ _ hR)
  · refine (dif_neg hR).trans ?_
    refine Eq.trans ?_ (rot_lat _ _ _ _ _ hR).symm
    have e1 : (⟨256 + (R.val - 256), by omega⟩ : Fin 2304) = R := Fin.ext (by show 256 + (R.val - 256) = R.val; omega)
    simp only [e1]
    exact turn_pair (fun d => y (ix3 R h d)) (fun d => c (ix2 ⟨R.val - 256, by omega⟩ d)) (fun d => s (ix2 ⟨R.val - 256, by omega⟩ d)) e

theorem out_q (p : S2304x1024.Idx → EReal) (g : S1x128.Idx → EReal) (c s : S2048x64.Idx → EReal) (R : Fin 2304) (j : Fin 512) :
    val_main_v83 (F := Ideal) p g c s (ix2 R j)
      = val_main_v39 (F := Ideal) p g c s (ix3 R ⟨j.val / 128, by omega⟩ ⟨j.val % 128, by omega⟩) * Ideal.ofBits .f32 0x3DB504F3#32 := by
  unfold val_main_v83 val_main_v82 val_main_v41
  generalize val_main_v39 (F := Ideal) p g c s = y
  pointwise [val_main_v40, val_main_cst_2]

theorem out_k (p : S2304x1024.Idx → EReal) (g : S1x128.Idx → EReal) (c s : S2048x64.Idx → EReal) (R : Fin 2304) (j : Fin 256) :
    val_main_v85 (F := Ideal) p g c s (ix2 R j)
      = val_main_v81 (F := Ideal) p g c s (ix3 R ⟨j.val / 128, by omega⟩ ⟨j.val % 128, by omega⟩) := by
  unfold val_main_v85 val_main_v84
  generalize val_main_v81 (F := Ideal) p g c s = y
  pointwise []

/-- The queries. -/
def Q (p : S2304x1024.Idx → EReal) (g : S1x128.Idx → EReal) (c s : S2048x64.Idx → EReal) (R : Fin 2304) (j : Fin 512) : EReal :=
  rot (head (fun d => p (ix2 R ⟨j.val / 128 * 128 + d.val, by omega⟩)) (fun d => g (ix2 0 d))) (fun a d => c (ix2 a d)) (fun a d => s (ix2 a d)) R
    ⟨j.val % 128, by omega⟩ * Ideal.ofBits .f32 0x3DB504F3#32

/-- The keys. -/
def K (p : S2304x1024.Idx → EReal) (g : S1x128.Idx → EReal) (c s : S2048x64.Idx → EReal) (R : Fin 2304) (j : Fin 256) : EReal :=
  rot (head (fun d => p (ix2 R ⟨512 + (j.val / 128 * 128 + d.val), by omega⟩)) (fun d => g (ix2 0 d))) (fun a d => c (ix2 a d))
    (fun a d => s (ix2 a d)) R ⟨j.val % 128, by omega⟩

theorem ref_q (p : S2304x1024.Idx → EReal) (g : S1x128.Idx → EReal) (c s : S2048x64.Idx → EReal) :
    val_main_v83 (F := Ideal) p g c s = fun y => Q p g c s (y 0) (y 1) := by
  funext y
  obtain ⟨R, j, rfl⟩ : ∃ (R : Fin 2304) (j : Fin 512), y = ix2 R j := ⟨y 0, y 1, eq_ix2 y⟩
  rw [out_q, rot_q]
  simp only [head_q]
  rfl

theorem ref_k (p : S2304x1024.Idx → EReal) (g : S1x128.Idx → EReal) (c s : S2048x64.Idx → EReal) :
    val_main_v85 (F := Ideal) p g c s = fun y => K p g c s (y 0) (y 1) := by
  funext y
  obtain ⟨R, j, rfl⟩ : ∃ (R : Fin 2304) (j : Fin 256), y = ix2 R j := ⟨y 0, y 1, eq_ix2 y⟩
  rw [out_k, rot_k]
  simp only [head_k]
  rfl

/-- The values. -/
def U (p : S2304x1024.Idx → EReal) (R : Fin 2304) (j : Fin 256) : EReal := p (ix2 R ⟨768 + j.val, by omega⟩)

theorem ref_v (p : S2304x1024.Idx → EReal) : val_main_v86 (F := Ideal) p = fun y => U p (y 0) (y 1) := by
  funext y
  obtain ⟨R, j, rfl⟩ : ∃ (R : Fin 2304) (j : Fin 256), y = ix2 R j := ⟨y 0, y 1, eq_ix2 y⟩
  pointwise [val_main_v86]
  rfl

end Cert.PrepFwdClaims

end
-- ==== Proof.PrepFwd.lean ====
/-
  The attention's preparation: the norms of the heads, the rotary embedding, and the claims.
-/
module

public import proofs.«01_k».proof.Defs
public import proofs.«01_k».proof.Proof.PrepFwdPay
public import proofs.«01_k».proof.Proof.PrepFwdTab
public import proofs.«01_k».proof.Proof.PrepFwdRef
public import proofs.«01_k».proof.Proof.Gen.PrepFwd.Frame
public import proofs.«01_k».proof.Proof.Gen.PrepFwdRefIdeal.Run
public import Idealize.ShloMosaic.Lib.Quiescent

@[expose] public section

noncomputable section

namespace Cert.PrepFwdClaims

open Cert.PrepFwdIdeal Cert.PrepFwdIdeal.Gen Idealize.ShloMosaic Idealize.ShloMosaic.TcCoe Idealize.SL.Sem Cert.Rope

variable (m : (ℓ : Loc nD τ sig) → Buf (Elt Ideal) ℓ)

theorem idx0 : ∀ t : Fin cfg0.N, win0_0.index t = ![t.val, 0] := by decide +kernel
theorem idx1 : ∀ t : Fin cfg0.N, win0_1.index t = ![t.val, 2] := by decide +kernel
theorem idx2 : ∀ t : Fin cfg0.N, win0_2.index t = ![t.val, 3] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![t.val, 0] := by decide +kernel
theorem idx6 : ∀ t : Fin cfg0.N, win0_6.index t = ![t.val, 0] := by decide +kernel
theorem idx7 : ∀ t : Fin cfg0.N, win0_7.index t = ![t.val, 0] := by decide +kernel
theorem idx8 : ∀ t : Fin cfg0.N, win0_8.index t = ![t.val, 0] := by decide +kernel
theorem idx9 : ∀ t : Fin cfg0.N, win0_9.index t = ![t.val, 0] := by decide +kernel
theorem idx10 : ∀ t : Fin cfg0.N, win0_10.index t = ![t.val, 0] := by decide +kernel

theorem t_lt (t : Fin cfg0.N) : t.val < 9 := t.isLt

/-- The row of the arrays that row `r` of point `t`'s block is. -/
def pos (t : ℕ) (r : Fin 256) : Fin 2304 := ⟨t % 9 * 256 + r.val, by omega⟩

theorem blk0 (c : Dev nD) (t : Fin cfg0.N) (r : Fin 256) (j : Fin 512) :
    iblk m c 0 t (ix2 r j) = P m c (ix2 (pos t.val r) ⟨j.val, by omega⟩) := by
  refine Eq.trans (b := V m c main_arg0 (ix2 (pos t.val r) ⟨j.val, by omega⟩)) ?_ (congrFun (V_main_arg0 m c) _)
  blk_ext [iblk, idx0 t] <;> simp only [pos] <;> have := t_lt t <;> omega

theorem blk1 (c : Dev nD) (t : Fin cfg0.N) (r : Fin 256) (j : Fin 256) :
    iblk m c 1 t (ix2 r j) = P m c (ix2 (pos t.val r) ⟨512 + j.val, by omega⟩) := by
  refine Eq.trans (b := V m c main_arg0 (ix2 (pos t.val r) ⟨512 + j.val, by omega⟩)) ?_ (congrFun (V_main_arg0 m c) _)
  blk_ext [iblk, idx1 t] <;> simp only [pos] <;> have := t_lt t <;> omega

theorem blk2 (c : Dev nD) (t : Fin cfg0.N) (r : Fin 256) (j : Fin 256) :
    iblk m c 2 t (ix2 r j) = P m c (ix2 (pos t.val r) ⟨768 + j.val, by omega⟩) := by
  refine Eq.trans (b := V m c main_arg0 (ix2 (pos t.val r) ⟨768 + j.val, by omega⟩)) ?_ (congrFun (V_main_arg0 m c) _)
  blk_ext [iblk, idx2 t] <;> simp only [pos] <;> have := t_lt t <;> omega

theorem blk3 (c : Dev nD) (t : Fin cfg0.N) (d : Fin 128) : iblk m c 3 t (ix2 0 d) = GQ m c (ix2 0 d) := by
  refine Eq.trans (b := V m c main_arg1 (ix2 0 d)) ?_ (congrFun (V_main_arg1 m c) _)
  blk_ext [iblk, idx3 t] <;> omega

theorem blk4 (c : Dev nD) (t : Fin cfg0.N) (d : Fin 128) : iblk m c 4 t (ix2 0 d) = GK m c (ix2 0 d) := by
  refine Eq.trans (b := V m c main_arg2 (ix2 0 d)) ?_ (congrFun (V_main_arg2 m c) _)
  blk_ext [iblk, idx4 t] <;> omega

theorem blk5 (c : Dev nD) (t : Fin cfg0.N) (r : Fin 256) (e : Fin 128) :
    iblk m c 5 t (ix2 r e) = tabC (fun a d => Cos m c (ix2 a d)) (pos t.val r) e := by
  refine Eq.trans (b := V m c main_v10 (ix2 (pos t.val r) e)) ?_ (cos_at m c _ _)
  blk_ext [iblk, idx5 t] <;> simp only [pos] <;> have := t_lt t <;> omega

theorem blk6 (c : Dev nD) (t : Fin cfg0.N) (r : Fin 256) (e : Fin 128) :
    iblk m c 6 t (ix2 r e) = tabA (fun a d => Sin m c (ix2 a d)) (pos t.val r) e := by
  refine Eq.trans (b := V m c main_v14 (ix2 (pos t.val r) e)) ?_ (next_at m c _ _)
  blk_ext [iblk, idx6 t] <;> simp only [pos] <;> have := t_lt t <;> omega

theorem blk7 (c : Dev nD) (t : Fin cfg0.N) (r : Fin 256) (e : Fin 128) :
    iblk m c 7 t (ix2 r e) = tabB (fun a d => Sin m c (ix2 a d)) (pos t.val r) e := by
  refine Eq.trans (b := V m c main_v17 (ix2 (pos t.val r) e)) ?_ (before_at m c _ _)
  blk_ext [iblk, idx7 t] <;> simp only [pos] <;> have := t_lt t <;> omega

theorem arr8 (c : Dev nD) : (dats m 0 c).arrAt 8 cfg0.N = fun y => Q (P m c) (GQ m c) (Cos m c) (Sin m c) (y 0) (y 1) := by
  refine (dats m 0 c).arrAt_eq_of_covers 8 _ (by decide +kernel) fun t hf y => ?_
  blk_simp
  rw [after0_8]
  obtain ⟨a, b, rfl⟩ : ∃ (a : Fin 256) (b : Fin 512), y = ix2 a b := ⟨y 0, y 1, eq_ix2 y⟩
  have emb : ((View.whole main_v18_0).slice (win0_8.rect t)).emb (ix2 a b) = ix2 (pos t.val a) b := by
    blk_ext [idx8 t] <;> simp only [pos] <;> have := t_lt t <;> omega
  rw [emb]
  unfold_out out0_8
  frame_out
  refine (q_at (iblk m c 0 t) (iblk m c 3 t) (iblk m c 5 t) (iblk m c 6 t) (iblk m c 7 t) a b).trans ?_
  exact congrArg (fun z : EReal => z * scale) (spin_head (fun a d => Cos m c (ix2 a d)) (fun a d => Sin m c (ix2 a d)) (pos t.val a)
    ⟨b.val % 128, by omega⟩ (x' := fun d => P m c (ix2 (pos t.val a) ⟨b.val / 128 * 128 + d.val, by omega⟩)) (g' := fun d => GQ m c (ix2 0 d))
    (fun d => blk0 m c t a _) (blk3 m c t) (blk5 m c t a) (blk6 m c t a) (blk7 m c t a))

theorem arr9 (c : Dev nD) : (dats m 0 c).arrAt 9 cfg0.N = fun y => K (P m c) (GK m c) (Cos m c) (Sin m c) (y 0) (y 1) := by
  refine (dats m 0 c).arrAt_eq_of_covers 9 _ (by decide +kernel) fun t hf y => ?_
  blk_simp
  rw [after0_9]
  obtain ⟨a, b, rfl⟩ : ∃ (a : Fin 256) (b : Fin 256), y = ix2 a b := ⟨y 0, y 1, eq_ix2 y⟩
  have emb : ((View.whole main_v18_1).slice (win0_9.rect t)).emb (ix2 a b) = ix2 (pos t.val a) b := by
    blk_ext [idx9 t] <;> simp only [pos] <;> have := t_lt t <;> omega
  rw [emb]
  unfold_out out0_9
  frame_out
  refine (k_at (iblk m c 1 t) (iblk m c 4 t) (iblk m c 5 t) (iblk m c 6 t) (iblk m c 7 t) a b).trans ?_
  exact spin_head (fun a d => Cos m c (ix2 a d)) (fun a d => Sin m c (ix2 a d)) (pos t.val a)
    ⟨b.val % 128, by omega⟩ (x' := fun d => P m c (ix2 (pos t.val a) ⟨512 + (b.val / 128 * 128 + d.val), by omega⟩)) (g' := fun d => GK m c (ix2 0 d))
    (fun d => blk1 m c t a _) (blk4 m c t) (blk5 m c t a) (blk6 m c t a) (blk7 m c t a)

theorem arr10 (c : Dev nD) : (dats m 0 c).arrAt 10 cfg0.N = fun y => U (P m c) (y 0) (y 1) := by
  refine (dats m 0 c).arrAt_eq_of_covers 10 _ (by decide +kernel) fun t hf y => ?_
  blk_simp
  rw [after0_10]
  obtain ⟨a, b, rfl⟩ : ∃ (a : Fin 256) (b : Fin 256), y = ix2 a b := ⟨y 0, y 1, eq_ix2 y⟩
  have emb : ((View.whole main_v18_2).slice (win0_10.rect t)).emb (ix2 a b) = ix2 (pos t.val a) b := by
    blk_ext [idx10 t] <;> simp only [pos] <;> have := t_lt t <;> omega
  rw [emb]
  unfold out0_10
  frame_out
  exact blk2 m c t a b

theorem frame : Cert.quiescent_PrepFwd := fun m ρ _ => Cert.PrepFwd.Gen.frame m ρ

theorem frame_ideal : Cert.quiescent_PrepFwdIdeal := fun m ρ _ => Cert.PrepFwdIdeal.Gen.frame m ρ

theorem frame_ref : Cert.quiescent_PrepFwdRefIdeal := fun m ρ _ =>
  (θ_run Cert.PrepFwdRefIdeal.defs _ _).mono
    (fun r h => ⟨fun c => (h c).2.2.2, sem_eq_zero_of_no_sems (by decide) r.2⟩) (Cert.PrepFwdRefIdeal.Value.run m ρ)

open Cert.PrepFwdRefIdeal.Read

theorem algebraic : Cert.algebraic_PrepFwdIdeal_PrepFwdRefIdeal := fun m ρ m' ρ' _ hargs =>
  ⟨fun c y => Q (P m c) (GQ m c) (Cos m c) (Sin m c) (y 0) (y 1), fun c y => K (P m c) (GK m c) (Cos m c) (Sin m c) (y 0) (y 1),
    fun c y => U (P m c) (y 0) (y 1),
    (θ_run Cert.PrepFwdIdeal.defs _ _).mono
      (fun r h c => ⟨(h c).1.trans (arr8 m c), (h c).2.1.trans (arr9 m c), (h c).2.2.1.trans (arr10 m c), (h c).2.2.2⟩)
      (Cert.PrepFwdIdeal.Value.run_blocks m ρ),
    (θ_run Cert.PrepFwdRefIdeal.defs _ _).mono
      (fun r h c => by
        obtain ⟨e0, e1, e2, e3, e4⟩ := hargs c
        refine ⟨((h c).1.trans (val_main_v83_eq _ _)).trans ?_, ((h c).2.1.trans (val_main_v85_eq _ _)).trans ?_,
          (h c).2.2.1.trans ?_, (h c).2.2.2⟩
        · rw [e0, e1, e3, e4]
          exact ref_q _ _ _ _
        · rw [e0, e2, e3, e4]
          exact ref_k _ _ _ _
        · rw [e0]
          exact ref_v _)
      (Cert.PrepFwdRefIdeal.Value.run m' ρ')⟩

end Cert.PrepFwdClaims

end
-- ==== Proof.GlaSum.lean ====
/-
  The sum of the two directions' gradients.
-/
module

public import proofs.«01_k».proof.Defs
public import proofs.«01_k».proof.Proof.Gen.GlaSum.Frame
public import proofs.«01_k».proof.Proof.Gen.GlaSumIdeal.Value
public import proofs.«01_k».proof.Proof.Gen.GlaSumRefIdeal.Run
public import proofs.«01_k».proof.Proof.Gen.GlaSumRefIdeal.Read
public import Idealize.ShloMosaic.Lib.Pipeline.ValueKit
public import Idealize.ShloMosaic.Lib.Quiescent

@[expose] public section

noncomputable section

namespace Cert.GlaSumClaims

open Cert.GlaSumIdeal Cert.GlaSumIdeal.Gen Idealize.ShloMosaic Idealize.ShloMosaic.TcCoe Idealize.SL.Sem

variable (m : (ℓ : Loc nD τ sig) → Buf (Elt Ideal) ℓ)

abbrev A (c : Dev nD) : S2304x1152.Idx → EReal := m ((c : Thread nD τ).loc main_arg0)
abbrev B (c : Dev nD) : S2304x1152.Idx → EReal := m ((c : Thread nD τ).loc main_arg1)

theorem arr2 (c : Dev nD) : (dats m 0 c).arrAt 2 cfg0.N = fun y => A m c y + B m c y := by
  refine (dats m 0 c).arrAt_eq_of_covers 2 _ (by decide +kernel) fun t hf y => ?_
  blk_simp
  rw [after0_2]
  unfold out0_2
  obtain ⟨a, b, rfl⟩ : ∃ (a : Fin 256) (b : Fin 1152), y = ix2 a b := ⟨y 0, y 1, eq_ix2 y⟩
  frame_out
  rfl

theorem frame : Cert.quiescent_GlaSum := fun m ρ _ => Cert.GlaSum.Gen.frame m ρ

theorem frame_ideal : Cert.quiescent_GlaSumIdeal := fun m ρ _ => Cert.GlaSumIdeal.Gen.frame m ρ

theorem frame_ref : Cert.quiescent_GlaSumRefIdeal := fun m ρ _ =>
  (θ_run Cert.GlaSumRefIdeal.defs _ _).mono
    (fun r h => ⟨fun c => (h c).2, sem_eq_zero_of_no_sems (by decide) r.2⟩) (Cert.GlaSumRefIdeal.Value.run m ρ)

theorem algebraic : Cert.algebraic_GlaSumIdeal_GlaSumRefIdeal := fun m ρ m' ρ' _ hargs =>
  ⟨fun c y => A m c y + B m c y,
    (θ_run Cert.GlaSumIdeal.defs _ _).mono
      (fun r h c => ⟨(h c).1.trans (arr2 m c), (h c).2⟩) (Cert.GlaSumIdeal.Value.run_blocks m ρ),
    (θ_run Cert.GlaSumRefIdeal.defs _ _).mono
      (fun r h c => by
        obtain ⟨e0, e1⟩ := hargs c
        refine ⟨(h c).1.trans ?_, (h c).2⟩
        rw [e0, e1]
        rfl)
      (Cert.GlaSumRefIdeal.Value.run m' ρ')⟩

end Cert.GlaSumClaims

end
-- ==== Proof.lean ====
/-
  The certificate: the witnesses of the programs' side conditions, then the claims in order.
-/
module

public import proofs.«01_k».proof.Defs
public import proofs.«01_k».proof.Proof.AttnBwd
public import proofs.«01_k».proof.Proof.Du
public import proofs.«01_k».proof.Proof.DwpM
public import proofs.«01_k».proof.Proof.DwpA
public import proofs.«01_k».proof.Proof.DwpC
public import proofs.«01_k».proof.Proof.DwpG
public import proofs.«01_k».proof.Proof.Dwbr
public import proofs.«01_k».proof.Proof.Dwout
public import proofs.«01_k».proof.Proof.ProjM
public import proofs.«01_k».proof.Proof.ProjA
public import proofs.«01_k».proof.Proof.ProjC
public import proofs.«01_k».proof.Proof.ProjG
public import proofs.«01_k».proof.Proof.AttnFwd
public import proofs.«01_k».proof.Proof.LnFwd
public import proofs.«01_k».proof.Proof.LnBwd
public import proofs.«01_k».proof.Proof.MergeFwd
public import proofs.«01_k».proof.Proof.ModFwd
public import proofs.«01_k».proof.Proof.ModBwd
public import proofs.«01_k».proof.Proof.Loss
public import proofs.«01_k».proof.Proof.AdamOut
public import proofs.«01_k».proof.Proof.AdamIn
public import proofs.«01_k».proof.Proof.AdamMod
public import proofs.«01_k».proof.Proof.AdamBr
public import proofs.«01_k».proof.Proof.AdamSmall
public import proofs.«01_k».proof.Proof.PrepFwd
public import proofs.«01_k».proof.Proof.GlaSum
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, Cert.Du.Gen.facts,
    Cert.DuIdeal.Gen.facts, Cert.DuRefIdeal.Gen.facts, Cert.DwpM.Gen.facts, Cert.DwpMIdeal.Gen.facts,
    Cert.DwpMRefIdeal.Gen.facts, Cert.DwpA.Gen.facts, Cert.DwpAIdeal.Gen.facts, Cert.DwpARefIdeal.Gen.facts,
    Cert.DwpC.Gen.facts, Cert.DwpCIdeal.Gen.facts, Cert.DwpCRefIdeal.Gen.facts, Cert.DwpG.Gen.facts,
    Cert.DwpGIdeal.Gen.facts, Cert.DwpGRefIdeal.Gen.facts, Cert.Dwbr.Gen.facts, Cert.DwbrIdeal.Gen.facts,
    Cert.DwbrRefIdeal.Gen.facts, Cert.Dwout.Gen.facts, Cert.DwoutIdeal.Gen.facts, Cert.DwoutRefIdeal.Gen.facts,
    Cert.ProjM.Gen.facts, Cert.ProjMIdeal.Gen.facts, Cert.ProjMRefIdeal.Gen.facts, Cert.ProjA.Gen.facts,
    Cert.ProjAIdeal.Gen.facts, Cert.ProjARefIdeal.Gen.facts, Cert.ProjC.Gen.facts, Cert.ProjCIdeal.Gen.facts,
    Cert.ProjCRefIdeal.Gen.facts, Cert.ProjG.Gen.facts, Cert.ProjGIdeal.Gen.facts, Cert.ProjGRefIdeal.Gen.facts,
    Cert.AttnFwd.Gen.facts, Cert.AttnFwdIdeal.Gen.facts, Cert.AttnFwdRefIdeal.Gen.facts, Cert.LnFwd.Gen.facts,
    Cert.LnFwdIdeal.Gen.facts, Cert.LnFwdRefIdeal.Gen.facts, Cert.LnBwd.Gen.facts, Cert.LnBwdIdeal.Gen.facts,
    Cert.LnBwdRefIdeal.Gen.facts, Cert.MergeFwd.Gen.facts, Cert.MergeFwdIdeal.Gen.facts,
    Cert.MergeFwdRefIdeal.Gen.facts, Cert.ModFwd.Gen.facts, Cert.ModFwdIdeal.Gen.facts,
    Cert.ModFwdRefIdeal.Gen.facts, Cert.ModBwd.Gen.facts, Cert.ModBwdIdeal.Gen.facts, Cert.ModBwdRefIdeal.Gen.facts,
    Cert.Loss.Gen.facts, Cert.LossIdeal.Gen.facts, Cert.LossRefIdeal.Gen.facts, Cert.AdamOut.Gen.facts,
    Cert.AdamOutIdeal.Gen.facts, Cert.AdamOutRefIdeal.Gen.facts, Cert.AdamIn.Gen.facts, Cert.AdamInIdeal.Gen.facts,
    Cert.AdamInRefIdeal.Gen.facts, Cert.AdamMod.Gen.facts, Cert.AdamModIdeal.Gen.facts,
    Cert.AdamModRefIdeal.Gen.facts, Cert.AdamBr.Gen.facts, Cert.AdamBrIdeal.Gen.facts, Cert.AdamBrRefIdeal.Gen.facts,
    Cert.AdamSmall.Gen.facts, Cert.AdamSmallIdeal.Gen.facts, Cert.AdamSmallRefIdeal.Gen.facts,
    Cert.PrepFwd.Gen.facts, Cert.PrepFwdIdeal.Gen.facts, Cert.PrepFwdRefIdeal.Gen.facts, Cert.GlaSum.Gen.facts,
    Cert.GlaSumIdeal.Gen.facts, Cert.GlaSumRefIdeal.Gen.facts, Cert.Pre_finite_qk.facts,
    Cert.Pre_finite_qk_fwd.facts, Cert.Pre_finite_ln.facts, Cert.Pre_finite_mod.facts, AttnBwd.frame,
    AttnBwd.frame_ideal, AttnBwd.frame_ideal_pre, AttnBwd.frame_ref, AttnBwd.frame_ref_pre, Cert.DuClaims.frame,
    Cert.DuClaims.frame_ideal, Cert.DuClaims.frame_ref, Cert.DwpMClaims.frame, Cert.DwpMClaims.frame_ideal,
    Cert.DwpMClaims.frame_ref, Cert.DwpAClaims.frame, Cert.DwpAClaims.frame_ideal, Cert.DwpAClaims.frame_ref,
    Cert.DwpCClaims.frame, Cert.DwpCClaims.frame_ideal, Cert.DwpCClaims.frame_ref, Cert.DwpGClaims.frame,
    Cert.DwpGClaims.frame_ideal, Cert.DwpGClaims.frame_ref, Cert.DwbrClaims.frame, Cert.DwbrClaims.frame_ideal,
    Cert.DwbrClaims.frame_ref, Cert.DwoutClaims.frame, Cert.DwoutClaims.frame_ideal, Cert.DwoutClaims.frame_ref,
    Cert.ProjMClaims.frame, Cert.ProjMClaims.frame_ideal, Cert.ProjMClaims.frame_ref, Cert.ProjAClaims.frame,
    Cert.ProjAClaims.frame_ideal, Cert.ProjAClaims.frame_ref, Cert.ProjCClaims.frame, Cert.ProjCClaims.frame_ideal,
    Cert.ProjCClaims.frame_ref, Cert.ProjGClaims.frame, Cert.ProjGClaims.frame_ideal, Cert.ProjGClaims.frame_ref,
    Cert.AttnFwdClaims.frame, Cert.AttnFwdClaims.frame_ideal, Cert.AttnFwdClaims.frame_ideal_pre,
    Cert.AttnFwdClaims.frame_ref, Cert.AttnFwdClaims.frame_ref_pre, Cert.LnFwdClaims.frame,
    Cert.LnFwdClaims.frame_ideal, Cert.LnFwdClaims.frame_ref, Cert.LnBwdClaims.frame, Cert.LnBwdClaims.frame_ideal,
    Cert.LnBwdClaims.frame_ideal_pre, Cert.LnBwdClaims.frame_ref, Cert.LnBwdClaims.frame_ref_pre,
    Cert.MergeFwdClaims.frame, Cert.MergeFwdClaims.frame_ideal, Cert.MergeFwdClaims.frame_ref,
    Cert.ModFwdClaims.frame, Cert.ModFwdClaims.frame_ideal, Cert.ModFwdClaims.frame_ref, Cert.ModBwdClaims.frame,
    Cert.ModBwdClaims.frame_ideal, Cert.ModBwdClaims.frame_ideal_pre, Cert.ModBwdClaims.frame_ref,
    Cert.ModBwdClaims.frame_ref_pre, Cert.LossClaims.frame, Cert.LossClaims.frame_ideal, Cert.LossClaims.frame_ref,
    Cert.AdamOutClaims.frame, Cert.AdamOutClaims.frame_ideal, Cert.AdamOutClaims.frame_ref, Cert.AdamInClaims.frame,
    Cert.AdamInClaims.frame_ideal, Cert.AdamInClaims.frame_ref, Cert.AdamModClaims.frame,
    Cert.AdamModClaims.frame_ideal, Cert.AdamModClaims.frame_ref, Cert.AdamBrClaims.frame,
    Cert.AdamBrClaims.frame_ideal, Cert.AdamBrClaims.frame_ref, Cert.AdamSmallClaims.frame,
    Cert.AdamSmallClaims.frame_ideal, Cert.AdamSmallClaims.frame_ref, Cert.PrepFwdClaims.frame,
    Cert.PrepFwdClaims.frame_ideal, Cert.PrepFwdClaims.frame_ref, Cert.GlaSumClaims.frame,
    Cert.GlaSumClaims.frame_ideal, Cert.GlaSumClaims.frame_ref, AttnBwd.preserves, AttnBwd.algebraic, trivial,
    Cert.DuClaims.algebraic, trivial, Cert.DwpMClaims.algebraic, trivial, Cert.DwpAClaims.algebraic, trivial,
    Cert.DwpCClaims.algebraic, trivial, Cert.DwpGClaims.algebraic, trivial, Cert.DwbrClaims.algebraic, trivial,
    Cert.DwoutClaims.algebraic, trivial, Cert.ProjMClaims.algebraic, trivial, Cert.ProjAClaims.algebraic, trivial,
    Cert.ProjCClaims.algebraic, trivial, Cert.ProjGClaims.algebraic, Cert.AttnFwdClaims.preserves,
    Cert.AttnFwdClaims.algebraic, trivial, Cert.LnFwdClaims.algebraic, trivial, Cert.LnBwdClaims.algebraic, trivial,
    Cert.MergeFwdClaims.algebraic, trivial, Cert.ModFwdClaims.algebraic, trivial, Cert.ModBwdClaims.algebraic,
    trivial, Cert.LossClaims.algebraic, trivial, Cert.AdamOutClaims.algebraic, trivial, Cert.AdamInClaims.algebraic,
    trivial, Cert.AdamModClaims.algebraic, trivial, Cert.AdamBrClaims.algebraic, trivial,
    Cert.AdamSmallClaims.algebraic, trivial, Cert.PrepFwdClaims.algebraic, trivial, Cert.GlaSumClaims.algebraic⟩

end Cert.Proof

end
